-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashReferenceIdeal (m : (ℓ : Loc Cert.FlashReferenceIdeal.nD Cert.FlashReferenceIdeal.τ Cert.FlashReferenceIdeal.sig) → Buf (Elt Ideal) ℓ) : Prop :=
  True

def Pre_DsaIn (m : (ℓ : Loc Cert.DsaIn.nD Cert.DsaIn.τ Cert.DsaIn.sig) → Buf (Elt Bits) ℓ) : Prop :=
  True

def Pre_DsaInIdeal (m : (ℓ : Loc Cert.DsaInIdeal.nD Cert.DsaInIdeal.τ Cert.DsaInIdeal.sig) → Buf (Elt Ideal) ℓ) : Prop :=
  True

def Pre_DsaInReferenceIdeal (m : (ℓ : Loc Cert.DsaInReferenceIdeal.nD Cert.DsaInReferenceIdeal.τ Cert.DsaInReferenceIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInReferenceIdeal (m : (ℓ : Loc Cert.MlaInReferenceIdeal.nD Cert.MlaInReferenceIdeal.τ Cert.MlaInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2)
      ∧ r.2.mem ((c.tc : Thread Cert.GdnOutReferenceIdeal.nD Cert.GdnOutReferenceIdeal.τ).loc Cert.GdnOutReferenceIdeal.main_arg3) = m ((c.tc : Thread Cert.GdnOutReferenceIdeal.nD Cert.GdnOutReferenceIdeal.τ).loc Cert.GdnOutReferenceIdeal.main_arg3)
      ∧ r.2.mem ((c.tc : Thread Cert.GdnOutReferenceIdeal.nD Cert.GdnOutReferenceIdeal.τ).loc Cert.GdnOutReferenceIdeal.main_arg4) = m ((c.tc : Thread Cert.GdnOutReferenceIdeal.nD Cert.GdnOutReferenceIdeal.τ).loc Cert.GdnOutReferenceIdeal.main_arg4))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1))
      ∧ r.2.sem = fun _ => 0)

def quiescent_FlashReferenceIdeal [hFlashReferenceIdeal : Cert.FlashReferenceIdeal.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1))
      ∧ r.2.sem = fun _ => 0)

def quiescent_DsaIn [hDsaIn : Cert.DsaIn.Facts] : Prop :=
  ∀ (m : (ℓ : Loc Cert.DsaIn.nD Cert.DsaIn.τ Cert.DsaIn.sig) → Buf (Elt Bits) ℓ) (g : Dev Cert.DsaIn.nD → PrngReg), Pre_DsaIn m →
    θ_run (Cert.DsaIn.defs (F := Bits)) (onTc (τ := Cert.DsaIn.τ) (Cert.DsaIn.main (F := Bits))) ⟨m, fun _ => 0, g⟩ (fun r => (∀ c : Dev Cert.DsaIn.nD,
      r.2.mem ((c.tc : Thread Cert.DsaIn.nD Cert.DsaIn.τ).loc Cert.DsaIn.main_arg0) = m ((c.tc : Thread Cert.DsaIn.nD Cert.DsaIn.τ).loc Cert.DsaIn.main_arg0)
      ∧ r.2.mem ((c.tc : Thread Cert.DsaIn.nD Cert.DsaIn.τ).loc Cert.DsaIn.main_arg1) = m ((c.tc : Thread Cert.DsaIn.nD Cert.DsaIn.τ).loc Cert.DsaIn.main_arg1)
      ∧ r.2.mem ((c.tc : Thread Cert.DsaIn.nD Cert.DsaIn.τ).loc Cert.DsaIn.main_arg2) = m ((c.tc : Thread Cert.DsaIn.nD Cert.DsaIn.τ).loc Cert.DsaIn.main_arg2))
      ∧ r.2.sem = fun _ => 0)

def quiescent_DsaInIdeal [hDsaInIdeal : Cert.DsaInIdeal.Facts] : Prop :=
  ∀ (m : (ℓ : Loc Cert.DsaInIdeal.nD Cert.DsaInIdeal.τ Cert.DsaInIdeal.sig) → Buf (Elt Ideal) ℓ) (g : Dev Cert.DsaInIdeal.nD → PrngReg), Pre_DsaInIdeal m →
    θ_run (Cert.DsaInIdeal.defs (F := Ideal)) (onTc (τ := Cert.DsaInIdeal.τ) (Cert.DsaInIdeal.main (F := Ideal))) ⟨m, fun _ => 0, g⟩ (fun r => (∀ c : Dev Cert.DsaInIdeal.nD,
      r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
      ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
      ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2))
      ∧ r.2.sem = fun _ => 0)

def quiescent_DsaInReferenceIdeal [hDsaInReferenceIdeal : Cert.DsaInReferenceIdeal.Facts] : Prop :=
  ∀ (m : (ℓ : Loc Cert.DsaInReferenceIdeal.nD Cert.DsaInReferenceIdeal.τ Cert.DsaInReferenceIdeal.sig) → Buf (Elt Ideal) ℓ) (g : Dev Cert.DsaInReferenceIdeal.nD → PrngReg), Pre_DsaInReferenceIdeal m →
    θ_run (Cert.DsaInReferenceIdeal.defs (F := Ideal)) (onTc (τ := Cert.DsaInReferenceIdeal.τ) (Cert.DsaInReferenceIdeal.main (F := Ideal))) ⟨m, fun _ => 0, g⟩ (fun r => (∀ c : Dev Cert.DsaInReferenceIdeal.nD,
      r.2.mem ((c.tc : Thread Cert.DsaInReferenceIdeal.nD Cert.DsaInReferenceIdeal.τ).loc Cert.DsaInReferenceIdeal.main_arg0) = m ((c.tc : Thread Cert.DsaInReferenceIdeal.nD Cert.DsaInReferenceIdeal.τ).loc Cert.DsaInReferenceIdeal.main_arg0)
      ∧ r.2.mem ((c.tc : Thread Cert.DsaInReferenceIdeal.nD Cert.DsaInReferenceIdeal.τ).loc Cert.DsaInReferenceIdeal.main_arg1) = m ((c.tc : Thread Cert.DsaInReferenceIdeal.nD Cert.DsaInReferenceIdeal.τ).loc Cert.DsaInReferenceIdeal.main_arg1)
      ∧ r.2.mem ((c.tc : Thread Cert.DsaInReferenceIdeal.nD Cert.DsaInReferenceIdeal.τ).loc Cert.DsaInReferenceIdeal.main_arg2) = m ((c.tc : Thread Cert.DsaInReferenceIdeal.nD Cert.DsaInReferenceIdeal.τ).loc Cert.DsaInReferenceIdeal.main_arg2))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3)
      ∧ r.2.mem ((c.tc : Thread Cert.MlaIn.nD Cert.MlaIn.τ).loc Cert.MlaIn.main_arg4) = m ((c.tc : Thread Cert.MlaIn.nD Cert.MlaIn.τ).loc Cert.MlaIn.main_arg4))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
      ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ r.2.sem = fun _ => 0)

def quiescent_MlaInReferenceIdeal [hMlaInReferenceIdeal : Cert.MlaInReferenceIdeal.Facts] : Prop :=
  ∀ (m : (ℓ : Loc Cert.MlaInReferenceIdeal.nD Cert.MlaInReferenceIdeal.τ Cert.MlaInReferenceIdeal.sig) → Buf (Elt Ideal) ℓ) (g : Dev Cert.MlaInReferenceIdeal.nD → PrngReg), Pre_MlaInReferenceIdeal m →
    θ_run (Cert.MlaInReferenceIdeal.defs (F := Ideal)) (onTc (τ := Cert.MlaInReferenceIdeal.τ) (Cert.MlaInReferenceIdeal.main (F := Ideal))) ⟨m, fun _ => 0, g⟩ (fun r => (∀ c : Dev Cert.MlaInReferenceIdeal.nD,
      r.2.mem ((c.tc : Thread Cert.MlaInReferenceIdeal.nD Cert.MlaInReferenceIdeal.τ).loc Cert.MlaInReferenceIdeal.main_arg0) = m ((c.tc : Thread Cert.MlaInReferenceIdeal.nD Cert.MlaInReferenceIdeal.τ).loc Cert.MlaInReferenceIdeal.main_arg0)
      ∧ r.2.mem ((c.tc : Thread Cert.MlaInReferenceIdeal.nD Cert.MlaInReferenceIdeal.τ).loc Cert.MlaInReferenceIdeal.main_arg1) = m ((c.tc : Thread Cert.MlaInReferenceIdeal.nD Cert.MlaInReferenceIdeal.τ).loc Cert.MlaInReferenceIdeal.main_arg1)
      ∧ r.2.mem ((c.tc : Thread Cert.MlaInReferenceIdeal.nD Cert.MlaInReferenceIdeal.τ).loc Cert.MlaInReferenceIdeal.main_arg2) = m ((c.tc : Thread Cert.MlaInReferenceIdeal.nD Cert.MlaInReferenceIdeal.τ).loc Cert.MlaInReferenceIdeal.main_arg2)
      ∧ r.2.mem ((c.tc : Thread Cert.MlaInReferenceIdeal.nD Cert.MlaInReferenceIdeal.τ).loc Cert.MlaInReferenceIdeal.main_arg3) = m ((c.tc : Thread Cert.MlaInReferenceIdeal.nD Cert.MlaInReferenceIdeal.τ).loc Cert.MlaInReferenceIdeal.main_arg3)
      ∧ r.2.mem ((c.tc : Thread Cert.MlaInReferenceIdeal.nD Cert.MlaInReferenceIdeal.τ).loc Cert.MlaInReferenceIdeal.main_arg4) = m ((c.tc : Thread Cert.MlaInReferenceIdeal.nD Cert.MlaInReferenceIdeal.τ).loc Cert.MlaInReferenceIdeal.main_arg4))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v30) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_GdnIn_GdnInIdeal : Prop :=
  True

def algebraic_GdnInIdeal_GdnInReferenceIdeal [hGdnInIdeal : Cert.GdnInIdeal.Facts] [hGdnInReferenceIdeal : Cert.GdnInReferenceIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInIdeal m →
    (∀ c : Dev Cert.GdnInIdeal.nD,
      m' ((c.tc : Thread Cert.GdnInReferenceIdeal.nD Cert.GdnInReferenceIdeal.τ).loc Cert.GdnInReferenceIdeal.main_arg0) = m ((c.tc : Thread Cert.GdnInIdeal.nD Cert.GdnInIdeal.τ).loc Cert.GdnInIdeal.main_arg0)
      ∧ m' ((c.tc : Thread Cert.GdnInReferenceIdeal.nD Cert.GdnInReferenceIdeal.τ).loc Cert.GdnInReferenceIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v2)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v2) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v1) = v0 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v28) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)
      ∧ m' ((c.tc : Thread Cert.GdnOutReferenceIdeal.nD Cert.GdnOutReferenceIdeal.τ).loc Cert.GdnOutReferenceIdeal.main_arg2) = m ((c.tc : Thread Cert.GdnOutIdeal.nD Cert.GdnOutIdeal.τ).loc Cert.GdnOutIdeal.main_arg2)
      ∧ m' ((c.tc : Thread Cert.GdnOutReferenceIdeal.nD Cert.GdnOutReferenceIdeal.τ).loc Cert.GdnOutReferenceIdeal.main_arg3) = m ((c.tc : Thread Cert.GdnOutIdeal.nD Cert.GdnOutIdeal.τ).loc Cert.GdnOutIdeal.main_arg3)
      ∧ m' ((c.tc : Thread Cert.GdnOutReferenceIdeal.nD Cert.GdnOutReferenceIdeal.τ).loc Cert.GdnOutReferenceIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v3)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v3) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v28) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2)
          ∧ r.2.mem ((c.tc : Thread Cert.GdnOutReferenceIdeal.nD Cert.GdnOutReferenceIdeal.τ).loc Cert.GdnOutReferenceIdeal.main_arg3) = m' ((c.tc : Thread Cert.GdnOutReferenceIdeal.nD Cert.GdnOutReferenceIdeal.τ).loc Cert.GdnOutReferenceIdeal.main_arg3)
          ∧ r.2.mem ((c.tc : Thread Cert.GdnOutReferenceIdeal.nD Cert.GdnOutReferenceIdeal.τ).loc Cert.GdnOutReferenceIdeal.main_arg4) = m' ((c.tc : Thread Cert.GdnOutReferenceIdeal.nD Cert.GdnOutReferenceIdeal.τ).loc Cert.GdnOutReferenceIdeal.main_arg4))

def preserves_Flash_FlashIdeal : Prop :=
  IdealRules.named_const.Statement Cert.FlashIdeal.κ "mask" .f32 0xF149F2CA#32 ⊥

def algebraic_FlashIdeal_FlashReferenceIdeal [hFlashIdeal : Cert.FlashIdeal.Facts] [hFlashReferenceIdeal : Cert.FlashReferenceIdeal.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashReferenceIdeal.nD Cert.FlashReferenceIdeal.τ Cert.FlashReferenceIdeal.sig) → Buf (Elt Ideal) ℓ) (g' : Dev Cert.FlashReferenceIdeal.nD → PrngReg), Pre_FlashIdeal m →
    (∀ c : Dev Cert.FlashIdeal.nD,
      m' ((c.tc : Thread Cert.FlashReferenceIdeal.nD Cert.FlashReferenceIdeal.τ).loc Cert.FlashReferenceIdeal.main_arg0) = m ((c.tc : Thread Cert.FlashIdeal.nD Cert.FlashIdeal.τ).loc Cert.FlashIdeal.main_arg0)
      ∧ m' ((c.tc : Thread Cert.FlashReferenceIdeal.nD Cert.FlashReferenceIdeal.τ).loc Cert.FlashReferenceIdeal.main_arg1) = m ((c.tc : Thread Cert.FlashIdeal.nD Cert.FlashIdeal.τ).loc Cert.FlashIdeal.main_arg1)) →
    ∃ (v0 : (c : Dev Cert.FlashIdeal.nD) → Buf (Elt Ideal) ((c.tc : Thread Cert.FlashIdeal.nD Cert.FlashIdeal.τ).loc Cert.FlashIdeal.main_v9)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v9) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1))
      ∧ θ_run (Cert.FlashReferenceIdeal.defs (F := Ideal)) (onTc (τ := Cert.FlashReferenceIdeal.τ) (Cert.FlashReferenceIdeal.main (F := Ideal))) ⟨m', fun _ => 0, g'⟩ (fun r => ∀ c : Dev Cert.FlashReferenceIdeal.nD,
          r.2.mem ((c.tc : Thread Cert.FlashReferenceIdeal.nD Cert.FlashReferenceIdeal.τ).loc Cert.FlashReferenceIdeal.main_v24) = v0 c
          ∧ r.2.mem ((c.tc : Thread Cert.FlashReferenceIdeal.nD Cert.FlashReferenceIdeal.τ).loc Cert.FlashReferenceIdeal.main_arg0) = m' ((c.tc : Thread Cert.FlashReferenceIdeal.nD Cert.FlashReferenceIdeal.τ).loc Cert.FlashReferenceIdeal.main_arg0)
          ∧ r.2.mem ((c.tc : Thread Cert.FlashReferenceIdeal.nD Cert.FlashReferenceIdeal.τ).loc Cert.FlashReferenceIdeal.main_arg1) = m' ((c.tc : Thread Cert.FlashReferenceIdeal.nD Cert.FlashReferenceIdeal.τ).loc Cert.FlashReferenceIdeal.main_arg1))

def preserves_DsaIn_DsaInIdeal : Prop :=
  True

def algebraic_DsaInIdeal_DsaInReferenceIdeal [hDsaInIdeal : Cert.DsaInIdeal.Facts] [hDsaInReferenceIdeal : Cert.DsaInReferenceIdeal.Facts] : Prop :=
  ∀ (m : (ℓ : Loc Cert.DsaInIdeal.nD Cert.DsaInIdeal.τ Cert.DsaInIdeal.sig) → Buf (Elt Ideal) ℓ) (g : Dev Cert.DsaInIdeal.nD → PrngReg)
    (m' : (ℓ : Loc Cert.DsaInReferenceIdeal.nD Cert.DsaInReferenceIdeal.τ Cert.DsaInReferenceIdeal.sig) → Buf (Elt Ideal) ℓ) (g' : Dev Cert.DsaInReferenceIdeal.nD → PrngReg), Pre_DsaInIdeal m →
    (∀ c : Dev Cert.DsaInIdeal.nD,
      m' ((c.tc : Thread Cert.DsaInReferenceIdeal.nD Cert.DsaInReferenceIdeal.τ).loc Cert.DsaInReferenceIdeal.main_arg0) = m ((c.tc : Thread Cert.DsaInIdeal.nD Cert.DsaInIdeal.τ).loc Cert.DsaInIdeal.main_arg0)
      ∧ m' ((c.tc : Thread Cert.DsaInReferenceIdeal.nD Cert.DsaInReferenceIdeal.τ).loc Cert.DsaInReferenceIdeal.main_arg1) = m ((c.tc : Thread Cert.DsaInIdeal.nD Cert.DsaInIdeal.τ).loc Cert.DsaInIdeal.main_arg1)
      ∧ m' ((c.tc : Thread Cert.DsaInReferenceIdeal.nD Cert.DsaInReferenceIdeal.τ).loc Cert.DsaInReferenceIdeal.main_arg2) = m ((c.tc : Thread Cert.DsaInIdeal.nD Cert.DsaInIdeal.τ).loc Cert.DsaInIdeal.main_arg2)) →
    ∃ (v0 : (c : Dev Cert.DsaInIdeal.nD) → Buf (Elt Ideal) ((c.tc : Thread Cert.DsaInIdeal.nD Cert.DsaInIdeal.τ).loc Cert.DsaInIdeal.main_v32)),
      θ_run (Cert.DsaInIdeal.defs (F := Ideal)) (onTc (τ := Cert.DsaInIdeal.τ) (Cert.DsaInIdeal.main (F := Ideal))) ⟨m, fun _ => 0, g⟩ (fun r => ∀ c : Dev Cert.DsaInIdeal.nD,
          r.2.mem ((c.tc : Thread Cert.DsaInIdeal.nD Cert.DsaInIdeal.τ).loc Cert.DsaInIdeal.main_v32) = v0 c
          ∧ r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
          ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
          ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2))
      ∧ θ_run (Cert.DsaInReferenceIdeal.defs (F := Ideal)) (onTc (τ := Cert.DsaInReferenceIdeal.τ) (Cert.DsaInReferenceIdeal.main (F := Ideal))) ⟨m', fun _ => 0, g'⟩ (fun r => ∀ c : Dev Cert.DsaInReferenceIdeal.nD,
          r.2.mem ((c.tc : Thread Cert.DsaInReferenceIdeal.nD Cert.DsaInReferenceIdeal.τ).loc Cert.DsaInReferenceIdeal.main_v142) = v0 c
          ∧ r.2.mem ((c.tc : Thread Cert.DsaInReferenceIdeal.nD Cert.DsaInReferenceIdeal.τ).loc Cert.DsaInReferenceIdeal.main_arg0) = m' ((c.tc : Thread Cert.DsaInReferenceIdeal.nD Cert.DsaInReferenceIdeal.τ).loc Cert.DsaInReferenceIdeal.main_arg0)
          ∧ r.2.mem ((c.tc : Thread Cert.DsaInReferenceIdeal.nD Cert.DsaInReferenceIdeal.τ).loc Cert.DsaInReferenceIdeal.main_arg1) = m' ((c.tc : Thread Cert.DsaInReferenceIdeal.nD Cert.DsaInReferenceIdeal.τ).loc Cert.DsaInReferenceIdeal.main_arg1)
          ∧ r.2.mem ((c.tc : Thread Cert.DsaInReferenceIdeal.nD Cert.DsaInReferenceIdeal.τ).loc Cert.DsaInReferenceIdeal.main_arg2) = m' ((c.tc : Thread Cert.DsaInReferenceIdeal.nD Cert.DsaInReferenceIdeal.τ).loc Cert.DsaInReferenceIdeal.main_arg2))

def preserves_MlaIn_MlaInIdeal : Prop :=
  True

def algebraic_MlaInIdeal_MlaInReferenceIdeal [hMlaInIdeal : Cert.MlaInIdeal.Facts] [hMlaInReferenceIdeal : Cert.MlaInReferenceIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInReferenceIdeal.nD Cert.MlaInReferenceIdeal.τ Cert.MlaInReferenceIdeal.sig) → Buf (Elt Ideal) ℓ) (g' : Dev Cert.MlaInReferenceIdeal.nD → PrngReg), Pre_MlaInIdeal m →
    (∀ c : Dev Cert.MlaInIdeal.nD,
      m' ((c.tc : Thread Cert.MlaInReferenceIdeal.nD Cert.MlaInReferenceIdeal.τ).loc Cert.MlaInReferenceIdeal.main_arg0) = m ((c.tc : Thread Cert.MlaInIdeal.nD Cert.MlaInIdeal.τ).loc Cert.MlaInIdeal.main_arg0)
      ∧ m' ((c.tc : Thread Cert.MlaInReferenceIdeal.nD Cert.MlaInReferenceIdeal.τ).loc Cert.MlaInReferenceIdeal.main_arg1) = m ((c.tc : Thread Cert.MlaInIdeal.nD Cert.MlaInIdeal.τ).loc Cert.MlaInIdeal.main_arg1)
      ∧ m' ((c.tc : Thread Cert.MlaInReferenceIdeal.nD Cert.MlaInReferenceIdeal.τ).loc Cert.MlaInReferenceIdeal.main_arg2) = m ((c.tc : Thread Cert.MlaInIdeal.nD Cert.MlaInIdeal.τ).loc Cert.MlaInIdeal.main_arg2)
      ∧ m' ((c.tc : Thread Cert.MlaInReferenceIdeal.nD Cert.MlaInReferenceIdeal.τ).loc Cert.MlaInReferenceIdeal.main_arg3) = m ((c.tc : Thread Cert.MlaInIdeal.nD Cert.MlaInIdeal.τ).loc Cert.MlaInIdeal.main_arg3)
      ∧ m' ((c.tc : Thread Cert.MlaInReferenceIdeal.nD Cert.MlaInReferenceIdeal.τ).loc Cert.MlaInReferenceIdeal.main_arg4) = m ((c.tc : Thread Cert.MlaInIdeal.nD Cert.MlaInIdeal.τ).loc Cert.MlaInIdeal.main_arg4)) →
    ∃ (v0 : (c : Dev Cert.MlaInIdeal.nD) → Buf (Elt Ideal) ((c.tc : Thread Cert.MlaInIdeal.nD Cert.MlaInIdeal.τ).loc Cert.MlaInIdeal.main_v28_0)) (v1 : (c : Dev Cert.MlaInIdeal.nD) → Buf (Elt Ideal) ((c.tc : Thread Cert.MlaInIdeal.nD Cert.MlaInIdeal.τ).loc Cert.MlaInIdeal.main_v28_1)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v28_0) = v0 c
          ∧ r.2.mem ((c.tc : Thread Cert.MlaInIdeal.nD Cert.MlaInIdeal.τ).loc Cert.MlaInIdeal.main_v28_1) = v1 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3)
          ∧ r.2.mem ((c.tc : Thread Cert.MlaInIdeal.nD Cert.MlaInIdeal.τ).loc Cert.MlaInIdeal.main_arg4) = m ((c.tc : Thread Cert.MlaInIdeal.nD Cert.MlaInIdeal.τ).loc Cert.MlaInIdeal.main_arg4))
      ∧ θ_run (Cert.MlaInReferenceIdeal.defs (F := Ideal)) (onTc (τ := Cert.MlaInReferenceIdeal.τ) (Cert.MlaInReferenceIdeal.main (F := Ideal))) ⟨m', fun _ => 0, g'⟩ (fun r => ∀ c : Dev Cert.MlaInReferenceIdeal.nD,
          r.2.mem ((c.tc : Thread Cert.MlaInReferenceIdeal.nD Cert.MlaInReferenceIdeal.τ).loc Cert.MlaInReferenceIdeal.main_v60) = v0 c
          ∧ r.2.mem ((c.tc : Thread Cert.MlaInReferenceIdeal.nD Cert.MlaInReferenceIdeal.τ).loc Cert.MlaInReferenceIdeal.main_v61) = v1 c
          ∧ r.2.mem ((c.tc : Thread Cert.MlaInReferenceIdeal.nD Cert.MlaInReferenceIdeal.τ).loc Cert.MlaInReferenceIdeal.main_arg0) = m' ((c.tc : Thread Cert.MlaInReferenceIdeal.nD Cert.MlaInReferenceIdeal.τ).loc Cert.MlaInReferenceIdeal.main_arg0)
          ∧ r.2.mem ((c.tc : Thread Cert.MlaInReferenceIdeal.nD Cert.MlaInReferenceIdeal.τ).loc Cert.MlaInReferenceIdeal.main_arg1) = m' ((c.tc : Thread Cert.MlaInReferenceIdeal.nD Cert.MlaInReferenceIdeal.τ).loc Cert.MlaInReferenceIdeal.main_arg1)
          ∧ r.2.mem ((c.tc : Thread Cert.MlaInReferenceIdeal.nD Cert.MlaInReferenceIdeal.τ).loc Cert.MlaInReferenceIdeal.main_arg2) = m' ((c.tc : Thread Cert.MlaInReferenceIdeal.nD Cert.MlaInReferenceIdeal.τ).loc Cert.MlaInReferenceIdeal.main_arg2)
          ∧ r.2.mem ((c.tc : Thread Cert.MlaInReferenceIdeal.nD Cert.MlaInReferenceIdeal.τ).loc Cert.MlaInReferenceIdeal.main_arg3) = m' ((c.tc : Thread Cert.MlaInReferenceIdeal.nD Cert.MlaInReferenceIdeal.τ).loc Cert.MlaInReferenceIdeal.main_arg3)
          ∧ r.2.mem ((c.tc : Thread Cert.MlaInReferenceIdeal.nD Cert.MlaInReferenceIdeal.τ).loc Cert.MlaInReferenceIdeal.main_arg4) = m' ((c.tc : Thread Cert.MlaInReferenceIdeal.nD Cert.MlaInReferenceIdeal.τ).loc Cert.MlaInReferenceIdeal.main_arg4))

def Claim : Prop :=
  ∃ (hKernel : Cert.Kernel.Facts) (hReference : Cert.Reference.Facts) (hMlp : Cert.Mlp.Facts) (hMlpIdeal : Cert.MlpIdeal.Facts) (hMlpReferenceIdeal : Cert.MlpReferenceIdeal.Facts) (hGdnIn : Cert.GdnIn.Facts) (hGdnInIdeal : Cert.GdnInIdeal.Facts) (hGdnInReferenceIdeal : Cert.GdnInReferenceIdeal.Facts) (hProj : Cert.Proj.Facts) (hProjIdeal : Cert.ProjIdeal.Facts) (hProjReferenceIdeal : Cert.ProjReferenceIdeal.Facts) (hGdnOut : Cert.GdnOut.Facts) (hGdnOutIdeal : Cert.GdnOutIdeal.Facts) (hGdnOutReferenceIdeal : Cert.GdnOutReferenceIdeal.Facts) (hFlash : Cert.Flash.Facts) (hFlashIdeal : Cert.FlashIdeal.Facts) (hFlashReferenceIdeal : Cert.FlashReferenceIdeal.Facts) (hDsaIn : Cert.DsaIn.Facts) (hDsaInIdeal : Cert.DsaInIdeal.Facts) (hDsaInReferenceIdeal : Cert.DsaInReferenceIdeal.Facts) (hMlaIn : Cert.MlaIn.Facts) (hMlaInIdeal : Cert.MlaInIdeal.Facts) (hMlaInReferenceIdeal : Cert.MlaInReferenceIdeal.Facts),
    quiescent_Kernel (hKernel := hKernel)
    ∧ quiescent_Reference (hReference := hReference)
    ∧ quiescent_Mlp (hMlp := hMlp)
    ∧ quiescent_MlpIdeal (hMlpIdeal := hMlpIdeal)
    ∧ quiescent_MlpReferenceIdeal (hMlpReferenceIdeal := hMlpReferenceIdeal)
    ∧ quiescent_GdnIn (hGdnIn := hGdnIn)
    ∧ quiescent_GdnInIdeal (hGdnInIdeal := hGdnInIdeal)
    ∧ quiescent_GdnInReferenceIdeal (hGdnInReferenceIdeal := hGdnInReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_Flash (hFlash := hFlash)
    ∧ quiescent_FlashIdeal (hFlashIdeal := hFlashIdeal)
    ∧ quiescent_FlashReferenceIdeal (hFlashReferenceIdeal := hFlashReferenceIdeal)
    ∧ quiescent_DsaIn (hDsaIn := hDsaIn)
    ∧ quiescent_DsaInIdeal (hDsaInIdeal := hDsaInIdeal)
    ∧ quiescent_DsaInReferenceIdeal (hDsaInReferenceIdeal := hDsaInReferenceIdeal)
    ∧ quiescent_MlaIn (hMlaIn := hMlaIn)
    ∧ quiescent_MlaInIdeal (hMlaInIdeal := hMlaInIdeal)
    ∧ quiescent_MlaInReferenceIdeal (hMlaInReferenceIdeal := hMlaInReferenceIdeal)
    ∧ bitexact_Kernel_Reference (hKernel := hKernel) (hReference := hReference)
    ∧ preserves_Mlp_MlpIdeal
    ∧ algebraic_MlpIdeal_MlpReferenceIdeal (hMlpIdeal := hMlpIdeal) (hMlpReferenceIdeal := hMlpReferenceIdeal)
    ∧ preserves_GdnIn_GdnInIdeal
    ∧ algebraic_GdnInIdeal_GdnInReferenceIdeal (hGdnInIdeal := hGdnInIdeal) (hGdnInReferenceIdeal := hGdnInReferenceIdeal)
    ∧ preserves_Proj_ProjIdeal
    ∧ algebraic_ProjIdeal_ProjReferenceIdeal (hProjIdeal := hProjIdeal) (hProjReferenceIdeal := hProjReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_Flash_FlashIdeal
    ∧ algebraic_FlashIdeal_FlashReferenceIdeal (hFlashIdeal := hFlashIdeal) (hFlashReferenceIdeal := hFlashReferenceIdeal)
    ∧ preserves_DsaIn_DsaInIdeal
    ∧ algebraic_DsaInIdeal_DsaInReferenceIdeal (hDsaInIdeal := hDsaInIdeal) (hDsaInReferenceIdeal := hDsaInReferenceIdeal)
    ∧ preserves_MlaIn_MlaInIdeal
    ∧ algebraic_MlaInIdeal_MlaInReferenceIdeal (hMlaInIdeal := hMlaInIdeal) (hMlaInReferenceIdeal := hMlaInReferenceIdeal)
-- ==== Kernel.lean ====
abbrev S4x2048x16x128 : Shape := ⟨4, ![4, 2048, 16, 128]⟩
abbrev S4x2048x2x4x128 : Shape := ⟨5, ![4, 2048, 2, 4, 128]⟩
abbrev S4x2048x128 : Shape := ⟨3, ![4, 2048, 128]⟩
abbrev S4x2048x16 : Shape := ⟨3, ![4, 2048, 16]⟩
abbrev S8192x2048 : Shape := ⟨2, ![8192, 2048]⟩
abbrev S8192x1024 : Shape := ⟨2, ![8192, 1024]⟩
abbrev S8192x128 : Shape := ⟨2, ![8192, 128]⟩
abbrev S8192x16 : Shape := ⟨2, ![8192, 16]⟩
abbrev S_ : Shape := ⟨0, ![]⟩
abbrev S8192x5376 : Shape := ⟨2, ![8192, 5376]⟩
abbrev S128x2048 : Shape := ⟨2, ![128, 2048]⟩
abbrev S128x128 : Shape := ⟨2, ![128, 128]⟩
abbrev S2048x128 : Shape := ⟨2, ![2048, 128]⟩
abbrev S2048x1024 : Shape := ⟨2, ![2048, 1024]⟩
abbrev S512x128 : Shape := ⟨2, ![512, 128]⟩
abbrev S128x512 : Shape := ⟨2, ![128, 512]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x128x512 : Shape := ⟨3, ![1, 128, 512]⟩
abbrev S512x512 : Shape := ⟨2, ![512, 512]⟩
abbrev S4x128x512 : Shape := ⟨3, ![4, 128, 512]⟩
abbrev S512 : Shape := ⟨1, ![512]⟩
abbrev S512x1 : Shape := ⟨2, ![512, 1]⟩
abbrev S1024x128 : Shape := ⟨2, ![1024, 128]⟩
abbrev S128x1024 : Shape := ⟨2, ![128, 1024]⟩
abbrev S1x128x1024 : Shape := ⟨3, ![1, 128, 1024]⟩
abbrev S512x1024 : Shape := ⟨2, ![512, 1024]⟩
abbrev S4x128x1024 : Shape := ⟨3, ![4, 128, 1024]⟩
abbrev S1536x128 : Shape := ⟨2, ![1536, 128]⟩
abbrev S128x1536 : Shape := ⟨2, ![128, 1536]⟩
abbrev S1x128x1536 : Shape := ⟨3, ![1, 128, 1536]⟩
abbrev S512x1536 : Shape := ⟨2, ![512, 1536]⟩
abbrev S4x128x1536 : Shape := ⟨3, ![4, 128, 1536]⟩
abbrev S1x128x2048 : Shape := ⟨3, ![1, 128, 2048]⟩
abbrev S512x2048 : Shape := ⟨2, ![512, 2048]⟩
abbrev S4x128x2048 : Shape := ⟨3, ![4, 128, 2048]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x2x4x128, .f32⟩
  | .hbm, ⟨2, _⟩ => ⟨S4x2048x16x128, .f32⟩
  | .hbm, ⟨3, _⟩ => ⟨S4x2048x128, .f32⟩
  | .hbm, ⟨4, _⟩ => ⟨S4x2048x16, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x128, .f32⟩
  | .hbm, ⟨9, _⟩ => ⟨S8192x16, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x5376, .f32⟩
  | .hbm, ⟨14, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x1024, .f32⟩
  | .local _ .vmem, ⟨9, _⟩ => ⟨S2048x1024, .f32⟩
  | .local _ .vmem, ⟨10, _⟩ => ⟨S128x2048, .bf16⟩
  | .local _ .vmem, ⟨11, _⟩ => ⟨S128x2048, .bf16⟩
  | .local _ .vmem, ⟨12, _⟩ => ⟨S2048x128, .bf16⟩
  | .local _ .vmem, ⟨13, _⟩ => ⟨S2048x1024, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![4, 16], ![false, false]⟩

def k0_cond2 (i : grid0.Coords) : BitVec 1 :=
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c0_i32_6 : BitVec 32 := 0#32
  let v21 : BitVec 1 := Scalar.cmpi .eq v20 c0_i32_6
  let v22 : BitVec 32 := Scalar.extui v21
  let c0_i32_7 : BitVec 32 := 0#32
  let v23 : BitVec 1 := Scalar.cmpi .ne v22 c0_i32_7
  v23

@[reducible] def k0_t1_loop : Scf.Loop 32 :=
  let c0_i32_72 : BitVec 32 := 0#32
  let c31_i32_73 : BitVec 32 := 31#32
  let v223 : BitVec 32 := Scalar.addi c0_i32_72 c31_i32_73
  let c1_i32_74 : BitVec 32 := 1#32
  ⟨c0_i32_72, v223, c1_i32_74⟩
@[reducible] def k0_t2_loop : Scf.Loop 32 :=
  let c0_i32_189 : BitVec 32 := 0#32
  let c11_i32 : BitVec 32 := 11#32
  let v428 : BitVec 32 := Scalar.addi c0_i32_189 c11_i32
  let c1_i32_190 : BitVec 32 := 1#32
  ⟨c0_i32_189, v428, c1_i32_190⟩
def k0_cond4 (i : grid0.Coords) : BitVec 1 :=
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_8 : BitVec 32 := 1#32
  let v24 : BitVec 1 := Scalar.cmpi .eq v20 c1_i32_8
  let v25 : BitVec 32 := Scalar.extui v24
  let c0_i32_9 : BitVec 32 := 0#32
  let v26 : BitVec 1 := Scalar.cmpi .ne v25 c0_i32_9
  v26

@[reducible] def k0_t3_loop : Scf.Loop 32 :=
  let c0_i32_72 : BitVec 32 := 0#32
  let c31_i32_73 : BitVec 32 := 31#32
  let v223 : BitVec 32 := Scalar.addi c0_i32_72 c31_i32_73
  let c1_i32_74 : BitVec 32 := 1#32
  ⟨c0_i32_72, v223, c1_i32_74⟩
@[reducible] def k0_t4_loop : Scf.Loop 32 :=
  let c0_i32_189 : BitVec 32 := 0#32
  let c11_i32 : BitVec 32 := 11#32
  let v428 : BitVec 32 := Scalar.addi c0_i32_189 c11_i32
  let c1_i32_190 : BitVec 32 := 1#32
  ⟨c0_i32_189, v428, c1_i32_190⟩
def k0_cond6 (i : grid0.Coords) : BitVec 1 :=
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c2_i32 : BitVec 32 := 2#32
  let v27 : BitVec 1 := Scalar.cmpi .eq v20 c2_i32
  let v28 : BitVec 32 := Scalar.extui v27
  let c0_i32_10 : BitVec 32 := 0#32
  let v29 : BitVec 1 := Scalar.cmpi .ne v28 c0_i32_10
  v29

@[reducible] def k0_t5_loop : Scf.Loop 32 :=
  let c0_i32_72 : BitVec 32 := 0#32
  let c31_i32_73 : BitVec 32 := 31#32
  let v223 : BitVec 32 := Scalar.addi c0_i32_72 c31_i32_73
  let c1_i32_74 : BitVec 32 := 1#32
  ⟨c0_i32_72, v223, c1_i32_74⟩
@[reducible] def k0_t6_loop : Scf.Loop 32 :=
  let c0_i32_189 : BitVec 32 := 0#32
  let c11_i32 : BitVec 32 := 11#32
  let v428 : BitVec 32 := Scalar.addi c0_i32_189 c11_i32
  let c1_i32_190 : BitVec 32 := 1#32
  ⟨c0_i32_189, v428, c1_i32_190⟩
def k0_cond8 (i : grid0.Coords) : BitVec 1 :=
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c3_i32 : BitVec 32 := 3#32
  let v30 : BitVec 1 := Scalar.cmpi .eq v20 c3_i32
  let v31 : BitVec 32 := Scalar.extui v30
  let c0_i32_11 : BitVec 32 := 0#32
  let v32 : BitVec 1 := Scalar.cmpi .ne v31 c0_i32_11
  v32

@[reducible] def k0_t7_loop : Scf.Loop 32 :=
  let c0_i32_72 : BitVec 32 := 0#32
  let c31_i32_73 : BitVec 32 := 31#32
  let v223 : BitVec 32 := Scalar.addi c0_i32_72 c31_i32_73
  let c1_i32_74 : BitVec 32 := 1#32
  ⟨c0_i32_72, v223, c1_i32_74⟩
@[reducible] def k0_t8_loop : Scf.Loop 32 :=
  let c0_i32_189 : BitVec 32 := 0#32
  let c11_i32 : BitVec 32 := 11#32
  let v428 : BitVec 32 := Scalar.addi c0_i32_189 c11_i32
  let c1_i32_190 : BitVec 32 := 1#32
  ⟨c0_i32_189, v428, c1_i32_190⟩
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c41_i32 : BitVec 32 := 41#32
  let c0_i32 : BitVec 32 := 0#32
  ![v1.toNat, c41_i32.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, c40_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference.lean ====
abbrev S4x2048x16x128 : Shape := ⟨4, ![4, 2048, 16, 128]⟩
abbrev S4x2048x2x4x128 : Shape := ⟨5, ![4, 2048, 2, 4, 128]⟩
abbrev S4x2048x128 : Shape := ⟨3, ![4, 2048, 128]⟩
abbrev S4x2048x16 : Shape := ⟨3, ![4, 2048, 16]⟩
abbrev S8192x2048 : Shape := ⟨2, ![8192, 2048]⟩
abbrev S8192x1024 : Shape := ⟨2, ![8192, 1024]⟩
abbrev S8192x128 : Shape := ⟨2, ![8192, 128]⟩
abbrev S8192x16 : Shape := ⟨2, ![8192, 16]⟩
abbrev S128x2048 : Shape := ⟨2, ![128, 2048]⟩
abbrev S128x16 : Shape := ⟨2, ![128, 16]⟩
abbrev S512x128 : Shape := ⟨2, ![512, 128]⟩
abbrev S128x512 : Shape := ⟨2, ![128, 512]⟩
abbrev S128x128 : Shape := ⟨2, ![128, 128]⟩
abbrev S128x1 : Shape := ⟨2, ![128, 1]⟩
abbrev S1x512x512 : Shape := ⟨3, ![1, 512, 512]⟩
abbrev S128x1x512 : Shape := ⟨3, ![128, 1, 512]⟩
abbrev S128x512x1 : Shape := ⟨3, ![128, 512, 1]⟩
abbrev S128x512x512 : Shape := ⟨3, ![128, 512, 512]⟩
abbrev S512x1024 : Shape := ⟨2, ![512, 1024]⟩
abbrev S512x512 : Shape := ⟨2, ![512, 512]⟩
abbrev S4x128x512 : Shape := ⟨3, ![4, 128, 512]⟩
abbrev S1x128x512 : Shape := ⟨3, ![1, 128, 512]⟩
abbrev S512 : Shape := ⟨1, ![512]⟩
abbrev S512x1 : Shape := ⟨2, ![512, 1]⟩
abbrev S1024x128 : Shape := ⟨2, ![1024, 128]⟩
abbrev S128x1024 : Shape := ⟨2, ![128, 1024]⟩
abbrev S1x1024x1024 : Shape := ⟨3, ![1, 1024, 1024]⟩
abbrev S128x1x1024 : Shape := ⟨3, ![128, 1, 1024]⟩
abbrev S128x1024x1 : Shape := ⟨3, ![128, 1024, 1]⟩
abbrev S128x1024x1024 : Shape := ⟨3, ![128, 1024, 1024]⟩
abbrev S1024x1024 : Shape := ⟨2, ![1024, 1024]⟩
abbrev S4x128x1024 : Shape := ⟨3, ![4, 128, 1024]⟩
abbrev S1x128x1024 : Shape := ⟨3, ![1, 128, 1024]⟩
abbrev S1536x128 : Shape := ⟨2, ![1536, 128]⟩
abbrev S128x1536 : Shape := ⟨2, ![128, 1536]⟩
abbrev S1x1536x1536 : Shape := ⟨3, ![1, 1536, 1536]⟩
abbrev S128x1x1536 : Shape := ⟨3, ![128, 1, 1536]⟩
abbrev S128x1536x1 : Shape := ⟨3, ![128, 1536, 1]⟩
abbrev S128x1536x1536 : Shape := ⟨3, ![128, 1536, 1536]⟩
abbrev S1536x1024 : Shape := ⟨2, ![1536, 1024]⟩
abbrev S512x1536 : Shape := ⟨2, ![512, 1536]⟩
abbrev S4x128x1536 : Shape := ⟨3, ![4, 128, 1536]⟩
abbrev S1x128x1536 : Shape := ⟨3, ![1, 128, 1536]⟩
abbrev S2048x128 : Shape := ⟨2, ![2048, 128]⟩
abbrev S1x2048x2048 : Shape := ⟨3, ![1, 2048, 2048]⟩
abbrev S128x1x2048 : Shape := ⟨3, ![128, 1, 2048]⟩
abbrev S128x2048x1 : Shape := ⟨3, ![128, 2048, 1]⟩
abbrev S128x2048x2048 : Shape := ⟨3, ![128, 2048, 2048]⟩
abbrev S2048x1024 : Shape := ⟨2, ![2048, 1024]⟩
abbrev S512x2048 : Shape := ⟨2, ![512, 2048]⟩
abbrev S4x128x2048 : Shape := ⟨3, ![4, 128, 2048]⟩
abbrev S1x128x2048 : Shape := ⟨3, ![1, 128, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x2x4x128, .f32⟩
  | .hbm, ⟨2, _⟩ => ⟨S4x2048x16x128, .f32⟩
  | .hbm, ⟨3, _⟩ => ⟨S4x2048x128, .f32⟩
  | .hbm, ⟨4, _⟩ => ⟨S4x2048x16, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x128, .f32⟩
  | .hbm, ⟨9, _⟩ => ⟨S8192x16, .f32⟩
  | .hbm, ⟨10, _⟩ => ⟨S8192x2048, .bf16⟩
  | .local _ .vmem, ⟨0, _⟩ => ⟨S8192x2048, .f32⟩
  | .local _ .vmem, ⟨1, _⟩ => ⟨S8192x1024, .f32⟩
  | .local _ .vmem, ⟨2, _⟩ => ⟨S8192x2048, .f32⟩
  | .local _ .vmem, ⟨3, _⟩ => ⟨S8192x128, .f32⟩
  | .local _ .vmem, ⟨4, _⟩ => ⟨S8192x16, .f32⟩
  | .local _ .vmem, ⟨5, _⟩ => ⟨S8192x2048, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c0_i32_26 : BitVec 32 := 0#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c0_i32_26 v32
  let c128_i32 : BitVec 32 := 128#32
  let v35 : BitVec 32 := Scalar.muli v33 c128_i32
  let v36 : BitVec 32 := Scalar.addi v34 v35
  v36
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  v38
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c0_i32_26 : BitVec 32 := 0#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c0_i32_26 v32
  let c128_i32 : BitVec 32 := 128#32
  let v35 : BitVec 32 := Scalar.muli v33 c128_i32
  let v36 : BitVec 32 := Scalar.addi v34 v35
  let v37 : BitVec 32 := v36
  let v40 : Index := Scalar.indexCast v37
  let c0_28 : Index := 0#32
  ![v40.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c0_i32_26 : BitVec 32 := 0#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c0_i32_26 v32
  let c128_i32 : BitVec 32 := 128#32
  let v35 : BitVec 32 := Scalar.muli v33 c128_i32
  let v36 : BitVec 32 := Scalar.addi v34 v35
  let v37 : BitVec 32 := v36
  let v44 : Index := Scalar.indexCast v37
  let c0_29 : Index := 0#32
  ![v44.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  let v39 : BitVec 32 := v38
  let v47 : Index := Scalar.indexCast v39
  let c0_30 : Index := 0#32
  ![v47.toNat, 0]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  let v39 : BitVec 32 := v38
  let v219 : Index := Scalar.indexCast v39
  let c0_70 : Index := 0#32
  ![v219.toNat, 0]
@[reducible] def k0_t2_loop : Scf.Loop 32 :=
  let c0_i32_2 : BitVec 32 := 0#32
  let c16_i32_3 : BitVec 32 := 16#32
  let v3 : BitVec 32 := Scalar.addi c0_i32_2 c16_i32_3
  let c1_i32_4 : BitVec 32 := 1#32
  ⟨c0_i32_2, v3, c1_i32_4⟩
def k0_mult3 (k0_t2 : Fin k0_t2_loop.trips) : BitVec 32 :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c4_i32_26 : BitVec 32 := 4#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c4_i32_26 v32
  let c128_i32 : BitVec 32 := 128#32
  let v35 : BitVec 32 := Scalar.muli v33 c128_i32
  let v36 : BitVec 32 := Scalar.addi v34 v35
  v36
def k0_mult4 (k0_t2 : Fin k0_t2_loop.trips) : BitVec 32 :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  v38
def k0_off5 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c4_i32_26 : BitVec 32 := 4#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c4_i32_26 v32
  let c128_i32 : BitVec 32 := 128#32
  let v35 : BitVec 32 := Scalar.muli v33 c128_i32
  let v36 : BitVec 32 := Scalar.addi v34 v35
  let v37 : BitVec 32 := v36
  let v40 : Index := Scalar.indexCast v37
  let c0_28 : Index := 0#32
  ![v40.toNat, 0]
def k0_off6 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c4_i32_26 : BitVec 32 := 4#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c4_i32_26 v32
  let c128_i32 : BitVec 32 := 128#32
  let v35 : BitVec 32 := Scalar.muli v33 c128_i32
  let v36 : BitVec 32 := Scalar.addi v34 v35
  let v37 : BitVec 32 := v36
  let v44 : Index := Scalar.indexCast v37
  let c0_29 : Index := 0#32
  ![v44.toNat, 0]
def k0_off7 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  let v39 : BitVec 32 := v38
  let v47 : Index := Scalar.indexCast v39
  let c0_30 : Index := 0#32
  ![v47.toNat, 0]
def k0_off8 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_27 : BitVec 32 := 2048#32
  let v38 : BitVec 32 := Scalar.muli v22 c2048_i32_27
  let v39 : BitVec 32 := v38
  let v219 : Index := Scalar.indexCast v39
  let c0_70 : Index := 0#32
  ![v219.toNat, 0]
@[reducible] def k0_t3_loop : Scf.Loop 32 :=
  let c0_i32_6 : BitVec 32 := 0#32
  let c16_i32_7 : BitVec 32 := 16#32
  let v4 : BitVec 32 := Scalar.addi c0_i32_6 c16_i32_7
  let c1_i32_8 : BitVec 32 := 1#32
  ⟨c0_i32_6, v4, c1_i32_8⟩
def k0_mult5 (k0_t3 : Fin k0_t3_loop.trips) : BitVec 32 :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c8_i32 : BitVec 32 := 8#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c8_i32 v32
  let c128_i32 : BitVec 32 := 128#32
  let v35 : BitVec 32 := Scalar.muli v33 c128_i32
  let v36 : BitVec 32 := Scalar.addi v34 v35
  v36
def k0_mult6 (k0_t3 : Fin k0_t3_loop.trips) : BitVec 32 :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  v38
def k0_off9 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c8_i32 : BitVec 32 := 8#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c8_i32 v32
  let c128_i32 : BitVec 32 := 128#32
  let v35 : BitVec 32 := Scalar.muli v33 c128_i32
  let v36 : BitVec 32 := Scalar.addi v34 v35
  let v37 : BitVec 32 := v36
  let v40 : Index := Scalar.indexCast v37
  let c0_27 : Index := 0#32
  ![v40.toNat, 0]
def k0_off10 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c8_i32 : BitVec 32 := 8#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c8_i32 v32
  let c128_i32 : BitVec 32 := 128#32
  let v35 : BitVec 32 := Scalar.muli v33 c128_i32
  let v36 : BitVec 32 := Scalar.addi v34 v35
  let v37 : BitVec 32 := v36
  let v44 : Index := Scalar.indexCast v37
  let c0_28 : Index := 0#32
  ![v44.toNat, 0]
def k0_off11 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  let v39 : BitVec 32 := v38
  let v47 : Index := Scalar.indexCast v39
  let c0_29 : Index := 0#32
  ![v47.toNat, 0]
def k0_off12 (k0_t3 : Fin k0_t3_loop.trips) : Fin 2 → Nat :=
  let c0_i32_6 : BitVec 32 := 0#32
  let c1_i32_8 : BitVec 32 := 1#32
  let arg6 : BitVec 32 := Scf.iv c0_i32_6 c1_i32_8 k0_t3
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  let v39 : BitVec 32 := v38
  let v219 : Index := Scalar.indexCast v39
  let c0_69 : Index := 0#32
  ![v219.toNat, 0]
@[reducible] def k0_t4_loop : Scf.Loop 32 :=
  let c0_i32_10 : BitVec 32 := 0#32
  let c16_i32_11 : BitVec 32 := 16#32
  let v5 : BitVec 32 := Scalar.addi c0_i32_10 c16_i32_11
  let c1_i32_12 : BitVec 32 := 1#32
  ⟨c0_i32_10, v5, c1_i32_12⟩
def k0_mult7 (k0_t4 : Fin k0_t4_loop.trips) : BitVec 32 :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c12_i32 : BitVec 32 := 12#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c12_i32 v32
  let c128_i32 : BitVec 32 := 128#32
  let v35 : BitVec 32 := Scalar.muli v33 c128_i32
  let v36 : BitVec 32 := Scalar.addi v34 v35
  v36
def k0_mult8 (k0_t4 : Fin k0_t4_loop.trips) : BitVec 32 :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  v38
def k0_off13 (k0_t4 : Fin k0_t4_loop.trips) : Fin 2 → Nat :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c12_i32 : BitVec 32 := 12#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c12_i32 v32
  let c128_i32 : BitVec 32 := 128#32
  let v35 : BitVec 32 := Scalar.muli v33 c128_i32
  let v36 : BitVec 32 := Scalar.addi v34 v35
  let v37 : BitVec 32 := v36
  let v40 : Index := Scalar.indexCast v37
  let c0_27 : Index := 0#32
  ![v40.toNat, 0]
def k0_off14 (k0_t4 : Fin k0_t4_loop.trips) : Fin 2 → Nat :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32 : BitVec 32 := 2048#32
  let v34 : BitVec 32 := Scalar.muli v22 c2048_i32
  let c12_i32 : BitVec 32 := 12#32
  let c4_i32_20 : BitVec 32 := 4#32
  let c0_i32_21 : BitVec 32 := 0#32
  let v23 : BitVec 1 := Scalar.cmpi .eq c4_i32_20 c0_i32_21
  let c1_i32_22 : BitVec 32 := 1#32
  let v24 : BitVec 32 := Scalar.select v23 c1_i32_22 c4_i32_20
  let v25 : BitVec 32 := Scalar.remsi arg6 v24
  let c0_i32_24 : BitVec 32 := 0#32
  let v27 : BitVec 1 := Scalar.cmpi .slt v25 c0_i32_24
  let c0_i32_25 : BitVec 32 := 0#32
  let v28 : BitVec 1 := Scalar.cmpi .slt v24 c0_i32_25
  let v29 : BitVec 1 := Scalar.xori v27 v28
  let c0_i32_23 : BitVec 32 := 0#32
  let v26 : BitVec 1 := Scalar.cmpi .ne v25 c0_i32_23
  let v30 : BitVec 1 := Scalar.andi v29 v26
  let v31 : BitVec 32 := Scalar.addi v25 v24
  let v32 : BitVec 32 := Scalar.select v30 v31 v25
  let v33 : BitVec 32 := Scalar.addi c12_i32 v32
  let c128_i32 : BitVec 32 := 128#32
  let v35 : BitVec 32 := Scalar.muli v33 c128_i32
  let v36 : BitVec 32 := Scalar.addi v34 v35
  let v37 : BitVec 32 := v36
  let v44 : Index := Scalar.indexCast v37
  let c0_28 : Index := 0#32
  ![v44.toNat, 0]
def k0_off15 (k0_t4 : Fin k0_t4_loop.trips) : Fin 2 → Nat :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  let v39 : BitVec 32 := v38
  let v47 : Index := Scalar.indexCast v39
  let c0_29 : Index := 0#32
  ![v47.toNat, 0]
def k0_off16 (k0_t4 : Fin k0_t4_loop.trips) : Fin 2 → Nat :=
  let c0_i32_10 : BitVec 32 := 0#32
  let c1_i32_12 : BitVec 32 := 1#32
  let arg6 : BitVec 32 := Scf.iv c0_i32_10 c1_i32_12 k0_t4
  let c0_i32_14 : BitVec 32 := 0#32
  let v7 : BitVec 1 := Scalar.cmpi .sgt arg6 c0_i32_14
  let v8 : BitVec 32 := Scalar.extui v7
  let c0_i32_15 : BitVec 32 := 0#32
  let v9 : BitVec 1 := Scalar.cmpi .slt arg6 c0_i32_15
  let v10 : BitVec 32 := Scalar.extui v9
  let v11 : BitVec 32 := Scalar.subi v8 v10
  let c4_i32 : BitVec 32 := 4#32
  let c0_i32_16 : BitVec 32 := 0#32
  let v12 : BitVec 1 := Scalar.cmpi .sgt c4_i32 c0_i32_16
  let v13 : BitVec 32 := Scalar.extui v12
  let c0_i32_17 : BitVec 32 := 0#32
  let v14 : BitVec 1 := Scalar.cmpi .slt c4_i32 c0_i32_17
  let v15 : BitVec 32 := Scalar.extui v14
  let v16 : BitVec 32 := Scalar.subi v13 v15
  let v17 : BitVec 1 := Scalar.cmpi .ne v11 v16
  let v18 : BitVec 32 := Scalar.remsi arg6 c4_i32
  let c0_i32_18 : BitVec 32 := 0#32
  let v19 : BitVec 1 := Scalar.cmpi .ne v18 c0_i32_18
  let v20 : BitVec 1 := Scalar.andi v17 v19
  let v6 : BitVec 32 := Scalar.divsi arg6 c4_i32
  let c1_i32_19 : BitVec 32 := 1#32
  let v21 : BitVec 32 := Scalar.subi v6 c1_i32_19
  let v22 : BitVec 32 := Scalar.select v20 v21 v6
  let c2048_i32_26 : BitVec 32 := 2048#32
  let v38 : BitVec 32 := Scalar.muli v22 c2048_i32_26
  let v39 : BitVec 32 := v38
  let v219 : Index := Scalar.indexCast v39
  let c0_69 : Index := 0#32
  ![v219.toNat, 0]
abbrev stage0_0 : Fin 1 → Memref sig .tc .vmem S8192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Mlp.lean ====
abbrev S8704x2048 : Shape := ⟨2, ![8704, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8704x2048 : Shape := ⟨2, ![8704, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S8704x8192 : Shape := ⟨2, ![8704, 8192]⟩
abbrev S8704 : Shape := ⟨1, ![8704]⟩
abbrev S8704x1 : Shape := ⟨2, ![8704, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x8192, .f32⟩
  | .hbm, ⟨9, _⟩ => ⟨S_, .f32⟩
  | .hbm, ⟨10, _⟩ => ⟨S8704x8192, .f32⟩
  | .hbm, ⟨11, _⟩ => ⟨S8704x8192, .f32⟩
  | .hbm, ⟨12, _⟩ => ⟨S8704x8192, .f32⟩
  | .hbm, ⟨13, _⟩ => ⟨S8704x2048, .f32⟩
  | .hbm, ⟨14, _⟩ => ⟨S8704x2048, .f32⟩
  | .hbm, ⟨15, _⟩ => ⟨S_, .f32⟩
  | .hbm, ⟨16, _⟩ => ⟨S8704, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S8704x2048, .f32⟩
  | .hbm, ⟨22, _⟩ => ⟨S8704x2048, .f32⟩
  | .hbm, ⟨23, _⟩ => ⟨S8704x2048, .f32⟩
  | .hbm, ⟨24, _⟩ => ⟨S_, .f32⟩
  | .hbm, ⟨25, _⟩ => ⟨S8704, .f32⟩
  | .hbm, ⟨26, _⟩ => ⟨S8704x1, .f32⟩
  | .hbm, ⟨27, _⟩ => ⟨S_, .f32⟩
  | .hbm, ⟨28, _⟩ => ⟨S8704x1, .f32⟩
  | .hbm, ⟨29, _⟩ => ⟨S8704x1, .f32⟩
  | .hbm, ⟨30, _⟩ => ⟨S8704x2048, .f32⟩
  | .hbm, ⟨31, _⟩ => ⟨S8704x2048, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S1x2048, .f32⟩
  | .hbm, ⟨42, _⟩ => ⟨S8704x2048, .f32⟩
  | .hbm, ⟨43, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== GdnIn.lean ====
abbrev S8704x2048 : Shape := ⟨2, ![8704, 2048]⟩
abbrev S2048x12352 : Shape := ⟨2, ![2048, 12352]⟩
abbrev S2048x12288 : Shape := ⟨2, ![2048, 12288]⟩
abbrev S8704x12288 : Shape := ⟨2, ![8704, 12288]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2048x12352, .f32⟩
  | .hbm, ⟨2, _⟩ => ⟨S2048x12288, .f32⟩
  | .hbm, ⟨3, _⟩ => ⟨S2048x12288, .bf16⟩
  | .hbm, ⟨4, _⟩ => ⟨S8704x12288, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnInReferenceIdeal.lean ====
abbrev S8704x2048 : Shape := ⟨2, ![8704, 2048]⟩
abbrev S2048x12352 : Shape := ⟨2, ![2048, 12352]⟩
abbrev S8704x12352 : Shape := ⟨2, ![8704, 12352]⟩
abbrev S8704x12288 : Shape := ⟨2, ![8704, 12288]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x12352, .f32⟩
  | .hbm, ⟨2, _⟩ => ⟨S8704x12352, .f32⟩
  | .hbm, ⟨3, _⟩ => ⟨S8704x12288, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proj.lean ====
abbrev S8704x2048 : Shape := ⟨2, ![8704, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjIdeal.lean ====
abbrev S8704x2048 : Shape := ⟨2, ![8704, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjReferenceIdeal.lean ====
abbrev S8704x2048 : Shape := ⟨2, ![8704, 2048]⟩
abbrev S2048x2048 : Shape := ⟨2, ![2048, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S1x2048, .f32⟩
  | .hbm, ⟨38, _⟩ => ⟨S8704x2048, .f32⟩
  | .hbm, ⟨39, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== GdnOut.lean ====
abbrev S8704x4096 : Shape := ⟨2, ![8704, 4096]⟩
abbrev S4096x2048 : Shape := ⟨2, ![4096, 2048]⟩
abbrev S8704x2048 : Shape := ⟨2, ![8704, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S4096x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GdnOutReferenceIdeal.lean ====
abbrev S8704x4096 : Shape := ⟨2, ![8704, 4096]⟩
abbrev S4096x2048 : Shape := ⟨2, ![4096, 2048]⟩
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x4096, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S1x2048, .f32⟩
  | .hbm, ⟨38, _⟩ => ⟨S8704x2048, .f32⟩
  | .hbm, ⟨39, _⟩ => ⟨S8704x2048, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Flash.lean ====
abbrev S4x2048x16x320 : Shape := ⟨4, ![4, 2048, 16, 320]⟩
abbrev S4x2048x320 : Shape := ⟨3, ![4, 2048, 320]⟩
abbrev S8192x16x320 : Shape := ⟨3, ![8192, 16, 320]⟩
abbrev S16x8192x320 : Shape := ⟨3, ![16, 8192, 320]⟩
abbrev S_ : Shape := ⟨0, ![]⟩
abbrev S16x512x320 : Shape := ⟨3, ![16, 512, 320]⟩
abbrev S16x8704x320 : Shape := ⟨3, ![16, 8704, 320]⟩
abbrev S8192x320 : Shape := ⟨2, ![8192, 320]⟩
abbrev S512x320 : Shape := ⟨2, ![512, 320]⟩
abbrev S8704x320 : Shape := ⟨2, ![8704, 320]⟩
abbrev S16x8192x256 : Shape := ⟨3, ![16, 8192, 256]⟩
abbrev S16x128x320 : Shape := ⟨3, ![16, 128, 320]⟩
abbrev S16x128x256 : Shape := ⟨3, ![16, 128, 256]⟩
abbrev S2048x1 : Shape := ⟨2, ![2048, 1]⟩
abbrev S2048x256 : Shape := ⟨2, ![2048, 256]⟩
abbrev S4x128x320 : Shape := ⟨3, ![4, 128, 320]⟩
abbrev S512x512 : Shape := ⟨2, ![512, 512]⟩
abbrev S512x1 : Shape := ⟨2, ![512, 1]⟩
abbrev S512 : Shape := ⟨1, ![512]⟩
abbrev S512x256 : Shape := ⟨2, ![512, 256]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x16x320, .f32⟩
  | .hbm, ⟨1, _⟩ => ⟨S4x2048x320, .f32⟩
  | .hbm, ⟨2, _⟩ => ⟨S8192x16x320, .f32⟩
  | .hbm, ⟨3, _⟩ => ⟨S16x8192x320, .f32⟩
  | .hbm, ⟨4, _⟩ => ⟨S_, .f32⟩
  | .hbm, ⟨5, _⟩ => ⟨S16x512x320, .f32⟩
  | .hbm, ⟨6, _⟩ => ⟨S16x8704x320, .f32⟩
  | .hbm, ⟨7, _⟩ => ⟨S8192x320, .f32⟩
  | .hbm, ⟨8, _⟩ => ⟨S_, .f32⟩
  | .hbm, ⟨9, _⟩ => ⟨S512x320, .f32⟩
  | .hbm, ⟨10, _⟩ => ⟨S8704x320, .f32⟩
  | .hbm, ⟨11, _⟩ => ⟨S16x8704x320, .bf16⟩
  | .hbm, ⟨12, _⟩ => ⟨S8704x320, .bf16⟩
  | .hbm, ⟨13, _⟩ => ⟨S16x8192x256, .bf16⟩
  | .local _ .vmem, ⟨0, _⟩ => ⟨S16x128x320, .bf16⟩
  | .local _ .vmem, ⟨1, _⟩ => ⟨S16x128x320, .bf16⟩
  | .local _ .vmem, ⟨2, _⟩ => ⟨S512x320, .bf16⟩
  | .local _ .vmem, ⟨3, _⟩ => ⟨S512x320, .bf16⟩
  | .local _ .vmem, ⟨4, _⟩ => ⟨S16x128x256, .bf16⟩
  | .local _ .vmem, ⟨5, _⟩ => ⟨S16x128x256, .bf16⟩
  | .local _ .vmem, ⟨6, _⟩ => ⟨S2048x1, .f32⟩
  | .local _ .vmem, ⟨7, _⟩ => ⟨S2048x1, .f32⟩
  | .local _ .vmem, ⟨8, _⟩ => ⟨S2048x256, .f32⟩
  | _, _ => ⟨S4x2048x16x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 4], ![false, false, false]⟩

def k0_cond4 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_10 : BitVec 32 := 0#32
  let v31 : BitVec 1 := Scalar.cmpi .ne v30 c0_i32_10
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c128_i32 : BitVec 32 := 128#32
  let v1 : BitVec 32 := Scalar.muli arg1 c128_i32
  let c128_i32_0 : BitVec 32 := 128#32
  let v2 : BitVec 32 := Scalar.addi v1 c128_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x128x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FlashIdeal.lean ====
variable {F : FTy → Type} [FloatOps F] [Named F]
def κ : String → Option EReal := fun
  | "mask" => some ⊥
  | _ => none
-- ==== FlashReferenceIdeal.lean ====
abbrev S4x2048x16x320 : Shape := ⟨4, ![4, 2048, 16, 320]⟩
abbrev S4x2048x320 : Shape := ⟨3, ![4, 2048, 320]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x2048x256 : Shape := ⟨3, ![4, 2048, 256]⟩
abbrev S4x16x2048x256 : Shape := ⟨4, ![4, 16, 2048, 256]⟩
abbrev S16x4x2048x256 : Shape := ⟨4, ![16, 4, 2048, 256]⟩
abbrev S16x8192x256 : Shape := ⟨3, ![16, 8192, 256]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x16x320, .f32⟩
  | .hbm, ⟨1, _⟩ => ⟨S4x2048x320, .f32⟩
  | .hbm, ⟨2, _⟩ => ⟨S4x2048x2048x16, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S4x16x2048x2048, .i1⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x2048x256, .f32⟩
  | .hbm, ⟨25, _⟩ => ⟨S4x16x2048x256, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x256, .f32⟩
  | .hbm, ⟨30, _⟩ => ⟨S4x16x2048x256, .f32⟩
  | .hbm, ⟨31, _⟩ => ⟨S16x4x2048x256, .f32⟩
  | .hbm, ⟨32, _⟩ => ⟨S16x8192x256, .f32⟩
  | .hbm, ⟨33, _⟩ => ⟨S16x8192x256, .bf16⟩
  | _, _ => ⟨S4x2048x16x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== DsaIn.lean ====
abbrev S8704x2048 : Shape := ⟨2, ![8704, 2048]⟩
abbrev S8704 : Shape := ⟨1, ![8704]⟩
abbrev S2048x5264 : Shape := ⟨2, ![2048, 5264]⟩
abbrev S2048x2048 : Shape := ⟨2, ![2048, 2048]⟩
abbrev S2048x1024 : Shape := ⟨2, ![2048, 1024]⟩
abbrev S2048x128 : Shape := ⟨2, ![2048, 128]⟩
abbrev S2048x16 : Shape := ⟨2, ![2048, 16]⟩
abbrev S_ : Shape := ⟨0, ![]⟩
abbrev S2048x5376 : Shape := ⟨2, ![2048, 5376]⟩
abbrev S16 : Shape := ⟨1, ![16]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x128 : Shape := ⟨2, ![8704, 128]⟩
abbrev S8704x112 : Shape := ⟨2, ![8704, 112]⟩
abbrev S8704x5376 : Shape := ⟨2, ![8704, 5376]⟩
abbrev S512x2048 : Shape := ⟨2, ![512, 2048]⟩
abbrev S2048x768 : Shape := ⟨2, ![2048, 768]⟩
abbrev S512x128 : Shape := ⟨2, ![512, 128]⟩
abbrev S512x768 : Shape := ⟨2, ![512, 768]⟩

abbrev nBuf : Space → Nat
  | .hbm => 45
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704, .i32⟩
  | .hbm, ⟨2, _⟩ => ⟨S2048x5264, .f32⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x128, .f32⟩
  | .hbm, ⟨7, _⟩ => ⟨S2048x16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x5376, .f32⟩
  | .hbm, ⟨12, _⟩ => ⟨S2048x5376, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8704, .f32⟩
  | .hbm, ⟨25, _⟩ => ⟨S8704x1, .f32⟩
  | .hbm, ⟨26, _⟩ => ⟨S1x16, .f32⟩
  | .hbm, ⟨27, _⟩ => ⟨S8704x16, .f32⟩
  | .hbm, ⟨28, _⟩ => ⟨S8704x16, .f32⟩
  | .hbm, ⟨29, _⟩ => ⟨S8704x16, .f32⟩
  | .hbm, ⟨30, _⟩ => ⟨S8704x16, .f32⟩
  | .hbm, ⟨31, _⟩ => ⟨S8704x16, .f32⟩
  | .hbm, ⟨32, _⟩ => ⟨S_, .f32⟩
  | .hbm, ⟨33, _⟩ => ⟨S8704x96, .f32⟩
  | .hbm, ⟨34, _⟩ => ⟨S8704x128, .f32⟩
  | .hbm, ⟨35, _⟩ => ⟨S8704x16, .f32⟩
  | .hbm, ⟨36, _⟩ => ⟨S_, .f32⟩
  | .hbm, ⟨37, _⟩ => ⟨S8704x112, .f32⟩
  | .hbm, ⟨38, _⟩ => ⟨S8704x128, .f32⟩
  | .hbm, ⟨39, _⟩ => ⟨S_, .f32⟩
  | .hbm, ⟨40, _⟩ => ⟨S8704x16, .f32⟩
  | .hbm, ⟨41, _⟩ => ⟨S_, .f32⟩
  | .hbm, ⟨42, _⟩ => ⟨S8704x96, .f32⟩
  | .hbm, ⟨43, _⟩ => ⟨S8704x128, .f32⟩
  | .hbm, ⟨44, _⟩ => ⟨S8704x5376, .f32⟩
  | .local _ .vmem, ⟨0, _⟩ => ⟨S512x2048, .f32⟩
  | .local _ .vmem, ⟨1, _⟩ => ⟨S512x2048, .f32⟩
  | .local _ .vmem, ⟨2, _⟩ => ⟨S2048x768, .bf16⟩
  | .local _ .vmem, ⟨3, _⟩ => ⟨S2048x768, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x768, .f32⟩
  | .local _ .vmem, ⟨11, _⟩ => ⟨S512x768, .f32⟩
  | .local _ .vmem, ⟨12, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DsaInReferenceIdeal.lean ====
abbrev S8704x2048 : Shape := ⟨2, ![8704, 2048]⟩
abbrev S8704 : Shape := ⟨1, ![8704]⟩
abbrev S2048x5264 : Shape := ⟨2, ![2048, 5264]⟩
abbrev S8704x5264 : Shape := ⟨2, ![8704, 5264]⟩
abbrev S8704x16x128 : Shape := ⟨3, ![8704, 16, 128]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x1x16 : Shape := ⟨3, ![8704, 1, 16]⟩
abbrev S8704x16x16 : Shape := ⟨3, ![8704, 16, 16]⟩
abbrev S8704x16x96 : Shape := ⟨3, ![8704, 16, 96]⟩
abbrev S8704x512 : Shape := ⟨2, ![8704, 512]⟩
abbrev S8704x4x128 : Shape := ⟨3, ![8704, 4, 128]⟩
abbrev S8704x4x16 : Shape := ⟨3, ![8704, 4, 16]⟩
abbrev S8704x4x96 : Shape := ⟨3, ![8704, 4, 96]⟩
abbrev S8704x128 : Shape := ⟨2, ![8704, 128]⟩
abbrev S8704x1x128 : Shape := ⟨3, ![8704, 1, 128]⟩
abbrev S8704x1x96 : Shape := ⟨3, ![8704, 1, 96]⟩
abbrev S8704x112 : Shape := ⟨2, ![8704, 112]⟩
abbrev S8704x5376 : Shape := ⟨2, ![8704, 5376]⟩

abbrev nBuf : Space → Nat
  | .hbm => 160
  | .vmem => 0
  | .smem => 0
  | _ => 0

abbrev hbmTy0_0 (i : Nat) : BufTy := match i % 128 with
  | 0 => ⟨S8704x2048, .f32⟩
  | 1 => ⟨S8704, .i32⟩
  | 2 => ⟨S2048x5264, .f32⟩
  | 3 => ⟨S8704x5264, .f32⟩
  | 4 => ⟨S8704x2048, .f32⟩
  | 5 => ⟨S8704x16x128, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S8704, .f32⟩
  | 18 => ⟨S8704x1, .f32⟩
  | 19 => ⟨S1x16, .f32⟩
  | 20 => ⟨S8704x16, .f32⟩
  | 21 => ⟨S8704x16, .f32⟩
  | 22 => ⟨S8704x16, .f32⟩
  | 23 => ⟨S8704x16, .f32⟩
  | 24 => ⟨S8704x1x16, .f32⟩
  | 25 => ⟨S8704x16, .f32⟩
  | 26 => ⟨S8704x1x16, .f32⟩
  | 27 => ⟨S8704x16x16, .f32⟩
  | 28 => ⟨S8704x16x16, .f32⟩
  | 29 => ⟨S8704x16x16, .f32⟩
  | 30 => ⟨S8704x16x16, .f32⟩
  | 31 => ⟨S8704x16x16, .f32⟩
  | 32 => ⟨S8704x16x16, .f32⟩
  | 33 => ⟨S8704x16x16, .f32⟩
  | 34 => ⟨S8704x16x16, .f32⟩
  | 35 => ⟨S8704x16x16, .f32⟩
  | 36 => ⟨S8704x16x16, .f32⟩
  | 37 => ⟨S8704x16x16, .f32⟩
  | 38 => ⟨S8704x16x16, .f32⟩
  | 39 => ⟨S8704x16x96, .f32⟩
  | 40 => ⟨S8704x16x128, .f32⟩
  | 41 => ⟨S8704x512, .f32⟩
  | 42 => ⟨S8704x4x128, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S8704, .f32⟩
  | 55 => ⟨S8704x1, .f32⟩
  | 56 => ⟨S1x16, .f32⟩
  | 57 => ⟨S8704x16, .f32⟩
  | 58 => ⟨S8704x16, .f32⟩
  | 59 => ⟨S8704x16, .f32⟩
  | 60 => ⟨S8704x16, .f32⟩
  | 61 => ⟨S8704x1x16, .f32⟩
  | 62 => ⟨S8704x16, .f32⟩
  | 63 => ⟨S8704x1x16, .f32⟩
  | 64 => ⟨S8704x4x16, .f32⟩
  | 65 => ⟨S8704x4x16, .f32⟩
  | 66 => ⟨S8704x4x16, .f32⟩
  | 67 => ⟨S8704x4x16, .f32⟩
  | 68 => ⟨S8704x4x16, .f32⟩
  | 69 => ⟨S8704x4x16, .f32⟩
  | 70 => ⟨S8704x4x16, .f32⟩
  | 71 => ⟨S8704x4x16, .f32⟩
  | 72 => ⟨S8704x4x16, .f32⟩
  | 73 => ⟨S8704x4x16, .f32⟩
  | 74 => ⟨S8704x4x16, .f32⟩
  | 75 => ⟨S8704x4x16, .f32⟩
  | 76 => ⟨S8704x4x96, .f32⟩
  | 77 => ⟨S8704x4x128, .f32⟩
  | 78 => ⟨S8704x512, .f32⟩
  | 79 => ⟨S8704x2048, .f32⟩
  | 80 => ⟨S8704x16x128, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S8704, .f32⟩
  | 93 => ⟨S8704x1, .f32⟩
  | 94 => ⟨S1x16, .f32⟩
  | 95 => ⟨S8704x16, .f32⟩
  | 96 => ⟨S8704x16, .f32⟩
  | 97 => ⟨S8704x16, .f32⟩
  | 98 => ⟨S8704x16, .f32⟩
  | 99 => ⟨S8704x1x16, .f32⟩
  | 100 => ⟨S8704x16, .f32⟩
  | 101 => ⟨S8704x1x16, .f32⟩
  | 102 => ⟨S8704x16x16, .f32⟩
  | 103 => ⟨S8704x16x16, .f32⟩
  | 104 => ⟨S8704x16x16, .f32⟩
  | 105 => ⟨S8704x16x16, .f32⟩
  | 106 => ⟨S8704x16x16, .f32⟩
  | 107 => ⟨S8704x16x16, .f32⟩
  | 108 => ⟨S8704x16x16, .f32⟩
  | 109 => ⟨S8704x16x16, .f32⟩
  | 110 => ⟨S8704x16x16, .f32⟩
  | 111 => ⟨S8704x16x16, .f32⟩
  | 112 => ⟨S8704x16x16, .f32⟩
  | 113 => ⟨S8704x16x16, .f32⟩
  | 114 => ⟨S8704x16x96, .f32⟩
  | 115 => ⟨S8704x16x128, .f32⟩
  | 116 => ⟨S8704x128, .f32⟩
  | 117 => ⟨S8704x1x128, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S8704x2048, .f32⟩

abbrev hbmTy0_1 (i : Nat) : BufTy := match i % 128 with
  | 0 => ⟨S16, .f32⟩
  | 1 => ⟨S8704, .f32⟩
  | 2 => ⟨S8704x1, .f32⟩
  | 3 => ⟨S1x16, .f32⟩
  | 4 => ⟨S8704x16, .f32⟩
  | 5 => ⟨S8704x16, .f32⟩
  | 6 => ⟨S8704x16, .f32⟩
  | 7 => ⟨S8704x16, .f32⟩
  | 8 => ⟨S8704x1x16, .f32⟩
  | 9 => ⟨S8704x16, .f32⟩
  | 10 => ⟨S8704x1x16, .f32⟩
  | 11 => ⟨S8704x1x16, .f32⟩
  | 12 => ⟨S8704x1x16, .f32⟩
  | 13 => ⟨S8704x1x16, .f32⟩
  | 14 => ⟨S8704x1x16, .f32⟩
  | 15 => ⟨S8704x1x16, .f32⟩
  | 16 => ⟨S8704x1x16, .f32⟩
  | 17 => ⟨S8704x1x16, .f32⟩
  | 18 => ⟨S8704x1x16, .f32⟩
  | 19 => ⟨S8704x1x96, .f32⟩
  | 20 => ⟨S8704x1x128, .f32⟩
  | 21 => ⟨S8704x128, .f32⟩
  | 22 => ⟨S8704x16, .f32⟩
  | 23 => ⟨S_, .f32⟩
  | 24 => ⟨S8704x16, .f32⟩
  | 25 => ⟨S8704x16, .f32⟩
  | 26 => ⟨S8704x2048, .f32⟩
  | 27 => ⟨S8704x2048, .f32⟩
  | 28 => ⟨S8704x512, .f32⟩
  | 29 => ⟨S_, .f32⟩
  | 30 => ⟨S8704x112, .f32⟩
  | 31 => ⟨S8704x5376, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_8 : Ref sig .tc := ⟨.hbm, 120, rfl⟩
abbrev main_v108 : Ref sig .tc := ⟨.hbm, 121, rfl⟩
abbrev main_v109 : Ref sig .tc := ⟨.hbm, 122, rfl⟩
abbrev main_cst_9 : Ref sig .tc := ⟨.hbm, 123, rfl⟩
abbrev main_v110 : Ref sig .tc := ⟨.hbm, 124, rfl⟩
abbrev main_v111 : Ref sig .tc := ⟨.hbm, 125, rfl⟩
abbrev main_cst_10 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_cst_11 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_cst_12 : Ref sig .tc := ⟨.hbm, 157, rfl⟩
abbrev main_v141 : Ref sig .tc := ⟨.hbm, 158, rfl⟩
abbrev main_v142 : Ref sig .tc := ⟨.hbm, 159, rfl⟩

abbrev nD : Nat := 1
abbrev τ : Topo := Topo.v7x

variable {F : FTy → Type} [FloatOps F]
-- ==== MlaIn.lean ====
abbrev S8704x2048 : Shape := ⟨2, ![8704, 2048]⟩
abbrev S8704 : Shape := ⟨1, ![8704]⟩
abbrev S2048x832 : Shape := ⟨2, ![2048, 832]⟩
abbrev S512 : Shape := ⟨1, ![512]⟩
abbrev S256 : Shape := ⟨1, ![256]⟩
abbrev S_ : Shape := ⟨0, ![]⟩
abbrev S2048x896 : Shape := ⟨2, ![2048, 896]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S8704x128 : Shape := ⟨2, ![8704, 128]⟩
abbrev S8704x96 : Shape := ⟨2, ![8704, 96]⟩
abbrev S1x512 : Shape := ⟨2, ![1, 512]⟩
abbrev S1x256 : Shape := ⟨2, ![1, 256]⟩
abbrev S8704x512 : Shape := ⟨2, ![8704, 512]⟩
abbrev S8704x320 : Shape := ⟨2, ![8704, 320]⟩
abbrev S512x2048 : Shape := ⟨2, ![512, 2048]⟩
abbrev S512x128 : Shape := ⟨2, ![512, 128]⟩
abbrev S512x512 : Shape := ⟨2, ![512, 512]⟩
abbrev S512x320 : Shape := ⟨2, ![512, 320]⟩
abbrev S512x896 : Shape := ⟨2, ![512, 896]⟩
abbrev S512x256 : Shape := ⟨2, ![512, 256]⟩
abbrev S512x1 : Shape := ⟨2, ![512, 1]⟩
abbrev S512x64 : Shape := ⟨2, ![512, 64]⟩

abbrev nBuf : Space → Nat
  | .hbm => 44
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S8704, .i32⟩
  | .hbm, ⟨2, _⟩ => ⟨S2048x832, .f32⟩
  | .hbm, ⟨3, _⟩ => ⟨S512, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S2048x896, .f32⟩
  | .hbm, ⟨8, _⟩ => ⟨S2048x896, .bf16⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8704, .f32⟩
  | .hbm, ⟨21, _⟩ => ⟨S8704x1, .f32⟩
  | .hbm, ⟨22, _⟩ => ⟨S1x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x32, .f32⟩
  | .hbm, ⟨28, _⟩ => ⟨S_, .f32⟩
  | .hbm, ⟨29, _⟩ => ⟨S8704x64, .f32⟩
  | .hbm, ⟨30, _⟩ => ⟨S8704x128, .f32⟩
  | .hbm, ⟨31, _⟩ => ⟨S8704x32, .f32⟩
  | .hbm, ⟨32, _⟩ => ⟨S_, .f32⟩
  | .hbm, ⟨33, _⟩ => ⟨S8704x96, .f32⟩
  | .hbm, ⟨34, _⟩ => ⟨S8704x128, .f32⟩
  | .hbm, ⟨35, _⟩ => ⟨S_, .f32⟩
  | .hbm, ⟨36, _⟩ => ⟨S8704x32, .f32⟩
  | .hbm, ⟨37, _⟩ => ⟨S_, .f32⟩
  | .hbm, ⟨38, _⟩ => ⟨S8704x64, .f32⟩
  | .hbm, ⟨39, _⟩ => ⟨S8704x128, .f32⟩
  | .hbm, ⟨40, _⟩ => ⟨S1x512, .f32⟩
  | .hbm, ⟨41, _⟩ => ⟨S1x256, .f32⟩
  | .hbm, ⟨42, _⟩ => ⟨S8704x512, .bf16⟩
  | .hbm, ⟨43, _⟩ => ⟨S8704x320, .f32⟩
  | .local _ .vmem, ⟨0, _⟩ => ⟨S512x2048, .f32⟩
  | .local _ .vmem, ⟨1, _⟩ => ⟨S512x2048, .f32⟩
  | .local _ .vmem, ⟨2, _⟩ => ⟨S2048x896, .bf16⟩
  | .local _ .vmem, ⟨3, _⟩ => ⟨S1x512, .f32⟩
  | .local _ .vmem, ⟨4, _⟩ => ⟨S1x256, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x320, .f32⟩
  | .local _ .vmem, ⟨14, _⟩ => ⟨S512x320, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x320 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaInReferenceIdeal.lean ====
abbrev S8704x2048 : Shape := ⟨2, ![8704, 2048]⟩
abbrev S8704 : Shape := ⟨1, ![8704]⟩
abbrev S2048x832 : Shape := ⟨2, ![2048, 832]⟩
abbrev S512 : Shape := ⟨1, ![512]⟩
abbrev S256 : Shape := ⟨1, ![256]⟩
abbrev S8704x832 : Shape := ⟨2, ![8704, 832]⟩
abbrev S8704x512 : Shape := ⟨2, ![8704, 512]⟩
abbrev S_ : Shape := ⟨0, ![]⟩
abbrev S8704x1 : Shape := ⟨2, ![8704, 1]⟩
abbrev S1x512 : Shape := ⟨2, ![1, 512]⟩
abbrev S8704x256 : Shape := ⟨2, ![8704, 256]⟩
abbrev S1x256 : Shape := ⟨2, ![1, 256]⟩
abbrev S8704x64 : Shape := ⟨2, ![8704, 64]⟩
abbrev S8704x1x64 : Shape := ⟨3, ![8704, 1, 64]⟩
abbrev S32 : Shape := ⟨1, ![32]⟩
abbrev S1x32 : Shape := ⟨2, ![1, 32]⟩
abbrev S8704x32 : Shape := ⟨2, ![8704, 32]⟩
abbrev S8704x1x32 : Shape := ⟨3, ![8704, 1, 32]⟩
abbrev S8704x1x0 : Shape := ⟨3, ![8704, 1, 0]⟩
abbrev S8704x320 : Shape := ⟨2, ![8704, 320]⟩

abbrev nBuf : Space → Nat
  | .hbm => 76
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704, .i32⟩
  | .hbm, ⟨2, _⟩ => ⟨S2048x832, .f32⟩
  | .hbm, ⟨3, _⟩ => ⟨S512, .f32⟩
  | .hbm, ⟨4, _⟩ => ⟨S256, .f32⟩
  | .hbm, ⟨5, _⟩ => ⟨S8704x832, .f32⟩
  | .hbm, ⟨6, _⟩ => ⟨S8704x512, .f32⟩
  | .hbm, ⟨7, _⟩ => ⟨S8704x512, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x512, .f32⟩
  | .hbm, ⟨19, _⟩ => ⟨S8704x512, .f32⟩
  | .hbm, ⟨20, _⟩ => ⟨S1x512, .f32⟩
  | .hbm, ⟨21, _⟩ => ⟨S8704x512, .f32⟩
  | .hbm, ⟨22, _⟩ => ⟨S8704x512, .f32⟩
  | .hbm, ⟨23, _⟩ => ⟨S8704x256, .f32⟩
  | .hbm, ⟨24, _⟩ => ⟨S8704x256, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S8704x1, .f32⟩
  | .hbm, ⟨35, _⟩ => ⟨S8704x256, .f32⟩
  | .hbm, ⟨36, _⟩ => ⟨S8704x256, .f32⟩
  | .hbm, ⟨37, _⟩ => ⟨S1x256, .f32⟩
  | .hbm, ⟨38, _⟩ => ⟨S8704x256, .f32⟩
  | .hbm, ⟨39, _⟩ => ⟨S8704x256, .f32⟩
  | .hbm, ⟨40, _⟩ => ⟨S8704x64, .f32⟩
  | .hbm, ⟨41, _⟩ => ⟨S8704x1x64, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S8704, .f32⟩
  | .hbm, ⟨54, _⟩ => ⟨S8704x1, .f32⟩
  | .hbm, ⟨55, _⟩ => ⟨S1x32, .f32⟩
  | .hbm, ⟨56, _⟩ => ⟨S8704x32, .f32⟩
  | .hbm, ⟨57, _⟩ => ⟨S8704x32, .f32⟩
  | .hbm, ⟨58, _⟩ => ⟨S8704x32, .f32⟩
  | .hbm, ⟨59, _⟩ => ⟨S8704x32, .f32⟩
  | .hbm, ⟨60, _⟩ => ⟨S8704x1x32, .f32⟩
  | .hbm, ⟨61, _⟩ => ⟨S8704x32, .f32⟩
  | .hbm, ⟨62, _⟩ => ⟨S8704x1x32, .f32⟩
  | .hbm, ⟨63, _⟩ => ⟨S8704x1x32, .f32⟩
  | .hbm, ⟨64, _⟩ => ⟨S8704x1x32, .f32⟩
  | .hbm, ⟨65, _⟩ => ⟨S8704x1x32, .f32⟩
  | .hbm, ⟨66, _⟩ => ⟨S8704x1x32, .f32⟩
  | .hbm, ⟨67, _⟩ => ⟨S8704x1x32, .f32⟩
  | .hbm, ⟨68, _⟩ => ⟨S8704x1x32, .f32⟩
  | .hbm, ⟨69, _⟩ => ⟨S8704x1x32, .f32⟩
  | .hbm, ⟨70, _⟩ => ⟨S8704x1x32, .f32⟩
  | .hbm, ⟨71, _⟩ => ⟨S8704x1x0, .f32⟩
  | .hbm, ⟨72, _⟩ => ⟨S8704x1x64, .f32⟩
  | .hbm, ⟨73, _⟩ => ⟨S8704x64, .f32⟩
  | .hbm, ⟨74, _⟩ => ⟨S8704x512, .bf16⟩
  | .hbm, ⟨75, _⟩ => ⟨S8704x320, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Proof.KCond.lean ====
/- The optional search of the selection as a value: a block whose ties run over the limit finds the last tied column it keeps by
   a counted loop, any other block takes the last column there is; neither issues anything, so the part that holds the choice
   computes the same result with the choice made on a value. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

/-- The last tied column kept, blocks over 512 keys. -/
def cut0 (v198 : IVec S128x512 32) (v228 : IVec S128x512 1) (v235 : FVec F S128x1 .f32) (v241 : FVec F S128x1 .f32) : IVec S128x1 32 :=
  if Scalar.cmpi .ne (Scalar.extui (Scalar.cmpf .ogt (k0_pay23 v241) (Scalar.ofBits (F := F) .f32 0x00000000#32))) 0#32 = 1#1 then
    Scf.fold (fun (k : Fin k0_t2_loop.trips) acc => k0_pay25 v198 v228 v235 k acc) k0_pay24
  else k0_pay26

/-- The part with the choice made on a value, blocks over 512 keys. -/
def part6 (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (k0_h2 : k0_cond2 i = 1#1) (v198 : IVec S128x512 32) (v202 : IVec S128x512 1) (v226 : IVec S128x512 1) (v228 : IVec S128x512 1) (v235 : FVec F S128x1 .f32) (v241 : FVec F S128x1 .f32) :
    Prog (TpuEff nD τ sig (Elt F) Λ₀ .tc) (Σ' (v258 : FVec F S1x128x512 .f32) (v260 : Vec F S512x128 .bf16), FVec F S512x512 .f32) := do

  let v249 : IVec S128x1 32 := cut0 v198 v228 v235 v241
  let v259 : Vec F S512x128 .bf16 ← Prog.lift (.load arg9 (Rect.unit (s := S2048x1024) ![0, 0] S512x128.size inb_S2048x1024_S512x128_0_0).toLoadRect (View.loadsAt_vmem h_S512x128))
  let v260 : Vec F S512x128 .bf16 ← Prog.lift (.load arg9 (Rect.unit (s := S2048x1024) ![0, 512] S512x128.size inb_S2048x1024_S512x128_0_512).toLoadRect (View.loadsAt_vmem h_S512x128))
  let v261 : Vec F S128x128 .f32 ← Prog.lift (.load arg3 (Rect.unit (s := S128x2048) ![0, 0] S128x128.size inb_S128x2048_S128x128_0_0).toLoadRect (View.loadsAt_vmem h_S128x128))
  let v263 : Vec F S128x128 .f32 ← Prog.lift (.load arg3 (Rect.unit (s := S128x2048) ![0, 128] S128x128.size inb_S128x2048_S128x128_0_128).toLoadRect (View.loadsAt_vmem h_S128x128))
  let v265 : Vec F S128x128 .f32 ← Prog.lift (.load arg3 (Rect.unit (s := S128x2048) ![0, 256] S128x128.size inb_S128x2048_S128x128_0_256).toLoadRect (View.loadsAt_vmem h_S128x128))
  let v267 : Vec F S128x128 .f32 ← Prog.lift (.load arg3 (Rect.unit (s := S128x2048) ![0, 384] S128x128.size inb_S128x2048_S128x128_0_384).toLoadRect (View.loadsAt_vmem h_S128x128))

  pure ⟨k0_pay27 (F := F) v198 v202 v226 v228 v249, v260, k0_pay28 v198 v202 v226 v228 v249 v259 v261 v263 v265 v267⟩

section Buffers

variable (i : grid0.Coords)
  (arg2 : Memref sig .tc .vmem S128x2048 .f32) (harg2 : arg2.IsWhole)
  (arg3 : Memref sig .tc .vmem S128x2048 .f32) (harg3 : arg3.IsWhole)
  (arg4 : Memref sig .tc .vmem S128x128 .f32) (harg4 : arg4.IsWhole)
  (arg5 : Memref sig .tc .vmem S2048x128 .f32) (harg5 : arg5.IsWhole)
  (arg6 : Memref sig .tc .vmem S2048x1024 .f32) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S2048x1024 .bf16) (harg9 : arg9.IsWhole)

theorem part6_eq (h : k0_cond2 i = 1#1) (v198 : IVec S128x512 32) (v202 : IVec S128x512 1) (v226 : IVec S128x512 1) (v228 : IVec S128x512 1) (v235 : FVec F S128x1 .f32) (v241 : FVec F S128x1 .f32) :
    k0_part6_skel (F := F) i arg2 harg2 arg3 harg3 arg4 harg4 arg5 harg5 arg6 harg6 arg7 harg7 arg8 harg8 arg9 harg9 h v198 v202 v226 v228 v235 v241 = part6 i arg2 harg2 arg3 harg3 arg4 harg4 arg5 harg5 arg6 harg6 arg7 harg7 arg8 harg8 arg9 harg9 h v198 v202 v226 v228 v235 v241 := by
  unfold k0_part6_skel part6 cut0
  dsimp only
  split
  · rw [show Scf.Loop.for k0_t2_loop (k0_t2_ok i h) k0_pay24 (k0_t2_body (F := F) i arg2 harg2 arg3 harg3 arg4 harg4 arg5 harg5 arg6 harg6 arg7 harg7 arg8 harg8 arg9 harg9 h v198 v202 v226 v228 v235 v241) = _ from
      Scf.for_pure _ _ _ _ _ _ (fun k acc => k0_pay25 v198 v228 v235 k acc) (fun _ _ => rfl)]
    rfl
  · rfl

/-- The last tied column kept, blocks over 1024 keys. -/
def cut1 (v198 : IVec S128x1024 32) (v228 : IVec S128x1024 1) (v235 : FVec F S128x1 .f32) (v241 : FVec F S128x1 .f32) : IVec S128x1 32 :=
  if Scalar.cmpi .ne (Scalar.extui (Scalar.cmpf .ogt (k0_pay67 v241) (Scalar.ofBits (F := F) .f32 0x00000000#32))) 0#32 = 1#1 then
    Scf.fold (fun (k : Fin k0_t4_loop.trips) acc => k0_pay69 v198 v228 v235 k acc) k0_pay68
  else k0_pay70

/-- The part with the choice made on a value, blocks over 1024 keys. -/
def part16 (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (k0_h4 : k0_cond4 i = 1#1) (v198 : IVec S128x1024 32) (v202 : IVec S128x1024 1) (v226 : IVec S128x1024 1) (v228 : IVec S128x1024 1) (v235 : FVec F S128x1 .f32) (v241 : FVec F S128x1 .f32) :
    Prog (TpuEff nD τ sig (Elt F) Λ₀ .tc) (Σ' (v258 : FVec F S1x128x1024 .f32) (v260 : Vec F S1024x128 .bf16), FVec F S512x1024 .f32) := do

  let v249 : IVec S128x1 32 := cut1 v198 v228 v235 v241
  let v259 : Vec F S1024x128 .bf16 ← Prog.lift (.load arg9 (Rect.unit (s := S2048x1024) ![0, 0] S1024x128.size inb_S2048x1024_S1024x128_0_0).toLoadRect (View.loadsAt_vmem h_S1024x128))
  let v260 : Vec F S1024x128 .bf16 ← Prog.lift (.load arg9 (Rect.unit (s := S2048x1024) ![0, 512] S1024x128.size inb_S2048x1024_S1024x128_0_512).toLoadRect (View.loadsAt_vmem h_S1024x128))
  let v261 : Vec F S128x128 .f32 ← Prog.lift (.load arg3 (Rect.unit (s := S128x2048) ![0, 0] S128x128.size inb_S128x2048_S128x128_0_0).toLoadRect (View.loadsAt_vmem h_S128x128))
  let v263 : Vec F S128x128 .f32 ← Prog.lift (.load arg3 (Rect.unit (s := S128x2048) ![0, 128] S128x128.size inb_S128x2048_S128x128_0_128).toLoadRect (View.loadsAt_vmem h_S128x128))
  let v265 : Vec F S128x128 .f32 ← Prog.lift (.load arg3 (Rect.unit (s := S128x2048) ![0, 256] S128x128.size inb_S128x2048_S128x128_0_256).toLoadRect (View.loadsAt_vmem h_S128x128))
  let v267 : Vec F S128x128 .f32 ← Prog.lift (.load arg3 (Rect.unit (s := S128x2048) ![0, 384] S128x128.size inb_S128x2048_S128x128_0_384).toLoadRect (View.loadsAt_vmem h_S128x128))

  pure ⟨k0_pay71 (F := F) v198 v202 v226 v228 v249, v260, k0_pay72 v198 v202 v226 v228 v249 v259 v261 v263 v265 v267⟩

theorem part16_eq (h : k0_cond4 i = 1#1) (v198 : IVec S128x1024 32) (v202 : IVec S128x1024 1) (v226 : IVec S128x1024 1) (v228 : IVec S128x1024 1) (v235 : FVec F S128x1 .f32) (v241 : FVec F S128x1 .f32) :
    k0_part16_skel (F := F) i arg2 harg2 arg3 harg3 arg4 harg4 arg5 harg5 arg6 harg6 arg7 harg7 arg8 harg8 arg9 harg9 h v198 v202 v226 v228 v235 v241 = part16 i arg2 harg2 arg3 harg3 arg4 harg4 arg5 harg5 arg6 harg6 arg7 harg7 arg8 harg8 arg9 harg9 h v198 v202 v226 v228 v235 v241 := by
  unfold k0_part16_skel part16 cut1
  dsimp only
  split
  · rw [show Scf.Loop.for k0_t4_loop (k0_t4_ok i h) k0_pay68 (k0_t4_body (F := F) i arg2 harg2 arg3 harg3 arg4 harg4 arg5 harg5 arg6 harg6 arg7 harg7 arg8 harg8 arg9 harg9 h v198 v202 v226 v228 v235 v241) = _ from
      Scf.for_pure _ _ _ _ _ _ (fun k acc => k0_pay69 v198 v228 v235 k acc) (fun _ _ => rfl)]
    rfl
  · rfl

/-- The last tied column kept, blocks over 1536 keys. -/
def cut2 (v198 : IVec S128x1536 32) (v228 : IVec S128x1536 1) (v235 : FVec F S128x1 .f32) (v241 : FVec F S128x1 .f32) : IVec S128x1 32 :=
  if Scalar.cmpi .ne (Scalar.extui (Scalar.cmpf .ogt (k0_pay111 v241) (Scalar.ofBits (F := F) .f32 0x00000000#32))) 0#32 = 1#1 then
    Scf.fold (fun (k : Fin k0_t6_loop.trips) acc => k0_pay113 v198 v228 v235 k acc) k0_pay112
  else k0_pay114

/-- The part with the choice made on a value, blocks over 1536 keys. -/
def part26 (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (k0_h6 : k0_cond6 i = 1#1) (v198 : IVec S128x1536 32) (v202 : IVec S128x1536 1) (v226 : IVec S128x1536 1) (v228 : IVec S128x1536 1) (v235 : FVec F S128x1 .f32) (v241 : FVec F S128x1 .f32) :
    Prog (TpuEff nD τ sig (Elt F) Λ₀ .tc) (Σ' (v258 : FVec F S1x128x1536 .f32) (v260 : Vec F S1536x128 .bf16), FVec F S512x1536 .f32) := do

  let v249 : IVec S128x1 32 := cut2 v198 v228 v235 v241
  let v259 : Vec F S1536x128 .bf16 ← Prog.lift (.load arg9 (Rect.unit (s := S2048x1024) ![0, 0] S1536x128.size inb_S2048x1024_S1536x128_0_0).toLoadRect (View.loadsAt_vmem h_S1536x128))
  let v260 : Vec F S1536x128 .bf16 ← Prog.lift (.load arg9 (Rect.unit (s := S2048x1024) ![0, 512] S1536x128.size inb_S2048x1024_S1536x128_0_512).toLoadRect (View.loadsAt_vmem h_S1536x128))
  let v261 : Vec F S128x128 .f32 ← Prog.lift (.load arg3 (Rect.unit (s := S128x2048) ![0, 0] S128x128.size inb_S128x2048_S128x128_0_0).toLoadRect (View.loadsAt_vmem h_S128x128))
  let v263 : Vec F S128x128 .f32 ← Prog.lift (.load arg3 (Rect.unit (s := S128x2048) ![0, 128] S128x128.size inb_S128x2048_S128x128_0_128).toLoadRect (View.loadsAt_vmem h_S128x128))
  let v265 : Vec F S128x128 .f32 ← Prog.lift (.load arg3 (Rect.unit (s := S128x2048) ![0, 256] S128x128.size inb_S128x2048_S128x128_0_256).toLoadRect (View.loadsAt_vmem h_S128x128))
  let v267 : Vec F S128x128 .f32 ← Prog.lift (.load arg3 (Rect.unit (s := S128x2048) ![0, 384] S128x128.size inb_S128x2048_S128x128_0_384).toLoadRect (View.loadsAt_vmem h_S128x128))

  pure ⟨k0_pay115 (F := F) v198 v202 v226 v228 v249, v260, k0_pay116 v198 v202 v226 v228 v249 v259 v261 v263 v265 v267⟩

theorem part26_eq (h : k0_cond6 i = 1#1) (v198 : IVec S128x1536 32) (v202 : IVec S128x1536 1) (v226 : IVec S128x1536 1) (v228 : IVec S128x1536 1) (v235 : FVec F S128x1 .f32) (v241 : FVec F S128x1 .f32) :
    k0_part26_skel (F := F) i arg2 harg2 arg3 harg3 arg4 harg4 arg5 harg5 arg6 harg6 arg7 harg7 arg8 harg8 arg9 harg9 h v198 v202 v226 v228 v235 v241 = part26 i arg2 harg2 arg3 harg3 arg4 harg4 arg5 harg5 arg6 harg6 arg7 harg7 arg8 harg8 arg9 harg9 h v198 v202 v226 v228 v235 v241 := by
  unfold k0_part26_skel part26 cut2
  dsimp only
  split
  · rw [show Scf.Loop.for k0_t6_loop (k0_t6_ok i h) k0_pay112 (k0_t6_body (F := F) i arg2 harg2 arg3 harg3 arg4 harg4 arg5 harg5 arg6 harg6 arg7 harg7 arg8 harg8 arg9 harg9 h v198 v202 v226 v228 v235 v241) = _ from
      Scf.for_pure _ _ _ _ _ _ (fun k acc => k0_pay113 v198 v228 v235 k acc) (fun _ _ => rfl)]
    rfl
  · rfl

/-- The last tied column kept, blocks over 2048 keys. -/
def cut3 (v198 : IVec S128x2048 32) (v228 : IVec S128x2048 1) (v235 : FVec F S128x1 .f32) (v241 : FVec F S128x1 .f32) : IVec S128x1 32 :=
  if Scalar.cmpi .ne (Scalar.extui (Scalar.cmpf .ogt (k0_pay155 v241) (Scalar.ofBits (F := F) .f32 0x00000000#32))) 0#32 = 1#1 then
    Scf.fold (fun (k : Fin k0_t8_loop.trips) acc => k0_pay157 v198 v228 v235 k acc) k0_pay156
  else k0_pay158

/-- The part with the choice made on a value, blocks over 2048 keys. -/
def part36 (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (k0_h8 : k0_cond8 i = 1#1) (v198 : IVec S128x2048 32) (v202 : IVec S128x2048 1) (v226 : IVec S128x2048 1) (v228 : IVec S128x2048 1) (v235 : FVec F S128x1 .f32) (v241 : FVec F S128x1 .f32) :
    Prog (TpuEff nD τ sig (Elt F) Λ₀ .tc) (Σ' (v258 : FVec F S1x128x2048 .f32) (v260 : Vec F S2048x128 .bf16), FVec F S512x2048 .f32) := do

  let v249 : IVec S128x1 32 := cut3 v198 v228 v235 v241
  let v259 : Vec F S2048x128 .bf16 ← Prog.lift (.load arg9 (Rect.unit (s := S2048x1024) ![0, 0] S2048x128.size inb_S2048x1024_S2048x128_0_0).toLoadRect (View.loadsAt_vmem h_S2048x128))
  let v260 : Vec F S2048x128 .bf16 ← Prog.lift (.load arg9 (Rect.unit (s := S2048x1024) ![0, 512] S2048x128.size inb_S2048x1024_S2048x128_0_512).toLoadRect (View.loadsAt_vmem h_S2048x128))
  let v261 : Vec F S128x128 .f32 ← Prog.lift (.load arg3 (Rect.unit (s := S128x2048) ![0, 0] S128x128.size inb_S128x2048_S128x128_0_0).toLoadRect (View.loadsAt_vmem h_S128x128))
  let v263 : Vec F S128x128 .f32 ← Prog.lift (.load arg3 (Rect.unit (s := S128x2048) ![0, 128] S128x128.size inb_S128x2048_S128x128_0_128).toLoadRect (View.loadsAt_vmem h_S128x128))
  let v265 : Vec F S128x128 .f32 ← Prog.lift (.load arg3 (Rect.unit (s := S128x2048) ![0, 256] S128x128.size inb_S128x2048_S128x128_0_256).toLoadRect (View.loadsAt_vmem h_S128x128))
  let v267 : Vec F S128x128 .f32 ← Prog.lift (.load arg3 (Rect.unit (s := S128x2048) ![0, 384] S128x128.size inb_S128x2048_S128x128_0_384).toLoadRect (View.loadsAt_vmem h_S128x128))

  pure ⟨k0_pay159 (F := F) v198 v202 v226 v228 v249, v260, k0_pay160 v198 v202 v226 v228 v249 v259 v261 v263 v265 v267⟩

theorem part36_eq (h : k0_cond8 i = 1#1) (v198 : IVec S128x2048 32) (v202 : IVec S128x2048 1) (v226 : IVec S128x2048 1) (v228 : IVec S128x2048 1) (v235 : FVec F S128x1 .f32) (v241 : FVec F S128x1 .f32) :
    k0_part36_skel (F := F) i arg2 harg2 arg3 harg3 arg4 harg4 arg5 harg5 arg6 harg6 arg7 harg7 arg8 harg8 arg9 harg9 h v198 v202 v226 v228 v235 v241 = part36 i arg2 harg2 arg3 harg3 arg4 harg4 arg5 harg5 arg6 harg6 arg7 harg7 arg8 harg8 arg9 harg9 h v198 v202 v226 v228 v235 v241 := by
  unfold k0_part36_skel part36 cut3
  dsimp only
  split
  · rw [show Scf.Loop.for k0_t8_loop (k0_t8_ok i h) k0_pay156 (k0_t8_body (F := F) i arg2 harg2 arg3 harg3 arg4 harg4 arg5 harg5 arg6 harg6 arg7 harg7 arg8 harg8 arg9 harg9 h v198 v202 v226 v228 v235 v241) = _ from
      Scf.for_pure _ _ _ _ _ _ (fun k acc => k0_pay157 v198 v228 v235 k acc) (fun _ _ => rfl)]
    rfl
  · rfl

end Buffers

end Cert.Kernel.Att

end
-- ==== Proof.KSplit.lean ====
/- The body of one grid point in two halves: the copy of the keys and values into the scratch arrays, made at the first block of a
   batch, and the work of the block itself, on the prefix length its place in the sequence asks for. -/
module

public import proofs.«01_k».proof.Proof.KCond
public import Idealize.ShloMosaic.Lib.VecWindow

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

/-- The copy of the keys and of the values, rounded, into the scratch arrays, at the first block of a batch. -/
def fillP (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (k : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v33 : Vec F S2048x128 .f32 ← Prog.lift (.load arg5 (Rect.unit (s := S2048x128) ![0, 0] S2048x128.size inb_S2048x128_S2048x128_0_0).toLoadRect (View.loadsAt_vmem h_S2048x128))
    let v36 : Vec F S2048x128 .bf16 ← Prog.lift (.load arg8 (Rect.unit (s := S2048x128) ![0, 0] S2048x128.size inb_S2048x128_S2048x128_0_0).toLoadRect (View.loadsAt_vmem h_S2048x128))
    Prog.lift (.store arg8 (Rect.unit (s := S2048x128) ![0, 0] S2048x128.size inb_S2048x128_S2048x128_0_0) (k0_pay1 v33) Finset.univ (View.stores_vmem h_S2048x128 (harg8.storeExact_slice rfl _ packedbf16_S2048x128_S2048x128_0_0) (fun _ => rfl)) (.inl rfl))
    let v39 : Vec F S2048x1024 .f32 ← Prog.lift (.load arg6 (Rect.unit (s := S2048x1024) ![0, 0] S2048x1024.size inb_S2048x1024_S2048x1024_0_0).toLoadRect (View.loadsAt_vmem h_S2048x1024))
    let v42 : Vec F S2048x1024 .bf16 ← Prog.lift (.load arg9 (Rect.unit (s := S2048x1024) ![0, 0] S2048x1024.size inb_S2048x1024_S2048x1024_0_0).toLoadRect (View.loadsAt_vmem h_S2048x1024))
    Prog.lift (.store arg9 (Rect.unit (s := S2048x1024) ![0, 0] S2048x1024.size inb_S2048x1024_S2048x1024_0_0) (k0_pay2 v39) Finset.univ (View.stores_vmem h_S2048x1024 (harg9.storeExact_slice rfl _ packedbf16_S2048x1024_S2048x1024_0_0) (fun _ => rfl)) (.inl rfl))
    pure ⟨⟩
  else do
    pure ⟨⟩
  k ⟨⟩

/-- The work of one block, one choice for each of the four prefix lengths. -/
def blockP (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) : Prog (TpuEff nD τ sig (Elt F) Λ₀ .tc) PUnit := do
  let arg1 : BitVec 32 := BitVec.ofNat 32 (i 1).val
  if k0_h2 : k0_cond2 i = 1#1 then do
    let ⟨v33, v35, v66, v70, v71, cst_27⟩ : Σ' (v33 : Vec F S512x128 .bf16) (v35 : FVec F S128x128 .f32) (v66 : FVec F S128x512 .f32) (v70 : FVec F S128x512 .f32) (v71 : FVec F S128x1 .f32), F .f32 ← k0_part1 i arg2 harg2 arg3 harg3 arg4 harg4 arg5 harg5 arg6 harg6 arg7 harg7 arg8 harg8 arg9 harg9
    let ⟨v106, v115⟩ : Σ' (v106 : FVec F S128x512 .f32), FVec F S128x512 .f32 ← k0_part2 i arg2 harg2 arg3 harg3 arg4 harg4 arg5 harg5 arg6 harg6 arg7 harg7 arg8 harg8 arg9 harg9 v33 v35 v66 v70 v71 cst_27
    let ⟨v156, v157⟩ : Σ' (v156 : FVec F S128x512 .f32), Vec F S128x128 .f32 ← k0_part3 i arg2 harg2 arg3 harg3 arg4 harg4 arg5 harg5 arg6 harg6 arg7 harg7 arg8 harg8 arg9 harg9 v33 v35 v106 v115
    let ⟨v196, v198, v202⟩ : Σ' (v196 : FVec F S128x512 .f32) (v198 : IVec S128x512 32), IVec S128x512 1 ← k0_part4 i arg2 harg2 arg3 harg3 arg4 harg4 arg5 harg5 arg6 harg6 arg7 harg7 arg8 harg8 arg9 harg9 arg1 v33 v35 v156 v157
    let ⟨v226, v228, v235, v241⟩ : Σ' (v226 : IVec S128x512 1) (v228 : IVec S128x512 1) (v235 : FVec F S128x1 .f32), FVec F S128x1 .f32 ← k0_part5 i arg2 harg2 arg3 harg3 arg4 harg4 arg5 harg5 arg6 harg6 arg7 harg7 arg8 harg8 arg9 harg9 k0_h2 v196 v202
    let ⟨v258, v260, v281⟩ : Σ' (v258 : FVec F S1x128x512 .f32) (v260 : Vec F S512x128 .bf16), FVec F S512x512 .f32 ← k0_part6 i arg2 harg2 arg3 harg3 arg4 harg4 arg5 harg5 arg6 harg6 arg7 harg7 arg8 harg8 arg9 harg9 k0_h2 v198 v202 v226 v228 v235 v241
    let ⟨v302, v313, cst_126⟩ : Σ' (v302 : Vec F S512x128 .bf16) (v313 : FVec F S512x512 .f32), F .f32 ← k0_part7 i arg2 harg2 arg3 harg3 arg4 harg4 arg5 harg5 arg6 harg6 arg7 harg7 arg8 harg8 arg9 harg9 v260 v281
    let ⟨v343, v344, v346, v348⟩ : Σ' (v343 : Vec F S512x128 .bf16) (v344 : Vec F S512x128 .bf16) (v346 : FVec F S128x128 .f32), FVec F S128x128 .f32 ← k0_part8 i arg2 harg2 arg3 harg3 arg4 harg4 arg5 harg5 arg6 harg6 arg7 harg7 arg8 harg8 arg9 harg9 v258 v302 v313 cst_126
    let v385 : Vec F S512x128 .bf16 ← k0_part9 i arg2 harg2 arg3 harg3 arg4 harg4 arg5 harg5 arg6 harg6 arg7 harg7 arg8 harg8 arg9 harg9 v258 v343 v344 v346 v348
    let v414 : FVec F S512x128 .f32 ← k0_part10 i arg2 harg2 arg3 harg3 arg4 harg4 arg5 harg5 arg6 harg6 arg7 harg7 arg8 harg8 arg9 harg9 v258 v385
    let v426 : Vec F S128x128 .bf16 ← Prog.lift (.load arg7 (Rect.unit (s := S128x2048) ![0, 1920] S128x128.size inb_S128x2048_S128x128_0_1920).toLoadRect (View.loadsAt_vmem h_S128x128))
    Prog.lift (.store arg7 (Rect.unit (s := S128x2048) ![0, 1920] S128x128.size inb_S128x2048_S128x128_0_1920) (k0_pay3 v414) Finset.univ (View.stores_vmem h_S128x128 (harg7.storeExact_slice rfl _ packedbf16_S128x2048_S128x128_0_1920) (fun _ => rfl)) (.inl rfl))
    pure ⟨⟩
  else do
    pure ⟨⟩
  if k0_h4 : k0_cond4 i = 1#1 then do
    let ⟨v33, v35, v66, v70, v71, cst_27⟩ : Σ' (v33 : Vec F S1024x128 .bf16) (v35 : FVec F S128x128 .f32) (v66 : FVec F S128x1024 .f32) (v70 : FVec F S128x1024 .f32) (v71 : FVec F S128x1 .f32), F .f32 ← k0_part11 i arg2 harg2 arg3 harg3 arg4 harg4 arg5 harg5 arg6 harg6 arg7 harg7 arg8 harg8 arg9 harg9
    let ⟨v106, v115⟩ : Σ' (v106 : FVec F S128x1024 .f32), FVec F S128x1024 .f32 ← k0_part12 i arg2 harg2 arg3 harg3 arg4 harg4 arg5 harg5 arg6 harg6 arg7 harg7 arg8 harg8 arg9 harg9 v33 v35 v66 v70 v71 cst_27
    let ⟨v156, v157⟩ : Σ' (v156 : FVec F S128x1024 .f32), Vec F S128x128 .f32 ← k0_part13 i arg2 harg2 arg3 harg3 arg4 harg4 arg5 harg5 arg6 harg6 arg7 harg7 arg8 harg8 arg9 harg9 v33 v35 v106 v115
    let ⟨v196, v198, v202⟩ : Σ' (v196 : FVec F S128x1024 .f32) (v198 : IVec S128x1024 32), IVec S128x1024 1 ← k0_part14 i arg2 harg2 arg3 harg3 arg4 harg4 arg5 harg5 arg6 harg6 arg7 harg7 arg8 harg8 arg9 harg9 arg1 v33 v35 v156 v157
    let ⟨v226, v228, v235, v241⟩ : Σ' (v226 : IVec S128x1024 1) (v228 : IVec S128x1024 1) (v235 : FVec F S128x1 .f32), FVec F S128x1 .f32 ← k0_part15 i arg2 harg2 arg3 harg3 arg4 harg4 arg5 harg5 arg6 harg6 arg7 harg7 arg8 harg8 arg9 harg9 k0_h4 v196 v202
    let ⟨v258, v260, v281⟩ : Σ' (v258 : FVec F S1x128x1024 .f32) (v260 : Vec F S1024x128 .bf16), FVec F S512x1024 .f32 ← k0_part16 i arg2 harg2 arg3 harg3 arg4 harg4 arg5 harg5 arg6 harg6 arg7 harg7 arg8 harg8 arg9 harg9 k0_h4 v198 v202 v226 v228 v235 v241
    let ⟨v302, v313, cst_126⟩ : Σ' (v302 : Vec F S1024x128 .bf16) (v313 : FVec F S512x1024 .f32), F .f32 ← k0_part17 i arg2 harg2 arg3 harg3 arg4 harg4 arg5 harg5 arg6 harg6 arg7 harg7 arg8 harg8 arg9 harg9 v260 v281
    let ⟨v343, v344, v346, v348⟩ : Σ' (v343 : Vec F S1024x128 .bf16) (v344 : Vec F S1024x128 .bf16) (v346 : FVec F S128x128 .f32), FVec F S128x128 .f32 ← k0_part18 i arg2 harg2 arg3 harg3 arg4 harg4 arg5 harg5 arg6 harg6 arg7 harg7 arg8 harg8 arg9 harg9 v258 v302 v313 cst_126
    let v385 : Vec F S1024x128 .bf16 ← k0_part19 i arg2 harg2 arg3 harg3 arg4 harg4 arg5 harg5 arg6 harg6 arg7 harg7 arg8 harg8 arg9 harg9 v258 v343 v344 v346 v348
    let v414 : FVec F S512x128 .f32 ← k0_part20 i arg2 harg2 arg3 harg3 arg4 harg4 arg5 harg5 arg6 harg6 arg7 harg7 arg8 harg8 arg9 harg9 v258 v385
    let v426 : Vec F S128x128 .bf16 ← Prog.lift (.load arg7 (Rect.unit (s := S128x2048) ![0, 1920] S128x128.size inb_S128x2048_S128x128_0_1920).toLoadRect (View.loadsAt_vmem h_S128x128))
    Prog.lift (.store arg7 (Rect.unit (s := S128x2048) ![0, 1920] S128x128.size inb_S128x2048_S128x128_0_1920) (k0_pay4 v414) Finset.univ (View.stores_vmem h_S128x128 (harg7.storeExact_slice rfl _ packedbf16_S128x2048_S128x128_0_1920) (fun _ => rfl)) (.inl rfl))
    pure ⟨⟩
  else do
    pure ⟨⟩
  if k0_h6 : k0_cond6 i = 1#1 then do
    let ⟨v33, v35, v66, v70, v71, cst_27⟩ : Σ' (v33 : Vec F S1536x128 .bf16) (v35 : FVec F S128x128 .f32) (v66 : FVec F S128x1536 .f32) (v70 : FVec F S128x1536 .f32) (v71 : FVec F S128x1 .f32), F .f32 ← k0_part21 i arg2 harg2 arg3 harg3 arg4 harg4 arg5 harg5 arg6 harg6 arg7 harg7 arg8 harg8 arg9 harg9
    let ⟨v106, v115⟩ : Σ' (v106 : FVec F S128x1536 .f32), FVec F S128x1536 .f32 ← k0_part22 i arg2 harg2 arg3 harg3 arg4 harg4 arg5 harg5 arg6 harg6 arg7 harg7 arg8 harg8 arg9 harg9 v33 v35 v66 v70 v71 cst_27
    let ⟨v156, v157⟩ : Σ' (v156 : FVec F S128x1536 .f32), Vec F S128x128 .f32 ← k0_part23 i arg2 harg2 arg3 harg3 arg4 harg4 arg5 harg5 arg6 harg6 arg7 harg7 arg8 harg8 arg9 harg9 v33 v35 v106 v115
    let ⟨v196, v198, v202⟩ : Σ' (v196 : FVec F S128x1536 .f32) (v198 : IVec S128x1536 32), IVec S128x1536 1 ← k0_part24 i arg2 harg2 arg3 harg3 arg4 harg4 arg5 harg5 arg6 harg6 arg7 harg7 arg8 harg8 arg9 harg9 arg1 v33 v35 v156 v157
    let ⟨v226, v228, v235, v241⟩ : Σ' (v226 : IVec S128x1536 1) (v228 : IVec S128x1536 1) (v235 : FVec F S128x1 .f32), FVec F S128x1 .f32 ← k0_part25 i arg2 harg2 arg3 harg3 arg4 harg4 arg5 harg5 arg6 harg6 arg7 harg7 arg8 harg8 arg9 harg9 k0_h6 v196 v202
    let ⟨v258, v260, v281⟩ : Σ' (v258 : FVec F S1x128x1536 .f32) (v260 : Vec F S1536x128 .bf16), FVec F S512x1536 .f32 ← k0_part26 i arg2 harg2 arg3 harg3 arg4 harg4 arg5 harg5 arg6 harg6 arg7 harg7 arg8 harg8 arg9 harg9 k0_h6 v198 v202 v226 v228 v235 v241
    let ⟨v302, v313, cst_126⟩ : Σ' (v302 : Vec F S1536x128 .bf16) (v313 : FVec F S512x1536 .f32), F .f32 ← k0_part27 i arg2 harg2 arg3 harg3 arg4 harg4 arg5 harg5 arg6 harg6 arg7 harg7 arg8 harg8 arg9 harg9 v260 v281
    let ⟨v343, v344, v346, v348⟩ : Σ' (v343 : Vec F S1536x128 .bf16) (v344 : Vec F S1536x128 .bf16) (v346 : FVec F S128x128 .f32), FVec F S128x128 .f32 ← k0_part28 i arg2 harg2 arg3 harg3 arg4 harg4 arg5 harg5 arg6 harg6 arg7 harg7 arg8 harg8 arg9 harg9 v258 v302 v313 cst_126
    let v385 : Vec F S1536x128 .bf16 ← k0_part29 i arg2 harg2 arg3 harg3 arg4 harg4 arg5 harg5 arg6 harg6 arg7 harg7 arg8 harg8 arg9 harg9 v258 v343 v344 v346 v348
    let v414 : FVec F S512x128 .f32 ← k0_part30 i arg2 harg2 arg3 harg3 arg4 harg4 arg5 harg5 arg6 harg6 arg7 harg7 arg8 harg8 arg9 harg9 v258 v385
    let v426 : Vec F S128x128 .bf16 ← Prog.lift (.load arg7 (Rect.unit (s := S128x2048) ![0, 1920] S128x128.size inb_S128x2048_S128x128_0_1920).toLoadRect (View.loadsAt_vmem h_S128x128))
    Prog.lift (.store arg7 (Rect.unit (s := S128x2048) ![0, 1920] S128x128.size inb_S128x2048_S128x128_0_1920) (k0_pay5 v414) Finset.univ (View.stores_vmem h_S128x128 (harg7.storeExact_slice rfl _ packedbf16_S128x2048_S128x128_0_1920) (fun _ => rfl)) (.inl rfl))
    pure ⟨⟩
  else do
    pure ⟨⟩
  if k0_h8 : k0_cond8 i = 1#1 then do
    let ⟨v33, v35, v66, v70, v71, cst_27⟩ : Σ' (v33 : Vec F S2048x128 .bf16) (v35 : FVec F S128x128 .f32) (v66 : FVec F S128x2048 .f32) (v70 : FVec F S128x2048 .f32) (v71 : FVec F S128x1 .f32), F .f32 ← k0_part31 i arg2 harg2 arg3 harg3 arg4 harg4 arg5 harg5 arg6 harg6 arg7 harg7 arg8 harg8 arg9 harg9
    let ⟨v106, v115⟩ : Σ' (v106 : FVec F S128x2048 .f32), FVec F S128x2048 .f32 ← k0_part32 i arg2 harg2 arg3 harg3 arg4 harg4 arg5 harg5 arg6 harg6 arg7 harg7 arg8 harg8 arg9 harg9 v33 v35 v66 v70 v71 cst_27
    let ⟨v156, v157⟩ : Σ' (v156 : FVec F S128x2048 .f32), Vec F S128x128 .f32 ← k0_part33 i arg2 harg2 arg3 harg3 arg4 harg4 arg5 harg5 arg6 harg6 arg7 harg7 arg8 harg8 arg9 harg9 v33 v35 v106 v115
    let ⟨v196, v198, v202⟩ : Σ' (v196 : FVec F S128x2048 .f32) (v198 : IVec S128x2048 32), IVec S128x2048 1 ← k0_part34 i arg2 harg2 arg3 harg3 arg4 harg4 arg5 harg5 arg6 harg6 arg7 harg7 arg8 harg8 arg9 harg9 arg1 v33 v35 v156 v157
    let ⟨v226, v228, v235, v241⟩ : Σ' (v226 : IVec S128x2048 1) (v228 : IVec S128x2048 1) (v235 : FVec F S128x1 .f32), FVec F S128x1 .f32 ← k0_part35 i arg2 harg2 arg3 harg3 arg4 harg4 arg5 harg5 arg6 harg6 arg7 harg7 arg8 harg8 arg9 harg9 k0_h8 v196 v202
    let ⟨v258, v260, v281⟩ : Σ' (v258 : FVec F S1x128x2048 .f32) (v260 : Vec F S2048x128 .bf16), FVec F S512x2048 .f32 ← k0_part36 i arg2 harg2 arg3 harg3 arg4 harg4 arg5 harg5 arg6 harg6 arg7 harg7 arg8 harg8 arg9 harg9 k0_h8 v198 v202 v226 v228 v235 v241
    let ⟨v302, v313, cst_126⟩ : Σ' (v302 : Vec F S2048x128 .bf16) (v313 : FVec F S512x2048 .f32), F .f32 ← k0_part37 i arg2 harg2 arg3 harg3 arg4 harg4 arg5 harg5 arg6 harg6 arg7 harg7 arg8 harg8 arg9 harg9 v260 v281
    let ⟨v343, v344, v346, v348⟩ : Σ' (v343 : Vec F S2048x128 .bf16) (v344 : Vec F S2048x128 .bf16) (v346 : FVec F S128x128 .f32), FVec F S128x128 .f32 ← k0_part38 i arg2 harg2 arg3 harg3 arg4 harg4 arg5 harg5 arg6 harg6 arg7 harg7 arg8 harg8 arg9 harg9 v258 v302 v313 cst_126
    let v385 : Vec F S2048x128 .bf16 ← k0_part39 i arg2 harg2 arg3 harg3 arg4 harg4 arg5 harg5 arg6 harg6 arg7 harg7 arg8 harg8 arg9 harg9 v258 v343 v344 v346 v348
    let v414 : FVec F S512x128 .f32 ← k0_part40 i arg2 harg2 arg3 harg3 arg4 harg4 arg5 harg5 arg6 harg6 arg7 harg7 arg8 harg8 arg9 harg9 v258 v385
    let v426 : Vec F S128x128 .bf16 ← Prog.lift (.load arg7 (Rect.unit (s := S128x2048) ![0, 1920] S128x128.size inb_S128x2048_S128x128_0_1920).toLoadRect (View.loadsAt_vmem h_S128x128))
    Prog.lift (.store arg7 (Rect.unit (s := S128x2048) ![0, 1920] S128x128.size inb_S128x2048_S128x128_0_1920) (k0_pay6 v414) Finset.univ (View.stores_vmem h_S128x128 (harg7.storeExact_slice rfl _ packedbf16_S128x2048_S128x128_0_1920) (fun _ => rfl)) (.inl rfl))
    pure ⟨⟩
  else do
    pure ⟨⟩
  pure ⟨⟩

/-- The condition of the copy. -/
abbrev atFirst (i : grid0.Coords) : Prop := (Scalar.cmpi .ne (Scalar.extui (Scalar.cmpi .eq (BitVec.ofNat 32 (i 1).val) 0#32)) 0#32) = 1#1

theorem body_split (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) :
    cc0_dsa_prompt_skel (F := F) i arg2 harg2 arg3 harg3 arg4 harg4 arg5 harg5 arg6 harg6 arg7 harg7 arg8 harg8 arg9 harg9 = fillP i arg2 harg2 arg3 harg3 arg4 harg4 arg5 harg5 arg6 harg6 arg7 harg7 arg8 harg8 arg9 harg9 (fun _ => blockP i arg2 harg2 arg3 harg3 arg4 harg4 arg5 harg5 arg6 harg6 arg7 harg7 arg8 harg8 arg9 harg9) := rfl

/-- At the first block of a batch the scratch arrays end at the rounded keys and values. -/
theorem fill_first (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (h : atFirst i)
    (x3 : Vec F S2048x128 .f32) (x4 : Vec F S2048x1024 .f32) (k : PUnit.{1} → Prog (TpuEff nD τ sig (Elt F) Λ₀ .tc) PUnit) (E : Set ℕ) (K : PUnit → sProp 𝕄) :
    iprop(owns (c : Thread nD τ) arg5 fullShare x3 ∗ owns (c : Thread nD τ) arg6 fullShare x4 ∗ (∃ d, owns (c : Thread nD τ) arg8 fullShare d) ∗ (∃ d, owns (c : Thread nD τ) arg9 fullShare d)
        ∗ (iprop(owns (c : Thread nD τ) arg5 fullShare x3 ∗ owns (c : Thread nD τ) arg6 fullShare x4 ∗ owns (c : Thread nD τ) arg8 fullShare (k0_pay1 x3) ∗ owns (c : Thread nD τ) arg9 fullShare (k0_pay2 x4))
            -∗ wp frame (wpE (defs₀ (F := F)) Variants.none c none) E (k ⟨⟩) K))
      ⊢ wp frame (wpE (defs₀ (F := F)) Variants.none c none) E (fillP i arg2 harg2 arg3 harg3 arg4 harg4 arg5 harg5 arg6 harg6 arg7 harg7 arg8 harg8 arg9 harg9 k) K := by
  unfold fillP owns
  iintro ⟨⟨%f3, %hf3, H3⟩, ⟨%f4, %hf4, H4⟩, ⟨%d8, %f8, -, H8⟩, ⟨%d9, %f9, -, H9⟩, Hk⟩
  obtain rfl := harg5.eq_unread hf3; obtain rfl := harg6.eq_unread hf4
  sl_exec (disch := sl_exact h)
  iapply Hk
  isplitl [H3]
  · iexists _; isplitr; · ipureintro; exact harg5.read_unread _
    iexact H3
  isplitl [H4]
  · iexists _; isplitr; · ipureintro; exact harg6.read_unread _
    iexact H4
  isplitl [H8]
  · iexists _; isplitr
    swap; · iexact H8
    ipureintro; exact (View.read_writes_full _ _ _ _ _).trans (congrArg k0_pay1 ((View.readAt_full _ _ _).trans (harg5.read_unread _)))
  iexists _; isplitr
  swap; · iexact H9
  ipureintro; exact (View.read_writes_full _ _ _ _ _).trans (congrArg k0_pay2 ((View.readAt_full _ _ _).trans (harg6.read_unread _)))

/-- At any other block nothing is copied. -/
theorem fill_later (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (h : ¬ atFirst i) (k : PUnit.{1} → Prog (TpuEff nD τ sig (Elt F) Λ₀ .tc) PUnit) :
    fillP (F := F) i arg2 harg2 arg3 harg3 arg4 harg4 arg5 harg5 arg6 harg6 arg7 harg7 arg8 harg8 arg9 harg9 k = k ⟨⟩ := by
  exact dif_neg h

end Cert.Kernel.Att

end
-- ==== Proof.KRun0.lean ====
/- The run of a block over 512 keys. -/
module

public import proofs.«01_k».proof.Proof.KSplit

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 1000000 in
/-- The pieces a block over 512 keys writes, last first, with the proof that from its queries, its index queries and weights
    and the scratch arrays the block runs to their being written into the result's buffer. -/
def run0 (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (hc0 : k0_cond2 i = 1#1) (hc1 : ¬ k0_cond4 i = 1#1) (hc2 : ¬ k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L) ∗ owns (c : Thread nD τ) arg8 fullShare s0 ∗ owns (c : Thread nD τ) arg9 fullShare s1) -∗ K ⟨⟩))
          ⊢ wp frame (wpE (defs₀ (F := F)) Variants.none c none) E (blockP i arg2 harg2 arg3 harg3 arg4 harg4 arg5 harg5 arg6 harg6 arg7 harg7 arg8 harg8 arg9 harg9) K } := by
  refine ⟨?_, fun E K => ?run⟩
  case run =>
    unfold blockP
    simp only [k0_part1_eq_skeleton, k0_part2_eq_skeleton, k0_part3_eq_skeleton, k0_part4_eq_skeleton, k0_part5_eq_skeleton, part6_eq, k0_part7_eq_skeleton, k0_part8_eq_skeleton, k0_part9_eq_skeleton, k0_part10_eq_skeleton, k0_part6_eq_skeleton, part6]
    unfold owns
    iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HS0]
    · iexists _; isplitr; · ipureintro; exact harg8.read_unread _
      iexact HS0
    iexists _; isplitr; · ipureintro; exact harg9.read_unread _
    iexact HS1

end Cert.Kernel.Att

end
-- ==== Proof.KRun1.lean ====
/- The run of a block over 1024 keys. -/
module

public import proofs.«01_k».proof.Proof.KRun0

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 1000000 in
/-- The pieces a block over 1024 keys writes, last first, with the proof that from its queries, its index queries and weights
    and the scratch arrays the block runs to their being written into the result's buffer. -/
def run1 (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (hc0 : ¬ k0_cond2 i = 1#1) (hc1 : k0_cond4 i = 1#1) (hc2 : ¬ k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L) ∗ owns (c : Thread nD τ) arg8 fullShare s0 ∗ owns (c : Thread nD τ) arg9 fullShare s1) -∗ K ⟨⟩))
          ⊢ wp frame (wpE (defs₀ (F := F)) Variants.none c none) E (blockP i arg2 harg2 arg3 harg3 arg4 harg4 arg5 harg5 arg6 harg6 arg7 harg7 arg8 harg8 arg9 harg9) K } := by
  refine ⟨?_, fun E K => ?run⟩
  case run =>
    unfold blockP
    simp only [k0_part11_eq_skeleton, k0_part12_eq_skeleton, k0_part13_eq_skeleton, k0_part14_eq_skeleton, k0_part15_eq_skeleton, part16_eq, k0_part17_eq_skeleton, k0_part18_eq_skeleton, k0_part19_eq_skeleton, k0_part20_eq_skeleton, k0_part16_eq_skeleton, part16]
    unfold owns
    iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HS0]
    · iexists _; isplitr; · ipureintro; exact harg8.read_unread _
      iexact HS0
    iexists _; isplitr; · ipureintro; exact harg9.read_unread _
    iexact HS1

end Cert.Kernel.Att

end
-- ==== Proof.KRun2.lean ====
/- The run of a block over 1536 keys. -/
module

public import proofs.«01_k».proof.Proof.KRun1

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 1000000 in
/-- The pieces a block over 1536 keys writes, last first, with the proof that from its queries, its index queries and weights
    and the scratch arrays the block runs to their being written into the result's buffer. -/
def run2 (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (hc0 : ¬ k0_cond2 i = 1#1) (hc1 : ¬ k0_cond4 i = 1#1) (hc2 : k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L) ∗ owns (c : Thread nD τ) arg8 fullShare s0 ∗ owns (c : Thread nD τ) arg9 fullShare s1) -∗ K ⟨⟩))
          ⊢ wp frame (wpE (defs₀ (F := F)) Variants.none c none) E (blockP i arg2 harg2 arg3 harg3 arg4 harg4 arg5 harg5 arg6 harg6 arg7 harg7 arg8 harg8 arg9 harg9) K } := by
  refine ⟨?_, fun E K => ?run⟩
  case run =>
    unfold blockP
    simp only [k0_part21_eq_skeleton, k0_part22_eq_skeleton, k0_part23_eq_skeleton, k0_part24_eq_skeleton, k0_part25_eq_skeleton, part26_eq, k0_part27_eq_skeleton, k0_part28_eq_skeleton, k0_part29_eq_skeleton, k0_part30_eq_skeleton, k0_part26_eq_skeleton, part26]
    unfold owns
    iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HS0]
    · iexists _; isplitr; · ipureintro; exact harg8.read_unread _
      iexact HS0
    iexists _; isplitr; · ipureintro; exact harg9.read_unread _
    iexact HS1

end Cert.Kernel.Att

end
-- ==== Proof.KRun3.lean ====
/- The run of a block over 2048 keys. -/
module

public import proofs.«01_k».proof.Proof.KRun2

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 1000000 in
/-- The pieces a block over 2048 keys writes, last first, with the proof that from its queries, its index queries and weights
    and the scratch arrays the block runs to their being written into the result's buffer. -/
def run3 (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S2048x1024 .bf16) (harg9 : arg9.IsWhole) (hc0 : ¬ k0_cond2 i = 1#1) (hc1 : ¬ k0_cond4 i = 1#1) (hc2 : ¬ k0_cond6 i = 1#1) (hc3 : k0_cond8 i = 1#1)
    (x0 : Vec F S128x2048 .f32) (x1 : Vec F S128x2048 .f32) (x2 : Vec F S128x128 .f32) (s0 : Vec F S2048x128 .bf16) (s1 : Vec F S2048x1024 .bf16) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L) ∗ owns (c : Thread nD τ) arg8 fullShare s0 ∗ owns (c : Thread nD τ) arg9 fullShare s1) -∗ K ⟨⟩))
          ⊢ wp frame (wpE (defs₀ (F := F)) Variants.none c none) E (blockP i arg2 harg2 arg3 harg3 arg4 harg4 arg5 harg5 arg6 harg6 arg7 harg7 arg8 harg8 arg9 harg9) K } := by
  refine ⟨?_, fun E K => ?run⟩
  case run =>
    unfold blockP
    simp only [k0_part31_eq_skeleton, k0_part32_eq_skeleton, k0_part33_eq_skeleton, k0_part34_eq_skeleton, k0_part35_eq_skeleton, part36_eq, k0_part37_eq_skeleton, k0_part38_eq_skeleton, k0_part39_eq_skeleton, k0_part40_eq_skeleton, k0_part36_eq_skeleton, part36]
    unfold owns
    iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HS0]
    · iexists _; isplitr; · ipureintro; exact harg8.read_unread _
      iexact HS0
    iexists _; isplitr; · ipureintro; exact harg9.read_unread _
    iexact HS1

end Cert.Kernel.Att

end
-- ==== Proof.KPieces.lean ====
/- What a block writes, as a function of its queries, its index queries and weights and the scratch arrays: the pieces of the
   result, one list for each of the four prefix lengths, and what the pieces read back. -/
module

public import proofs.«01_k».proof.Proof.KRun3

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

/-- The 256th largest key of each row, blocks over 512 keys. -/
def tau0 (v196 : FVec F S128x512 .f32) (v202 : IVec S128x512 1) : IVec S128x1 32 :=
  Scf.fold (fun (k : Fin k0_t1_loop.trips) acc => k0_pay18 v196 v202 k acc) (k0_pay17 v196 v202)

/-- The pieces of a block over 512 keys, last first. -/
def pcs0 (arg1 : BitVec 32) (x0 : Vec F S128x2048 .f32) (x1 : Vec F S128x2048 .f32) (x2 : Vec F S128x128 .f32) (s0 : Vec F S2048x128 .bf16) (s1 : Vec F S2048x1024 .bf16) :
    List (View.Piece (Elt F) S128x2048 .bf16) :=
  let v33 : Vec F S512x128 .bf16 := VecWindow.window s0 ![0, 0] S512x128.size inb_S2048x128_S512x128_0_0
  let v34 : Vec F S128x128 .f32 := VecWindow.window x2 ![0, 0] S128x128.size inb_S128x128_S128x128_0_0
  let v37 : Vec F S128x128 .f32 := VecWindow.window x0 ![0, 0] S128x128.size inb_S128x2048_S128x128_0_0
  let v47 : Vec F S128x128 .f32 := VecWindow.window x0 ![0, 128] S128x128.size inb_S128x2048_S128x128_0_128
  let v57 : Vec F S128x128 .f32 := VecWindow.window x0 ![0, 256] S128x128.size inb_S128x2048_S128x128_0_256
  let v67 : Vec F S128x128 .f32 := VecWindow.window x0 ![0, 384] S128x128.size inb_S128x2048_S128x128_0_384
  let cst_27 : F .f32 := Scalar.ofBits .f32 0x00000000#32
  let v35 : FVec F S128x128 .f32 := k0_pay7 v34
  let v66 : FVec F S128x512 .f32 := k0_pay8 v33 v34 v37 v47 v57
  let v70 : FVec F S128x512 .f32 := k0_pay9 v33 v67
  let v71 : FVec F S128x1 .f32 := k0_pay10 v34
  let v77 : Vec F S128x128 .f32 := VecWindow.window x0 ![0, 512] S128x128.size inb_S128x2048_S128x128_0_512
  let v87 : Vec F S128x128 .f32 := VecWindow.window x0 ![0, 640] S128x128.size inb_S128x2048_S128x128_0_640
  let v97 : Vec F S128x128 .f32 := VecWindow.window x0 ![0, 768] S128x128.size inb_S128x2048_S128x128_0_768
  let v107 : Vec F S128x128 .f32 := VecWindow.window x0 ![0, 896] S128x128.size inb_S128x2048_S128x128_0_896
  let v106 : FVec F S128x512 .f32 := k0_pay11 v33 v35 v66 v70 v71 cst_27 v77 v87 v97
  let v115 : FVec F S128x512 .f32 := k0_pay12 v33 v35 v107
  let v117 : Vec F S128x128 .f32 := VecWindow.window x0 ![0, 1024] S128x128.size inb_S128x2048_S128x128_0_1024
  let v127 : Vec F S128x128 .f32 := VecWindow.window x0 ![0, 1152] S128x128.size inb_S128x2048_S128x128_0_1152
  let v137 : Vec F S128x128 .f32 := VecWindow.window x0 ![0, 1280] S128x128.size inb_S128x2048_S128x128_0_1280
  let v147 : Vec F S128x128 .f32 := VecWindow.window x0 ![0, 1408] S128x128.size inb_S128x2048_S128x128_0_1408
  let v157 : Vec F S128x128 .f32 := VecWindow.window x0 ![0, 1536] S128x128.size inb_S128x2048_S128x128_0_1536
  let v156 : FVec F S128x512 .f32 := k0_pay13 v33 v35 v106 v115 v117 v127 v137 v147
  let v167 : Vec F S128x128 .f32 := VecWindow.window x0 ![0, 1664] S128x128.size inb_S128x2048_S128x128_0_1664
  let v177 : Vec F S128x128 .f32 := VecWindow.window x0 ![0, 1792] S128x128.size inb_S128x2048_S128x128_0_1792
  let v187 : Vec F S128x128 .f32 := VecWindow.window x0 ![0, 1920] S128x128.size inb_S128x2048_S128x128_0_1920
  let v198 : IVec S128x512 32 := iota .tc S128x512 32 [1] iota_S128x512_d1_w32
  let v196 : FVec F S128x512 .f32 := k0_pay14 v33 v35 v156 v157 v167 v177 v187
  let v202 : IVec S128x512 1 := k0_pay15 arg1
  let v224 : IVec S128x1 32 := tau0 v196 v202
  let v226 : IVec S128x512 1 := k0_pay19 v196 v202 v224
  let v228 : IVec S128x512 1 := k0_pay20 v196 v202 v224
  let v235 : FVec F S128x1 .f32 := k0_pay21 v196 v202 v224
  let v241 : FVec F S128x1 .f32 := k0_pay22 v196 v202 v224
  let v249 : IVec S128x1 32 := cut0 v198 v228 v235 v241
  let v259 : Vec F S512x128 .bf16 := VecWindow.window s1 ![0, 0] S512x128.size inb_S2048x1024_S512x128_0_0
  let v260 : Vec F S512x128 .bf16 := VecWindow.window s1 ![0, 512] S512x128.size inb_S2048x1024_S512x128_0_512
  let v261 : Vec F S128x128 .f32 := VecWindow.window x1 ![0, 0] S128x128.size inb_S128x2048_S128x128_0_0
  let v263 : Vec F S128x128 .f32 := VecWindow.window x1 ![0, 128] S128x128.size inb_S128x2048_S128x128_0_128
  let v265 : Vec F S128x128 .f32 := VecWindow.window x1 ![0, 256] S128x128.size inb_S128x2048_S128x128_0_256
  let v267 : Vec F S128x128 .f32 := VecWindow.window x1 ![0, 384] S128x128.size inb_S128x2048_S128x128_0_384
  let v258 : FVec F S1x128x512 .f32 := k0_pay27 (F := F) v198 v202 v226 v228 v249
  let v281 : FVec F S512x512 .f32 := k0_pay28 v198 v202 v226 v228 v249 v259 v261 v263 v265 v267
  let v301 : Vec F S512x128 .bf16 := VecWindow.window s1 ![0, 128] S512x128.size inb_S2048x1024_S512x128_0_128
  let v302 : Vec F S512x128 .bf16 := VecWindow.window s1 ![0, 640] S512x128.size inb_S2048x1024_S512x128_0_640
  let v303 : Vec F S128x128 .f32 := VecWindow.window x1 ![0, 512] S128x128.size inb_S128x2048_S128x128_0_512
  let v305 : Vec F S128x128 .f32 := VecWindow.window x1 ![0, 640] S128x128.size inb_S128x2048_S128x128_0_640
  let v307 : Vec F S128x128 .f32 := VecWindow.window x1 ![0, 768] S128x128.size inb_S128x2048_S128x128_0_768
  let v309 : Vec F S128x128 .f32 := VecWindow.window x1 ![0, 896] S128x128.size inb_S128x2048_S128x128_0_896
  let cst_126 : F .f32 := Scalar.ofBits .f32 0x3DB504F3#32
  let v313 : FVec F S512x512 .f32 := k0_pay34 v301 v303 v305 v307 v309
  let v343 : Vec F S512x128 .bf16 := VecWindow.window s1 ![0, 256] S512x128.size inb_S2048x1024_S512x128_0_256
  let v344 : Vec F S512x128 .bf16 := VecWindow.window s1 ![0, 768] S512x128.size inb_S2048x1024_S512x128_0_768
  let v345 : Vec F S128x128 .f32 := VecWindow.window x1 ![0, 1024] S128x128.size inb_S128x2048_S128x128_0_1024
  let v347 : Vec F S128x128 .f32 := VecWindow.window x1 ![0, 1152] S128x128.size inb_S128x2048_S128x128_0_1152
  let v346 : FVec F S128x128 .f32 := k0_pay40 v345
  let v348 : FVec F S128x128 .f32 := k0_pay41 v347
  let v349 : Vec F S128x128 .f32 := VecWindow.window x1 ![0, 1280] S128x128.size inb_S128x2048_S128x128_0_1280
  let v351 : Vec F S128x128 .f32 := VecWindow.window x1 ![0, 1408] S128x128.size inb_S128x2048_S128x128_0_1408
  let v385 : Vec F S512x128 .bf16 := VecWindow.window s1 ![0, 384] S512x128.size inb_S2048x1024_S512x128_0_384
  let c0_165 : Index := 0#32
  let c896_166 : Index := 896#32
  let v386 : Vec F S512x128 .bf16 := VecWindow.window s1 ![0, 896] S512x128.size inb_S2048x1024_S512x128_0_896
  let v387 : Vec F S128x128 .f32 := VecWindow.window x1 ![0, 1536] S128x128.size inb_S128x2048_S128x128_0_1536
  let v389 : Vec F S128x128 .f32 := VecWindow.window x1 ![0, 1664] S128x128.size inb_S128x2048_S128x128_0_1664
  let v391 : Vec F S128x128 .f32 := VecWindow.window x1 ![0, 1792] S128x128.size inb_S128x2048_S128x128_0_1792
  let v393 : Vec F S128x128 .f32 := VecWindow.window x1 ![0, 1920] S128x128.size inb_S128x2048_S128x128_0_1920
  let v414 : FVec F S512x128 .f32 := (k0_pay47 v258 v385 v386 v387 v389 v391 v393)
  [⟨Rect.unit (s := S128x2048) ![0, 1920] S128x128.size inb_S128x2048_S128x128_0_1920, (k0_pay3 v414)⟩,
   ⟨Rect.unit (s := S128x2048) ![0, 1792] S128x128.size inb_S128x2048_S128x128_0_1792, (k0_pay50 v258 v385 v386 v387 v389 v391 v393)⟩,
   ⟨Rect.unit (s := S128x2048) ![0, 1664] S128x128.size inb_S128x2048_S128x128_0_1664, (k0_pay49 v258 v385 v386 v387 v389 v391 v393)⟩,
   ⟨Rect.unit (s := S128x2048) ![0, 1536] S128x128.size inb_S128x2048_S128x128_0_1536, (k0_pay48 v258 v385 v386 v387 v389 v391 v393)⟩,
   ⟨Rect.unit (s := S128x2048) ![0, 1408] S128x128.size inb_S128x2048_S128x128_0_1408, (k0_pay46 v258 v343 v344 v346 v348 v349 v351)⟩,
   ⟨Rect.unit (s := S128x2048) ![0, 1280] S128x128.size inb_S128x2048_S128x128_0_1280, (k0_pay45 v258 v343 v344 v346 v348 v349 v351)⟩,
   ⟨Rect.unit (s := S128x2048) ![0, 1152] S128x128.size inb_S128x2048_S128x128_0_1152, (k0_pay44 v258 v343 v344 v346 v348 v349 v351)⟩,
   ⟨Rect.unit (s := S128x2048) ![0, 1024] S128x128.size inb_S128x2048_S128x128_0_1024, (k0_pay43 v258 v343 v344 v346 v348 v349 v351)⟩,
   ⟨Rect.unit (s := S128x2048) ![0, 896] S128x128.size inb_S128x2048_S128x128_0_896, (k0_pay39 v258 v302 v313 cst_126)⟩,
   ⟨Rect.unit (s := S128x2048) ![0, 768] S128x128.size inb_S128x2048_S128x128_0_768, (k0_pay38 v258 v302 v313 cst_126)⟩,
   ⟨Rect.unit (s := S128x2048) ![0, 640] S128x128.size inb_S128x2048_S128x128_0_640, (k0_pay37 v258 v302 v313 cst_126)⟩,
   ⟨Rect.unit (s := S128x2048) ![0, 512] S128x128.size inb_S128x2048_S128x128_0_512, (k0_pay36 v258 v302 v313 cst_126)⟩,
   ⟨Rect.unit (s := S128x2048) ![0, 384] S128x128.size inb_S128x2048_S128x128_0_384, (k0_pay33 v260 v281)⟩,
   ⟨Rect.unit (s := S128x2048) ![0, 256] S128x128.size inb_S128x2048_S128x128_0_256, (k0_pay32 v260 v281)⟩,
   ⟨Rect.unit (s := S128x2048) ![0, 128] S128x128.size inb_S128x2048_S128x128_0_128, (k0_pay31 v260 v281)⟩,
   ⟨Rect.unit (s := S128x2048) ![0, 0] S128x128.size inb_S128x2048_S128x128_0_0, (k0_pay30 v260 v281)⟩]

theorem cover0 (arg1 : BitVec 32) (x0 : Vec F S128x2048 .f32) (x1 : Vec F S128x2048 .f32) (x2 : Vec F S128x128 .f32) (s0 : Vec F S2048x128 .bf16) (s1 : Vec F S2048x1024 .bf16) (y : S128x2048.Idx) :
    ∃ pc ∈ pcs0 arg1 x0 x1 x2 s0 s1, y ∈ pc.1.set :=
  View.cover_of_tiledL (pcs0 arg1 x0 x1 x2 s0 s1) S128x128.size (by sl_kernel_rfl) y

section Buffers

variable (c : Dev nD) (i : grid0.Coords)
  (arg2 : Memref sig .tc .vmem S128x2048 .f32) (harg2 : arg2.IsWhole)
  (arg3 : Memref sig .tc .vmem S128x2048 .f32) (harg3 : arg3.IsWhole)
  (arg4 : Memref sig .tc .vmem S128x128 .f32) (harg4 : arg4.IsWhole)
  (arg5 : Memref sig .tc .vmem S2048x128 .f32) (harg5 : arg5.IsWhole)
  (arg6 : Memref sig .tc .vmem S2048x1024 .f32) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S2048x1024 .bf16) (harg9 : arg9.IsWhole)

/-- The run of the block ends with these pieces. -/
theorem run0_pieces (hc0 : k0_cond2 i = 1#1) (hc1 : ¬ k0_cond4 i = 1#1) (hc2 : ¬ k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    (run0 c i arg2 harg2 arg3 harg3 arg4 harg4 arg5 harg5 arg6 harg6 arg7 harg7 arg8 harg8 arg9 harg9 hc0 hc1 hc2 hc3 x0 x1 x2 s0 s1).1 = pcs0 (BitVec.ofNat 32 (i 1).val) x0 x1 x2 s0 s1 := by
  have h : (run0 c i arg2 harg2 arg3 harg3 arg4 harg4 arg5 harg5 arg6 harg6 arg7 harg7 arg8 harg8 arg9 harg9 hc0 hc1 hc2 hc3 x0 x1 x2 s0 s1).1
      = pcs0 (BitVec.ofNat 32 (i 1).val) (arg2.view.read (Elt F) (harg2.unread x0)) (arg3.view.read (Elt F) (harg3.unread x1))
          (arg4.view.read (Elt F) (harg4.unread x2)) (arg8.view.read (Elt F) (harg8.unread s0)) (arg9.view.read (Elt F) (harg9.unread s1)) := rfl
  rw [h, harg2.read_unread, harg3.read_unread, harg4.read_unread, harg8.read_unread, harg9.read_unread]

/-- The 256th largest key of each row, blocks over 1024 keys. -/
def tau1 (v196 : FVec F S128x1024 .f32) (v202 : IVec S128x1024 1) : IVec S128x1 32 :=
  Scf.fold (fun (k : Fin k0_t3_loop.trips) acc => k0_pay62 v196 v202 k acc) (k0_pay61 v196 v202)

/-- The pieces of a block over 1024 keys, last first. -/
def pcs1 (arg1 : BitVec 32) (x0 : Vec F S128x2048 .f32) (x1 : Vec F S128x2048 .f32) (x2 : Vec F S128x128 .f32) (s0 : Vec F S2048x128 .bf16) (s1 : Vec F S2048x1024 .bf16) :
    List (View.Piece (Elt F) S128x2048 .bf16) :=
  let v33 : Vec F S1024x128 .bf16 := VecWindow.window s0 ![0, 0] S1024x128.size inb_S2048x128_S1024x128_0_0
  let v34 : Vec F S128x128 .f32 := VecWindow.window x2 ![0, 0] S128x128.size inb_S128x128_S128x128_0_0
  let v37 : Vec F S128x128 .f32 := VecWindow.window x0 ![0, 0] S128x128.size inb_S128x2048_S128x128_0_0
  let v47 : Vec F S128x128 .f32 := VecWindow.window x0 ![0, 128] S128x128.size inb_S128x2048_S128x128_0_128
  let v57 : Vec F S128x128 .f32 := VecWindow.window x0 ![0, 256] S128x128.size inb_S128x2048_S128x128_0_256
  let v67 : Vec F S128x128 .f32 := VecWindow.window x0 ![0, 384] S128x128.size inb_S128x2048_S128x128_0_384
  let cst_27 : F .f32 := Scalar.ofBits .f32 0x00000000#32
  let v35 : FVec F S128x128 .f32 := k0_pay51 v34
  let v66 : FVec F S128x1024 .f32 := k0_pay52 v33 v34 v37 v47 v57
  let v70 : FVec F S128x1024 .f32 := k0_pay53 v33 v67
  let v71 : FVec F S128x1 .f32 := k0_pay54 v34
  let v77 : Vec F S128x128 .f32 := VecWindow.window x0 ![0, 512] S128x128.size inb_S128x2048_S128x128_0_512
  let v87 : Vec F S128x128 .f32 := VecWindow.window x0 ![0, 640] S128x128.size inb_S128x2048_S128x128_0_640
  let v97 : Vec F S128x128 .f32 := VecWindow.window x0 ![0, 768] S128x128.size inb_S128x2048_S128x128_0_768
  let v107 : Vec F S128x128 .f32 := VecWindow.window x0 ![0, 896] S128x128.size inb_S128x2048_S128x128_0_896
  let v106 : FVec F S128x1024 .f32 := k0_pay55 v33 v35 v66 v70 v71 cst_27 v77 v87 v97
  let v115 : FVec F S128x1024 .f32 := k0_pay56 v33 v35 v107
  let v117 : Vec F S128x128 .f32 := VecWindow.window x0 ![0, 1024] S128x128.size inb_S128x2048_S128x128_0_1024
  let v127 : Vec F S128x128 .f32 := VecWindow.window x0 ![0, 1152] S128x128.size inb_S128x2048_S128x128_0_1152
  let v137 : Vec F S128x128 .f32 := VecWindow.window x0 ![0, 1280] S128x128.size inb_S128x2048_S128x128_0_1280
  let v147 : Vec F S128x128 .f32 := VecWindow.window x0 ![0, 1408] S128x128.size inb_S128x2048_S128x128_0_1408
  let v157 : Vec F S128x128 .f32 := VecWindow.window x0 ![0, 1536] S128x128.size inb_S128x2048_S128x128_0_1536
  let v156 : FVec F S128x1024 .f32 := k0_pay57 v33 v35 v106 v115 v117 v127 v137 v147
  let v167 : Vec F S128x128 .f32 := VecWindow.window x0 ![0, 1664] S128x128.size inb_S128x2048_S128x128_0_1664
  let v177 : Vec F S128x128 .f32 := VecWindow.window x0 ![0, 1792] S128x128.size inb_S128x2048_S128x128_0_1792
  let v187 : Vec F S128x128 .f32 := VecWindow.window x0 ![0, 1920] S128x128.size inb_S128x2048_S128x128_0_1920
  let v198 : IVec S128x1024 32 := iota .tc S128x1024 32 [1] iota_S128x1024_d1_w32
  let v196 : FVec F S128x1024 .f32 := k0_pay58 v33 v35 v156 v157 v167 v177 v187
  let v202 : IVec S128x1024 1 := k0_pay59 arg1
  let v224 : IVec S128x1 32 := tau1 v196 v202
  let v226 : IVec S128x1024 1 := k0_pay63 v196 v202 v224
  let v228 : IVec S128x1024 1 := k0_pay64 v196 v202 v224
  let v235 : FVec F S128x1 .f32 := k0_pay65 v196 v202 v224
  let v241 : FVec F S128x1 .f32 := k0_pay66 v196 v202 v224
  let v249 : IVec S128x1 32 := cut1 v198 v228 v235 v241
  let v259 : Vec F S1024x128 .bf16 := VecWindow.window s1 ![0, 0] S1024x128.size inb_S2048x1024_S1024x128_0_0
  let v260 : Vec F S1024x128 .bf16 := VecWindow.window s1 ![0, 512] S1024x128.size inb_S2048x1024_S1024x128_0_512
  let v261 : Vec F S128x128 .f32 := VecWindow.window x1 ![0, 0] S128x128.size inb_S128x2048_S128x128_0_0
  let v263 : Vec F S128x128 .f32 := VecWindow.window x1 ![0, 128] S128x128.size inb_S128x2048_S128x128_0_128
  let v265 : Vec F S128x128 .f32 := VecWindow.window x1 ![0, 256] S128x128.size inb_S128x2048_S128x128_0_256
  let v267 : Vec F S128x128 .f32 := VecWindow.window x1 ![0, 384] S128x128.size inb_S128x2048_S128x128_0_384
  let v258 : FVec F S1x128x1024 .f32 := k0_pay71 (F := F) v198 v202 v226 v228 v249
  let v281 : FVec F S512x1024 .f32 := k0_pay72 v198 v202 v226 v228 v249 v259 v261 v263 v265 v267
  let v301 : Vec F S1024x128 .bf16 := VecWindow.window s1 ![0, 128] S1024x128.size inb_S2048x1024_S1024x128_0_128
  let v302 : Vec F S1024x128 .bf16 := VecWindow.window s1 ![0, 640] S1024x128.size inb_S2048x1024_S1024x128_0_640
  let v303 : Vec F S128x128 .f32 := VecWindow.window x1 ![0, 512] S128x128.size inb_S128x2048_S128x128_0_512
  let v305 : Vec F S128x128 .f32 := VecWindow.window x1 ![0, 640] S128x128.size inb_S128x2048_S128x128_0_640
  let v307 : Vec F S128x128 .f32 := VecWindow.window x1 ![0, 768] S128x128.size inb_S128x2048_S128x128_0_768
  let v309 : Vec F S128x128 .f32 := VecWindow.window x1 ![0, 896] S128x128.size inb_S128x2048_S128x128_0_896
  let cst_126 : F .f32 := Scalar.ofBits .f32 0x3DB504F3#32
  let v313 : FVec F S512x1024 .f32 := k0_pay78 v301 v303 v305 v307 v309
  let v343 : Vec F S1024x128 .bf16 := VecWindow.window s1 ![0, 256] S1024x128.size inb_S2048x1024_S1024x128_0_256
  let v344 : Vec F S1024x128 .bf16 := VecWindow.window s1 ![0, 768] S1024x128.size inb_S2048x1024_S1024x128_0_768
  let v345 : Vec F S128x128 .f32 := VecWindow.window x1 ![0, 1024] S128x128.size inb_S128x2048_S128x128_0_1024
  let v347 : Vec F S128x128 .f32 := VecWindow.window x1 ![0, 1152] S128x128.size inb_S128x2048_S128x128_0_1152
  let v346 : FVec F S128x128 .f32 := k0_pay84 v345
  let v348 : FVec F S128x128 .f32 := k0_pay85 v347
  let v349 : Vec F S128x128 .f32 := VecWindow.window x1 ![0, 1280] S128x128.size inb_S128x2048_S128x128_0_1280
  let v351 : Vec F S128x128 .f32 := VecWindow.window x1 ![0, 1408] S128x128.size inb_S128x2048_S128x128_0_1408
  let v385 : Vec F S1024x128 .bf16 := VecWindow.window s1 ![0, 384] S1024x128.size inb_S2048x1024_S1024x128_0_384
  let c0_165 : Index := 0#32
  let c896_166 : Index := 896#32
  let v386 : Vec F S1024x128 .bf16 := VecWindow.window s1 ![0, 896] S1024x128.size inb_S2048x1024_S1024x128_0_896
  let v387 : Vec F S128x128 .f32 := VecWindow.window x1 ![0, 1536] S128x128.size inb_S128x2048_S128x128_0_1536
  let v389 : Vec F S128x128 .f32 := VecWindow.window x1 ![0, 1664] S128x128.size inb_S128x2048_S128x128_0_1664
  let v391 : Vec F S128x128 .f32 := VecWindow.window x1 ![0, 1792] S128x128.size inb_S128x2048_S128x128_0_1792
  let v393 : Vec F S128x128 .f32 := VecWindow.window x1 ![0, 1920] S128x128.size inb_S128x2048_S128x128_0_1920
  let v414 : FVec F S512x128 .f32 := (k0_pay91 v258 v385 v386 v387 v389 v391 v393)
  [⟨Rect.unit (s := S128x2048) ![0, 1920] S128x128.size inb_S128x2048_S128x128_0_1920, (k0_pay4 v414)⟩,
   ⟨Rect.unit (s := S128x2048) ![0, 1792] S128x128.size inb_S128x2048_S128x128_0_1792, (k0_pay94 v258 v385 v386 v387 v389 v391 v393)⟩,
   ⟨Rect.unit (s := S128x2048) ![0, 1664] S128x128.size inb_S128x2048_S128x128_0_1664, (k0_pay93 v258 v385 v386 v387 v389 v391 v393)⟩,
   ⟨Rect.unit (s := S128x2048) ![0, 1536] S128x128.size inb_S128x2048_S128x128_0_1536, (k0_pay92 v258 v385 v386 v387 v389 v391 v393)⟩,
   ⟨Rect.unit (s := S128x2048) ![0, 1408] S128x128.size inb_S128x2048_S128x128_0_1408, (k0_pay90 v258 v343 v344 v346 v348 v349 v351)⟩,
   ⟨Rect.unit (s := S128x2048) ![0, 1280] S128x128.size inb_S128x2048_S128x128_0_1280, (k0_pay89 v258 v343 v344 v346 v348 v349 v351)⟩,
   ⟨Rect.unit (s := S128x2048) ![0, 1152] S128x128.size inb_S128x2048_S128x128_0_1152, (k0_pay88 v258 v343 v344 v346 v348 v349 v351)⟩,
   ⟨Rect.unit (s := S128x2048) ![0, 1024] S128x128.size inb_S128x2048_S128x128_0_1024, (k0_pay87 v258 v343 v344 v346 v348 v349 v351)⟩,
   ⟨Rect.unit (s := S128x2048) ![0, 896] S128x128.size inb_S128x2048_S128x128_0_896, (k0_pay83 v258 v302 v313 cst_126)⟩,
   ⟨Rect.unit (s := S128x2048) ![0, 768] S128x128.size inb_S128x2048_S128x128_0_768, (k0_pay82 v258 v302 v313 cst_126)⟩,
   ⟨Rect.unit (s := S128x2048) ![0, 640] S128x128.size inb_S128x2048_S128x128_0_640, (k0_pay81 v258 v302 v313 cst_126)⟩,
   ⟨Rect.unit (s := S128x2048) ![0, 512] S128x128.size inb_S128x2048_S128x128_0_512, (k0_pay80 v258 v302 v313 cst_126)⟩,
   ⟨Rect.unit (s := S128x2048) ![0, 384] S128x128.size inb_S128x2048_S128x128_0_384, (k0_pay77 v260 v281)⟩,
   ⟨Rect.unit (s := S128x2048) ![0, 256] S128x128.size inb_S128x2048_S128x128_0_256, (k0_pay76 v260 v281)⟩,
   ⟨Rect.unit (s := S128x2048) ![0, 128] S128x128.size inb_S128x2048_S128x128_0_128, (k0_pay75 v260 v281)⟩,
   ⟨Rect.unit (s := S128x2048) ![0, 0] S128x128.size inb_S128x2048_S128x128_0_0, (k0_pay74 v260 v281)⟩]

theorem cover1 (arg1 : BitVec 32) (x0 : Vec F S128x2048 .f32) (x1 : Vec F S128x2048 .f32) (x2 : Vec F S128x128 .f32) (s0 : Vec F S2048x128 .bf16) (s1 : Vec F S2048x1024 .bf16) (y : S128x2048.Idx) :
    ∃ pc ∈ pcs1 arg1 x0 x1 x2 s0 s1, y ∈ pc.1.set :=
  View.cover_of_tiledL (pcs1 arg1 x0 x1 x2 s0 s1) S128x128.size (by sl_kernel_rfl) y

/-- The run of the block ends with these pieces. -/
theorem run1_pieces (hc0 : ¬ k0_cond2 i = 1#1) (hc1 : k0_cond4 i = 1#1) (hc2 : ¬ k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    (run1 c i arg2 harg2 arg3 harg3 arg4 harg4 arg5 harg5 arg6 harg6 arg7 harg7 arg8 harg8 arg9 harg9 hc0 hc1 hc2 hc3 x0 x1 x2 s0 s1).1 = pcs1 (BitVec.ofNat 32 (i 1).val) x0 x1 x2 s0 s1 := by
  have h : (run1 c i arg2 harg2 arg3 harg3 arg4 harg4 arg5 harg5 arg6 harg6 arg7 harg7 arg8 harg8 arg9 harg9 hc0 hc1 hc2 hc3 x0 x1 x2 s0 s1).1
      = pcs1 (BitVec.ofNat 32 (i 1).val) (arg2.view.read (Elt F) (harg2.unread x0)) (arg3.view.read (Elt F) (harg3.unread x1))
          (arg4.view.read (Elt F) (harg4.unread x2)) (arg8.view.read (Elt F) (harg8.unread s0)) (arg9.view.read (Elt F) (harg9.unread s1)) := rfl
  rw [h, harg2.read_unread, harg3.read_unread, harg4.read_unread, harg8.read_unread, harg9.read_unread]

/-- The 256th largest key of each row, blocks over 1536 keys. -/
def tau2 (v196 : FVec F S128x1536 .f32) (v202 : IVec S128x1536 1) : IVec S128x1 32 :=
  Scf.fold (fun (k : Fin k0_t5_loop.trips) acc => k0_pay106 v196 v202 k acc) (k0_pay105 v196 v202)

/-- The pieces of a block over 1536 keys, last first. -/
def pcs2 (arg1 : BitVec 32) (x0 : Vec F S128x2048 .f32) (x1 : Vec F S128x2048 .f32) (x2 : Vec F S128x128 .f32) (s0 : Vec F S2048x128 .bf16) (s1 : Vec F S2048x1024 .bf16) :
    List (View.Piece (Elt F) S128x2048 .bf16) :=
  let v33 : Vec F S1536x128 .bf16 := VecWindow.window s0 ![0, 0] S1536x128.size inb_S2048x128_S1536x128_0_0
  let v34 : Vec F S128x128 .f32 := VecWindow.window x2 ![0, 0] S128x128.size inb_S128x128_S128x128_0_0
  let v37 : Vec F S128x128 .f32 := VecWindow.window x0 ![0, 0] S128x128.size inb_S128x2048_S128x128_0_0
  let v47 : Vec F S128x128 .f32 := VecWindow.window x0 ![0, 128] S128x128.size inb_S128x2048_S128x128_0_128
  let v57 : Vec F S128x128 .f32 := VecWindow.window x0 ![0, 256] S128x128.size inb_S128x2048_S128x128_0_256
  let v67 : Vec F S128x128 .f32 := VecWindow.window x0 ![0, 384] S128x128.size inb_S128x2048_S128x128_0_384
  let cst_27 : F .f32 := Scalar.ofBits .f32 0x00000000#32
  let v35 : FVec F S128x128 .f32 := k0_pay95 v34
  let v66 : FVec F S128x1536 .f32 := k0_pay96 v33 v34 v37 v47 v57
  let v70 : FVec F S128x1536 .f32 := k0_pay97 v33 v67
  let v71 : FVec F S128x1 .f32 := k0_pay98 v34
  let v77 : Vec F S128x128 .f32 := VecWindow.window x0 ![0, 512] S128x128.size inb_S128x2048_S128x128_0_512
  let v87 : Vec F S128x128 .f32 := VecWindow.window x0 ![0, 640] S128x128.size inb_S128x2048_S128x128_0_640
  let v97 : Vec F S128x128 .f32 := VecWindow.window x0 ![0, 768] S128x128.size inb_S128x2048_S128x128_0_768
  let v107 : Vec F S128x128 .f32 := VecWindow.window x0 ![0, 896] S128x128.size inb_S128x2048_S128x128_0_896
  let v106 : FVec F S128x1536 .f32 := k0_pay99 v33 v35 v66 v70 v71 cst_27 v77 v87 v97
  let v115 : FVec F S128x1536 .f32 := k0_pay100 v33 v35 v107
  let v117 : Vec F S128x128 .f32 := VecWindow.window x0 ![0, 1024] S128x128.size inb_S128x2048_S128x128_0_1024
  let v127 : Vec F S128x128 .f32 := VecWindow.window x0 ![0, 1152] S128x128.size inb_S128x2048_S128x128_0_1152
  let v137 : Vec F S128x128 .f32 := VecWindow.window x0 ![0, 1280] S128x128.size inb_S128x2048_S128x128_0_1280
  let v147 : Vec F S128x128 .f32 := VecWindow.window x0 ![0, 1408] S128x128.size inb_S128x2048_S128x128_0_1408
  let v157 : Vec F S128x128 .f32 := VecWindow.window x0 ![0, 1536] S128x128.size inb_S128x2048_S128x128_0_1536
  let v156 : FVec F S128x1536 .f32 := k0_pay101 v33 v35 v106 v115 v117 v127 v137 v147
  let v167 : Vec F S128x128 .f32 := VecWindow.window x0 ![0, 1664] S128x128.size inb_S128x2048_S128x128_0_1664
  let v177 : Vec F S128x128 .f32 := VecWindow.window x0 ![0, 1792] S128x128.size inb_S128x2048_S128x128_0_1792
  let v187 : Vec F S128x128 .f32 := VecWindow.window x0 ![0, 1920] S128x128.size inb_S128x2048_S128x128_0_1920
  let v198 : IVec S128x1536 32 := iota .tc S128x1536 32 [1] iota_S128x1536_d1_w32
  let v196 : FVec F S128x1536 .f32 := k0_pay102 v33 v35 v156 v157 v167 v177 v187
  let v202 : IVec S128x1536 1 := k0_pay103 arg1
  let v224 : IVec S128x1 32 := tau2 v196 v202
  let v226 : IVec S128x1536 1 := k0_pay107 v196 v202 v224
  let v228 : IVec S128x1536 1 := k0_pay108 v196 v202 v224
  let v235 : FVec F S128x1 .f32 := k0_pay109 v196 v202 v224
  let v241 : FVec F S128x1 .f32 := k0_pay110 v196 v202 v224
  let v249 : IVec S128x1 32 := cut2 v198 v228 v235 v241
  let v259 : Vec F S1536x128 .bf16 := VecWindow.window s1 ![0, 0] S1536x128.size inb_S2048x1024_S1536x128_0_0
  let v260 : Vec F S1536x128 .bf16 := VecWindow.window s1 ![0, 512] S1536x128.size inb_S2048x1024_S1536x128_0_512
  let v261 : Vec F S128x128 .f32 := VecWindow.window x1 ![0, 0] S128x128.size inb_S128x2048_S128x128_0_0
  let v263 : Vec F S128x128 .f32 := VecWindow.window x1 ![0, 128] S128x128.size inb_S128x2048_S128x128_0_128
  let v265 : Vec F S128x128 .f32 := VecWindow.window x1 ![0, 256] S128x128.size inb_S128x2048_S128x128_0_256
  let v267 : Vec F S128x128 .f32 := VecWindow.window x1 ![0, 384] S128x128.size inb_S128x2048_S128x128_0_384
  let v258 : FVec F S1x128x1536 .f32 := k0_pay115 (F := F) v198 v202 v226 v228 v249
  let v281 : FVec F S512x1536 .f32 := k0_pay116 v198 v202 v226 v228 v249 v259 v261 v263 v265 v267
  let v301 : Vec F S1536x128 .bf16 := VecWindow.window s1 ![0, 128] S1536x128.size inb_S2048x1024_S1536x128_0_128
  let v302 : Vec F S1536x128 .bf16 := VecWindow.window s1 ![0, 640] S1536x128.size inb_S2048x1024_S1536x128_0_640
  let v303 : Vec F S128x128 .f32 := VecWindow.window x1 ![0, 512] S128x128.size inb_S128x2048_S128x128_0_512
  let v305 : Vec F S128x128 .f32 := VecWindow.window x1 ![0, 640] S128x128.size inb_S128x2048_S128x128_0_640
  let v307 : Vec F S128x128 .f32 := VecWindow.window x1 ![0, 768] S128x128.size inb_S128x2048_S128x128_0_768
  let v309 : Vec F S128x128 .f32 := VecWindow.window x1 ![0, 896] S128x128.size inb_S128x2048_S128x128_0_896
  let cst_126 : F .f32 := Scalar.ofBits .f32 0x3DB504F3#32
  let v313 : FVec F S512x1536 .f32 := k0_pay122 v301 v303 v305 v307 v309
  let v343 : Vec F S1536x128 .bf16 := VecWindow.window s1 ![0, 256] S1536x128.size inb_S2048x1024_S1536x128_0_256
  let v344 : Vec F S1536x128 .bf16 := VecWindow.window s1 ![0, 768] S1536x128.size inb_S2048x1024_S1536x128_0_768
  let v345 : Vec F S128x128 .f32 := VecWindow.window x1 ![0, 1024] S128x128.size inb_S128x2048_S128x128_0_1024
  let v347 : Vec F S128x128 .f32 := VecWindow.window x1 ![0, 1152] S128x128.size inb_S128x2048_S128x128_0_1152
  let v346 : FVec F S128x128 .f32 := k0_pay128 v345
  let v348 : FVec F S128x128 .f32 := k0_pay129 v347
  let v349 : Vec F S128x128 .f32 := VecWindow.window x1 ![0, 1280] S128x128.size inb_S128x2048_S128x128_0_1280
  let v351 : Vec F S128x128 .f32 := VecWindow.window x1 ![0, 1408] S128x128.size inb_S128x2048_S128x128_0_1408
  let v385 : Vec F S1536x128 .bf16 := VecWindow.window s1 ![0, 384] S1536x128.size inb_S2048x1024_S1536x128_0_384
  let c0_165 : Index := 0#32
  let c896_166 : Index := 896#32
  let v386 : Vec F S1536x128 .bf16 := VecWindow.window s1 ![0, 896] S1536x128.size inb_S2048x1024_S1536x128_0_896
  let v387 : Vec F S128x128 .f32 := VecWindow.window x1 ![0, 1536] S128x128.size inb_S128x2048_S128x128_0_1536
  let v389 : Vec F S128x128 .f32 := VecWindow.window x1 ![0, 1664] S128x128.size inb_S128x2048_S128x128_0_1664
  let v391 : Vec F S128x128 .f32 := VecWindow.window x1 ![0, 1792] S128x128.size inb_S128x2048_S128x128_0_1792
  let v393 : Vec F S128x128 .f32 := VecWindow.window x1 ![0, 1920] S128x128.size inb_S128x2048_S128x128_0_1920
  let v414 : FVec F S512x128 .f32 := (k0_pay135 v258 v385 v386 v387 v389 v391 v393)
  [⟨Rect.unit (s := S128x2048) ![0, 1920] S128x128.size inb_S128x2048_S128x128_0_1920, (k0_pay5 v414)⟩,
   ⟨Rect.unit (s := S128x2048) ![0, 1792] S128x128.size inb_S128x2048_S128x128_0_1792, (k0_pay138 v258 v385 v386 v387 v389 v391 v393)⟩,
   ⟨Rect.unit (s := S128x2048) ![0, 1664] S128x128.size inb_S128x2048_S128x128_0_1664, (k0_pay137 v258 v385 v386 v387 v389 v391 v393)⟩,
   ⟨Rect.unit (s := S128x2048) ![0, 1536] S128x128.size inb_S128x2048_S128x128_0_1536, (k0_pay136 v258 v385 v386 v387 v389 v391 v393)⟩,
   ⟨Rect.unit (s := S128x2048) ![0, 1408] S128x128.size inb_S128x2048_S128x128_0_1408, (k0_pay134 v258 v343 v344 v346 v348 v349 v351)⟩,
   ⟨Rect.unit (s := S128x2048) ![0, 1280] S128x128.size inb_S128x2048_S128x128_0_1280, (k0_pay133 v258 v343 v344 v346 v348 v349 v351)⟩,
   ⟨Rect.unit (s := S128x2048) ![0, 1152] S128x128.size inb_S128x2048_S128x128_0_1152, (k0_pay132 v258 v343 v344 v346 v348 v349 v351)⟩,
   ⟨Rect.unit (s := S128x2048) ![0, 1024] S128x128.size inb_S128x2048_S128x128_0_1024, (k0_pay131 v258 v343 v344 v346 v348 v349 v351)⟩,
   ⟨Rect.unit (s := S128x2048) ![0, 896] S128x128.size inb_S128x2048_S128x128_0_896, (k0_pay127 v258 v302 v313 cst_126)⟩,
   ⟨Rect.unit (s := S128x2048) ![0, 768] S128x128.size inb_S128x2048_S128x128_0_768, (k0_pay126 v258 v302 v313 cst_126)⟩,
   ⟨Rect.unit (s := S128x2048) ![0, 640] S128x128.size inb_S128x2048_S128x128_0_640, (k0_pay125 v258 v302 v313 cst_126)⟩,
   ⟨Rect.unit (s := S128x2048) ![0, 512] S128x128.size inb_S128x2048_S128x128_0_512, (k0_pay124 v258 v302 v313 cst_126)⟩,
   ⟨Rect.unit (s := S128x2048) ![0, 384] S128x128.size inb_S128x2048_S128x128_0_384, (k0_pay121 v260 v281)⟩,
   ⟨Rect.unit (s := S128x2048) ![0, 256] S128x128.size inb_S128x2048_S128x128_0_256, (k0_pay120 v260 v281)⟩,
   ⟨Rect.unit (s := S128x2048) ![0, 128] S128x128.size inb_S128x2048_S128x128_0_128, (k0_pay119 v260 v281)⟩,
   ⟨Rect.unit (s := S128x2048) ![0, 0] S128x128.size inb_S128x2048_S128x128_0_0, (k0_pay118 v260 v281)⟩]

theorem cover2 (arg1 : BitVec 32) (x0 : Vec F S128x2048 .f32) (x1 : Vec F S128x2048 .f32) (x2 : Vec F S128x128 .f32) (s0 : Vec F S2048x128 .bf16) (s1 : Vec F S2048x1024 .bf16) (y : S128x2048.Idx) :
    ∃ pc ∈ pcs2 arg1 x0 x1 x2 s0 s1, y ∈ pc.1.set :=
  View.cover_of_tiledL (pcs2 arg1 x0 x1 x2 s0 s1) S128x128.size (by sl_kernel_rfl) y

/-- The run of the block ends with these pieces. -/
theorem run2_pieces (hc0 : ¬ k0_cond2 i = 1#1) (hc1 : ¬ k0_cond4 i = 1#1) (hc2 : k0_cond6 i = 1#1) (hc3 : ¬ k0_cond8 i = 1#1)
    (x0 : Vec F S128x2048 .f32) (x1 : Vec F S128x2048 .f32) (x2 : Vec F S128x128 .f32) (s0 : Vec F S2048x128 .bf16) (s1 : Vec F S2048x1024 .bf16) :
    (run2 c i arg2 harg2 arg3 harg3 arg4 harg4 arg5 harg5 arg6 harg6 arg7 harg7 arg8 harg8 arg9 harg9 hc0 hc1 hc2 hc3 x0 x1 x2 s0 s1).1 = pcs2 (BitVec.ofNat 32 (i 1).val) x0 x1 x2 s0 s1 := by
  have h : (run2 c i arg2 harg2 arg3 harg3 arg4 harg4 arg5 harg5 arg6 harg6 arg7 harg7 arg8 harg8 arg9 harg9 hc0 hc1 hc2 hc3 x0 x1 x2 s0 s1).1
      = pcs2 (BitVec.ofNat 32 (i 1).val) (arg2.view.read (Elt F) (harg2.unread x0)) (arg3.view.read (Elt F) (harg3.unread x1))
          (arg4.view.read (Elt F) (harg4.unread x2)) (arg8.view.read (Elt F) (harg8.unread s0)) (arg9.view.read (Elt F) (harg9.unread s1)) := rfl
  rw [h, harg2.read_unread, harg3.read_unread, harg4.read_unread, harg8.read_unread, harg9.read_unread]

/-- The 256th largest key of each row, blocks over 2048 keys. -/
def tau3 (v196 : FVec F S128x2048 .f32) (v202 : IVec S128x2048 1) : IVec S128x1 32 :=
  Scf.fold (fun (k : Fin k0_t7_loop.trips) acc => k0_pay150 v196 v202 k acc) (k0_pay149 v196 v202)

/-- The pieces of a block over 2048 keys, last first. -/
def pcs3 (arg1 : BitVec 32) (x0 : Vec F S128x2048 .f32) (x1 : Vec F S128x2048 .f32) (x2 : Vec F S128x128 .f32) (s0 : Vec F S2048x128 .bf16) (s1 : Vec F S2048x1024 .bf16) :
    List (View.Piece (Elt F) S128x2048 .bf16) :=
  let v33 : Vec F S2048x128 .bf16 := VecWindow.window s0 ![0, 0] S2048x128.size inb_S2048x128_S2048x128_0_0
  let v34 : Vec F S128x128 .f32 := VecWindow.window x2 ![0, 0] S128x128.size inb_S128x128_S128x128_0_0
  let v37 : Vec F S128x128 .f32 := VecWindow.window x0 ![0, 0] S128x128.size inb_S128x2048_S128x128_0_0
  let v47 : Vec F S128x128 .f32 := VecWindow.window x0 ![0, 128] S128x128.size inb_S128x2048_S128x128_0_128
  let v57 : Vec F S128x128 .f32 := VecWindow.window x0 ![0, 256] S128x128.size inb_S128x2048_S128x128_0_256
  let v67 : Vec F S128x128 .f32 := VecWindow.window x0 ![0, 384] S128x128.size inb_S128x2048_S128x128_0_384
  let cst_27 : F .f32 := Scalar.ofBits .f32 0x00000000#32
  let v35 : FVec F S128x128 .f32 := k0_pay139 v34
  let v66 : FVec F S128x2048 .f32 := k0_pay140 v33 v34 v37 v47 v57
  let v70 : FVec F S128x2048 .f32 := k0_pay141 v33 v67
  let v71 : FVec F S128x1 .f32 := k0_pay142 v34
  let v77 : Vec F S128x128 .f32 := VecWindow.window x0 ![0, 512] S128x128.size inb_S128x2048_S128x128_0_512
  let v87 : Vec F S128x128 .f32 := VecWindow.window x0 ![0, 640] S128x128.size inb_S128x2048_S128x128_0_640
  let v97 : Vec F S128x128 .f32 := VecWindow.window x0 ![0, 768] S128x128.size inb_S128x2048_S128x128_0_768
  let v107 : Vec F S128x128 .f32 := VecWindow.window x0 ![0, 896] S128x128.size inb_S128x2048_S128x128_0_896
  let v106 : FVec F S128x2048 .f32 := k0_pay143 v33 v35 v66 v70 v71 cst_27 v77 v87 v97
  let v115 : FVec F S128x2048 .f32 := k0_pay144 v33 v35 v107
  let v117 : Vec F S128x128 .f32 := VecWindow.window x0 ![0, 1024] S128x128.size inb_S128x2048_S128x128_0_1024
  let v127 : Vec F S128x128 .f32 := VecWindow.window x0 ![0, 1152] S128x128.size inb_S128x2048_S128x128_0_1152
  let v137 : Vec F S128x128 .f32 := VecWindow.window x0 ![0, 1280] S128x128.size inb_S128x2048_S128x128_0_1280
  let v147 : Vec F S128x128 .f32 := VecWindow.window x0 ![0, 1408] S128x128.size inb_S128x2048_S128x128_0_1408
  let v157 : Vec F S128x128 .f32 := VecWindow.window x0 ![0, 1536] S128x128.size inb_S128x2048_S128x128_0_1536
  let v156 : FVec F S128x2048 .f32 := k0_pay145 v33 v35 v106 v115 v117 v127 v137 v147
  let v167 : Vec F S128x128 .f32 := VecWindow.window x0 ![0, 1664] S128x128.size inb_S128x2048_S128x128_0_1664
  let v177 : Vec F S128x128 .f32 := VecWindow.window x0 ![0, 1792] S128x128.size inb_S128x2048_S128x128_0_1792
  let v187 : Vec F S128x128 .f32 := VecWindow.window x0 ![0, 1920] S128x128.size inb_S128x2048_S128x128_0_1920
  let v198 : IVec S128x2048 32 := iota .tc S128x2048 32 [1] iota_S128x2048_d1_w32
  let v196 : FVec F S128x2048 .f32 := k0_pay146 v33 v35 v156 v157 v167 v177 v187
  let v202 : IVec S128x2048 1 := k0_pay147 arg1
  let v224 : IVec S128x1 32 := tau3 v196 v202
  let v226 : IVec S128x2048 1 := k0_pay151 v196 v202 v224
  let v228 : IVec S128x2048 1 := k0_pay152 v196 v202 v224
  let v235 : FVec F S128x1 .f32 := k0_pay153 v196 v202 v224
  let v241 : FVec F S128x1 .f32 := k0_pay154 v196 v202 v224
  let v249 : IVec S128x1 32 := cut3 v198 v228 v235 v241
  let v259 : Vec F S2048x128 .bf16 := VecWindow.window s1 ![0, 0] S2048x128.size inb_S2048x1024_S2048x128_0_0
  let v260 : Vec F S2048x128 .bf16 := VecWindow.window s1 ![0, 512] S2048x128.size inb_S2048x1024_S2048x128_0_512
  let v261 : Vec F S128x128 .f32 := VecWindow.window x1 ![0, 0] S128x128.size inb_S128x2048_S128x128_0_0
  let v263 : Vec F S128x128 .f32 := VecWindow.window x1 ![0, 128] S128x128.size inb_S128x2048_S128x128_0_128
  let v265 : Vec F S128x128 .f32 := VecWindow.window x1 ![0, 256] S128x128.size inb_S128x2048_S128x128_0_256
  let v267 : Vec F S128x128 .f32 := VecWindow.window x1 ![0, 384] S128x128.size inb_S128x2048_S128x128_0_384
  let v258 : FVec F S1x128x2048 .f32 := k0_pay159 (F := F) v198 v202 v226 v228 v249
  let v281 : FVec F S512x2048 .f32 := k0_pay160 v198 v202 v226 v228 v249 v259 v261 v263 v265 v267
  let v301 : Vec F S2048x128 .bf16 := VecWindow.window s1 ![0, 128] S2048x128.size inb_S2048x1024_S2048x128_0_128
  let v302 : Vec F S2048x128 .bf16 := VecWindow.window s1 ![0, 640] S2048x128.size inb_S2048x1024_S2048x128_0_640
  let v303 : Vec F S128x128 .f32 := VecWindow.window x1 ![0, 512] S128x128.size inb_S128x2048_S128x128_0_512
  let v305 : Vec F S128x128 .f32 := VecWindow.window x1 ![0, 640] S128x128.size inb_S128x2048_S128x128_0_640
  let v307 : Vec F S128x128 .f32 := VecWindow.window x1 ![0, 768] S128x128.size inb_S128x2048_S128x128_0_768
  let v309 : Vec F S128x128 .f32 := VecWindow.window x1 ![0, 896] S128x128.size inb_S128x2048_S128x128_0_896
  let cst_126 : F .f32 := Scalar.ofBits .f32 0x3DB504F3#32
  let v313 : FVec F S512x2048 .f32 := k0_pay166 v301 v303 v305 v307 v309
  let v343 : Vec F S2048x128 .bf16 := VecWindow.window s1 ![0, 256] S2048x128.size inb_S2048x1024_S2048x128_0_256
  let v344 : Vec F S2048x128 .bf16 := VecWindow.window s1 ![0, 768] S2048x128.size inb_S2048x1024_S2048x128_0_768
  let v345 : Vec F S128x128 .f32 := VecWindow.window x1 ![0, 1024] S128x128.size inb_S128x2048_S128x128_0_1024
  let v347 : Vec F S128x128 .f32 := VecWindow.window x1 ![0, 1152] S128x128.size inb_S128x2048_S128x128_0_1152
  let v346 : FVec F S128x128 .f32 := k0_pay172 v345
  let v348 : FVec F S128x128 .f32 := k0_pay173 v347
  let v349 : Vec F S128x128 .f32 := VecWindow.window x1 ![0, 1280] S128x128.size inb_S128x2048_S128x128_0_1280
  let v351 : Vec F S128x128 .f32 := VecWindow.window x1 ![0, 1408] S128x128.size inb_S128x2048_S128x128_0_1408
  let v385 : Vec F S2048x128 .bf16 := VecWindow.window s1 ![0, 384] S2048x128.size inb_S2048x1024_S2048x128_0_384
  let c0_165 : Index := 0#32
  let c896_166 : Index := 896#32
  let v386 : Vec F S2048x128 .bf16 := VecWindow.window s1 ![0, 896] S2048x128.size inb_S2048x1024_S2048x128_0_896
  let v387 : Vec F S128x128 .f32 := VecWindow.window x1 ![0, 1536] S128x128.size inb_S128x2048_S128x128_0_1536
  let v389 : Vec F S128x128 .f32 := VecWindow.window x1 ![0, 1664] S128x128.size inb_S128x2048_S128x128_0_1664
  let v391 : Vec F S128x128 .f32 := VecWindow.window x1 ![0, 1792] S128x128.size inb_S128x2048_S128x128_0_1792
  let v393 : Vec F S128x128 .f32 := VecWindow.window x1 ![0, 1920] S128x128.size inb_S128x2048_S128x128_0_1920
  let v414 : FVec F S512x128 .f32 := (k0_pay179 v258 v385 v386 v387 v389 v391 v393)
  [⟨Rect.unit (s := S128x2048) ![0, 1920] S128x128.size inb_S128x2048_S128x128_0_1920, (k0_pay6 v414)⟩,
   ⟨Rect.unit (s := S128x2048) ![0, 1792] S128x128.size inb_S128x2048_S128x128_0_1792, (k0_pay182 v258 v385 v386 v387 v389 v391 v393)⟩,
   ⟨Rect.unit (s := S128x2048) ![0, 1664] S128x128.size inb_S128x2048_S128x128_0_1664, (k0_pay181 v258 v385 v386 v387 v389 v391 v393)⟩,
   ⟨Rect.unit (s := S128x2048) ![0, 1536] S128x128.size inb_S128x2048_S128x128_0_1536, (k0_pay180 v258 v385 v386 v387 v389 v391 v393)⟩,
   ⟨Rect.unit (s := S128x2048) ![0, 1408] S128x128.size inb_S128x2048_S128x128_0_1408, (k0_pay178 v258 v343 v344 v346 v348 v349 v351)⟩,
   ⟨Rect.unit (s := S128x2048) ![0, 1280] S128x128.size inb_S128x2048_S128x128_0_1280, (k0_pay177 v258 v343 v344 v346 v348 v349 v351)⟩,
   ⟨Rect.unit (s := S128x2048) ![0, 1152] S128x128.size inb_S128x2048_S128x128_0_1152, (k0_pay176 v258 v343 v344 v346 v348 v349 v351)⟩,
   ⟨Rect.unit (s := S128x2048) ![0, 1024] S128x128.size inb_S128x2048_S128x128_0_1024, (k0_pay175 v258 v343 v344 v346 v348 v349 v351)⟩,
   ⟨Rect.unit (s := S128x2048) ![0, 896] S128x128.size inb_S128x2048_S128x128_0_896, (k0_pay171 v258 v302 v313 cst_126)⟩,
   ⟨Rect.unit (s := S128x2048) ![0, 768] S128x128.size inb_S128x2048_S128x128_0_768, (k0_pay170 v258 v302 v313 cst_126)⟩,
   ⟨Rect.unit (s := S128x2048) ![0, 640] S128x128.size inb_S128x2048_S128x128_0_640, (k0_pay169 v258 v302 v313 cst_126)⟩,
   ⟨Rect.unit (s := S128x2048) ![0, 512] S128x128.size inb_S128x2048_S128x128_0_512, (k0_pay168 v258 v302 v313 cst_126)⟩,
   ⟨Rect.unit (s := S128x2048) ![0, 384] S128x128.size inb_S128x2048_S128x128_0_384, (k0_pay165 v260 v281)⟩,
   ⟨Rect.unit (s := S128x2048) ![0, 256] S128x128.size inb_S128x2048_S128x128_0_256, (k0_pay164 v260 v281)⟩,
   ⟨Rect.unit (s := S128x2048) ![0, 128] S128x128.size inb_S128x2048_S128x128_0_128, (k0_pay163 v260 v281)⟩,
   ⟨Rect.unit (s := S128x2048) ![0, 0] S128x128.size inb_S128x2048_S128x128_0_0, (k0_pay162 v260 v281)⟩]

theorem cover3 (arg1 : BitVec 32) (x0 : Vec F S128x2048 .f32) (x1 : Vec F S128x2048 .f32) (x2 : Vec F S128x128 .f32) (s0 : Vec F S2048x128 .bf16) (s1 : Vec F S2048x1024 .bf16) (y : S128x2048.Idx) :
    ∃ pc ∈ pcs3 arg1 x0 x1 x2 s0 s1, y ∈ pc.1.set :=
  View.cover_of_tiledL (pcs3 arg1 x0 x1 x2 s0 s1) S128x128.size (by sl_kernel_rfl) y

/-- The run of the block ends with these pieces. -/
theorem run3_pieces (hc0 : ¬ k0_cond2 i = 1#1) (hc1 : ¬ k0_cond4 i = 1#1) (hc2 : ¬ k0_cond6 i = 1#1) (hc3 : k0_cond8 i = 1#1)
    (x0 : Vec F S128x2048 .f32) (x1 : Vec F S128x2048 .f32) (x2 : Vec F S128x128 .f32) (s0 : Vec F S2048x128 .bf16) (s1 : Vec F S2048x1024 .bf16) :
    (run3 c i arg2 harg2 arg3 harg3 arg4 harg4 arg5 harg5 arg6 harg6 arg7 harg7 arg8 harg8 arg9 harg9 hc0 hc1 hc2 hc3 x0 x1 x2 s0 s1).1 = pcs3 (BitVec.ofNat 32 (i 1).val) x0 x1 x2 s0 s1 := by
  have h : (run3 c i arg2 harg2 arg3 harg3 arg4 harg4 arg5 harg5 arg6 harg6 arg7 harg7 arg8 harg8 arg9 harg9 hc0 hc1 hc2 hc3 x0 x1 x2 s0 s1).1
      = pcs3 (BitVec.ofNat 32 (i 1).val) (arg2.view.read (Elt F) (harg2.unread x0)) (arg3.view.read (Elt F) (harg3.unread x1))
          (arg4.view.read (Elt F) (harg4.unread x2)) (arg8.view.read (Elt F) (harg8.unread s0)) (arg9.view.read (Elt F) (harg9.unread s1)) := rfl
  rw [h, harg2.read_unread, harg3.read_unread, harg4.read_unread, harg8.read_unread, harg9.read_unread]

end Buffers

end Cert.Kernel.Att

end
-- ==== Proof.KFrame.lean ====
/- The run of the whole kernel: at every grid point the block's result and, from the second point on, the scratch arrays at the rounded
   keys and values of the batch at hand; so every fair execution ends, with the result of each block in its rows of the result array and
   the arguments as they were. -/
module

public import proofs.«01_k».proof.Proof.KPieces
public import Idealize.ShloMosaic.Lib.Claim

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev scM0_0 : Memref sig .tc .vmem S2048x128 .bf16 := Memref.whole cc0_scratch0
abbrev scM0_1 : Memref sig .tc .vmem S2048x1024 .bf16 := Memref.whole cc0_scratch1
abbrev VO : View sig .tc .vmem S128x2048 .bf16 := (Memref.whole cc0_stg5_0 : Memref sig .tc .vmem S128x2048 .bf16).view

/-- The invariant of the region before its first point, buffer by buffer. -/
theorem phi_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Which choice a grid point takes -/

theorem atFirst_iff : ∀ t : Fin cfg0.N, atFirst (grid0.coords t) ↔ t.val % 16 = 0 :=
  (by decide +kernel : ∀ t : Fin grid0.N, atFirst (grid0.coords t) ↔ t.val % 16 = 0)
theorem len0_iff : ∀ t : Fin cfg0.N, k0_cond2 (grid0.coords t) = 1#1 ↔ t.val % 16 < 4 :=
  (by decide +kernel : ∀ t : Fin grid0.N, k0_cond2 (grid0.coords t) = 1#1 ↔ t.val % 16 < 4)
theorem len1_iff : ∀ t : Fin cfg0.N, k0_cond4 (grid0.coords t) = 1#1 ↔ 4 ≤ t.val % 16 ∧ t.val % 16 < 8 :=
  (by decide +kernel : ∀ t : Fin grid0.N, k0_cond4 (grid0.coords t) = 1#1 ↔ 4 ≤ t.val % 16 ∧ t.val % 16 < 8)
theorem len2_iff : ∀ t : Fin cfg0.N, k0_cond6 (grid0.coords t) = 1#1 ↔ 8 ≤ t.val % 16 ∧ t.val % 16 < 12 :=
  (by decide +kernel : ∀ t : Fin grid0.N, k0_cond6 (grid0.coords t) = 1#1 ↔ 8 ≤ t.val % 16 ∧ t.val % 16 < 12)
theorem len3_iff : ∀ t : Fin cfg0.N, k0_cond8 (grid0.coords t) = 1#1 ↔ 12 ≤ t.val % 16 :=
  (by decide +kernel : ∀ t : Fin grid0.N, k0_cond8 (grid0.coords t) = 1#1 ↔ 12 ≤ t.val % 16)
theorem live5 : ∀ t : Fin cfg0.N, cfg0.idle 5 (grid0.coords t) = false :=
  (by decide +kernel : ∀ t : Fin grid0.N, cfg0.idle 5 (grid0.coords t) = false)

/-- The pieces of a block, by its place in the sequence. -/
def pcsAt (i : grid0.Coords) (x0 : Vec F S128x2048 .f32) (x1 : Vec F S128x2048 .f32) (x2 : Vec F S128x128 .f32) (s0 : Vec F S2048x128 .bf16) (s1 : Vec F S2048x1024 .bf16) :
    List (View.Piece (Elt F) S128x2048 .bf16) :=
  if (i 1).val < 4 then pcs0 (BitVec.ofNat 32 (i 1).val) x0 x1 x2 s0 s1
  else if (i 1).val < 8 then pcs1 (BitVec.ofNat 32 (i 1).val) x0 x1 x2 s0 s1
  else if (i 1).val < 12 then pcs2 (BitVec.ofNat 32 (i 1).val) x0 x1 x2 s0 s1
  else pcs3 (BitVec.ofNat 32 (i 1).val) x0 x1 x2 s0 s1

theorem coord1 : ∀ t : Fin cfg0.N, (grid0.coords t 1).val = t.val % 16 :=
  (by decide +kernel : ∀ t : Fin grid0.N, (grid0.coords t 1).val = t.val % 16)

/-- The result of a block. -/
def blockOut (i : grid0.Coords) (x0 : Vec F S128x2048 .f32) (x1 : Vec F S128x2048 .f32) (x2 : Vec F S128x128 .f32) (s0 : Vec F S2048x128 .bf16) (s1 : Vec F S2048x1024 .bf16) : Vec F S128x2048 .bf16 :=
  VO.read (Elt F) (VO.writes (Elt F) VO.junk (pcsAt i x0 x1 x2 s0 s1))

/-- The block at point `t`, from its inputs and the scratch arrays. -/
theorem block_runs (c : Dev nD) (t : Fin cfg0.N) (x0 : Vec F S128x2048 .f32) (x1 : Vec F S128x2048 .f32) (x2 : Vec F S128x128 .f32) (s0 : Vec F S2048x128 .bf16) (s1 : Vec F S2048x1024 .bf16)
    (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ (∃ d, owns (c : Thread nD τ) (ms0_5 t) fullShare d)
        ∗ owns (c : Thread nD τ) scM0_0 fullShare s0 ∗ owns (c : Thread nD τ) scM0_1 fullShare s1 ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_5 t) fullShare (blockOut (grid0.coords t) x0 x1 x2 s0 s1) ∗ owns (c : Thread nD τ) scM0_0 fullShare s0 ∗ owns (c : Thread nD τ) scM0_1 fullShare s1) -∗ K ⟨⟩))
      ⊢ wp frame (wpE (defs₀ (F := F)) Variants.none c none) E (blockP (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)) K := by
  have hN : t.val < 64 := lt_of_lt_of_eq t.isLt (show cfg0.N = 64 from N_0)
  have e1 := coord1 t
  by_cases h0 : t.val % 16 < 4
  · have hp : pcsAt (F := F) (grid0.coords t) x0 x1 x2 s0 s1 = pcs0 (BitVec.ofNat 32 (grid0.coords t 1).val) x0 x1 x2 s0 s1 := by
      unfold pcsAt; rw [if_pos (by omega)]
    iintro ⟨H0, H1, H2, H5, HS0, HS1, Hk⟩
    iapply (run0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((len0_iff t).mpr (by omega)) (fun h => by have := (len1_iff t).mp h; omega) (fun h => by have := (len2_iff t).mp h; omega) (fun h => by have := (len3_iff t).mp h; omega) x0 x1 x2 s0 s1).2 E K
    isplitl [H0]; · iexact H0
    isplitl [H1]; · iexact H1
    isplitl [H2]; · iexact H2
    isplitl [H5]; · iexact H5
    isplitl [HS0]; · iexact HS0
    isplitl [HS1]; · iexact HS1
    iintro ⟨H0, H1, H2, ⟨%f, H5⟩, HS0, HS1⟩
    iapply Hk
    isplitl [H0]; · iexact H0
    isplitl [H1]; · iexact H1
    isplitl [H2]; · iexact H2
    isplitl [H5]
    · unfold owns; iexists _; isplitr
      swap; · iexact H5
      ipureintro
      rw [run0_pieces]
      unfold blockOut; rw [hp]
      exact View.read_writes_of_cover _ _ _ _ _ (cover0 _ _ _ _ _ _)
    isplitl [HS0]; · iexact HS0
    iexact HS1
  by_cases h1 : t.val % 16 < 8
  · have hp : pcsAt (F := F) (grid0.coords t) x0 x1 x2 s0 s1 = pcs1 (BitVec.ofNat 32 (grid0.coords t 1).val) x0 x1 x2 s0 s1 := by
      unfold pcsAt; rw [if_neg (by omega)]; rw [if_pos (by omega)]
    iintro ⟨H0, H1, H2, H5, HS0, HS1, Hk⟩
    iapply (run1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => by have := (len0_iff t).mp h; omega) ((len1_iff t).mpr (by omega)) (fun h => by have := (len2_iff t).mp h; omega) (fun h => by have := (len3_iff t).mp h; omega) x0 x1 x2 s0 s1).2 E K
    isplitl [H0]; · iexact H0
    isplitl [H1]; · iexact H1
    isplitl [H2]; · iexact H2
    isplitl [H5]; · iexact H5
    isplitl [HS0]; · iexact HS0
    isplitl [HS1]; · iexact HS1
    iintro ⟨H0, H1, H2, ⟨%f, H5⟩, HS0, HS1⟩
    iapply Hk
    isplitl [H0]; · iexact H0
    isplitl [H1]; · iexact H1
    isplitl [H2]; · iexact H2
    isplitl [H5]
    · unfold owns; iexists _; isplitr
      swap; · iexact H5
      ipureintro
      rw [run1_pieces]
      unfold blockOut; rw [hp]
      exact View.read_writes_of_cover _ _ _ _ _ (cover1 _ _ _ _ _ _)
    isplitl [HS0]; · iexact HS0
    iexact HS1
  by_cases h2 : t.val % 16 < 12
  · have hp : pcsAt (F := F) (grid0.coords t) x0 x1 x2 s0 s1 = pcs2 (BitVec.ofNat 32 (grid0.coords t 1).val) x0 x1 x2 s0 s1 := by
      unfold pcsAt; rw [if_neg (by omega)]; rw [if_neg (by omega)]; rw [if_pos (by omega)]
    iintro ⟨H0, H1, H2, H5, HS0, HS1, Hk⟩
    iapply (run2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => by have := (len0_iff t).mp h; omega) (fun h => by have := (len1_iff t).mp h; omega) ((len2_iff t).mpr (by omega)) (fun h => by have := (len3_iff t).mp h; omega) x0 x1 x2 s0 s1).2 E K
    isplitl [H0]; · iexact H0
    isplitl [H1]; · iexact H1
    isplitl [H2]; · iexact H2
    isplitl [H5]; · iexact H5
    isplitl [HS0]; · iexact HS0
    isplitl [HS1]; · iexact HS1
    iintro ⟨H0, H1, H2, ⟨%f, H5⟩, HS0, HS1⟩
    iapply Hk
    isplitl [H0]; · iexact H0
    isplitl [H1]; · iexact H1
    isplitl [H2]; · iexact H2
    isplitl [H5]
    · unfold owns; iexists _; isplitr
      swap; · iexact H5
      ipureintro
      rw [run2_pieces]
      unfold blockOut; rw [hp]
      exact View.read_writes_of_cover _ _ _ _ _ (cover2 _ _ _ _ _ _)
    isplitl [HS0]; · iexact HS0
    iexact HS1
  have hp : pcsAt (F := F) (grid0.coords t) x0 x1 x2 s0 s1 = pcs3 (BitVec.ofNat 32 (grid0.coords t 1).val) x0 x1 x2 s0 s1 := by
    unfold pcsAt; rw [if_neg (by omega)]; rw [if_neg (by omega)]; rw [if_neg (by omega)];
  iintro ⟨H0, H1, H2, H5, HS0, HS1, Hk⟩
  iapply (run3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => by have := (len0_iff t).mp h; omega) (fun h => by have := (len1_iff t).mp h; omega) (fun h => by have := (len2_iff t).mp h; omega) ((len3_iff t).mpr (by omega)) x0 x1 x2 s0 s1).2 E K
  isplitl [H0]; · iexact H0
  isplitl [H1]; · iexact H1
  isplitl [H2]; · iexact H2
  isplitl [H5]; · iexact H5
  isplitl [HS0]; · iexact HS0
  isplitl [HS1]; · iexact HS1
  iintro ⟨H0, H1, H2, ⟨%f, H5⟩, HS0, HS1⟩
  iapply Hk
  isplitl [H0]; · iexact H0
  isplitl [H1]; · iexact H1
  isplitl [H2]; · iexact H2
  isplitl [H5]
  · unfold owns; iexists _; isplitr
    swap; · iexact H5
    ipureintro
    rw [run3_pieces]
    unfold blockOut; rw [hp]
    exact View.read_writes_of_cover _ _ _ _ _ (cover3 _ _ _ _ _ _)
  isplitl [HS0]; · iexact HS0
  iexact HS1

/-! ## The proof data -/

/-- The rounded index keys of the batch of point `n`. -/
def keysAt (c : Dev nD) (n : ℕ) (hn : n < cfg0.N) : Vec F S2048x128 .bf16 := k0_pay1 (iblk m c 3 ⟨n - n % 16, by omega⟩)
/-- The rounded keys and values of the batch of point `n`. -/
def valsAt (c : Dev nD) (n : ℕ) (hn : n < cfg0.N) : Vec F S2048x1024 .bf16 := k0_pay2 (X0_4 m c ⟨n - n % 16, by omega⟩)

/-- What point `t` leaves in the result's buffer. -/
def outAt (c : Dev nD) (t : Fin cfg0.N) : Vec F S128x2048 .bf16 :=
  blockOut (grid0.coords t) (X0_0 m c t) (X0_1 m c t) (iblk m c 2 t) (keysAt m c t.val t.isLt) (valsAt m c t.val t.isLt)

/-- Before the first point the scratch arrays hold anything; after point `n` the rounded keys and values of its batch. -/
def inv (c : Dev nD) : (n : ℕ) → n ≤ cfg0.N → sProp 𝕄
  | 0, _ => Pipeline.ΦA spec0 c
  | n + 1, hn => iprop(iprop(owns (c : Thread nD τ) scM0_0 fullShare (keysAt m c n hn) ∗ owns (c : Thread nD τ) scM0_1 fullShare (valsAt m c n hn)) ∗ (∃ r, prngReg c r))

theorem inv_pos (c : Dev nD) (n : ℕ) (h : n ≤ cfg0.N) (hz : n ≠ 0) :
    inv m c n h = iprop(iprop(owns (c : Thread nD τ) scM0_0 fullShare (keysAt m c (n - 1) (by omega)) ∗ owns (c : Thread nD τ) scM0_1 fullShare (valsAt m c (n - 1) (by omega))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => X0_4 m c t
    | ⟨5, _⟩ => outAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = outAt m c t := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem leaves0 (c : Dev nD) (t : Fin cfg0.N) : (dats m 0 c).leavesExact 0 t = owns (c : Thread nD τ) (ms0_0 t) fullShare (X0_0 m c t) := by
  unfold Dat.leavesExact; rw [show cfg0.idle 0 (grid0.coords t) = false from rfl, after0]
theorem leaves1 (c : Dev nD) (t : Fin cfg0.N) : (dats m 0 c).leavesExact 1 t = owns (c : Thread nD τ) (ms0_1 t) fullShare (X0_1 m c t) := by
  unfold Dat.leavesExact; rw [show cfg0.idle 1 (grid0.coords t) = false from rfl, after1]
theorem leaves2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms0_4 t) fullShare (X0_4 m c t) := by
  unfold Dat.leavesExact; rw [show cfg0.idle 4 (grid0.coords t) = false from rfl, after4]
theorem leaves5 (c : Dev nD) (t : Fin cfg0.N) : (dats m 0 c).leavesExact 5 t = owns (c : Thread nD τ) (ms0_5 t) fullShare (outAt m c t) := by
  unfold Dat.leavesExact; rw [live5 t, after5]

/-- The scratch arrays stay as they are within a batch. -/
theorem keysAt_pred (c : Dev nD) (n : ℕ) (hn : n < cfg0.N) (h : ¬ n % 16 = 0) : keysAt m c (n - 1) (by omega) = keysAt m c n hn := by
  unfold keysAt; congr 3; omega
theorem valsAt_pred (c : Dev nD) (n : ℕ) (hn : n < cfg0.N) (h : ¬ n % 16 = 0) : valsAt m c (n - 1) (by omega) = valsAt m c n hn := by
  unfold valsAt; congr 3; omega
theorem keysAt_first (c : Dev nD) (t : Fin cfg0.N) (h : t.val % 16 = 0) : k0_pay1 (iblk m c 3 t) = keysAt m c t.val t.isLt := by
  have e : (⟨t.val - t.val % 16, by omega⟩ : Fin cfg0.N) = t := Fin.ext (by show t.val - t.val % 16 = t.val; omega)
  unfold keysAt; rw [e]
theorem valsAt_first (c : Dev nD) (t : Fin cfg0.N) (h : t.val % 16 = 0) : k0_pay2 (X0_4 m c t) = valsAt m c t.val t.isLt := by
  have e : (⟨t.val - t.val % 16, by omega⟩ : Fin cfg0.N) = t := Fin.ext (by show t.val - t.val % 16 = t.val; omega)
  unfold valsAt; rw [e]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 4000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, leaves0, leaves1, leaves2, leaves3, leaves4, leaves5]
  rw [show (dats m 0 c).owesAt () t.succ = (dats m 0 c).owesAt () t.castSucc from rfl]
  rw [show (dats m 0 c).Φ t.succ = iprop(iprop(owns (c : Thread nD τ) scM0_0 fullShare (keysAt m c t.val t.isLt) ∗ owns (c : Thread nD τ) scM0_1 fullShare (valsAt m c t.val t.isLt)) ∗ (∃ r, prngReg c r)) from rfl]
  rw [inv_castSucc, cc0_dsa_prompt_eq_skeleton, body_split]
  by_cases h0 : t.val % 16 = 0
  · have hin : inv m c t.val (Nat.le_of_lt t.isLt) ⊢ iprop(iprop((∃ d, owns (c : Thread nD τ) scM0_0 fullShare d) ∗ (∃ d, owns (c : Thread nD τ) scM0_1 fullShare d)) ∗ (∃ r, prngReg c r)) := by
      by_cases hz : t.val = 0
      · have e : inv m c t.val (Nat.le_of_lt t.isLt) = Pipeline.ΦA spec0 c := by
          obtain ⟨n, hn⟩ := t; cases hz; rfl
        rw [e, phi_eq]
      · rw [inv_pos m c _ _ hz]
        iintro ⟨⟨HS0, HS1⟩, Hg⟩
        isplitl [HS0 HS1]
        · isplitl [HS0]
          · iexists _; iexact HS0
          iexists _; iexact HS1
        iexact Hg
    iintro ⟨Hinv, Ho, ⟨%d0, H0⟩, ⟨%d1, H1⟩, ⟨%d2, H2⟩, ⟨%d3, H3⟩, ⟨%d4, H4⟩, ⟨%d5, H5⟩⟩
    ihave Hs := hin $$ Hinv
    icases Hs with ⟨⟨HS0, HS1⟩, Hg⟩
    iapply fill_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((atFirst_iff t).mpr h0) (iblk m c 3 t) (X0_4 m c t) (fun _ => blockP (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _))
    isplitl [H3]; · iexact H3
    isplitl [H4]; · iexact H4
    isplitl [HS0]; · iexact HS0
    isplitl [HS1]; · iexact HS1
    iintro ⟨H3, H4, HS0, HS1⟩
    rw [keysAt_first m c t h0, valsAt_first m c t h0]
    iapply block_runs c t (X0_0 m c t) (X0_1 m c t) (iblk m c 2 t) (keysAt m c t.val t.isLt) (valsAt m c t.val t.isLt)
    isplitl [H0]; · iexact H0
    isplitl [H1]; · iexact H1
    isplitl [H2]; · iexact H2
    isplitl [H5]; · iexists _; iexact H5
    isplitl [HS0]; · iexact HS0
    isplitl [HS1]; · iexact HS1
    iintro ⟨H0, H1, H2, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c _ _ (by omega), keysAt_pred m c _ t.isLt h0, valsAt_pred m c _ t.isLt h0, fill_later _ _ _ _ _ _ _ _ _ _ _ _ _ _ _ _ _ (fun h => h0 ((atFirst_iff t).mp h))]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply block_runs c t (X0_0 m c t) (X0_1 m c t) (iblk m c 2 t) (keysAt m c t.val t.isLt) (valsAt m c t.val t.isLt)
    isplitl [H0]; · iexact H0
    isplitl [H1]; · iexact H1
    isplitl [H2]; · iexact H2
    isplitl [H5]; · iexists _; iexact H5
    isplitl [HS0]; · iexact HS0
    isplitl [HS1]; · iexact HS1
    iintro ⟨H0, H1, H2, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 64 := N_0; omega), phi_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every fair execution ends, with the arrays as the proof data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: every fair execution ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel.Att

end
-- ==== Proof.TopK.lean ====
/- The selection by rank, on one row of keys: a threshold found bit by bit, and among the keys equal to it a cut found bit by bit, select
   exactly the columns of rank below 256, where a column's rank counts the greater keys and the equal keys before it. -/
module

public import Mathlib.Data.Finset.Card
public import Mathlib.Data.Fintype.Basic
public import Mathlib.Data.Fintype.Card
public import Mathlib.Tactic.Linarith
public import Mathlib.Tactic.Ring

@[expose] public section

noncomputable section

namespace Cert.Att

variable {n : ℕ} (k : Fin n → BitVec 32)

/-- How many keys are at least `v`. -/
def atLeast (v : ℤ) : ℕ := (Finset.univ.filter fun c => v ≤ (k c).toInt).card
/-- How many keys exceed the word `t`. -/
def above (t : BitVec 32) : ℕ := (Finset.univ.filter fun c => t.toInt < (k c).toInt).card
/-- How many keys equal to the word `t` stand before column `v`. -/
def equalBefore (t : BitVec 32) (v : ℕ) : ℕ := (Finset.univ.filter fun c : Fin n => k c = t ∧ c.val < v).card
/-- How many keys equal the word `t`. -/
def equals (t : BitVec 32) : ℕ := (Finset.univ.filter fun c : Fin n => k c = t).card
/-- The rank of a column: the greater keys, and the equal keys before it. -/
def rank (c : Fin n) : ℕ := (Finset.univ.filter fun j : Fin n => (k c).toInt < (k j).toInt ∨ (k j = k c ∧ j.val < c.val)).card

theorem equals_le (t : BitVec 32) : equals k t ≤ n := (Finset.card_le_univ _).trans (by simp)
theorem equalBefore_le (t : BitVec 32) (v : ℕ) : equalBefore k t v ≤ n := (Finset.card_le_univ _).trans (by simp)

theorem atLeast_min : atLeast k (-2147483648) = n := by
  unfold atLeast
  rw [Finset.filter_true_of_mem]
  · simp
  · intro c _
    have := BitVec.le_toInt (k c)
    simpa using this

theorem atLeast_max : atLeast k 2147483648 = 0 := by
  unfold atLeast
  rw [Finset.filter_false_of_mem]
  · simp
  · intro c _
    have := BitVec.toInt_lt (x := k c)
    simp at this
    omega

/-- Setting a clear bit below the sign, all lower bits clear, adds its weight. -/
theorem toInt_or_bit (t : BitVec 32) (j : ℕ) (hj : j ≤ 30) (h : t.toNat % 2 ^ (j + 1) = 0) :
    (t ||| 1#32 <<< j).toInt = t.toInt + 2 ^ j ∧ (t ||| 1#32 <<< j).toNat = t.toNat + 2 ^ j := by
  obtain ⟨q, hq⟩ := Nat.dvd_of_mod_eq_zero h
  have hlt : (2 : ℕ) ^ j < 2 ^ (j + 1) := Nat.pow_lt_pow_right (by decide) (by omega)
  have h1 : (1#32 <<< j).toNat = 2 ^ j := by
    rw [BitVec.toNat_shiftLeft]
    simp only [BitVec.toNat_ofNat, Nat.shiftLeft_eq]
    rw [Nat.mod_eq_of_lt (by omega : 1 < 2 ^ 32), one_mul]
    exact Nat.mod_eq_of_lt (Nat.pow_lt_pow_right (by decide) (by omega))
  have hn : (t ||| 1#32 <<< j).toNat = t.toNat + 2 ^ j := by
    rw [BitVec.toNat_or, h1, hq]
    exact (Nat.two_pow_add_eq_or_of_lt hlt q).symm
  refine ⟨?_, hn⟩
  have hp : (2 : ℕ) ^ (j + 1) = 2 * 2 ^ j := by ring
  have hr : (2 : ℕ) ^ 31 = 2 ^ (j + 1) * 2 ^ (30 - j) := by rw [← pow_add]; congr 1; omega
  have ht := t.isLt
  rw [BitVec.toInt_eq_toNat_cond, BitVec.toInt_eq_toNat_cond, hn]
  have hiff : t.toNat + 2 ^ j < 2 ^ 31 ↔ t.toNat < 2 ^ 31 := by
    constructor
    · intro h; omega
    · intro h
      rw [hq, hr] at h ⊢
      have hqr : q < 2 ^ (30 - j) := Nat.lt_of_mul_lt_mul_left h
      have : 2 ^ (j + 1) * (q + 1) ≤ 2 ^ (j + 1) * 2 ^ (30 - j) := Nat.mul_le_mul_left _ hqr
      have e : 2 ^ (j + 1) * (q + 1) = 2 ^ (j + 1) * q + 2 ^ (j + 1) := by ring
      omega
  have hc : ((2 ^ j : ℕ) : ℤ) = 2 ^ j := by push_cast; rfl
  rw [← hc]
  by_cases hs : t.toNat < 2 ^ 31
  · have := hiff.mpr hs
    rw [if_pos (by omega), if_pos (by omega)]; push_cast; ring
  · have : ¬ t.toNat + 2 ^ j < 2 ^ 31 := fun h => hs (hiff.mp h)
    rw [if_neg (by omega), if_neg (by omega)]; push_cast; ring

/-- Before step `i` of the search for the threshold: the low bits are clear, at least 256 keys are at least the word found so far and fewer
    than 256 are past its remaining range. -/
structure Thr (i : ℕ) (t : BitVec 32) : Prop where
  low : t.toNat % 2 ^ (31 - i) = 0
  enough : 256 ≤ atLeast k t.toInt
  few : atLeast k (t.toInt + 2 ^ (31 - i)) < 256

theorem thr_init (hn : 256 ≤ n) : Thr k 0 (if 256 ≤ atLeast k 0 then 0#32 else 2147483648#32) := by
  split
  · next h => exact ⟨by decide, h, by rw [show (0#32).toInt + 2 ^ (31 - 0) = (2147483648 : ℤ) by decide, atLeast_max]; decide⟩
  · next h =>
    refine ⟨by decide, ?_, ?_⟩
    · rw [show (2147483648#32).toInt = (-2147483648 : ℤ) by decide, atLeast_min]; exact hn
    · rw [show (2147483648#32).toInt + 2 ^ (31 - 0) = (0 : ℤ) by decide]; omega

theorem thr_step (i : ℕ) (hi : i < 31) (t : BitVec 32) (h : Thr k i t) :
    Thr k (i + 1) (if 256 ≤ atLeast k (t ||| 1#32 <<< (30 - i)).toInt then t ||| 1#32 <<< (30 - i) else t) := by
  obtain ⟨low, en, few⟩ := h
  have e : 31 - i = (30 - i) + 1 := by omega
  have e' : 31 - (i + 1) = 30 - i := by omega
  rw [e] at low few
  obtain ⟨hI, hN⟩ := toInt_or_bit t (30 - i) (by omega) low
  have hlow : t.toNat % 2 ^ (30 - i) = 0 :=
    Nat.mod_eq_zero_of_dvd (dvd_trans (pow_dvd_pow 2 (by omega)) (Nat.dvd_of_mod_eq_zero low))
  split
  · next hc =>
    refine ⟨?_, hc, ?_⟩
    · rw [e', hN, Nat.add_mod_right]; exact hlow
    · rw [e', hI]
      rwa [show t.toInt + 2 ^ (30 - i) + 2 ^ (30 - i) = t.toInt + 2 ^ (30 - i + 1) by ring]
  · next hc =>
    refine ⟨?_, en, ?_⟩
    · rw [e']; exact hlow
    · rw [e', ← hI]; omega

/-- At the end: at least 256 keys reach the threshold, fewer than 256 exceed it. -/
theorem thr_end (t : BitVec 32) (h : Thr k 31 t) : above k t < 256 ∧ 256 ≤ above k t + equals k t := by
  obtain ⟨-, en, few⟩ := h
  constructor
  · have : above k t = atLeast k (t.toInt + 2 ^ (31 - 31)) := by
      unfold above atLeast; congr 1
    omega
  · refine en.trans ?_
    unfold atLeast above equals
    refine (Finset.card_le_card (t := (Finset.univ.filter fun c => t.toInt < (k c).toInt) ∪ (Finset.univ.filter fun c : Fin n => k c = t)) ?_).trans
      (Finset.card_union_le _ _)
    intro c hc
    simp only [Finset.mem_union, Finset.mem_filter, Finset.mem_univ, true_and] at hc ⊢
    rcases lt_or_eq_of_le hc with h | h
    · exact Or.inl h
    · exact Or.inr (BitVec.eq_of_toInt_eq h.symm)

theorem equalBefore_mono (t : BitVec 32) {u v : ℕ} (h : u ≤ v) : equalBefore k t u ≤ equalBefore k t v :=
  Finset.card_le_card fun c hc => by
    simp only [Finset.mem_filter, Finset.mem_univ, true_and] at hc ⊢
    exact ⟨hc.1, by omega⟩

theorem equalBefore_all (t : BitVec 32) {v : ℕ} (h : n ≤ v) : equalBefore k t v = equals k t := by
  unfold equalBefore equals; congr 1; ext c
  have := c.isLt
  simp; omega

theorem equalBefore_zero (t : BitVec 32) : equalBefore k t 0 = 0 := by
  unfold equalBefore; simp

/-- Before step `i` of the search for the cut. -/
structure Cut (t : BitVec 32) (need : ℕ) (i : ℕ) (u : BitVec 32) : Prop where
  low : u.toNat % 2 ^ (11 - i) = 0
  bound : u.toNat + 2 ^ (11 - i) ≤ 2048
  few : equalBefore k t u.toNat < need
  enough : need ≤ equalBefore k t (u.toNat + 2 ^ (11 - i))

theorem cut_init (hn : n ≤ 2048) (t : BitVec 32) (need : ℕ) (h0 : 0 < need) (h1 : need ≤ equals k t) : Cut k t need 0 0#32 :=
  ⟨by decide, by decide, by rw [show (0#32).toNat = 0 from rfl, equalBefore_zero]; exact h0,
    by rw [equalBefore_all k t (by simpa using hn)]; exact h1⟩

theorem cut_step (t : BitVec 32) (need i : ℕ) (hi : i < 11) (u : BitVec 32) (h : Cut k t need i u) :
    (u ||| 1#32 <<< (10 - i)).toNat < 2048 ∧
    Cut k t need (i + 1) (if equalBefore k t (u ||| 1#32 <<< (10 - i)).toNat < need then u ||| 1#32 <<< (10 - i) else u) := by
  obtain ⟨low, bd, few, en⟩ := h
  have e : 11 - i = (10 - i) + 1 := by omega
  have e' : 11 - (i + 1) = 10 - i := by omega
  rw [e] at low bd en
  obtain ⟨-, hN⟩ := toInt_or_bit u (10 - i) (by omega) low
  have hlow : u.toNat % 2 ^ (10 - i) = 0 :=
    Nat.mod_eq_zero_of_dvd (dvd_trans (pow_dvd_pow 2 (by omega)) (Nat.dvd_of_mod_eq_zero low))
  have hp : (2 : ℕ) ^ (10 - i + 1) = 2 * 2 ^ (10 - i) := by ring
  have hpos : 0 < (2 : ℕ) ^ (10 - i) := Nat.pos_of_ne_zero (by simp)
  refine ⟨by omega, ?_⟩
  split
  · next hc =>
    refine ⟨?_, ?_, hc, ?_⟩
    · rw [e', hN, Nat.add_mod_right]; exact hlow
    · rw [e', hN]; omega
    · rw [e', hN]
      rwa [show u.toNat + 2 ^ (10 - i) + 2 ^ (10 - i) = u.toNat + 2 ^ (10 - i + 1) by omega]
  · next hc =>
    refine ⟨?_, ?_, few, ?_⟩
    · rw [e']; exact hlow
    · rw [e']; omega
    · rw [e', ← hN]; omega

theorem cut_end (t : BitVec 32) (need : ℕ) (u : BitVec 32) (h : Cut k t need 11 u) (v : ℕ) :
    v ≤ u.toNat ↔ equalBefore k t v < need := by
  obtain ⟨-, -, few, en⟩ := h
  constructor
  · intro hv; exact lt_of_le_of_lt (equalBefore_mono k t hv) few
  · intro hv
    by_contra hc
    have := equalBefore_mono k t (show u.toNat + 2 ^ (11 - 11) ≤ v by simp; omega)
    omega

/-- Without a surplus no cut is needed: an equal key never has as many equal keys before it. -/
theorem equalBefore_lt (t : BitVec 32) (need : ℕ) (h : equals k t ≤ need) (c : Fin n) (hc : k c = t) : equalBefore k t c.val < need := by
  refine lt_of_lt_of_le (Finset.card_lt_card ?_) h
  refine ⟨fun j hj => ?_, fun hs => ?_⟩
  · simp only [Finset.mem_filter, Finset.mem_univ, true_and] at hj ⊢; exact hj.1
  · have := hs (Finset.mem_filter.mpr ⟨Finset.mem_univ c, hc⟩)
    simp at this

/-- The selection is the selection by rank. -/
theorem selected_iff (t : BitVec 32) (hlt : above k t < 256) (hge : 256 ≤ above k t + equals k t) (c : Fin n) :
    (t.toInt < (k c).toInt ∨ (k c = t ∧ equalBefore k t c.val < 256 - above k t)) ↔ rank k c < 256 := by
  rcases lt_trichotomy (k c).toInt t.toInt with h | h | h
  · have hne : k c ≠ t := fun e => by rw [e] at h; omega
    have : ¬ rank k c < 256 := by
      have h2 : above k t + equals k t ≤ rank k c := by
        unfold above equals rank
        rw [← Finset.card_union_of_disjoint]
        · apply Finset.card_le_card
          intro j hj
          simp only [Finset.mem_union, Finset.mem_filter, Finset.mem_univ, true_and] at hj ⊢
          rcases hj with hj | hj
          · left; omega
          · left; rw [hj]; exact h
        · rw [Finset.disjoint_filter]
          intro j _ hj he; rw [he] at hj; omega
      omega
    constructor
    · rintro (h1 | h1)
      · omega
      · exact absurd h1.1 hne
    · intro h1; exact absurd h1 this
  · have he : k c = t := BitVec.eq_of_toInt_eq h
    have hr : rank k c = above k t + equalBefore k t c.val := by
      unfold above equalBefore rank
      rw [← Finset.card_union_of_disjoint]
      · congr 1; ext j
        simp only [Finset.mem_union, Finset.mem_filter, Finset.mem_univ, true_and, he]
      · rw [Finset.disjoint_filter]
        intro j _ hj he'; rw [he'.1] at hj; omega
    rw [hr]
    constructor
    · rintro (h1 | h1)
      · omega
      · have := h1.2; omega
    · intro h1; exact Or.inr ⟨he, by omega⟩
  · have : rank k c < 256 := by
      refine lt_of_le_of_lt ?_ hlt
      apply Finset.card_le_card
      intro j hj
      simp only [Finset.mem_filter, Finset.mem_univ, true_and] at hj ⊢
      rcases hj with hj | hj
      · omega
      · rw [hj.1]; exact h
    exact ⟨fun _ => this, fun _ => Or.inl h⟩

end Cert.Att

end
-- ==== Proof.Sel.lean ====
/- The selection of a block on vectors: what the threshold search, the tie search and the two comparisons with them keep of a row
   is what the row's ranks below 256 are; and a count by ranks over the permitted columns keeps the same. -/
module

public import Idealize.ShloMosaic.PureOps
public import Idealize.ShloMosaic.PureOps.BitExact
public import Idealize.ShloMosaic.Lib.Scf
public import Idealize.ShloMosaic.Lib.Exec.Context
public import Idealize.ShloMosaic.Lib.NatWords
public import Idealize.ShloMosaic.Lib.NatWordsOrder
public import Idealize.ShloMosaic.Lib.SortKey
public import Idealize.ShloMosaic.Lib.WordSum
public import Idealize.ShloMosaic.Lib.Pipeline.Value
public import Idealize.ShloMosaic.Lib.Pointwise.Reduce
public import proofs.«01_k».proof.Proof.TopK

@[expose] public section

noncomputable section

namespace Cert.Att

open Idealize.ShloMosaic Idealize.ShloMosaic.TcCoe Idealize.ShloMosaic.Tactic
open Idealize.ShloMosaic.Bits

variable {L : Nat}

/-- A block of `128` rows over `L` columns, and one column of `128` rows. -/
abbrev Blk (L : Nat) : Shape := ⟨2, ![128, L]⟩
abbrev Col : Shape := ⟨2, ![128, 1]⟩
abbrev Row : Shape := ⟨1, ![128]⟩

theorem f32_one : f32OfNat 1 = (0x3F800000#32 : BitVec 32) := by
  rw [f32OfNat_eq _ (by decide)]; decide
theorem f32_zero : f32OfNat 0 = (0x00000000#32 : BitVec 32) := by
  rw [f32OfNat_eq _ (by decide)]; decide
theorem f32_256 : f32OfNat 256 = (0x43800000#32 : BitVec 32) := by
  rw [f32OfNat_eq _ (by decide)]; decide

/-- How many columns of each row a mask holds at, counted in floats. -/
def count (hr : (Blk L).Reduces [1] Row) (hc : Row.ShapeCasts Col) (p : IVec (Blk L) 1) : FVec Bits Col .f32 :=
  shapeCast Col (multiReduction .add [1] Row (select p (broadcast (Blk L) (Scalar.ofBits (F := Bits) .f32 0x3F800000#32)) (broadcast (Blk L) (Scalar.ofBits (F := Bits) .f32 0x00000000#32)))
    0x00000000#32 hr (.inl rfl) rfl) hc

theorem count_apply (hr : (Blk L).Reduces [1] Row) (hc : Row.ShapeCasts Col) (hL : L < 2 ^ 24) (p : IVec (Blk L) 1) (r : Fin 128) :
    count hr hc p (ix2 r 0) = f32OfNat (Finset.univ.filter fun c : Fin L => p (ix2 r c) = 1#1).card := by
  unfold count
  rw [shapeCast_apply _ _ _ (ix1 r) (by
    rw [Shape.rowMajor_val_two, Shape.rowMajor_val_one]
    show r.val = r.val * 1 + 0
    omega)]
  have hsum : (reduceFiber hr (ix1 r)).sum (fun i => if p i = 1#1 then 1 else 0) = (Finset.univ.filter fun c : Fin L => p (ix2 r c) = 1#1).card := by
    unfold reduceFiber
    rw [hr.sum_fiber_r2_a1, Finset.card_filter]
    rfl
  rw [multiReduction_add_nat [1] hr _ (ix1 r) (fun i => if p i = 1#1 then 1 else 0), hsum]
  · intro i _
    unfold select
    by_cases h : p i = 1#1
    · rw [h, if_pos rfl]
      show natOfF32? (0x3F800000#32) = some 1
      rw [← f32_one]; exact natOfF32?_f32OfNat 1 (by decide)
    · rw [if_neg h]
      show natOfF32? (if p i = 1#1 then (0x3F800000#32 : BitVec 32) else 0x00000000#32) = some 0
      rw [if_neg h, ← f32_zero]; exact natOfF32?_f32OfNat 0 (by decide)
  · rw [hsum]
    refine lt_of_le_of_lt (Finset.card_le_univ _) ?_
    simpa using hL

/-- A column of row values, broadcast over the columns. -/
theorem bc_apply {α : Type} (hb : Col.Broadcasts (Blk L)) (x : Col.Idx → α) (r : Fin 128) (c : Fin L) : broadcastTo (Blk L) x hb (ix2 r c) = x (ix2 r 0) :=
  broadcastTo_apply _ _ _ _ (fun a => by
    match a with
    | ⟨0, _⟩ => rfl
    | ⟨1, _⟩ => rfl)

theorem iota1_apply (hi : (Blk L).Iotas .tc 32 [1]) (r : Fin 128) (c : Fin L) : iota .tc (Blk L) 32 [1] hi (ix2 r c) = BitVec.ofNat 32 c.val := by
  show BitVec.ofNat 32 (0 * L + c.val) = _
  rw [Nat.zero_mul, Nat.zero_add]

theorem fold_inv {σ : Type} {n : Nat} (P : Nat → σ → Prop) (g : Fin n → σ → σ) (init : σ) (h0 : P 0 init) (hs : ∀ (k : Fin n) acc, P k.val acc → P (k.val + 1) (g k acc)) :
    P n (Scf.fold g init) := by
  rw [Scf.fold_eq, ← Fin.foldl_eq_finRange_foldl]
  have : ∀ m (hm : m ≤ n), P m (Fin.foldl m (fun acc (k : Fin m) => g ⟨k.val, by omega⟩ acc) init) := by
    intro m
    induction m with
    | zero => intro _; simpa using h0
    | succ m ih =>
      intro hm
      rw [Fin.foldl_succ_last]
      exact hs ⟨m, by omega⟩ _ (ih (by omega))
  exact this n le_rfl

theorem one_shl (m : Nat) (hm : m ≤ 31) (i : Nat) (hi : i ≤ m) : Scalar.shli 1#32 (Scalar.subi (BitVec.ofNat 32 m) (BitVec.ofNat 32 i)) = 1#32 <<< (m - i) := by
  have e : Scalar.subi (BitVec.ofNat 32 m) (BitVec.ofNat 32 i) = BitVec.ofNat 32 (m - i) := by
    show BitVec.ofNat 32 m - BitVec.ofNat 32 i = _
    apply BitVec.eq_of_toNat_eq
    simp only [BitVec.toNat_sub, BitVec.toNat_ofNat]
    omega
  rw [e]
  show IntOp.shli .scalar 1#32 (BitVec.ofNat 32 (m - i)) = _
  unfold IntOp.shli
  have e2 : (BitVec.ofNat 32 (m - i)).toNat = m - i := by rw [BitVec.toNat_ofNat]; omega
  rw [if_pos (by rw [e2]; omega)]
  show 1#32 <<< (BitVec.ofNat 32 (m - i)).toNat = _
  rw [e2]

section Search

variable (hb : Col.Broadcasts (Blk L)) (hr : (Blk L).Reduces [1] Row) (hc : Row.ShapeCasts Col) (hi : (Blk L).Iotas .tc 32 [1])
variable (key : IVec (Blk L) 32)

/-- The keys of a row. -/
def keys (r : Fin 128) : Fin L → BitVec 32 := fun c => key (ix2 r c)

/-- The first threshold, a trip of the search, and its end. -/
def thr0 : IVec Col 32 :=
  select (cmpf .oge (count hr hc (cmpi .sge key (broadcast (Blk L) 0#32))) (broadcast Col (Scalar.ofBits (F := Bits) .f32 0x43800000#32))) (broadcast Col 0#32) (broadcast Col 2147483648#32)

def thrTrip (i : BitVec 32) (acc : IVec Col 32) : IVec Col 32 :=
  select (cmpf .oge (count hr hc (cmpi .sge key (broadcastTo (Blk L) (ori acc (broadcast Col (Scalar.shli 1#32 (Scalar.subi 30#32 i)))) hb)))
    (broadcast Col (Scalar.ofBits (F := Bits) .f32 0x43800000#32))) (ori acc (broadcast Col (Scalar.shli 1#32 (Scalar.subi 30#32 i)))) acc

theorem count_ge (p : IVec (Blk L) 1) (hL : L ≤ 2048) (r : Fin 128) {α : Type} (x y : Col.Idx → α) :
    select (cmpf .oge (count hr hc p) (broadcast Col (Scalar.ofBits (F := Bits) .f32 0x43800000#32))) x y (ix2 r 0)
      = if 256 ≤ (Finset.univ.filter fun c : Fin L => p (ix2 r c) = 1#1).card then x (ix2 r 0) else y (ix2 r 0) := by
  have hcard : (Finset.univ.filter fun c : Fin L => p (ix2 r c) = 1#1).card ≤ L := (Finset.card_le_univ _).trans (by simp)
  have e : cmpf .oge (count hr hc p) (broadcast Col (Scalar.ofBits (F := Bits) .f32 0x43800000#32)) (ix2 r 0)
      = BitVec.ofBool (decide (256 ≤ (Finset.univ.filter fun c : Fin L => p (ix2 r c) = 1#1).card)) := by
    show cmpf32 .oge (count hr hc p (ix2 r 0)) 0x43800000#32 = _
    rw [count_apply hr hc (by omega), ← f32_256, cmpf32_oge_nat (by omega) (by omega)]
  show (if _ = 1#1 then _ else _) = _
  rw [e]
  by_cases h : 256 ≤ (Finset.univ.filter fun c : Fin L => p (ix2 r c) = 1#1).card <;> simp [h]

theorem atLeast_count (hL : L ≤ 2048) (r : Fin 128) (x : IVec (Blk L) 32) (t : BitVec 32) (hx : ∀ c : Fin L, x (ix2 r c) = t) :
    (Finset.univ.filter fun c : Fin L => cmpi .sge key x (ix2 r c) = 1#1).card = atLeast (keys key r) t.toInt := by
  unfold atLeast keys
  congr 1; ext c
  simp only [Finset.mem_filter, Finset.mem_univ, true_and]
  show BitVec.ofBool ((x (ix2 r c)).sle (key (ix2 r c))) = 1#1 ↔ _
  rw [hx c, BitVec.sle]
  by_cases h : t.toInt ≤ (key (ix2 r c)).toInt <;> simp [h]

theorem thr0_apply (hL : L ≤ 2048) (r : Fin 128) :
    thr0 hr hc key (ix2 r 0) = if 256 ≤ atLeast (keys key r) 0 then 0#32 else 2147483648#32 := by
  unfold thr0
  rw [count_ge hr hc _ hL, atLeast_count key hL r _ 0#32 (fun _ => rfl)]
  rfl

theorem thrTrip_apply (hL : L ≤ 2048) (r : Fin 128) (i : Nat) (h : i < 31) (acc : IVec Col 32) :
    thrTrip hb hr hc key (BitVec.ofNat 32 i) acc (ix2 r 0)
      = if 256 ≤ atLeast (keys key r) (acc (ix2 r 0) ||| 1#32 <<< (30 - i)).toInt then acc (ix2 r 0) ||| 1#32 <<< (30 - i) else acc (ix2 r 0) := by
  have e := one_shl 30 (by omega) i (by omega)
  unfold thrTrip
  rw [count_ge hr hc _ hL, atLeast_count key hL r _ (acc (ix2 r 0) ||| 1#32 <<< (30 - i)) (fun c => by
    rw [bc_apply]
    show acc (ix2 r 0) ||| Scalar.shli 1#32 (Scalar.subi (BitVec.ofNat 32 30) (BitVec.ofNat 32 i)) = _
    rw [e])]
  show (if _ then acc (ix2 r 0) ||| Scalar.shli 1#32 (Scalar.subi (BitVec.ofNat 32 30) (BitVec.ofNat 32 i)) else _) = _
  rw [e]

theorem iv_eq (k : Nat) : Scf.iv (0#32) (1#32) k = BitVec.ofNat 32 k := by
  unfold Scf.iv
  rw [BitVec.mul_one, BitVec.zero_add]

/-- The threshold found. -/
def thr : IVec Col 32 := Scf.fold (n := 31) (fun k acc => thrTrip hb hr hc key (Scf.iv 0#32 1#32 k.val) acc) (thr0 hr hc key)

theorem thr_spec (hL : L ≤ 2048) (hL' : 256 ≤ L) (r : Fin 128) : Thr (keys key r) 31 (thr hb hr hc key (ix2 r 0)) := by
  unfold thr
  refine fold_inv (fun i (acc : IVec Col 32) => Thr (keys key r) i (acc (ix2 r 0))) _ _ ?_ ?_
  · rw [thr0_apply hr hc key hL]
    exact thr_init _ hL'
  · intro k acc h
    rw [iv_eq, thrTrip_apply hb hr hc key hL r k.val k.isLt]
    exact thr_step _ _ k.isLt _ h

variable (t : IVec Col 32)

/-- Which keys are over the threshold, and which are at it. -/
def over : IVec (Blk L) 1 := cmpi .sgt key (broadcastTo (Blk L) t hb)
def tied : IVec (Blk L) 1 := cmpi .eq key (broadcastTo (Blk L) t hb)

theorem over_iff (r : Fin 128) (c : Fin L) : over hb key t (ix2 r c) = 1#1 ↔ (t (ix2 r 0)).toInt < (keys key r c).toInt := by
  show BitVec.ofBool ((broadcastTo (Blk L) t hb (ix2 r c)).slt (key (ix2 r c))) = 1#1 ↔ _
  rw [bc_apply, BitVec.slt]
  unfold keys
  by_cases h : (t (ix2 r 0)).toInt < (key (ix2 r c)).toInt <;> simp [h]

theorem tied_iff (r : Fin 128) (c : Fin L) : tied hb key t (ix2 r c) = 1#1 ↔ keys key r c = t (ix2 r 0) := by
  show BitVec.ofBool (key (ix2 r c) == broadcastTo (Blk L) t hb (ix2 r c)) = 1#1 ↔ _
  rw [bc_apply]
  unfold keys
  by_cases h : key (ix2 r c) = t (ix2 r 0)
  · simp [h]
  · have e : (key (ix2 r c) == t (ix2 r 0)) = false := by simpa using h
    rw [e]
    simp [h]

/-- How many tied keys a row may keep, and how many more than that it has. -/
def room : FVec Bits Col .f32 := subf (broadcast Col (Scalar.ofBits (F := Bits) .f32 0x43800000#32)) (count hr hc (over hb key t))
def surplus : FVec Bits Col .f32 := subf (count hr hc (tied hb key t)) (room hb hr hc key t)

theorem count_over (hL : L ≤ 2048) (r : Fin 128) : count hr hc (over hb key t) (ix2 r 0) = f32OfNat (above (keys key r) (t (ix2 r 0))) := by
  rw [count_apply hr hc (by omega)]
  unfold above
  simp only [over_iff]

theorem count_tied (hL : L ≤ 2048) (r : Fin 128) : count hr hc (tied hb key t) (ix2 r 0) = f32OfNat (equals (keys key r) (t (ix2 r 0))) := by
  rw [count_apply hr hc (by omega)]
  unfold equals
  simp only [tied_iff]

theorem room_apply (hL : L ≤ 2048) (r : Fin 128) (h : above (keys key r) (t (ix2 r 0)) < 256) :
    room hb hr hc key t (ix2 r 0) = f32OfNat (256 - above (keys key r) (t (ix2 r 0))) := by
  show subf32 (0x43800000#32) (count hr hc (over hb key t) (ix2 r 0)) = _
  rw [count_over hb hr hc key t hL, ← f32_256, subf32_nat _ _ h.le (by decide)]

theorem surplus_apply (hL : L ≤ 2048) (r : Fin 128) (h : above (keys key r) (t (ix2 r 0)) < 256)
    (h' : 256 ≤ above (keys key r) (t (ix2 r 0)) + equals (keys key r) (t (ix2 r 0))) :
    surplus hb hr hc key t (ix2 r 0) = f32OfNat (equals (keys key r) (t (ix2 r 0)) - (256 - above (keys key r) (t (ix2 r 0)))) := by
  show subf32 (count hr hc (tied hb key t) (ix2 r 0)) (room hb hr hc key t (ix2 r 0)) = _
  have := equals_le (keys key r) (t (ix2 r 0))
  rw [count_tied hb hr hc key t hL, room_apply hb hr hc key t hL r h, subf32_nat _ _ (by omega) (by omega)]

/-- A trip of the search for the last tied column kept. -/
def cutTrip (i : BitVec 32) (acc : IVec Col 32) : IVec Col 32 :=
  select (cmpf .olt (count hr hc (andi (tied hb key t) (cmpi .slt (iota .tc (Blk L) 32 [1] hi) (broadcastTo (Blk L) (ori acc (broadcast Col (Scalar.shli 1#32 (Scalar.subi 10#32 i)))) hb))))
    (room hb hr hc key t)) (ori acc (broadcast Col (Scalar.shli 1#32 (Scalar.subi 10#32 i)))) acc

theorem toInt_small {x : BitVec 32} (h : x.toNat < 2 ^ 31) : x.toInt = x.toNat := by
  rw [BitVec.toInt_eq_toNat_cond, if_pos (by omega)]

theorem and1 (a b : BitVec 1) : a &&& b = 1#1 ↔ a = 1#1 ∧ b = 1#1 := by
  revert a b; decide
theorem or1 (a b : BitVec 1) : a ||| b = 1#1 ↔ a = 1#1 ∨ b = 1#1 := by
  revert a b; decide

theorem cutTrip_apply (hL : L ≤ 2048) (r : Fin 128) (i : Nat) (h : i < 11) (acc : IVec Col 32) (ha : above (keys key r) (t (ix2 r 0)) < 256)
    (hb' : (acc (ix2 r 0) ||| 1#32 <<< (10 - i)).toNat < 2048) :
    cutTrip hb hr hc hi key t (BitVec.ofNat 32 i) acc (ix2 r 0)
      = if equalBefore (keys key r) (t (ix2 r 0)) (acc (ix2 r 0) ||| 1#32 <<< (10 - i)).toNat < 256 - above (keys key r) (t (ix2 r 0))
        then acc (ix2 r 0) ||| 1#32 <<< (10 - i) else acc (ix2 r 0) := by
  have e := one_shl 10 (by omega) i (by omega)
  unfold cutTrip
  generalize hcand : (ori acc (broadcast Col (Scalar.shli 1#32 (Scalar.subi 10#32 (BitVec.ofNat 32 i)))) : IVec Col 32) = cand
  have hcv : cand (ix2 r 0) = acc (ix2 r 0) ||| 1#32 <<< (10 - i) := by
    rw [← hcand]
    show acc (ix2 r 0) ||| Scalar.shli 1#32 (Scalar.subi (BitVec.ofNat 32 10) (BitVec.ofNat 32 i)) = _
    rw [e]
  rw [← hcv] at hb' ⊢
  have hcard : (Finset.univ.filter fun c : Fin L => (andi (tied hb key t) (cmpi .slt (iota .tc (Blk L) 32 [1] hi) (broadcastTo (Blk L) cand hb))) (ix2 r c) = 1#1).card
      = equalBefore (keys key r) (t (ix2 r 0)) (cand (ix2 r 0)).toNat := by
    unfold equalBefore
    congr 1; ext c
    simp only [Finset.mem_filter, Finset.mem_univ, true_and]
    show tied hb key t (ix2 r c) &&& BitVec.ofBool ((iota .tc (Blk L) 32 [1] hi (ix2 r c)).slt (broadcastTo (Blk L) cand hb (ix2 r c))) = 1#1 ↔ _
    rw [and1, tied_iff, bc_apply, iota1_apply, BitVec.slt]
    have hc' := c.isLt
    have e1 : (BitVec.ofNat 32 c.val).toNat = c.val := by rw [BitVec.toNat_ofNat]; omega
    rw [toInt_small (x := BitVec.ofNat 32 c.val) (by rw [e1]; omega), toInt_small (x := cand (ix2 r 0)) (by omega), e1]
    refine and_congr_right fun _ => ?_
    by_cases h : c.val < (cand (ix2 r 0)).toNat <;> simp [h]
  have hle : equalBefore (keys key r) (t (ix2 r 0)) (cand (ix2 r 0)).toNat ≤ L := equalBefore_le _ _ _
  show (if cmpf32 .olt (count hr hc _ (ix2 r 0)) (room hb hr hc key t (ix2 r 0)) = 1#1 then _ else _) = _
  rw [count_apply hr hc (by omega), hcard, room_apply hb hr hc key t hL r ha, cmpf32_olt_nat (by omega) (by omega)]
  by_cases h : equalBefore (keys key r) (t (ix2 r 0)) (cand (ix2 r 0)).toNat < 256 - above (keys key r) (t (ix2 r 0)) <;> simp [h]

/-- The largest surplus of the rows. -/
def most (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) (x : FVec Bits Col .f32) : Bits .f32 :=
  extractAt (s := ⟨3, ![1, 1, 1]⟩) ![0, 0, 0] (shapeCast ⟨3, ![1, 1, 1]⟩ (multiReduction .maximumf [1, 2] ⟨1, ![1]⟩ (shapeCast ⟨3, ![1, 128, 1]⟩ x h1) 0xFF800000#32 h2 (.inl rfl) rfl) h3) h4

theorem most_pos (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) (x : FVec Bits Col .f32)
    (f : Fin 128 → Nat) (hf : ∀ r, f r ≤ 2048) (hx : ∀ r, x (ix2 r 0) = f32OfNat (f r)) :
    Scalar.cmpi .ne (Scalar.extui (Scalar.cmpf .ogt (most h1 h2 h3 h4 x) (Scalar.ofBits (F := Bits) .f32 0x00000000#32))) 0#32 = 1#1 ↔ ∃ r, 0 < f r := by
  let g : (⟨3, ![1, 128, 1]⟩ : Shape).Idx → Nat := fun i => f (i 1)
  have hsrc : shapeCast ⟨3, ![1, 128, 1]⟩ x h1 = fun i => f32OfNat (g i) := by
    funext i
    rw [shapeCast_apply x h1 i (ix2 (i 1) 0) (by
      rw [Shape.rowMajor_val_two, Shape.rowMajor_val_three]
      have a0 : (i 0).val < 1 := (i 0).isLt
      have a2 : (i 2).val < 1 := (i 2).isLt
      show (i 1).val * 1 + 0 = ((i 0).val * 128 + (i 1).val) * 1 + (i 2).val
      omega)]
    exact hx (i 1)
  have hall : ∀ j i, h2.drop i = j := by
    intro j i; funext b; apply Fin.ext
    have hb1 : b.val < 1 := b.isLt
    have e : ∀ z : Fin ((⟨1, ![1]⟩ : Shape).size b), z.val = 0 := by
      intro z
      have := z.isLt
      have hb0 : b = 0 := Fin.ext (by show b.val = 0; omega)
      subst hb0
      have : z.val < 1 := z.isLt
      omega
    rw [e, e]
  have hm : most h1 h2 h3 h4 x = f32OfNat (Finset.univ.fold max 0 g) := by
    unfold most
    show shapeCast ⟨3, ![1, 1, 1]⟩ _ h3 _ = _
    rw [shapeCast_apply _ h3 _ (ix1 0) (by
      have : ∀ z : Fin (Shape.numel ⟨3, ![1, 1, 1]⟩), z.val = 0 := by
        intro z; have := z.isLt
        have e : Shape.numel ⟨3, ![1, 1, 1]⟩ = 1 := by decide
        omega
      rw [this]
      rw [Shape.rowMajor_val_one]; rfl), hsrc]
    refine (multiReduction_maximumf_eq_fold (F := Bits) _ _ h2 _ _ _).trans ?_
    rw [Finset.filter_true_of_mem (fun i _ => hall _ i)]
    exact fold_maximumf_negativeInfinity_nat Finset.univ ⟨ix3 0 0 0, Finset.mem_univ _⟩ g (fun i _ => (hf _).trans (by decide))
  obtain ⟨-, hall', hor⟩ := fold_max_spec Finset.univ g 0
  have hle : Finset.univ.fold max 0 g ≤ 2048 := by
    rcases hor with h | ⟨i, -, h⟩
    · omega
    · rw [h]; exact hf _
  have hc : Scalar.cmpf .ogt (most h1 h2 h3 h4 x) (Scalar.ofBits (F := Bits) .f32 0x00000000#32) = BitVec.ofBool (decide (0 < Finset.univ.fold max 0 g)) := by
    show cmpf32 .ogt (most h1 h2 h3 h4 x) 0x00000000#32 = _
    rw [hm, ← f32_zero, cmpf32_ogt_nat (by omega) (by omega)]
  have hx1 : (0 < Finset.univ.fold max 0 g) ↔ ∃ r, 0 < f r := by
    constructor
    · intro h
      rcases hor with h' | ⟨i, -, h'⟩
      · omega
      · exact ⟨i 1, by have : g i = f (i 1) := rfl; omega⟩
    · rintro ⟨r, h⟩
      have := hall' (ix3 0 r 0) (Finset.mem_univ _)
      have e : g (ix3 0 r 0) = f r := rfl
      omega
  rw [hc, ← hx1]
  by_cases h : 0 < Finset.univ.fold max 0 g
  · simp only [h, decide_true, iff_true]; decide
  · simp only [h, decide_false, iff_false]; decide

/-- The last tied column kept. -/
def cut (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) : IVec Col 32 :=
  if Scalar.cmpi .ne (Scalar.extui (Scalar.cmpf .ogt (most h1 h2 h3 h4 (surplus hb hr hc key t)) (Scalar.ofBits (F := Bits) .f32 0x00000000#32))) 0#32 = 1#1 then
    Scf.fold (n := 11) (fun k acc => cutTrip hb hr hc hi key t (Scf.iv 0#32 1#32 k.val) acc) (broadcast Col 0#32)
  else broadcast Col 2047#32

/-- What a block keeps: the keys over the threshold, and the tied ones up to the cut. -/
def keep (u : IVec Col 32) : IVec (Blk L) 1 :=
  ori (over hb key t) (andi (tied hb key t) (cmpi .sle (iota .tc (Blk L) 32 [1] hi) (broadcastTo (Blk L) u hb)))

theorem keep_iff (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) (hL : L ≤ 2048)
    (ha : ∀ r, above (keys key r) (t (ix2 r 0)) < 256) (hge : ∀ r, 256 ≤ above (keys key r) (t (ix2 r 0)) + equals (keys key r) (t (ix2 r 0))) (r : Fin 128) (c : Fin L) :
    keep hb hi key t (cut hb hr hc hi key t h1 h2 h3 h4) (ix2 r c) = 1#1 ↔ rank (keys key r) c < 256 := by
  have hlast : keys key r c = t (ix2 r 0) → (c.val ≤ (cut hb hr hc hi key t h1 h2 h3 h4 (ix2 r 0)).toNat ↔
        equalBefore (keys key r) (t (ix2 r 0)) c.val < 256 - above (keys key r) (t (ix2 r 0)))
      ∧ (cut hb hr hc hi key t h1 h2 h3 h4 (ix2 r 0)).toNat < 2048 := by
    intro he
    have hmost := most_pos h1 h2 h3 h4 (surplus hb hr hc key t) (fun r => equals (keys key r) (t (ix2 r 0)) - (256 - above (keys key r) (t (ix2 r 0))))
      (fun r => by have := equals_le (keys key r) (t (ix2 r 0)); omega) (fun r => surplus_apply hb hr hc key t hL r (ha r) (hge r))
    unfold cut
    by_cases hm : ∃ r, 0 < equals (keys key r) (t (ix2 r 0)) - (256 - above (keys key r) (t (ix2 r 0)))
    · rw [if_pos (hmost.mpr hm)]
      have hcut : Cut (keys key r) (t (ix2 r 0)) (256 - above (keys key r) (t (ix2 r 0))) 11
          (Scf.fold (n := 11) (fun k acc => cutTrip hb hr hc hi key t (Scf.iv 0#32 1#32 k.val) acc) (broadcast Col 0#32) (ix2 r 0)) := by
        refine fold_inv (fun i (acc : IVec Col 32) => Cut (keys key r) (t (ix2 r 0)) (256 - above (keys key r) (t (ix2 r 0))) i (acc (ix2 r 0))) _ _ ?_ ?_
        · exact cut_init _ hL _ _ (by have := ha r; omega) (by have := hge r; omega)
        · intro k acc h
          obtain ⟨s1, s2⟩ := cut_step _ _ _ _ k.isLt _ h
          rw [iv_eq, cutTrip_apply hb hr hc hi key t hL r k.val k.isLt acc (ha r) s1]
          exact s2
      exact ⟨cut_end _ _ _ _ hcut c.val, by have := hcut.bound; omega⟩
    · rw [if_neg (fun h => hm (hmost.mp h))]
      refine ⟨⟨fun _ => ?_, fun _ => ?_⟩, by show (2047#32).toNat < 2048; decide⟩
      · exact equalBefore_lt _ _ _ (by have := not_exists.mp hm r; omega) c he
      · show c.val ≤ (2047#32).toNat
        have := c.isLt
        have e : (2047#32).toNat = 2047 := by decide
        omega
  rw [← selected_iff (keys key r) (t (ix2 r 0)) (ha r) (hge r) c]
  show over hb key t (ix2 r c) ||| (tied hb key t (ix2 r c) &&& BitVec.ofBool ((iota .tc (Blk L) 32 [1] hi (ix2 r c)).sle (broadcastTo (Blk L) (cut hb hr hc hi key t h1 h2 h3 h4) hb (ix2 r c)))) = 1#1 ↔ _
  rw [or1, and1, over_iff, tied_iff, bc_apply, iota1_apply, BitVec.sle]
  refine or_congr_right (and_congr_right fun he => ?_)
  obtain ⟨h5, h6⟩ := hlast he
  rw [← h5]
  have hc' := c.isLt
  have e1 : (BitVec.ofNat 32 c.val).toNat = c.val := by rw [BitVec.toNat_ofNat]; omega
  rw [toInt_small (x := BitVec.ofNat 32 c.val) (by rw [e1]; omega), toInt_small (x := cut hb hr hc hi key t h1 h2 h3 h4 (ix2 r 0)) (by omega), e1]
  by_cases h : c.val ≤ (cut hb hr hc hi key t h1 h2 h3 h4 (ix2 r 0)).toNat <;> simp [h]

end Search

/-- A permitted column's key, every other column at the smallest. -/
def masked (ok : IVec (Blk L) 1) (w : IVec (Blk L) 32) : IVec (Blk L) 32 :=
  select ok (xori w (andi (shrsi w (broadcast (Blk L) 31#32)) (broadcast (Blk L) 2147483647#32))) (broadcast (Blk L) 2147483648#32)

/-- The selection of a block from its scores' words. -/
def picked (hb : Col.Broadcasts (Blk L)) (hr : (Blk L).Reduces [1] Row) (hc : Row.ShapeCasts Col) (hi : (Blk L).Iotas .tc 32 [1])
    (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) (ok : IVec (Blk L) 1) (w : IVec (Blk L) 32) : IVec (Blk L) 1 :=
  andi (keep hb hi (masked ok w) (thr hb hr hc (masked ok w)) (cut hb hr hc hi (masked ok w) (thr hb hr hc (masked ok w)) h1 h2 h3 h4)) ok

/-- The words in the order of the floats they hold. -/
def plain (w : IVec (Blk L) 32) : IVec (Blk L) 32 :=
  select (cmpi .slt w (broadcast (Blk L) 0#32)) (xori w (broadcast (Blk L) 2147483647#32)) w

/-- A block of `128` rows over pairs of columns. -/
abbrev Prs (L : Nat) : Shape := ⟨3, ![128, L, L]⟩

/-- One at every pair of a column and a permitted column ahead of it. -/
def ahead (g1 : (Blk L).ShapeCasts ⟨3, ![128, 1, L]⟩) (g2 : (Blk L).ShapeCasts ⟨3, ![128, L, 1]⟩) (g3 : (⟨3, ![128, 1, L]⟩ : Shape).Broadcasts (Prs L))
    (g4 : (⟨3, ![128, L, 1]⟩ : Shape).Broadcasts (Prs L)) (g5 : (⟨3, ![1, L, L]⟩ : Shape).Broadcasts (Prs L)) (g6 : (⟨3, ![1, L, L]⟩ : Shape).Iotas .tc 32 [2])
    (g7 : (⟨3, ![1, L, L]⟩ : Shape).Iotas .tc 32 [1]) (ok : IVec (Blk L) 1) (k : IVec (Blk L) 32) : IVec (Prs L) 32 :=
  select (andi (broadcastTo (Prs L) (shapeCast ⟨3, ![128, 1, L]⟩ ok g1) g3)
        (ori (cmpi .sgt (broadcastTo (Prs L) (shapeCast ⟨3, ![128, 1, L]⟩ k g1) g3) (broadcastTo (Prs L) (shapeCast ⟨3, ![128, L, 1]⟩ k g2) g4))
          (andi (cmpi .eq (broadcastTo (Prs L) (shapeCast ⟨3, ![128, 1, L]⟩ k g1) g3) (broadcastTo (Prs L) (shapeCast ⟨3, ![128, L, 1]⟩ k g2) g4))
            (broadcastTo (Prs L) (cmpi .slt (iota .tc ⟨3, ![1, L, L]⟩ 32 [2] g6) (iota .tc ⟨3, ![1, L, L]⟩ 32 [1] g7)) g5))))
      (broadcast (Prs L) 1#32) (broadcast (Prs L) 0#32)

/-- The selection by counting, at every column, the permitted columns ahead of it. -/
def ranked (g1 : (Blk L).ShapeCasts ⟨3, ![128, 1, L]⟩) (g2 : (Blk L).ShapeCasts ⟨3, ![128, L, 1]⟩) (g3 : (⟨3, ![128, 1, L]⟩ : Shape).Broadcasts (Prs L))
    (g4 : (⟨3, ![128, L, 1]⟩ : Shape).Broadcasts (Prs L)) (g5 : (⟨3, ![1, L, L]⟩ : Shape).Broadcasts (Prs L)) (g6 : (⟨3, ![1, L, L]⟩ : Shape).Iotas .tc 32 [2])
    (g7 : (⟨3, ![1, L, L]⟩ : Shape).Iotas .tc 32 [1]) (g8 : (Prs L).Reduces [2] (Blk L)) (ok : IVec (Blk L) 1) (k : IVec (Blk L) 32) : IVec (Blk L) 1 :=
  andi ok (cmpi .slt (multiReductionI .add [2] (Blk L)
    (ahead g1 g2 g3 g4 g5 g6 g7 ok k) 0#32 g8 rfl) (broadcast (Blk L) 256#32))

theorem key_eq (ok : IVec (Blk L) 1) (w : IVec (Blk L) 32) (r : Fin 128) (c : Fin L) (h : ok (ix2 r c) = 1#1) : masked ok w (ix2 r c) = plain w (ix2 r c) := by
  show (if ok (ix2 r c) = 1#1 then IntOp.xori (w (ix2 r c)) (IntOp.andi (IntOp.shrsi _ (w (ix2 r c)) 31#32) 0x7FFFFFFF#32) else _)
    = (if BitVec.ofBool ((w (ix2 r c)).slt 0#32) = 1#1 then w (ix2 r c) ^^^ 2147483647#32 else w (ix2 r c))
  rw [if_pos h, Idealize.ShloMosaic.xori_andi_shrsi_eq_sortableKey]
  have e : (w (ix2 r c)).slt 0#32 = (w (ix2 r c)).msb := by
    rw [BitVec.slt_zero_eq_msb]
  rw [e]
  cases hm : (w (ix2 r c)).msb
  · rw [Idealize.ShloMosaic.sortableKey_of_msb_false _ hm, if_neg (by decide)]
  · rw [Idealize.ShloMosaic.sortableKey_of_msb_true _ hm, if_pos (by decide)]

theorem masked_no (ok : IVec (Blk L) 1) (w : IVec (Blk L) 32) (r : Fin 128) (c : Fin L) (h : ¬ ok (ix2 r c) = 1#1) : masked ok w (ix2 r c) = 2147483648#32 := by
  show (if ok (ix2 r c) = 1#1 then _ else _) = _
  rw [if_neg h]; rfl

theorem mid_apply {α : Type} (g1 : (Blk L).ShapeCasts ⟨3, ![128, 1, L]⟩) (g3 : (⟨3, ![128, 1, L]⟩ : Shape).Broadcasts (Prs L)) (x : (Blk L).Idx → α) (r : Fin 128) (c j : Fin L) :
    broadcastTo (Prs L) (shapeCast ⟨3, ![128, 1, L]⟩ x g1) g3 (ix3 r c j) = x (ix2 r j) := by
  rw [broadcastTo_apply _ g3 _ (ix3 r 0 j) (fun a => by
    match a with
    | ⟨0, _⟩ => rfl
    | ⟨1, _⟩ => rfl
    | ⟨2, _⟩ =>
      show j.val = if L = 1 then 0 else j.val
      split
      · have := j.isLt; omega
      · rfl), shapeCast_apply x g1 _ (ix2 r j) (by
    rw [Shape.rowMajor_val_two, Shape.rowMajor_val_three]
    show r.val * L + j.val = (r.val * 1 + 0) * L + j.val
    rw [Nat.mul_one, Nat.add_zero])]

theorem last_apply {α : Type} (g2 : (Blk L).ShapeCasts ⟨3, ![128, L, 1]⟩) (g4 : (⟨3, ![128, L, 1]⟩ : Shape).Broadcasts (Prs L)) (x : (Blk L).Idx → α) (r : Fin 128) (c j : Fin L) :
    broadcastTo (Prs L) (shapeCast ⟨3, ![128, L, 1]⟩ x g2) g4 (ix3 r c j) = x (ix2 r c) := by
  rw [broadcastTo_apply _ g4 _ (ix3 r c 0) (fun a => by
    match a with
    | ⟨0, _⟩ => rfl
    | ⟨1, _⟩ =>
      show c.val = if L = 1 then 0 else c.val
      split
      · have := c.isLt; omega
      · rfl
    | ⟨2, _⟩ => rfl), shapeCast_apply x g2 _ (ix2 r c) (by
    rw [Shape.rowMajor_val_two, Shape.rowMajor_val_three]
    show r.val * L + c.val = (r.val * L + c.val) * 1 + 0
    rw [Nat.mul_one, Nat.add_zero])]

theorem before_apply (g5 : (⟨3, ![1, L, L]⟩ : Shape).Broadcasts (Prs L)) (g6 : (⟨3, ![1, L, L]⟩ : Shape).Iotas .tc 32 [2])
    (g7 : (⟨3, ![1, L, L]⟩ : Shape).Iotas .tc 32 [1]) (hL : L ≤ 2048) (r : Fin 128) (c j : Fin L) :
    broadcastTo (Prs L) (cmpi .slt (iota .tc ⟨3, ![1, L, L]⟩ 32 [2] g6) (iota .tc ⟨3, ![1, L, L]⟩ 32 [1] g7)) g5 (ix3 r c j) = BitVec.ofBool (decide (j.val < c.val)) := by
  rw [broadcastTo_apply _ g5 _ (ix3 0 c j) (fun a => by
    match a with
    | ⟨0, _⟩ => rfl
    | ⟨1, _⟩ =>
      show c.val = if L = 1 then 0 else c.val
      split
      · have := c.isLt; omega
      · rfl
    | ⟨2, _⟩ =>
      show j.val = if L = 1 then 0 else j.val
      split
      · have := j.isLt; omega
      · rfl)]
  show BitVec.ofBool (BitVec.slt (BitVec.ofNat 32 (0 * L + j.val)) (BitVec.ofNat 32 (0 * L + c.val))) = _
  have hj := j.isLt
  have hc := c.isLt
  rw [Nat.zero_mul, Nat.zero_add, Nat.zero_add, BitVec.slt, toInt_small (by rw [BitVec.toNat_ofNat]; omega), toInt_small (by rw [BitVec.toNat_ofNat]; omega),
    BitVec.toNat_ofNat, BitVec.toNat_ofNat, Nat.mod_eq_of_lt (by omega), Nat.mod_eq_of_lt (by omega)]
  congr 2
  exact propext Nat.cast_lt

theorem ranked_iff (g1 : (Blk L).ShapeCasts ⟨3, ![128, 1, L]⟩) (g2 : (Blk L).ShapeCasts ⟨3, ![128, L, 1]⟩) (g3 : (⟨3, ![128, 1, L]⟩ : Shape).Broadcasts (Prs L))
    (g4 : (⟨3, ![128, L, 1]⟩ : Shape).Broadcasts (Prs L)) (g5 : (⟨3, ![1, L, L]⟩ : Shape).Broadcasts (Prs L)) (g6 : (⟨3, ![1, L, L]⟩ : Shape).Iotas .tc 32 [2])
    (g7 : (⟨3, ![1, L, L]⟩ : Shape).Iotas .tc 32 [1]) (g8 : (Prs L).Reduces [2] (Blk L)) (ok : IVec (Blk L) 1) (k : IVec (Blk L) 32) (hL : L ≤ 2048) (h2 : 2 ≤ L) (r : Fin 128) (c : Fin L) :
    ranked g1 g2 g3 g4 g5 g6 g7 g8 ok k (ix2 r c) = 1#1 ↔ ok (ix2 r c) = 1#1 ∧
      (Finset.univ.filter fun j : Fin L => ok (ix2 r j) = 1#1 ∧ ((k (ix2 r c)).toInt < (k (ix2 r j)).toInt ∨ (k (ix2 r j) = k (ix2 r c) ∧ j.val < c.val))).card < 256 := by
  have hn : (multiReductionI .add [2] (Blk L)
    (ahead g1 g2 g3 g4 g5 g6 g7 ok k) 0#32 g8 rfl (ix2 r c)).toNat
      = (Finset.univ.filter fun j : Fin L => ok (ix2 r j) = 1#1 ∧ ((k (ix2 r c)).toInt < (k (ix2 r j)).toInt ∨ (k (ix2 r j) = k (ix2 r c) ∧ j.val < c.val))).card := by
    have hsum := g8.sum_fiber_r3_a2 (ix2 r c) (fun i => ((ahead g1 g2 g3 g4 g5 g6 g7 ok k) i).toNat)
    have heach : ∀ j : Fin L, ((ahead g1 g2 g3 g4 g5 g6 g7 ok k) (ix3 r c j)).toNat
        = if ok (ix2 r j) = 1#1 ∧ ((k (ix2 r c)).toInt < (k (ix2 r j)).toInt ∨ (k (ix2 r j) = k (ix2 r c) ∧ j.val < c.val)) then 1 else 0 := by
      intro j
      show (if broadcastTo (Prs L) (shapeCast ⟨3, ![128, 1, L]⟩ ok g1) g3 (ix3 r c j) &&&
          (BitVec.ofBool ((broadcastTo (Prs L) (shapeCast ⟨3, ![128, L, 1]⟩ k g2) g4 (ix3 r c j)).slt (broadcastTo (Prs L) (shapeCast ⟨3, ![128, 1, L]⟩ k g1) g3 (ix3 r c j))) |||
            (BitVec.ofBool (broadcastTo (Prs L) (shapeCast ⟨3, ![128, 1, L]⟩ k g1) g3 (ix3 r c j) == broadcastTo (Prs L) (shapeCast ⟨3, ![128, L, 1]⟩ k g2) g4 (ix3 r c j)) &&&
              broadcastTo (Prs L) (cmpi .slt (iota .tc ⟨3, ![1, L, L]⟩ 32 [2] g6) (iota .tc ⟨3, ![1, L, L]⟩ 32 [1] g7)) g5 (ix3 r c j))) = 1#1 then 1#32 else 0#32).toNat = _
      rw [mid_apply g1 g3 ok, mid_apply g1 g3 k, last_apply g2 g4 k, before_apply g5 g6 g7 hL]
      have e1 : BitVec.ofBool ((k (ix2 r c)).slt (k (ix2 r j))) = 1#1 ↔ (k (ix2 r c)).toInt < (k (ix2 r j)).toInt := by
        rw [BitVec.slt]; by_cases h : (k (ix2 r c)).toInt < (k (ix2 r j)).toInt <;> simp [h]
      have e2 : BitVec.ofBool (k (ix2 r j) == k (ix2 r c)) = 1#1 ↔ k (ix2 r j) = k (ix2 r c) := by
        by_cases h : k (ix2 r j) = k (ix2 r c)
        · simp [h]
        · have e : (k (ix2 r j) == k (ix2 r c)) = false := by simpa using h
          rw [e]; simp [h]
      have e3 : BitVec.ofBool (decide (j.val < c.val)) = 1#1 ↔ j.val < c.val := by
        by_cases h : j.val < c.val <;> simp [h]
      simp only [and1, or1, e1, e2, e3]
      split <;> rfl
    have hval : (∑ i ∈ Finset.univ.filter (fun i => g8.drop i = ix2 r c), ((ahead g1 g2 g3 g4 g5 g6 g7 ok k) i).toNat)
        = (Finset.univ.filter fun j : Fin L => ok (ix2 r j) = 1#1 ∧ ((k (ix2 r c)).toInt < (k (ix2 r j)).toInt ∨ (k (ix2 r j) = k (ix2 r c) ∧ j.val < c.val))).card := by
      rw [hsum, Finset.card_filter]
      exact Finset.sum_congr rfl fun j _ => heach j
    refine (WordSum.toNat_multiReductionI_add _ g8 rfl _ ?_).trans hval
    rw [hval]
    refine lt_of_le_of_lt (Finset.card_le_univ _) ?_
    rw [Fintype.card_fin]; omega
  show ok (ix2 r c) &&& BitVec.ofBool (BitVec.slt (multiReductionI .add [2] (Blk L) _ 0#32 g8 rfl (ix2 r c)) 256#32) = 1#1 ↔ _
  rw [and1]
  refine and_congr_right fun _ => ?_
  have hle : (Finset.univ.filter fun j : Fin L => ok (ix2 r j) = 1#1 ∧ ((k (ix2 r c)).toInt < (k (ix2 r j)).toInt ∨ (k (ix2 r j) = k (ix2 r c) ∧ j.val < c.val))).card ≤ L :=
    (Finset.card_le_univ _).trans (by simp)
  rw [← hn] at hle ⊢
  rw [BitVec.slt, toInt_small (by omega), toInt_small (x := 256#32) (by decide)]
  have e : (256#32).toNat = 256 := by decide
  rw [e]
  generalize (multiReductionI .add [2] (Blk L) _ 0#32 g8 rfl (ix2 r c)).toNat = n
  by_cases h : n < 256 <;> simp [h]

theorem picked_eq_ranked (hb : Col.Broadcasts (Blk L)) (hr : (Blk L).Reduces [1] Row) (hc : Row.ShapeCasts Col) (hi : (Blk L).Iotas .tc 32 [1])
    (h1 : Col.ShapeCasts ⟨3, ![1, 128, 1]⟩) (h2 : (⟨3, ![1, 128, 1]⟩ : Shape).Reduces [1, 2] ⟨1, ![1]⟩) (h3 : (⟨1, ![1]⟩ : Shape).ShapeCasts ⟨3, ![1, 1, 1]⟩)
    (h4 : ∀ a : Fin 3, (![0, 0, 0] : Fin 3 → Nat) a < (⟨3, ![1, 1, 1]⟩ : Shape).size a) (g1 : (Blk L).ShapeCasts ⟨3, ![128, 1, L]⟩)
    (g2 : (Blk L).ShapeCasts ⟨3, ![128, L, 1]⟩) (g3 : (⟨3, ![128, 1, L]⟩ : Shape).Broadcasts (Prs L))
    (g4 : (⟨3, ![128, L, 1]⟩ : Shape).Broadcasts (Prs L)) (g5 : (⟨3, ![1, L, L]⟩ : Shape).Broadcasts (Prs L)) (g6 : (⟨3, ![1, L, L]⟩ : Shape).Iotas .tc 32 [2])
    (g7 : (⟨3, ![1, L, L]⟩ : Shape).Iotas .tc 32 [1]) (g8 : (Prs L).Reduces [2] (Blk L)) (hL : L ≤ 2048) (hL' : 256 ≤ L) (ok : IVec (Blk L) 1) (w : IVec (Blk L) 32)
    (hdown : ∀ (r : Fin 128) (c j : Fin L), ok (ix2 r c) = 1#1 → j.val < c.val → ok (ix2 r j) = 1#1) :
    picked hb hr hc hi h1 h2 h3 h4 ok w = ranked g1 g2 g3 g4 g5 g6 g7 g8 ok (plain w) := by
  have bit : ∀ a b : BitVec 1, (a = 1#1 ↔ b = 1#1) → a = b := by decide
  funext y
  rw [eq_ix2 y]
  generalize y 0 = r
  generalize y 1 = c
  refine bit _ _ ?_
  rw [ranked_iff g1 g2 g3 g4 g5 g6 g7 g8 ok _ hL (by omega) r c]
  show keep hb hi _ _ _ (ix2 r c) &&& ok (ix2 r c) = 1#1 ↔ _
  have hthr := thr_spec hb hr hc (masked ok w) hL hL'
  rw [and1, keep_iff hb hr hc hi (masked ok w) _ h1 h2 h3 h4 hL (fun r => (thr_end _ _ (hthr r)).1) (fun r => (thr_end _ _ (hthr r)).2) r c, and_comm]
  refine and_congr_right fun ho => ?_
  have : rank (keys (masked ok w) r) c = (Finset.univ.filter fun j : Fin L => ok (ix2 r j) = 1#1 ∧
      ((plain w (ix2 r c)).toInt < (plain w (ix2 r j)).toInt ∨ (plain w (ix2 r j) = plain w (ix2 r c) ∧ j.val < c.val))).card := by
    unfold rank keys
    congr 1; ext j
    simp only [Finset.mem_filter, Finset.mem_univ, true_and]
    rw [key_eq ok w r c ho]
    by_cases hj : ok (ix2 r j) = 1#1
    · rw [key_eq ok w r j hj]; simp only [hj, true_and]
    · rw [masked_no ok w r j hj]
      simp only [hj, false_and, iff_false, not_or, not_and]
      refine ⟨?_, fun _ hlt => hj (hdown r c j ho hlt)⟩
      have e : (2147483648#32).toInt = -2147483648 := by decide
      have := (plain w (ix2 r c)).le_toInt
      rw [e]; omega
  rw [this]

end Cert.Att
-- ==== Proof.Spec.lean ====
/- What one block of 128 query rows gets over the first `L` keys of its sequence: the index scores, the permitted columns, and the
   attention of the sixteen heads, four to each key and value head, under a selection left open. -/
module

public import proofs.«01_k».proof.Proof.Sel

@[expose] public section

noncomputable section

namespace Cert.Att

open Idealize.ShloMosaic Idealize.ShloMosaic.TcCoe Idealize.ShloMosaic.Tactic

/-- One head of a block of queries, one head of `L` keys, and the four heads of a group one under another. -/
abbrev Sq : Shape := ⟨2, ![128, 128]⟩
abbrev Key (L : Nat) : Shape := ⟨2, ![L, 128]⟩
abbrev Quad : Shape := ⟨2, ![512, 128]⟩
abbrev QuadL (L : Nat) : Shape := ⟨2, ![512, L]⟩
abbrev QuadC : Shape := ⟨2, ![512, 1]⟩
abbrev QuadR : Shape := ⟨1, ![512]⟩
abbrev Four (L : Nat) : Shape := ⟨3, ![4, 128, L]⟩
abbrev One (L : Nat) : Shape := ⟨3, ![1, 128, L]⟩

/-- The three products of a block and what its shape changes ask. -/
structure Geo (L : Nat) where
  dS : DotDims Sq (Key L) (Blk L)
  dQ : DotDims Quad (Key L) (QuadL L)
  dV : DotDims (QuadL L) (Key L) Quad
  hb : Col.Broadcasts (Blk L)
  i0 : (Blk L).Iotas .tc 32 [0]
  i1 : (Blk L).Iotas .tc 32 [1]
  c1 : (Blk L).ShapeCasts (One L)
  b4 : (One L).Broadcasts (Four L)
  c4 : (QuadL L).ShapeCasts (Four L)
  c5 : (Four L).ShapeCasts (QuadL L)
  cc : Shape.Concatenates [Sq, Sq, Sq, Sq] Quad 0
  rq : (QuadL L).Reduces [1] QuadR
  cq : QuadR.ShapeCasts QuadC
  bq : QuadC.Broadcasts (QuadL L)
  bo : QuadC.Broadcasts Quad
  tb : FTy.bits .bf16 < FTy.bits .f32
  sl : ∀ j : Fin 4, Quad.Slices ![128 * j.val, 0] Sq

variable {F : FTy → Type} [BitOps F] {L : Nat}

/-- One head's index scores, weighted. -/
def term (g : Geo L) (q : FVec F Sq .bf16) (k : FVec F (Key L) .bf16) (w : FVec F Col .f32) : FVec F (Blk L) .f32 :=
  mulf (broadcastTo (Blk L) w g.hb)
    (maximumf (matmul g.dS none q k (constant (Blk L) .f32 0x00000000#32)) (broadcast (Blk L) (Scalar.ofBits .f32 0x00000000#32)))

/-- The index scores: the sixteen heads' added in their order. -/
def score (g : Geo L) (q : Fin 16 → FVec F Sq .bf16) (k : FVec F (Key L) .bf16) (w : Fin 16 → FVec F Col .f32) : FVec F (Blk L) .f32 :=
  addf (addf (addf (addf (addf (addf (addf (addf (addf (addf (addf (addf (addf (addf (addf (addf (broadcast (Blk L) (Scalar.ofBits .f32 0x00000000#32))
    (term g (q 0) k (w 0))) (term g (q 1) k (w 1))) (term g (q 2) k (w 2))) (term g (q 3) k (w 3)))
    (term g (q 4) k (w 4))) (term g (q 5) k (w 5))) (term g (q 6) k (w 6))) (term g (q 7) k (w 7)))
    (term g (q 8) k (w 8))) (term g (q 9) k (w 9))) (term g (q 10) k (w 10))) (term g (q 11) k (w 11)))
    (term g (q 12) k (w 12))) (term g (q 13) k (w 13))) (term g (q 14) k (w 14))) (term g (q 15) k (w 15))

/-- The permitted columns of the block whose first row is `128 * i`: none after the row. -/
def permitted (g : Geo L) (i : BitVec 32) : IVec (Blk L) 1 :=
  cmpi .sle (iota .tc (Blk L) 32 [1] g.i1) (addi (broadcast (Blk L) (Scalar.muli i 128#32)) (iota .tc (Blk L) 32 [0] g.i0))

/-- What is added to the logits: zero where the selection holds, a large negative elsewhere. -/
def bias (g : Geo L) (sel : IVec (Blk L) 1) : FVec F (One L) .f32 :=
  shapeCast (One L) (select sel (broadcast (Blk L) (Scalar.ofBits .f32 0x00000000#32)) (broadcast (Blk L) (Scalar.ofBits .f32 0xF149F2CA#32))) g.c1

/-- The four queries of a group over its keys, scaled. -/
def logits (g : Geo L) (q0 q1 q2 q3 : FVec F Sq .f32) (k : FVec F (Key L) .bf16) : FVec F (QuadL L) .f32 :=
  mulf (matmul g.dQ none (truncf .bf16 (concatenate Quad 0 [⟨Sq, q0⟩, ⟨Sq, q1⟩, ⟨Sq, q2⟩, ⟨Sq, q3⟩] g.cc) g.tb) k (constant (QuadL L) .f32 0x00000000#32))
    (broadcast (QuadL L) (Scalar.ofBits .f32 0x3DB504F3#32))

/-- The logits under the selection. -/
def biased (g : Geo L) (b : FVec F (One L) .f32) (l : FVec F (QuadL L) .f32) : FVec F (QuadL L) .f32 :=
  shapeCast (QuadL L) (addf (shapeCast (Four L) l g.c4) (broadcastTo (Four L) b g.b4)) g.c5

/-- The exponentials under the row maximum. -/
def weight (g : Geo L) (s : FVec F (QuadL L) .f32) : FVec F (QuadL L) .f32 :=
  exp (subf s (broadcastTo (QuadL L) (shapeCast QuadC (multiReduction .maximumf [1] QuadR s 0xFF800000#32 g.rq (.inl rfl) rfl) g.cq) g.bq))

/-- The weighted values over the sum of the weights. -/
def mixed (g : Geo L) (e : FVec F (QuadL L) .f32) (v : FVec F (Key L) .bf16) : FVec F Quad .f32 :=
  divf (matmul g.dV none (truncf .bf16 e g.tb) v (constant Quad .f32 0x00000000#32))
    (broadcastTo Quad (shapeCast QuadC (multiReduction .add [1] QuadR e 0x00000000#32 g.rq (.inl rfl) rfl) g.cq) g.bo)

/-- The four heads of a group. -/
def quad (g : Geo L) (sel : IVec (Blk L) 1) (q0 q1 q2 q3 : FVec F Sq .f32) (k v : FVec F (Key L) .bf16) : FVec F Quad .f32 :=
  mixed g (weight g (biased g (bias g sel) (logits g q0 q1 q2 q3 k))) v

/-- The group and the place in it of a head, and a head of a group. -/
abbrev grp (h : Fin 16) : Fin 4 := ⟨h.val / 4, by omega⟩
abbrev plc (h : Fin 16) : Fin 4 := ⟨h.val % 4, by omega⟩
abbrev hd (p j : Fin 4) : Fin 16 := ⟨4 * p.val + j.val, by omega⟩

/-- One head of a block. -/
def out (g : Geo L) (sel : IVec (Blk L) 1) (q : Fin 16 → FVec F Sq .f32) (k v : Fin 4 → FVec F (Key L) .bf16) (h : Fin 16) : FVec F Sq .f32 :=
  extractStridedSlice Sq ![128 * (plc h).val, 0]
    (quad g sel (q (hd (grp h) 0)) (q (hd (grp h) 1)) (q (hd (grp h) 2)) (q (hd (grp h) 3)) (k (grp h)) (v (grp h))) (g.sl (plc h))

end Cert.Att

end

end
-- ==== Proof.KSpec.lean ====
/- The pieces a block writes, over the values every bucket writes: the sixteen heads of the block under its selection. -/
module

public import proofs.«01_k».proof.Proof.Spec
public import proofs.«01_k».proof.Proof.KPieces

@[expose] public section

set_option maxRecDepth 65536

noncomputable section

namespace Cert.Kernel.Att

open Idealize.ShloMosaic Idealize.ShloMosaic.TcCoe Idealize.ShloMosaic.Tactic
open Cert.Att
open Cert.Kernel.Gen

variable {F : FTy → Type} [BitOps F]

theorem colInb (w o : Nat) (n : Nat) (h : o + 128 ≤ n) : ∀ a, (![0, o] : Fin 2 → Nat) a + (![w, 128] : Fin 2 → Nat) a ≤ (![w, n] : Fin 2 → Nat) a := by
  intro a
  fin_cases a
  · show 0 + w ≤ w; omega
  · exact h

/-- A head's columns of a block's rows. -/
def qw (x : Vec F S128x2048 .f32) (h : Fin 16) : FVec F Sq .f32 :=
  shapeCast Sq (VecWindow.window x ![0, 128 * h.val] Sq.size (colInb 128 _ 2048 (by have := h.isLt; omega))) shapeCasts_S128x128_S128x128

/-- A head's index queries, rounded. -/
def qi (x : Vec F S128x2048 .f32) (h : Fin 16) : FVec F Sq .bf16 := truncf .bf16 (qw x h) bitsLt_bf16_f32

/-- A head's index weights. -/
def wi (x : Vec F S128x128 .f32) (h : Fin 16) : FVec F Col .f32 :=
  extractStridedSlice Col ![0, h.val] (shapeCast Sq (VecWindow.window x ![0, 0] S128x128.size inb_S128x128_S128x128_0_0) shapeCasts_S128x128_S128x128)
    (show S128x128.Slices ![0, h.val] Col by fin_cases h <;> decide)

/-- The products and shape changes over 512 keys. -/
def geo0 : Geo 512 where
  dS := dot_S128x128_S512x128_S128x512_1_1_0_0_n_n
  dQ := dot_S512x128_S512x128_S512x512_1_1_0_0_n_n
  dV := dot_S512x512_S512x128_S512x128_1_0_0_1_n_n
  hb := broadcasts_S128x1_S128x512
  i0 := iota_S128x512_d0_w32
  i1 := iota_S128x512_d1_w32
  c1 := shapeCasts_S128x512_S1x128x512
  b4 := broadcasts_S1x128x512_S4x128x512
  c4 := shapeCasts_S512x512_S4x128x512
  c5 := shapeCasts_S4x128x512_S512x512
  cc := concatenates_S128x128_S128x128_S128x128_S128x128_S512x128_d0
  rq := reduces_S512x512_S512
  cq := shapeCasts_S512_S512x1
  bq := broadcasts_S512x1_S512x512
  bo := broadcasts_S512x1_S512x128
  tb := bitsLt_bf16_f32
  sl := fun j => by fin_cases j <;> decide

/-- The selection of a block over 512 keys. -/
def sel0 (i : BitVec 32) (w : IVec (Blk 512) 32) : IVec (Blk 512) 1 :=
  picked broadcasts_S128x1_S128x512 reduces_S128x512_S128 shapeCasts_S128_S128x1 iota_S128x512_d1_w32 shapeCasts_S128x1_S1x128x1 reduces_S1x128x1_S1 shapeCasts_S1_S1x1x1 inpos_S1x1x1_p0_0_0
    (permitted geo0 i) w

theorem keyInb0 (h : Nat) (n : Nat) (hn : h + 128 ≤ n) : ∀ a, (![0, h] : Fin 2 → Nat) a + (![512, 128] : Fin 2 → Nat) a ≤ (![2048, n] : Fin 2 → Nat) a := by
  intro a
  fin_cases a
  · show 0 + 512 ≤ 2048; omega
  · exact hn

/-- The first 512 keys of a head, and their values. -/
def kw0 (s : Vec F S2048x1024 .bf16) (o : Nat) (ho : o ≤ 512) (p : Fin 4) : FVec F (Key 512) .bf16 :=
  VecWindow.window s ![0, o + 128 * p.val] (Key 512).size (keyInb0 _ 1024 (by have := p.isLt; omega))

/-- The index keys. -/
def ki0 (s : Vec F S2048x128 .bf16) : FVec F (Key 512) .bf16 := VecWindow.window s ![0, 0] (Key 512).size inb_S2048x128_S512x128_0_0

def score0 (x0 : Vec F S128x2048 .f32) (x2 : Vec F S128x128 .f32) (s0 : Vec F S2048x128 .bf16) : FVec F (Blk 512) .f32 :=
  score geo0 (qi x0) (ki0 s0) (wi x2)

/-- One head's piece. -/
def piece0 (arg1 : BitVec 32) (x0 : Vec Bits S128x2048 .f32) (x1 : Vec Bits S128x2048 .f32) (x2 : Vec Bits S128x128 .f32) (s0 : Vec Bits S2048x128 .bf16) (s1 : Vec Bits S2048x1024 .bf16) (h : Fin 16) :
    View.Piece (Elt Bits) S128x2048 .bf16 :=
  ⟨Rect.unit (s := S128x2048) ![0, 128 * h.val] Sq.size (colInb 128 _ 2048 (by have := h.isLt; omega)),
    truncf .bf16 (out geo0 (sel0 arg1 (bitcastToInt (score0 x0 x2 s0))) (qw x1) (kw0 s1 0 (by omega)) (kw0 s1 512 (by omega)) h) bitsLt_bf16_f32⟩

set_option maxHeartbeats 4000000 in
theorem pcs0_eq (arg1 : BitVec 32) (x0 : Vec Bits S128x2048 .f32) (x1 : Vec Bits S128x2048 .f32) (x2 : Vec Bits S128x128 .f32) (s0 : Vec Bits S2048x128 .bf16) (s1 : Vec Bits S2048x1024 .bf16) :
    pcs0 arg1 x0 x1 x2 s0 s1 = [piece0 arg1 x0 x1 x2 s0 s1 15, piece0 arg1 x0 x1 x2 s0 s1 14, piece0 arg1 x0 x1 x2 s0 s1 13, piece0 arg1 x0 x1 x2 s0 s1 12,
      piece0 arg1 x0 x1 x2 s0 s1 11, piece0 arg1 x0 x1 x2 s0 s1 10, piece0 arg1 x0 x1 x2 s0 s1 9, piece0 arg1 x0 x1 x2 s0 s1 8,
      piece0 arg1 x0 x1 x2 s0 s1 7, piece0 arg1 x0 x1 x2 s0 s1 6, piece0 arg1 x0 x1 x2 s0 s1 5, piece0 arg1 x0 x1 x2 s0 s1 4,
      piece0 arg1 x0 x1 x2 s0 s1 3, piece0 arg1 x0 x1 x2 s0 s1 2, piece0 arg1 x0 x1 x2 s0 s1 1, piece0 arg1 x0 x1 x2 s0 s1 0] := by
  rfl

/-- The products and shape changes over 1024 keys. -/
def geo1 : Geo 1024 where
  dS := dot_S128x128_S1024x128_S128x1024_1_1_0_0_n_n
  dQ := dot_S512x128_S1024x128_S512x1024_1_1_0_0_n_n
  dV := dot_S512x1024_S1024x128_S512x128_1_0_0_1_n_n
  hb := broadcasts_S128x1_S128x1024
  i0 := iota_S128x1024_d0_w32
  i1 := iota_S128x1024_d1_w32
  c1 := shapeCasts_S128x1024_S1x128x1024
  b4 := broadcasts_S1x128x1024_S4x128x1024
  c4 := shapeCasts_S512x1024_S4x128x1024
  c5 := shapeCasts_S4x128x1024_S512x1024
  cc := concatenates_S128x128_S128x128_S128x128_S128x128_S512x128_d0
  rq := reduces_S512x1024_S512
  cq := shapeCasts_S512_S512x1
  bq := broadcasts_S512x1_S512x1024
  bo := broadcasts_S512x1_S512x128
  tb := bitsLt_bf16_f32
  sl := fun j => by fin_cases j <;> decide

/-- The selection of a block over 1024 keys. -/
def sel1 (i : BitVec 32) (w : IVec (Blk 1024) 32) : IVec (Blk 1024) 1 :=
  picked broadcasts_S128x1_S128x1024 reduces_S128x1024_S128 shapeCasts_S128_S128x1 iota_S128x1024_d1_w32 shapeCasts_S128x1_S1x128x1 reduces_S1x128x1_S1 shapeCasts_S1_S1x1x1 inpos_S1x1x1_p0_0_0
    (permitted geo1 i) w

theorem keyInb1 (h : Nat) (n : Nat) (hn : h + 128 ≤ n) : ∀ a, (![0, h] : Fin 2 → Nat) a + (![1024, 128] : Fin 2 → Nat) a ≤ (![2048, n] : Fin 2 → Nat) a := by
  intro a
  fin_cases a
  · show 0 + 1024 ≤ 2048; omega
  · exact hn

/-- The first 1024 keys of a head, and their values. -/
def kw1 (s : Vec F S2048x1024 .bf16) (o : Nat) (ho : o ≤ 512) (p : Fin 4) : FVec F (Key 1024) .bf16 :=
  VecWindow.window s ![0, o + 128 * p.val] (Key 1024).size (keyInb1 _ 1024 (by have := p.isLt; omega))

/-- The index keys. -/
def ki1 (s : Vec F S2048x128 .bf16) : FVec F (Key 1024) .bf16 := VecWindow.window s ![0, 0] (Key 1024).size inb_S2048x128_S1024x128_0_0

def score1 (x0 : Vec F S128x2048 .f32) (x2 : Vec F S128x128 .f32) (s0 : Vec F S2048x128 .bf16) : FVec F (Blk 1024) .f32 :=
  score geo1 (qi x0) (ki1 s0) (wi x2)

/-- One head's piece. -/
def piece1 (arg1 : BitVec 32) (x0 : Vec Bits S128x2048 .f32) (x1 : Vec Bits S128x2048 .f32) (x2 : Vec Bits S128x128 .f32) (s0 : Vec Bits S2048x128 .bf16) (s1 : Vec Bits S2048x1024 .bf16) (h : Fin 16) :
    View.Piece (Elt Bits) S128x2048 .bf16 :=
  ⟨Rect.unit (s := S128x2048) ![0, 128 * h.val] Sq.size (colInb 128 _ 2048 (by have := h.isLt; omega)),
    truncf .bf16 (out geo1 (sel1 arg1 (bitcastToInt (score1 x0 x2 s0))) (qw x1) (kw1 s1 0 (by omega)) (kw1 s1 512 (by omega)) h) bitsLt_bf16_f32⟩

set_option maxHeartbeats 4000000 in
theorem pcs1_eq (arg1 : BitVec 32) (x0 : Vec Bits S128x2048 .f32) (x1 : Vec Bits S128x2048 .f32) (x2 : Vec Bits S128x128 .f32) (s0 : Vec Bits S2048x128 .bf16) (s1 : Vec Bits S2048x1024 .bf16) :
    pcs1 arg1 x0 x1 x2 s0 s1 = [piece1 arg1 x0 x1 x2 s0 s1 15, piece1 arg1 x0 x1 x2 s0 s1 14, piece1 arg1 x0 x1 x2 s0 s1 13, piece1 arg1 x0 x1 x2 s0 s1 12,
      piece1 arg1 x0 x1 x2 s0 s1 11, piece1 arg1 x0 x1 x2 s0 s1 10, piece1 arg1 x0 x1 x2 s0 s1 9, piece1 arg1 x0 x1 x2 s0 s1 8,
      piece1 arg1 x0 x1 x2 s0 s1 7, piece1 arg1 x0 x1 x2 s0 s1 6, piece1 arg1 x0 x1 x2 s0 s1 5, piece1 arg1 x0 x1 x2 s0 s1 4,
      piece1 arg1 x0 x1 x2 s0 s1 3, piece1 arg1 x0 x1 x2 s0 s1 2, piece1 arg1 x0 x1 x2 s0 s1 1, piece1 arg1 x0 x1 x2 s0 s1 0] := by
  rfl

/-- The products and shape changes over 1536 keys. -/
def geo2 : Geo 1536 where
  dS := dot_S128x128_S1536x128_S128x1536_1_1_0_0_n_n
  dQ := dot_S512x128_S1536x128_S512x1536_1_1_0_0_n_n
  dV := dot_S512x1536_S1536x128_S512x128_1_0_0_1_n_n
  hb := broadcasts_S128x1_S128x1536
  i0 := iota_S128x1536_d0_w32
  i1 := iota_S128x1536_d1_w32
  c1 := shapeCasts_S128x1536_S1x128x1536
  b4 := broadcasts_S1x128x1536_S4x128x1536
  c4 := shapeCasts_S512x1536_S4x128x1536
  c5 := shapeCasts_S4x128x1536_S512x1536
  cc := concatenates_S128x128_S128x128_S128x128_S128x128_S512x128_d0
  rq := reduces_S512x1536_S512
  cq := shapeCasts_S512_S512x1
  bq := broadcasts_S512x1_S512x1536
  bo := broadcasts_S512x1_S512x128
  tb := bitsLt_bf16_f32
  sl := fun j => by fin_cases j <;> decide

/-- The selection of a block over 1536 keys. -/
def sel2 (i : BitVec 32) (w : IVec (Blk 1536) 32) : IVec (Blk 1536) 1 :=
  picked broadcasts_S128x1_S128x1536 reduces_S128x1536_S128 shapeCasts_S128_S128x1 iota_S128x1536_d1_w32 shapeCasts_S128x1_S1x128x1 reduces_S1x128x1_S1 shapeCasts_S1_S1x1x1 inpos_S1x1x1_p0_0_0
    (permitted geo2 i) w

theorem keyInb2 (h : Nat) (n : Nat) (hn : h + 128 ≤ n) : ∀ a, (![0, h] : Fin 2 → Nat) a + (![1536, 128] : Fin 2 → Nat) a ≤ (![2048, n] : Fin 2 → Nat) a := by
  intro a
  fin_cases a
  · show 0 + 1536 ≤ 2048; omega
  · exact hn

/-- The first 1536 keys of a head, and their values. -/
def kw2 (s : Vec F S2048x1024 .bf16) (o : Nat) (ho : o ≤ 512) (p : Fin 4) : FVec F (Key 1536) .bf16 :=
  VecWindow.window s ![0, o + 128 * p.val] (Key 1536).size (keyInb2 _ 1024 (by have := p.isLt; omega))

/-- The index keys. -/
def ki2 (s : Vec F S2048x128 .bf16) : FVec F (Key 1536) .bf16 := VecWindow.window s ![0, 0] (Key 1536).size inb_S2048x128_S1536x128_0_0

def score2 (x0 : Vec F S128x2048 .f32) (x2 : Vec F S128x128 .f32) (s0 : Vec F S2048x128 .bf16) : FVec F (Blk 1536) .f32 :=
  score geo2 (qi x0) (ki2 s0) (wi x2)

/-- One head's piece. -/
def piece2 (arg1 : BitVec 32) (x0 : Vec Bits S128x2048 .f32) (x1 : Vec Bits S128x2048 .f32) (x2 : Vec Bits S128x128 .f32) (s0 : Vec Bits S2048x128 .bf16) (s1 : Vec Bits S2048x1024 .bf16) (h : Fin 16) :
    View.Piece (Elt Bits) S128x2048 .bf16 :=
  ⟨Rect.unit (s := S128x2048) ![0, 128 * h.val] Sq.size (colInb 128 _ 2048 (by have := h.isLt; omega)),
    truncf .bf16 (out geo2 (sel2 arg1 (bitcastToInt (score2 x0 x2 s0))) (qw x1) (kw2 s1 0 (by omega)) (kw2 s1 512 (by omega)) h) bitsLt_bf16_f32⟩

set_option maxHeartbeats 4000000 in
theorem pcs2_eq (arg1 : BitVec 32) (x0 : Vec Bits S128x2048 .f32) (x1 : Vec Bits S128x2048 .f32) (x2 : Vec Bits S128x128 .f32) (s0 : Vec Bits S2048x128 .bf16) (s1 : Vec Bits S2048x1024 .bf16) :
    pcs2 arg1 x0 x1 x2 s0 s1 = [piece2 arg1 x0 x1 x2 s0 s1 15, piece2 arg1 x0 x1 x2 s0 s1 14, piece2 arg1 x0 x1 x2 s0 s1 13, piece2 arg1 x0 x1 x2 s0 s1 12,
      piece2 arg1 x0 x1 x2 s0 s1 11, piece2 arg1 x0 x1 x2 s0 s1 10, piece2 arg1 x0 x1 x2 s0 s1 9, piece2 arg1 x0 x1 x2 s0 s1 8,
      piece2 arg1 x0 x1 x2 s0 s1 7, piece2 arg1 x0 x1 x2 s0 s1 6, piece2 arg1 x0 x1 x2 s0 s1 5, piece2 arg1 x0 x1 x2 s0 s1 4,
      piece2 arg1 x0 x1 x2 s0 s1 3, piece2 arg1 x0 x1 x2 s0 s1 2, piece2 arg1 x0 x1 x2 s0 s1 1, piece2 arg1 x0 x1 x2 s0 s1 0] := by
  rfl

/-- The products and shape changes over 2048 keys. -/
def geo3 : Geo 2048 where
  dS := dot_S128x128_S2048x128_S128x2048_1_1_0_0_n_n
  dQ := dot_S512x128_S2048x128_S512x2048_1_1_0_0_n_n
  dV := dot_S512x2048_S2048x128_S512x128_1_0_0_1_n_n
  hb := broadcasts_S128x1_S128x2048
  i0 := iota_S128x2048_d0_w32
  i1 := iota_S128x2048_d1_w32
  c1 := shapeCasts_S128x2048_S1x128x2048
  b4 := broadcasts_S1x128x2048_S4x128x2048
  c4 := shapeCasts_S512x2048_S4x128x2048
  c5 := shapeCasts_S4x128x2048_S512x2048
  cc := concatenates_S128x128_S128x128_S128x128_S128x128_S512x128_d0
  rq := reduces_S512x2048_S512
  cq := shapeCasts_S512_S512x1
  bq := broadcasts_S512x1_S512x2048
  bo := broadcasts_S512x1_S512x128
  tb := bitsLt_bf16_f32
  sl := fun j => by fin_cases j <;> decide

/-- The selection of a block over 2048 keys. -/
def sel3 (i : BitVec 32) (w : IVec (Blk 2048) 32) : IVec (Blk 2048) 1 :=
  picked broadcasts_S128x1_S128x2048 reduces_S128x2048_S128 shapeCasts_S128_S128x1 iota_S128x2048_d1_w32 shapeCasts_S128x1_S1x128x1 reduces_S1x128x1_S1 shapeCasts_S1_S1x1x1 inpos_S1x1x1_p0_0_0
    (permitted geo3 i) w

theorem keyInb3 (h : Nat) (n : Nat) (hn : h + 128 ≤ n) : ∀ a, (![0, h] : Fin 2 → Nat) a + (![2048, 128] : Fin 2 → Nat) a ≤ (![2048, n] : Fin 2 → Nat) a := by
  intro a
  fin_cases a
  · show 0 + 2048 ≤ 2048; omega
  · exact hn

/-- The first 2048 keys of a head, and their values. -/
def kw3 (s : Vec F S2048x1024 .bf16) (o : Nat) (ho : o ≤ 512) (p : Fin 4) : FVec F (Key 2048) .bf16 :=
  VecWindow.window s ![0, o + 128 * p.val] (Key 2048).size (keyInb3 _ 1024 (by have := p.isLt; omega))

/-- The index keys. -/
def ki3 (s : Vec F S2048x128 .bf16) : FVec F (Key 2048) .bf16 := VecWindow.window s ![0, 0] (Key 2048).size inb_S2048x128_S2048x128_0_0

def score3 (x0 : Vec F S128x2048 .f32) (x2 : Vec F S128x128 .f32) (s0 : Vec F S2048x128 .bf16) : FVec F (Blk 2048) .f32 :=
  score geo3 (qi x0) (ki3 s0) (wi x2)

/-- One head's piece. -/
def piece3 (arg1 : BitVec 32) (x0 : Vec Bits S128x2048 .f32) (x1 : Vec Bits S128x2048 .f32) (x2 : Vec Bits S128x128 .f32) (s0 : Vec Bits S2048x128 .bf16) (s1 : Vec Bits S2048x1024 .bf16) (h : Fin 16) :
    View.Piece (Elt Bits) S128x2048 .bf16 :=
  ⟨Rect.unit (s := S128x2048) ![0, 128 * h.val] Sq.size (colInb 128 _ 2048 (by have := h.isLt; omega)),
    truncf .bf16 (out geo3 (sel3 arg1 (bitcastToInt (score3 x0 x2 s0))) (qw x1) (kw3 s1 0 (by omega)) (kw3 s1 512 (by omega)) h) bitsLt_bf16_f32⟩

set_option maxHeartbeats 4000000 in
theorem pcs3_eq (arg1 : BitVec 32) (x0 : Vec Bits S128x2048 .f32) (x1 : Vec Bits S128x2048 .f32) (x2 : Vec Bits S128x128 .f32) (s0 : Vec Bits S2048x128 .bf16) (s1 : Vec Bits S2048x1024 .bf16) :
    pcs3 arg1 x0 x1 x2 s0 s1 = [piece3 arg1 x0 x1 x2 s0 s1 15, piece3 arg1 x0 x1 x2 s0 s1 14, piece3 arg1 x0 x1 x2 s0 s1 13, piece3 arg1 x0 x1 x2 s0 s1 12,
      piece3 arg1 x0 x1 x2 s0 s1 11, piece3 arg1 x0 x1 x2 s0 s1 10, piece3 arg1 x0 x1 x2 s0 s1 9, piece3 arg1 x0 x1 x2 s0 s1 8,
      piece3 arg1 x0 x1 x2 s0 s1 7, piece3 arg1 x0 x1 x2 s0 s1 6, piece3 arg1 x0 x1 x2 s0 s1 5, piece3 arg1 x0 x1 x2 s0 s1 4,
      piece3 arg1 x0 x1 x2 s0 s1 3, piece3 arg1 x0 x1 x2 s0 s1 2, piece3 arg1 x0 x1 x2 s0 s1 1, piece3 arg1 x0 x1 x2 s0 s1 0] := by
  rfl

end Cert.Kernel.Att

end

end
-- ==== Proof.RSpec.lean ====
/- What one pass of the reference writes: the sixteen heads of a block of rows side by side, under its selection. -/
module

public import proofs.«01_k».proof.Proof.Spec
public import proofs.«01_k».proof.Proof.Gen.Reference.Value
public import Idealize.ShloMosaic.Lib.VecWindow

@[expose] public section

set_option maxRecDepth 65536

noncomputable section

namespace Cert.Reference.Att

open Idealize.ShloMosaic Idealize.ShloMosaic.TcCoe Idealize.ShloMosaic.Tactic
open Cert.Att
open Cert.Reference.Gen

variable {F : FTy → Type} [BitOps F]

/-- A head's columns of a block's rows. -/
def rq (x : Vec F S128x2048 .f32) (h : Fin 16) : FVec F Sq .f32 :=
  extractStridedSlice Sq ![0, 128 * h.val] (shapeCast S128x2048 x shapeCasts_S128x2048_S128x2048)
    (show S128x2048.Slices ![0, 128 * h.val] Sq by fin_cases h <;> decide)

/-- A head's index queries, rounded. -/
def ri (x : Vec F S128x2048 .f32) (h : Fin 16) : FVec F Sq .bf16 :=
  extractStridedSlice Sq ![0, 128 * h.val] (truncf .bf16 (shapeCast S128x2048 x shapeCasts_S128x2048_S128x2048) bitsLt_bf16_f32)
    (show S128x2048.Slices ![0, 128 * h.val] Sq by fin_cases h <;> decide)

/-- A head's index weights. -/
def rwt (x : Vec F S128x16 .f32) (h : Fin 16) : FVec F Col .f32 :=
  extractStridedSlice Col ![0, h.val] (shapeCast S128x16 x shapeCasts_S128x16_S128x16)
    (show S128x16.Slices ![0, h.val] Col by fin_cases h <;> decide)

/-- The sixteen heads side by side, rounded. -/
def heads (o : Fin 16 → FVec F Sq .f32) : FVec F S128x2048 .bf16 :=
  truncf .bf16 (concatenate S128x2048 1 [⟨Sq, o 0⟩, ⟨Sq, o 1⟩, ⟨Sq, o 2⟩, ⟨Sq, o 3⟩, ⟨Sq, o 4⟩, ⟨Sq, o 5⟩, ⟨Sq, o 6⟩, ⟨Sq, o 7⟩,
    ⟨Sq, o 8⟩, ⟨Sq, o 9⟩, ⟨Sq, o 10⟩, ⟨Sq, o 11⟩, ⟨Sq, o 12⟩, ⟨Sq, o 13⟩, ⟨Sq, o 14⟩, ⟨Sq, o 15⟩]
    concatenates_S128x128_S128x128_S128x128_S128x128_S128x128_S128x128_S128x128_S128x128_S128x128_S128x128_S128x128_S128x128_S128x128_S128x128_S128x128_S128x128_S128x2048_d1) bitsLt_bf16_f32

/-- The products and shape changes over 512 keys. -/
def geo0 : Geo 512 where
  dS := dot_S128x128_S512x128_S128x512_1_1_0_0_n_n
  dQ := dot_S512x128_S512x128_S512x512_1_1_0_0_n_n
  dV := dot_S512x512_S512x128_S512x128_1_0_0_1_n_n
  hb := broadcasts_S128x1_S128x512
  i0 := iota_S128x512_d0_w32
  i1 := iota_S128x512_d1_w32
  c1 := shapeCasts_S128x512_S1x128x512
  b4 := broadcasts_S1x128x512_S4x128x512
  c4 := shapeCasts_S512x512_S4x128x512
  c5 := shapeCasts_S4x128x512_S512x512
  cc := concatenates_S128x128_S128x128_S128x128_S128x128_S512x128_d0
  rq := reduces_S512x512_S512
  cq := shapeCasts_S512_S512x1
  bq := broadcasts_S512x1_S512x512
  bo := broadcasts_S512x1_S512x128
  tb := bitsLt_bf16_f32
  sl := fun j => by fin_cases j <;> decide

/-- The selection of a block over 512 keys. -/
def sel0 (i : BitVec 32) (w : IVec (Blk 512) 32) : IVec (Blk 512) 1 :=
  ranked shapeCasts_S128x512_S128x1x512 shapeCasts_S128x512_S128x512x1 broadcasts_S128x1x512_S128x512x512 broadcasts_S128x512x1_S128x512x512 broadcasts_S1x512x512_S128x512x512
    iota_S1x512x512_d2_w32 iota_S1x512x512_d1_w32 reduces_S128x512x512_S128x512 (permitted geo0 i) (plain w)

/-- A head's keys or values. -/
def rk0 (x : Vec F S512x1024 .f32) (o : Nat) (ho : o = 0 ∨ o = 512) (p : Fin 4) : FVec F (Key 512) .bf16 :=
  extractStridedSlice (Key 512) ![0, o + 128 * p.val] (truncf .bf16 (shapeCast S512x1024 x shapeCasts_S512x1024_S512x1024) bitsLt_bf16_f32)
    (show S512x1024.Slices ![0, o + 128 * p.val] (Key 512) by rcases ho with rfl | rfl <;> fin_cases p <;> decide)

/-- The index keys. -/
def rj0 (x : Vec F S512x128 .f32) : FVec F (Key 512) .bf16 := truncf .bf16 (shapeCast S512x128 x shapeCasts_S512x128_S512x128) bitsLt_bf16_f32

/-- What a pass over 512 keys writes, from the rows it reads. -/
def val0 (i : BitVec 32) (xq : Vec Bits S128x2048 .f32) (xkv : Vec Bits S512x1024 .f32) (xi : Vec Bits S128x2048 .f32) (xk : Vec Bits S512x128 .f32) (xw : Vec Bits S128x16 .f32) : FVec Bits S128x2048 .bf16 :=
  heads (out geo0 (sel0 i (bitcastToInt (score geo0 (ri xi) (rj0 xk) (rwt xw)))) (rq xq) (rk0 xkv 0 (.inl rfl)) (rk0 xkv 512 (.inr rfl)))

theorem word0_eq : ∀ k : Fin k0_t1_loop.trips, trip_k0_t1.sl.v33 k = BitVec.ofNat 32 (0 + k.val % 4) := by decide +kernel
theorem off0_rows : ∀ k : Fin k0_t1_loop.trips, k0_off1 k = ![2048 * (k.val / 4) + 0 + 128 * (k.val % 4), 0] := by decide +kernel
theorem off0_wrows : ∀ k : Fin k0_t1_loop.trips, k0_off2 k = ![2048 * (k.val / 4) + 0 + 128 * (k.val % 4), 0] := by decide +kernel
theorem off0_ikeys : ∀ k : Fin k0_t1_loop.trips, k0_off3 k = ![2048 * (k.val / 4), 0] := by decide +kernel
theorem off0_keys : ∀ k : Fin k0_t1_loop.trips, k0_off4 k = ![2048 * (k.val / 4), 0] := by decide +kernel

section Pass0

variable (arg0 : Memref sig .tc .vmem S8192x2048 .f32) (arg1 : Memref sig .tc .vmem S8192x1024 .f32) (arg2 : Memref sig .tc .vmem S8192x2048 .f32) (arg3 : Memref sig .tc .vmem S8192x128 .f32) (arg4 : Memref sig .tc .vmem S8192x16 .f32) (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t1_loop.trips)

theorem words0 : trip_k0_t1.sl.r_9 (F := Bits) arg2 arg3 arg4 X_arg2 X_arg3 X_arg4 k = bitcastToInt (score geo0 (ri (VecWindow.window (arg2.view.read (Elt Bits) X_arg2) (k0_off1 k) S128x2048.size (k0_off1_inb k))) (rj0 (VecWindow.window (arg3.view.read (Elt Bits) X_arg3) (k0_off3 k) S512x128.size (k0_off3_inb k))) (rwt (VecWindow.window (arg4.view.read (Elt Bits) X_arg4) (k0_off2 k) S128x16.size (k0_off2_inb k)))) := rfl
theorem chosen0 : trip_k0_t1.sl.r_11 (F := Bits) arg2 arg3 arg4 X_arg2 X_arg3 X_arg4 k = sel0 (trip_k0_t1.sl.v33 k) (trip_k0_t1.sl.r_9 (F := Bits) arg2 arg3 arg4 X_arg2 X_arg3 X_arg4 k) := rfl

/-- What a pass writes, over the named selection. -/
theorem stored0 :
    (k0_pay4 (trip_k0_t1.sl.r_17 (F := Bits) arg0 arg1 arg2 arg3 arg4 X_arg0 X_arg1 X_arg2 X_arg3 X_arg4 k) (trip_k0_t1.sl.r_18 arg0 arg1 arg2 arg3 arg4 X_arg0 X_arg1 X_arg2 X_arg3 X_arg4 k) (trip_k0_t1.sl.r_19 arg0 arg1 arg2 arg3 arg4 X_arg0 X_arg1 X_arg2 X_arg3 X_arg4 k) (trip_k0_t1.sl.r_20 arg0 arg1 arg2 arg3 arg4 X_arg0 X_arg1 X_arg2 X_arg3 X_arg4 k) (trip_k0_t1.sl.r_22 arg0 arg1 arg2 arg3 arg4 X_arg0 X_arg1 X_arg2 X_arg3 X_arg4 k) (trip_k0_t1.sl.r_23 arg0 arg1 arg2 arg3 arg4 X_arg0 X_arg1 X_arg2 X_arg3 X_arg4 k) (trip_k0_t1.sl.r_24 arg0 arg1 arg2 arg3 arg4 X_arg0 X_arg1 X_arg2 X_arg3 X_arg4 k) (trip_k0_t1.sl.r_25 arg0 arg1 arg2 arg3 arg4 X_arg0 X_arg1 X_arg2 X_arg3 X_arg4 k) (trip_k0_t1.sl.r_26 arg0 arg1 arg2 arg3 arg4 X_arg0 X_arg1 X_arg2 X_arg3 X_arg4 k) (trip_k0_t1.sl.r_27 arg0 arg1 arg2 arg3 arg4 X_arg0 X_arg1 X_arg2 X_arg3 X_arg4 k) (trip_k0_t1.sl.r_28 arg0 arg1 arg2 arg3 arg4 X_arg0 X_arg1 X_arg2 X_arg3 X_arg4 k) (trip_k0_t1.sl.r_29 arg0 arg1 arg2 arg3 arg4 X_arg0 X_arg1 X_arg2 X_arg3 X_arg4 k) (trip_k0_t1.sl.v348 arg0 arg1 arg2 arg3 arg4 X_arg0 X_arg1 X_arg2 X_arg3 X_arg4 k) (trip_k0_t1.sl.v350 arg0 arg1 arg2 arg3 arg4 X_arg0 X_arg1 X_arg2 X_arg3 X_arg4 k))
      = heads (out geo0 (trip_k0_t1.sl.r_11 (F := Bits) arg2 arg3 arg4 X_arg2 X_arg3 X_arg4 k) (rq (VecWindow.window (arg0.view.read (Elt Bits) X_arg0) (k0_off1 k) S128x2048.size (k0_off1_inb k))) (rk0 (VecWindow.window (arg1.view.read (Elt Bits) X_arg1) (k0_off4 k) S512x1024.size (k0_off4_inb k)) 0 (.inl rfl)) (rk0 (VecWindow.window (arg1.view.read (Elt Bits) X_arg1) (k0_off4 k) S512x1024.size (k0_off4_inb k)) 512 (.inr rfl))) := by
  rfl
end Pass0

theorem trip0_eq (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
    (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t1_loop.trips) :
    tripL_k0_t1 (F := Bits) 𝒱 c bd arg0 harg0 arg1 harg1 arg2 harg2 arg3 harg3 arg4 harg4 arg5 harg5 X_arg0 X_arg1 X_arg2 X_arg3 X_arg4 k
      = [⟨Rect.unit (s := S8192x2048) (k0_off1 k) S128x2048.size (k0_off1_inb k),
          val0 (trip_k0_t1.sl.v33 k) (VecWindow.window (arg0.view.read (Elt Bits) X_arg0) (k0_off1 k) S128x2048.size (k0_off1_inb k))
            (VecWindow.window (arg1.view.read (Elt Bits) X_arg1) (k0_off4 k) S512x1024.size (k0_off4_inb k))
            (VecWindow.window (arg2.view.read (Elt Bits) X_arg2) (k0_off1 k) S128x2048.size (k0_off1_inb k))
            (VecWindow.window (arg3.view.read (Elt Bits) X_arg3) (k0_off3 k) S512x128.size (k0_off3_inb k))
            (VecWindow.window (arg4.view.read (Elt Bits) X_arg4) (k0_off2 k) S128x16.size (k0_off2_inb k))⟩] := by
  unfold tripL_k0_t1 trip_k0_t1
  refine congrArg (fun v => [(⟨Rect.unit (s := S8192x2048) (k0_off1 k) S128x2048.size (k0_off1_inb k), v⟩ : View.Piece (Elt Bits) S8192x2048 .bf16)]) ?_
  refine (stored0 arg0 arg1 arg2 arg3 arg4 X_arg0 X_arg1 X_arg2 X_arg3 X_arg4 k).trans ?_
  rw [chosen0 arg2 arg3 arg4 X_arg2 X_arg3 X_arg4 k, words0 arg2 arg3 arg4 X_arg2 X_arg3 X_arg4 k]
  rfl

/-- The products and shape changes over 1024 keys. -/
def geo1 : Geo 1024 where
  dS := dot_S128x128_S1024x128_S128x1024_1_1_0_0_n_n
  dQ := dot_S512x128_S1024x128_S512x1024_1_1_0_0_n_n
  dV := dot_S512x1024_S1024x128_S512x128_1_0_0_1_n_n
  hb := broadcasts_S128x1_S128x1024
  i0 := iota_S128x1024_d0_w32
  i1 := iota_S128x1024_d1_w32
  c1 := shapeCasts_S128x1024_S1x128x1024
  b4 := broadcasts_S1x128x1024_S4x128x1024
  c4 := shapeCasts_S512x1024_S4x128x1024
  c5 := shapeCasts_S4x128x1024_S512x1024
  cc := concatenates_S128x128_S128x128_S128x128_S128x128_S512x128_d0
  rq := reduces_S512x1024_S512
  cq := shapeCasts_S512_S512x1
  bq := broadcasts_S512x1_S512x1024
  bo := broadcasts_S512x1_S512x128
  tb := bitsLt_bf16_f32
  sl := fun j => by fin_cases j <;> decide

/-- The selection of a block over 1024 keys. -/
def sel1 (i : BitVec 32) (w : IVec (Blk 1024) 32) : IVec (Blk 1024) 1 :=
  ranked shapeCasts_S128x1024_S128x1x1024 shapeCasts_S128x1024_S128x1024x1 broadcasts_S128x1x1024_S128x1024x1024 broadcasts_S128x1024x1_S128x1024x1024 broadcasts_S1x1024x1024_S128x1024x1024
    iota_S1x1024x1024_d2_w32 iota_S1x1024x1024_d1_w32 reduces_S128x1024x1024_S128x1024 (permitted geo1 i) (plain w)

/-- A head's keys or values. -/
def rk1 (x : Vec F S1024x1024 .f32) (o : Nat) (ho : o = 0 ∨ o = 512) (p : Fin 4) : FVec F (Key 1024) .bf16 :=
  extractStridedSlice (Key 1024) ![0, o + 128 * p.val] (truncf .bf16 (shapeCast S1024x1024 x shapeCasts_S1024x1024_S1024x1024) bitsLt_bf16_f32)
    (show S1024x1024.Slices ![0, o + 128 * p.val] (Key 1024) by rcases ho with rfl | rfl <;> fin_cases p <;> decide)

/-- The index keys. -/
def rj1 (x : Vec F S1024x128 .f32) : FVec F (Key 1024) .bf16 := truncf .bf16 (shapeCast S1024x128 x shapeCasts_S1024x128_S1024x128) bitsLt_bf16_f32

/-- What a pass over 1024 keys writes, from the rows it reads. -/
def val1 (i : BitVec 32) (xq : Vec Bits S128x2048 .f32) (xkv : Vec Bits S1024x1024 .f32) (xi : Vec Bits S128x2048 .f32) (xk : Vec Bits S1024x128 .f32) (xw : Vec Bits S128x16 .f32) : FVec Bits S128x2048 .bf16 :=
  heads (out geo1 (sel1 i (bitcastToInt (score geo1 (ri xi) (rj1 xk) (rwt xw)))) (rq xq) (rk1 xkv 0 (.inl rfl)) (rk1 xkv 512 (.inr rfl)))

theorem word1_eq : ∀ k : Fin k0_t2_loop.trips, trip_k0_t2.sl.v33 k = BitVec.ofNat 32 (4 + k.val % 4) := by decide +kernel
theorem off1_rows : ∀ k : Fin k0_t2_loop.trips, k0_off5 k = ![2048 * (k.val / 4) + 512 + 128 * (k.val % 4), 0] := by decide +kernel
theorem off1_wrows : ∀ k : Fin k0_t2_loop.trips, k0_off6 k = ![2048 * (k.val / 4) + 512 + 128 * (k.val % 4), 0] := by decide +kernel
theorem off1_ikeys : ∀ k : Fin k0_t2_loop.trips, k0_off7 k = ![2048 * (k.val / 4), 0] := by decide +kernel
theorem off1_keys : ∀ k : Fin k0_t2_loop.trips, k0_off8 k = ![2048 * (k.val / 4), 0] := by decide +kernel

section Pass1

variable (arg0 : Memref sig .tc .vmem S8192x2048 .f32) (arg1 : Memref sig .tc .vmem S8192x1024 .f32) (arg2 : Memref sig .tc .vmem S8192x2048 .f32) (arg3 : Memref sig .tc .vmem S8192x128 .f32) (arg4 : Memref sig .tc .vmem S8192x16 .f32) (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t2_loop.trips)

theorem words1 : trip_k0_t2.sl.r_9 (F := Bits) arg2 arg3 arg4 X_arg2 X_arg3 X_arg4 k = bitcastToInt (score geo1 (ri (VecWindow.window (arg2.view.read (Elt Bits) X_arg2) (k0_off5 k) S128x2048.size (k0_off5_inb k))) (rj1 (VecWindow.window (arg3.view.read (Elt Bits) X_arg3) (k0_off7 k) S1024x128.size (k0_off7_inb k))) (rwt (VecWindow.window (arg4.view.read (Elt Bits) X_arg4) (k0_off6 k) S128x16.size (k0_off6_inb k)))) := rfl
theorem chosen1 : trip_k0_t2.sl.r_11 (F := Bits) arg2 arg3 arg4 X_arg2 X_arg3 X_arg4 k = sel1 (trip_k0_t2.sl.v33 k) (trip_k0_t2.sl.r_9 (F := Bits) arg2 arg3 arg4 X_arg2 X_arg3 X_arg4 k) := rfl

/-- What a pass writes, over the named selection. -/
theorem stored1 :
    (k0_pay7 (trip_k0_t2.sl.r_17 (F := Bits) arg0 arg1 arg2 arg3 arg4 X_arg0 X_arg1 X_arg2 X_arg3 X_arg4 k) (trip_k0_t2.sl.r_18 arg0 arg1 arg2 arg3 arg4 X_arg0 X_arg1 X_arg2 X_arg3 X_arg4 k) (trip_k0_t2.sl.r_19 arg0 arg1 arg2 arg3 arg4 X_arg0 X_arg1 X_arg2 X_arg3 X_arg4 k) (trip_k0_t2.sl.r_20 arg0 arg1 arg2 arg3 arg4 X_arg0 X_arg1 X_arg2 X_arg3 X_arg4 k) (trip_k0_t2.sl.r_22 arg0 arg1 arg2 arg3 arg4 X_arg0 X_arg1 X_arg2 X_arg3 X_arg4 k) (trip_k0_t2.sl.r_23 arg0 arg1 arg2 arg3 arg4 X_arg0 X_arg1 X_arg2 X_arg3 X_arg4 k) (trip_k0_t2.sl.r_24 arg0 arg1 arg2 arg3 arg4 X_arg0 X_arg1 X_arg2 X_arg3 X_arg4 k) (trip_k0_t2.sl.r_25 arg0 arg1 arg2 arg3 arg4 X_arg0 X_arg1 X_arg2 X_arg3 X_arg4 k) (trip_k0_t2.sl.r_26 arg0 arg1 arg2 arg3 arg4 X_arg0 X_arg1 X_arg2 X_arg3 X_arg4 k) (trip_k0_t2.sl.r_27 arg0 arg1 arg2 arg3 arg4 X_arg0 X_arg1 X_arg2 X_arg3 X_arg4 k) (trip_k0_t2.sl.r_28 arg0 arg1 arg2 arg3 arg4 X_arg0 X_arg1 X_arg2 X_arg3 X_arg4 k) (trip_k0_t2.sl.r_29 arg0 arg1 arg2 arg3 arg4 X_arg0 X_arg1 X_arg2 X_arg3 X_arg4 k) (trip_k0_t2.sl.v348 arg0 arg1 arg2 arg3 arg4 X_arg0 X_arg1 X_arg2 X_arg3 X_arg4 k) (trip_k0_t2.sl.v350 arg0 arg1 arg2 arg3 arg4 X_arg0 X_arg1 X_arg2 X_arg3 X_arg4 k))
      = heads (out geo1 (trip_k0_t2.sl.r_11 (F := Bits) arg2 arg3 arg4 X_arg2 X_arg3 X_arg4 k) (rq (VecWindow.window (arg0.view.read (Elt Bits) X_arg0) (k0_off5 k) S128x2048.size (k0_off5_inb k))) (rk1 (VecWindow.window (arg1.view.read (Elt Bits) X_arg1) (k0_off8 k) S1024x1024.size (k0_off8_inb k)) 0 (.inl rfl)) (rk1 (VecWindow.window (arg1.view.read (Elt Bits) X_arg1) (k0_off8 k) S1024x1024.size (k0_off8_inb k)) 512 (.inr rfl))) := by
  rfl
end Pass1

theorem trip1_eq (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
    (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t2_loop.trips) :
    tripL_k0_t2 (F := Bits) 𝒱 c bd arg0 harg0 arg1 harg1 arg2 harg2 arg3 harg3 arg4 harg4 arg5 harg5 X_arg0 X_arg1 X_arg2 X_arg3 X_arg4 k
      = [⟨Rect.unit (s := S8192x2048) (k0_off5 k) S128x2048.size (k0_off5_inb k),
          val1 (trip_k0_t2.sl.v33 k) (VecWindow.window (arg0.view.read (Elt Bits) X_arg0) (k0_off5 k) S128x2048.size (k0_off5_inb k))
            (VecWindow.window (arg1.view.read (Elt Bits) X_arg1) (k0_off8 k) S1024x1024.size (k0_off8_inb k))
            (VecWindow.window (arg2.view.read (Elt Bits) X_arg2) (k0_off5 k) S128x2048.size (k0_off5_inb k))
            (VecWindow.window (arg3.view.read (Elt Bits) X_arg3) (k0_off7 k) S1024x128.size (k0_off7_inb k))
            (VecWindow.window (arg4.view.read (Elt Bits) X_arg4) (k0_off6 k) S128x16.size (k0_off6_inb k))⟩] := by
  unfold tripL_k0_t2 trip_k0_t2
  refine congrArg (fun v => [(⟨Rect.unit (s := S8192x2048) (k0_off5 k) S128x2048.size (k0_off5_inb k), v⟩ : View.Piece (Elt Bits) S8192x2048 .bf16)]) ?_
  refine (stored1 arg0 arg1 arg2 arg3 arg4 X_arg0 X_arg1 X_arg2 X_arg3 X_arg4 k).trans ?_
  rw [chosen1 arg2 arg3 arg4 X_arg2 X_arg3 X_arg4 k, words1 arg2 arg3 arg4 X_arg2 X_arg3 X_arg4 k]
  rfl

/-- The products and shape changes over 1536 keys. -/
def geo2 : Geo 1536 where
  dS := dot_S128x128_S1536x128_S128x1536_1_1_0_0_n_n
  dQ := dot_S512x128_S1536x128_S512x1536_1_1_0_0_n_n
  dV := dot_S512x1536_S1536x128_S512x128_1_0_0_1_n_n
  hb := broadcasts_S128x1_S128x1536
  i0 := iota_S128x1536_d0_w32
  i1 := iota_S128x1536_d1_w32
  c1 := shapeCasts_S128x1536_S1x128x1536
  b4 := broadcasts_S1x128x1536_S4x128x1536
  c4 := shapeCasts_S512x1536_S4x128x1536
  c5 := shapeCasts_S4x128x1536_S512x1536
  cc := concatenates_S128x128_S128x128_S128x128_S128x128_S512x128_d0
  rq := reduces_S512x1536_S512
  cq := shapeCasts_S512_S512x1
  bq := broadcasts_S512x1_S512x1536
  bo := broadcasts_S512x1_S512x128
  tb := bitsLt_bf16_f32
  sl := fun j => by fin_cases j <;> decide

/-- The selection of a block over 1536 keys. -/
def sel2 (i : BitVec 32) (w : IVec (Blk 1536) 32) : IVec (Blk 1536) 1 :=
  ranked shapeCasts_S128x1536_S128x1x1536 shapeCasts_S128x1536_S128x1536x1 broadcasts_S128x1x1536_S128x1536x1536 broadcasts_S128x1536x1_S128x1536x1536 broadcasts_S1x1536x1536_S128x1536x1536
    iota_S1x1536x1536_d2_w32 iota_S1x1536x1536_d1_w32 reduces_S128x1536x1536_S128x1536 (permitted geo2 i) (plain w)

/-- A head's keys or values. -/
def rk2 (x : Vec F S1536x1024 .f32) (o : Nat) (ho : o = 0 ∨ o = 512) (p : Fin 4) : FVec F (Key 1536) .bf16 :=
  extractStridedSlice (Key 1536) ![0, o + 128 * p.val] (truncf .bf16 (shapeCast S1536x1024 x shapeCasts_S1536x1024_S1536x1024) bitsLt_bf16_f32)
    (show S1536x1024.Slices ![0, o + 128 * p.val] (Key 1536) by rcases ho with rfl | rfl <;> fin_cases p <;> decide)

/-- The index keys. -/
def rj2 (x : Vec F S1536x128 .f32) : FVec F (Key 1536) .bf16 := truncf .bf16 (shapeCast S1536x128 x shapeCasts_S1536x128_S1536x128) bitsLt_bf16_f32

/-- What a pass over 1536 keys writes, from the rows it reads. -/
def val2 (i : BitVec 32) (xq : Vec Bits S128x2048 .f32) (xkv : Vec Bits S1536x1024 .f32) (xi : Vec Bits S128x2048 .f32) (xk : Vec Bits S1536x128 .f32) (xw : Vec Bits S128x16 .f32) : FVec Bits S128x2048 .bf16 :=
  heads (out geo2 (sel2 i (bitcastToInt (score geo2 (ri xi) (rj2 xk) (rwt xw)))) (rq xq) (rk2 xkv 0 (.inl rfl)) (rk2 xkv 512 (.inr rfl)))

theorem word2_eq : ∀ k : Fin k0_t3_loop.trips, trip_k0_t3.sl.v33 k = BitVec.ofNat 32 (8 + k.val % 4) := by decide +kernel
theorem off2_rows : ∀ k : Fin k0_t3_loop.trips, k0_off9 k = ![2048 * (k.val / 4) + 1024 + 128 * (k.val % 4), 0] := by decide +kernel
theorem off2_wrows : ∀ k : Fin k0_t3_loop.trips, k0_off10 k = ![2048 * (k.val / 4) + 1024 + 128 * (k.val % 4), 0] := by decide +kernel
theorem off2_ikeys : ∀ k : Fin k0_t3_loop.trips, k0_off11 k = ![2048 * (k.val / 4), 0] := by decide +kernel
theorem off2_keys : ∀ k : Fin k0_t3_loop.trips, k0_off12 k = ![2048 * (k.val / 4), 0] := by decide +kernel

section Pass2

variable (arg0 : Memref sig .tc .vmem S8192x2048 .f32) (arg1 : Memref sig .tc .vmem S8192x1024 .f32) (arg2 : Memref sig .tc .vmem S8192x2048 .f32) (arg3 : Memref sig .tc .vmem S8192x128 .f32) (arg4 : Memref sig .tc .vmem S8192x16 .f32) (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t3_loop.trips)

theorem words2 : trip_k0_t3.sl.r_9 (F := Bits) arg2 arg3 arg4 X_arg2 X_arg3 X_arg4 k = bitcastToInt (score geo2 (ri (VecWindow.window (arg2.view.read (Elt Bits) X_arg2) (k0_off9 k) S128x2048.size (k0_off9_inb k))) (rj2 (VecWindow.window (arg3.view.read (Elt Bits) X_arg3) (k0_off11 k) S1536x128.size (k0_off11_inb k))) (rwt (VecWindow.window (arg4.view.read (Elt Bits) X_arg4) (k0_off10 k) S128x16.size (k0_off10_inb k)))) := rfl
theorem chosen2 : trip_k0_t3.sl.r_11 (F := Bits) arg2 arg3 arg4 X_arg2 X_arg3 X_arg4 k = sel2 (trip_k0_t3.sl.v33 k) (trip_k0_t3.sl.r_9 (F := Bits) arg2 arg3 arg4 X_arg2 X_arg3 X_arg4 k) := rfl

/-- What a pass writes, over the named selection. -/
theorem stored2 :
    (k0_pay10 (trip_k0_t3.sl.r_17 (F := Bits) arg0 arg1 arg2 arg3 arg4 X_arg0 X_arg1 X_arg2 X_arg3 X_arg4 k) (trip_k0_t3.sl.r_18 arg0 arg1 arg2 arg3 arg4 X_arg0 X_arg1 X_arg2 X_arg3 X_arg4 k) (trip_k0_t3.sl.r_19 arg0 arg1 arg2 arg3 arg4 X_arg0 X_arg1 X_arg2 X_arg3 X_arg4 k) (trip_k0_t3.sl.r_20 arg0 arg1 arg2 arg3 arg4 X_arg0 X_arg1 X_arg2 X_arg3 X_arg4 k) (trip_k0_t3.sl.r_22 arg0 arg1 arg2 arg3 arg4 X_arg0 X_arg1 X_arg2 X_arg3 X_arg4 k) (trip_k0_t3.sl.r_23 arg0 arg1 arg2 arg3 arg4 X_arg0 X_arg1 X_arg2 X_arg3 X_arg4 k) (trip_k0_t3.sl.r_24 arg0 arg1 arg2 arg3 arg4 X_arg0 X_arg1 X_arg2 X_arg3 X_arg4 k) (trip_k0_t3.sl.r_25 arg0 arg1 arg2 arg3 arg4 X_arg0 X_arg1 X_arg2 X_arg3 X_arg4 k) (trip_k0_t3.sl.r_26 arg0 arg1 arg2 arg3 arg4 X_arg0 X_arg1 X_arg2 X_arg3 X_arg4 k) (trip_k0_t3.sl.r_27 arg0 arg1 arg2 arg3 arg4 X_arg0 X_arg1 X_arg2 X_arg3 X_arg4 k) (trip_k0_t3.sl.r_28 arg0 arg1 arg2 arg3 arg4 X_arg0 X_arg1 X_arg2 X_arg3 X_arg4 k) (trip_k0_t3.sl.r_29 arg0 arg1 arg2 arg3 arg4 X_arg0 X_arg1 X_arg2 X_arg3 X_arg4 k) (trip_k0_t3.sl.v348 arg0 arg1 arg2 arg3 arg4 X_arg0 X_arg1 X_arg2 X_arg3 X_arg4 k) (trip_k0_t3.sl.v350 arg0 arg1 arg2 arg3 arg4 X_arg0 X_arg1 X_arg2 X_arg3 X_arg4 k))
      = heads (out geo2 (trip_k0_t3.sl.r_11 (F := Bits) arg2 arg3 arg4 X_arg2 X_arg3 X_arg4 k) (rq (VecWindow.window (arg0.view.read (Elt Bits) X_arg0) (k0_off9 k) S128x2048.size (k0_off9_inb k))) (rk2 (VecWindow.window (arg1.view.read (Elt Bits) X_arg1) (k0_off12 k) S1536x1024.size (k0_off12_inb k)) 0 (.inl rfl)) (rk2 (VecWindow.window (arg1.view.read (Elt Bits) X_arg1) (k0_off12 k) S1536x1024.size (k0_off12_inb k)) 512 (.inr rfl))) := by
  rfl
end Pass2

theorem trip2_eq (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
    (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t3_loop.trips) :
    tripL_k0_t3 (F := Bits) 𝒱 c bd arg0 harg0 arg1 harg1 arg2 harg2 arg3 harg3 arg4 harg4 arg5 harg5 X_arg0 X_arg1 X_arg2 X_arg3 X_arg4 k
      = [⟨Rect.unit (s := S8192x2048) (k0_off9 k) S128x2048.size (k0_off9_inb k),
          val2 (trip_k0_t3.sl.v33 k) (VecWindow.window (arg0.view.read (Elt Bits) X_arg0) (k0_off9 k) S128x2048.size (k0_off9_inb k))
            (VecWindow.window (arg1.view.read (Elt Bits) X_arg1) (k0_off12 k) S1536x1024.size (k0_off12_inb k))
            (VecWindow.window (arg2.view.read (Elt Bits) X_arg2) (k0_off9 k) S128x2048.size (k0_off9_inb k))
            (VecWindow.window (arg3.view.read (Elt Bits) X_arg3) (k0_off11 k) S1536x128.size (k0_off11_inb k))
            (VecWindow.window (arg4.view.read (Elt Bits) X_arg4) (k0_off10 k) S128x16.size (k0_off10_inb k))⟩] := by
  unfold tripL_k0_t3 trip_k0_t3
  refine congrArg (fun v => [(⟨Rect.unit (s := S8192x2048) (k0_off9 k) S128x2048.size (k0_off9_inb k), v⟩ : View.Piece (Elt Bits) S8192x2048 .bf16)]) ?_
  refine (stored2 arg0 arg1 arg2 arg3 arg4 X_arg0 X_arg1 X_arg2 X_arg3 X_arg4 k).trans ?_
  rw [chosen2 arg2 arg3 arg4 X_arg2 X_arg3 X_arg4 k, words2 arg2 arg3 arg4 X_arg2 X_arg3 X_arg4 k]
  rfl

/-- The products and shape changes over 2048 keys. -/
def geo3 : Geo 2048 where
  dS := dot_S128x128_S2048x128_S128x2048_1_1_0_0_n_n
  dQ := dot_S512x128_S2048x128_S512x2048_1_1_0_0_n_n
  dV := dot_S512x2048_S2048x128_S512x128_1_0_0_1_n_n
  hb := broadcasts_S128x1_S128x2048
  i0 := iota_S128x2048_d0_w32
  i1 := iota_S128x2048_d1_w32
  c1 := shapeCasts_S128x2048_S1x128x2048
  b4 := broadcasts_S1x128x2048_S4x128x2048
  c4 := shapeCasts_S512x2048_S4x128x2048
  c5 := shapeCasts_S4x128x2048_S512x2048
  cc := concatenates_S128x128_S128x128_S128x128_S128x128_S512x128_d0
  rq := reduces_S512x2048_S512
  cq := shapeCasts_S512_S512x1
  bq := broadcasts_S512x1_S512x2048
  bo := broadcasts_S512x1_S512x128
  tb := bitsLt_bf16_f32
  sl := fun j => by fin_cases j <;> decide

/-- The selection of a block over 2048 keys. -/
def sel3 (i : BitVec 32) (w : IVec (Blk 2048) 32) : IVec (Blk 2048) 1 :=
  ranked shapeCasts_S128x2048_S128x1x2048 shapeCasts_S128x2048_S128x2048x1 broadcasts_S128x1x2048_S128x2048x2048 broadcasts_S128x2048x1_S128x2048x2048 broadcasts_S1x2048x2048_S128x2048x2048
    iota_S1x2048x2048_d2_w32 iota_S1x2048x2048_d1_w32 reduces_S128x2048x2048_S128x2048 (permitted geo3 i) (plain w)

/-- A head's keys or values. -/
def rk3 (x : Vec F S2048x1024 .f32) (o : Nat) (ho : o = 0 ∨ o = 512) (p : Fin 4) : FVec F (Key 2048) .bf16 :=
  extractStridedSlice (Key 2048) ![0, o + 128 * p.val] (truncf .bf16 (shapeCast S2048x1024 x shapeCasts_S2048x1024_S2048x1024) bitsLt_bf16_f32)
    (show S2048x1024.Slices ![0, o + 128 * p.val] (Key 2048) by rcases ho with rfl | rfl <;> fin_cases p <;> decide)

/-- The index keys. -/
def rj3 (x : Vec F S2048x128 .f32) : FVec F (Key 2048) .bf16 := truncf .bf16 (shapeCast S2048x128 x shapeCasts_S2048x128_S2048x128) bitsLt_bf16_f32

/-- What a pass over 2048 keys writes, from the rows it reads. -/
def val3 (i : BitVec 32) (xq : Vec Bits S128x2048 .f32) (xkv : Vec Bits S2048x1024 .f32) (xi : Vec Bits S128x2048 .f32) (xk : Vec Bits S2048x128 .f32) (xw : Vec Bits S128x16 .f32) : FVec Bits S128x2048 .bf16 :=
  heads (out geo3 (sel3 i (bitcastToInt (score geo3 (ri xi) (rj3 xk) (rwt xw)))) (rq xq) (rk3 xkv 0 (.inl rfl)) (rk3 xkv 512 (.inr rfl)))

theorem word3_eq : ∀ k : Fin k0_t4_loop.trips, trip_k0_t4.sl.v33 k = BitVec.ofNat 32 (12 + k.val % 4) := by decide +kernel
theorem off3_rows : ∀ k : Fin k0_t4_loop.trips, k0_off13 k = ![2048 * (k.val / 4) + 1536 + 128 * (k.val % 4), 0] := by decide +kernel
theorem off3_wrows : ∀ k : Fin k0_t4_loop.trips, k0_off14 k = ![2048 * (k.val / 4) + 1536 + 128 * (k.val % 4), 0] := by decide +kernel
theorem off3_ikeys : ∀ k : Fin k0_t4_loop.trips, k0_off15 k = ![2048 * (k.val / 4), 0] := by decide +kernel
theorem off3_keys : ∀ k : Fin k0_t4_loop.trips, k0_off16 k = ![2048 * (k.val / 4), 0] := by decide +kernel

section Pass3

variable (arg0 : Memref sig .tc .vmem S8192x2048 .f32) (arg1 : Memref sig .tc .vmem S8192x1024 .f32) (arg2 : Memref sig .tc .vmem S8192x2048 .f32) (arg3 : Memref sig .tc .vmem S8192x128 .f32) (arg4 : Memref sig .tc .vmem S8192x16 .f32) (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t4_loop.trips)

theorem words3 : trip_k0_t4.sl.r_9 (F := Bits) arg2 arg3 arg4 X_arg2 X_arg3 X_arg4 k = bitcastToInt (score geo3 (ri (VecWindow.window (arg2.view.read (Elt Bits) X_arg2) (k0_off13 k) S128x2048.size (k0_off13_inb k))) (rj3 (VecWindow.window (arg3.view.read (Elt Bits) X_arg3) (k0_off15 k) S2048x128.size (k0_off15_inb k))) (rwt (VecWindow.window (arg4.view.read (Elt Bits) X_arg4) (k0_off14 k) S128x16.size (k0_off14_inb k)))) := rfl
theorem chosen3 : trip_k0_t4.sl.r_11 (F := Bits) arg2 arg3 arg4 X_arg2 X_arg3 X_arg4 k = sel3 (trip_k0_t4.sl.v33 k) (trip_k0_t4.sl.r_9 (F := Bits) arg2 arg3 arg4 X_arg2 X_arg3 X_arg4 k) := rfl

/-- What a pass writes, over the named selection. -/
theorem stored3 :
    (k0_pay13 (trip_k0_t4.sl.r_17 (F := Bits) arg0 arg1 arg2 arg3 arg4 X_arg0 X_arg1 X_arg2 X_arg3 X_arg4 k) (trip_k0_t4.sl.r_18 arg0 arg1 arg2 arg3 arg4 X_arg0 X_arg1 X_arg2 X_arg3 X_arg4 k) (trip_k0_t4.sl.r_19 arg0 arg1 arg2 arg3 arg4 X_arg0 X_arg1 X_arg2 X_arg3 X_arg4 k) (trip_k0_t4.sl.r_20 arg0 arg1 arg2 arg3 arg4 X_arg0 X_arg1 X_arg2 X_arg3 X_arg4 k) (trip_k0_t4.sl.r_22 arg0 arg1 arg2 arg3 arg4 X_arg0 X_arg1 X_arg2 X_arg3 X_arg4 k) (trip_k0_t4.sl.r_23 arg0 arg1 arg2 arg3 arg4 X_arg0 X_arg1 X_arg2 X_arg3 X_arg4 k) (trip_k0_t4.sl.r_24 arg0 arg1 arg2 arg3 arg4 X_arg0 X_arg1 X_arg2 X_arg3 X_arg4 k) (trip_k0_t4.sl.r_25 arg0 arg1 arg2 arg3 arg4 X_arg0 X_arg1 X_arg2 X_arg3 X_arg4 k) (trip_k0_t4.sl.r_26 arg0 arg1 arg2 arg3 arg4 X_arg0 X_arg1 X_arg2 X_arg3 X_arg4 k) (trip_k0_t4.sl.r_27 arg0 arg1 arg2 arg3 arg4 X_arg0 X_arg1 X_arg2 X_arg3 X_arg4 k) (trip_k0_t4.sl.r_28 arg0 arg1 arg2 arg3 arg4 X_arg0 X_arg1 X_arg2 X_arg3 X_arg4 k) (trip_k0_t4.sl.r_29 arg0 arg1 arg2 arg3 arg4 X_arg0 X_arg1 X_arg2 X_arg3 X_arg4 k) (trip_k0_t4.sl.v348 arg0 arg1 arg2 arg3 arg4 X_arg0 X_arg1 X_arg2 X_arg3 X_arg4 k) (trip_k0_t4.sl.v350 arg0 arg1 arg2 arg3 arg4 X_arg0 X_arg1 X_arg2 X_arg3 X_arg4 k))
      = heads (out geo3 (trip_k0_t4.sl.r_11 (F := Bits) arg2 arg3 arg4 X_arg2 X_arg3 X_arg4 k) (rq (VecWindow.window (arg0.view.read (Elt Bits) X_arg0) (k0_off13 k) S128x2048.size (k0_off13_inb k))) (rk3 (VecWindow.window (arg1.view.read (Elt Bits) X_arg1) (k0_off16 k) S2048x1024.size (k0_off16_inb k)) 0 (.inl rfl)) (rk3 (VecWindow.window (arg1.view.read (Elt Bits) X_arg1) (k0_off16 k) S2048x1024.size (k0_off16_inb k)) 512 (.inr rfl))) := by
  rfl
end Pass3

theorem trip3_eq (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
    (X_arg0 : BufTy.Contents (Elt Bits) arg0.view.ty) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (k : Fin k0_t4_loop.trips) :
    tripL_k0_t4 (F := Bits) 𝒱 c bd arg0 harg0 arg1 harg1 arg2 harg2 arg3 harg3 arg4 harg4 arg5 harg5 X_arg0 X_arg1 X_arg2 X_arg3 X_arg4 k
      = [⟨Rect.unit (s := S8192x2048) (k0_off13 k) S128x2048.size (k0_off13_inb k),
          val3 (trip_k0_t4.sl.v33 k) (VecWindow.window (arg0.view.read (Elt Bits) X_arg0) (k0_off13 k) S128x2048.size (k0_off13_inb k))
            (VecWindow.window (arg1.view.read (Elt Bits) X_arg1) (k0_off16 k) S2048x1024.size (k0_off16_inb k))
            (VecWindow.window (arg2.view.read (Elt Bits) X_arg2) (k0_off13 k) S128x2048.size (k0_off13_inb k))
            (VecWindow.window (arg3.view.read (Elt Bits) X_arg3) (k0_off15 k) S2048x128.size (k0_off15_inb k))
            (VecWindow.window (arg4.view.read (Elt Bits) X_arg4) (k0_off14 k) S128x16.size (k0_off14_inb k))⟩] := by
  unfold tripL_k0_t4 trip_k0_t4
  refine congrArg (fun v => [(⟨Rect.unit (s := S8192x2048) (k0_off13 k) S128x2048.size (k0_off13_inb k), v⟩ : View.Piece (Elt Bits) S8192x2048 .bf16)]) ?_
  refine (stored3 arg0 arg1 arg2 arg3 arg4 X_arg0 X_arg1 X_arg2 X_arg3 X_arg4 k).trans ?_
  rw [chosen3 arg2 arg3 arg4 X_arg2 X_arg3 X_arg4 k, words3 arg2 arg3 arg4 X_arg2 X_arg3 X_arg4 k]
  rfl

end Cert.Reference.Att

end

end
-- ==== Proof.Meet.lean ====
/- A block of the kernel and a pass of the reference over the same rows write the same. -/
module

public import proofs.«01_k».proof.Proof.KSpec
public import proofs.«01_k».proof.Proof.KFrame
public import proofs.«01_k».proof.Proof.RSpec
public import Idealize.ShloMosaic.Lib.Pipeline.ValueKit.Geometry

@[expose] public section

set_option maxRecDepth 65536

noncomputable section

namespace Cert.Att

open Idealize.ShloMosaic Idealize.ShloMosaic.TcCoe Idealize.ShloMosaic.Tactic

/-- The heads side by side, at the place of an element of one of them. -/
theorem heads_emb {F : FTy → Type} [BitOps F] (o : Fin 16 → FVec F Sq .f32) (h : Fin 16) (inb : ∀ a, (![0, 128 * h.val] : Fin 2 → Nat) a + (![128, 128] : Fin 2 → Nat) a ≤ (![128, 2048] : Fin 2 → Nat) a) (x : Sq.Idx) (tb) :
    Cert.Reference.Att.heads o ((Rect.unit (s := ⟨2, ![128, 2048]⟩) ![0, 128 * h.val] Sq.size inb).emb x) = truncf .bf16 (o h) tb x := by
  have e0 := ValueKit.rect_emb_unit_val (s := ⟨2, ![128, 2048]⟩) ![0, 128 * h.val] Sq.size inb x 0
  have e1 := ValueKit.rect_emb_unit_val (s := ⟨2, ![128, 2048]⟩) ![0, 128 * h.val] Sq.size inb x 1
  have hx : (x 1).val < 128 := (x 1).isLt
  change _ = 0 + (x 0).val at e0
  change _ = 128 * h.val + (x 1).val at e1
  unfold Cert.Reference.Att.heads
  refine congrArg (FloatOps.truncf .bf16 tb) ?_
  refine concatenate_ofFn_apply (s₁ := Sq) (t := ⟨2, ![128, 2048]⟩) 1 o _ rfl 128 rfl _ h ?_ x ?_ ?_
  · rw [e1]; omega
  · show (x 1).val = _
    rw [e1]; omega
  · intro b hb
    fin_cases b
    · show (x 0).val = _
      exact (by omega : (x 0).val = 0 + (x 0).val).trans e0.symm
    · exact absurd rfl hb

/-- The permitted columns of a row are downward closed. -/
theorem permitted_down {L : Nat} (hL : L ≤ 2048) (g : Geo L) (n : Nat) (hn : n < 16) (r : Fin 128) (c j : Fin L)
    (h : permitted g (BitVec.ofNat 32 n) (ix2 r c) = 1#1) (hj : j.val < c.val) : permitted g (BitVec.ofNat 32 n) (ix2 r j) = 1#1 := by
  change BitVec.ofBool (BitVec.sle (iota .tc (Blk L) 32 [1] g.i1 (ix2 r c)) _) = 1#1 at h
  show BitVec.ofBool (BitVec.sle (iota .tc (Blk L) 32 [1] g.i1 (ix2 r j)) _) = 1#1
  rw [iota1_apply] at h ⊢
  have small : ∀ k : Fin L, (BitVec.ofNat 32 k.val).toInt = (k.val : Int) := fun k => by
    have e : (BitVec.ofNat 32 k.val).toNat = k.val := by rw [BitVec.toNat_ofNat]; have := k.isLt; omega
    rw [toInt_small (by rw [e]; have := k.isLt; omega), e]
  unfold BitVec.sle at h ⊢
  rw [small] at h ⊢
  have h' : (c.val : Int) ≤ (addi (broadcast (Blk L) (Scalar.muli (BitVec.ofNat 32 n) 128#32)) (iota .tc (Blk L) 32 [0] g.i0) (ix2 r c)).toInt := by
    by_contra hne
    rw [decide_eq_false hne] at h
    exact absurd h (by decide)
  rw [decide_eq_true]
  · rfl
  · exact le_trans (by exact_mod_cast hj.le) h'

end Cert.Att

namespace Cert.Meet

open Idealize.ShloMosaic Idealize.ShloMosaic.TcCoe Idealize.ShloMosaic.Tactic
open Cert.Att

set_option maxHeartbeats 1000000 in
theorem sel0_eq (n : Nat) (hn : n < 16) (w : IVec (Blk 512) 32) : Cert.Kernel.Att.sel0 (BitVec.ofNat 32 n) w = Cert.Reference.Att.sel0 (BitVec.ofNat 32 n) w :=
  picked_eq_ranked _ _ _ _ _ _ _ _ _ _ _ _ _ _ _ _ (by decide) (by decide) _ w (fun r c j h hj => permitted_down (by decide) _ n hn r c j h hj)

set_option maxHeartbeats 1000000 in
theorem block0 (n : Nat) (hn : n < 16) (x0 x1 : Vec Bits Cert.Kernel.S128x2048 .f32) (x2 : Vec Bits Cert.Kernel.S128x128 .f32) (s0 : Vec Bits Cert.Kernel.S2048x128 .bf16) (s1 : Vec Bits Cert.Kernel.S2048x1024 .bf16)
    (xq : Vec Bits Cert.Reference.S128x2048 .f32) (xkv : Vec Bits Cert.Reference.S512x1024 .f32) (xi : Vec Bits Cert.Reference.S128x2048 .f32) (xk : Vec Bits Cert.Reference.S512x128 .f32) (xw : Vec Bits Cert.Reference.S128x16 .f32)
    (hq : Cert.Kernel.Att.qw x1 = Cert.Reference.Att.rq xq) (hi : Cert.Kernel.Att.qi x0 = Cert.Reference.Att.ri xi) (hw : Cert.Kernel.Att.wi x2 = Cert.Reference.Att.rwt xw)
    (hj : Cert.Kernel.Att.ki0 s0 = Cert.Reference.Att.rj0 xk) (hk : Cert.Kernel.Att.kw0 s1 0 (by omega) = Cert.Reference.Att.rk0 xkv 0 (.inl rfl))
    (hv : Cert.Kernel.Att.kw0 s1 512 (by omega) = Cert.Reference.Att.rk0 xkv 512 (.inr rfl)) :
    Cert.Kernel.Att.VO.read (Elt Bits) (Cert.Kernel.Att.VO.writes (Elt Bits) Cert.Kernel.Att.VO.junk (Cert.Kernel.Att.pcs0 (BitVec.ofNat 32 n) x0 x1 x2 s0 s1))
      = Cert.Reference.Att.val0 (BitVec.ofNat 32 n) xq xkv xi xk xw := by
  have hg : Cert.Kernel.Att.geo0 = Cert.Reference.Att.geo0 := rfl
  funext y
  refine (View.read_writes_apply_of_pieces _ _ (Cert.Reference.Att.heads (out Cert.Kernel.Att.geo0 (Cert.Kernel.Att.sel0 (BitVec.ofNat 32 n) (bitcastToInt (Cert.Kernel.Att.score0 x0 x2 s0)))
    (Cert.Kernel.Att.qw x1) (Cert.Kernel.Att.kw0 s1 0 (by omega)) (Cert.Kernel.Att.kw0 s1 512 (by omega)))) _ ?_ y (Cert.Kernel.Att.cover0 ..)).trans ?_
  · rw [Cert.Kernel.Att.pcs0_eq]
    intro p hp x
    simp only [List.mem_cons, List.not_mem_nil, or_false] at hp
    rcases hp with rfl | rfl | rfl | rfl | rfl | rfl | rfl | rfl | rfl | rfl | rfl | rfl | rfl | rfl | rfl | rfl <;> exact (heads_emb _ _ (Cert.Kernel.Att.colInb 128 _ 2048 (by decide)) x _).symm
  · unfold Cert.Kernel.Att.score0 Cert.Reference.Att.val0
    rw [hq, hi, hw, hj, hk, hv, sel0_eq n hn, hg]

set_option maxHeartbeats 1000000 in
theorem sel1_eq (n : Nat) (hn : n < 16) (w : IVec (Blk 1024) 32) : Cert.Kernel.Att.sel1 (BitVec.ofNat 32 n) w = Cert.Reference.Att.sel1 (BitVec.ofNat 32 n) w :=
  picked_eq_ranked _ _ _ _ _ _ _ _ _ _ _ _ _ _ _ _ (by decide) (by decide) _ w (fun r c j h hj => permitted_down (by decide) _ n hn r c j h hj)

set_option maxHeartbeats 1000000 in
theorem block1 (n : Nat) (hn : n < 16) (x0 x1 : Vec Bits Cert.Kernel.S128x2048 .f32) (x2 : Vec Bits Cert.Kernel.S128x128 .f32) (s0 : Vec Bits Cert.Kernel.S2048x128 .bf16) (s1 : Vec Bits Cert.Kernel.S2048x1024 .bf16)
    (xq : Vec Bits Cert.Reference.S128x2048 .f32) (xkv : Vec Bits Cert.Reference.S1024x1024 .f32) (xi : Vec Bits Cert.Reference.S128x2048 .f32) (xk : Vec Bits Cert.Reference.S1024x128 .f32) (xw : Vec Bits Cert.Reference.S128x16 .f32)
    (hq : Cert.Kernel.Att.qw x1 = Cert.Reference.Att.rq xq) (hi : Cert.Kernel.Att.qi x0 = Cert.Reference.Att.ri xi) (hw : Cert.Kernel.Att.wi x2 = Cert.Reference.Att.rwt xw)
    (hj : Cert.Kernel.Att.ki1 s0 = Cert.Reference.Att.rj1 xk) (hk : Cert.Kernel.Att.kw1 s1 0 (by omega) = Cert.Reference.Att.rk1 xkv 0 (.inl rfl))
    (hv : Cert.Kernel.Att.kw1 s1 512 (by omega) = Cert.Reference.Att.rk1 xkv 512 (.inr rfl)) :
    Cert.Kernel.Att.VO.read (Elt Bits) (Cert.Kernel.Att.VO.writes (Elt Bits) Cert.Kernel.Att.VO.junk (Cert.Kernel.Att.pcs1 (BitVec.ofNat 32 n) x0 x1 x2 s0 s1))
      = Cert.Reference.Att.val1 (BitVec.ofNat 32 n) xq xkv xi xk xw := by
  have hg : Cert.Kernel.Att.geo1 = Cert.Reference.Att.geo1 := rfl
  funext y
  refine (View.read_writes_apply_of_pieces _ _ (Cert.Reference.Att.heads (out Cert.Kernel.Att.geo1 (Cert.Kernel.Att.sel1 (BitVec.ofNat 32 n) (bitcastToInt (Cert.Kernel.Att.score1 x0 x2 s0)))
    (Cert.Kernel.Att.qw x1) (Cert.Kernel.Att.kw1 s1 0 (by omega)) (Cert.Kernel.Att.kw1 s1 512 (by omega)))) _ ?_ y (Cert.Kernel.Att.cover1 ..)).trans ?_
  · rw [Cert.Kernel.Att.pcs1_eq]
    intro p hp x
    simp only [List.mem_cons, List.not_mem_nil, or_false] at hp
    rcases hp with rfl | rfl | rfl | rfl | rfl | rfl | rfl | rfl | rfl | rfl | rfl | rfl | rfl | rfl | rfl | rfl <;> exact (heads_emb _ _ (Cert.Kernel.Att.colInb 128 _ 2048 (by decide)) x _).symm
  · unfold Cert.Kernel.Att.score1 Cert.Reference.Att.val1
    rw [hq, hi, hw, hj, hk, hv, sel1_eq n hn, hg]

set_option maxHeartbeats 1000000 in
theorem sel2_eq (n : Nat) (hn : n < 16) (w : IVec (Blk 1536) 32) : Cert.Kernel.Att.sel2 (BitVec.ofNat 32 n) w = Cert.Reference.Att.sel2 (BitVec.ofNat 32 n) w :=
  picked_eq_ranked _ _ _ _ _ _ _ _ _ _ _ _ _ _ _ _ (by decide) (by decide) _ w (fun r c j h hj => permitted_down (by decide) _ n hn r c j h hj)

set_option maxHeartbeats 1000000 in
theorem block2 (n : Nat) (hn : n < 16) (x0 x1 : Vec Bits Cert.Kernel.S128x2048 .f32) (x2 : Vec Bits Cert.Kernel.S128x128 .f32) (s0 : Vec Bits Cert.Kernel.S2048x128 .bf16) (s1 : Vec Bits Cert.Kernel.S2048x1024 .bf16)
    (xq : Vec Bits Cert.Reference.S128x2048 .f32) (xkv : Vec Bits Cert.Reference.S1536x1024 .f32) (xi : Vec Bits Cert.Reference.S128x2048 .f32) (xk : Vec Bits Cert.Reference.S1536x128 .f32) (xw : Vec Bits Cert.Reference.S128x16 .f32)
    (hq : Cert.Kernel.Att.qw x1 = Cert.Reference.Att.rq xq) (hi : Cert.Kernel.Att.qi x0 = Cert.Reference.Att.ri xi) (hw : Cert.Kernel.Att.wi x2 = Cert.Reference.Att.rwt xw)
    (hj : Cert.Kernel.Att.ki2 s0 = Cert.Reference.Att.rj2 xk) (hk : Cert.Kernel.Att.kw2 s1 0 (by omega) = Cert.Reference.Att.rk2 xkv 0 (.inl rfl))
    (hv : Cert.Kernel.Att.kw2 s1 512 (by omega) = Cert.Reference.Att.rk2 xkv 512 (.inr rfl)) :
    Cert.Kernel.Att.VO.read (Elt Bits) (Cert.Kernel.Att.VO.writes (Elt Bits) Cert.Kernel.Att.VO.junk (Cert.Kernel.Att.pcs2 (BitVec.ofNat 32 n) x0 x1 x2 s0 s1))
      = Cert.Reference.Att.val2 (BitVec.ofNat 32 n) xq xkv xi xk xw := by
  have hg : Cert.Kernel.Att.geo2 = Cert.Reference.Att.geo2 := rfl
  funext y
  refine (View.read_writes_apply_of_pieces _ _ (Cert.Reference.Att.heads (out Cert.Kernel.Att.geo2 (Cert.Kernel.Att.sel2 (BitVec.ofNat 32 n) (bitcastToInt (Cert.Kernel.Att.score2 x0 x2 s0)))
    (Cert.Kernel.Att.qw x1) (Cert.Kernel.Att.kw2 s1 0 (by omega)) (Cert.Kernel.Att.kw2 s1 512 (by omega)))) _ ?_ y (Cert.Kernel.Att.cover2 ..)).trans ?_
  · rw [Cert.Kernel.Att.pcs2_eq]
    intro p hp x
    simp only [List.mem_cons, List.not_mem_nil, or_false] at hp
    rcases hp with rfl | rfl | rfl | rfl | rfl | rfl | rfl | rfl | rfl | rfl | rfl | rfl | rfl | rfl | rfl | rfl <;> exact (heads_emb _ _ (Cert.Kernel.Att.colInb 128 _ 2048 (by decide)) x _).symm
  · unfold Cert.Kernel.Att.score2 Cert.Reference.Att.val2
    rw [hq, hi, hw, hj, hk, hv, sel2_eq n hn, hg]

set_option maxHeartbeats 1000000 in
theorem sel3_eq (n : Nat) (hn : n < 16) (w : IVec (Blk 2048) 32) : Cert.Kernel.Att.sel3 (BitVec.ofNat 32 n) w = Cert.Reference.Att.sel3 (BitVec.ofNat 32 n) w :=
  picked_eq_ranked _ _ _ _ _ _ _ _ _ _ _ _ _ _ _ _ (by decide) (by decide) _ w (fun r c j h hj => permitted_down (by decide) _ n hn r c j h hj)

set_option maxHeartbeats 1000000 in
theorem block3 (n : Nat) (hn : n < 16) (x0 x1 : Vec Bits Cert.Kernel.S128x2048 .f32) (x2 : Vec Bits Cert.Kernel.S128x128 .f32) (s0 : Vec Bits Cert.Kernel.S2048x128 .bf16) (s1 : Vec Bits Cert.Kernel.S2048x1024 .bf16)
    (xq : Vec Bits Cert.Reference.S128x2048 .f32) (xkv : Vec Bits Cert.Reference.S2048x1024 .f32) (xi : Vec Bits Cert.Reference.S128x2048 .f32) (xk : Vec Bits Cert.Reference.S2048x128 .f32) (xw : Vec Bits Cert.Reference.S128x16 .f32)
    (hq : Cert.Kernel.Att.qw x1 = Cert.Reference.Att.rq xq) (hi : Cert.Kernel.Att.qi x0 = Cert.Reference.Att.ri xi) (hw : Cert.Kernel.Att.wi x2 = Cert.Reference.Att.rwt xw)
    (hj : Cert.Kernel.Att.ki3 s0 = Cert.Reference.Att.rj3 xk) (hk : Cert.Kernel.Att.kw3 s1 0 (by omega) = Cert.Reference.Att.rk3 xkv 0 (.inl rfl))
    (hv : Cert.Kernel.Att.kw3 s1 512 (by omega) = Cert.Reference.Att.rk3 xkv 512 (.inr rfl)) :
    Cert.Kernel.Att.VO.read (Elt Bits) (Cert.Kernel.Att.VO.writes (Elt Bits) Cert.Kernel.Att.VO.junk (Cert.Kernel.Att.pcs3 (BitVec.ofNat 32 n) x0 x1 x2 s0 s1))
      = Cert.Reference.Att.val3 (BitVec.ofNat 32 n) xq xkv xi xk xw := by
  have hg : Cert.Kernel.Att.geo3 = Cert.Reference.Att.geo3 := rfl
  funext y
  refine (View.read_writes_apply_of_pieces _ _ (Cert.Reference.Att.heads (out Cert.Kernel.Att.geo3 (Cert.Kernel.Att.sel3 (BitVec.ofNat 32 n) (bitcastToInt (Cert.Kernel.Att.score3 x0 x2 s0)))
    (Cert.Kernel.Att.qw x1) (Cert.Kernel.Att.kw3 s1 0 (by omega)) (Cert.Kernel.Att.kw3 s1 512 (by omega)))) _ ?_ y (Cert.Kernel.Att.cover3 ..)).trans ?_
  · rw [Cert.Kernel.Att.pcs3_eq]
    intro p hp x
    simp only [List.mem_cons, List.not_mem_nil, or_false] at hp
    rcases hp with rfl | rfl | rfl | rfl | rfl | rfl | rfl | rfl | rfl | rfl | rfl | rfl | rfl | rfl | rfl | rfl <;> exact (heads_emb _ _ (Cert.Kernel.Att.colInb 128 _ 2048 (by decide)) x _).symm
  · unfold Cert.Kernel.Att.score3 Cert.Reference.Att.val3
    rw [hq, hi, hw, hj, hk, hv, sel3_eq n hn, hg]

end Cert.Meet

end

end
-- ==== Proof.KHost.lean ====
/- What the kernel's input blocks hold: rows of the arguments, read through the one wide array the host joins them into. -/
module

public import proofs.«01_k».proof.Proof.KSpec
public import proofs.«01_k».proof.Proof.KFrame
public import Idealize.ShloMosaic.Lib.Pipeline.ValueKit
public import Idealize.ShloMosaic.Lib.KernelVsHost

@[expose] public section

set_option maxRecDepth 16384

noncomputable section

namespace Cert.Kernel.Att

open Idealize.ShloMosaic Idealize.ShloMosaic.TcCoe Idealize.ShloMosaic.Tactic
open Idealize.ShloMosaic.Pipeline (Dat Cfg Window)
open Cert.Kernel.Gen

variable {F : FTy → Type} [BitOps F]
variable (m : (ℓ : Loc nD τ sig) → Buf (Elt F) ℓ)

/-- The arguments as the host shapes them: a row per position of a batch. -/
def qR (c : Dev nD) : Vec F S8192x2048 .f32 := shapeCast S8192x2048 (m ((c : Thread nD τ).loc main_arg0)) shapeCasts_S4x2048x16x128_S8192x2048
def kvR (c : Dev nD) : Vec F S8192x1024 .f32 := shapeCast S8192x1024 (m ((c : Thread nD τ).loc main_arg1)) shapeCasts_S4x2048x2x4x128_S8192x1024
def iqR (c : Dev nD) : Vec F S8192x2048 .f32 := shapeCast S8192x2048 (m ((c : Thread nD τ).loc main_arg2)) shapeCasts_S4x2048x16x128_S8192x2048
def ikR (c : Dev nD) : Vec F S8192x128 .f32 := shapeCast S8192x128 (m ((c : Thread nD τ).loc main_arg3)) shapeCasts_S4x2048x128_S8192x128
def iwR (c : Dev nD) : Vec F S8192x16 .f32 := shapeCast S8192x16 (m ((c : Thread nD τ).loc main_arg4)) shapeCasts_S4x2048x16_S8192x16

/-- The index weights, padded to the width of a register. -/
def iwP (c : Dev nD) : Vec F S8192x128 .f32 :=
  pad S8192x128 ![0, 0] ![0, 112] ![0, 0] (iwR m c) (sitofp .f32 (constantI S_ 32 0#32)) pads_S8192x16_S8192x128_000_01120 h_S_

theorem part0 (c : Dev nD) :
    StableHlo.after (List.flatten [hostOps0, hostOps0_1]) (fun b => m (c, b)) (Proc.devRef .tc main_v0) = iqR m c := by
  simp only [hostOps0, hostOps0_1, List.flatten_cons, List.flatten_nil, List.append_nil, List.cons_append, List.nil_append]
  after_results
  rfl

theorem part1 (c : Dev nD) :
    StableHlo.after (List.flatten [hostOps0, hostOps0_1]) (fun b => m (c, b)) (Proc.devRef .tc main_v1) = qR m c := by
  simp only [hostOps0, hostOps0_1, List.flatten_cons, List.flatten_nil, List.append_nil, List.cons_append, List.nil_append]
  after_results
  rfl

theorem part2 (c : Dev nD) :
    StableHlo.after (List.flatten [hostOps0, hostOps0_1]) (fun b => m (c, b)) (Proc.devRef .tc main_v2) = kvR m c := by
  simp only [hostOps0, hostOps0_1, List.flatten_cons, List.flatten_nil, List.append_nil, List.cons_append, List.nil_append]
  after_results
  rfl

theorem part3 (c : Dev nD) :
    StableHlo.after (List.flatten [hostOps0, hostOps0_1]) (fun b => m (c, b)) (Proc.devRef .tc main_v3) = ikR m c := by
  simp only [hostOps0, hostOps0_1, List.flatten_cons, List.flatten_nil, List.append_nil, List.cons_append, List.nil_append]
  after_results
  rfl

theorem part4 (c : Dev nD) :
    StableHlo.after (List.flatten [hostOps0, hostOps0_1]) (fun b => m (c, b)) (Proc.devRef .tc main_v5) = iwP m c := by
  simp only [hostOps0, hostOps0_1, List.flatten_cons, List.flatten_nil, List.append_nil, List.cons_append, List.nil_append]
  after_results
  rfl

theorem joined (x0 y0 x1 y1 : Vec F S8192x2048 .f32) (x2 y2 : Vec F S8192x1024 .f32) (x3 y3 x4 y4 : Vec F S8192x128 .f32)
    (h h') (e0 : x0 = y0) (e1 : x1 = y1) (e2 : x2 = y2) (e3 : x3 = y3) (e4 : x4 = y4) :
    concatenate S8192x5376 1 [⟨S8192x2048, x0⟩, ⟨S8192x2048, x1⟩, ⟨S8192x1024, x2⟩, ⟨S8192x128, x3⟩, ⟨S8192x128, x4⟩] h =
      concatenate S8192x5376 1 [⟨S8192x2048, y0⟩, ⟨S8192x2048, y1⟩, ⟨S8192x1024, y2⟩, ⟨S8192x128, y3⟩, ⟨S8192x128, y4⟩] h' := by
  subst e0 e1 e2 e3 e4; rfl

/-- The wide array. -/
theorem wide_eq (c : Dev nD) : (V m c main_v6 : Vec F S8192x5376 .f32) =
    concatenate S8192x5376 1 [⟨S8192x2048, iqR m c⟩, ⟨S8192x2048, qR m c⟩, ⟨S8192x1024, kvR m c⟩, ⟨S8192x128, ikR m c⟩, ⟨S8192x128, iwP m c⟩]
      concatenates_S8192x2048_S8192x2048_S8192x1024_S8192x128_S8192x128_S8192x5376_d1 := by
  unfold_abbrev_sides
  simp only [hostOps0, hostOps0_1, hostOps0_2, List.flatten_cons, List.flatten_nil, List.append_nil, List.cons_append, List.nil_append]
  after_results
  refine joined _ _ _ _ _ _ _ _ _ _ _ _ ?_ ?_ ?_ ?_ ?_
  · exact part0 m c
  · exact part1 m c
  · exact part2 m c
  · exact part3 m c
  · exact part4 m c

/-! ## The wide array, part by part -/

theorem wide_iq (c : Dev nD) (r : Fin 8192) (j : Fin 2048) (i : S8192x5376.Idx) (h0 : (i 0).val = r.val) (h1 : (i 1).val = j.val) :
    (V m c main_v6 : Vec F S8192x5376 .f32) i = iqR m c (ix2 r j) := by
  rw [wide_eq]
  refine concatenate_apply_piece 1 _ _ i 0 (by show 0 < 5; decide) _ _ rfl rfl 0 rfl _ ?_ ?_
  · intro b hb
    fin_cases b
    · exact h0.symm
    · exact absurd rfl hb
  · show 0 + j.val = _
    omega

theorem wide_q (c : Dev nD) (r : Fin 8192) (j : Fin 2048) (i : S8192x5376.Idx) (h0 : (i 0).val = r.val) (h1 : (i 1).val = 2048 + j.val) :
    (V m c main_v6 : Vec F S8192x5376 .f32) i = qR m c (ix2 r j) := by
  rw [wide_eq]
  refine concatenate_apply_piece 1 _ _ i 1 (by show 1 < 5; decide) _ _ rfl rfl 2048 rfl _ ?_ ?_
  · intro b hb
    fin_cases b
    · exact h0.symm
    · exact absurd rfl hb
  · exact h1.symm

theorem wide_kv (c : Dev nD) (r : Fin 8192) (j : Fin 1024) (i : S8192x5376.Idx) (h0 : (i 0).val = r.val) (h1 : (i 1).val = 4096 + j.val) :
    (V m c main_v6 : Vec F S8192x5376 .f32) i = kvR m c (ix2 r j) := by
  rw [wide_eq]
  refine concatenate_apply_piece 1 _ _ i 2 (by show 2 < 5; decide) _ _ rfl rfl 4096 rfl _ ?_ ?_
  · intro b hb
    fin_cases b
    · exact h0.symm
    · exact absurd rfl hb
  · exact h1.symm

theorem wide_ik (c : Dev nD) (r : Fin 8192) (j : Fin 128) (i : S8192x5376.Idx) (h0 : (i 0).val = r.val) (h1 : (i 1).val = 5120 + j.val) :
    (V m c main_v6 : Vec F S8192x5376 .f32) i = ikR m c (ix2 r j) := by
  rw [wide_eq]
  refine concatenate_apply_piece 1 _ _ i 3 (by show 3 < 5; decide) _ _ rfl rfl 5120 rfl _ ?_ ?_
  · intro b hb
    fin_cases b
    · exact h0.symm
    · exact absurd rfl hb
  · exact h1.symm

theorem wide_iw (c : Dev nD) (r : Fin 8192) (j : Fin 16) (i : S8192x5376.Idx) (h0 : (i 0).val = r.val) (h1 : (i 1).val = 5248 + j.val) :
    (V m c main_v6 : Vec F S8192x5376 .f32) i = iwR m c (ix2 r j) := by
  have hj := j.isLt
  rw [wide_eq]
  refine (concatenate_apply_piece 1 _ _ i 4 (by show 4 < 5; decide) S8192x128 (iwP m c) rfl rfl 5248 rfl (ix2 r (⟨j.val, by omega⟩ : Fin 128)) ?_ ?_).trans ?_
  · intro b hb
    fin_cases b
    · exact h0.symm
    · exact absurd rfl hb
  · exact h1.symm
  · refine pad_apply_of_inside _ _ _ _ _ _ _ _ _ fun a => ?_
    fin_cases a
    · show r.val = 0 + r.val * (0 + 1); omega
    · show j.val = 0 + j.val * (0 + 1); omega

/-! ## The blocks -/

theorem index0_0 : ∀ t : Fin cfg0.N, (cfg0.win 0).index t 0 = t.val ∧ (cfg0.win 0).index t 1 = 0 := by decide +kernel
theorem index0_1 : ∀ t : Fin cfg0.N, (cfg0.win 1).index t 0 = t.val ∧ (cfg0.win 1).index t 1 = 1 := by decide +kernel
theorem index0_2 : ∀ t : Fin cfg0.N, (cfg0.win 2).index t 0 = t.val ∧ (cfg0.win 2).index t 1 = 41 := by decide +kernel
theorem index0_3 : ∀ t : Fin cfg0.N, (cfg0.win 3).index t 0 = t.val / 16 ∧ (cfg0.win 3).index t 1 = 40 := by decide +kernel
theorem index0_4 : ∀ t : Fin cfg0.N, (cfg0.win 4).index t 0 = t.val / 16 ∧ (cfg0.win 4).index t 1 = 4 := by decide +kernel
theorem index0_5 : ∀ t : Fin cfg0.N, (cfg0.win 5).index t 0 = t.val ∧ (cfg0.win 5).index t 1 = 0 := by decide +kernel

theorem cfg0_N : cfg0.N = 64 := by decide +kernel

theorem iq_block (c : Dev nD) (t : Fin cfg0.N) (r : Fin 128) (j : Fin 2048) :
    (X0_0 m c t : Vec F S128x2048 .f32) (ix2 r j) = iqR m c (ix2 (⟨128 * t.val + r.val, by have := t.isLt; have := cfg0_N; have := r.isLt; omega⟩ : Fin 8192) j) := by
  unfold X0_0 Pipeline.Window.fill
  rw [dif_pos (moved0_0 t (ix2 r j))]
  refine wide_iq m c _ _ _ ?_ ?_
  · refine ((cfg0.win 0).rect_emb_val t _ 0).trans ?_
    rw [(index0_0 t).1]
    show t.val * 128 + r.val = 128 * t.val + r.val
    omega
  · refine ((cfg0.win 0).rect_emb_val t _ 1).trans ?_
    rw [(index0_0 t).2]
    show 0 * 2048 + j.val = j.val
    omega

theorem q_block (c : Dev nD) (t : Fin cfg0.N) (r : Fin 128) (j : Fin 2048) :
    (X0_1 m c t : Vec F S128x2048 .f32) (ix2 r j) = qR m c (ix2 (⟨128 * t.val + r.val, by have := t.isLt; have := cfg0_N; have := r.isLt; omega⟩ : Fin 8192) j) := by
  unfold X0_1 Pipeline.Window.fill
  rw [dif_pos (moved0_1 t (ix2 r j))]
  refine wide_q m c _ _ _ ?_ ?_
  · refine ((cfg0.win 1).rect_emb_val t _ 0).trans ?_
    rw [(index0_1 t).1]
    show t.val * 128 + r.val = 128 * t.val + r.val
    omega
  · refine ((cfg0.win 1).rect_emb_val t _ 1).trans ?_
    rw [(index0_1 t).2]
    show 1 * 2048 + j.val = 2048 + j.val
    omega

theorem kv_block (c : Dev nD) (t : Fin cfg0.N) (r : Fin 2048) (j : Fin 1024) :
    (X0_4 m c t : Vec F S2048x1024 .f32) (ix2 r j) = kvR m c (ix2 (⟨2048 * (t.val / 16) + r.val, by have := t.isLt; have := cfg0_N; have := r.isLt; omega⟩ : Fin 8192) j) := by
  unfold X0_4 Pipeline.Window.fill
  rw [dif_pos (moved0_4 t (ix2 r j))]
  refine wide_kv m c _ _ _ ?_ ?_
  · refine ((cfg0.win 4).rect_emb_val t _ 0).trans ?_
    rw [(index0_4 t).1]
    show t.val / 16 * 2048 + r.val = 2048 * (t.val / 16) + r.val
    omega
  · refine ((cfg0.win 4).rect_emb_val t _ 1).trans ?_
    rw [(index0_4 t).2]
    show 4 * 1024 + j.val = 4096 + j.val
    omega

theorem iw_block (c : Dev nD) (t : Fin cfg0.N) (r : Fin 128) (j : Fin 16) :
    (iblk m c 2 t : Vec F S128x128 .f32) (ix2 r (⟨j.val, by have := j.isLt; omega⟩ : Fin 128))
      = iwR m c (ix2 (⟨128 * t.val + r.val, by have := t.isLt; have := cfg0_N; have := r.isLt; omega⟩ : Fin 8192) j) := by
  refine wide_iw m c _ _ _ ?_ ?_
  · refine ((cfg0.win 2).rect_emb_val t _ 0).trans ?_
    rw [(index0_2 t).1]
    show t.val * 128 + r.val = 128 * t.val + r.val
    omega
  · refine ((cfg0.win 2).rect_emb_val t _ 1).trans ?_
    rw [(index0_2 t).2]
    show 41 * 128 + j.val = 5248 + j.val
    omega

theorem ik_block (c : Dev nD) (t : Fin cfg0.N) (r : Fin 2048) (j : Fin 128) :
    (iblk m c 3 t : Vec F S2048x128 .f32) (ix2 r j) = ikR m c (ix2 (⟨2048 * (t.val / 16) + r.val, by have := t.isLt; have := cfg0_N; have := r.isLt; omega⟩ : Fin 8192) j) := by
  refine wide_ik m c _ _ _ ?_ ?_
  · refine ((cfg0.win 3).rect_emb_val t _ 0).trans ?_
    rw [(index0_3 t).1]
    show t.val / 16 * 2048 + r.val = 2048 * (t.val / 16) + r.val
    omega
  · refine ((cfg0.win 3).rect_emb_val t _ 1).trans ?_
    rw [(index0_3 t).2]
    show 40 * 128 + j.val = 5120 + j.val
    omega

end Cert.Kernel.Att
-- ==== Proof.RLoops.lean ====
/- The reference's whole result: block of rows by block of rows, what the pass over that block's keys writes. -/
module

public import proofs.«01_k».proof.Proof.RSpec
public import Idealize.ShloMosaic.Lib.Pipeline.ValueKit

@[expose] public section

set_option maxRecDepth 65536

noncomputable section

namespace Cert.Att

open Idealize.ShloMosaic

variable {F : FTy → Type} [BitOps F]

/-- Some rows of an array of 8192. -/
theorem rowsInb (w o r : Nat) (h : o + r ≤ 8192) : ∀ a, (![o, 0] : Fin 2 → Nat) a + (![r, w] : Fin 2 → Nat) a ≤ (![8192, w] : Fin 2 → Nat) a := by
  intro a
  fin_cases a
  · exact h
  · show 0 + w ≤ w; omega

def rows {w : Nat} {e : EltTy} (x : Vec F ⟨2, ![8192, w]⟩ e) (o r : Nat) (h : o + r ≤ 8192) : Vec F ⟨2, ![r, w]⟩ e :=
  VecWindow.window x ![o, 0] ![r, w] (rowsInb w o r h)

theorem rows_apply {w : Nat} {e : EltTy} (x : Vec F ⟨2, ![8192, w]⟩ e) (o r : Nat) (h : o + r ≤ 8192) (p : Fin r) (q : Fin w) :
    rows x o r h (ix2 p q) = x (ix2 (⟨o + p.val, by have := p.isLt; omega⟩ : Fin 8192) q) := by
  unfold rows VecWindow.window
  refine congrArg x (funext fun a => Fin.ext ?_)
  rw [ValueKit.rect_emb_unit_val]
  fin_cases a
  · rfl
  · show 0 + q.val = q.val; omega

theorem window_rows {w : Nat} {e : EltTy} (x : Vec F ⟨2, ![8192, w]⟩ e) (off : Fin 2 → Nat) (o r : Nat) (hoff : off = ![o, 0])
    (inb : ∀ a, off a + (![r, w] : Fin 2 → Nat) a ≤ (![8192, w] : Fin 2 → Nat) a) (h : o + r ≤ 8192) :
    VecWindow.window x off ![r, w] inb = rows x o r h := by
  subst hoff; rfl

theorem congrFive {α β γ δ ε ζ ι : Type} (f : ι → α → β → γ → δ → ε → ζ) (i : ι) {a a' : α} {b b' : β} {c c' : γ} {d d' : δ} {e e' : ε}
    (ha : a = a') (hb : b = b') (hc : c = c') (hd : d = d') (he : e = e') : f i a b c d e = f i a' b' c' d' e' := by
  subst ha hb hc hd he; rfl

end Cert.Att

namespace Cert.Reference.Att

open Idealize.ShloMosaic Idealize.ShloMosaic.TcCoe Idealize.ShloMosaic.Tactic
open Cert.Att
open Cert.Reference.Gen

/-- What is written to block `n` of 128 rows: the pass over the keys of its batch, as many as its place in the batch asks for. -/
def valOf (xq : Vec Bits S8192x2048 .f32) (xkv : Vec Bits S8192x1024 .f32) (xi : Vec Bits S8192x2048 .f32) (xk : Vec Bits S8192x128 .f32) (xw : Vec Bits S8192x16 .f32)
    (n : Fin 64) : FVec Bits S128x2048 .bf16 :=
  have hn := n.isLt
  if n.val % 16 / 4 = 0 then
    val0 (BitVec.ofNat 32 (n.val % 16)) (rows xq (128 * n.val) 128 (by omega)) (rows xkv (2048 * (n.val / 16)) 512 (by omega)) (rows xi (128 * n.val) 128 (by omega)) (rows xk (2048 * (n.val / 16)) 512 (by omega)) (rows xw (128 * n.val) 128 (by omega))
  else
  if n.val % 16 / 4 = 1 then
    val1 (BitVec.ofNat 32 (n.val % 16)) (rows xq (128 * n.val) 128 (by omega)) (rows xkv (2048 * (n.val / 16)) 1024 (by omega)) (rows xi (128 * n.val) 128 (by omega)) (rows xk (2048 * (n.val / 16)) 1024 (by omega)) (rows xw (128 * n.val) 128 (by omega))
  else
  if n.val % 16 / 4 = 2 then
    val2 (BitVec.ofNat 32 (n.val % 16)) (rows xq (128 * n.val) 128 (by omega)) (rows xkv (2048 * (n.val / 16)) 1536 (by omega)) (rows xi (128 * n.val) 128 (by omega)) (rows xk (2048 * (n.val / 16)) 1536 (by omega)) (rows xw (128 * n.val) 128 (by omega))
  else
    val3 (BitVec.ofNat 32 (n.val % 16)) (rows xq (128 * n.val) 128 (by omega)) (rows xkv (2048 * (n.val / 16)) 2048 (by omega)) (rows xi (128 * n.val) 128 (by omega)) (rows xk (2048 * (n.val / 16)) 2048 (by omega)) (rows xw (128 * n.val) 128 (by omega))

theorem valOf0 (xq : Vec Bits S8192x2048 .f32) (xkv : Vec Bits S8192x1024 .f32) (xi : Vec Bits S8192x2048 .f32) (xk : Vec Bits S8192x128 .f32) (xw : Vec Bits S8192x16 .f32)
    (n : Fin 64) (h : n.val % 16 / 4 = 0) : valOf xq xkv xi xk xw n =
      val0 (BitVec.ofNat 32 (n.val % 16)) (rows xq (128 * n.val) 128 (by have := n.isLt; omega)) (rows xkv (2048 * (n.val / 16)) 512 (by have := n.isLt; omega)) (rows xi (128 * n.val) 128 (by have := n.isLt; omega)) (rows xk (2048 * (n.val / 16)) 512 (by have := n.isLt; omega)) (rows xw (128 * n.val) 128 (by have := n.isLt; omega)) := by
  unfold valOf
  rw [if_pos h]

theorem valOf1 (xq : Vec Bits S8192x2048 .f32) (xkv : Vec Bits S8192x1024 .f32) (xi : Vec Bits S8192x2048 .f32) (xk : Vec Bits S8192x128 .f32) (xw : Vec Bits S8192x16 .f32)
    (n : Fin 64) (h : n.val % 16 / 4 = 1) : valOf xq xkv xi xk xw n =
      val1 (BitVec.ofNat 32 (n.val % 16)) (rows xq (128 * n.val) 128 (by have := n.isLt; omega)) (rows xkv (2048 * (n.val / 16)) 1024 (by have := n.isLt; omega)) (rows xi (128 * n.val) 128 (by have := n.isLt; omega)) (rows xk (2048 * (n.val / 16)) 1024 (by have := n.isLt; omega)) (rows xw (128 * n.val) 128 (by have := n.isLt; omega)) := by
  unfold valOf
  rw [if_neg (show ¬ n.val % 16 / 4 = 0 by omega), if_pos h]

theorem valOf2 (xq : Vec Bits S8192x2048 .f32) (xkv : Vec Bits S8192x1024 .f32) (xi : Vec Bits S8192x2048 .f32) (xk : Vec Bits S8192x128 .f32) (xw : Vec Bits S8192x16 .f32)
    (n : Fin 64) (h : n.val % 16 / 4 = 2) : valOf xq xkv xi xk xw n =
      val2 (BitVec.ofNat 32 (n.val % 16)) (rows xq (128 * n.val) 128 (by have := n.isLt; omega)) (rows xkv (2048 * (n.val / 16)) 1536 (by have := n.isLt; omega)) (rows xi (128 * n.val) 128 (by have := n.isLt; omega)) (rows xk (2048 * (n.val / 16)) 1536 (by have := n.isLt; omega)) (rows xw (128 * n.val) 128 (by have := n.isLt; omega)) := by
  unfold valOf
  rw [if_neg (show ¬ n.val % 16 / 4 = 0 by omega), if_neg (show ¬ n.val % 16 / 4 = 1 by omega), if_pos h]

theorem valOf3 (xq : Vec Bits S8192x2048 .f32) (xkv : Vec Bits S8192x1024 .f32) (xi : Vec Bits S8192x2048 .f32) (xk : Vec Bits S8192x128 .f32) (xw : Vec Bits S8192x16 .f32)
    (n : Fin 64) (h : n.val % 16 / 4 = 3) : valOf xq xkv xi xk xw n =
      val3 (BitVec.ofNat 32 (n.val % 16)) (rows xq (128 * n.val) 128 (by have := n.isLt; omega)) (rows xkv (2048 * (n.val / 16)) 2048 (by have := n.isLt; omega)) (rows xi (128 * n.val) 128 (by have := n.isLt; omega)) (rows xk (2048 * (n.val / 16)) 2048 (by have := n.isLt; omega)) (rows xw (128 * n.val) 128 (by have := n.isLt; omega)) := by
  unfold valOf
  rw [if_neg (show ¬ n.val % 16 / 4 = 0 by omega), if_neg (show ¬ n.val % 16 / 4 = 1 by omega), if_neg (show ¬ n.val % 16 / 4 = 2 by omega)]

/-- The whole result. -/
def outOf (xq : Vec Bits S8192x2048 .f32) (xkv : Vec Bits S8192x1024 .f32) (xi : Vec Bits S8192x2048 .f32) (xk : Vec Bits S8192x128 .f32) (xw : Vec Bits S8192x16 .f32) :
    Vec Bits S8192x2048 .bf16 := fun y =>
  valOf xq xkv xi xk xw ⟨(y 0).val / 128, by have : (y 0).val < 8192 := (y 0).isLt; omega⟩ (ix2 (⟨(y 0).val % 128, by omega⟩ : Fin 128) (⟨(y 1).val, (y 1).isLt⟩ : Fin 2048))

theorem outOf_apply (xq : Vec Bits S8192x2048 .f32) (xkv : Vec Bits S8192x1024 .f32) (xi : Vec Bits S8192x2048 .f32) (xk : Vec Bits S8192x128 .f32) (xw : Vec Bits S8192x16 .f32)
    (n : Fin 64) (y : S8192x2048.Idx) (x : S128x2048.Idx) (h0 : (y 0).val = 128 * n.val + (x 0).val) (h1 : (y 1).val = (x 1).val) :
    outOf xq xkv xi xk xw y = valOf xq xkv xi xk xw n x := by
  have hx : (x 0).val < 128 := (x 0).isLt
  unfold outOf
  have e : (⟨(y 0).val / 128, by have : (y 0).val < 8192 := (y 0).isLt; omega⟩ : Fin 64) = n := Fin.ext (by show (y 0).val / 128 = n.val; omega)
  rw [e]
  refine congrArg _ (funext fun a => Fin.ext ?_)
  fin_cases a
  · show (y 0).val % 128 = (x 0).val; omega
  · exact h1

/-- A piece that writes block `n`. -/
def IsBlock (xq : Vec Bits S8192x2048 .f32) (xkv : Vec Bits S8192x1024 .f32) (xi : Vec Bits S8192x2048 .f32) (xk : Vec Bits S8192x128 .f32) (xw : Vec Bits S8192x16 .f32)
    (n : Fin 64) (p : View.Piece (Elt Bits) S8192x2048 .bf16) : Prop :=
  ∃ (off : Fin 2 → Nat) (inb : _) , off = ![128 * n.val, 0] ∧ p = ⟨Rect.unit (s := S8192x2048) off S128x2048.size inb, valOf xq xkv xi xk xw n⟩

theorem IsBlock.value {xq : Vec Bits S8192x2048 .f32} {xkv : Vec Bits S8192x1024 .f32} {xi : Vec Bits S8192x2048 .f32} {xk : Vec Bits S8192x128 .f32} {xw : Vec Bits S8192x16 .f32}
    {n : Fin 64} {p : View.Piece (Elt Bits) S8192x2048 .bf16} (h : IsBlock xq xkv xi xk xw n p) (x : p.1.shape.Idx) : p.2 x = outOf xq xkv xi xk xw (p.1.emb x) := by
  obtain ⟨off, inb, rfl, rfl⟩ := h
  refine (outOf_apply xq xkv xi xk xw n _ x ?_ ?_).symm
  · exact ValueKit.rect_emb_unit_val (s := S8192x2048) ![128 * n.val, 0] S128x2048.size inb x 0
  · refine (ValueKit.rect_emb_unit_val (s := S8192x2048) ![128 * n.val, 0] S128x2048.size inb x 1).trans ?_
    show 0 + (x 1).val = (x 1).val
    omega

theorem IsBlock.mem {xq : Vec Bits S8192x2048 .f32} {xkv : Vec Bits S8192x1024 .f32} {xi : Vec Bits S8192x2048 .f32} {xk : Vec Bits S8192x128 .f32} {xw : Vec Bits S8192x16 .f32}
    {n : Fin 64} {p : View.Piece (Elt Bits) S8192x2048 .bf16} (h : IsBlock xq xkv xi xk xw n p) (y : S8192x2048.Idx) (hy : (y 0).val / 128 = n.val) : y ∈ p.1.set := by
  obtain ⟨off, inb, rfl, rfl⟩ := h
  refine (Rect.mem_set_unit (inb := inb)).mpr ?_
  intro a
  fin_cases a
  · show 128 * n.val ≤ (y 0).val ∧ (y 0).val < 128 * n.val + 128
    omega
  · show 0 ≤ (y 1).val ∧ (y 1).val < 0 + 2048
    have : (y 1).val < 2048 := (y 1).isLt
    omega

/-! ## The loop over the blocks with 512 keys -/

section Loop0
variable (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
  (x0 : Vec Bits S8192x2048 .f32) (x1 : Vec Bits S8192x1024 .f32) (x2 : Vec Bits S8192x2048 .f32) (x3 : Vec Bits S8192x128 .f32) (x4 : Vec Bits S8192x16 .f32)

/-- The block of rows trip `k` writes. -/
def blk0 (k : Fin k0_t1_loop.trips) : Fin 64 := ⟨16 * (k.val / 4) + 0 + k.val % 4, by have : k.val < 16 := k.isLt; omega⟩

theorem trip0_block (k : Fin k0_t1_loop.trips) (p : View.Piece (Elt Bits) S8192x2048 .bf16)
    (hp : p ∈ tripL_k0_t1 (F := Bits) 𝒱 c bd arg0 harg0 arg1 harg1 arg2 harg2 arg3 harg3 arg4 harg4 arg5 harg5 (harg0.unread x0) (harg1.unread x1) (harg2.unread x2) (harg3.unread x3) (harg4.unread x4) k) :
    IsBlock x0 x1 x2 x3 x4 (blk0 k) p := by
  have hk : k.val < 16 := k.isLt
  rw [trip0_eq, List.mem_singleton] at hp
  subst hp
  have e0 : 128 * (blk0 k).val = 2048 * (k.val / 4) + 0 + 128 * (k.val % 4) := by
    show 128 * (16 * (k.val / 4) + 0 + k.val % 4) = _; omega
  have e1 : (blk0 k).val / 16 = k.val / 4 := by show (16 * (k.val / 4) + 0 + k.val % 4) / 16 = _; omega
  have e2 : (blk0 k).val % 16 = 0 + k.val % 4 := by show (16 * (k.val / 4) + 0 + k.val % 4) % 16 = _; omega
  have ew : trip_k0_t1.sl.v33 k = BitVec.ofNat 32 ((blk0 k).val % 16) := by rw [word0_eq, e2]
  refine ⟨k0_off1 k, k0_off1_inb k, (off0_rows k).trans (by rw [e0]), ?_⟩
  refine congrArg (fun v => (⟨Rect.unit (s := S8192x2048) (k0_off1 k) S128x2048.size (k0_off1_inb k), v⟩ : View.Piece (Elt Bits) S8192x2048 .bf16)) ?_
  rw [valOf0 _ _ _ _ _ _ (by rw [e2]; omega), harg0.read_unread, harg1.read_unread, harg2.read_unread, harg3.read_unread, harg4.read_unread, ew]
  have hq : k0_off1 k = ![128 * (blk0 k).val, 0] := by rw [off0_rows k, e0]
  have hw : k0_off2 k = ![128 * (blk0 k).val, 0] := by rw [off0_wrows k, e0]
  have hi : k0_off3 k = ![2048 * ((blk0 k).val / 16), 0] := by rw [off0_ikeys k, e1]
  have hv : k0_off4 k = ![2048 * ((blk0 k).val / 16), 0] := by rw [off0_keys k, e1]
  have hb := (blk0 k).isLt
  exact congrFive val0 _ (window_rows x0 _ _ 128 hq _ (by omega)) (window_rows x1 _ _ 512 hv _ (by omega)) (window_rows x2 _ _ 128 hq _ (by omega))
    (window_rows x3 _ _ 512 hi _ (by omega)) (window_rows x4 _ _ 128 hw _ (by omega))

theorem loop0_blocks : ∀ n : Nat, n ≤ k0_t1_loop.trips → ∀ p ∈ pb_k0_t1 (F := Bits) 𝒱 c bd arg0 harg0 arg1 harg1 arg2 harg2 arg3 harg3 arg4 harg4 arg5 harg5 (harg0.unread x0) (harg1.unread x1) (harg2.unread x2) (harg3.unread x3) (harg4.unread x4) n, ∃ k, IsBlock x0 x1 x2 x3 x4 k p
  | 0, _, p, hp => by rw [pb_k0_t1] at hp; exact absurd hp List.not_mem_nil
  | n + 1, hn, p, hp => by
    have e := pb_k0_t1_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e] at hp
    rcases List.mem_append.mp hp with h | h
    · exact ⟨_, trip0_block 𝒱 c bd arg0 harg0 arg1 harg1 arg2 harg2 arg3 harg3 arg4 harg4 arg5 harg5 x0 x1 x2 x3 x4 ⟨n, hn⟩ p h⟩
    · exact loop0_blocks n (Nat.le_of_succ_le hn) p h

theorem loop0_has (k : Fin k0_t1_loop.trips) : ∀ n : Nat, n ≤ k0_t1_loop.trips → k.val < n →
    ∃ p ∈ pb_k0_t1 (F := Bits) 𝒱 c bd arg0 harg0 arg1 harg1 arg2 harg2 arg3 harg3 arg4 harg4 arg5 harg5 (harg0.unread x0) (harg1.unread x1) (harg2.unread x2) (harg3.unread x3) (harg4.unread x4) n, IsBlock x0 x1 x2 x3 x4 (blk0 k) p
  | 0, _, h => absurd h (Nat.not_lt_zero _)
  | n + 1, hn, h => by
    have e := pb_k0_t1_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e]
    by_cases hk : k.val < n
    · obtain ⟨p, hp, hb⟩ := loop0_has k n (Nat.le_of_succ_le hn) hk
      exact ⟨p, List.mem_append_right _ hp, hb⟩
    · have ek : k = ⟨n, hn⟩ := Fin.ext (by show k.val = n; omega)
      subst ek
      rw [trip0_eq]
      refine ⟨_, List.mem_append_left _ (List.mem_singleton.mpr rfl), ?_⟩
      exact trip0_block 𝒱 c bd arg0 harg0 arg1 harg1 arg2 harg2 arg3 harg3 arg4 harg4 arg5 harg5 x0 x1 x2 x3 x4 _ _ (by rw [trip0_eq]; exact List.mem_singleton.mpr rfl)

end Loop0

/-! ## The loop over the blocks with 1024 keys -/

section Loop1
variable (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
  (x0 : Vec Bits S8192x2048 .f32) (x1 : Vec Bits S8192x1024 .f32) (x2 : Vec Bits S8192x2048 .f32) (x3 : Vec Bits S8192x128 .f32) (x4 : Vec Bits S8192x16 .f32)

/-- The block of rows trip `k` writes. -/
def blk1 (k : Fin k0_t2_loop.trips) : Fin 64 := ⟨16 * (k.val / 4) + 4 + k.val % 4, by have : k.val < 16 := k.isLt; omega⟩

theorem trip1_block (k : Fin k0_t2_loop.trips) (p : View.Piece (Elt Bits) S8192x2048 .bf16)
    (hp : p ∈ tripL_k0_t2 (F := Bits) 𝒱 c bd arg0 harg0 arg1 harg1 arg2 harg2 arg3 harg3 arg4 harg4 arg5 harg5 (harg0.unread x0) (harg1.unread x1) (harg2.unread x2) (harg3.unread x3) (harg4.unread x4) k) :
    IsBlock x0 x1 x2 x3 x4 (blk1 k) p := by
  have hk : k.val < 16 := k.isLt
  rw [trip1_eq, List.mem_singleton] at hp
  subst hp
  have e0 : 128 * (blk1 k).val = 2048 * (k.val / 4) + 512 + 128 * (k.val % 4) := by
    show 128 * (16 * (k.val / 4) + 4 + k.val % 4) = _; omega
  have e1 : (blk1 k).val / 16 = k.val / 4 := by show (16 * (k.val / 4) + 4 + k.val % 4) / 16 = _; omega
  have e2 : (blk1 k).val % 16 = 4 + k.val % 4 := by show (16 * (k.val / 4) + 4 + k.val % 4) % 16 = _; omega
  have ew : trip_k0_t2.sl.v33 k = BitVec.ofNat 32 ((blk1 k).val % 16) := by rw [word1_eq, e2]
  refine ⟨k0_off5 k, k0_off5_inb k, (off1_rows k).trans (by rw [e0]), ?_⟩
  refine congrArg (fun v => (⟨Rect.unit (s := S8192x2048) (k0_off5 k) S128x2048.size (k0_off5_inb k), v⟩ : View.Piece (Elt Bits) S8192x2048 .bf16)) ?_
  rw [valOf1 _ _ _ _ _ _ (by rw [e2]; omega), harg0.read_unread, harg1.read_unread, harg2.read_unread, harg3.read_unread, harg4.read_unread, ew]
  have hq : k0_off5 k = ![128 * (blk1 k).val, 0] := by rw [off1_rows k, e0]
  have hw : k0_off6 k = ![128 * (blk1 k).val, 0] := by rw [off1_wrows k, e0]
  have hi : k0_off7 k = ![2048 * ((blk1 k).val / 16), 0] := by rw [off1_ikeys k, e1]
  have hv : k0_off8 k = ![2048 * ((blk1 k).val / 16), 0] := by rw [off1_keys k, e1]
  have hb := (blk1 k).isLt
  exact congrFive val1 _ (window_rows x0 _ _ 128 hq _ (by omega)) (window_rows x1 _ _ 1024 hv _ (by omega)) (window_rows x2 _ _ 128 hq _ (by omega))
    (window_rows x3 _ _ 1024 hi _ (by omega)) (window_rows x4 _ _ 128 hw _ (by omega))

theorem loop1_blocks : ∀ n : Nat, n ≤ k0_t2_loop.trips → ∀ p ∈ pb_k0_t2 (F := Bits) 𝒱 c bd arg0 harg0 arg1 harg1 arg2 harg2 arg3 harg3 arg4 harg4 arg5 harg5 (harg0.unread x0) (harg1.unread x1) (harg2.unread x2) (harg3.unread x3) (harg4.unread x4) n, ∃ k, IsBlock x0 x1 x2 x3 x4 k p
  | 0, _, p, hp => by rw [pb_k0_t2] at hp; exact absurd hp List.not_mem_nil
  | n + 1, hn, p, hp => by
    have e := pb_k0_t2_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e] at hp
    rcases List.mem_append.mp hp with h | h
    · exact ⟨_, trip1_block 𝒱 c bd arg0 harg0 arg1 harg1 arg2 harg2 arg3 harg3 arg4 harg4 arg5 harg5 x0 x1 x2 x3 x4 ⟨n, hn⟩ p h⟩
    · exact loop1_blocks n (Nat.le_of_succ_le hn) p h

theorem loop1_has (k : Fin k0_t2_loop.trips) : ∀ n : Nat, n ≤ k0_t2_loop.trips → k.val < n →
    ∃ p ∈ pb_k0_t2 (F := Bits) 𝒱 c bd arg0 harg0 arg1 harg1 arg2 harg2 arg3 harg3 arg4 harg4 arg5 harg5 (harg0.unread x0) (harg1.unread x1) (harg2.unread x2) (harg3.unread x3) (harg4.unread x4) n, IsBlock x0 x1 x2 x3 x4 (blk1 k) p
  | 0, _, h => absurd h (Nat.not_lt_zero _)
  | n + 1, hn, h => by
    have e := pb_k0_t2_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e]
    by_cases hk : k.val < n
    · obtain ⟨p, hp, hb⟩ := loop1_has k n (Nat.le_of_succ_le hn) hk
      exact ⟨p, List.mem_append_right _ hp, hb⟩
    · have ek : k = ⟨n, hn⟩ := Fin.ext (by show k.val = n; omega)
      subst ek
      rw [trip1_eq]
      refine ⟨_, List.mem_append_left _ (List.mem_singleton.mpr rfl), ?_⟩
      exact trip1_block 𝒱 c bd arg0 harg0 arg1 harg1 arg2 harg2 arg3 harg3 arg4 harg4 arg5 harg5 x0 x1 x2 x3 x4 _ _ (by rw [trip1_eq]; exact List.mem_singleton.mpr rfl)

end Loop1

/-! ## The loop over the blocks with 1536 keys -/

section Loop2
variable (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
  (x0 : Vec Bits S8192x2048 .f32) (x1 : Vec Bits S8192x1024 .f32) (x2 : Vec Bits S8192x2048 .f32) (x3 : Vec Bits S8192x128 .f32) (x4 : Vec Bits S8192x16 .f32)

/-- The block of rows trip `k` writes. -/
def blk2 (k : Fin k0_t3_loop.trips) : Fin 64 := ⟨16 * (k.val / 4) + 8 + k.val % 4, by have : k.val < 16 := k.isLt; omega⟩

theorem trip2_block (k : Fin k0_t3_loop.trips) (p : View.Piece (Elt Bits) S8192x2048 .bf16)
    (hp : p ∈ tripL_k0_t3 (F := Bits) 𝒱 c bd arg0 harg0 arg1 harg1 arg2 harg2 arg3 harg3 arg4 harg4 arg5 harg5 (harg0.unread x0) (harg1.unread x1) (harg2.unread x2) (harg3.unread x3) (harg4.unread x4) k) :
    IsBlock x0 x1 x2 x3 x4 (blk2 k) p := by
  have hk : k.val < 16 := k.isLt
  rw [trip2_eq, List.mem_singleton] at hp
  subst hp
  have e0 : 128 * (blk2 k).val = 2048 * (k.val / 4) + 1024 + 128 * (k.val % 4) := by
    show 128 * (16 * (k.val / 4) + 8 + k.val % 4) = _; omega
  have e1 : (blk2 k).val / 16 = k.val / 4 := by show (16 * (k.val / 4) + 8 + k.val % 4) / 16 = _; omega
  have e2 : (blk2 k).val % 16 = 8 + k.val % 4 := by show (16 * (k.val / 4) + 8 + k.val % 4) % 16 = _; omega
  have ew : trip_k0_t3.sl.v33 k = BitVec.ofNat 32 ((blk2 k).val % 16) := by rw [word2_eq, e2]
  refine ⟨k0_off9 k, k0_off9_inb k, (off2_rows k).trans (by rw [e0]), ?_⟩
  refine congrArg (fun v => (⟨Rect.unit (s := S8192x2048) (k0_off9 k) S128x2048.size (k0_off9_inb k), v⟩ : View.Piece (Elt Bits) S8192x2048 .bf16)) ?_
  rw [valOf2 _ _ _ _ _ _ (by rw [e2]; omega), harg0.read_unread, harg1.read_unread, harg2.read_unread, harg3.read_unread, harg4.read_unread, ew]
  have hq : k0_off9 k = ![128 * (blk2 k).val, 0] := by rw [off2_rows k, e0]
  have hw : k0_off10 k = ![128 * (blk2 k).val, 0] := by rw [off2_wrows k, e0]
  have hi : k0_off11 k = ![2048 * ((blk2 k).val / 16), 0] := by rw [off2_ikeys k, e1]
  have hv : k0_off12 k = ![2048 * ((blk2 k).val / 16), 0] := by rw [off2_keys k, e1]
  have hb := (blk2 k).isLt
  exact congrFive val2 _ (window_rows x0 _ _ 128 hq _ (by omega)) (window_rows x1 _ _ 1536 hv _ (by omega)) (window_rows x2 _ _ 128 hq _ (by omega))
    (window_rows x3 _ _ 1536 hi _ (by omega)) (window_rows x4 _ _ 128 hw _ (by omega))

theorem loop2_blocks : ∀ n : Nat, n ≤ k0_t3_loop.trips → ∀ p ∈ pb_k0_t3 (F := Bits) 𝒱 c bd arg0 harg0 arg1 harg1 arg2 harg2 arg3 harg3 arg4 harg4 arg5 harg5 (harg0.unread x0) (harg1.unread x1) (harg2.unread x2) (harg3.unread x3) (harg4.unread x4) n, ∃ k, IsBlock x0 x1 x2 x3 x4 k p
  | 0, _, p, hp => by rw [pb_k0_t3] at hp; exact absurd hp List.not_mem_nil
  | n + 1, hn, p, hp => by
    have e := pb_k0_t3_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e] at hp
    rcases List.mem_append.mp hp with h | h
    · exact ⟨_, trip2_block 𝒱 c bd arg0 harg0 arg1 harg1 arg2 harg2 arg3 harg3 arg4 harg4 arg5 harg5 x0 x1 x2 x3 x4 ⟨n, hn⟩ p h⟩
    · exact loop2_blocks n (Nat.le_of_succ_le hn) p h

theorem loop2_has (k : Fin k0_t3_loop.trips) : ∀ n : Nat, n ≤ k0_t3_loop.trips → k.val < n →
    ∃ p ∈ pb_k0_t3 (F := Bits) 𝒱 c bd arg0 harg0 arg1 harg1 arg2 harg2 arg3 harg3 arg4 harg4 arg5 harg5 (harg0.unread x0) (harg1.unread x1) (harg2.unread x2) (harg3.unread x3) (harg4.unread x4) n, IsBlock x0 x1 x2 x3 x4 (blk2 k) p
  | 0, _, h => absurd h (Nat.not_lt_zero _)
  | n + 1, hn, h => by
    have e := pb_k0_t3_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e]
    by_cases hk : k.val < n
    · obtain ⟨p, hp, hb⟩ := loop2_has k n (Nat.le_of_succ_le hn) hk
      exact ⟨p, List.mem_append_right _ hp, hb⟩
    · have ek : k = ⟨n, hn⟩ := Fin.ext (by show k.val = n; omega)
      subst ek
      rw [trip2_eq]
      refine ⟨_, List.mem_append_left _ (List.mem_singleton.mpr rfl), ?_⟩
      exact trip2_block 𝒱 c bd arg0 harg0 arg1 harg1 arg2 harg2 arg3 harg3 arg4 harg4 arg5 harg5 x0 x1 x2 x3 x4 _ _ (by rw [trip2_eq]; exact List.mem_singleton.mpr rfl)

end Loop2

/-! ## The loop over the blocks with 2048 keys -/

section Loop3
variable (𝒱 : Variants) (c : Dev nD) (bd : Option 𝒱.V) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
  (x0 : Vec Bits S8192x2048 .f32) (x1 : Vec Bits S8192x1024 .f32) (x2 : Vec Bits S8192x2048 .f32) (x3 : Vec Bits S8192x128 .f32) (x4 : Vec Bits S8192x16 .f32)

/-- The block of rows trip `k` writes. -/
def blk3 (k : Fin k0_t4_loop.trips) : Fin 64 := ⟨16 * (k.val / 4) + 12 + k.val % 4, by have : k.val < 16 := k.isLt; omega⟩

theorem trip3_block (k : Fin k0_t4_loop.trips) (p : View.Piece (Elt Bits) S8192x2048 .bf16)
    (hp : p ∈ tripL_k0_t4 (F := Bits) 𝒱 c bd arg0 harg0 arg1 harg1 arg2 harg2 arg3 harg3 arg4 harg4 arg5 harg5 (harg0.unread x0) (harg1.unread x1) (harg2.unread x2) (harg3.unread x3) (harg4.unread x4) k) :
    IsBlock x0 x1 x2 x3 x4 (blk3 k) p := by
  have hk : k.val < 16 := k.isLt
  rw [trip3_eq, List.mem_singleton] at hp
  subst hp
  have e0 : 128 * (blk3 k).val = 2048 * (k.val / 4) + 1536 + 128 * (k.val % 4) := by
    show 128 * (16 * (k.val / 4) + 12 + k.val % 4) = _; omega
  have e1 : (blk3 k).val / 16 = k.val / 4 := by show (16 * (k.val / 4) + 12 + k.val % 4) / 16 = _; omega
  have e2 : (blk3 k).val % 16 = 12 + k.val % 4 := by show (16 * (k.val / 4) + 12 + k.val % 4) % 16 = _; omega
  have ew : trip_k0_t4.sl.v33 k = BitVec.ofNat 32 ((blk3 k).val % 16) := by rw [word3_eq, e2]
  refine ⟨k0_off13 k, k0_off13_inb k, (off3_rows k).trans (by rw [e0]), ?_⟩
  refine congrArg (fun v => (⟨Rect.unit (s := S8192x2048) (k0_off13 k) S128x2048.size (k0_off13_inb k), v⟩ : View.Piece (Elt Bits) S8192x2048 .bf16)) ?_
  rw [valOf3 _ _ _ _ _ _ (by rw [e2]; omega), harg0.read_unread, harg1.read_unread, harg2.read_unread, harg3.read_unread, harg4.read_unread, ew]
  have hq : k0_off13 k = ![128 * (blk3 k).val, 0] := by rw [off3_rows k, e0]
  have hw : k0_off14 k = ![128 * (blk3 k).val, 0] := by rw [off3_wrows k, e0]
  have hi : k0_off15 k = ![2048 * ((blk3 k).val / 16), 0] := by rw [off3_ikeys k, e1]
  have hv : k0_off16 k = ![2048 * ((blk3 k).val / 16), 0] := by rw [off3_keys k, e1]
  have hb := (blk3 k).isLt
  exact congrFive val3 _ (window_rows x0 _ _ 128 hq _ (by omega)) (window_rows x1 _ _ 2048 hv _ (by omega)) (window_rows x2 _ _ 128 hq _ (by omega))
    (window_rows x3 _ _ 2048 hi _ (by omega)) (window_rows x4 _ _ 128 hw _ (by omega))

theorem loop3_blocks : ∀ n : Nat, n ≤ k0_t4_loop.trips → ∀ p ∈ pb_k0_t4 (F := Bits) 𝒱 c bd arg0 harg0 arg1 harg1 arg2 harg2 arg3 harg3 arg4 harg4 arg5 harg5 (harg0.unread x0) (harg1.unread x1) (harg2.unread x2) (harg3.unread x3) (harg4.unread x4) n, ∃ k, IsBlock x0 x1 x2 x3 x4 k p
  | 0, _, p, hp => by rw [pb_k0_t4] at hp; exact absurd hp List.not_mem_nil
  | n + 1, hn, p, hp => by
    have e := pb_k0_t4_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e] at hp
    rcases List.mem_append.mp hp with h | h
    · exact ⟨_, trip3_block 𝒱 c bd arg0 harg0 arg1 harg1 arg2 harg2 arg3 harg3 arg4 harg4 arg5 harg5 x0 x1 x2 x3 x4 ⟨n, hn⟩ p h⟩
    · exact loop3_blocks n (Nat.le_of_succ_le hn) p h

theorem loop3_has (k : Fin k0_t4_loop.trips) : ∀ n : Nat, n ≤ k0_t4_loop.trips → k.val < n →
    ∃ p ∈ pb_k0_t4 (F := Bits) 𝒱 c bd arg0 harg0 arg1 harg1 arg2 harg2 arg3 harg3 arg4 harg4 arg5 harg5 (harg0.unread x0) (harg1.unread x1) (harg2.unread x2) (harg3.unread x3) (harg4.unread x4) n, IsBlock x0 x1 x2 x3 x4 (blk3 k) p
  | 0, _, h => absurd h (Nat.not_lt_zero _)
  | n + 1, hn, h => by
    have e := pb_k0_t4_succ (F := Bits) 𝒱 c bd arg0 harg0 arg1 harg1 arg2 harg2 arg3 harg3 arg4 harg4 arg5 harg5 (harg0.unread x0) (harg1.unread x1) (harg2.unread x2) (harg3.unread x3) (harg4.unread x4) ⟨n, hn⟩
    rw [e]
    by_cases hk : k.val < n
    · obtain ⟨p, hp, hb⟩ := loop3_has k n (Nat.le_of_succ_le hn) hk
      exact ⟨p, List.mem_append_right _ hp, hb⟩
    · have ek : k = ⟨n, hn⟩ := Fin.ext (by show k.val = n; omega)
      subst ek
      rw [trip3_eq]
      refine ⟨_, List.mem_append_left _ (List.mem_singleton.mpr rfl), ?_⟩
      exact trip3_block 𝒱 c bd arg0 harg0 arg1 harg1 arg2 harg2 arg3 harg3 arg4 harg4 arg5 harg5 x0 x1 x2 x3 x4 _ _ (by rw [trip3_eq]; exact List.mem_singleton.mpr rfl)

end Loop3

/-! ## The whole run -/

section Run
variable (c : Dev nD) (arg0 : Memref sig .tc .vmem S8192x2048 .f32) (harg0 : arg0.IsWhole) (arg1 : Memref sig .tc .vmem S8192x1024 .f32) (harg1 : arg1.IsWhole) (arg2 : Memref sig .tc .vmem S8192x2048 .f32) (harg2 : arg2.IsWhole) (arg3 : Memref sig .tc .vmem S8192x128 .f32) (harg3 : arg3.IsWhole) (arg4 : Memref sig .tc .vmem S8192x16 .f32) (harg4 : arg4.IsWhole) (arg5 : Memref sig .tc .vmem S8192x2048 .bf16) (harg5 : arg5.IsWhole)
  (x0 : Vec Bits S8192x2048 .f32) (x1 : Vec Bits S8192x1024 .f32) (x2 : Vec Bits S8192x2048 .f32) (x3 : Vec Bits S8192x128 .f32) (x4 : Vec Bits S8192x16 .f32)

/-- The writes of the four loops, the last first. -/
def loops : List (View.Piece (Elt Bits) S8192x2048 .bf16) :=
  pb_k0_t4 (F := Bits) Variants.none c none arg0 harg0 arg1 harg1 arg2 harg2 arg3 harg3 arg4 harg4 arg5 harg5 (harg0.unread x0) (harg1.unread x1) (harg2.unread x2) (harg3.unread x3) (harg4.unread x4) k0_t4_loop.trips
  ++ (pb_k0_t3 (F := Bits) Variants.none c none arg0 harg0 arg1 harg1 arg2 harg2 arg3 harg3 arg4 harg4 arg5 harg5 (harg0.unread x0) (harg1.unread x1) (harg2.unread x2) (harg3.unread x3) (harg4.unread x4) k0_t3_loop.trips
  ++ (pb_k0_t2 (F := Bits) Variants.none c none arg0 harg0 arg1 harg1 arg2 harg2 arg3 harg3 arg4 harg4 arg5 harg5 (harg0.unread x0) (harg1.unread x1) (harg2.unread x2) (harg3.unread x3) (harg4.unread x4) k0_t2_loop.trips
  ++ pb_k0_t1 (F := Bits) Variants.none c none arg0 harg0 arg1 harg1 arg2 harg2 arg3 harg3 arg4 harg4 arg5 harg5 (harg0.unread x0) (harg1.unread x1) (harg2.unread x2) (harg3.unread x3) (harg4.unread x4) k0_t1_loop.trips))

theorem run_loops : ∃ Z, (kernelRun0_A (F := Bits) c arg0 harg0 arg1 harg1 arg2 harg2 arg3 harg3 arg4 harg4 arg5 harg5 x0 x1 x2 x3 x4).1
    = loops c arg0 harg0 arg1 harg1 arg2 harg2 arg3 harg3 arg4 harg4 arg5 harg5 x0 x1 x2 x3 x4 ++ Z := by
  unfold loops
  simp only [List.append_assoc]
  exact ⟨_, rfl⟩

theorem loops_blocks (p : View.Piece (Elt Bits) S8192x2048 .bf16)
    (hp : p ∈ loops c arg0 harg0 arg1 harg1 arg2 harg2 arg3 harg3 arg4 harg4 arg5 harg5 x0 x1 x2 x3 x4) : ∃ k, IsBlock x0 x1 x2 x3 x4 k p := by
  unfold loops at hp
  rcases List.mem_append.mp hp with h | hp
  · exact loop3_blocks _ _ _ _ _ _ _ _ _ _ _ _ _ _ _ x0 x1 x2 x3 x4 _ le_rfl p h
  rcases List.mem_append.mp hp with h | hp
  · exact loop2_blocks _ _ _ _ _ _ _ _ _ _ _ _ _ _ _ x0 x1 x2 x3 x4 _ le_rfl p h
  rcases List.mem_append.mp hp with h | h
  · exact loop1_blocks _ _ _ _ _ _ _ _ _ _ _ _ _ _ _ x0 x1 x2 x3 x4 _ le_rfl p h
  · exact loop0_blocks _ _ _ _ _ _ _ _ _ _ _ _ _ _ _ x0 x1 x2 x3 x4 _ le_rfl p h

theorem loops_has (n : Fin 64) : ∃ p ∈ loops c arg0 harg0 arg1 harg1 arg2 harg2 arg3 harg3 arg4 harg4 arg5 harg5 x0 x1 x2 x3 x4, IsBlock x0 x1 x2 x3 x4 n p := by
  have hn := n.isLt
  have hk : 4 * (n.val / 16) + n.val % 4 < 16 := by omega
  unfold loops
  rcases (show n.val % 16 / 4 = 0 ∨ n.val % 16 / 4 = 1 ∨ n.val % 16 / 4 = 2 ∨ n.val % 16 / 4 = 3 by omega) with h | h | h | h
  · obtain ⟨p, hp, hb⟩ := loop0_has Variants.none c none arg0 harg0 arg1 harg1 arg2 harg2 arg3 harg3 arg4 harg4 arg5 harg5 x0 x1 x2 x3 x4 (⟨4 * (n.val / 16) + n.val % 4, hk⟩ : Fin k0_t1_loop.trips) _ le_rfl hk
    have e : blk0 (⟨4 * (n.val / 16) + n.val % 4, hk⟩ : Fin k0_t1_loop.trips) = n :=
      Fin.ext (by show 16 * ((4 * (n.val / 16) + n.val % 4) / 4) + 0 + (4 * (n.val / 16) + n.val % 4) % 4 = n.val; omega)
    exact ⟨p, List.mem_append_right _ (List.mem_append_right _ (List.mem_append_right _ hp)), e ▸ hb⟩
  · obtain ⟨p, hp, hb⟩ := loop1_has Variants.none c none arg0 harg0 arg1 harg1 arg2 harg2 arg3 harg3 arg4 harg4 arg5 harg5 x0 x1 x2 x3 x4 (⟨4 * (n.val / 16) + n.val % 4, hk⟩ : Fin k0_t2_loop.trips) _ le_rfl hk
    have e : blk1 (⟨4 * (n.val / 16) + n.val % 4, hk⟩ : Fin k0_t2_loop.trips) = n :=
      Fin.ext (by show 16 * ((4 * (n.val / 16) + n.val % 4) / 4) + 4 + (4 * (n.val / 16) + n.val % 4) % 4 = n.val; omega)
    exact ⟨p, List.mem_append_right _ (List.mem_append_right _ (List.mem_append_left _ hp)), e ▸ hb⟩
  · obtain ⟨p, hp, hb⟩ := loop2_has Variants.none c none arg0 harg0 arg1 harg1 arg2 harg2 arg3 harg3 arg4 harg4 arg5 harg5 x0 x1 x2 x3 x4 (⟨4 * (n.val / 16) + n.val % 4, hk⟩ : Fin k0_t3_loop.trips) _ le_rfl hk
    have e : blk2 (⟨4 * (n.val / 16) + n.val % 4, hk⟩ : Fin k0_t3_loop.trips) = n :=
      Fin.ext (by show 16 * ((4 * (n.val / 16) + n.val % 4) / 4) + 8 + (4 * (n.val / 16) + n.val % 4) % 4 = n.val; omega)
    exact ⟨p, List.mem_append_right _ (List.mem_append_left _ hp), e ▸ hb⟩
  · obtain ⟨p, hp, hb⟩ := loop3_has Variants.none c none arg0 harg0 arg1 harg1 arg2 harg2 arg3 harg3 arg4 harg4 arg5 harg5 x0 x1 x2 x3 x4 (⟨4 * (n.val / 16) + n.val % 4, hk⟩ : Fin k0_t4_loop.trips) _ le_rfl hk
    have e : blk3 (⟨4 * (n.val / 16) + n.val % 4, hk⟩ : Fin k0_t4_loop.trips) = n :=
      Fin.ext (by show 16 * ((4 * (n.val / 16) + n.val % 4) / 4) + 12 + (4 * (n.val / 16) + n.val % 4) % 4 = n.val; omega)
    exact ⟨p, List.mem_append_left _ hp, e ▸ hb⟩

/-- What the run leaves: the whole result. -/
theorem run_out : out0_A_5 (F := Bits) c arg0 harg0 arg1 harg1 arg2 harg2 arg3 harg3 arg4 harg4 arg5 harg5 x0 x1 x2 x3 x4 = outOf x0 x1 x2 x3 x4 := by
  unfold out0_A_5
  obtain ⟨Z, hZ⟩ := run_loops c arg0 harg0 arg1 harg1 arg2 harg2 arg3 harg3 arg4 harg4 arg5 harg5 x0 x1 x2 x3 x4
  rw [hZ, View.writes_append]
  funext y
  refine View.read_writes_apply_of_pieces _ _ (outOf x0 x1 x2 x3 x4) _ (fun p hp x => ?_) y ?_
  · obtain ⟨k, hk⟩ := loops_blocks c arg0 harg0 arg1 harg1 arg2 harg2 arg3 harg3 arg4 harg4 arg5 harg5 x0 x1 x2 x3 x4 p hp
    exact hk.value x
  · have hy : (y 0).val < 8192 := (y 0).isLt
    obtain ⟨p, hp, hb⟩ := loops_has c arg0 harg0 arg1 harg1 arg2 harg2 arg3 harg3 arg4 harg4 arg5 harg5 x0 x1 x2 x3 x4 ⟨(y 0).val / 128, by omega⟩
    exact ⟨p, hp, hb.mem y rfl⟩

end Run

end Cert.Reference.Att
-- ==== Proof.Rows.lean ====
/- At every point of the grid the kernel's block is the reference's: both read the same rows of the arguments. -/
module

public import proofs.«01_k».proof.Proof.Meet
public import proofs.«01_k».proof.Proof.KHost
public import proofs.«01_k».proof.Proof.RLoops

@[expose] public section

set_option maxRecDepth 65536

noncomputable section

namespace Cert.Meet

open Idealize.ShloMosaic Idealize.ShloMosaic.TcCoe Idealize.ShloMosaic.Tactic
open Cert.Att

/-! ## The same reads, spelt two ways -/

theorem head_eq (x : Vec Bits Cert.Kernel.S128x2048 .f32) : Cert.Kernel.Att.qw x = Cert.Reference.Att.rq x := by
  funext h y
  have hh := h.isLt
  have hy : (y 1).val < 128 := (y 1).isLt
  unfold Cert.Kernel.Att.qw Cert.Reference.Att.rq
  rw [shapeCast_self (s := Cert.Reference.S128x2048)]
  refine (congrFun (shapeCast_self (s := Sq) _ _) y).trans ?_
  refine Eq.trans ?_ (extractStridedSlice_apply _ _ _ _ (ix2 (⟨(y 0).val, (y 0).isLt⟩ : Fin 128) (⟨128 * h.val + (y 1).val, by omega⟩ : Fin 2048)) ?_).symm
  · unfold VecWindow.window
    refine congrArg x (funext fun a => Fin.ext ?_)
    refine (ValueKit.rect_emb_unit_val (s := Cert.Kernel.S128x2048) ![0, 128 * h.val] Sq.size (Cert.Kernel.Att.colInb 128 _ 2048 (by omega)) y a).trans ?_
    fin_cases a
    · show 0 + (y 0).val = (y 0).val; omega
    · rfl
  · intro a
    fin_cases a
    · show (y 0).val = 0 + (y 0).val; omega
    · rfl

theorem ihead_eq (x : Vec Bits Cert.Kernel.S128x2048 .f32) : Cert.Kernel.Att.qi x = Cert.Reference.Att.ri x := by
  funext h y
  have hh := h.isLt
  have hy : (y 1).val < 128 := (y 1).isLt
  have e := congrFun (congrFun (head_eq x) h) y
  unfold Cert.Kernel.Att.qi
  refine (congrArg (FloatOps.truncf (F := Bits) .bf16 Cert.Kernel.Gen.bitsLt_bf16_f32) e).trans ?_
  unfold Cert.Reference.Att.rq Cert.Reference.Att.ri
  refine Eq.trans (congrArg _ (extractStridedSlice_apply _ _ _ _ (ix2 (⟨(y 0).val, (y 0).isLt⟩ : Fin 128) (⟨128 * h.val + (y 1).val, by omega⟩ : Fin 2048)) ?_)) ?_
  · intro a
    fin_cases a
    · show (y 0).val = 0 + (y 0).val; omega
    · rfl
  refine Eq.trans ?_ (extractStridedSlice_apply _ _ _ _ (ix2 (⟨(y 0).val, (y 0).isLt⟩ : Fin 128) (⟨128 * h.val + (y 1).val, by omega⟩ : Fin 2048)) ?_).symm
  · rfl
  intro a
  fin_cases a
  · show (y 0).val = 0 + (y 0).val; omega
  · rfl

theorem weight_eq (x : Vec Bits Cert.Kernel.S128x128 .f32) (w : Vec Bits Cert.Reference.S128x16 .f32)
    (hx : ∀ (r : Fin 128) (j : Fin 16), x (ix2 r (⟨j.val, by have := j.isLt; omega⟩ : Fin 128)) = w (ix2 r j)) : Cert.Kernel.Att.wi x = Cert.Reference.Att.rwt w := by
  funext h y
  have hh := h.isLt
  have hy : (y 1).val < 1 := (y 1).isLt
  unfold Cert.Kernel.Att.wi Cert.Reference.Att.rwt
  rw [shapeCast_self (s := Cert.Reference.S128x16)]
  refine (extractStridedSlice_apply _ _ _ _ (ix2 (⟨(y 0).val, (y 0).isLt⟩ : Fin 128) (⟨h.val, by omega⟩ : Fin 128)) ?_).trans
    (Eq.trans ?_ (extractStridedSlice_apply _ _ _ _ (ix2 (⟨(y 0).val, (y 0).isLt⟩ : Fin 128) h) ?_).symm)
  · intro a
    fin_cases a
    · show (y 0).val = 0 + (y 0).val; omega
    · show h.val = h.val + (y 1).val; omega
  · refine (congrFun (shapeCast_self (s := Sq) _ _) _).trans ?_
    refine Eq.trans ?_ (hx _ h)
    unfold VecWindow.window
    refine congrArg x (funext fun a => Fin.ext ?_)
    refine (ValueKit.rect_emb_unit_val (s := Cert.Kernel.S128x128) ![0, 0] Cert.Kernel.S128x128.size Cert.Kernel.Gen.inb_S128x128_S128x128_0_0 _ a).trans ?_
    fin_cases a
    · show 0 + (y 0).val = (y 0).val; omega
    · show 0 + h.val = h.val; omega
  · intro a
    fin_cases a
    · show (y 0).val = 0 + (y 0).val; omega
    · show h.val = h.val + (y 1).val; omega

/-- The index keys of a batch, the first 512 of them. -/
theorem ikeys0 (x : Vec Bits Cert.Reference.S8192x128 .f32) (n : Nat) (h : n + 2048 ≤ 8192) (s : Vec Bits Cert.Kernel.S2048x128 .f32) (hs : s = rows x n 2048 h) :
    Cert.Kernel.Att.ki0 (Cert.Kernel.Gen.k0_pay1 s) = Cert.Reference.Att.rj0 (rows x n 512 (by omega)) := by
  subst hs
  funext y
  have hy : (y 0).val < 512 := (y 0).isLt
  unfold Cert.Kernel.Att.ki0 Cert.Reference.Att.rj0 Cert.Kernel.Gen.k0_pay1
  dsimp only
  repeat rw [shapeCast_self]
  refine congrArg (FloatOps.truncf (F := Bits) .bf16 Cert.Kernel.Gen.bitsLt_bf16_f32) ?_
  refine Eq.trans (congrArg (rows x n 2048 h) ?_) ((rows_apply x n 2048 h (⟨(y 0).val, by omega⟩ : Fin 2048) (⟨(y 1).val, (y 1).isLt⟩ : Fin 128)).trans
    ((rows_apply x n 512 (by omega) (⟨(y 0).val, hy⟩ : Fin 512) (⟨(y 1).val, (y 1).isLt⟩ : Fin 128)).symm.trans (congrArg (rows x n 512 (by omega)) ?_)))
  · refine funext fun a => Fin.ext ?_
    refine (ValueKit.rect_emb_unit_val (s := Cert.Kernel.S2048x128) ![0, 0] (Key 512).size Cert.Kernel.Gen.inb_S2048x128_S512x128_0_0 y a).trans ?_
    fin_cases a
    · show 0 + (y 0).val = (y 0).val; omega
    · show 0 + (y 1).val = (y 1).val; omega
  · funext a; fin_cases a <;> rfl

/-- A head's keys or values of a batch, the first 512 of them. -/
theorem keys0 (x : Vec Bits Cert.Reference.S8192x1024 .f32) (n : Nat) (h : n + 2048 ≤ 8192) (s : Vec Bits Cert.Kernel.S2048x1024 .f32) (hs : s = rows x n 2048 h)
    (o : Nat) (ho : o ≤ 512) (ho' : o = 0 ∨ o = 512) :
    Cert.Kernel.Att.kw0 (Cert.Kernel.Gen.k0_pay2 s) o ho = Cert.Reference.Att.rk0 (rows x n 512 (by omega)) o ho' := by
  subst hs
  funext p y
  have hp := p.isLt
  have hy : (y 0).val < 512 := (y 0).isLt
  have hy1 : (y 1).val < 128 := (y 1).isLt
  unfold Cert.Kernel.Att.kw0 Cert.Reference.Att.rk0 Cert.Kernel.Gen.k0_pay2
  dsimp only
  repeat rw [shapeCast_self]
  refine Eq.trans ?_ (extractStridedSlice_apply _ _ _ _ (ix2 (⟨(y 0).val, hy⟩ : Fin 512) (⟨o + 128 * p.val + (y 1).val, by omega⟩ : Fin 1024)) ?_).symm
  · refine congrArg (FloatOps.truncf (F := Bits) .bf16 Cert.Kernel.Gen.bitsLt_bf16_f32) ?_
    refine Eq.trans (congrArg (rows x n 2048 h) ?_) ((rows_apply x n 2048 h (⟨(y 0).val, by omega⟩ : Fin 2048) (⟨o + 128 * p.val + (y 1).val, by omega⟩ : Fin 1024)).trans
      (rows_apply x n 512 (by omega) (⟨(y 0).val, hy⟩ : Fin 512) (⟨o + 128 * p.val + (y 1).val, by omega⟩ : Fin 1024)).symm)
    refine funext fun a => Fin.ext ?_
    refine (ValueKit.rect_emb_unit_val (s := Cert.Kernel.S2048x1024) ![0, o + 128 * p.val] (Key 512).size (Cert.Kernel.Att.keyInb0 _ 1024 (by omega)) y a).trans ?_
    fin_cases a
    · show 0 + (y 0).val = (y 0).val; omega
    · rfl
  · intro a
    fin_cases a
    · show (y 0).val = 0 + (y 0).val; omega
    · rfl

/-- The index keys of a batch, the first 1024 of them. -/
theorem ikeys1 (x : Vec Bits Cert.Reference.S8192x128 .f32) (n : Nat) (h : n + 2048 ≤ 8192) (s : Vec Bits Cert.Kernel.S2048x128 .f32) (hs : s = rows x n 2048 h) :
    Cert.Kernel.Att.ki1 (Cert.Kernel.Gen.k0_pay1 s) = Cert.Reference.Att.rj1 (rows x n 1024 (by omega)) := by
  subst hs
  funext y
  have hy : (y 0).val < 1024 := (y 0).isLt
  unfold Cert.Kernel.Att.ki1 Cert.Reference.Att.rj1 Cert.Kernel.Gen.k0_pay1
  dsimp only
  repeat rw [shapeCast_self]
  refine congrArg (FloatOps.truncf (F := Bits) .bf16 Cert.Kernel.Gen.bitsLt_bf16_f32) ?_
  refine Eq.trans (congrArg (rows x n 2048 h) ?_) ((rows_apply x n 2048 h (⟨(y 0).val, by omega⟩ : Fin 2048) (⟨(y 1).val, (y 1).isLt⟩ : Fin 128)).trans
    ((rows_apply x n 1024 (by omega) (⟨(y 0).val, hy⟩ : Fin 1024) (⟨(y 1).val, (y 1).isLt⟩ : Fin 128)).symm.trans (congrArg (rows x n 1024 (by omega)) ?_)))
  · refine funext fun a => Fin.ext ?_
    refine (ValueKit.rect_emb_unit_val (s := Cert.Kernel.S2048x128) ![0, 0] (Key 1024).size Cert.Kernel.Gen.inb_S2048x128_S1024x128_0_0 y a).trans ?_
    fin_cases a
    · show 0 + (y 0).val = (y 0).val; omega
    · show 0 + (y 1).val = (y 1).val; omega
  · funext a; fin_cases a <;> rfl

/-- A head's keys or values of a batch, the first 1024 of them. -/
theorem keys1 (x : Vec Bits Cert.Reference.S8192x1024 .f32) (n : Nat) (h : n + 2048 ≤ 8192) (s : Vec Bits Cert.Kernel.S2048x1024 .f32) (hs : s = rows x n 2048 h)
    (o : Nat) (ho : o ≤ 512) (ho' : o = 0 ∨ o = 512) :
    Cert.Kernel.Att.kw1 (Cert.Kernel.Gen.k0_pay2 s) o ho = Cert.Reference.Att.rk1 (rows x n 1024 (by omega)) o ho' := by
  subst hs
  funext p y
  have hp := p.isLt
  have hy : (y 0).val < 1024 := (y 0).isLt
  have hy1 : (y 1).val < 128 := (y 1).isLt
  unfold Cert.Kernel.Att.kw1 Cert.Reference.Att.rk1 Cert.Kernel.Gen.k0_pay2
  dsimp only
  repeat rw [shapeCast_self]
  refine Eq.trans ?_ (extractStridedSlice_apply _ _ _ _ (ix2 (⟨(y 0).val, hy⟩ : Fin 1024) (⟨o + 128 * p.val + (y 1).val, by omega⟩ : Fin 1024)) ?_).symm
  · refine congrArg (FloatOps.truncf (F := Bits) .bf16 Cert.Kernel.Gen.bitsLt_bf16_f32) ?_
    refine Eq.trans (congrArg (rows x n 2048 h) ?_) ((rows_apply x n 2048 h (⟨(y 0).val, by omega⟩ : Fin 2048) (⟨o + 128 * p.val + (y 1).val, by omega⟩ : Fin 1024)).trans
      (rows_apply x n 1024 (by omega) (⟨(y 0).val, hy⟩ : Fin 1024) (⟨o + 128 * p.val + (y 1).val, by omega⟩ : Fin 1024)).symm)
    refine funext fun a => Fin.ext ?_
    refine (ValueKit.rect_emb_unit_val (s := Cert.Kernel.S2048x1024) ![0, o + 128 * p.val] (Key 1024).size (Cert.Kernel.Att.keyInb1 _ 1024 (by omega)) y a).trans ?_
    fin_cases a
    · show 0 + (y 0).val = (y 0).val; omega
    · rfl
  · intro a
    fin_cases a
    · show (y 0).val = 0 + (y 0).val; omega
    · rfl

/-- The index keys of a batch, the first 1536 of them. -/
theorem ikeys2 (x : Vec Bits Cert.Reference.S8192x128 .f32) (n : Nat) (h : n + 2048 ≤ 8192) (s : Vec Bits Cert.Kernel.S2048x128 .f32) (hs : s = rows x n 2048 h) :
    Cert.Kernel.Att.ki2 (Cert.Kernel.Gen.k0_pay1 s) = Cert.Reference.Att.rj2 (rows x n 1536 (by omega)) := by
  subst hs
  funext y
  have hy : (y 0).val < 1536 := (y 0).isLt
  unfold Cert.Kernel.Att.ki2 Cert.Reference.Att.rj2 Cert.Kernel.Gen.k0_pay1
  dsimp only
  repeat rw [shapeCast_self]
  refine congrArg (FloatOps.truncf (F := Bits) .bf16 Cert.Kernel.Gen.bitsLt_bf16_f32) ?_
  refine Eq.trans (congrArg (rows x n 2048 h) ?_) ((rows_apply x n 2048 h (⟨(y 0).val, by omega⟩ : Fin 2048) (⟨(y 1).val, (y 1).isLt⟩ : Fin 128)).trans
    ((rows_apply x n 1536 (by omega) (⟨(y 0).val, hy⟩ : Fin 1536) (⟨(y 1).val, (y 1).isLt⟩ : Fin 128)).symm.trans (congrArg (rows x n 1536 (by omega)) ?_)))
  · refine funext fun a => Fin.ext ?_
    refine (ValueKit.rect_emb_unit_val (s := Cert.Kernel.S2048x128) ![0, 0] (Key 1536).size Cert.Kernel.Gen.inb_S2048x128_S1536x128_0_0 y a).trans ?_
    fin_cases a
    · show 0 + (y 0).val = (y 0).val; omega
    · show 0 + (y 1).val = (y 1).val; omega
  · funext a; fin_cases a <;> rfl

/-- A head's keys or values of a batch, the first 1536 of them. -/
theorem keys2 (x : Vec Bits Cert.Reference.S8192x1024 .f32) (n : Nat) (h : n + 2048 ≤ 8192) (s : Vec Bits Cert.Kernel.S2048x1024 .f32) (hs : s = rows x n 2048 h)
    (o : Nat) (ho : o ≤ 512) (ho' : o = 0 ∨ o = 512) :
    Cert.Kernel.Att.kw2 (Cert.Kernel.Gen.k0_pay2 s) o ho = Cert.Reference.Att.rk2 (rows x n 1536 (by omega)) o ho' := by
  subst hs
  funext p y
  have hp := p.isLt
  have hy : (y 0).val < 1536 := (y 0).isLt
  have hy1 : (y 1).val < 128 := (y 1).isLt
  unfold Cert.Kernel.Att.kw2 Cert.Reference.Att.rk2 Cert.Kernel.Gen.k0_pay2
  dsimp only
  repeat rw [shapeCast_self]
  refine Eq.trans ?_ (extractStridedSlice_apply _ _ _ _ (ix2 (⟨(y 0).val, hy⟩ : Fin 1536) (⟨o + 128 * p.val + (y 1).val, by omega⟩ : Fin 1024)) ?_).symm
  · refine congrArg (FloatOps.truncf (F := Bits) .bf16 Cert.Kernel.Gen.bitsLt_bf16_f32) ?_
    refine Eq.trans (congrArg (rows x n 2048 h) ?_) ((rows_apply x n 2048 h (⟨(y 0).val, by omega⟩ : Fin 2048) (⟨o + 128 * p.val + (y 1).val, by omega⟩ : Fin 1024)).trans
      (rows_apply x n 1536 (by omega) (⟨(y 0).val, hy⟩ : Fin 1536) (⟨o + 128 * p.val + (y 1).val, by omega⟩ : Fin 1024)).symm)
    refine funext fun a => Fin.ext ?_
    refine (ValueKit.rect_emb_unit_val (s := Cert.Kernel.S2048x1024) ![0, o + 128 * p.val] (Key 1536).size (Cert.Kernel.Att.keyInb2 _ 1024 (by omega)) y a).trans ?_
    fin_cases a
    · show 0 + (y 0).val = (y 0).val; omega
    · rfl
  · intro a
    fin_cases a
    · show (y 0).val = 0 + (y 0).val; omega
    · rfl

/-- The index keys of a batch, the first 2048 of them. -/
theorem ikeys3 (x : Vec Bits Cert.Reference.S8192x128 .f32) (n : Nat) (h : n + 2048 ≤ 8192) (s : Vec Bits Cert.Kernel.S2048x128 .f32) (hs : s = rows x n 2048 h) :
    Cert.Kernel.Att.ki3 (Cert.Kernel.Gen.k0_pay1 s) = Cert.Reference.Att.rj3 (rows x n 2048 (by omega)) := by
  subst hs
  funext y
  have hy : (y 0).val < 2048 := (y 0).isLt
  unfold Cert.Kernel.Att.ki3 Cert.Reference.Att.rj3 Cert.Kernel.Gen.k0_pay1
  dsimp only
  repeat rw [shapeCast_self]
  refine congrArg (FloatOps.truncf (F := Bits) .bf16 Cert.Kernel.Gen.bitsLt_bf16_f32) ?_
  refine Eq.trans (congrArg (rows x n 2048 h) ?_) ((rows_apply x n 2048 h (⟨(y 0).val, by omega⟩ : Fin 2048) (⟨(y 1).val, (y 1).isLt⟩ : Fin 128)).trans
    ((rows_apply x n 2048 (by omega) (⟨(y 0).val, hy⟩ : Fin 2048) (⟨(y 1).val, (y 1).isLt⟩ : Fin 128)).symm.trans (congrArg (rows x n 2048 (by omega)) ?_)))
  · refine funext fun a => Fin.ext ?_
    refine (ValueKit.rect_emb_unit_val (s := Cert.Kernel.S2048x128) ![0, 0] (Key 2048).size Cert.Kernel.Gen.inb_S2048x128_S2048x128_0_0 y a).trans ?_
    fin_cases a
    · show 0 + (y 0).val = (y 0).val; omega
    · show 0 + (y 1).val = (y 1).val; omega
  · funext a; fin_cases a <;> rfl

/-- A head's keys or values of a batch, the first 2048 of them. -/
theorem keys3 (x : Vec Bits Cert.Reference.S8192x1024 .f32) (n : Nat) (h : n + 2048 ≤ 8192) (s : Vec Bits Cert.Kernel.S2048x1024 .f32) (hs : s = rows x n 2048 h)
    (o : Nat) (ho : o ≤ 512) (ho' : o = 0 ∨ o = 512) :
    Cert.Kernel.Att.kw3 (Cert.Kernel.Gen.k0_pay2 s) o ho = Cert.Reference.Att.rk3 (rows x n 2048 (by omega)) o ho' := by
  subst hs
  funext p y
  have hp := p.isLt
  have hy : (y 0).val < 2048 := (y 0).isLt
  have hy1 : (y 1).val < 128 := (y 1).isLt
  unfold Cert.Kernel.Att.kw3 Cert.Reference.Att.rk3 Cert.Kernel.Gen.k0_pay2
  dsimp only
  repeat rw [shapeCast_self]
  refine Eq.trans ?_ (extractStridedSlice_apply _ _ _ _ (ix2 (⟨(y 0).val, hy⟩ : Fin 2048) (⟨o + 128 * p.val + (y 1).val, by omega⟩ : Fin 1024)) ?_).symm
  · refine congrArg (FloatOps.truncf (F := Bits) .bf16 Cert.Kernel.Gen.bitsLt_bf16_f32) ?_
    refine Eq.trans (congrArg (rows x n 2048 h) ?_) ((rows_apply x n 2048 h (⟨(y 0).val, by omega⟩ : Fin 2048) (⟨o + 128 * p.val + (y 1).val, by omega⟩ : Fin 1024)).trans
      (rows_apply x n 2048 (by omega) (⟨(y 0).val, hy⟩ : Fin 2048) (⟨o + 128 * p.val + (y 1).val, by omega⟩ : Fin 1024)).symm)
    refine funext fun a => Fin.ext ?_
    refine (ValueKit.rect_emb_unit_val (s := Cert.Kernel.S2048x1024) ![0, o + 128 * p.val] (Key 2048).size (Cert.Kernel.Att.keyInb3 _ 1024 (by omega)) y a).trans ?_
    fin_cases a
    · show 0 + (y 0).val = (y 0).val; omega
    · rfl
  · intro a
    fin_cases a
    · show (y 0).val = 0 + (y 0).val; omega
    · rfl

/-! ## A point of the grid -/

variable (m : (ℓ : Loc Cert.Kernel.nD Cert.Kernel.τ Cert.Kernel.sig) → Buf (Elt Bits) ℓ) (c : Dev Cert.Kernel.nD)

theorem q_rows (t : Fin Cert.Kernel.cfg0.N) (h : 128 * t.val + 128 ≤ 8192) :
    (Cert.Kernel.Gen.X0_1 m c t : Vec Bits Cert.Kernel.S128x2048 .f32) = rows (Cert.Kernel.Att.qR m c) (128 * t.val) 128 h := by
  funext y
  rw [eq_ix2 y]
  exact (Cert.Kernel.Att.q_block m c t _ _).trans (rows_apply _ _ _ h _ _).symm

theorem iq_rows (t : Fin Cert.Kernel.cfg0.N) (h : 128 * t.val + 128 ≤ 8192) :
    (Cert.Kernel.Gen.X0_0 m c t : Vec Bits Cert.Kernel.S128x2048 .f32) = rows (Cert.Kernel.Att.iqR m c) (128 * t.val) 128 h := by
  funext y
  rw [eq_ix2 y]
  exact (Cert.Kernel.Att.iq_block m c t _ _).trans (rows_apply _ _ _ h _ _).symm

theorem ik_rows (t : Fin Cert.Kernel.cfg0.N) (n : Nat) (hn : 2048 * (t.val / 16) = n) (h : n + 2048 ≤ 8192) :
    (Cert.Kernel.Gen.iblk m c 3 t : Vec Bits Cert.Kernel.S2048x128 .f32) = rows (Cert.Kernel.Att.ikR m c) n 2048 h := by
  subst hn
  funext y
  rw [eq_ix2 y]
  exact (Cert.Kernel.Att.ik_block m c t _ _).trans (rows_apply _ _ _ h _ _).symm

theorem kv_rows (t : Fin Cert.Kernel.cfg0.N) (n : Nat) (hn : 2048 * (t.val / 16) = n) (h : n + 2048 ≤ 8192) :
    (Cert.Kernel.Gen.X0_4 m c t : Vec Bits Cert.Kernel.S2048x1024 .f32) = rows (Cert.Kernel.Att.kvR m c) n 2048 h := by
  subst hn
  funext y
  rw [eq_ix2 y]
  exact (Cert.Kernel.Att.kv_block m c t _ _).trans (rows_apply _ _ _ h _ _).symm

theorem iw_rows (t : Fin Cert.Kernel.cfg0.N) (h : 128 * t.val + 128 ≤ 8192) (r : Fin 128) (j : Fin 16) :
    (Cert.Kernel.Gen.iblk m c 2 t : Vec Bits Cert.Kernel.S128x128 .f32) (ix2 r (⟨j.val, by have := j.isLt; omega⟩ : Fin 128)) = rows (Cert.Kernel.Att.iwR m c) (128 * t.val) 128 h (ix2 r j) :=
  (Cert.Kernel.Att.iw_block m c t r j).trans (rows_apply _ _ _ h _ _).symm

/-- What the kernel leaves at a point of the grid is what the reference writes to that block of rows. -/
theorem point (t : Fin Cert.Kernel.cfg0.N) (n : Fin 64) (ht : t.val = n.val) :
    Cert.Kernel.Att.outAt m c t = Cert.Reference.Att.valOf (Cert.Kernel.Att.qR m c) (Cert.Kernel.Att.kvR m c) (Cert.Kernel.Att.iqR m c) (Cert.Kernel.Att.ikR m c) (Cert.Kernel.Att.iwR m c) n := by
  obtain ⟨n, hn⟩ := n
  change t.val = n at ht
  subst ht
  have hr : 128 * t.val + 128 ≤ 8192 := by omega
  have hb : 2048 * (t.val / 16) + 2048 ≤ 8192 := by omega
  have hk := ik_rows m c (⟨t.val - t.val % 16, by have := t.isLt; omega⟩ : Fin Cert.Kernel.cfg0.N) (2048 * (t.val / 16)) (by show 2048 * ((t.val - t.val % 16) / 16) = _; omega) hb
  have hv := kv_rows m c (⟨t.val - t.val % 16, by have := t.isLt; omega⟩ : Fin Cert.Kernel.cfg0.N) (2048 * (t.val / 16)) (by show 2048 * ((t.val - t.val % 16) / 16) = _; omega) hb
  have hi : t.val % 16 < 16 := Nat.mod_lt _ (by decide)
  have hg := Cert.Kernel.Att.coord1 t
  unfold Cert.Kernel.Att.outAt Cert.Kernel.Att.blockOut Cert.Kernel.Att.pcsAt
  rw [hg]
  rcases (show t.val % 16 / 4 = 0 ∨ t.val % 16 / 4 = 1 ∨ t.val % 16 / 4 = 2 ∨ t.val % 16 / 4 = 3 by omega) with e | e | e | e
  · rw [if_pos (show t.val % 16 < 4 by omega), Cert.Reference.Att.valOf0 _ _ _ _ _ ⟨t.val, hn⟩ e]
    refine block0 _ hi _ _ _ _ _ _ _ _ _ _ ?_ ?_ ?_ ?_ ?_ ?_
    · rw [head_eq, q_rows m c t hr]
    · rw [ihead_eq, iq_rows m c t hr]
    · exact weight_eq _ _ (iw_rows m c t hr)
    · exact ikeys0 _ _ hb _ hk
    · exact keys0 _ _ hb _ hv 0 _ _
    · exact keys0 _ _ hb _ hv 512 _ _
  · rw [if_neg (show ¬ t.val % 16 < 4 by omega), if_pos (show t.val % 16 < 8 by omega), Cert.Reference.Att.valOf1 _ _ _ _ _ ⟨t.val, hn⟩ e]
    refine block1 _ hi _ _ _ _ _ _ _ _ _ _ ?_ ?_ ?_ ?_ ?_ ?_
    · rw [head_eq, q_rows m c t hr]
    · rw [ihead_eq, iq_rows m c t hr]
    · exact weight_eq _ _ (iw_rows m c t hr)
    · exact ikeys1 _ _ hb _ hk
    · exact keys1 _ _ hb _ hv 0 _ _
    · exact keys1 _ _ hb _ hv 512 _ _
  · rw [if_neg (show ¬ t.val % 16 < 4 by omega), if_neg (show ¬ t.val % 16 < 8 by omega), if_pos (show t.val % 16 < 12 by omega), Cert.Reference.Att.valOf2 _ _ _ _ _ ⟨t.val, hn⟩ e]
    refine block2 _ hi _ _ _ _ _ _ _ _ _ _ ?_ ?_ ?_ ?_ ?_ ?_
    · rw [head_eq, q_rows m c t hr]
    · rw [ihead_eq, iq_rows m c t hr]
    · exact weight_eq _ _ (iw_rows m c t hr)
    · exact ikeys2 _ _ hb _ hk
    · exact keys2 _ _ hb _ hv 0 _ _
    · exact keys2 _ _ hb _ hv 512 _ _
  · rw [if_neg (show ¬ t.val % 16 < 4 by omega), if_neg (show ¬ t.val % 16 < 8 by omega), if_neg (show ¬ t.val % 16 < 12 by omega), Cert.Reference.Att.valOf3 _ _ _ _ _ ⟨t.val, hn⟩ e]
    refine block3 _ hi _ _ _ _ _ _ _ _ _ _ ?_ ?_ ?_ ?_ ?_ ?_
    · rw [head_eq, q_rows m c t hr]
    · rw [ihead_eq, iq_rows m c t hr]
    · exact weight_eq _ _ (iw_rows m c t hr)
    · exact ikeys3 _ _ hb _ hk
    · exact keys3 _ _ hb _ hv 0 _ _
    · exact keys3 _ _ hb _ hv 512 _ _

end Cert.Meet
-- ==== Proof.Final.lean ====
/- The two results: the kernel's array and the reference's are the same function of the arguments. -/
module

public import proofs.«01_k».proof.Proof.Rows
public import Idealize.ShloMosaic.Lib.Claim

@[expose] public section

set_option maxRecDepth 65536

noncomputable section

namespace Cert.Kernel.Att

open Idealize.ShloMosaic Idealize.ShloMosaic.TcCoe Idealize.ShloMosaic.Tactic Idealize.SL.Sem
open Cert.Kernel.Gen

variable (m : (ℓ : Loc nD τ sig) → Buf (Elt Bits) ℓ) (ρ : Dev nD → PrngReg) (c : Dev nD)

/-- The whole result, from the arguments. -/
def result : Vec Bits S8192x2048 .bf16 := Cert.Reference.Att.outOf (qR m c) (kvR m c) (iqR m c) (ikR m c) (iwR m c)

theorem array_eq : (dats m 0 c).arrAt 5 cfg0.N = result m c := by
  refine (dats m 0 c).arrAt_eq_of_covers 5 _ (by decide +kernel) fun t hf y => ?_
  have ht : t.val < 64 := Nat.lt_of_lt_of_eq t.isLt cfg0_N
  rw [after5, Cert.Meet.point m c t ⟨t.val, ht⟩ rfl]
  refine (Cert.Reference.Att.outOf_apply _ _ _ _ _ ⟨t.val, ht⟩ _ _ ?_ ?_).symm
  · refine ((cfg0.win 5).rect_emb_val t y 0).trans ?_
    rw [(index0_5 t).1]
    show t.val * 128 + (y 0).val = 128 * t.val + (y 0).val
    omega
  · refine ((cfg0.win 5).rect_emb_val t y 1).trans ?_
    rw [(index0_5 t).2]
    show 0 * 2048 + (y 1).val = (y 1).val
    omega

/-- Every fair execution of the kernel ends with the result, the arguments as they were. -/
theorem run_result : θ_run defs (onTc (τ := τ) (main (F := Bits))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).trans (array_eq m c), h.2.1 c⟩)
    (θ_run_and ((θ_run defs _ _).mono (fun _ h c => (h.1 c).1 5) (run_quiescent m ρ)) (frame m ρ))

end Cert.Kernel.Att

namespace Cert.Reference.Att

open Idealize.ShloMosaic Idealize.ShloMosaic.TcCoe Idealize.ShloMosaic.Tactic Idealize.SL.Sem
open Cert.Reference.Gen

variable (m : (ℓ : Loc nD τ sig) → Buf (Elt Bits) ℓ) (ρ : Dev nD → PrngReg) (c : Dev nD)

/-- The arguments as the host shapes them. -/
def qR : Vec Bits S8192x2048 .f32 := shapeCast S8192x2048 (m ((c : Thread nD τ).loc main_arg0)) shapeCasts_S4x2048x16x128_S8192x2048
def kvR : Vec Bits S8192x1024 .f32 := shapeCast S8192x1024 (m ((c : Thread nD τ).loc main_arg1)) shapeCasts_S4x2048x2x4x128_S8192x1024
def iqR : Vec Bits S8192x2048 .f32 := shapeCast S8192x2048 (m ((c : Thread nD τ).loc main_arg2)) shapeCasts_S4x2048x16x128_S8192x2048
def ikR : Vec Bits S8192x128 .f32 := shapeCast S8192x128 (m ((c : Thread nD τ).loc main_arg3)) shapeCasts_S4x2048x128_S8192x128
def iwR : Vec Bits S8192x16 .f32 := shapeCast S8192x16 (m ((c : Thread nD τ).loc main_arg4)) shapeCasts_S4x2048x16_S8192x16

theorem part0 : (V m c main_v0 : Vec Bits S8192x2048 .f32) = qR m c := by
  unfold_abbrev_sides
  after_results
  rfl
theorem part1 : (V m c main_v1 : Vec Bits S8192x1024 .f32) = kvR m c := by
  unfold_abbrev_sides
  after_results
  rfl
theorem part2 : (V m c main_v2 : Vec Bits S8192x2048 .f32) = iqR m c := by
  unfold_abbrev_sides
  after_results
  rfl
theorem part3 : (V m c main_v3 : Vec Bits S8192x128 .f32) = ikR m c := by
  unfold_abbrev_sides
  after_results
  rfl
theorem part4 : (V m c main_v4 : Vec Bits S8192x16 .f32) = iwR m c := by
  unfold_abbrev_sides
  after_results
  rfl

/-- An input's one block is its whole array. -/
theorem block_arg (t : Fin cfg0.N) :
    (iblk m c 0 t : Vec Bits S8192x2048 .f32) = qR m c ∧ (iblk m c 1 t : Vec Bits S8192x1024 .f32) = kvR m c
    ∧ (iblk m c 2 t : Vec Bits S8192x2048 .f32) = iqR m c ∧ (iblk m c 3 t : Vec Bits S8192x128 .f32) = ikR m c
    ∧ (iblk m c 4 t : Vec Bits S8192x16 .f32) = iwR m c := by
  have h0 : ∀ t : Fin cfg0.N, (cfg0.win 0).index t 0 = 0 ∧ (cfg0.win 0).index t 1 = 0 := by decide +kernel
  have h1 : ∀ t : Fin cfg0.N, (cfg0.win 1).index t 0 = 0 ∧ (cfg0.win 1).index t 1 = 0 := by decide +kernel
  have h2 : ∀ t : Fin cfg0.N, (cfg0.win 2).index t 0 = 0 ∧ (cfg0.win 2).index t 1 = 0 := by decide +kernel
  have h3 : ∀ t : Fin cfg0.N, (cfg0.win 3).index t 0 = 0 ∧ (cfg0.win 3).index t 1 = 0 := by decide +kernel
  have h4 : ∀ t : Fin cfg0.N, (cfg0.win 4).index t 0 = 0 ∧ (cfg0.win 4).index t 1 = 0 := by decide +kernel
  rw [← part0 m c, ← part1 m c, ← part2 m c, ← part3 m c, ← part4 m c]
  refine ⟨funext fun y => ?_, funext fun y => ?_, funext fun y => ?_, funext fun y => ?_, funext fun y => ?_⟩
  · refine congrArg (V m c main_v0 : Vec Bits S8192x2048 .f32) (funext fun a => Fin.ext ?_)
    fin_cases a
    · exact (cfg0.win 0).rect_emb_val_of_index_zero t 0 (h0 t).1 y
    · exact (cfg0.win 0).rect_emb_val_of_index_zero t 1 (h0 t).2 y
  · refine congrArg (V m c main_v1 : Vec Bits S8192x1024 .f32) (funext fun a => Fin.ext ?_)
    fin_cases a
    · exact (cfg0.win 1).rect_emb_val_of_index_zero t 0 (h1 t).1 y
    · exact (cfg0.win 1).rect_emb_val_of_index_zero t 1 (h1 t).2 y
  · refine congrArg (V m c main_v2 : Vec Bits S8192x2048 .f32) (funext fun a => Fin.ext ?_)
    fin_cases a
    · exact (cfg0.win 2).rect_emb_val_of_index_zero t 0 (h2 t).1 y
    · exact (cfg0.win 2).rect_emb_val_of_index_zero t 1 (h2 t).2 y
  · refine congrArg (V m c main_v3 : Vec Bits S8192x128 .f32) (funext fun a => Fin.ext ?_)
    fin_cases a
    · exact (cfg0.win 3).rect_emb_val_of_index_zero t 0 (h3 t).1 y
    · exact (cfg0.win 3).rect_emb_val_of_index_zero t 1 (h3 t).2 y
  · refine congrArg (V m c main_v4 : Vec Bits S8192x16 .f32) (funext fun a => Fin.ext ?_)
    fin_cases a
    · exact (cfg0.win 4).rect_emb_val_of_index_zero t 0 (h4 t).1 y
    · exact (cfg0.win 4).rect_emb_val_of_index_zero t 1 (h4 t).2 y

/-- The whole result, from the arguments. -/
def result : Vec Bits S8192x2048 .bf16 := outOf (qR m c) (kvR m c) (iqR m c) (ikR m c) (iwR m c)

theorem outs_eq (t : Fin cfg0.N) : outsAt0 m c t = result m c := by
  obtain ⟨e0, e1, e2, e3, e4⟩ := block_arg m c t
  refine (run_out ..).trans ?_
  unfold result
  rw [← e0, ← e1, ← e2, ← e3, ← e4]

theorem array_eq : (dats m 0 c).arrAt 5 cfg0.N = result m c := by
  refine (dats m 0 c).arrAt_eq_of_covers 5 _ (by decide +kernel) fun t hf y => ?_
  have h5 : ∀ t : Fin cfg0.N, (cfg0.win 5).index t 0 = 0 ∧ (cfg0.win 5).index t 1 = 0 := by decide +kernel
  rw [after0_5, outs_eq]
  refine congrArg (result m c) (funext fun a => Fin.ext ?_)
  fin_cases a
  · exact ((cfg0.win 5).rect_emb_val_of_index_zero t 0 (h5 t).1 y).symm
  · exact ((cfg0.win 5).rect_emb_val_of_index_zero t 1 (h5 t).2 y).symm

/-- Every fair execution of the reference ends with the result, the arguments as they were. -/
theorem run_result : θ_run defs (onTc (τ := τ) (main (F := Bits))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (array_eq m c), (h c).2⟩) (Cert.Reference.Value.run_blocks m ρ)

end Cert.Reference.Att

namespace Cert.Meet

open Idealize.ShloMosaic Idealize.ShloMosaic.TcCoe

/-- From the same arguments, the same result. -/
theorem result_eq (m : (ℓ : Loc Cert.Kernel.nD Cert.Kernel.τ Cert.Kernel.sig) → Buf (Elt Bits) ℓ)
    (m' : (ℓ : Loc Cert.Reference.nD Cert.Reference.τ Cert.Reference.sig) → Buf (Elt Bits) ℓ) (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4)) :
    Cert.Reference.Att.result m' c = Cert.Kernel.Att.result m c := by
  have e0 : Cert.Reference.Att.qR m' c = Cert.Kernel.Att.qR m c := congrArg (fun v => shapeCast Cert.Kernel.S8192x2048 v Cert.Kernel.Gen.shapeCasts_S4x2048x16x128_S8192x2048) h0
  have e1 : Cert.Reference.Att.kvR m' c = Cert.Kernel.Att.kvR m c := congrArg (fun v => shapeCast Cert.Kernel.S8192x1024 v Cert.Kernel.Gen.shapeCasts_S4x2048x2x4x128_S8192x1024) h1
  have e2 : Cert.Reference.Att.iqR m' c = Cert.Kernel.Att.iqR m c := congrArg (fun v => shapeCast Cert.Kernel.S8192x2048 v Cert.Kernel.Gen.shapeCasts_S4x2048x16x128_S8192x2048) h2
  have e3 : Cert.Reference.Att.ikR m' c = Cert.Kernel.Att.ikR m c := congrArg (fun v => shapeCast Cert.Kernel.S8192x128 v Cert.Kernel.Gen.shapeCasts_S4x2048x128_S8192x128) h3
  have e4 : Cert.Reference.Att.iwR m' c = Cert.Kernel.Att.iwR m c := congrArg (fun v => shapeCast Cert.Kernel.S8192x16 v Cert.Kernel.Gen.shapeCasts_S4x2048x16_S8192x16) h4
  unfold Cert.Reference.Att.result Cert.Kernel.Att.result
  rw [e0, e1, e2, e3, e4]

end Cert.Meet
-- ==== Proof.MlpPieces.lean ====
/- What one step of the MLP kernel leaves in its scratch arrays and in its output block, as functions of the step's input blocks
   and of what the scratch arrays held. -/
module

public import proofs.«01_k».proof.Proof.Gen.MlpIdeal.Value
public import Idealize.ShloMosaic.Lib.VecWindow

@[expose] public section

set_option maxRecDepth 16384

noncomputable section

namespace Cert.MlpIdeal.Val

open Idealize.ShloMosaic Idealize.ShloMosaic.TcCoe Idealize.ShloMosaic.Tactic
open Idealize.ShloMosaic.Pipeline (Dat Cfg Window)
open Cert.MlpIdeal.Gen

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

section Buffers

variable (c : Dev nD) (i : grid0.Coords)
  (arg2 : Memref sig .tc .vmem S512x2048 .f32) (harg2 : arg2.IsWhole)
  (arg3 : Memref sig .tc .vmem S2048x512 .bf16) (harg3 : arg3.IsWhole)
  (arg4 : Memref sig .tc .vmem S512x2048 .bf16) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .f32) (harg7 : arg7.IsWhole)
  (arg8 : Memref sig .tc .vmem S512x2048 .bf16) (harg8 : arg8.IsWhole)
  (arg9 : Memref sig .tc .vmem S512x2048 .f32) (harg9 : arg9.IsWhole)

/-- The first step of a block of rows keeps the rows in the narrower format. -/
theorem first_rows (hc0 : cond0_0 i) (hc1 : ¬cond0_1 i)
    (x0 : Vec F S512x2048 .f32) (x1 : Vec F S2048x512 .bf16) (x2 : Vec F S512x2048 .bf16) (x3 : Vec F S1x2048 .f32) (x4 : Vec F S1x2048 .f32) :
    sout0_A_0 c i arg2 harg2 arg3 harg3 arg4 harg4 arg5 harg5 arg6 harg6 arg7 harg7 arg8 harg8 arg9 harg9 hc0 hc1 x0 x1 x2 x3 x4 = k0_pay1 x0 := by
  unfold sout0_A_0 kernelRun0_A
  dsimp only
  refine (View.read_writes_full ..).trans ?_
  exact congrArg k0_pay1 (load_whole harg2 x0 _)

/-- The first step starts the sums at its own product. -/
theorem first_acc (hc0 : cond0_0 i) (hc1 : ¬cond0_1 i)
    (x0 : Vec F S512x2048 .f32) (x1 : Vec F S2048x512 .bf16) (x2 : Vec F S512x2048 .bf16) (x3 : Vec F S1x2048 .f32) (x4 : Vec F S1x2048 .f32) :
    sout0_A_1 c i arg2 harg2 arg3 harg3 arg4 harg4 arg5 harg5 arg6 harg6 arg7 harg7 arg8 harg8 arg9 harg9 hc0 hc1 x0 x1 x2 x3 x4 = k0_pay3 (k0_pay1 x0) x1 k0_pay2 x2 := by
  unfold sout0_A_1 kernelRun0_A
  dsimp only
  refine (View.read_writes_full ..).trans ?_
  have e3 : kernelRun0_A.sl.v3 c arg2 harg2 arg8 x0 = k0_pay1 x0 := by
    unfold kernelRun0_A.sl.v3
    exact (View.readCov_full ..).trans (congrArg k0_pay1 (load_whole harg2 x0 _))
  have e9 : kernelRun0_A.sl.v9 c arg9 = k0_pay2 (F := F) := by
    unfold kernelRun0_A.sl.v9
    exact View.readCov_full ..
  have e1 := load_whole harg3 x1 inb_S2048x512_S2048x512_0_0
  have e2 := load_whole harg4 x2 inb_S512x2048_S512x2048_0_0
  rw [e3, e9]
  exact (congrArg (fun z => k0_pay3 (k0_pay1 x0) z _ _) e1).trans (congrArg (fun z => k0_pay3 (k0_pay1 x0) x1 _ z) e2)

/-- A middle step adds its product to the sums. -/
theorem middle_acc (hc0 : ¬cond0_0 i) (hc1 : ¬cond0_1 i)
    (x0 : Vec F S512x2048 .f32) (x1 : Vec F S2048x512 .bf16) (x2 : Vec F S512x2048 .bf16) (x3 : Vec F S1x2048 .f32) (x4 : Vec F S1x2048 .f32) (xs0 : Vec F S512x2048 .bf16) (xs1 : Vec F S512x2048 .f32) :
    sout0_B_1 c i arg2 harg2 arg3 harg3 arg4 harg4 arg5 harg5 arg6 harg6 arg7 harg7 arg8 harg8 arg9 harg9 hc0 hc1 x0 x1 x2 x3 x4 xs0 xs1 = k0_pay3 xs0 x1 xs1 x2 := by
  unfold sout0_B_1 kernelRun0_B
  dsimp only
  refine (View.read_writes_full ..).trans ?_
  have e0 := load_whole harg8 xs0 inb_S512x2048_S512x2048_0_0
  have e9 := load_whole harg9 xs1 inb_S512x2048_S512x2048_0_0
  have e1 := load_whole harg3 x1 inb_S2048x512_S2048x512_0_0
  have e2 := load_whole harg4 x2 inb_S512x2048_S512x2048_0_0
  exact (congrArg (fun z => k0_pay3 z _ _ _) e0).trans ((congrArg (fun z => k0_pay3 xs0 z _ _) e1).trans
    ((congrArg (fun z => k0_pay3 xs0 x1 z _) e9).trans (congrArg (fun z => k0_pay3 xs0 x1 xs1 z) e2)))

/-- A middle step keeps the rows. -/
theorem middle_rows (hc0 : ¬cond0_0 i) (hc1 : ¬cond0_1 i)
    (x0 : Vec F S512x2048 .f32) (x1 : Vec F S2048x512 .bf16) (x2 : Vec F S512x2048 .bf16) (x3 : Vec F S1x2048 .f32) (x4 : Vec F S1x2048 .f32) (xs0 : Vec F S512x2048 .bf16) (xs1 : Vec F S512x2048 .f32) :
    sout0_B_0 c i arg2 harg2 arg3 harg3 arg4 harg4 arg5 harg5 arg6 harg6 arg7 harg7 arg8 harg8 arg9 harg9 hc0 hc1 x0 x1 x2 x3 x4 xs0 xs1 = xs0 := by
  rfl

/-- A last step adds its product to the sums. -/
theorem last_acc (hc0 : ¬cond0_0 i) (hc1 : cond0_1 i)
    (x0 : Vec F S512x2048 .f32) (x1 : Vec F S2048x512 .bf16) (x2 : Vec F S512x2048 .bf16) (x3 : Vec F S1x2048 .f32) (x4 : Vec F S1x2048 .f32) (xs0 : Vec F S512x2048 .bf16) (xs1 : Vec F S512x2048 .f32) :
    sout0_C_1 c i arg2 harg2 arg3 harg3 arg4 harg4 arg5 harg5 arg6 harg6 arg7 harg7 arg8 harg8 arg9 harg9 hc0 hc1 x0 x1 x2 x3 x4 xs0 xs1 = k0_pay3 xs0 x1 xs1 x2 := by
  unfold sout0_C_1 kernelRun0_C
  dsimp only
  refine (View.read_writes_full ..).trans ?_
  have e0 := load_whole harg8 xs0 inb_S512x2048_S512x2048_0_0
  have e9 := load_whole harg9 xs1 inb_S512x2048_S512x2048_0_0
  have e1 := load_whole harg3 x1 inb_S2048x512_S2048x512_0_0
  have e2 := load_whole harg4 x2 inb_S512x2048_S512x2048_0_0
  exact (congrArg (fun z => k0_pay3 z _ _ _) e0).trans ((congrArg (fun z => k0_pay3 xs0 z _ _) e1).trans
    ((congrArg (fun z => k0_pay3 xs0 x1 z _) e9).trans (congrArg (fun z => k0_pay3 xs0 x1 xs1 z) e2)))

/-- A last step keeps the rows. -/
theorem last_rows (hc0 : ¬cond0_0 i) (hc1 : cond0_1 i)
    (x0 : Vec F S512x2048 .f32) (x1 : Vec F S2048x512 .bf16) (x2 : Vec F S512x2048 .bf16) (x3 : Vec F S1x2048 .f32) (x4 : Vec F S1x2048 .f32) (xs0 : Vec F S512x2048 .bf16) (xs1 : Vec F S512x2048 .f32) :
    sout0_C_0 c i arg2 harg2 arg3 harg3 arg4 harg4 arg5 harg5 arg6 harg6 arg7 harg7 arg8 harg8 arg9 harg9 hc0 hc1 x0 x1 x2 x3 x4 xs0 xs1 = xs0 := by
  rfl

/-- The last step writes the layer norm of the rows, scaled, plus the sums. -/
theorem last_out (hc0 : ¬cond0_0 i) (hc1 : cond0_1 i)
    (x0 : Vec F S512x2048 .f32) (x1 : Vec F S2048x512 .bf16) (x2 : Vec F S512x2048 .bf16) (x3 : Vec F S1x2048 .f32) (x4 : Vec F S1x2048 .f32) (xs0 : Vec F S512x2048 .bf16) (xs1 : Vec F S512x2048 .f32) :
    out0_C_5 c i arg2 harg2 arg3 harg3 arg4 harg4 arg5 harg5 arg6 harg6 arg7 harg7 arg8 harg8 arg9 harg9 hc0 hc1 x0 x1 x2 x3 x4 xs0 xs1 = k0_pay4 x0 (k0_pay3 xs0 x1 xs1 x2) x3 x4 := by
  unfold out0_C_5 kernelRun0_C
  dsimp only
  refine (View.read_writes_full ..).trans ?_
  have e25 : kernelRun0_C.sl.v25 c arg3 harg3 arg4 harg4 arg8 harg8 arg9 harg9 x1 x2 xs0 xs1 = k0_pay3 xs0 x1 xs1 x2 := by
    unfold kernelRun0_C.sl.v25
    refine (View.readCov_full ..).trans ?_
    have e0 := load_whole harg8 xs0 inb_S512x2048_S512x2048_0_0
    have e9 := load_whole harg9 xs1 inb_S512x2048_S512x2048_0_0
    have e1 := load_whole harg3 x1 inb_S2048x512_S2048x512_0_0
    have e2 := load_whole harg4 x2 inb_S512x2048_S512x2048_0_0
    exact (congrArg (fun z => k0_pay3 z _ _ _) e0).trans ((congrArg (fun z => k0_pay3 xs0 z _ _) e1).trans
      ((congrArg (fun z => k0_pay3 xs0 x1 z _) e9).trans (congrArg (fun z => k0_pay3 xs0 x1 xs1 z) e2)))
  have f0 := load_whole harg2 x0 inb_S512x2048_S512x2048_0_0
  have f3 := load_whole harg5 x3 inb_S1x2048_S1x2048_0_0
  have f4 := load_whole harg6 x4 inb_S1x2048_S1x2048_0_0
  rw [e25]
  exact (congrArg (fun z => k0_pay4 z _ _ _) f0).trans ((congrArg (fun z => k0_pay4 x0 _ z _) f3).trans
    (congrArg (fun z => k0_pay4 x0 _ x3 z) f4))

end Buffers

end Cert.MlpIdeal.Val

end
-- ==== Proof.MlpSteps.lean ====
/- What each step of the MLP kernel leaves, over what the step before left. -/
module

public import proofs.«01_k».proof.Proof.MlpPieces
public import proofs.«01_k».proof.Proof.Gen.MlpIdeal.Value
public import Idealize.ShloMosaic.Lib.VecWindow

@[expose] public section

set_option maxRecDepth 16384

noncomputable section

namespace Cert.MlpIdeal.Val

open Idealize.ShloMosaic Idealize.ShloMosaic.TcCoe Idealize.ShloMosaic.Tactic
open Idealize.ShloMosaic.Pipeline (Dat Cfg Window)
open Cert.MlpIdeal.Gen

variable {F : FTy → Type} [FloatOps F]

variable (m : (ℓ : Loc nD τ sig) → Buf (Elt F) ℓ)

/-! ## What each step leaves -/

theorem at_first_rows (c : Dev nD) (t : Fin cfg0.N) (h0 : t.val % 16 = 0) (h1 : ¬t.val % 16 = 15) :
    (outsAt0 m c t.val t.isLt).2.1 = k0_pay1 (F := F) (iblk m c 0 t : Vec F S512x2048 .f32) := by
  have e := first_rows c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1]
  dsimp only
  rw [e]

theorem at_first_acc (c : Dev nD) (t : Fin cfg0.N) (h0 : t.val % 16 = 0) (h1 : ¬t.val % 16 = 15) :
    (outsAt0 m c t.val t.isLt).2.2 = k0_pay3 (F := F) (k0_pay1 (F := F) (iblk m c 0 t : Vec F S512x2048 .f32)) (iblk m c 1 t : Vec F S2048x512 .bf16) (k0_pay2 (F := F)) (iblk m c 2 t : Vec F S512x2048 .bf16) := by
  have e := first_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1]
  dsimp only
  rw [e]

theorem at_middle_rows (c : Dev nD) (t : Fin cfg0.N) (h0 : ¬t.val % 16 = 0) (h1 : ¬t.val % 16 = 15) :
    (outsAt0 m c t.val t.isLt).2.1 = (outsAt0 m c (t.val - 1) (Nat.lt_of_le_of_lt (Nat.sub_le _ _) t.isLt)).2.1 := by
  have e := middle_rows c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_B m c t h0 h1]
  dsimp only
  rw [e]

theorem at_middle_acc (c : Dev nD) (t : Fin cfg0.N) (h0 : ¬t.val % 16 = 0) (h1 : ¬t.val % 16 = 15) :
    (outsAt0 m c t.val t.isLt).2.2 = k0_pay3 (F := F) (outsAt0 m c (t.val - 1) (Nat.lt_of_le_of_lt (Nat.sub_le _ _) t.isLt)).2.1 (iblk m c 1 t : Vec F S2048x512 .bf16) (outsAt0 m c (t.val - 1) (Nat.lt_of_le_of_lt (Nat.sub_le _ _) t.isLt)).2.2 (iblk m c 2 t : Vec F S512x2048 .bf16) := by
  have e := middle_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_B m c t h0 h1]
  dsimp only
  rw [e]

theorem at_last_rows (c : Dev nD) (t : Fin cfg0.N) (h0 : ¬t.val % 16 = 0) (h1 : t.val % 16 = 15) :
    (outsAt0 m c t.val t.isLt).2.1 = (outsAt0 m c (t.val - 1) (Nat.lt_of_le_of_lt (Nat.sub_le _ _) t.isLt)).2.1 := by
  have e := last_rows c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_C m c t h0 h1]
  dsimp only
  rw [e]

theorem at_last_acc (c : Dev nD) (t : Fin cfg0.N) (h0 : ¬t.val % 16 = 0) (h1 : t.val % 16 = 15) :
    (outsAt0 m c t.val t.isLt).2.2 = k0_pay3 (F := F) (outsAt0 m c (t.val - 1) (Nat.lt_of_le_of_lt (Nat.sub_le _ _) t.isLt)).2.1 (iblk m c 1 t : Vec F S2048x512 .bf16) (outsAt0 m c (t.val - 1) (Nat.lt_of_le_of_lt (Nat.sub_le _ _) t.isLt)).2.2 (iblk m c 2 t : Vec F S512x2048 .bf16) := by
  have e := last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_C m c t h0 h1]
  dsimp only
  rw [e]

theorem at_last_out (c : Dev nD) (t : Fin cfg0.N) (h0 : ¬t.val % 16 = 0) (h1 : t.val % 16 = 15) :
    (outsAt0 m c t.val t.isLt).1 = k0_pay4 (F := F) (iblk m c 0 t : Vec F S512x2048 .f32) (k0_pay3 (F := F) (outsAt0 m c (t.val - 1) (Nat.lt_of_le_of_lt (Nat.sub_le _ _) t.isLt)).2.1 (iblk m c 1 t : Vec F S2048x512 .bf16) (outsAt0 m c (t.val - 1) (Nat.lt_of_le_of_lt (Nat.sub_le _ _) t.isLt)).2.2 (iblk m c 2 t : Vec F S512x2048 .bf16)) (iblk m c 3 t : Vec F S1x2048 .f32) (iblk m c 4 t : Vec F S1x2048 .f32) := by
  have e := last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_C m c t h0 h1]
  dsimp only
  rw [e]

end Cert.MlpIdeal.Val

end
-- ==== Proof.Norm.lean ====
/- The layer norm of a row over the reals. -/
module

public import Idealize.ShloMosaic.Lib.IdealHost

@[expose] public section

noncomputable section

namespace Cert.Norm

open Idealize.ShloMosaic

/-- The layer norm of a row `v` at place `k`, with gain `g` and bias `b` there. -/
def lnAt (v : Fin 2048 → EReal) (k : Fin 2048) (g b : EReal) : EReal :=
  (v k - Ideal.div (∑ i, v i) (Ideal.ofBits .f32 0x45000000#32)) *
      Ideal.rsqrt (Ideal.div (∑ j, (v j - Ideal.div (∑ i, v i) (Ideal.ofBits .f32 0x45000000#32)) *
          (v j - Ideal.div (∑ i, v i) (Ideal.ofBits .f32 0x45000000#32))) (Ideal.ofBits .f32 0x45000000#32)
        + Ideal.ofBits .f32 0x3727C5AC#32) * g + b

end Cert.Norm

end
-- ==== Proof.MlpValue.lean ====
/- The MLP kernel over the reals: what the steps of a block of rows add up to, and what the last step writes. -/
module

public import proofs.«01_k».proof.Proof.MlpSteps
public import proofs.«01_k».proof.Proof.Norm
public import Idealize.ShloMosaic.Lib.Pointwise
public import Idealize.ShloMosaic.Lib.Pipeline.ValueKit
public import Idealize.ShloMosaic.Lib.IdealHost

@[expose] public section

set_option maxRecDepth 16384

noncomputable section

namespace Cert.MlpIdeal.Val

open Idealize.ShloMosaic Idealize.ShloMosaic.TcCoe Idealize.ShloMosaic.Tactic
open Idealize.ShloMosaic.Pipeline (Dat Cfg Window)
open Cert.MlpIdeal.Gen
open Cert.Norm (lnAt)

/-! ## One step at an index -/

theorem rows_apply (x : Vec Ideal S512x2048 .f32) (r : Fin 512) (d : Fin 2048) : k0_pay1 x (ix2 r d) = x (ix2 r d) := by
  pointwise [k0_pay1]

theorem zero_apply (r : Fin 512) (k : Fin 2048) : k0_pay2 (F := Ideal) (ix2 r k) = 0 := by
  pointwise [k0_pay2]

theorem acc_apply (xb : Vec Ideal S512x2048 .bf16) (u : Vec Ideal S2048x512 .bf16) (a : Vec Ideal S512x2048 .f32) (w : Vec Ideal S512x2048 .bf16)
    (r : Fin 512) (k : Fin 2048) :
    k0_pay3 xb u a w (ix2 r k) = a (ix2 r k) + ∑ f : Fin 512,
      (max (∑ d : Fin 2048, xb (ix2 r d) * u (ix2 d f)) 0 * max (∑ d : Fin 2048, xb (ix2 r d) * u (ix2 d f)) 0) * w (ix2 f k) := by
  pointwise [k0_pay3]

theorem out_apply (x a : Vec Ideal S512x2048 .f32) (g b : Vec Ideal S1x2048 .f32) (r : Fin 512) (k : Fin 2048) :
    k0_pay4 x a g b (ix2 r k)
      = lnAt (fun j => Ideal.ofBits .f32 0x3FD744FD#32 * x (ix2 r j) + a (ix2 r j)) k (g (ix2 0 k)) (b (ix2 0 k)) := by
  unfold lnAt
  pointwise [k0_pay4]

/-! ## The blocks a step is given -/

variable (m : (ℓ : Loc nD τ sig) → Buf (Elt Ideal) ℓ)

/-- The arguments: the rows, the two weight matrices, the gain and the bias. -/
def xA (c : Dev nD) : Vec Ideal S8704x2048 .f32 := m ((c : Thread nD τ).loc main_arg0)
def upA (c : Dev nD) : Vec Ideal S2048x8192 .f32 := m ((c : Thread nD τ).loc main_arg1)
def downA (c : Dev nD) : Vec Ideal S8192x2048 .f32 := m ((c : Thread nD τ).loc main_arg2)
def gA (c : Dev nD) : Vec Ideal S2048 .f32 := m ((c : Thread nD τ).loc main_arg3)
def bA (c : Dev nD) : Vec Ideal S2048 .f32 := m ((c : Thread nD τ).loc main_arg4)

theorem index_0 : ∀ t : Fin cfg0.N, (cfg0.win 0).index t 0 = t.val / 16 ∧ (cfg0.win 0).index t 1 = 0 := by decide +kernel
theorem index_1 : ∀ t : Fin cfg0.N, (cfg0.win 1).index t 0 = 0 ∧ (cfg0.win 1).index t 1 = t.val % 16 := by decide +kernel
theorem index_2 : ∀ t : Fin cfg0.N, (cfg0.win 2).index t 0 = t.val % 16 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = 0 ∧ (cfg0.win 4).index t 1 = 0 := by decide +kernel

theorem host_up (c : Dev nD) : (V m c main_v0 : Vec Ideal S2048x8192 .bf16) = (truncf .bf16 (upA m c) bitsLt_bf16_f32 : FVec Ideal S2048x8192 .bf16) := by
  unfold_abbrev_sides
  after_results
  rfl
theorem host_down (c : Dev nD) : (V m c main_v1 : Vec Ideal S8192x2048 .bf16) = (truncf .bf16 (downA m c) bitsLt_bf16_f32 : FVec Ideal S8192x2048 .bf16) := by
  unfold_abbrev_sides
  after_results
  rfl
theorem host_g (c : Dev nD) : (V m c main_v2 : Vec Ideal S1x2048 .f32) = shapeCast S1x2048 (gA m c) shapeCasts_S2048_S1x2048 := by
  unfold_abbrev_sides
  after_results
  rfl
theorem host_b (c : Dev nD) : (V m c main_v3 : Vec Ideal S1x2048 .f32) = shapeCast S1x2048 (bA m c) shapeCasts_S2048_S1x2048 := by
  unfold_abbrev_sides
  after_results
  rfl

/-- The row of the argument that row `r` of the block at step `n` is. -/
def row (n : ℕ) (h : n < cfg0.N) (r : Fin 512) : Fin 8704 :=
  ⟨512 * (n / 16) + r.val, by have := Nat.lt_of_lt_of_eq h N_0; have := r.isLt; omega⟩

/-- The place of the hidden row that place `f` of the block at step `n` is. -/
def mid (n : ℕ) (f : Fin 512) : Fin 8192 := ⟨512 * (n % 16) + f.val, by have := f.isLt; omega⟩

theorem x_block (c : Dev nD) (t : Fin cfg0.N) (r : Fin 512) (d : Fin 2048) :
    (iblk m c 0 t : Vec Ideal S512x2048 .f32) (ix2 r d) = xA m c (ix2 (row t.val t.isLt r) d) := by
  refine (congrArg (V m c main_arg0 : Vec Ideal S8704x2048 .f32) (funext fun a => Fin.ext ?_)).trans (congrFun (V_main_arg0 m c) _)
  fin_cases a
  · refine ((cfg0.win 0).rect_emb_val t (ix2 r d) 0).trans ?_
    rw [(index_0 t).1]
    show t.val / 16 * 512 + r.val = 512 * (t.val / 16) + r.val
    omega
  · refine ((cfg0.win 0).rect_emb_val t (ix2 r d) 1).trans ?_
    rw [(index_0 t).2]
    show 0 * 2048 + d.val = d.val
    omega

theorem up_block (c : Dev nD) (t : Fin cfg0.N) (d : Fin 2048) (f : Fin 512) :
    (iblk m c 1 t : Vec Ideal S2048x512 .bf16) (ix2 d f) = upA m c (ix2 d (mid t.val f)) := by
  refine (congrArg (V m c main_v0 : Vec Ideal S2048x8192 .bf16) (funext fun a => Fin.ext ?_)).trans
    ((congrFun (host_up m c) (ix2 d (mid t.val f))).trans (by pointwise))
  fin_cases a
  · refine ((cfg0.win 1).rect_emb_val t (ix2 d f) 0).trans ?_
    rw [(index_1 t).1]
    show 0 * 2048 + d.val = d.val
    omega
  · refine ((cfg0.win 1).rect_emb_val t (ix2 d f) 1).trans ?_
    rw [(index_1 t).2]
    show t.val % 16 * 512 + f.val = 512 * (t.val % 16) + f.val
    omega

theorem down_block (c : Dev nD) (t : Fin cfg0.N) (f : Fin 512) (k : Fin 2048) :
    (iblk m c 2 t : Vec Ideal S512x2048 .bf16) (ix2 f k) = downA m c (ix2 (mid t.val f) k) := by
  refine (congrArg (V m c main_v1 : Vec Ideal S8192x2048 .bf16) (funext fun a => Fin.ext ?_)).trans
    ((congrFun (host_down m c) (ix2 (mid t.val f) k)).trans (by pointwise))
  fin_cases a
  · refine ((cfg0.win 2).rect_emb_val t (ix2 f k) 0).trans ?_
    rw [(index_2 t).1]
    show t.val % 16 * 512 + f.val = 512 * (t.val % 16) + f.val
    omega
  · refine ((cfg0.win 2).rect_emb_val t (ix2 f k) 1).trans ?_
    rw [(index_2 t).2]
    show 0 * 2048 + k.val = k.val
    omega

theorem g_block (c : Dev nD) (t : Fin cfg0.N) (k : Fin 2048) :
    (iblk m c 3 t : Vec Ideal S1x2048 .f32) (ix2 0 k) = gA m c (ix1 k) := by
  refine (congrArg (V m c main_v2 : Vec Ideal S1x2048 .f32) (funext fun a => Fin.ext ?_)).trans
    ((congrFun (host_g m c) (ix2 0 k)).trans (by pointwise))
  fin_cases a
  · exact (cfg0.win 3).rect_emb_val_of_index_zero t 0 (index_3 t).1 (ix2 0 k)
  · exact (cfg0.win 3).rect_emb_val_of_index_zero t 1 (index_3 t).2 (ix2 0 k)

theorem b_block (c : Dev nD) (t : Fin cfg0.N) (k : Fin 2048) :
    (iblk m c 4 t : Vec Ideal S1x2048 .f32) (ix2 0 k) = bA m c (ix1 k) := by
  refine (congrArg (V m c main_v3 : Vec Ideal S1x2048 .f32) (funext fun a => Fin.ext ?_)).trans
    ((congrFun (host_b m c) (ix2 0 k)).trans (by pointwise))
  fin_cases a
  · exact (cfg0.win 4).rect_emb_val_of_index_zero t 0 (index_4 t).1 (ix2 0 k)
  · exact (cfg0.win 4).rect_emb_val_of_index_zero t 1 (index_4 t).2 (ix2 0 k)

/-! ## The sums over the steps of a block of rows -/

/-- The square of the positive part of the hidden row's entry `f`. -/
def hid (c : Dev nD) (R : Fin 8704) (f : Fin 8192) : EReal :=
  max (∑ d : Fin 2048, xA m c (ix2 R d) * upA m c (ix2 d f)) 0 * max (∑ d : Fin 2048, xA m c (ix2 R d) * upA m c (ix2 d f)) 0

/-- The `j`-th term of the second product at row `R` and place `k`. -/
def term (c : Dev nD) (R : Fin 8704) (k : Fin 2048) (j : ℕ) : EReal :=
  if h : j < 8192 then hid m c R ⟨j, h⟩ * downA m c (ix2 ⟨j, h⟩ k) else 0

/-- What a step adds: 512 consecutive terms. -/
theorem step_sum (c : Dev nD) (t : Fin cfg0.N) (xb : Vec Ideal S512x2048 .bf16) (a : Vec Ideal S512x2048 .f32) (r : Fin 512) (k : Fin 2048)
    (hx : ∀ d, xb (ix2 r d) = xA m c (ix2 (row t.val t.isLt r) d)) :
    k0_pay3 xb (iblk m c 1 t) a (iblk m c 2 t) (ix2 r k)
      = a (ix2 r k) + ∑ j ∈ Finset.range 512, term m c (row t.val t.isLt r) k (512 * (t.val % 16) + j) := by
  refine (acc_apply xb _ a _ r k).trans (congrArg (a (ix2 r k) + ·) ?_)
  rw [Finset.sum_range]
  refine Finset.sum_congr rfl fun f _ => ?_
  have hs : (∑ d : Fin 2048, xb (ix2 r d) * (iblk m c 1 t : Vec Ideal S2048x512 .bf16) (ix2 d f))
      = ∑ d : Fin 2048, xA m c (ix2 (row t.val t.isLt r) d) * upA m c (ix2 d (mid t.val f)) :=
    Finset.sum_congr rfl fun d _ => by rw [hx d, up_block]
  have hl : 512 * (t.val % 16) + f.val < 8192 := (mid t.val f).isLt
  unfold term
  rw [dif_pos hl, hs, down_block]
  rfl

theorem row_congr {n n' : ℕ} (h : n < cfg0.N) (h' : n' < cfg0.N) (e : n / 16 = n' / 16) (r : Fin 512) : row n h r = row n' h' r :=
  Fin.ext (by show 512 * (n / 16) + r.val = 512 * (n' / 16) + r.val; rw [e])

/-- The first step of a block of rows. -/
theorem first (c : Dev nD) (t : Fin cfg0.N) (h0 : t.val % 16 = 0) (r : Fin 512) :
    (∀ d, (outsAt0 m c t.val t.isLt).2.1 (ix2 r d) = xA m c (ix2 (row t.val t.isLt r) d))
    ∧ ∀ k, (outsAt0 m c t.val t.isLt).2.2 (ix2 r k) = ∑ j ∈ Finset.range (512 * (t.val % 16 + 1)), term m c (row t.val t.isLt r) k j := by
  have hx : ∀ d, k0_pay1 (iblk m c 0 t : Vec Ideal S512x2048 .f32) (ix2 r d) = xA m c (ix2 (row t.val t.isLt r) d) :=
    fun d => (rows_apply _ r d).trans (x_block m c t r d)
  have h1 : ¬t.val % 16 = 15 := by omega
  refine ⟨fun d => (congrFun (at_first_rows m c t h0 h1) _).trans (hx d), fun k => (congrFun (at_first_acc m c t h0 h1) _).trans ?_⟩
  rw [step_sum m c t _ _ r k hx, zero_apply, zero_add, h0]
  simp only [Nat.mul_zero, Nat.zero_add, Nat.mul_one]

/-- A later step of a block of rows. -/
theorem next (c : Dev nD) (n : ℕ) (hn : n + 1 < cfg0.N) (h0 : ¬(n + 1) % 16 = 0) (r : Fin 512)
    (ih : (∀ d, (outsAt0 m c n (Nat.lt_of_succ_lt hn)).2.1 (ix2 r d) = xA m c (ix2 (row n (Nat.lt_of_succ_lt hn) r) d))
      ∧ ∀ k, (outsAt0 m c n (Nat.lt_of_succ_lt hn)).2.2 (ix2 r k) = ∑ j ∈ Finset.range (512 * (n % 16 + 1)), term m c (row n (Nat.lt_of_succ_lt hn) r) k j) :
    (∀ d, (outsAt0 m c (n + 1) hn).2.1 (ix2 r d) = xA m c (ix2 (row (n + 1) hn r) d))
    ∧ ∀ k, (outsAt0 m c (n + 1) hn).2.2 (ix2 r k) = ∑ j ∈ Finset.range (512 * ((n + 1) % 16 + 1)), term m c (row (n + 1) hn r) k j := by
  have er : row n (Nat.lt_of_succ_lt hn) r = row (n + 1) hn r := row_congr _ _ (by omega) r
  rw [er] at ih
  have es : 512 * ((n + 1) % 16 + 1) = 512 * (n % 16 + 1) + 512 := by omega
  have em : 512 * ((n + 1) % 16) = 512 * (n % 16 + 1) := by omega
  have hs : ∀ k, k0_pay3 (outsAt0 m c n (Nat.lt_of_succ_lt hn)).2.1 (iblk m c 1 ⟨n + 1, hn⟩) (outsAt0 m c n (Nat.lt_of_succ_lt hn)).2.2 (iblk m c 2 ⟨n + 1, hn⟩) (ix2 r k)
      = ∑ j ∈ Finset.range (512 * ((n + 1) % 16 + 1)), term m c (row (n + 1) hn r) k j := fun k => by
    rw [step_sum m c ⟨n + 1, hn⟩ _ _ r k ih.1, ih.2 k, es, Finset.sum_range_add]
    show _ + ∑ j ∈ Finset.range 512, term m c (row (n + 1) hn r) k (512 * ((n + 1) % 16) + j) = _
    rw [em]
  by_cases h1 : (n + 1) % 16 = 15
  · exact ⟨fun d => (congrFun (at_last_rows m c ⟨n + 1, hn⟩ h0 h1) _).trans (ih.1 d), fun k => (congrFun (at_last_acc m c ⟨n + 1, hn⟩ h0 h1) _).trans (hs k)⟩
  · exact ⟨fun d => (congrFun (at_middle_rows m c ⟨n + 1, hn⟩ h0 h1) _).trans (ih.1 d), fun k => (congrFun (at_middle_acc m c ⟨n + 1, hn⟩ h0 h1) _).trans (hs k)⟩

/-- After step `n` the scratch arrays hold the block's rows and the first `512 (n mod 16 + 1)` terms of its sums. -/
theorem held (c : Dev nD) : ∀ (n : ℕ) (hn : n < cfg0.N) (r : Fin 512),
    (∀ d, (outsAt0 m c n hn).2.1 (ix2 r d) = xA m c (ix2 (row n hn r) d))
    ∧ ∀ k, (outsAt0 m c n hn).2.2 (ix2 r k) = ∑ j ∈ Finset.range (512 * (n % 16 + 1)), term m c (row n hn r) k j := by
  intro n
  induction n with
  | zero => intro hn r; exact first m c ⟨0, hn⟩ rfl r
  | succ n ih =>
    intro hn r
    by_cases h0 : (n + 1) % 16 = 0
    · exact first m c ⟨n + 1, hn⟩ h0 r
    · exact next m c n hn h0 r (ih (Nat.lt_of_succ_lt hn) r)

/-- The result at row `R` and place `k`. -/
def outAt (c : Dev nD) (R : Fin 8704) (k : Fin 2048) : EReal :=
  lnAt (fun j => Ideal.ofBits .f32 0x3FD744FD#32 * xA m c (ix2 R j) + ∑ f : Fin 8192, hid m c R f * downA m c (ix2 f j)) k
    (gA m c (ix1 k)) (bA m c (ix1 k))

/-- What the last step of a block of rows writes. -/
theorem written (c : Dev nD) (t : Fin cfg0.N) (h1 : t.val % 16 = 15) (r : Fin 512) (k : Fin 2048) :
    (outsAt0 m c t.val t.isLt).1 (ix2 r k) = outAt m c (row t.val t.isLt r) k := by
  have h0 : ¬t.val % 16 = 0 := by omega
  have hp : t.val - 1 < cfg0.N := Nat.lt_of_le_of_lt (Nat.sub_le _ _) t.isLt
  have hacc := fun j => (held m c t.val t.isLt r).2 j
  have hsum : ∀ j, k0_pay3 (outsAt0 m c (t.val - 1) hp).2.1 (iblk m c 1 t) (outsAt0 m c (t.val - 1) hp).2.2 (iblk m c 2 t) (ix2 r j)
      = ∑ f : Fin 8192, hid m c (row t.val t.isLt r) f * downA m c (ix2 f j) := fun j => by
    refine ((congrFun (at_last_acc m c t h0 h1) _).symm.trans (hacc j)).trans ?_
    rw [h1]
    show ∑ i ∈ Finset.range 8192, _ = _
    rw [Finset.sum_range]
    refine Finset.sum_congr rfl fun f _ => ?_
    unfold term
    rw [dif_pos f.isLt]
  refine (congrFun (at_last_out m c t h0 h1) _).trans ((out_apply _ _ _ _ r k).trans ?_)
  unfold outAt
  rw [g_block, b_block]
  congr 1
  funext j
  rw [x_block, hsum]

/-- The result array. -/
theorem result_apply (c : Dev nD) (R : Fin 8704) (k : Fin 2048) : Cert.MlpIdeal.Value.G5 m c (ix2 R k) = outAt m c R k := by
  have hR := R.isLt
  have hk := k.isLt
  have e : Cert.MlpIdeal.Value.pt5Of (ix2 R k) = 16 * (R.val / 512) + 15 := by
    show 16 * (1 * (R.val / 512 - 0) + 1 * (k.val / 2048 - 0)) + 15 = _
    omega
  have hlt : Cert.MlpIdeal.Value.pt5Of (ix2 R k) < cfg0.N := by
    rw [e]
    exact Nat.lt_of_lt_of_eq (by omega) N_0.symm
  unfold Cert.MlpIdeal.Value.G5
  rw [dif_pos hlt, ← Cert.MlpIdeal.Value.outsAt0_sweep m c _ hlt]
  have el : Cert.MlpIdeal.Value.loc5Of (ix2 R k) = ix2 (⟨R.val % 512, by omega⟩ : Fin 512) k := by
    funext a
    fin_cases a
    · rfl
    · exact Fin.ext (Nat.mod_eq_of_lt hk)
  rw [el]
  refine (written m c ⟨_, hlt⟩ (by show Cert.MlpIdeal.Value.pt5Of (ix2 R k) % 16 = 15; omega) _ k).trans (congrArg (outAt m c · k) (Fin.ext ?_))
  show 512 * (Cert.MlpIdeal.Value.pt5Of (ix2 R k) / 16) + R.val % 512 = R.val
  omega

end Cert.MlpIdeal.Val

end
-- ==== Proof.MlpRef.lean ====
/- The MLP's reference over the reals, at an index. -/
module

public import proofs.«01_k».proof.Proof.Norm
public import proofs.«01_k».proof.Proof.Gen.MlpReferenceIdeal.Run
public import Idealize.ShloMosaic.Lib.Pointwise
public import Idealize.ShloMosaic.Lib.IdealHost

@[expose] public section

set_option maxRecDepth 16384

noncomputable section

namespace Cert.MlpReferenceIdeal.Val

open Idealize.ShloMosaic Idealize.ShloMosaic.TcCoe Idealize.ShloMosaic.Tactic
open Cert.MlpReferenceIdeal Cert.MlpReferenceIdeal.Gen
open Cert.Norm (lnAt)

/-- The layer norm of a row as the host computes it, at an index. -/
theorem result_apply (m : (ℓ : Loc nD τ sig) → Buf (Elt Ideal) ℓ) (c : Dev nD)
    (x : Vec Ideal S8704x2048 .f32) (hx : m ((c : Thread nD τ).loc main_arg0) = x)
    (u : Vec Ideal S2048x8192 .f32) (hu : m ((c : Thread nD τ).loc main_arg1) = u)
    (w : Vec Ideal S8192x2048 .f32) (hw : m ((c : Thread nD τ).loc main_arg2) = w)
    (g : Vec Ideal S2048 .f32) (hg : m ((c : Thread nD τ).loc main_arg3) = g)
    (b : Vec Ideal S2048 .f32) (hb : m ((c : Thread nD τ).loc main_arg4) = b)
    (R : Fin 8704) (k : Fin 2048) :
    (Cert.MlpReferenceIdeal.Value.res_main_v30 m c : Vec Ideal S8704x2048 .f32) (ix2 R k)
      = lnAt (fun j => Ideal.ofBits .f32 0x3FD744FD#32 * x (ix2 R j) + ∑ f : Fin 8192,
          (max (∑ d : Fin 2048, x (ix2 R d) * u (ix2 d f)) 0 * max (∑ d : Fin 2048, x (ix2 R d) * u (ix2 d f)) 0) * w (ix2 f j)) k
          (g (ix1 k)) (b (ix1 k)) := by
  unfold Cert.MlpReferenceIdeal.Value.res_main_v30 lnAt
  rw [hx, hu, hw, hg, hb]
  pointwise

end Cert.MlpReferenceIdeal.Val

end
-- ==== Proof.MlpMeet.lean ====
/- The MLP kernel and its reference meet: both are the layer norm of the scaled row plus the MLP's row. -/
module

public import proofs.«01_k».proof.Proof.MlpValue
public import proofs.«01_k».proof.Proof.MlpRef

@[expose] public section

set_option maxRecDepth 16384

noncomputable section

namespace Cert.MlpMeet

open Idealize.ShloMosaic Idealize.ShloMosaic.TcCoe

/-- From equal arguments the reference's result is the kernel's. -/
theorem result_eq (m : (ℓ : Loc Cert.MlpIdeal.nD Cert.MlpIdeal.τ Cert.MlpIdeal.sig) → Buf (Elt Ideal) ℓ)
    (m' : (ℓ : Loc Cert.MlpReferenceIdeal.nD Cert.MlpReferenceIdeal.τ Cert.MlpReferenceIdeal.sig) → Buf (Elt Ideal) ℓ)
    (c : Dev Cert.MlpIdeal.nD)
    (h0 : m' ((c : Thread Cert.MlpReferenceIdeal.nD Cert.MlpReferenceIdeal.τ).loc Cert.MlpReferenceIdeal.main_arg0) = Cert.MlpIdeal.Val.xA m c)
    (h1 : m' ((c : Thread Cert.MlpReferenceIdeal.nD Cert.MlpReferenceIdeal.τ).loc Cert.MlpReferenceIdeal.main_arg1) = Cert.MlpIdeal.Val.upA m c)
    (h2 : m' ((c : Thread Cert.MlpReferenceIdeal.nD Cert.MlpReferenceIdeal.τ).loc Cert.MlpReferenceIdeal.main_arg2) = Cert.MlpIdeal.Val.downA m c)
    (h3 : m' ((c : Thread Cert.MlpReferenceIdeal.nD Cert.MlpReferenceIdeal.τ).loc Cert.MlpReferenceIdeal.main_arg3) = Cert.MlpIdeal.Val.gA m c)
    (h4 : m' ((c : Thread Cert.MlpReferenceIdeal.nD Cert.MlpReferenceIdeal.τ).loc Cert.MlpReferenceIdeal.main_arg4) = Cert.MlpIdeal.Val.bA m c) :
    Cert.MlpReferenceIdeal.Value.res_main_v30 m' c = Cert.MlpIdeal.Value.G5 m c := by
  funext i
  obtain ⟨R, k, rfl⟩ : ∃ (R : Fin 8704) (k : Fin 2048), i = ix2 R k := ⟨i 0, i 1, by funext a; fin_cases a <;> rfl⟩
  exact (Cert.MlpReferenceIdeal.Val.result_apply m' c _ h0 _ h1 _ h2 _ h3 _ h4 R k).trans (Cert.MlpIdeal.Val.result_apply m c R k).symm

end Cert.MlpMeet

end
-- ==== Proof.GdnInValue.lean ====
/- The DeltaNet layer's input projection: what its steps leave, and over the reals the product they add up to. -/
module

public import proofs.«01_k».proof.Proof.Gen.GdnInIdeal.Value
public import Idealize.ShloMosaic.Lib.VecWindow
public import Idealize.ShloMosaic.Lib.Pointwise
public import Idealize.ShloMosaic.Lib.Pipeline.ValueKit
public import Idealize.ShloMosaic.Lib.IdealHost

@[expose] public section

set_option maxRecDepth 16384

noncomputable section

namespace Cert.GdnInIdeal.Val

open Idealize.ShloMosaic Idealize.ShloMosaic.TcCoe Idealize.ShloMosaic.Tactic
open Idealize.ShloMosaic.Pipeline (Dat Cfg Window)
open Cert.GdnInIdeal.Gen

section Steps

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

section Buffers

variable (c : Dev nD) (i : grid0.Coords)
  (arg2 : Memref sig .tc .vmem S512x2048 .f32) (harg2 : arg2.IsWhole)
  (arg3 : Memref sig .tc .vmem S2048x1024 .bf16) (harg3 : arg3.IsWhole)
  (arg4 : Memref sig .tc .vmem S512x1024 .f32) (harg4 : arg4.IsWhole)
  (arg5 : Memref sig .tc .vmem S512x2048 .bf16) (harg5 : arg5.IsWhole)

/-- The first step of a block of rows keeps the rows, cast, in the scratch array. -/
theorem first_rows (hc0 : cond0_0 i)
    (x0 : Vec F S512x2048 .f32) (x1 : Vec F S2048x1024 .bf16) :
    sout0_A_0 c i arg2 harg2 arg3 harg3 arg4 harg4 arg5 harg5 hc0 x0 x1 = k0_pay1 x0 := by
  unfold sout0_A_0 kernelRun0_A
  dsimp only
  refine (View.read_writes_full ..).trans ?_
  have e1 := load_whole harg2 x0 inb_S512x2048_S512x2048_0_0
  exact congrArg (fun z => k0_pay1 z) e1

/-- The first step of a block of rows writes the product of the cast rows with its block of columns. -/
theorem first_out (hc0 : cond0_0 i)
    (x0 : Vec F S512x2048 .f32) (x1 : Vec F S2048x1024 .bf16) :
    out0_A_2 c i arg2 harg2 arg3 harg3 arg4 harg4 arg5 harg5 hc0 x0 x1 = k0_pay2 (k0_pay1 x0) x1 := by
  unfold out0_A_2 kernelRun0_A
  dsimp only
  refine (View.read_writes_full ..).trans ?_
  have e1 := load_whole harg2 x0 inb_S512x2048_S512x2048_0_0
  have e2 := load_whole harg3 x1 inb_S2048x1024_S2048x1024_0_0
  have e3 : kernelRun0_A.sl.v3 c arg2 harg2 arg5 x0 = k0_pay1 x0 := by
    unfold kernelRun0_A.sl.v3
    exact (View.readCov_full ..).trans (congrArg (fun z => k0_pay1 z) e1)
  rw [e3]
  exact congrArg (fun z => k0_pay2 _ z) e2

/-- A later step writes the product of the kept rows with its block of columns. -/
theorem later_out (hc0 : ¬cond0_0 i)
    (x0 : Vec F S512x2048 .f32) (x1 : Vec F S2048x1024 .bf16) (xs0 : Vec F S512x2048 .bf16) :
    out0_B_2 c i arg2 harg2 arg3 harg3 arg4 harg4 arg5 harg5 hc0 x0 x1 xs0 = k0_pay2 xs0 x1 := by
  unfold out0_B_2 kernelRun0_B
  dsimp only
  refine (View.read_writes_full ..).trans ?_
  have e2 := load_whole harg3 x1 inb_S2048x1024_S2048x1024_0_0
  have e3 := load_whole harg5 xs0 inb_S512x2048_S512x2048_0_0
  exact (congrArg (fun z => k0_pay2 z _) e3).trans (congrArg (fun z => k0_pay2 xs0 z) e2)

end Buffers

variable (m : (ℓ : Loc nD τ sig) → Buf (Elt F) ℓ)

theorem at_first_rows (c : Dev nD) (t : Fin cfg0.N) (h0 : t.val % 12 = 0) :
    (outsAt0 m c t.val t.isLt).2 = k0_pay1 (F := F) (iblk m c 0 t : Vec F S512x2048 .f32) := by
  have e := first_rows c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  rw [outsAt0_A m c t h0]
  dsimp only
  rw [e]

theorem at_first_out (c : Dev nD) (t : Fin cfg0.N) (h0 : t.val % 12 = 0) :
    (outsAt0 m c t.val t.isLt).1 = k0_pay2 (F := F) (k0_pay1 (F := F) (iblk m c 0 t : Vec F S512x2048 .f32)) (iblk m c 1 t : Vec F S2048x1024 .bf16) := by
  have e := first_out c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  rw [outsAt0_A m c t h0]
  dsimp only
  rw [e]

theorem at_later_rows (c : Dev nD) (t : Fin cfg0.N) (h0 : ¬t.val % 12 = 0) :
    (outsAt0 m c t.val t.isLt).2 = (outsAt0 m c (t.val - 1) (Nat.lt_of_le_of_lt (Nat.sub_le _ _) t.isLt)).2 := by
  rw [outsAt0_B m c t h0]
  rfl

theorem at_later_out (c : Dev nD) (t : Fin cfg0.N) (h0 : ¬t.val % 12 = 0) :
    (outsAt0 m c t.val t.isLt).1 = k0_pay2 (F := F) (outsAt0 m c (t.val - 1) (Nat.lt_of_le_of_lt (Nat.sub_le _ _) t.isLt)).2 (iblk m c 1 t : Vec F S2048x1024 .bf16) := by
  have e := later_out c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2
  rw [outsAt0_B m c t h0]
  dsimp only
  rw [e]

end Steps

/-! ## One step at an index -/

theorem rows_apply (x : Vec Ideal S512x2048 .f32) (r : Fin 512) (f : Fin 2048) : k0_pay1 x (ix2 r f) = x (ix2 r f) := by
  pointwise [k0_pay1]

theorem product_apply (a : Vec Ideal S512x2048 .bf16) (w : Vec Ideal S2048x1024 .bf16) (r : Fin 512) (k : Fin 1024) :
    k0_pay2 a w (ix2 r k) = ∑ f : Fin 2048, a (ix2 r f) * w (ix2 f k) := by
  pointwise [k0_pay2]

/-! ## The blocks a step is given -/

variable (m : (ℓ : Loc nD τ sig) → Buf (Elt Ideal) ℓ)

/-- The arguments: the rows, and the weights with all their columns. -/
def xA (c : Dev nD) : Vec Ideal S8704x2048 .f32 := m ((c : Thread nD τ).loc main_arg0)
def wA (c : Dev nD) : Vec Ideal S2048x12352 .f32 := m ((c : Thread nD τ).loc main_arg1)

theorem index_0 : ∀ t : Fin cfg0.N, (cfg0.win 0).index t 0 = t.val / 12 ∧ (cfg0.win 0).index t 1 = 0 := by decide +kernel
theorem index_1 : ∀ t : Fin cfg0.N, (cfg0.win 1).index t 0 = 0 ∧ (cfg0.win 1).index t 1 = t.val % 12 := by decide +kernel

theorem host_w (c : Dev nD) : (V m c main_v1 : Vec Ideal S2048x12288 .bf16)
    = (truncf .bf16 (extractStridedSlice S2048x12288 ![0, 0] (wA m c) slices_S2048x12352_S2048x12288_0_0 : FVec Ideal S2048x12288 .f32) bitsLt_bf16_f32 : FVec Ideal S2048x12288 .bf16) := by
  unfold_abbrev_sides
  after_results
  rfl

/-- The row of the argument that row `r` of the block at step `n` is. -/
def row (n : ℕ) (h : n < cfg0.N) (r : Fin 512) : Fin 8704 :=
  ⟨512 * (n / 12) + r.val, by have := Nat.lt_of_lt_of_eq h N_0; have := r.isLt; omega⟩

/-- The column that column `k` of the block at step `n` is, among those multiplied and among all. -/
def col (n : ℕ) (k : Fin 1024) : Fin 12288 := ⟨1024 * (n % 12) + k.val, by have := k.isLt; omega⟩
def wide (k : Fin 12288) : Fin 12352 := ⟨k.val, by have := k.isLt; omega⟩

theorem w_columns (c : Dev nD) (f : Fin 2048) (k : Fin 12288) : (V m c main_v1 : Vec Ideal S2048x12288 .bf16) (ix2 f k) = wA m c (ix2 f (wide k)) := by
  refine (congrFun (host_w m c) (ix2 f k)).trans ?_
  generalize wA m c = w
  refine congrArg w (funext fun a => Fin.ext ?_)
  fin_cases a
  · show 0 + f.val = f.val
    omega
  · show 0 + k.val = k.val
    omega

theorem x_block (c : Dev nD) (t : Fin cfg0.N) (r : Fin 512) (f : Fin 2048) :
    (iblk m c 0 t : Vec Ideal S512x2048 .f32) (ix2 r f) = xA m c (ix2 (row t.val t.isLt r) f) := by
  refine (congrArg (V m c main_arg0 : Vec Ideal S8704x2048 .f32) (funext fun a => Fin.ext ?_)).trans (congrFun (V_main_arg0 m c) _)
  fin_cases a
  · refine ((cfg0.win 0).rect_emb_val t (ix2 r f) 0).trans ?_
    rw [(index_0 t).1]
    show t.val / 12 * 512 + r.val = 512 * (t.val / 12) + r.val
    omega
  · refine ((cfg0.win 0).rect_emb_val t (ix2 r f) 1).trans ?_
    rw [(index_0 t).2]
    show 0 * 2048 + f.val = f.val
    omega

theorem w_block (c : Dev nD) (t : Fin cfg0.N) (f : Fin 2048) (k : Fin 1024) :
    (iblk m c 1 t : Vec Ideal S2048x1024 .bf16) (ix2 f k) = wA m c (ix2 f (wide (col t.val k))) := by
  refine (congrArg (V m c main_v1 : Vec Ideal S2048x12288 .bf16) (funext fun a => Fin.ext ?_)).trans (w_columns m c f (col t.val k))
  fin_cases a
  · refine ((cfg0.win 1).rect_emb_val t (ix2 f k) 0).trans ?_
    rw [(index_1 t).1]
    show 0 * 2048 + f.val = f.val
    omega
  · refine ((cfg0.win 1).rect_emb_val t (ix2 f k) 1).trans ?_
    rw [(index_1 t).2]
    show t.val % 12 * 1024 + k.val = 1024 * (t.val % 12) + k.val
    omega

/-! ## What the steps leave -/

theorem first (c : Dev nD) (t : Fin cfg0.N) (h0 : t.val % 12 = 0) (r : Fin 512) (f : Fin 2048) :
    (outsAt0 m c t.val t.isLt).2 (ix2 r f) = xA m c (ix2 (row t.val t.isLt r) f) :=
  (congrFun (at_first_rows m c t h0) _).trans ((rows_apply _ r f).trans (x_block m c t r f))

/-- After every step the scratch array holds the step's block of rows. -/
theorem held (c : Dev nD) : ∀ (n : ℕ) (hn : n < cfg0.N) (r : Fin 512) (f : Fin 2048),
    (outsAt0 m c n hn).2 (ix2 r f) = xA m c (ix2 (row n hn r) f) := by
  intro n
  induction n with
  | zero => intro hn r f; exact first m c ⟨0, hn⟩ rfl r f
  | succ n ih =>
    intro hn r f
    by_cases h0 : (n + 1) % 12 = 0
    · exact first m c ⟨n + 1, hn⟩ h0 r f
    · refine (congrFun (at_later_rows m c ⟨n + 1, hn⟩ h0) _).trans ((ih (Nat.lt_of_succ_lt hn) r f).trans
        (congrArg (fun z => xA m c (ix2 z f)) (Fin.ext ?_)))
      show 512 * (n / 12) + r.val = 512 * ((n + 1) / 12) + r.val
      omega

/-- The result at row `R` and column `k`. -/
def outAt (c : Dev nD) (R : Fin 8704) (k : Fin 12288) : EReal :=
  ∑ f : Fin 2048, xA m c (ix2 R f) * wA m c (ix2 f (wide k))

/-- What every step writes. -/
theorem written (c : Dev nD) (t : Fin cfg0.N) (r : Fin 512) (k : Fin 1024) :
    (outsAt0 m c t.val t.isLt).1 (ix2 r k) = outAt m c (row t.val t.isLt r) (col t.val k) := by
  have hp : t.val - 1 < cfg0.N := Nat.lt_of_le_of_lt (Nat.sub_le _ _) t.isLt
  unfold outAt
  by_cases h0 : t.val % 12 = 0
  · refine (congrFun (at_first_out m c t h0) _).trans ((product_apply _ _ r k).trans ?_)
    refine Finset.sum_congr rfl fun f _ => ?_
    rw [rows_apply, x_block, w_block]
  · refine (congrFun (at_later_out m c t h0) _).trans ((product_apply _ _ r k).trans ?_)
    refine Finset.sum_congr rfl fun f _ => ?_
    rw [w_block, ← at_later_rows m c t h0, held]

/-- The result array. -/
theorem result_apply (c : Dev nD) (R : Fin 8704) (k : Fin 12288) : Cert.GdnInIdeal.Value.G2 m c (ix2 R k) = outAt m c R k := by
  have hR := R.isLt
  have hk := k.isLt
  have e : Cert.GdnInIdeal.Value.pt2Of (ix2 R k) = 12 * (R.val / 512) + k.val / 1024 := by
    show 12 * (R.val / 512 - 0) + 1 * (k.val / 1024 - 0) = _
    omega
  have hlt : Cert.GdnInIdeal.Value.pt2Of (ix2 R k) < cfg0.N := by
    rw [e]
    exact Nat.lt_of_lt_of_eq (by omega) N_0.symm
  unfold Cert.GdnInIdeal.Value.G2
  rw [dif_pos hlt, ← Cert.GdnInIdeal.Value.outsAt0_sweep m c _ hlt]
  have el : Cert.GdnInIdeal.Value.loc2Of (ix2 R k) = ix2 (⟨R.val % 512, by omega⟩ : Fin 512) (⟨k.val % 1024, by omega⟩ : Fin 1024) := by
    funext a
    fin_cases a <;> rfl
  rw [el]
  refine (written m c ⟨_, hlt⟩ _ _).trans (congrArg₂ (outAt m c) (Fin.ext ?_) (Fin.ext ?_))
  · show 512 * (Cert.GdnInIdeal.Value.pt2Of (ix2 R k) / 12) + R.val % 512 = R.val
    omega
  · show 1024 * (Cert.GdnInIdeal.Value.pt2Of (ix2 R k) % 12) + k.val % 1024 = k.val
    omega

end Cert.GdnInIdeal.Val

end
-- ==== Proof.GdnInMeet.lean ====
/- The DeltaNet layer's input projection and its reference meet: both are the product at the columns multiplied. -/
module

public import proofs.«01_k».proof.Proof.GdnInValue
public import proofs.«01_k».proof.Proof.Gen.GdnInReferenceIdeal.Run

@[expose] public section

set_option maxRecDepth 16384

noncomputable section

namespace Cert.GdnInMeet

open Idealize.ShloMosaic Idealize.ShloMosaic.TcCoe Idealize.ShloMosaic.Tactic Idealize.SL.Sem
open Cert.GdnInReferenceIdeal Cert.GdnInReferenceIdeal.Gen

/-- From equal arguments the reference leaves the kernel's result, and its arguments as they were. -/
theorem run_eq (m : (ℓ : Loc Cert.GdnInIdeal.nD Cert.GdnInIdeal.τ Cert.GdnInIdeal.sig) → Buf (Elt Ideal) ℓ)
    (m' : (ℓ : Loc nD τ sig) → Buf (Elt Ideal) ℓ) (g' : Dev nD → PrngReg)
    (h0 : ∀ c : Dev Cert.GdnInReferenceIdeal.nD, m' ((c.tc : Thread nD τ).loc main_arg0) = Cert.GdnInIdeal.Val.xA m c)
    (h1 : ∀ c : Dev Cert.GdnInReferenceIdeal.nD, m' ((c.tc : Thread nD τ).loc main_arg1) = Cert.GdnInIdeal.Val.wA m c) :
    θ_run defs (onTc (τ := τ) (main (F := Ideal))) ⟨m', fun _ => 0, g'⟩ fun r => ∀ c : Dev nD,
      r.2.mem ((c.tc : Thread nD τ).loc main_v1) = Cert.GdnInIdeal.Value.G2 m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun r hr c => ⟨(hr c).1.trans ?_, (hr c).2⟩) (Cert.GdnInReferenceIdeal.Value.run m' g')
  rw [h0 c, h1 c]
  funext i
  obtain ⟨R, k, rfl⟩ : ∃ (R : Fin 8704) (k : Fin 12288), i = ix2 R k := ⟨i 0, i 1, by funext a; fin_cases a <;> rfl⟩
  refine Eq.trans ?_ (Cert.GdnInIdeal.Val.result_apply m c R k).symm
  unfold Cert.GdnInIdeal.Val.outAt
  generalize Cert.GdnInIdeal.Val.xA m c = x
  generalize Cert.GdnInIdeal.Val.wA m c = w
  have es : ∀ y : FVec Ideal S8704x12352 .f32, extractStridedSlice S8704x12288 ![0, 0] y slices_S8704x12352_S8704x12288_0_0 (ix2 R k)
      = y (ix2 R (Cert.GdnInIdeal.Val.wide k)) := fun y => by
    refine congrArg y (funext fun a => Fin.ext ?_)
    fin_cases a
    · show 0 + R.val = R.val
      omega
    · show 0 + k.val = k.val
      omega
  refine (es _).trans ?_
  pointwise

end Cert.GdnInMeet

end
-- ==== Proof.ProjValue.lean ====
/- The projection of a mixer's 2048 columns with the layer norm after it: what its steps leave, and over the reals what they add up to. -/
module

public import proofs.«01_k».proof.Proof.Norm
public import proofs.«01_k».proof.Proof.Gen.ProjIdeal.Value
public import Idealize.ShloMosaic.Lib.VecWindow
public import Idealize.ShloMosaic.Lib.Pointwise
public import Idealize.ShloMosaic.Lib.Pipeline.ValueKit
public import Idealize.ShloMosaic.Lib.IdealHost

@[expose] public section

set_option maxRecDepth 16384

noncomputable section

namespace Cert.ProjIdeal.Val

open Idealize.ShloMosaic Idealize.ShloMosaic.TcCoe Idealize.ShloMosaic.Tactic
open Idealize.ShloMosaic.Pipeline (Dat Cfg Window)
open Cert.ProjIdeal.Gen
open Cert.Norm (lnAt)

section Steps

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

section Buffers

variable (c : Dev nD) (i : grid0.Coords)
  (arg2 : Memref sig .tc .vmem S512x1024 .bf16) (harg2 : arg2.IsWhole)
  (arg3 : Memref sig .tc .vmem S1024x2048 .bf16) (harg3 : arg3.IsWhole)
  (arg4 : Memref sig .tc .vmem S512x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .f32) (harg7 : arg7.IsWhole)
  (arg8 : Memref sig .tc .vmem S512x2048 .f32) (harg8 : arg8.IsWhole)

/-- The first step of a block of rows starts the sums at its own product. -/
theorem first_acc (hc0 : cond0_0 i) (hc1 : ¬cond0_1 i)
    (x0 : Vec F S512x1024 .bf16) (x1 : Vec F S1024x2048 .bf16) (x2 : Vec F S512x2048 .f32) (x3 : Vec F S1x2048 .f32) (x4 : Vec F S1x2048 .f32) :
    sout0_A_0 c i arg2 harg2 arg3 harg3 arg4 harg4 arg5 harg5 arg6 harg6 arg7 harg7 arg8 harg8 hc0 hc1 x0 x1 x2 x3 x4 = k0_pay2 k0_pay1 x0 x1 := by
  unfold sout0_A_0 kernelRun0_A
  dsimp only
  refine (View.read_writes_full ..).trans ?_
  have e8 : kernelRun0_A.sl.v3 c arg8 = k0_pay1 (F := F) := by
    unfold kernelRun0_A.sl.v3
    exact View.readCov_full ..
  have e1 := load_whole harg2 x0 inb_S512x1024_S512x1024_0_0
  have e2 := load_whole harg3 x1 inb_S1024x2048_S1024x2048_0_0
  rw [e8]
  exact (congrArg (fun z => k0_pay2 _ z _) e1).trans (congrArg (fun z => k0_pay2 _ x0 z) e2)

/-- The last step adds its product to the sums. -/
theorem last_acc (hc0 : ¬cond0_0 i) (hc1 : cond0_1 i)
    (x0 : Vec F S512x1024 .bf16) (x1 : Vec F S1024x2048 .bf16) (x2 : Vec F S512x2048 .f32) (x3 : Vec F S1x2048 .f32) (x4 : Vec F S1x2048 .f32) (xs0 : Vec F S512x2048 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0 kernelRun0_B
  dsimp only
  refine (View.read_writes_full ..).trans ?_
  have e1 := load_whole harg2 x0 inb_S512x1024_S512x1024_0_0
  have e2 := load_whole harg3 x1 inb_S1024x2048_S1024x2048_0_0
  have e8 := load_whole harg8 xs0 inb_S512x2048_S512x2048_0_0
  exact (congrArg (fun z => k0_pay2 z _ _) e8).trans ((congrArg (fun z => k0_pay2 xs0 z _) e1).trans (congrArg (fun z => k0_pay2 xs0 x0 z) e2))

/-- The last step writes the layer norm of the rows, scaled, plus the sums. -/
theorem last_out (hc0 : ¬cond0_0 i) (hc1 : cond0_1 i)
    (x0 : Vec F S512x1024 .bf16) (x1 : Vec F S1024x2048 .bf16) (x2 : Vec F S512x2048 .f32) (x3 : Vec F S1x2048 .f32) (x4 : Vec F S1x2048 .f32) (xs0 : Vec F S512x2048 .f32) :
    out0_B_5 c i arg2 harg2 arg3 harg3 arg4 harg4 arg5 harg5 arg6 harg6 arg7 harg7 arg8 harg8 hc0 hc1 x0 x1 x2 x3 x4 xs0 = k0_pay3 x2 (k0_pay2 xs0 x0 x1) x3 x4 := by
  unfold out0_B_5 kernelRun0_B
  dsimp only
  refine (View.read_writes_full ..).trans ?_
  have ea : kernelRun0_B.sl.v18 c arg2 harg2 arg3 harg3 arg8 harg8 x0 x1 xs0 = k0_pay2 xs0 x0 x1 := by
    unfold kernelRun0_B.sl.v18
    refine (View.readCov_full ..).trans ?_
    have e1 := load_whole harg2 x0 inb_S512x1024_S512x1024_0_0
    have e2 := load_whole harg3 x1 inb_S1024x2048_S1024x2048_0_0
    have e8 := load_whole harg8 xs0 inb_S512x2048_S512x2048_0_0
    exact (congrArg (fun z => k0_pay2 z _ _) e8).trans ((congrArg (fun z => k0_pay2 xs0 z _) e1).trans (congrArg (fun z => k0_pay2 xs0 x0 z) e2))
  have f2 := load_whole harg4 x2 inb_S512x2048_S512x2048_0_0
  have f3 := load_whole harg5 x3 inb_S1x2048_S1x2048_0_0
  have f4 := load_whole harg6 x4 inb_S1x2048_S1x2048_0_0
  rw [ea]
  exact (congrArg (fun z => k0_pay3 z _ _ _) f2).trans ((congrArg (fun z => k0_pay3 x2 _ z _) f3).trans
    (congrArg (fun z => k0_pay3 x2 _ x3 z) f4))

end Buffers

variable (m : (ℓ : Loc nD τ sig) → Buf (Elt F) ℓ)

theorem at_first_acc (c : Dev nD) (t : Fin cfg0.N) (h0 : t.val % 2 = 0) (h1 : ¬t.val % 2 = 1) :
    (outsAt0 m c t.val t.isLt).2 = k0_pay2 (F := F) (k0_pay1 (F := F)) (iblk m c 0 t : Vec F S512x1024 .bf16) (iblk m c 1 t : Vec F S1024x2048 .bf16) := by
  have e := first_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1]
  dsimp only
  rw [e]

theorem at_last_acc (c : Dev nD) (t : Fin cfg0.N) (h0 : ¬t.val % 2 = 0) (h1 : t.val % 2 = 1) :
    (outsAt0 m c t.val t.isLt).2 = k0_pay2 (F := F) (outsAt0 m c (t.val - 1) (Nat.lt_of_le_of_lt (Nat.sub_le _ _) t.isLt)).2 (iblk m c 0 t : Vec F S512x1024 .bf16) (iblk m c 1 t : Vec F S1024x2048 .bf16) := by
  have e := last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_B m c t h0 h1]
  dsimp only
  rw [e]

theorem at_last_out (c : Dev nD) (t : Fin cfg0.N) (h0 : ¬t.val % 2 = 0) (h1 : t.val % 2 = 1) :
    (outsAt0 m c t.val t.isLt).1 = k0_pay3 (F := F) (iblk m c 2 t : Vec F S512x2048 .f32) (k0_pay2 (F := F) (outsAt0 m c (t.val - 1) (Nat.lt_of_le_of_lt (Nat.sub_le _ _) t.isLt)).2 (iblk m c 0 t : Vec F S512x1024 .bf16) (iblk m c 1 t : Vec F S1024x2048 .bf16)) (iblk m c 3 t : Vec F S1x2048 .f32) (iblk m c 4 t : Vec F S1x2048 .f32) := by
  have e := last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_B m c t h0 h1]
  dsimp only
  rw [e]

end Steps

/-! ## One step at an index -/

theorem zero_apply (r : Fin 512) (k : Fin 2048) : k0_pay1 (F := Ideal) (ix2 r k) = 0 := by
  pointwise [k0_pay1]

theorem acc_apply (s : Vec Ideal S512x2048 .f32) (a : Vec Ideal S512x1024 .bf16) (w : Vec Ideal S1024x2048 .bf16) (r : Fin 512) (k : Fin 2048) :
    k0_pay2 s a w (ix2 r k) = s (ix2 r k) + ∑ f : Fin 1024, a (ix2 r f) * w (ix2 f k) := by
  pointwise [k0_pay2]

theorem out_apply (x s : Vec Ideal S512x2048 .f32) (g b : Vec Ideal S1x2048 .f32) (r : Fin 512) (k : Fin 2048) :
    k0_pay3 x s g b (ix2 r k)
      = lnAt (fun j => Ideal.ofBits .f32 0x3FD744FD#32 * x (ix2 r j) + s (ix2 r j)) k (g (ix2 0 k)) (b (ix2 0 k)) := by
  unfold lnAt
  pointwise [k0_pay3]

/-! ## The blocks a step is given -/

variable (m : (ℓ : Loc nD τ sig) → Buf (Elt Ideal) ℓ)

/-- The arguments: the mixer's rows, the weights, the rows before the mixer, the gain and the bias. -/
def aA (c : Dev nD) : Vec Ideal S8704x2048 .bf16 := m ((c : Thread nD τ).loc main_arg0)
def wA (c : Dev nD) : Vec Ideal S2048x2048 .f32 := m ((c : Thread nD τ).loc main_arg1)
def xA (c : Dev nD) : Vec Ideal S8704x2048 .f32 := m ((c : Thread nD τ).loc main_arg2)
def gA (c : Dev nD) : Vec Ideal S2048 .f32 := m ((c : Thread nD τ).loc main_arg3)
def bA (c : Dev nD) : Vec Ideal S2048 .f32 := m ((c : Thread nD τ).loc main_arg4)

theorem index_0 : ∀ t : Fin cfg0.N, (cfg0.win 0).index t 0 = t.val / 2 ∧ (cfg0.win 0).index t 1 = t.val % 2 := by decide +kernel
theorem index_1 : ∀ t : Fin cfg0.N, (cfg0.win 1).index t 0 = t.val % 2 ∧ (cfg0.win 1).index t 1 = 0 := by decide +kernel
theorem index_2 : ∀ t : Fin cfg0.N, (cfg0.win 2).index t 0 = t.val / 2 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = 0 ∧ (cfg0.win 4).index t 1 = 0 := by decide +kernel

theorem host_w (c : Dev nD) : (V m c main_v0 : Vec Ideal S2048x2048 .bf16) = (truncf .bf16 (wA m c) bitsLt_bf16_f32 : FVec Ideal S2048x2048 .bf16) := by
  unfold_abbrev_sides
  after_results
  rfl
theorem host_g (c : Dev nD) : (V m c main_v1 : Vec Ideal S1x2048 .f32) = shapeCast S1x2048 (gA m c) shapeCasts_S2048_S1x2048 := by
  unfold_abbrev_sides
  after_results
  rfl
theorem host_b (c : Dev nD) : (V m c main_v2 : Vec Ideal S1x2048 .f32) = shapeCast S1x2048 (bA m c) shapeCasts_S2048_S1x2048 := by
  unfold_abbrev_sides
  after_results
  rfl

/-- The row of the argument that row `r` of the block at step `n` is. -/
def row (n : ℕ) (h : n < cfg0.N) (r : Fin 512) : Fin 8704 :=
  ⟨512 * (n / 2) + r.val, by have := Nat.lt_of_lt_of_eq h N_0; have := r.isLt; omega⟩

/-- The place in the contracted axis that place `f` of the block at step `n` is. -/
def mid (n : ℕ) (f : Fin 1024) : Fin 2048 := ⟨1024 * (n % 2) + f.val, by have := f.isLt; omega⟩

theorem a_block (c : Dev nD) (t : Fin cfg0.N) (r : Fin 512) (f : Fin 1024) :
    (iblk m c 0 t : Vec Ideal S512x1024 .bf16) (ix2 r f) = aA m c (ix2 (row t.val t.isLt r) (mid t.val f)) := by
  refine (congrArg (V m c main_arg0 : Vec Ideal S8704x2048 .bf16) (funext fun a => Fin.ext ?_)).trans (congrFun (V_main_arg0 m c) _)
  fin_cases a
  · refine ((cfg0.win 0).rect_emb_val t (ix2 r f) 0).trans ?_
    rw [(index_0 t).1]
    show t.val / 2 * 512 + r.val = 512 * (t.val / 2) + r.val
    omega
  · refine ((cfg0.win 0).rect_emb_val t (ix2 r f) 1).trans ?_
    rw [(index_0 t).2]
    show t.val % 2 * 1024 + f.val = 1024 * (t.val % 2) + f.val
    omega

theorem w_block (c : Dev nD) (t : Fin cfg0.N) (f : Fin 1024) (k : Fin 2048) :
    (iblk m c 1 t : Vec Ideal S1024x2048 .bf16) (ix2 f k) = wA m c (ix2 (mid t.val f) k) := by
  refine (congrArg (V m c main_v0 : Vec Ideal S2048x2048 .bf16) (funext fun a => Fin.ext ?_)).trans
    ((congrFun (host_w m c) (ix2 (mid t.val f) k)).trans (by pointwise))
  fin_cases a
  · refine ((cfg0.win 1).rect_emb_val t (ix2 f k) 0).trans ?_
    rw [(index_1 t).1]
    show t.val % 2 * 1024 + f.val = 1024 * (t.val % 2) + f.val
    omega
  · refine ((cfg0.win 1).rect_emb_val t (ix2 f k) 1).trans ?_
    rw [(index_1 t).2]
    show 0 * 2048 + k.val = k.val
    omega

theorem x_block (c : Dev nD) (t : Fin cfg0.N) (r : Fin 512) (k : Fin 2048) :
    (iblk m c 2 t : Vec Ideal S512x2048 .f32) (ix2 r k) = xA m c (ix2 (row t.val t.isLt r) k) := by
  refine (congrArg (V m c main_arg2 : Vec Ideal S8704x2048 .f32) (funext fun a => Fin.ext ?_)).trans (congrFun (V_main_arg2 m c) _)
  fin_cases a
  · refine ((cfg0.win 2).rect_emb_val t (ix2 r k) 0).trans ?_
    rw [(index_2 t).1]
    show t.val / 2 * 512 + r.val = 512 * (t.val / 2) + r.val
    omega
  · refine ((cfg0.win 2).rect_emb_val t (ix2 r k) 1).trans ?_
    rw [(index_2 t).2]
    show 0 * 2048 + k.val = k.val
    omega

theorem g_block (c : Dev nD) (t : Fin cfg0.N) (k : Fin 2048) :
    (iblk m c 3 t : Vec Ideal S1x2048 .f32) (ix2 0 k) = gA m c (ix1 k) := by
  refine (congrArg (V m c main_v1 : Vec Ideal S1x2048 .f32) (funext fun a => Fin.ext ?_)).trans
    ((congrFun (host_g m c) (ix2 0 k)).trans (by pointwise))
  fin_cases a
  · exact (cfg0.win 3).rect_emb_val_of_index_zero t 0 (index_3 t).1 (ix2 0 k)
  · exact (cfg0.win 3).rect_emb_val_of_index_zero t 1 (index_3 t).2 (ix2 0 k)

theorem b_block (c : Dev nD) (t : Fin cfg0.N) (k : Fin 2048) :
    (iblk m c 4 t : Vec Ideal S1x2048 .f32) (ix2 0 k) = bA m c (ix1 k) := by
  refine (congrArg (V m c main_v2 : Vec Ideal S1x2048 .f32) (funext fun a => Fin.ext ?_)).trans
    ((congrFun (host_b m c) (ix2 0 k)).trans (by pointwise))
  fin_cases a
  · exact (cfg0.win 4).rect_emb_val_of_index_zero t 0 (index_4 t).1 (ix2 0 k)
  · exact (cfg0.win 4).rect_emb_val_of_index_zero t 1 (index_4 t).2 (ix2 0 k)

/-! ## The sums over the steps of a block of rows -/

/-- The `j`-th term of the product at row `R` and place `k`. -/
def term (c : Dev nD) (R : Fin 8704) (k : Fin 2048) (j : ℕ) : EReal :=
  if h : j < 2048 then aA m c (ix2 R ⟨j, h⟩) * wA m c (ix2 ⟨j, h⟩ k) else 0

/-- What a step adds: 1024 consecutive terms. -/
theorem step_sum (c : Dev nD) (t : Fin cfg0.N) (s : Vec Ideal S512x2048 .f32) (r : Fin 512) (k : Fin 2048) :
    k0_pay2 s (iblk m c 0 t : Vec Ideal S512x1024 .bf16) (iblk m c 1 t : Vec Ideal S1024x2048 .bf16) (ix2 r k)
      = s (ix2 r k) + ∑ j ∈ Finset.range 1024, term m c (row t.val t.isLt r) k (1024 * (t.val % 2) + j) := by
  refine (acc_apply s _ _ r k).trans (congrArg (s (ix2 r k) + ·) ?_)
  rw [Finset.sum_range]
  refine Finset.sum_congr rfl fun f _ => ?_
  have hl : 1024 * (t.val % 2) + f.val < 2048 := (mid t.val f).isLt
  unfold term
  rw [dif_pos hl, a_block, w_block]
  rfl

theorem row_congr {n n' : ℕ} (h : n < cfg0.N) (h' : n' < cfg0.N) (e : n / 2 = n' / 2) (r : Fin 512) : row n h r = row n' h' r :=
  Fin.ext (by show 512 * (n / 2) + r.val = 512 * (n' / 2) + r.val; rw [e])

/-- The first step of a block of rows. -/
theorem first (c : Dev nD) (t : Fin cfg0.N) (h0 : t.val % 2 = 0) (r : Fin 512) (k : Fin 2048) :
    (outsAt0 m c t.val t.isLt).2 (ix2 r k) = ∑ j ∈ Finset.range (1024 * (t.val % 2 + 1)), term m c (row t.val t.isLt r) k j := by
  have h1 : ¬t.val % 2 = 1 := by omega
  refine (congrFun (at_first_acc m c t h0 h1) _).trans ?_
  rw [step_sum m c t _ r k, zero_apply, zero_add, h0]
  simp only [Nat.mul_zero, Nat.zero_add, Nat.mul_one]

/-- A later step of a block of rows. -/
theorem next (c : Dev nD) (n : ℕ) (hn : n + 1 < cfg0.N) (h0 : ¬(n + 1) % 2 = 0) (r : Fin 512) (k : Fin 2048)
    (ih : (outsAt0 m c n (Nat.lt_of_succ_lt hn)).2 (ix2 r k) = ∑ j ∈ Finset.range (1024 * (n % 2 + 1)), term m c (row n (Nat.lt_of_succ_lt hn) r) k j) :
    (outsAt0 m c (n + 1) hn).2 (ix2 r k) = ∑ j ∈ Finset.range (1024 * ((n + 1) % 2 + 1)), term m c (row (n + 1) hn r) k j := by
  have er : row n (Nat.lt_of_succ_lt hn) r = row (n + 1) hn r := row_congr _ _ (by omega) r
  rw [er] at ih
  have es : 1024 * ((n + 1) % 2 + 1) = 1024 * (n % 2 + 1) + 1024 := by omega
  have em : 1024 * ((n + 1) % 2) = 1024 * (n % 2 + 1) := by omega
  have hs : k0_pay2 (outsAt0 m c n (Nat.lt_of_succ_lt hn)).2 (iblk m c 0 ⟨n + 1, hn⟩ : Vec Ideal S512x1024 .bf16) (iblk m c 1 ⟨n + 1, hn⟩ : Vec Ideal S1024x2048 .bf16) (ix2 r k)
      = ∑ j ∈ Finset.range (1024 * ((n + 1) % 2 + 1)), term m c (row (n + 1) hn r) k j := by
    rw [step_sum m c ⟨n + 1, hn⟩ _ r k, ih, es, Finset.sum_range_add]
    show _ + ∑ j ∈ Finset.range 1024, term m c (row (n + 1) hn r) k (1024 * ((n + 1) % 2) + j) = _
    rw [em]
  exact (congrFun (at_last_acc m c ⟨n + 1, hn⟩ h0 (by show (n + 1) % 2 = 1; omega)) _).trans hs

/-- After step `n` the scratch array holds the first `1024 (n mod 2 + 1)` terms of the block's sums. -/
theorem held (c : Dev nD) : ∀ (n : ℕ) (hn : n < cfg0.N) (r : Fin 512) (k : Fin 2048),
    (outsAt0 m c n hn).2 (ix2 r k) = ∑ j ∈ Finset.range (1024 * (n % 2 + 1)), term m c (row n hn r) k j := by
  intro n
  induction n with
  | zero => intro hn r k; exact first m c ⟨0, hn⟩ rfl r k
  | succ n ih =>
    intro hn r k
    by_cases h0 : (n + 1) % 2 = 0
    · exact first m c ⟨n + 1, hn⟩ h0 r k
    · exact next m c n hn h0 r k (ih (Nat.lt_of_succ_lt hn) r k)

/-- The result at row `R` and place `k`. -/
def outAt (c : Dev nD) (R : Fin 8704) (k : Fin 2048) : EReal :=
  lnAt (fun j => Ideal.ofBits .f32 0x3FD744FD#32 * xA m c (ix2 R j) + ∑ f : Fin 2048, aA m c (ix2 R f) * wA m c (ix2 f j)) k
    (gA m c (ix1 k)) (bA m c (ix1 k))

/-- What the last step of a block of rows writes. -/
theorem written (c : Dev nD) (t : Fin cfg0.N) (h1 : t.val % 2 = 1) (r : Fin 512) (k : Fin 2048) :
    (outsAt0 m c t.val t.isLt).1 (ix2 r k) = outAt m c (row t.val t.isLt r) k := by
  have h0 : ¬t.val % 2 = 0 := by omega
  have hp : t.val - 1 < cfg0.N := Nat.lt_of_le_of_lt (Nat.sub_le _ _) t.isLt
  have hacc := fun j => held m c t.val t.isLt r j
  have hsum : ∀ j, k0_pay2 (outsAt0 m c (t.val - 1) hp).2 (iblk m c 0 t : Vec Ideal S512x1024 .bf16) (iblk m c 1 t : Vec Ideal S1024x2048 .bf16) (ix2 r j)
      = ∑ f : Fin 2048, aA m c (ix2 (row t.val t.isLt r) f) * wA m c (ix2 f j) := fun j => by
    refine ((congrFun (at_last_acc m c t h0 h1) _).symm.trans (hacc j)).trans ?_
    rw [h1]
    show ∑ i ∈ Finset.range 2048, _ = _
    rw [Finset.sum_range]
    refine Finset.sum_congr rfl fun f _ => ?_
    unfold term
    rw [dif_pos f.isLt]
  refine (congrFun (at_last_out m c t h0 h1) _).trans ((out_apply _ _ _ _ r k).trans ?_)
  unfold outAt
  rw [g_block, b_block]
  congr 1
  funext j
  rw [x_block, hsum]

/-- The result array. -/
theorem result_apply (c : Dev nD) (R : Fin 8704) (k : Fin 2048) : Cert.ProjIdeal.Value.G5 m c (ix2 R k) = outAt m c R k := by
  have hR := R.isLt
  have hk := k.isLt
  have e : Cert.ProjIdeal.Value.pt5Of (ix2 R k) = 2 * (R.val / 512) + 1 := by
    show 2 * (1 * (R.val / 512 - 0) + 1 * (k.val / 2048 - 0)) + 1 = _
    omega
  have hlt : Cert.ProjIdeal.Value.pt5Of (ix2 R k) < cfg0.N := by
    rw [e]
    exact Nat.lt_of_lt_of_eq (by omega) N_0.symm
  unfold Cert.ProjIdeal.Value.G5
  rw [dif_pos hlt, ← Cert.ProjIdeal.Value.outsAt0_sweep m c _ hlt]
  have el : Cert.ProjIdeal.Value.loc5Of (ix2 R k) = ix2 (⟨R.val % 512, by omega⟩ : Fin 512) k := by
    funext a
    fin_cases a
    · rfl
    · exact Fin.ext (Nat.mod_eq_of_lt hk)
  rw [el]
  refine (written m c ⟨_, hlt⟩ (by show Cert.ProjIdeal.Value.pt5Of (ix2 R k) % 2 = 1; omega) _ k).trans (congrArg (outAt m c · k) (Fin.ext ?_))
  show 512 * (Cert.ProjIdeal.Value.pt5Of (ix2 R k) / 2) + R.val % 512 = R.val
  omega

end Cert.ProjIdeal.Val

end
-- ==== Proof.ProjMeet.lean ====
/- The projection of a mixer's 2048 columns with the layer norm after it and its reference meet: both are the layer norm of the scaled rows plus the product. -/
module

public import proofs.«01_k».proof.Proof.ProjValue
public import proofs.«01_k».proof.Proof.Gen.ProjReferenceIdeal.Run

@[expose] public section

set_option maxRecDepth 16384

noncomputable section

namespace Cert.ProjMeet

open Idealize.ShloMosaic Idealize.ShloMosaic.TcCoe Idealize.ShloMosaic.Tactic Idealize.SL.Sem
open Cert.ProjReferenceIdeal Cert.ProjReferenceIdeal.Gen
open Cert.Norm (lnAt)

/-- From equal arguments the reference leaves the kernel's result, and its arguments as they were. -/
theorem run_eq (m : (ℓ : Loc Cert.ProjIdeal.nD Cert.ProjIdeal.τ Cert.ProjIdeal.sig) → Buf (Elt Ideal) ℓ)
    (m' : (ℓ : Loc nD τ sig) → Buf (Elt Ideal) ℓ) (g' : Dev nD → PrngReg)
    (h0 : ∀ c : Dev Cert.ProjReferenceIdeal.nD, m' ((c.tc : Thread nD τ).loc main_arg0) = Cert.ProjIdeal.Val.aA m c)
    (h1 : ∀ c : Dev Cert.ProjReferenceIdeal.nD, m' ((c.tc : Thread nD τ).loc main_arg1) = Cert.ProjIdeal.Val.wA m c)
    (h2 : ∀ c : Dev Cert.ProjReferenceIdeal.nD, m' ((c.tc : Thread nD τ).loc main_arg2) = Cert.ProjIdeal.Val.xA m c)
    (h3 : ∀ c : Dev Cert.ProjReferenceIdeal.nD, m' ((c.tc : Thread nD τ).loc main_arg3) = Cert.ProjIdeal.Val.gA m c)
    (h4 : ∀ c : Dev Cert.ProjReferenceIdeal.nD, m' ((c.tc : Thread nD τ).loc main_arg4) = Cert.ProjIdeal.Val.bA m c) :
    θ_run defs (onTc (τ := τ) (main (F := Ideal))) ⟨m', fun _ => 0, g'⟩ fun r => ∀ c : Dev nD,
      r.2.mem ((c.tc : Thread nD τ).loc main_v28) = Cert.ProjIdeal.Value.G5 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run defs _ _).mono (fun r hr c => ⟨(hr c).1.trans ?_, (hr c).2⟩) (Cert.ProjReferenceIdeal.Value.run m' g')
  rw [h0 c, h1 c, h2 c, h3 c, h4 c]
  funext i
  obtain ⟨R, k, rfl⟩ : ∃ (R : Fin 8704) (k : Fin 2048), i = ix2 R k := ⟨i 0, i 1, by funext a; fin_cases a <;> rfl⟩
  refine Eq.trans ?_ (Cert.ProjIdeal.Val.result_apply m c R k).symm
  unfold Cert.ProjIdeal.Val.outAt lnAt
  generalize Cert.ProjIdeal.Val.aA m c = a
  generalize Cert.ProjIdeal.Val.wA m c = w
  generalize Cert.ProjIdeal.Val.xA m c = x
  generalize Cert.ProjIdeal.Val.gA m c = g
  generalize Cert.ProjIdeal.Val.bA m c = b
  pointwise

end Cert.ProjMeet

end
-- ==== Proof.GdnOutValue.lean ====
/- The projection of the DeltaNet mixer's 4096 columns with the layer norm after it: what its steps leave, and over the reals what they add up to. -/
module

public import proofs.«01_k».proof.Proof.Norm
public import proofs.«01_k».proof.Proof.Gen.GdnOutIdeal.Value
public import Idealize.ShloMosaic.Lib.VecWindow
public import Idealize.ShloMosaic.Lib.Pointwise
public import Idealize.ShloMosaic.Lib.Pipeline.ValueKit
public import Idealize.ShloMosaic.Lib.IdealHost

@[expose] public section

set_option maxRecDepth 16384

noncomputable section

namespace Cert.GdnOutIdeal.Val

open Idealize.ShloMosaic Idealize.ShloMosaic.TcCoe Idealize.ShloMosaic.Tactic
open Idealize.ShloMosaic.Pipeline (Dat Cfg Window)
open Cert.GdnOutIdeal.Gen
open Cert.Norm (lnAt)

section Steps

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

section Buffers

variable (c : Dev nD) (i : grid0.Coords)
  (arg2 : Memref sig .tc .vmem S512x1024 .bf16) (harg2 : arg2.IsWhole)
  (arg3 : Memref sig .tc .vmem S1024x2048 .bf16) (harg3 : arg3.IsWhole)
  (arg4 : Memref sig .tc .vmem S512x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .f32) (harg7 : arg7.IsWhole)
  (arg8 : Memref sig .tc .vmem S512x2048 .f32) (harg8 : arg8.IsWhole)

/-- The first step of a block of rows starts the sums at its own product. -/
theorem first_acc (hc0 : cond0_0 i) (hc1 : ¬cond0_1 i)
    (x0 : Vec F S512x1024 .bf16) (x1 : Vec F S1024x2048 .bf16) (x2 : Vec F S512x2048 .f32) (x3 : Vec F S1x2048 .f32) (x4 : Vec F S1x2048 .f32) :
    sout0_A_0 c i arg2 harg2 arg3 harg3 arg4 harg4 arg5 harg5 arg6 harg6 arg7 harg7 arg8 harg8 hc0 hc1 x0 x1 x2 x3 x4 = k0_pay2 k0_pay1 x0 x1 := by
  unfold sout0_A_0 kernelRun0_A
  dsimp only
  refine (View.read_writes_full ..).trans ?_
  have e8 : kernelRun0_A.sl.v3 c arg8 = k0_pay1 (F := F) := by
    unfold kernelRun0_A.sl.v3
    exact View.readCov_full ..
  have e1 := load_whole harg2 x0 inb_S512x1024_S512x1024_0_0
  have e2 := load_whole harg3 x1 inb_S1024x2048_S1024x2048_0_0
  rw [e8]
  exact (congrArg (fun z => k0_pay2 _ z _) e1).trans (congrArg (fun z => k0_pay2 _ x0 z) e2)

/-- A middle step adds its product to the sums. -/
theorem middle_acc (hc0 : ¬cond0_0 i) (hc1 : ¬cond0_1 i)
    (x0 : Vec F S512x1024 .bf16) (x1 : Vec F S1024x2048 .bf16) (x2 : Vec F S512x2048 .f32) (x3 : Vec F S1x2048 .f32) (x4 : Vec F S1x2048 .f32) (xs0 : Vec F S512x2048 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0 kernelRun0_B
  dsimp only
  refine (View.read_writes_full ..).trans ?_
  have e1 := load_whole harg2 x0 inb_S512x1024_S512x1024_0_0
  have e2 := load_whole harg3 x1 inb_S1024x2048_S1024x2048_0_0
  have e8 := load_whole harg8 xs0 inb_S512x2048_S512x2048_0_0
  exact (congrArg (fun z => k0_pay2 z _ _) e8).trans ((congrArg (fun z => k0_pay2 xs0 z _) e1).trans (congrArg (fun z => k0_pay2 xs0 x0 z) e2))

/-- The last step adds its product to the sums. -/
theorem last_acc (hc0 : ¬cond0_0 i) (hc1 : cond0_1 i)
    (x0 : Vec F S512x1024 .bf16) (x1 : Vec F S1024x2048 .bf16) (x2 : Vec F S512x2048 .f32) (x3 : Vec F S1x2048 .f32) (x4 : Vec F S1x2048 .f32) (xs0 : Vec F S512x2048 .f32) :
    sout0_C_0 c i arg2 harg2 arg3 harg3 arg4 harg4 arg5 harg5 arg6 harg6 arg7 harg7 arg8 harg8 hc0 hc1 x0 x1 x2 x3 x4 xs0 = k0_pay2 xs0 x0 x1 := by
  unfold sout0_C_0 kernelRun0_C
  dsimp only
  refine (View.read_writes_full ..).trans ?_
  have e1 := load_whole harg2 x0 inb_S512x1024_S512x1024_0_0
  have e2 := load_whole harg3 x1 inb_S1024x2048_S1024x2048_0_0
  have e8 := load_whole harg8 xs0 inb_S512x2048_S512x2048_0_0
  exact (congrArg (fun z => k0_pay2 z _ _) e8).trans ((congrArg (fun z => k0_pay2 xs0 z _) e1).trans (congrArg (fun z => k0_pay2 xs0 x0 z) e2))

/-- The last step writes the layer norm of the rows, scaled, plus the sums. -/
theorem last_out (hc0 : ¬cond0_0 i) (hc1 : cond0_1 i)
    (x0 : Vec F S512x1024 .bf16) (x1 : Vec F S1024x2048 .bf16) (x2 : Vec F S512x2048 .f32) (x3 : Vec F S1x2048 .f32) (x4 : Vec F S1x2048 .f32) (xs0 : Vec F S512x2048 .f32) :
    out0_C_5 c i arg2 harg2 arg3 harg3 arg4 harg4 arg5 harg5 arg6 harg6 arg7 harg7 arg8 harg8 hc0 hc1 x0 x1 x2 x3 x4 xs0 = k0_pay3 x2 (k0_pay2 xs0 x0 x1) x3 x4 := by
  unfold out0_C_5 kernelRun0_C
  dsimp only
  refine (View.read_writes_full ..).trans ?_
  have ea : kernelRun0_C.sl.v18 c arg2 harg2 arg3 harg3 arg8 harg8 x0 x1 xs0 = k0_pay2 xs0 x0 x1 := by
    unfold kernelRun0_C.sl.v18
    refine (View.readCov_full ..).trans ?_
    have e1 := load_whole harg2 x0 inb_S512x1024_S512x1024_0_0
    have e2 := load_whole harg3 x1 inb_S1024x2048_S1024x2048_0_0
    have e8 := load_whole harg8 xs0 inb_S512x2048_S512x2048_0_0
    exact (congrArg (fun z => k0_pay2 z _ _) e8).trans ((congrArg (fun z => k0_pay2 xs0 z _) e1).trans (congrArg (fun z => k0_pay2 xs0 x0 z) e2))
  have f2 := load_whole harg4 x2 inb_S512x2048_S512x2048_0_0
  have f3 := load_whole harg5 x3 inb_S1x2048_S1x2048_0_0
  have f4 := load_whole harg6 x4 inb_S1x2048_S1x2048_0_0
  rw [ea]
  exact (congrArg (fun z => k0_pay3 z _ _ _) f2).trans ((congrArg (fun z => k0_pay3 x2 _ z _) f3).trans
    (congrArg (fun z => k0_pay3 x2 _ x3 z) f4))

end Buffers

variable (m : (ℓ : Loc nD τ sig) → Buf (Elt F) ℓ)

theorem at_first_acc (c : Dev nD) (t : Fin cfg0.N) (h0 : t.val % 4 = 0) (h1 : ¬t.val % 4 = 3) :
    (outsAt0 m c t.val t.isLt).2 = k0_pay2 (F := F) (k0_pay1 (F := F)) (iblk m c 0 t : Vec F S512x1024 .bf16) (iblk m c 1 t : Vec F S1024x2048 .bf16) := by
  have e := first_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1]
  dsimp only
  rw [e]

theorem at_middle_acc (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t : Vec F S512x1024 .bf16) (iblk m c 1 t : Vec F S1024x2048 .bf16) := by
  have e := middle_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2
  rw [outsAt0_B m c t h0 h1]
  dsimp only
  rw [e]

theorem at_last_acc (c : Dev nD) (t : Fin cfg0.N) (h0 : ¬t.val % 4 = 0) (h1 : t.val % 4 = 3) :
    (outsAt0 m c t.val t.isLt).2 = k0_pay2 (F := F) (outsAt0 m c (t.val - 1) (Nat.lt_of_le_of_lt (Nat.sub_le _ _) t.isLt)).2 (iblk m c 0 t : Vec F S512x1024 .bf16) (iblk m c 1 t : Vec F S1024x2048 .bf16) := by
  have e := last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_C m c t h0 h1]
  dsimp only
  rw [e]

theorem at_last_out (c : Dev nD) (t : Fin cfg0.N) (h0 : ¬t.val % 4 = 0) (h1 : t.val % 4 = 3) :
    (outsAt0 m c t.val t.isLt).1 = k0_pay3 (F := F) (iblk m c 2 t : Vec F S512x2048 .f32) (k0_pay2 (F := F) (outsAt0 m c (t.val - 1) (Nat.lt_of_le_of_lt (Nat.sub_le _ _) t.isLt)).2 (iblk m c 0 t : Vec F S512x1024 .bf16) (iblk m c 1 t : Vec F S1024x2048 .bf16)) (iblk m c 3 t : Vec F S1x2048 .f32) (iblk m c 4 t : Vec F S1x2048 .f32) := by
  have e := last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_C m c t h0 h1]
  dsimp only
  rw [e]

end Steps

/-! ## One step at an index -/

theorem zero_apply (r : Fin 512) (k : Fin 2048) : k0_pay1 (F := Ideal) (ix2 r k) = 0 := by
  pointwise [k0_pay1]

theorem acc_apply (s : Vec Ideal S512x2048 .f32) (a : Vec Ideal S512x1024 .bf16) (w : Vec Ideal S1024x2048 .bf16) (r : Fin 512) (k : Fin 2048) :
    k0_pay2 s a w (ix2 r k) = s (ix2 r k) + ∑ f : Fin 1024, a (ix2 r f) * w (ix2 f k) := by
  pointwise [k0_pay2]

theorem out_apply (x s : Vec Ideal S512x2048 .f32) (g b : Vec Ideal S1x2048 .f32) (r : Fin 512) (k : Fin 2048) :
    k0_pay3 x s g b (ix2 r k)
      = lnAt (fun j => Ideal.ofBits .f32 0x3FD744FD#32 * x (ix2 r j) + s (ix2 r j)) k (g (ix2 0 k)) (b (ix2 0 k)) := by
  unfold lnAt
  pointwise [k0_pay3]

/-! ## The blocks a step is given -/

variable (m : (ℓ : Loc nD τ sig) → Buf (Elt Ideal) ℓ)

/-- The arguments: the mixer's rows, the weights, the rows before the mixer, the gain and the bias. -/
def aA (c : Dev nD) : Vec Ideal S8704x4096 .bf16 := m ((c : Thread nD τ).loc main_arg0)
def wA (c : Dev nD) : Vec Ideal S4096x2048 .f32 := m ((c : Thread nD τ).loc main_arg1)
def xA (c : Dev nD) : Vec Ideal S8704x2048 .f32 := m ((c : Thread nD τ).loc main_arg2)
def gA (c : Dev nD) : Vec Ideal S2048 .f32 := m ((c : Thread nD τ).loc main_arg3)
def bA (c : Dev nD) : Vec Ideal S2048 .f32 := m ((c : Thread nD τ).loc main_arg4)

theorem index_0 : ∀ t : Fin cfg0.N, (cfg0.win 0).index t 0 = t.val / 4 ∧ (cfg0.win 0).index t 1 = t.val % 4 := by decide +kernel
theorem index_1 : ∀ t : Fin cfg0.N, (cfg0.win 1).index t 0 = t.val % 4 ∧ (cfg0.win 1).index t 1 = 0 := by decide +kernel
theorem index_2 : ∀ t : Fin cfg0.N, (cfg0.win 2).index t 0 = t.val / 4 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = 0 ∧ (cfg0.win 4).index t 1 = 0 := by decide +kernel

theorem host_w (c : Dev nD) : (V m c main_v0 : Vec Ideal S4096x2048 .bf16) = (truncf .bf16 (wA m c) bitsLt_bf16_f32 : FVec Ideal S4096x2048 .bf16) := by
  unfold_abbrev_sides
  after_results
  rfl
theorem host_g (c : Dev nD) : (V m c main_v1 : Vec Ideal S1x2048 .f32) = shapeCast S1x2048 (gA m c) shapeCasts_S2048_S1x2048 := by
  unfold_abbrev_sides
  after_results
  rfl
theorem host_b (c : Dev nD) : (V m c main_v2 : Vec Ideal S1x2048 .f32) = shapeCast S1x2048 (bA m c) shapeCasts_S2048_S1x2048 := by
  unfold_abbrev_sides
  after_results
  rfl

/-- The row of the argument that row `r` of the block at step `n` is. -/
def row (n : ℕ) (h : n < cfg0.N) (r : Fin 512) : Fin 8704 :=
  ⟨512 * (n / 4) + r.val, by have := Nat.lt_of_lt_of_eq h N_0; have := r.isLt; omega⟩

/-- The place in the contracted axis that place `f` of the block at step `n` is. -/
def mid (n : ℕ) (f : Fin 1024) : Fin 4096 := ⟨1024 * (n % 4) + f.val, by have := f.isLt; omega⟩

theorem a_block (c : Dev nD) (t : Fin cfg0.N) (r : Fin 512) (f : Fin 1024) :
    (iblk m c 0 t : Vec Ideal S512x1024 .bf16) (ix2 r f) = aA m c (ix2 (row t.val t.isLt r) (mid t.val f)) := by
  refine (congrArg (V m c main_arg0 : Vec Ideal S8704x4096 .bf16) (funext fun a => Fin.ext ?_)).trans (congrFun (V_main_arg0 m c) _)
  fin_cases a
  · refine ((cfg0.win 0).rect_emb_val t (ix2 r f) 0).trans ?_
    rw [(index_0 t).1]
    show t.val / 4 * 512 + r.val = 512 * (t.val / 4) + r.val
    omega
  · refine ((cfg0.win 0).rect_emb_val t (ix2 r f) 1).trans ?_
    rw [(index_0 t).2]
    show t.val % 4 * 1024 + f.val = 1024 * (t.val % 4) + f.val
    omega

theorem w_block (c : Dev nD) (t : Fin cfg0.N) (f : Fin 1024) (k : Fin 2048) :
    (iblk m c 1 t : Vec Ideal S1024x2048 .bf16) (ix2 f k) = wA m c (ix2 (mid t.val f) k) := by
  refine (congrArg (V m c main_v0 : Vec Ideal S4096x2048 .bf16) (funext fun a => Fin.ext ?_)).trans
    ((congrFun (host_w m c) (ix2 (mid t.val f) k)).trans (by pointwise))
  fin_cases a
  · refine ((cfg0.win 1).rect_emb_val t (ix2 f k) 0).trans ?_
    rw [(index_1 t).1]
    show t.val % 4 * 1024 + f.val = 1024 * (t.val % 4) + f.val
    omega
  · refine ((cfg0.win 1).rect_emb_val t (ix2 f k) 1).trans ?_
    rw [(index_1 t).2]
    show 0 * 2048 + k.val = k.val
    omega

theorem x_block (c : Dev nD) (t : Fin cfg0.N) (r : Fin 512) (k : Fin 2048) :
    (iblk m c 2 t : Vec Ideal S512x2048 .f32) (ix2 r k) = xA m c (ix2 (row t.val t.isLt r) k) := by
  refine (congrArg (V m c main_arg2 : Vec Ideal S8704x2048 .f32) (funext fun a => Fin.ext ?_)).trans (congrFun (V_main_arg2 m c) _)
  fin_cases a
  · refine ((cfg0.win 2).rect_emb_val t (ix2 r k) 0).trans ?_
    rw [(index_2 t).1]
    show t.val / 4 * 512 + r.val = 512 * (t.val / 4) + r.val
    omega
  · refine ((cfg0.win 2).rect_emb_val t (ix2 r k) 1).trans ?_
    rw [(index_2 t).2]
    show 0 * 2048 + k.val = k.val
    omega

theorem g_block (c : Dev nD) (t : Fin cfg0.N) (k : Fin 2048) :
    (iblk m c 3 t : Vec Ideal S1x2048 .f32) (ix2 0 k) = gA m c (ix1 k) := by
  refine (congrArg (V m c main_v1 : Vec Ideal S1x2048 .f32) (funext fun a => Fin.ext ?_)).trans
    ((congrFun (host_g m c) (ix2 0 k)).trans (by pointwise))
  fin_cases a
  · exact (cfg0.win 3).rect_emb_val_of_index_zero t 0 (index_3 t).1 (ix2 0 k)
  · exact (cfg0.win 3).rect_emb_val_of_index_zero t 1 (index_3 t).2 (ix2 0 k)

theorem b_block (c : Dev nD) (t : Fin cfg0.N) (k : Fin 2048) :
    (iblk m c 4 t : Vec Ideal S1x2048 .f32) (ix2 0 k) = bA m c (ix1 k) := by
  refine (congrArg (V m c main_v2 : Vec Ideal S1x2048 .f32) (funext fun a => Fin.ext ?_)).trans
    ((congrFun (host_b m c) (ix2 0 k)).trans (by pointwise))
  fin_cases a
  · exact (cfg0.win 4).rect_emb_val_of_index_zero t 0 (index_4 t).1 (ix2 0 k)
  · exact (cfg0.win 4).rect_emb_val_of_index_zero t 1 (index_4 t).2 (ix2 0 k)

/-! ## The sums over the steps of a block of rows -/

/-- The `j`-th term of the product at row `R` and place `k`. -/
def term (c : Dev nD) (R : Fin 8704) (k : Fin 2048) (j : ℕ) : EReal :=
  if h : j < 4096 then aA m c (ix2 R ⟨j, h⟩) * wA m c (ix2 ⟨j, h⟩ k) else 0

/-- What a step adds: 1024 consecutive terms. -/
theorem step_sum (c : Dev nD) (t : Fin cfg0.N) (s : Vec Ideal S512x2048 .f32) (r : Fin 512) (k : Fin 2048) :
    k0_pay2 s (iblk m c 0 t : Vec Ideal S512x1024 .bf16) (iblk m c 1 t : Vec Ideal S1024x2048 .bf16) (ix2 r k)
      = s (ix2 r k) + ∑ j ∈ Finset.range 1024, term m c (row t.val t.isLt r) k (1024 * (t.val % 4) + j) := by
  refine (acc_apply s _ _ r k).trans (congrArg (s (ix2 r k) + ·) ?_)
  rw [Finset.sum_range]
  refine Finset.sum_congr rfl fun f _ => ?_
  have hl : 1024 * (t.val % 4) + f.val < 4096 := (mid t.val f).isLt
  unfold term
  rw [dif_pos hl, a_block, w_block]
  rfl

theorem row_congr {n n' : ℕ} (h : n < cfg0.N) (h' : n' < cfg0.N) (e : n / 4 = n' / 4) (r : Fin 512) : row n h r = row n' h' r :=
  Fin.ext (by show 512 * (n / 4) + r.val = 512 * (n' / 4) + r.val; rw [e])

/-- The first step of a block of rows. -/
theorem first (c : Dev nD) (t : Fin cfg0.N) (h0 : t.val % 4 = 0) (r : Fin 512) (k : Fin 2048) :
    (outsAt0 m c t.val t.isLt).2 (ix2 r k) = ∑ j ∈ Finset.range (1024 * (t.val % 4 + 1)), term m c (row t.val t.isLt r) k j := by
  have h1 : ¬t.val % 4 = 3 := by omega
  refine (congrFun (at_first_acc m c t h0 h1) _).trans ?_
  rw [step_sum m c t _ r k, zero_apply, zero_add, h0]
  simp only [Nat.mul_zero, Nat.zero_add, Nat.mul_one]

/-- A later step of a block of rows. -/
theorem next (c : Dev nD) (n : ℕ) (hn : n + 1 < cfg0.N) (h0 : ¬(n + 1) % 4 = 0) (r : Fin 512) (k : Fin 2048)
    (ih : (outsAt0 m c n (Nat.lt_of_succ_lt hn)).2 (ix2 r k) = ∑ j ∈ Finset.range (1024 * (n % 4 + 1)), term m c (row n (Nat.lt_of_succ_lt hn) r) k j) :
    (outsAt0 m c (n + 1) hn).2 (ix2 r k) = ∑ j ∈ Finset.range (1024 * ((n + 1) % 4 + 1)), term m c (row (n + 1) hn r) k j := by
  have er : row n (Nat.lt_of_succ_lt hn) r = row (n + 1) hn r := row_congr _ _ (by omega) r
  rw [er] at ih
  have es : 1024 * ((n + 1) % 4 + 1) = 1024 * (n % 4 + 1) + 1024 := by omega
  have em : 1024 * ((n + 1) % 4) = 1024 * (n % 4 + 1) := by omega
  have hs : k0_pay2 (outsAt0 m c n (Nat.lt_of_succ_lt hn)).2 (iblk m c 0 ⟨n + 1, hn⟩ : Vec Ideal S512x1024 .bf16) (iblk m c 1 ⟨n + 1, hn⟩ : Vec Ideal S1024x2048 .bf16) (ix2 r k)
      = ∑ j ∈ Finset.range (1024 * ((n + 1) % 4 + 1)), term m c (row (n + 1) hn r) k j := by
    rw [step_sum m c ⟨n + 1, hn⟩ _ r k, ih, es, Finset.sum_range_add]
    show _ + ∑ j ∈ Finset.range 1024, term m c (row (n + 1) hn r) k (1024 * ((n + 1) % 4) + j) = _
    rw [em]
  by_cases h1 : (n + 1) % 4 = 3
  · exact (congrFun (at_last_acc m c ⟨n + 1, hn⟩ h0 h1) _).trans hs
  · exact (congrFun (at_middle_acc m c ⟨n + 1, hn⟩ h0 h1) _).trans hs

/-- After step `n` the scratch array holds the first `1024 (n mod 4 + 1)` terms of the block's sums. -/
theorem held (c : Dev nD) : ∀ (n : ℕ) (hn : n < cfg0.N) (r : Fin 512) (k : Fin 2048),
    (outsAt0 m c n hn).2 (ix2 r k) = ∑ j ∈ Finset.range (1024 * (n % 4 + 1)), term m c (row n hn r) k j := by
  intro n
  induction n with
  | zero => intro hn r k; exact first m c ⟨0, hn⟩ rfl r k
  | succ n ih =>
    intro hn r k
    by_cases h0 : (n + 1) % 4 = 0
    · exact first m c ⟨n + 1, hn⟩ h0 r k
    · exact next m c n hn h0 r k (ih (Nat.lt_of_succ_lt hn) r k)

/-- The result at row `R` and place `k`. -/
def outAt (c : Dev nD) (R : Fin 8704) (k : Fin 2048) : EReal :=
  lnAt (fun j => Ideal.ofBits .f32 0x3FD744FD#32 * xA m c (ix2 R j) + ∑ f : Fin 4096, aA m c (ix2 R f) * wA m c (ix2 f j)) k
    (gA m c (ix1 k)) (bA m c (ix1 k))

/-- What the last step of a block of rows writes. -/
theorem written (c : Dev nD) (t : Fin cfg0.N) (h1 : t.val % 4 = 3) (r : Fin 512) (k : Fin 2048) :
    (outsAt0 m c t.val t.isLt).1 (ix2 r k) = outAt m c (row t.val t.isLt r) k := by
  have h0 : ¬t.val % 4 = 0 := by omega
  have hp : t.val - 1 < cfg0.N := Nat.lt_of_le_of_lt (Nat.sub_le _ _) t.isLt
  have hacc := fun j => held m c t.val t.isLt r j
  have hsum : ∀ j, k0_pay2 (outsAt0 m c (t.val - 1) hp).2 (iblk m c 0 t : Vec Ideal S512x1024 .bf16) (iblk m c 1 t : Vec Ideal S1024x2048 .bf16) (ix2 r j)
      = ∑ f : Fin 4096, aA m c (ix2 (row t.val t.isLt r) f) * wA m c (ix2 f j) := fun j => by
    refine ((congrFun (at_last_acc m c t h0 h1) _).symm.trans (hacc j)).trans ?_
    rw [h1]
    show ∑ i ∈ Finset.range 4096, _ = _
    rw [Finset.sum_range]
    refine Finset.sum_congr rfl fun f _ => ?_
    unfold term
    rw [dif_pos f.isLt]
  refine (congrFun (at_last_out m c t h0 h1) _).trans ((out_apply _ _ _ _ r k).trans ?_)
  unfold outAt
  rw [g_block, b_block]
  congr 1
  funext j
  rw [x_block, hsum]

/-- The result array. -/
theorem result_apply (c : Dev nD) (R : Fin 8704) (k : Fin 2048) : Cert.GdnOutIdeal.Value.G5 m c (ix2 R k) = outAt m c R k := by
  have hR := R.isLt
  have hk := k.isLt
  have e : Cert.GdnOutIdeal.Value.pt5Of (ix2 R k) = 4 * (R.val / 512) + 3 := by
    show 4 * (1 * (R.val / 512 - 0) + 1 * (k.val / 2048 - 0)) + 3 = _
    omega
  have hlt : Cert.GdnOutIdeal.Value.pt5Of (ix2 R k) < cfg0.N := by
    rw [e]
    exact Nat.lt_of_lt_of_eq (by omega) N_0.symm
  unfold Cert.GdnOutIdeal.Value.G5
  rw [dif_pos hlt, ← Cert.GdnOutIdeal.Value.outsAt0_sweep m c _ hlt]
  have el : Cert.GdnOutIdeal.Value.loc5Of (ix2 R k) = ix2 (⟨R.val % 512, by omega⟩ : Fin 512) k := by
    funext a
    fin_cases a
    · rfl
    · exact Fin.ext (Nat.mod_eq_of_lt hk)
  rw [el]
  refine (written m c ⟨_, hlt⟩ (by show Cert.GdnOutIdeal.Value.pt5Of (ix2 R k) % 4 = 3; omega) _ k).trans (congrArg (outAt m c · k) (Fin.ext ?_))
  show 512 * (Cert.GdnOutIdeal.Value.pt5Of (ix2 R k) / 4) + R.val % 512 = R.val
  omega

end Cert.GdnOutIdeal.Val

end
-- ==== Proof.GdnOutMeet.lean ====
/- The projection of the DeltaNet mixer's 4096 columns with the layer norm after it and its reference meet: both are the layer norm of the scaled rows plus the product. -/
module

public import proofs.«01_k».proof.Proof.GdnOutValue
public import proofs.«01_k».proof.Proof.Gen.GdnOutReferenceIdeal.Run

@[expose] public section

set_option maxRecDepth 16384

noncomputable section

namespace Cert.GdnOutMeet

open Idealize.ShloMosaic Idealize.ShloMosaic.TcCoe Idealize.ShloMosaic.Tactic Idealize.SL.Sem
open Cert.GdnOutReferenceIdeal Cert.GdnOutReferenceIdeal.Gen
open Cert.Norm (lnAt)

/-- From equal arguments the reference leaves the kernel's result, and its arguments as they were. -/
theorem run_eq (m : (ℓ : Loc Cert.GdnOutIdeal.nD Cert.GdnOutIdeal.τ Cert.GdnOutIdeal.sig) → Buf (Elt Ideal) ℓ)
    (m' : (ℓ : Loc nD τ sig) → Buf (Elt Ideal) ℓ) (g' : Dev nD → PrngReg)
    (h0 : ∀ c : Dev Cert.GdnOutReferenceIdeal.nD, m' ((c.tc : Thread nD τ).loc main_arg0) = Cert.GdnOutIdeal.Val.aA m c)
    (h1 : ∀ c : Dev Cert.GdnOutReferenceIdeal.nD, m' ((c.tc : Thread nD τ).loc main_arg1) = Cert.GdnOutIdeal.Val.wA m c)
    (h2 : ∀ c : Dev Cert.GdnOutReferenceIdeal.nD, m' ((c.tc : Thread nD τ).loc main_arg2) = Cert.GdnOutIdeal.Val.xA m c)
    (h3 : ∀ c : Dev Cert.GdnOutReferenceIdeal.nD, m' ((c.tc : Thread nD τ).loc main_arg3) = Cert.GdnOutIdeal.Val.gA m c)
    (h4 : ∀ c : Dev Cert.GdnOutReferenceIdeal.nD, m' ((c.tc : Thread nD τ).loc main_arg4) = Cert.GdnOutIdeal.Val.bA m c) :
    θ_run defs (onTc (τ := τ) (main (F := Ideal))) ⟨m', fun _ => 0, g'⟩ fun r => ∀ c : Dev nD,
      r.2.mem ((c.tc : Thread nD τ).loc main_v28) = Cert.GdnOutIdeal.Value.G5 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run defs _ _).mono (fun r hr c => ⟨(hr c).1.trans ?_, (hr c).2⟩) (Cert.GdnOutReferenceIdeal.Value.run m' g')
  rw [h0 c, h1 c, h2 c, h3 c, h4 c]
  funext i
  obtain ⟨R, k, rfl⟩ : ∃ (R : Fin 8704) (k : Fin 2048), i = ix2 R k := ⟨i 0, i 1, by funext a; fin_cases a <;> rfl⟩
  refine Eq.trans ?_ (Cert.GdnOutIdeal.Val.result_apply m c R k).symm
  unfold Cert.GdnOutIdeal.Val.outAt lnAt
  generalize Cert.GdnOutIdeal.Val.aA m c = a
  generalize Cert.GdnOutIdeal.Val.wA m c = w
  generalize Cert.GdnOutIdeal.Val.xA m c = x
  generalize Cert.GdnOutIdeal.Val.gA m c = g
  generalize Cert.GdnOutIdeal.Val.bA m c = b
  pointwise

end Cert.GdnOutMeet

end
-- ==== Proof.FlashPieces.lean ====
/- What one step of the attention kernel leaves in its scratch arrays and in its output block, as functions of the step's input
   blocks and of what the scratch arrays held: the kernel takes the heads in four groups, so an array is four bands of rows. -/
module

public import proofs.«01_k».proof.Proof.Gen.FlashIdeal.Value
public import Idealize.ShloMosaic.Lib.Pointwise
public import Idealize.ShloMosaic.Lib.WritesUnit
public import Idealize.ShloMosaic.Lib.VecWindow
public import Idealize.ShloMosaic.Lib.Pipeline.ReadBack

@[expose] public section

set_option maxRecDepth 16384

noncomputable section

namespace Cert.FlashIdeal.Val

open Idealize.ShloMosaic Idealize.ShloMosaic.TcCoe Idealize.ShloMosaic.Tactic
open Idealize.ShloMosaic.Pipeline (Dat Cfg Window)
open Cert.FlashIdeal.Gen

variable {F : FTy → Type} [FloatOps F] [Named F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

/-- Four bands of 512 rows, one under the other. -/
def stack {W : ℕ} (f : Fin 4 → Vec F ⟨2, ![512, W]⟩ .f32) : Vec F ⟨2, ![2048, W]⟩ .f32 := fun y =>
  f ⟨(y 0).val / 512, Nat.div_lt_of_lt_mul (y 0).isLt⟩ (ix2 ⟨(y 0).val % 512, Nat.mod_lt _ (by decide)⟩ (y 1))

/-- Band `k` of an array of 2048 rows. -/
def band {W : ℕ} (k : Fin 4) (X : Vec F ⟨2, ![2048, W]⟩ .f32) : Vec F ⟨2, ![512, W]⟩ .f32 := fun y =>
  X (ix2 ⟨512 * k.val + (y 0).val, by have h : (y 0).val < 512 := (y 0).isLt; have := k.isLt; omega⟩ (y 1))

/-- The four heads of group `k`. -/
def heads (k : Fin 4) (X : Vec F S16x128x320 .bf16) : Vec F S4x128x320 .bf16 := fun y =>
  X (ix3 ⟨4 * k.val + (y 0).val, by have h : (y 0).val < 4 := (y 0).isLt; have := k.isLt; omega⟩ (y 1) (y 2))

/-- An index inside a band reads the band. -/
theorem stack_of {W : ℕ} (f : Fin 4 → Vec F ⟨2, ![512, W]⟩ .f32) (y : (⟨2, ![2048, W]⟩ : Shape).Idx) (k : Fin 4) (o : ℕ)
    (ho : o = 512 * k.val) (h : o ≤ (y (0 : Fin 2)).val ∧ (y (0 : Fin 2)).val < o + 512)
    (x : (⟨2, ![512, W]⟩ : Shape).Idx) (hx0 : (x (0 : Fin 2)).val = (y (0 : Fin 2)).val - o)
    (hx1 : (x (1 : Fin 2)).val = (y (1 : Fin 2)).val) : f k x = stack f y := by
  have hk : (⟨(y (0 : Fin 2)).val / 512, Nat.div_lt_of_lt_mul (y 0).isLt⟩ : Fin 4) = k := Fin.ext (by
    show (y (0 : Fin 2)).val / 512 = k.val
    omega)
  unfold stack
  rw [hk]
  refine congrArg (f k) (funext fun a => Fin.ext ?_)
  match a with
  | ⟨0, _⟩ =>
    show (x (0 : Fin 2)).val = (y (0 : Fin 2)).val % 512
    rw [hx0]
    omega
  | ⟨1, _⟩ => exact hx1

/-- What four stores of bands leave, over anything. -/
theorem read_stack {W : ℕ} {sp : Space} (v : View sig .tc sp ⟨2, ![2048, W]⟩ .f32) (b : v.ty.Contents (Elt F))
    (f : Fin 4 → Vec F ⟨2, ![512, W]⟩ .f32) (inb3 inb2 inb1 inb0)
    (p3 p2 p1 p0 : Vec F ⟨2, ![512, W]⟩ .f32) (L : List (View.Piece (Elt F) (⟨2, ![2048, W]⟩ : Shape) .f32))
    (h3 : p3 = f 3) (h2 : p2 = f 2) (h1 : p1 = f 1) (h0 : p0 = f 0) :
    v.read (Elt F) (v.writes (Elt F) b
      ((⟨Rect.unit (s := ⟨2, ![2048, W]⟩) ![1536, 0] ![512, W] inb3, p3⟩ : View.Piece (Elt F) (⟨2, ![2048, W]⟩ : Shape) .f32)
        :: (⟨Rect.unit (s := ⟨2, ![2048, W]⟩) ![1024, 0] ![512, W] inb2, p2⟩ : View.Piece (Elt F) (⟨2, ![2048, W]⟩ : Shape) .f32)
        :: (⟨Rect.unit (s := ⟨2, ![2048, W]⟩) ![512, 0] ![512, W] inb1, p1⟩ : View.Piece (Elt F) (⟨2, ![2048, W]⟩ : Shape) .f32)
        :: (⟨Rect.unit (s := ⟨2, ![2048, W]⟩) ![0, 0] ![512, W] inb0, p0⟩ : View.Piece (Elt F) (⟨2, ![2048, W]⟩ : Shape) .f32) :: L))
      = stack f := by
  subst h3 h2 h1 h0
  funext y
  have hy : (y (0 : Fin 2)).val < 2048 := (y 0).isLt
  rw [View.read_writes_cons_rows v b (o := 1536) (W := 512) inb3 _ _ y rfl rfl rfl]
  split
  · rename_i h
    exact stack_of f y 3 1536 rfl h _ rfl (Nat.sub_zero _)
  rw [View.read_writes_cons_rows v b (o := 1024) (W := 512) inb2 _ _ y rfl rfl rfl]
  split
  · rename_i h
    exact stack_of f y 2 1024 rfl h _ rfl (Nat.sub_zero _)
  rw [View.read_writes_cons_rows v b (o := 512) (W := 512) inb1 _ _ y rfl rfl rfl]
  split
  · rename_i h
    exact stack_of f y 1 512 rfl h _ rfl (Nat.sub_zero _)
  rw [View.read_writes_cons_rows v b (o := 0) (W := 512) inb0 _ _ y rfl rfl rfl]
  split
  · rename_i h
    exact stack_of f y 0 0 rfl h _ rfl (Nat.sub_zero _)
  · omega

/-- The same of a load of the whole array after the stores. -/
theorem cov_stack {W : ℕ} {sp : Space} (v : View sig .tc sp ⟨2, ![2048, W]⟩ .f32)
    (f : Fin 4 → Vec F ⟨2, ![512, W]⟩ .f32) (inb3 inb2 inb1 inb0 inb)
    (p3 p2 p1 p0 : Vec F ⟨2, ![512, W]⟩ .f32) (L : List (View.Piece (Elt F) (⟨2, ![2048, W]⟩ : Shape) .f32))
    (h3 : p3 = f 3) (h2 : p2 = f 2) (h1 : p1 = f 1) (h0 : p0 = f 0) :
    v.readCov
      ((⟨Rect.unit (s := ⟨2, ![2048, W]⟩) ![1536, 0] ![512, W] inb3, p3⟩ : View.Piece (Elt F) (⟨2, ![2048, W]⟩ : Shape) .f32)
        :: (⟨Rect.unit (s := ⟨2, ![2048, W]⟩) ![1024, 0] ![512, W] inb2, p2⟩ : View.Piece (Elt F) (⟨2, ![2048, W]⟩ : Shape) .f32)
        :: (⟨Rect.unit (s := ⟨2, ![2048, W]⟩) ![512, 0] ![512, W] inb1, p1⟩ : View.Piece (Elt F) (⟨2, ![2048, W]⟩ : Shape) .f32)
        :: (⟨Rect.unit (s := ⟨2, ![2048, W]⟩) ![0, 0] ![512, W] inb0, p0⟩ : View.Piece (Elt F) (⟨2, ![2048, W]⟩ : Shape) .f32) :: L)
      (Rect.unit (s := ⟨2, ![2048, W]⟩) ![0, 0] ![2048, W] inb).toLoadRect
      = stack f := by
  rw [View.readCov_eq_canon', ← View.read_writes_junk_eq_canon v,
    read_stack v _ f inb3 inb2 inb1 inb0 p3 p2 p1 p0 L h3 h2 h1 h0]
  funext j
  refine congrArg (stack f) (funext fun a => Fin.ext ?_)
  match a with
  | ⟨0, _⟩ => show 0 + 1 * (j (0 : Fin 2)).val = (j (0 : Fin 2)).val; omega
  | ⟨1, _⟩ => show 0 + 1 * (j (1 : Fin 2)).val = (j (1 : Fin 2)).val; omega

theorem band_eq_ld {W : ℕ} (k : Fin 4) (o : ℕ) (ho : 512 * k.val = o) (X : Vec F ⟨2, ![2048, W]⟩ .f32) (inb) :
    band k X = View.ld X (Rect.unit (s := ⟨2, ![2048, W]⟩) ![o, 0] ![512, W] inb) := by
  subst ho
  funext y
  refine congrArg X (funext fun a => Fin.ext ?_)
  match a with
  | ⟨0, _⟩ => show 512 * k.val + (y (0 : Fin 2)).val = 512 * k.val + 1 * (y (0 : Fin 2)).val; omega
  | ⟨1, _⟩ => show (y (1 : Fin 2)).val = 0 + 1 * (y (1 : Fin 2)).val; omega

theorem heads_eq_ld (k : Fin 4) (o : ℕ) (ho : 4 * k.val = o) (X : Vec F S16x128x320 .bf16) (inb) :
    heads k X = View.ld X (Rect.unit (s := S16x128x320) ![o, 0, 0] ![4, 128, 320] inb) := by
  subst ho
  funext y
  refine congrArg X (funext fun a => Fin.ext ?_)
  match a with
  | ⟨0, _⟩ => show 4 * k.val + (y (0 : Fin 3)).val = 4 * k.val + 1 * (y (0 : Fin 3)).val; omega
  | ⟨1, _⟩ => show (y (1 : Fin 3)).val = 0 + 1 * (y (1 : Fin 3)).val; omega
  | ⟨2, _⟩ => show (y (2 : Fin 3)).val = 0 + 1 * (y (2 : Fin 3)).val; omega

theorem ld_keys (X : Vec F S512x320 .bf16) (inb) :
    View.ld X (Rect.unit (s := S512x320) ![0, 0] ![512, 320] inb) = X := by
  funext y
  refine congrArg X (funext fun a => Fin.ext ?_)
  match a with
  | ⟨0, _⟩ => show 0 + 1 * (y (0 : Fin 2)).val = (y (0 : Fin 2)).val; omega
  | ⟨1, _⟩ => show 0 + 1 * (y (1 : Fin 2)).val = (y (1 : Fin 2)).val; omega

/-- The kernel's loads of a group of heads and of a band are those heads and that band. -/
theorem parts :
    (∀ X : Vec F S16x128x320 .bf16, heads 0 X = View.ld X (Rect.unit (s := S16x128x320) ![0, 0, 0] ![4, 128, 320] inb_S16x128x320_S4x128x320_0_0_0))
    ∧ (∀ X : Vec F S2048x1 .f32, band 0 X = View.ld X (Rect.unit (s := S2048x1) ![0, 0] ![512, 1] inb_S2048x1_S512x1_0_0))
    ∧ (∀ X : Vec F S2048x256 .f32, band 0 X = View.ld X (Rect.unit (s := S2048x256) ![0, 0] ![512, 256] inb_S2048x256_S512x256_0_0))
    ∧ (∀ X : Vec F S16x128x320 .bf16, heads 1 X = View.ld X (Rect.unit (s := S16x128x320) ![4, 0, 0] ![4, 128, 320] inb_S16x128x320_S4x128x320_4_0_0))
    ∧ (∀ X : Vec F S2048x1 .f32, band 1 X = View.ld X (Rect.unit (s := S2048x1) ![512, 0] ![512, 1] inb_S2048x1_S512x1_512_0))
    ∧ (∀ X : Vec F S2048x256 .f32, band 1 X = View.ld X (Rect.unit (s := S2048x256) ![512, 0] ![512, 256] inb_S2048x256_S512x256_512_0))
    ∧ (∀ X : Vec F S16x128x320 .bf16, heads 2 X = View.ld X (Rect.unit (s := S16x128x320) ![8, 0, 0] ![4, 128, 320] inb_S16x128x320_S4x128x320_8_0_0))
    ∧ (∀ X : Vec F S2048x1 .f32, band 2 X = View.ld X (Rect.unit (s := S2048x1) ![1024, 0] ![512, 1] inb_S2048x1_S512x1_1024_0))
    ∧ (∀ X : Vec F S2048x256 .f32, band 2 X = View.ld X (Rect.unit (s := S2048x256) ![1024, 0] ![512, 256] inb_S2048x256_S512x256_1024_0))
    ∧ (∀ X : Vec F S16x128x320 .bf16, heads 3 X = View.ld X (Rect.unit (s := S16x128x320) ![12, 0, 0] ![4, 128, 320] inb_S16x128x320_S4x128x320_12_0_0))
    ∧ (∀ X : Vec F S2048x1 .f32, band 3 X = View.ld X (Rect.unit (s := S2048x1) ![1536, 0] ![512, 1] inb_S2048x1_S512x1_1536_0))
    ∧ (∀ X : Vec F S2048x256 .f32, band 3 X = View.ld X (Rect.unit (s := S2048x256) ![1536, 0] ![512, 256] inb_S2048x256_S512x256_1536_0)) :=
  ⟨fun X => heads_eq_ld 0 _ rfl X _, fun X => band_eq_ld 0 _ rfl X _, fun X => band_eq_ld 0 _ rfl X _,
    fun X => heads_eq_ld 1 _ rfl X _, fun X => band_eq_ld 1 _ rfl X _, fun X => band_eq_ld 1 _ rfl X _,
    fun X => heads_eq_ld 2 _ rfl X _, fun X => band_eq_ld 2 _ rfl X _, fun X => band_eq_ld 2 _ rfl X _,
    fun X => heads_eq_ld 3 _ rfl X _, fun X => band_eq_ld 3 _ rfl X _, fun X => band_eq_ld 3 _ rfl X _⟩

/-! ## One group of heads, one block of keys -/

section Group

variable (k : Vec F S512x320 .bf16) (q : Vec F S4x128x320 .bf16) (mx l : Vec F S512x1 .f32) (acc : Vec F S512x256 .f32)

/-- The running maxima, sums and weighted rows after a block of keys every query sees. -/
def maxG : Vec F S512x1 .f32 := k0_pay15 (k0_pay10 k q mx)
def sumG : Vec F S512x1 .f32 := k0_pay13 k q mx l
def accG : Vec F S512x256 .f32 := k0_pay14 k q mx acc

/-- The same after a block of keys that some queries do not see: `a` numbers the block of queries, `b` the block of keys. -/
def maxM (a b : BitVec 32) : Vec F S512x1 .f32 := k0_pay45 (k0_pay40 a b k q mx)
def sumM (a b : BitVec 32) : Vec F S512x1 .f32 := k0_pay43 a b k q mx l
def accM (a b : BitVec 32) : Vec F S512x256 .f32 := k0_pay44 (k0_pay37 k) (k0_pay41 a b k q mx) (k0_pay42 a b k q mx) acc

end Group

/-! ## The only block of keys a query block sees. -/

section Firstlast

variable (c : Dev nD) (i : grid0.Coords)
  (arg3 : Memref sig .tc .vmem S16x128x320 .bf16) (harg3 : arg3.IsWhole)
  (arg4 : Memref sig .tc .vmem S512x320 .bf16) (harg4 : arg4.IsWhole)
  (arg5 : Memref sig .tc .vmem S16x128x256 .bf16) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x256 .f32) (harg8 : arg8.IsWhole)
  (hc0 : cond0_0 i) (hc1 : ¬cond0_1 i) (hc2 : cond0_2 i) (hc3 : ¬cond0_3 i)
  (x0 : Vec F S16x128x320 .bf16) (x1 : Vec F S512x320 .bf16)

theorem firstlast_all :
    sout0_A_0 c i arg3 harg3 arg4 harg4 arg5 harg5 arg6 harg6 arg7 harg7 arg8 harg8 hc0 hc1 hc2 hc3 x0 x1 = stack (fun k => maxM x1 (heads k x0) (band k (k0_pay1 (F := F))) (BitVec.ofNat 32 (i 1).val) (BitVec.ofNat 32 (i 2).val))
    ∧ sout0_A_1 c i arg3 harg3 arg4 harg4 arg5 harg5 arg6 harg6 arg7 harg7 arg8 harg8 hc0 hc1 hc2 hc3 x0 x1 = stack (fun k => sumM x1 (heads k x0) (band k (k0_pay1 (F := F))) (band k (k0_pay2 (F := F))) (BitVec.ofNat 32 (i 1).val) (BitVec.ofNat 32 (i 2).val))
    ∧ sout0_A_2 c i arg3 harg3 arg4 harg4 arg5 harg5 arg6 harg6 arg7 harg7 arg8 harg8 hc0 hc1 hc2 hc3 x0 x1 = stack (fun k => accM x1 (heads k x0) (band k (k0_pay1 (F := F))) (band k (k0_pay3 (F := F))) (BitVec.ofNat 32 (i 1).val) (BitVec.ofNat 32 (i 2).val)) := by
  unfold sout0_A_0 sout0_A_1 sout0_A_2 kernelRun0_A
  dsimp only
  open kernelRun0_A.sl in
  simp only [HS0_1, HS0_2, HS0_3, HS0_4, HS1_1, HS1_2, HS1_3, HS1_4, HS2_1, HS2_2, HS2_3, HS2_4, r, r_1, r_10, r_11, r_12, r_13, r_14, r_15, r_2, r_3, r_4, r_5, r_6, r_7, r_8, r_9, v100, v108, v129, v138, v146, v167, v176, v184, v53, v62, v70, v91]
  refine ⟨read_stack _ _ _ _ _ _ _ _ _ _ _ _ ?_ ?_ ?_ ?_, read_stack _ _ _ _ _ _ _ _ _ _ _ _ ?_ ?_ ?_ ?_, read_stack _ _ _ _ _ _ _ _ _ _ _ _ ?_ ?_ ?_ ?_⟩
  all_goals
    simp (config := {decide := true}) only [View.readCov_skip, View.readCov_fill, View.readAt_eq_ld, Memref.IsWhole.read_unread, ld_keys, parts]
    rfl

end Firstlast

/-! ## The first block of keys, every one seen. -/

section First

variable (c : Dev nD) (i : grid0.Coords)
  (arg3 : Memref sig .tc .vmem S16x128x320 .bf16) (harg3 : arg3.IsWhole)
  (arg4 : Memref sig .tc .vmem S512x320 .bf16) (harg4 : arg4.IsWhole)
  (arg5 : Memref sig .tc .vmem S16x128x256 .bf16) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x256 .f32) (harg8 : arg8.IsWhole)
  (hc0 : cond0_0 i) (hc1 : cond0_1 i) (hc2 : ¬cond0_2 i) (hc3 : ¬cond0_3 i)
  (x0 : Vec F S16x128x320 .bf16) (x1 : Vec F S512x320 .bf16)

theorem first_all :
    sout0_D_0 c i arg3 harg3 arg4 harg4 arg5 harg5 arg6 harg6 arg7 harg7 arg8 harg8 hc0 hc1 hc2 hc3 x0 x1 = stack (fun k => maxG x1 (heads k x0) (band k (k0_pay1 (F := F))))
    ∧ sout0_D_1 c i arg3 harg3 arg4 harg4 arg5 harg5 arg6 harg6 arg7 harg7 arg8 harg8 hc0 hc1 hc2 hc3 x0 x1 = stack (fun k => sumG x1 (heads k x0) (band k (k0_pay1 (F := F))) (band k (k0_pay2 (F := F))))
    ∧ sout0_D_2 c i arg3 harg3 arg4 harg4 arg5 harg5 arg6 harg6 arg7 harg7 arg8 harg8 hc0 hc1 hc2 hc3 x0 x1 = stack (fun k => accG x1 (heads k x0) (band k (k0_pay1 (F := F))) (band k (k0_pay3 (F := F)))) := by
  unfold sout0_D_0 sout0_D_1 sout0_D_2 kernelRun0_D
  dsimp only
  open kernelRun0_D.sl in
  simp only [HS0_1, HS0_2, HS0_3, HS0_4, HS1_1, HS1_2, HS1_3, HS1_4, HS2_1, HS2_2, HS2_3, HS2_4, r, r_1, r_2, r_3, v112, v121, v129, v148, v157, v165, v40, v49, v57, v76, v85, v93]
  refine ⟨read_stack _ _ _ _ _ _ _ _ _ _ _ _ ?_ ?_ ?_ ?_, read_stack _ _ _ _ _ _ _ _ _ _ _ _ ?_ ?_ ?_ ?_, read_stack _ _ _ _ _ _ _ _ _ _ _ _ ?_ ?_ ?_ ?_⟩
  all_goals
    simp (config := {decide := true}) only [View.readCov_skip, View.readCov_fill, View.readAt_eq_ld, Memref.IsWhole.read_unread, ld_keys, parts]
    rfl

end First

/-! ## A later block, the last the queries see. -/

section Last

variable (c : Dev nD) (i : grid0.Coords)
  (arg3 : Memref sig .tc .vmem S16x128x320 .bf16) (harg3 : arg3.IsWhole)
  (arg4 : Memref sig .tc .vmem S512x320 .bf16) (harg4 : arg4.IsWhole)
  (arg5 : Memref sig .tc .vmem S16x128x256 .bf16) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x256 .f32) (harg8 : arg8.IsWhole)
  (hc0 : ¬cond0_0 i) (hc1 : ¬cond0_1 i) (hc2 : cond0_2 i) (hc3 : ¬cond0_3 i)
  (x0 : Vec F S16x128x320 .bf16) (x1 : Vec F S512x320 .bf16) (xs0 xs1 : Vec F S2048x1 .f32) (xs2 : Vec F S2048x256 .f32)

theorem last_all :
    sout0_E_0 c i arg3 harg3 arg4 harg4 arg5 harg5 arg6 harg6 arg7 harg7 arg8 harg8 hc0 hc1 hc2 hc3 x0 x1 xs0 xs1 xs2 = stack (fun k => maxM x1 (heads k x0) (band k (xs0)) (BitVec.ofNat 32 (i 1).val) (BitVec.ofNat 32 (i 2).val))
    ∧ sout0_E_1 c i arg3 harg3 arg4 harg4 arg5 harg5 arg6 harg6 arg7 harg7 arg8 harg8 hc0 hc1 hc2 hc3 x0 x1 xs0 xs1 xs2 = stack (fun k => sumM x1 (heads k x0) (band k (xs0)) (band k (xs1)) (BitVec.ofNat 32 (i 1).val) (BitVec.ofNat 32 (i 2).val))
    ∧ sout0_E_2 c i arg3 harg3 arg4 harg4 arg5 harg5 arg6 harg6 arg7 harg7 arg8 harg8 hc0 hc1 hc2 hc3 x0 x1 xs0 xs1 xs2 = stack (fun k => accM x1 (heads k x0) (band k (xs0)) (band k (xs2)) (BitVec.ofNat 32 (i 1).val) (BitVec.ofNat 32 (i 2).val)) := by
  unfold sout0_E_0 sout0_E_1 sout0_E_2 kernelRun0_E
  dsimp only
  open kernelRun0_E.sl in
  simp only [r, r_1, r_10, r_11, r_12, r_13, r_14, r_15, r_2, r_3, r_4, r_5, r_6, r_7, r_8, r_9, v100, v108, v129, v138, v146, v167, v176, v184, v91]
  refine ⟨read_stack _ _ _ _ _ _ _ _ _ _ _ _ ?_ ?_ ?_ ?_, read_stack _ _ _ _ _ _ _ _ _ _ _ _ ?_ ?_ ?_ ?_, read_stack _ _ _ _ _ _ _ _ _ _ _ _ ?_ ?_ ?_ ?_⟩
  all_goals
    simp (config := {decide := true}) only [View.readCov_skip, View.readCov_fill, View.readAt_eq_ld, Memref.IsWhole.read_unread, ld_keys, parts]
    rfl

end Last

/-! ## A later block, every key seen. -/

section Mid

variable (c : Dev nD) (i : grid0.Coords)
  (arg3 : Memref sig .tc .vmem S16x128x320 .bf16) (harg3 : arg3.IsWhole)
  (arg4 : Memref sig .tc .vmem S512x320 .bf16) (harg4 : arg4.IsWhole)
  (arg5 : Memref sig .tc .vmem S16x128x256 .bf16) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x256 .f32) (harg8 : arg8.IsWhole)
  (hc0 : ¬cond0_0 i) (hc1 : cond0_1 i) (hc2 : ¬cond0_2 i) (hc3 : ¬cond0_3 i)
  (x0 : Vec F S16x128x320 .bf16) (x1 : Vec F S512x320 .bf16) (xs0 xs1 : Vec F S2048x1 .f32) (xs2 : Vec F S2048x256 .f32)

theorem mid_all :
    sout0_F_0 c i arg3 harg3 arg4 harg4 arg5 harg5 arg6 harg6 arg7 harg7 arg8 harg8 hc0 hc1 hc2 hc3 x0 x1 xs0 xs1 xs2 = stack (fun k => maxG x1 (heads k x0) (band k (xs0)))
    ∧ sout0_F_1 c i arg3 harg3 arg4 harg4 arg5 harg5 arg6 harg6 arg7 harg7 arg8 harg8 hc0 hc1 hc2 hc3 x0 x1 xs0 xs1 xs2 = stack (fun k => sumG x1 (heads k x0) (band k (xs0)) (band k (xs1)))
    ∧ sout0_F_2 c i arg3 harg3 arg4 harg4 arg5 harg5 arg6 harg6 arg7 harg7 arg8 harg8 hc0 hc1 hc2 hc3 x0 x1 xs0 xs1 xs2 = stack (fun k => accG x1 (heads k x0) (band k (xs0)) (band k (xs2))) := by
  unfold sout0_F_0 sout0_F_1 sout0_F_2 kernelRun0_F
  dsimp only
  open kernelRun0_F.sl in
  simp only [r, r_1, r_2, r_3, r_4, v112, v121, v129, v148, v157, v165, v76, v85, v93]
  refine ⟨read_stack _ _ _ _ _ _ _ _ _ _ _ _ ?_ ?_ ?_ ?_, read_stack _ _ _ _ _ _ _ _ _ _ _ _ ?_ ?_ ?_ ?_, read_stack _ _ _ _ _ _ _ _ _ _ _ _ ?_ ?_ ?_ ?_⟩
  all_goals
    simp (config := {decide := true}) only [View.readCov_skip, View.readCov_fill, View.readAt_eq_ld, Memref.IsWhole.read_unread, ld_keys, parts]
    rfl

end Mid

/-! ## The last block of all, some keys seen. -/

section End

variable (c : Dev nD) (i : grid0.Coords)
  (arg3 : Memref sig .tc .vmem S16x128x320 .bf16) (harg3 : arg3.IsWhole)
  (arg4 : Memref sig .tc .vmem S512x320 .bf16) (harg4 : arg4.IsWhole)
  (arg5 : Memref sig .tc .vmem S16x128x256 .bf16) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x256 .f32) (harg8 : arg8.IsWhole)
  (hc0 : ¬cond0_0 i) (hc1 : ¬cond0_1 i) (hc2 : cond0_2 i) (hc3 : cond0_3 i)
  (x0 : Vec F S16x128x320 .bf16) (x1 : Vec F S512x320 .bf16) (xs0 xs1 : Vec F S2048x1 .f32) (xs2 : Vec F S2048x256 .f32)

theorem end_all :
    sout0_G_0 c i arg3 harg3 arg4 harg4 arg5 harg5 arg6 harg6 arg7 harg7 arg8 harg8 hc0 hc1 hc2 hc3 x0 x1 xs0 xs1 xs2 = stack (fun k => maxM x1 (heads k x0) (band k (xs0)) (BitVec.ofNat 32 (i 1).val) (BitVec.ofNat 32 (i 2).val))
    ∧ sout0_G_1 c i arg3 harg3 arg4 harg4 arg5 harg5 arg6 harg6 arg7 harg7 arg8 harg8 hc0 hc1 hc2 hc3 x0 x1 xs0 xs1 xs2 = stack (fun k => sumM x1 (heads k x0) (band k (xs0)) (band k (xs1)) (BitVec.ofNat 32 (i 1).val) (BitVec.ofNat 32 (i 2).val))
    ∧ sout0_G_2 c i arg3 harg3 arg4 harg4 arg5 harg5 arg6 harg6 arg7 harg7 arg8 harg8 hc0 hc1 hc2 hc3 x0 x1 xs0 xs1 xs2 = stack (fun k => accM x1 (heads k x0) (band k (xs0)) (band k (xs2)) (BitVec.ofNat 32 (i 1).val) (BitVec.ofNat 32 (i 2).val)) := by
  unfold sout0_G_0 sout0_G_1 sout0_G_2 kernelRun0_G
  dsimp only
  open kernelRun0_G.sl in
  simp only [HS1_4, HS2_4, r, r_1, r_10, r_11, r_12, r_13, r_14, r_15, r_2, r_3, r_4, r_5, r_6, r_7, r_8, r_9, v100, v108, v129, v138, v146, v167, v176, v184, v91]
  refine ⟨read_stack _ _ _ _ _ _ _ _ _ _ _ _ ?_ ?_ ?_ ?_, read_stack _ _ _ _ _ _ _ _ _ _ _ _ ?_ ?_ ?_ ?_, read_stack _ _ _ _ _ _ _ _ _ _ _ _ ?_ ?_ ?_ ?_⟩
  all_goals
    simp (config := {decide := true}) only [View.readCov_skip, View.readCov_fill, View.readAt_eq_ld, Memref.IsWhole.read_unread, ld_keys, parts]
    rfl

theorem end_out :
    out0_G_2 c i arg3 harg3 arg4 harg4 arg5 harg5 arg6 harg6 arg7 harg7 arg8 harg8 hc0 hc1 hc2 hc3 x0 x1 xs0 xs1 xs2 = k0_pay7 (stack (fun k => accM x1 (heads k x0) (band k (xs0)) (band k (xs2)) (BitVec.ofNat 32 (i 1).val) (BitVec.ofNat 32 (i 2).val))) (stack (fun k => sumM x1 (heads k x0) (band k (xs0)) (band k (xs1)) (BitVec.ofNat 32 (i 1).val) (BitVec.ofNat 32 (i 2).val))) := by
  unfold out0_G_2 kernelRun0_G
  dsimp only
  refine (View.read_writes_full ..).trans ?_
  have ha : kernelRun0_G.sl.v32 c i arg3 harg3 arg4 harg4 arg6 harg6 arg8 harg8 x0 x1 xs0 xs2 = stack (fun k => accM x1 (heads k x0) (band k (xs0)) (band k (xs2)) (BitVec.ofNat 32 (i 1).val) (BitVec.ofNat 32 (i 2).val)) := by
    open kernelRun0_G.sl in
    simp only [v32, HS1_4, HS2_4, r, r_1, r_10, r_11, r_12, r_13, r_14, r_15, r_2, r_3, r_4, r_5, r_6, r_7, r_8, r_9, v100, v108, v129, v138, v146, v167, v176, v184, v91]
    refine cov_stack _ _ _ _ _ _ _ _ _ _ _ _ ?_ ?_ ?_ ?_
    all_goals
      simp (config := {decide := true}) only [View.readCov_skip, View.readCov_fill, View.readAt_eq_ld, Memref.IsWhole.read_unread, ld_keys, parts]
      rfl
  have hl : kernelRun0_G.sl.v33 c i arg3 harg3 arg4 harg4 arg6 harg6 arg7 harg7 x0 x1 xs0 xs1 = stack (fun k => sumM x1 (heads k x0) (band k (xs0)) (band k (xs1)) (BitVec.ofNat 32 (i 1).val) (BitVec.ofNat 32 (i 2).val)) := by
    open kernelRun0_G.sl in
    simp only [v33, HS1_4, HS2_4, r, r_1, r_10, r_11, r_12, r_13, r_14, r_15, r_2, r_3, r_4, r_5, r_6, r_7, r_8, r_9, v100, v108, v129, v138, v146, v167, v176, v184, v91]
    refine cov_stack _ _ _ _ _ _ _ _ _ _ _ _ ?_ ?_ ?_ ?_
    all_goals
      simp (config := {decide := true}) only [View.readCov_skip, View.readCov_fill, View.readAt_eq_ld, Memref.IsWhole.read_unread, ld_keys, parts]
      rfl
  rw [ha, hl]

end End

/-! ## A block of keys no query sees -/

theorem skip_out (c : Dev nD) (i : grid0.Coords) (arg3 : Memref sig .tc .vmem S16x128x320 .bf16) (harg3 : arg3.IsWhole) (arg4 : Memref sig .tc .vmem S512x320 .bf16) (harg4 : arg4.IsWhole) (arg5 : Memref sig .tc .vmem S16x128x256 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : ¬cond0_1 i) (hc2 : ¬cond0_2 i) (hc3 : cond0_3 i)
    (x0 : Vec F S16x128x320 .bf16) (x1 : Vec F S512x320 .bf16) (xs0 xs1 : Vec F S2048x1 .f32) (xs2 : Vec F S2048x256 .f32) :
    out0_C_2 c i arg3 harg3 arg4 harg4 arg5 harg5 arg6 harg6 arg7 harg7 arg8 harg8 hc0 hc1 hc2 hc3 x0 x1 xs0 xs1 xs2 = k0_pay7 xs2 xs1 := by
  unfold out0_C_2 kernelRun0_C
  dsimp only
  refine (View.read_writes_full ..).trans ?_
  have e8 := load_whole harg8 xs2 inb_S2048x256_S2048x256_0_0
  have e7 := load_whole harg7 xs1 inb_S2048x1_S2048x1_0_0
  exact congrArg₂ k0_pay7 e8 e7

end Cert.FlashIdeal.Val

end
-- ==== Proof.FlashSteps.lean ====
/- What each step of the attention kernel leaves, over what the step before left. -/
module

public import proofs.«01_k».proof.Proof.FlashPieces

@[expose] public section

set_option maxRecDepth 16384

noncomputable section

namespace Cert.FlashIdeal.Val

open Idealize.ShloMosaic Idealize.ShloMosaic.TcCoe Idealize.ShloMosaic.Tactic
open Idealize.ShloMosaic.Pipeline (Dat Cfg Window)
open Cert.FlashIdeal.Gen

variable {F : FTy → Type} [FloatOps F] [Named F]

variable (m : (ℓ : Loc nD τ sig) → Buf (Elt F) ℓ)

/-- The step's block of queries and its block of keys. -/
def qB (c : Dev nD) (t : Fin cfg0.N) : Vec F S16x128x320 .bf16 := iblk m c 0 t
def kB (c : Dev nD) (t : Fin cfg0.N) : Vec F S512x320 .bf16 := iblk m c 1 t

/-- The step's place along the queries and along the keys, as the kernel's words. -/
def qW (t : Fin cfg0.N) : BitVec 32 := BitVec.ofNat 32 ((grid0.coords t) 1).val
def kW (t : Fin cfg0.N) : BitVec 32 := BitVec.ofNat 32 ((grid0.coords t) 2).val

variable (c : Dev nD) (t : Fin cfg0.N)

/-- What the step before left. -/
abbrev prev := outsAt0 m c (t.val - 1) (Nat.lt_of_le_of_lt (Nat.sub_le _ _) t.isLt)

/-- The step's block of keys is seen whole, and the one where the step's queries end. -/
abbrev Whole : Prop := 4 * (t.val % 4) + 4 ≤ t.val / 4 % 16
abbrev Ends : Prop := 4 * (t.val % 4) ≤ t.val / 4 % 16 ∧ t.val / 4 % 16 ≤ 4 * (t.val % 4) + 3

theorem at_firstlast (h0 : t.val % 4 = 0) (h1 : ¬Whole t) (h2 : Ends t) (h3 : ¬t.val % 4 = 3) :
    (outsAt0 m c t.val t.isLt).2 = (stack (fun k => maxM (kB m c t) (heads k (qB m c t)) (band k (k0_pay1 (F := F))) (qW t) (kW t)),
      stack (fun k => sumM (kB m c t) (heads k (qB m c t)) (band k (k0_pay1 (F := F))) (band k (k0_pay2 (F := F))) (qW t) (kW t)),
      stack (fun k => accM (kB m c t) (heads k (qB m c t)) (band k (k0_pay1 (F := F))) (band k (k0_pay3 (F := F))) (qW t) (kW t))) := by
  obtain ⟨e0, e1, e2⟩ := firstlast_all c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t)
  rw [outsAt0_A m c t h0 h1 h2 h3]
  dsimp only
  rw [e0, e1, e2]
  rfl

theorem at_first (h0 : t.val % 4 = 0) (h1 : Whole t) (h2 : ¬Ends t) (h3 : ¬t.val % 4 = 3) :
    (outsAt0 m c t.val t.isLt).2 = (stack (fun k => maxG (kB m c t) (heads k (qB m c t)) (band k (k0_pay1 (F := F)))),
      stack (fun k => sumG (kB m c t) (heads k (qB m c t)) (band k (k0_pay1 (F := F))) (band k (k0_pay2 (F := F)))),
      stack (fun k => accG (kB m c t) (heads k (qB m c t)) (band k (k0_pay1 (F := F))) (band k (k0_pay3 (F := F))))) := by
  obtain ⟨e0, e1, e2⟩ := first_all c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t)
  rw [outsAt0_D m c t h0 h1 h2 h3]
  dsimp only
  rw [e0, e1, e2]
  rfl

theorem at_last (h0 : ¬t.val % 4 = 0) (h1 : ¬Whole t) (h2 : Ends t) (h3 : ¬t.val % 4 = 3) :
    (outsAt0 m c t.val t.isLt).2 = (stack (fun k => maxM (kB m c t) (heads k (qB m c t)) (band k (prev m c t).2.1) (qW t) (kW t)),
      stack (fun k => sumM (kB m c t) (heads k (qB m c t)) (band k (prev m c t).2.1) (band k (prev m c t).2.2.1) (qW t) (kW t)),
      stack (fun k => accM (kB m c t) (heads k (qB m c t)) (band k (prev m c t).2.1) (band k (prev m c t).2.2.2) (qW t) (kW t))) := by
  obtain ⟨e0, e1, e2⟩ := last_all c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.1 (prev m c t).2.2.1 (prev m c t).2.2.2
  rw [outsAt0_E m c t h0 h1 h2 h3]
  dsimp only
  rw [e0, e1, e2]
  rfl

theorem at_mid (h0 : ¬t.val % 4 = 0) (h1 : Whole t) (h2 : ¬Ends t) (h3 : ¬t.val % 4 = 3) :
    (outsAt0 m c t.val t.isLt).2 = (stack (fun k => maxG (kB m c t) (heads k (qB m c t)) (band k (prev m c t).2.1)),
      stack (fun k => sumG (kB m c t) (heads k (qB m c t)) (band k (prev m c t).2.1) (band k (prev m c t).2.2.1)),
      stack (fun k => accG (kB m c t) (heads k (qB m c t)) (band k (prev m c t).2.1) (band k (prev m c t).2.2.2))) := by
  obtain ⟨e0, e1, e2⟩ := mid_all c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prev m c t).2.1 (prev m c t).2.2.1 (prev m c t).2.2.2
  rw [outsAt0_F m c t h0 h1 h2 h3]
  dsimp only
  rw [e0, e1, e2]
  rfl

theorem at_end (h0 : ¬t.val % 4 = 0) (h1 : ¬Whole t) (h2 : Ends t) (h3 : t.val % 4 = 3) :
    (outsAt0 m c t.val t.isLt).2 = (stack (fun k => maxM (kB m c t) (heads k (qB m c t)) (band k (prev m c t).2.1) (qW t) (kW t)),
      stack (fun k => sumM (kB m c t) (heads k (qB m c t)) (band k (prev m c t).2.1) (band k (prev m c t).2.2.1) (qW t) (kW t)),
      stack (fun k => accM (kB m c t) (heads k (qB m c t)) (band k (prev m c t).2.1) (band k (prev m c t).2.2.2) (qW t) (kW t))) := by
  obtain ⟨e0, e1, e2⟩ := end_all c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.1 (prev m c t).2.2.1 (prev m c t).2.2.2
  rw [outsAt0_G m c t h0 h1 h2 h3]
  dsimp only
  rw [e0, e1, e2]
  rfl

theorem at_end_out (h0 : ¬t.val % 4 = 0) (h1 : ¬Whole t) (h2 : Ends t) (h3 : t.val % 4 = 3) :
    (outsAt0 m c t.val t.isLt).1 = k0_pay7 (outsAt0 m c t.val t.isLt).2.2.2 (outsAt0 m c t.val t.isLt).2.2.1 := by
  rw [at_end m c t h0 h1 h2 h3]
  have e := end_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.1 (prev m c t).2.2.1 (prev m c t).2.2.2
  rw [outsAt0_G m c t h0 h1 h2 h3]
  dsimp only
  rw [e]
  rfl

theorem at_skipB (h0 : ¬t.val % 4 = 0) (h1 : ¬Whole t) (h2 : ¬Ends t) (h3 : ¬t.val % 4 = 3) :
    (outsAt0 m c t.val t.isLt).2 = (prev m c t).2 := by
  rw [outsAt0_B m c t h0 h1 h2 h3]
  rfl

theorem at_skipC (h0 : ¬t.val % 4 = 0) (h1 : ¬Whole t) (h2 : ¬Ends t) (h3 : t.val % 4 = 3) :
    (outsAt0 m c t.val t.isLt).2 = (prev m c t).2 := by
  rw [outsAt0_C m c t h0 h1 h2 h3]
  rfl

theorem at_skip_out (h0 : ¬t.val % 4 = 0) (h1 : ¬Whole t) (h2 : ¬Ends t) (h3 : t.val % 4 = 3) :
    (outsAt0 m c t.val t.isLt).1 = k0_pay7 (outsAt0 m c t.val t.isLt).2.2.2 (outsAt0 m c t.val t.isLt).2.2.1 := by
  rw [at_skipC m c t h0 h1 h2 h3]
  have e := skip_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (prev m c t).2.1 (prev m c t).2.2.1 (prev m c t).2.2.2
  rw [outsAt0_C m c t h0 h1 h2 h3]
  dsimp only
  rw [e]

/-- A step that ends a block of queries writes the weighted rows over the sums. -/
theorem at_out (h3 : t.val % 4 = 3) :
    (outsAt0 m c t.val t.isLt).1 = k0_pay7 (outsAt0 m c t.val t.isLt).2.2.2 (outsAt0 m c t.val t.isLt).2.2.1 := by
  have hm : t.val / 4 % 16 < 16 := Nat.mod_lt _ (by decide)
  by_cases h2 : Ends t
  · exact at_end_out m c t (by omega) (by omega) h2 h3
  · exact at_skip_out m c t (by omega) (by omega) h2 h3

end Cert.FlashIdeal.Val

end
-- ==== Proof.FlashRows.lean ====
/- One step of the attention kernel, row by row: row `128 h + q` of the scratch arrays is head `h`, query `q` of the block. -/
module

public import proofs.«01_k».proof.Proof.FlashPieces

@[expose] public section

set_option maxRecDepth 16384

noncomputable section

namespace Cert.FlashIdeal.Val

open Idealize.ShloMosaic Idealize.ShloMosaic.TcCoe Idealize.ShloMosaic.Tactic
open Cert.FlashIdeal.Gen

/-- The scaled product of a row's query with key `j` of the block. -/
def raw (x0 : Vec Ideal S16x128x320 .bf16) (x1 : Vec Ideal S512x320 .bf16) (ρ : Fin 2048) (j : Fin 512) : EReal :=
  (∑ f : Fin 320, (x0 (ix3 (⟨ρ.val / 128, by omega⟩ : Fin 16) (⟨ρ.val % 128, by omega⟩ : Fin 128) f) : EReal)
    * (x1 (ix2 j f) : EReal)) * Ideal.ofBits .f32 0x3D93CD3A#32

/-- The same with the keys after the query's position at minus infinity. -/
def seen (x0 : Vec Ideal S16x128x320 .bf16) (x1 : Vec Ideal S512x320 .bf16) (a b : ℕ) (ρ : Fin 2048) (j : Fin 512) : EReal :=
  if 512 * b + j.val ≤ 128 * a + ρ.val % 128 then raw x0 x1 ρ j else ⊥

/-- The group of a row and the row's place in it. -/
def grp (ρ : Fin 2048) : Fin 4 := ⟨ρ.val / 512, by omega⟩
def off (ρ : Fin 2048) : Fin 512 := ⟨ρ.val % 512, by omega⟩

theorem stack_at {W : ℕ} (f : Fin 4 → Vec Ideal ⟨2, ![512, W]⟩ .f32) (ρ : Fin 2048) (d : Fin W) :
    stack f (ix2 ρ d) = f (grp ρ) (ix2 (off ρ) d) := rfl

theorem band_at {W : ℕ} (X : Vec Ideal ⟨2, ![2048, W]⟩ .f32) (ρ : Fin 2048) (d : Fin W) :
    band (grp ρ) X (ix2 (off ρ) d) = X (ix2 ρ d) := by
  have h : (⟨512 * (grp ρ).val + (off ρ).val, by have := (grp ρ).isLt; have := (off ρ).isLt; omega⟩ : Fin 2048) = ρ :=
    Fin.ext (by show 512 * (ρ.val / 512) + ρ.val % 512 = ρ.val; omega)
  show X (ix2 (⟨512 * (grp ρ).val + (off ρ).val, _⟩ : Fin 2048) d) = X (ix2 ρ d)
  rw [h]

theorem heads_at (x0 : Vec Ideal S16x128x320 .bf16) (ρ : Fin 2048) (f : Fin 320)
    (h1 : (off ρ).val / 128 < 4) (h2 : (off ρ).val % 128 < 128) :
    heads (grp ρ) x0 (ix3 (⟨(off ρ).val / 128, h1⟩ : Fin 4) (⟨(off ρ).val % 128, h2⟩ : Fin 128) f)
      = x0 (ix3 (⟨ρ.val / 128, by omega⟩ : Fin 16) (⟨ρ.val % 128, by omega⟩ : Fin 128) f) := by
  have e1 : (⟨4 * (grp ρ).val + (off ρ).val / 128, by have := (grp ρ).isLt; omega⟩ : Fin 16) = ⟨ρ.val / 128, by omega⟩ :=
    Fin.ext (by show 4 * (ρ.val / 512) + ρ.val % 512 / 128 = ρ.val / 128; omega)
  have e2 : (⟨(off ρ).val % 128, h2⟩ : Fin 128) = ⟨ρ.val % 128, by omega⟩ :=
    Fin.ext (by show ρ.val % 512 % 128 = ρ.val % 128; omega)
  show x0 (ix3 (⟨4 * (grp ρ).val + (off ρ).val / 128, _⟩ : Fin 16) (⟨(off ρ).val % 128, h2⟩ : Fin 128) f) = _
  rw [e1, e2]

theorem pay9_at (q : Vec Ideal S4x128x320 .bf16) (x1 : Vec Ideal S512x320 .bf16) (r j : Fin 512) :
    (k0_pay9 x1 q (ix2 r j) : EReal) = (∑ f : Fin 320, (q (ix3 (⟨r.val / 128, by omega⟩ : Fin 4) (⟨r.val % 128, by omega⟩ : Fin 128) f) : EReal)
      * (x1 (ix2 j f) : EReal)) * Ideal.ofBits .f32 0x3D93CD3A#32 := by
  pointwise [k0_pay9, k0_pay8]

/-- The scores of a group, read at a row. -/
theorem scores_G (x0 : Vec Ideal S16x128x320 .bf16) (x1 : Vec Ideal S512x320 .bf16) (ρ : Fin 2048) (j : Fin 512) :
    (k0_pay9 x1 (heads (grp ρ) x0) (ix2 (off ρ) j) : EReal) = raw x0 x1 ρ j := by
  rw [pay9_at]
  unfold raw
  simp only [heads_at]

/-- Positions compared as words are positions compared as numbers. -/
theorem cmp_pos {a b j r : ℕ} (ha : a < 16) (hb : b < 4) (hj : j < 512) (hr : r < 512) :
    IntOp.cmpi .sle (IntOp.addi (Scalar.muli (BitVec.ofNat 32 b) 512#32) (BitVec.ofNat 32 j))
      (IntOp.addi (Scalar.muli (BitVec.ofNat 32 a) 128#32) (IntOp.andi (BitVec.ofNat 32 r) 127#32))
      = BitVec.ofBool (decide (512 * b + j ≤ 128 * a + r % 128)) := by
  have e1 : IntOp.addi (Scalar.muli (BitVec.ofNat 32 b) 512#32) (BitVec.ofNat 32 j) = BitVec.ofNat 32 (512 * b + j) := by
    show BitVec.ofNat 32 b * BitVec.ofNat 32 512 + BitVec.ofNat 32 j = _
    rw [← BitVec.ofNat_mul, ← BitVec.ofNat_add, Nat.mul_comm b 512]
  have e3 : IntOp.andi (BitVec.ofNat 32 r) 127#32 = BitVec.ofNat 32 (r % 128) := by
    show BitVec.ofNat 32 r &&& 127#32 = _
    apply BitVec.eq_of_toNat_eq
    rw [BitVec.toNat_and, BitVec.toNat_ofNat, BitVec.toNat_ofNat, BitVec.toNat_ofNat,
      Nat.mod_eq_of_lt (a := r) (by omega), Nat.mod_eq_of_lt (a := 127) (by omega), Nat.mod_eq_of_lt (a := r % 128) (by omega)]
    exact Nat.and_two_pow_sub_one_eq_mod r 7
  have e2 : IntOp.addi (Scalar.muli (BitVec.ofNat 32 a) 128#32) (IntOp.andi (BitVec.ofNat 32 r) 127#32)
      = BitVec.ofNat 32 (128 * a + r % 128) := by
    rw [e3]
    show BitVec.ofNat 32 a * BitVec.ofNat 32 128 + BitVec.ofNat 32 (r % 128) = _
    rw [← BitVec.ofNat_mul, ← BitVec.ofNat_add, Nat.mul_comm a 128]
  rw [e1, e2]
  show BitVec.ofBool (BitVec.sle (BitVec.ofNat 32 (512 * b + j)) (BitVec.ofNat 32 (128 * a + r % 128))) = _
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (a := 512 * b + j) (by omega), Nat.mod_eq_of_lt (a := 128 * a + r % 128) (by omega)]
  simp only [Nat.cast_le]

theorem scores_M (x0 : Vec Ideal S16x128x320 .bf16) (x1 : Vec Ideal S512x320 .bf16) (a b : ℕ) (ha : a < 16) (hb : b < 4)
    (ρ : Fin 2048) (j : Fin 512) :
    (k0_pay39 (BitVec.ofNat 32 a) (BitVec.ofNat 32 b) x1 (heads (grp ρ) x0) (ix2 (off ρ) j) : EReal) = seen x0 x1 a b ρ j := by
  have h : (k0_pay39 (BitVec.ofNat 32 a) (BitVec.ofNat 32 b) x1 (heads (grp ρ) x0) (ix2 (off ρ) j) : EReal)
      = Scalar.select
      (IntOp.cmpi CmpIPredicate.sle (IntOp.addi (Scalar.muli (BitVec.ofNat 32 b) 512#32) (BitVec.ofNat 32 j.val))
        (IntOp.addi (Scalar.muli (BitVec.ofNat 32 a) 128#32) (IntOp.andi (BitVec.ofNat 32 (off ρ).val) 127#32)))
      (k0_pay9 x1 (heads (grp ρ) x0) (ix2 (off ρ) j) : EReal) ⊥ := by
    generalize heads (grp ρ) x0 = q
    generalize off ρ = r
    pointwise [k0_pay39, k0_pay37, k0_pay38, k0_pay9, k0_pay8]
    rfl
  rw [h, scores_G, cmp_pos ha hb j.isLt (off ρ).isLt]
  have e : (off ρ).val % 128 = ρ.val % 128 := by show ρ.val % 512 % 128 = ρ.val % 128; omega
  unfold seen
  rw [e]
  by_cases hc : 512 * b + j.val ≤ 128 * a + ρ.val % 128
  · rw [if_pos hc, decide_eq_true hc]; rfl
  · rw [if_neg hc, decide_eq_false hc]; rfl

theorem bot_word : Ideal.ofBits .f32 0xFF800000#32 = ⊥ := by
  simp [Ideal.ofBits, Ideal.ieee]

/-! ## The scratch arrays after a block of keys -/

section Step

variable (s : Fin 2048 → Fin 512 → EReal) (x0 : Vec Ideal S16x128x320 .bf16) (x1 : Vec Ideal S512x320 .bf16)
  (xs0 xs1 : Vec Ideal S2048x1 .f32) (xs2 : Vec Ideal S2048x256 .f32)

/-- A row's maximum after the block. -/
def newMax (ρ : Fin 2048) : EReal := max (xs0 (ix2 ρ 0) : EReal) (Finset.fold max ⊥ (fun x : Fin 512 => s ρ x) Finset.univ)

def newSum (ρ : Fin 2048) : EReal :=
  Ideal.exp ((xs0 (ix2 ρ 0) : EReal) - newMax s xs0 ρ) * (xs1 (ix2 ρ 0) : EReal)
    + ∑ x : Fin 512, Ideal.exp (s ρ x - newMax s xs0 ρ)

def newAcc (ρ : Fin 2048) (d : Fin 256) : EReal :=
  Ideal.exp ((xs0 (ix2 ρ 0) : EReal) - newMax s xs0 ρ) * (xs2 (ix2 ρ d) : EReal)
    + ∑ x : Fin 512, Ideal.exp (s ρ x - newMax s xs0 ρ) * (x1 (ix2 x (⟨d.val, by omega⟩ : Fin 320)) : EReal)

end Step

variable (x0 : Vec Ideal S16x128x320 .bf16) (x1 : Vec Ideal S512x320 .bf16)
  (xs0 xs1 : Vec Ideal S2048x1 .f32) (xs2 : Vec Ideal S2048x256 .f32) (ρ : Fin 2048)

theorem pay10_at : (k0_pay10 x1 (heads (grp ρ) x0) (band (grp ρ) xs0) (ix2 (off ρ) 0) : EReal)
    = newMax (raw x0 x1) xs0 ρ := by
  have h : (k0_pay10 x1 (heads (grp ρ) x0) (band (grp ρ) xs0) (ix2 (off ρ) 0) : EReal)
      = max (band (grp ρ) xs0 (ix2 (off ρ) 0) : EReal) (Finset.fold max (Ideal.ofBits .f32 0xFF800000#32)
        (fun x : Fin 512 => (k0_pay9 x1 (heads (grp ρ) x0) (ix2 (off ρ) x) : EReal)) Finset.univ) := by
    generalize heads (grp ρ) x0 = q
    generalize band (grp ρ) xs0 = w
    generalize off ρ = r
    pointwise [k0_pay10]
  rw [h, bot_word, band_at]
  simp only [scores_G]
  rfl

theorem max_G : (stack (fun g => maxG x1 (heads g x0) (band g xs0)) (ix2 ρ 0) : EReal) = newMax (raw x0 x1) xs0 ρ := by
  rw [stack_at, ← pay10_at]
  generalize heads (grp ρ) x0 = q
  generalize band (grp ρ) xs0 = w
  generalize off ρ = r
  pointwise [maxG, k0_pay15]

theorem sum_G : (stack (fun g => sumG x1 (heads g x0) (band g xs0) (band g xs1)) (ix2 ρ 0) : EReal)
    = newSum (raw x0 x1) xs0 xs1 ρ := by
  have h : (sumG x1 (heads (grp ρ) x0) (band (grp ρ) xs0) (band (grp ρ) xs1) (ix2 (off ρ) 0) : EReal)
      = Ideal.exp ((band (grp ρ) xs0 (ix2 (off ρ) 0) : EReal) - (k0_pay10 x1 (heads (grp ρ) x0) (band (grp ρ) xs0) (ix2 (off ρ) 0) : EReal))
          * (band (grp ρ) xs1 (ix2 (off ρ) 0) : EReal)
        + ∑ x : Fin 512, Ideal.exp ((k0_pay9 x1 (heads (grp ρ) x0) (ix2 (off ρ) x) : EReal)
            - (k0_pay10 x1 (heads (grp ρ) x0) (band (grp ρ) xs0) (ix2 (off ρ) 0) : EReal)) := by
    generalize heads (grp ρ) x0 = q
    generalize band (grp ρ) xs0 = w
    generalize band (grp ρ) xs1 = u
    generalize off ρ = r
    pointwise [sumG, k0_pay13, k0_pay11, k0_pay12]
  rw [stack_at, h, pay10_at, band_at, band_at]
  simp only [scores_G]
  rfl

theorem acc_G (d : Fin 256) : (stack (fun g => accG x1 (heads g x0) (band g xs0) (band g xs2)) (ix2 ρ d) : EReal)
    = newAcc (raw x0 x1) x1 xs0 xs2 ρ d := by
  have h : (accG x1 (heads (grp ρ) x0) (band (grp ρ) xs0) (band (grp ρ) xs2) (ix2 (off ρ) d) : EReal)
      = Ideal.exp ((band (grp ρ) xs0 (ix2 (off ρ) 0) : EReal) - (k0_pay10 x1 (heads (grp ρ) x0) (band (grp ρ) xs0) (ix2 (off ρ) 0) : EReal))
          * (band (grp ρ) xs2 (ix2 (off ρ) d) : EReal)
        + ∑ x : Fin 512, Ideal.exp ((k0_pay9 x1 (heads (grp ρ) x0) (ix2 (off ρ) x) : EReal)
            - (k0_pay10 x1 (heads (grp ρ) x0) (band (grp ρ) xs0) (ix2 (off ρ) 0) : EReal))
          * (x1 (ix2 x (⟨d.val, by omega⟩ : Fin 320)) : EReal) := by
    generalize heads (grp ρ) x0 = q
    generalize band (grp ρ) xs0 = w
    generalize band (grp ρ) xs2 = u
    generalize off ρ = r
    pointwise [accG, k0_pay14, k0_pay11, k0_pay12, k0_pay8]
  rw [stack_at, h, pay10_at, band_at, band_at]
  simp only [scores_G]
  rfl

variable (a b : ℕ) (ha : a < 16) (hb : b < 4)
include ha hb

theorem pay40_at : (k0_pay40 (BitVec.ofNat 32 a) (BitVec.ofNat 32 b) x1 (heads (grp ρ) x0) (band (grp ρ) xs0) (ix2 (off ρ) 0) : EReal)
    = newMax (seen x0 x1 a b) xs0 ρ := by
  have h : (k0_pay40 (BitVec.ofNat 32 a) (BitVec.ofNat 32 b) x1 (heads (grp ρ) x0) (band (grp ρ) xs0) (ix2 (off ρ) 0) : EReal)
      = max (band (grp ρ) xs0 (ix2 (off ρ) 0) : EReal) (Finset.fold max (Ideal.ofBits .f32 0xFF800000#32)
        (fun x : Fin 512 => (k0_pay39 (BitVec.ofNat 32 a) (BitVec.ofNat 32 b) x1 (heads (grp ρ) x0) (ix2 (off ρ) x) : EReal)) Finset.univ) := by
    generalize heads (grp ρ) x0 = q
    generalize band (grp ρ) xs0 = w
    generalize off ρ = r
    pointwise [k0_pay40]
  rw [h, bot_word, band_at]
  simp only [scores_M x0 x1 a b ha hb]
  rfl

theorem max_M : (stack (fun g => maxM x1 (heads g x0) (band g xs0) (BitVec.ofNat 32 a) (BitVec.ofNat 32 b)) (ix2 ρ 0) : EReal)
    = newMax (seen x0 x1 a b) xs0 ρ := by
  rw [stack_at, ← pay40_at x0 x1 xs0 ρ a b ha hb]
  generalize heads (grp ρ) x0 = q
  generalize band (grp ρ) xs0 = w
  generalize off ρ = r
  pointwise [maxM, k0_pay45]

theorem sum_M : (stack (fun g => sumM x1 (heads g x0) (band g xs0) (band g xs1) (BitVec.ofNat 32 a) (BitVec.ofNat 32 b)) (ix2 ρ 0) : EReal)
    = newSum (seen x0 x1 a b) xs0 xs1 ρ := by
  have h : (sumM x1 (heads (grp ρ) x0) (band (grp ρ) xs0) (band (grp ρ) xs1) (BitVec.ofNat 32 a) (BitVec.ofNat 32 b) (ix2 (off ρ) 0) : EReal)
      = Ideal.exp ((band (grp ρ) xs0 (ix2 (off ρ) 0) : EReal) - (k0_pay40 (BitVec.ofNat 32 a) (BitVec.ofNat 32 b) x1 (heads (grp ρ) x0) (band (grp ρ) xs0) (ix2 (off ρ) 0) : EReal))
          * (band (grp ρ) xs1 (ix2 (off ρ) 0) : EReal)
        + ∑ x : Fin 512, Ideal.exp ((k0_pay39 (BitVec.ofNat 32 a) (BitVec.ofNat 32 b) x1 (heads (grp ρ) x0) (ix2 (off ρ) x) : EReal)
            - (k0_pay40 (BitVec.ofNat 32 a) (BitVec.ofNat 32 b) x1 (heads (grp ρ) x0) (band (grp ρ) xs0) (ix2 (off ρ) 0) : EReal)) := by
    generalize heads (grp ρ) x0 = q
    generalize band (grp ρ) xs0 = w
    generalize band (grp ρ) xs1 = u
    generalize off ρ = r
    pointwise [sumM, k0_pay43, k0_pay41, k0_pay42]
  rw [stack_at, h, pay40_at x0 x1 xs0 ρ a b ha hb, band_at, band_at]
  simp only [scores_M x0 x1 a b ha hb]
  rfl

theorem acc_M (d : Fin 256) : (stack (fun g => accM x1 (heads g x0) (band g xs0) (band g xs2) (BitVec.ofNat 32 a) (BitVec.ofNat 32 b)) (ix2 ρ d) : EReal)
    = newAcc (seen x0 x1 a b) x1 xs0 xs2 ρ d := by
  have h : (accM x1 (heads (grp ρ) x0) (band (grp ρ) xs0) (band (grp ρ) xs2) (BitVec.ofNat 32 a) (BitVec.ofNat 32 b) (ix2 (off ρ) d) : EReal)
      = Ideal.exp ((band (grp ρ) xs0 (ix2 (off ρ) 0) : EReal) - (k0_pay40 (BitVec.ofNat 32 a) (BitVec.ofNat 32 b) x1 (heads (grp ρ) x0) (band (grp ρ) xs0) (ix2 (off ρ) 0) : EReal))
          * (band (grp ρ) xs2 (ix2 (off ρ) d) : EReal)
        + ∑ x : Fin 512, Ideal.exp ((k0_pay39 (BitVec.ofNat 32 a) (BitVec.ofNat 32 b) x1 (heads (grp ρ) x0) (ix2 (off ρ) x) : EReal)
            - (k0_pay40 (BitVec.ofNat 32 a) (BitVec.ofNat 32 b) x1 (heads (grp ρ) x0) (band (grp ρ) xs0) (ix2 (off ρ) 0) : EReal))
          * (x1 (ix2 x (⟨d.val, by omega⟩ : Fin 320)) : EReal) := by
    generalize heads (grp ρ) x0 = q
    generalize band (grp ρ) xs0 = w
    generalize band (grp ρ) xs2 = u
    generalize off ρ = r
    pointwise [accM, k0_pay44, k0_pay41, k0_pay42, k0_pay37]
  rw [stack_at, h, pay40_at x0 x1 xs0 ρ a b ha hb, band_at, band_at]
  simp only [scores_M x0 x1 a b ha hb]
  rfl

end Cert.FlashIdeal.Val

end
-- ==== Proof.Online.lean ====
/- Running maximum, sum and weighted sum of exponentials over a growing prefix, in the extended reals: how one more block of 512
   terms changes them, and that terms at minus infinity change nothing. -/
module

public import Idealize.ShloMosaic.PureOps.Ideal

@[expose] public section

noncomputable section

namespace Cert.Online

open Idealize.ShloMosaic

/-- The largest of the first `n` terms. -/
def top (s : ℕ → EReal) (n : ℕ) : EReal := (Finset.range n).sup s

/-- The sum of the exponentials of the first `n` terms, over their largest. -/
def tot (s : ℕ → EReal) (n : ℕ) : EReal := ∑ j ∈ Finset.range n, Ideal.exp (s j - top s n)

/-- The same with weights. -/
def wgt (s v : ℕ → EReal) (n : ℕ) : EReal := ∑ j ∈ Finset.range n, Ideal.exp (s j - top s n) * v j

theorem exp_bot : Ideal.exp ⊥ = 0 := rfl

theorem bot_sub' (x : EReal) : (⊥ : EReal) - x = ⊥ := by
  rw [sub_eq_add_neg, EReal.bot_add]

theorem sub_top' (x : EReal) : x - (⊤ : EReal) = ⊥ := by
  rw [sub_eq_add_neg, EReal.neg_top, EReal.add_bot]

theorem exp_sub_bot (x : EReal) : Ideal.exp (⊥ - x) = 0 := by rw [bot_sub', exp_bot]

theorem exp_sub_top (x : EReal) : Ideal.exp (x - ⊤) = 0 := by rw [sub_top', exp_bot]

theorem exp_coe (x : ℝ) : Ideal.exp (x : EReal) = ((Real.exp x : ℝ) : EReal) := rfl

/-- Rescaling from one maximum to a larger one. -/
theorem exp_mul {a b c : EReal} (hab : a ≤ b) (hbc : b ≤ c) :
    Ideal.exp (b - c) * Ideal.exp (a - b) = Ideal.exp (a - c) := by
  induction c with
  | top => rw [exp_sub_top, exp_sub_top, zero_mul]
  | bot =>
    obtain rfl := le_bot_iff.mp hbc
    obtain rfl := le_bot_iff.mp hab
    rw [exp_sub_bot, zero_mul]
  | coe c =>
    induction b with
    | top => exact absurd hbc (not_le.mpr (EReal.coe_lt_top c))
    | bot =>
      obtain rfl := le_bot_iff.mp hab
      rw [exp_sub_bot, exp_sub_bot, zero_mul]
    | coe b =>
      induction a with
      | top => exact absurd hab (not_le.mpr (EReal.coe_lt_top b))
      | bot => rw [exp_sub_bot, exp_sub_bot, mul_zero]
      | coe a =>
        rw [← EReal.coe_sub, ← EReal.coe_sub, ← EReal.coe_sub, exp_coe, exp_coe, exp_coe, ← EReal.coe_mul, ← Real.exp_add]
        congr 2
        ring

theorem exp_nonneg (x : EReal) : 0 ≤ Ideal.exp x := by
  induction x with
  | top => exact le_top
  | bot => exact le_of_eq exp_bot.symm
  | coe x => rw [exp_coe]; exact EReal.coe_nonneg.mpr (Real.exp_pos x).le

theorem exp_ne_top {b c : EReal} (h : b ≤ c) : Ideal.exp (b - c) ≠ ⊤ := by
  induction c with
  | top => rw [exp_sub_top]; exact EReal.zero_ne_top
  | bot =>
    obtain rfl := le_bot_iff.mp h
    rw [exp_sub_bot]; exact EReal.zero_ne_top
  | coe c =>
    induction b with
    | top => exact absurd h (not_le.mpr (EReal.coe_lt_top c))
    | bot => rw [exp_sub_bot]; exact EReal.zero_ne_top
    | coe b => rw [← EReal.coe_sub, exp_coe]; exact EReal.coe_ne_top _

/-- A finite nonnegative factor goes through a sum. -/
theorem mul_sum' {ι : Type} (A : Finset ι) (f : ι → EReal) {x : EReal} (h0 : 0 ≤ x) (ht : x ≠ ⊤) :
    x * ∑ j ∈ A, f j = ∑ j ∈ A, x * f j := by
  classical
  induction A using Finset.induction_on with
  | empty => simp
  | insert a A ha ih => rw [Finset.sum_insert ha, Finset.sum_insert ha, EReal.left_distrib_of_nonneg_of_ne_top h0 ht, ih]

theorem top_le {s : ℕ → EReal} {n m : ℕ} (h : n ≤ m) : top s n ≤ top s m :=
  Finset.sup_mono (Finset.range_mono h)

theorem le_top' {s : ℕ → EReal} {n j : ℕ} (h : j ∈ Finset.range n) : s j ≤ top s n := Finset.le_sup h

@[simp] theorem top_zero (s : ℕ → EReal) : top s 0 = ⊥ := rfl
@[simp] theorem tot_zero (s : ℕ → EReal) : tot s 0 = 0 := rfl
@[simp] theorem wgt_zero (s v : ℕ → EReal) : wgt s v 0 = 0 := rfl

/-- One more block of 512 terms. -/
theorem top_step (s : ℕ → EReal) (n : ℕ) :
    top s (n + 512) = max (top s n) (Finset.fold max ⊥ (fun x : Fin 512 => s (n + x.val)) Finset.univ) := by
  refine le_antisymm (Finset.sup_le fun j hj => ?_) (max_le (top_le (Nat.le_add_right _ _)) ?_)
  · by_cases h : j < n
    · exact le_max_of_le_left (le_top' (Finset.mem_range.mpr h))
    · refine le_max_of_le_right ?_
      have hj' := Finset.mem_range.mp hj
      refine Finset.le_fold_max _ |>.mpr (.inr ⟨⟨j - n, by omega⟩, Finset.mem_univ _, le_of_eq ?_⟩)
      show s j = s (n + (j - n))
      rw [Nat.add_sub_cancel' (by omega)]
  · exact Finset.fold_max_le _ |>.mpr ⟨bot_le, fun x _ => le_top' (Finset.mem_range.mpr (by have := x.isLt; omega))⟩

theorem tot_step (s : ℕ → EReal) (n : ℕ) :
    tot s (n + 512) = Ideal.exp (top s n - top s (n + 512)) * tot s n
      + ∑ x : Fin 512, Ideal.exp (s (n + x.val) - top s (n + 512)) := by
  unfold tot
  rw [Finset.sum_range_add (fun j => Ideal.exp (s j - top s (n + 512))) n 512,
    mul_sum' _ _ (exp_nonneg _) (exp_ne_top (top_le (Nat.le_add_right n 512))),
    Finset.sum_range (fun x => Ideal.exp (s (n + x) - top s (n + 512)))]
  congr 1
  exact Finset.sum_congr rfl fun j hj => (exp_mul (le_top' hj) (top_le (Nat.le_add_right n 512))).symm

theorem wgt_step (s v : ℕ → EReal) (n : ℕ) :
    wgt s v (n + 512) = Ideal.exp (top s n - top s (n + 512)) * wgt s v n
      + ∑ x : Fin 512, Ideal.exp (s (n + x.val) - top s (n + 512)) * v (n + x.val) := by
  unfold wgt
  rw [Finset.sum_range_add (fun j => Ideal.exp (s j - top s (n + 512)) * v j) n 512,
    mul_sum' _ _ (exp_nonneg _) (exp_ne_top (top_le (Nat.le_add_right n 512))),
    Finset.sum_range (fun x => Ideal.exp (s (n + x) - top s (n + 512)) * v (n + x))]
  congr 1
  exact Finset.sum_congr rfl fun j hj => by
    rw [← mul_assoc, exp_mul (le_top' hj) (top_le (Nat.le_add_right n 512))]

/-- Terms at minus infinity change nothing. -/
theorem top_tail {s : ℕ → EReal} {n N : ℕ} (h : n ≤ N) (hs : ∀ j, n ≤ j → s j = ⊥) : top s N = top s n := by
  refine le_antisymm (Finset.sup_le fun j _ => ?_) (top_le h)
  by_cases hj : j < n
  · exact le_top' (Finset.mem_range.mpr hj)
  · rw [hs j (by omega)]; exact bot_le

theorem tot_tail {s : ℕ → EReal} {n N : ℕ} (h : n ≤ N) (hs : ∀ j, n ≤ j → s j = ⊥) : tot s N = tot s n := by
  unfold tot
  rw [top_tail h hs]
  refine (Finset.sum_subset (Finset.range_mono h) fun j _ hj => ?_).symm
  rw [hs j (by simpa using hj), exp_sub_bot]

theorem wgt_tail {s v : ℕ → EReal} {n N : ℕ} (h : n ≤ N) (hs : ∀ j, n ≤ j → s j = ⊥) : wgt s v N = wgt s v n := by
  unfold wgt
  rw [top_tail h hs]
  refine (Finset.sum_subset (Finset.range_mono h) fun j _ hj => ?_).symm
  rw [hs j (by simpa using hj), exp_sub_bot, zero_mul]

end Cert.Online

end
-- ==== Proof.FlashValue.lean ====
/- The attention kernel over the reals: what its steps keep, and the result they write. -/
module

public import proofs.«01_k».proof.Proof.FlashSteps
public import proofs.«01_k».proof.Proof.FlashRows
public import proofs.«01_k».proof.Proof.Online
public import proofs.«01_k».proof.Proof.Gen.FlashIdeal.Value
public import Idealize.ShloMosaic.Lib.Pointwise
public import Idealize.ShloMosaic.Lib.IdealHost

@[expose] public section

set_option maxRecDepth 16384

noncomputable section

namespace Cert.FlashIdeal.Val

open Idealize.ShloMosaic Idealize.ShloMosaic.TcCoe Idealize.ShloMosaic.Tactic
open Idealize.ShloMosaic.Pipeline (Dat Cfg Window)
open Cert.FlashIdeal.Gen Cert.Online

theorem index_0 : ∀ t : Fin cfg0.N, (cfg0.win 0).index t 0 = 0 ∧ (cfg0.win 0).index t 1 = t.val / 4 ∧ (cfg0.win 0).index t 2 = 0 := by decide +kernel
theorem index_1 : ∀ t : Fin cfg0.N, (cfg0.win 1).index t 0 = t.val / 64 * 4 + min (t.val % 4) (t.val / 4 % 16 / 4) ∧ (cfg0.win 1).index t 1 = 0 := by decide +kernel
theorem coords_q : ∀ t : Fin cfg0.N, ((grid0.coords t) 1).val = t.val / 4 % 16 := by decide +kernel
theorem coords_k : ∀ t : Fin cfg0.N, ((grid0.coords t) 2).val = t.val % 4 := by decide +kernel

theorem qW_eq (t : Fin cfg0.N) : qW t = BitVec.ofNat 32 (t.val / 4 % 16) := by unfold qW; rw [coords_q]
theorem kW_eq (t : Fin cfg0.N) : kW t = BitVec.ofNat 32 (t.val % 4) := by unfold kW; rw [coords_k]

theorem lt_256 (t : Fin cfg0.N) : t.val < 256 := Nat.lt_of_lt_of_eq t.isLt N_0

/-! ## What the kernel starts and ends with, at an index -/

theorem out_at (A : Vec Ideal S2048x256 .f32) (L : Vec Ideal S2048x1 .f32) (h : Fin 16) (r : Fin 128) (d : Fin 256) :
    (k0_pay7 A L (ix3 h r d) : EReal) = Ideal.div (A (ix2 (⟨128 * h.val + r.val, by omega⟩ : Fin 2048) d)) (L (ix2 (⟨128 * h.val + r.val, by omega⟩ : Fin 2048) 0)) := by
  have e : (⟨h.val * 128 + r.val, by omega⟩ : Fin 2048) = ⟨128 * h.val + r.val, by omega⟩ := Fin.ext (by show h.val * 128 + r.val = 128 * h.val + r.val; omega)
  rw [← e]
  pointwise [k0_pay7]

theorem max_0 (ρ : Fin 2048) : ((k0_pay1 (F := Ideal) : Vec Ideal S2048x1 .f32) (ix2 ρ 0) : EReal) = ⊥ := by
  pointwise [k0_pay1]
  rfl

theorem sum_0 (ρ : Fin 2048) : ((k0_pay2 (F := Ideal) : Vec Ideal S2048x1 .f32) (ix2 ρ 0) : EReal) = 0 := by
  pointwise [k0_pay2]

theorem acc_0 (ρ : Fin 2048) (d : Fin 256) : ((k0_pay3 (F := Ideal) : Vec Ideal S2048x256 .f32) (ix2 ρ d) : EReal) = 0 := by
  pointwise [k0_pay3]

/-! ## The blocks a step is given -/

variable (m : (ℓ : Loc nD τ sig) → Buf (Elt Ideal) ℓ)

/-- The arguments: the queries and the cached rows. -/
def qA (c : Dev nD) : Vec Ideal S4x2048x16x320 .f32 := m ((c : Thread nD τ).loc main_arg0)
def rA (c : Dev nD) : Vec Ideal S4x2048x320 .f32 := m ((c : Thread nD τ).loc main_arg1)

theorem host_q (c : Dev nD) : (V m c main_v7 : Vec Ideal S16x8704x320 .bf16)
    = (truncf .bf16 (concatenate S16x8704x320 1 [⟨S16x8192x320, (transpose S16x8192x320 [1, 0, 2] (shapeCast S8192x16x320 (qA m c) shapeCasts_S4x2048x16x320_S8192x16x320) transposes_S8192x16x320_S16x8192x320_1_0_2 : FVec Ideal S16x8192x320 .f32)⟩,
      ⟨S16x512x320, (broadcastInDim S16x512x320 ![] bcast_S_S16x512x320 (constant S_ .f32 0x00000000#32) : FVec Ideal S16x512x320 .f32)⟩] concatenates_S16x8192x320_S16x512x320_S16x8704x320_d1 : FVec Ideal S16x8704x320 .f32) bitsLt_bf16_f32 : FVec Ideal S16x8704x320 .bf16) := by
  unfold_abbrev_sides
  after_results
  rfl

theorem host_r (c : Dev nD) : (V m c main_v8 : Vec Ideal S8704x320 .bf16)
    = (truncf .bf16 (concatenate S8704x320 0 [⟨S8192x320, (shapeCast S8192x320 (rA m c) shapeCasts_S4x2048x320_S8192x320 : FVec Ideal S8192x320 .f32)⟩,
      ⟨S512x320, (broadcastInDim S512x320 ![] bcast_S_S512x320 (constant S_ .f32 0x00000000#32) : FVec Ideal S512x320 .f32)⟩] concatenates_S8192x320_S512x320_S8704x320_d0 : FVec Ideal S8704x320 .f32) bitsLt_bf16_f32 : FVec Ideal S8704x320 .bf16) := by
  unfold_abbrev_sides
  after_results
  rfl

theorem q_row (c : Dev nD) (h : Fin 16) (R : Fin 8704) (hR : R.val < 8192) (f : Fin 320) :
    (V m c main_v7 : Vec Ideal S16x8704x320 .bf16) (ix3 h R f) = qA m c (ix4 (⟨R.val / 2048, by omega⟩ : Fin 4) (⟨R.val % 2048, by omega⟩ : Fin 2048) h f) := by
  refine (congrFun (host_q m c) _).trans ?_
  generalize qA m c = q
  pointwise
  rw [dif_pos hR]

theorem r_row (c : Dev nD) (R : Fin 8704) (hR : R.val < 8192) (f : Fin 320) :
    (V m c main_v8 : Vec Ideal S8704x320 .bf16) (ix2 R f) = rA m c (ix3 (⟨R.val / 2048, by omega⟩ : Fin 4) (⟨R.val % 2048, by omega⟩ : Fin 2048) f) := by
  refine (congrFun (host_r m c) _).trans ?_
  generalize rA m c = q
  pointwise
  rw [dif_pos hR]

/-- A block of queries, numbered over the batches: its batch, the position of its query `r`, and a row's head. -/
def bat (u : Fin 64) : Fin 4 := ⟨u.val / 16, by omega⟩
def pos (u : Fin 64) (r : Fin 128) : Fin 2048 := ⟨128 * (u.val % 16) + r.val, by omega⟩
def qry (ρ : Fin 2048) : Fin 128 := ⟨ρ.val % 128, by omega⟩
def hd (ρ : Fin 2048) : Fin 16 := ⟨ρ.val / 128, by omega⟩

/-- The block of queries of step `t`. -/
def blk (t : Fin cfg0.N) : Fin 64 := ⟨t.val / 4, by have := lt_256 t; omega⟩

theorem q_block (c : Dev nD) (t : Fin cfg0.N) (h : Fin 16) (r : Fin 128) (f : Fin 320) :
    qB m c t (ix3 h r f) = qA m c (ix4 (bat (blk t)) (pos (blk t) r) h f) := by
  have ht := lt_256 t
  have hr := r.isLt
  have e := q_row m c h (⟨128 * (t.val / 4) + r.val, by omega⟩ : Fin 8704) (by show 128 * (t.val / 4) + r.val < 8192; omega) f
  have e1 : (⟨(128 * (t.val / 4) + r.val) / 2048, by omega⟩ : Fin 4) = bat (blk t) :=
    Fin.ext (by show (128 * (t.val / 4) + r.val) / 2048 = t.val / 4 / 16; omega)
  have e2 : (⟨(128 * (t.val / 4) + r.val) % 2048, by omega⟩ : Fin 2048) = pos (blk t) r :=
    Fin.ext (by show (128 * (t.val / 4) + r.val) % 2048 = 128 * (t.val / 4 % 16) + r.val; omega)
  refine (congrArg (V m c main_v7 : Vec Ideal S16x8704x320 .bf16) (funext fun a => Fin.ext ?_)).trans
    (e.trans (congrArg₂ (fun x y => qA m c (ix4 x y h f)) e1 e2))
  fin_cases a
  · refine ((cfg0.win 0).rect_emb_val t (ix3 h r f) 0).trans ?_
    rw [(index_0 t).1]
    show 0 * 16 + h.val = h.val
    omega
  · refine ((cfg0.win 0).rect_emb_val t (ix3 h r f) 1).trans ?_
    rw [(index_0 t).2.1]
    show t.val / 4 * 128 + r.val = 128 * (t.val / 4) + r.val
    omega
  · refine ((cfg0.win 0).rect_emb_val t (ix3 h r f) 2).trans ?_
    rw [(index_0 t).2.2]
    show 0 * 320 + f.val = f.val
    omega

theorem k_block (c : Dev nD) (t : Fin cfg0.N) (j : Fin 512) (f : Fin 320) (h : 4 * (t.val % 4) ≤ t.val / 4 % 16)
    (hj : 512 * (t.val % 4) + j.val < 2048) :
    kB m c t (ix2 j f) = rA m c (ix3 (bat (blk t)) (⟨512 * (t.val % 4) + j.val, hj⟩ : Fin 2048) f) := by
  have ht := lt_256 t
  have hj' := j.isLt
  have e := r_row m c (⟨512 * (t.val / 64 * 4 + t.val % 4) + j.val, by omega⟩ : Fin 8704) (by show 512 * (t.val / 64 * 4 + t.val % 4) + j.val < 8192; omega) f
  have e1 : (⟨(512 * (t.val / 64 * 4 + t.val % 4) + j.val) / 2048, by omega⟩ : Fin 4) = bat (blk t) :=
    Fin.ext (by show (512 * (t.val / 64 * 4 + t.val % 4) + j.val) / 2048 = t.val / 4 / 16; omega)
  have e2 : (⟨(512 * (t.val / 64 * 4 + t.val % 4) + j.val) % 2048, by omega⟩ : Fin 2048) = ⟨512 * (t.val % 4) + j.val, hj⟩ :=
    Fin.ext (by show (512 * (t.val / 64 * 4 + t.val % 4) + j.val) % 2048 = 512 * (t.val % 4) + j.val; omega)
  refine (congrArg (V m c main_v8 : Vec Ideal S8704x320 .bf16) (funext fun a => Fin.ext ?_)).trans
    (e.trans (congrArg₂ (fun x y => rA m c (ix3 x y f)) e1 e2))
  fin_cases a
  · refine ((cfg0.win 1).rect_emb_val t (ix2 j f) 0).trans ?_
    rw [(index_1 t).1]
    show (t.val / 64 * 4 + min (t.val % 4) (t.val / 4 % 16 / 4)) * 512 + j.val = 512 * (t.val / 64 * 4 + t.val % 4) + j.val
    rw [show min (t.val % 4) (t.val / 4 % 16 / 4) = t.val % 4 by omega]
    omega
  · refine ((cfg0.win 1).rect_emb_val t (ix2 j f) 1).trans ?_
    rw [(index_1 t).2]
    show 0 * 320 + f.val = f.val
    omega

/-! ## The sequences the softmax runs over -/

/-- The scores of the query at position `p` of batch `b` under head `h`: minus infinity after `p`. -/
def scr (c : Dev nD) (b : Fin 4) (p : Fin 2048) (h : Fin 16) : ℕ → EReal := fun j =>
  if hj : j ≤ p.val then
    (∑ f : Fin 320, (qA m c (ix4 b p h f) : EReal) * (rA m c (ix3 b (⟨j, Nat.lt_of_le_of_lt hj p.isLt⟩ : Fin 2048) f) : EReal)) * Ideal.ofBits .f32 0x3D93CD3A#32
  else ⊥

/-- Component `d` of the rows attended to. -/
def vls (c : Dev nD) (b : Fin 4) (d : Fin 256) : ℕ → EReal := fun j =>
  if hj : j < 2048 then (rA m c (ix3 b (⟨j, hj⟩ : Fin 2048) (⟨d.val, by omega⟩ : Fin 320)) : EReal) else 0

/-- The scores of a row of a block. -/
def rowS (c : Dev nD) (u : Fin 64) (ρ : Fin 2048) : ℕ → EReal := scr m c (bat u) (pos u (qry ρ)) (hd ρ)

theorem raw_eq (c : Dev nD) (t : Fin cfg0.N) (ρ : Fin 2048) (j : Fin 512) (h : 4 * (t.val % 4) ≤ t.val / 4 % 16)
    (hj : 512 * (t.val % 4) + j.val ≤ 128 * (t.val / 4 % 16) + ρ.val % 128) :
    raw (qB m c t) (kB m c t) ρ j = rowS m c (blk t) ρ (512 * (t.val % 4) + j.val) := by
  unfold raw rowS scr
  rw [dif_pos (show 512 * (t.val % 4) + j.val ≤ (pos (blk t) (qry ρ)).val from hj)]
  refine congrArg (fun z => z * Ideal.ofBits .f32 0x3D93CD3A#32) (Finset.sum_congr rfl fun f _ => ?_)
  rw [q_block, k_block m c t j f h (Nat.lt_of_le_of_lt hj (pos (blk t) (qry ρ)).isLt)]
  rfl

theorem seen_eq (c : Dev nD) (t : Fin cfg0.N) (ρ : Fin 2048) (j : Fin 512) (h : 4 * (t.val % 4) ≤ t.val / 4 % 16) :
    seen (qB m c t) (kB m c t) (t.val / 4 % 16) (t.val % 4) ρ j = rowS m c (blk t) ρ (512 * (t.val % 4) + j.val) := by
  unfold seen
  by_cases hj : 512 * (t.val % 4) + j.val ≤ 128 * (t.val / 4 % 16) + ρ.val % 128
  · rw [if_pos hj, raw_eq m c t ρ j h hj]
  · rw [if_neg hj]
    unfold rowS scr
    rw [dif_neg (show ¬512 * (t.val % 4) + j.val ≤ (pos (blk t) (qry ρ)).val from hj)]

theorem vls_eq (c : Dev nD) (t : Fin cfg0.N) (d : Fin 256) (x : Fin 512) (h : 4 * (t.val % 4) ≤ t.val / 4 % 16) :
    (kB m c t (ix2 x (⟨d.val, by omega⟩ : Fin 320)) : EReal) = vls m c (bat (blk t)) d (512 * (t.val % 4) + x.val) := by
  have hx : 512 * (t.val % 4) + x.val < 2048 := by have := x.isLt; omega
  rw [k_block m c t x _ h hx]
  unfold vls
  rw [dif_pos hx]

/-! ## A block of keys taken in -/

section Take

variable (S : ℕ → EReal) (n : ℕ) (s : Fin 2048 → Fin 512 → EReal) (xs0 xs1 : Vec Ideal S2048x1 .f32) (xs2 : Vec Ideal S2048x256 .f32)
  (ρ : Fin 2048) (h0 : (xs0 (ix2 ρ 0) : EReal) = top S n) (hs : ∀ x, s ρ x = S (n + x.val))
include h0 hs

theorem take_max : newMax s xs0 ρ = top S (n + 512) := by
  unfold newMax
  rw [top_step, h0]
  simp only [hs]

theorem take_sum (h1 : (xs1 (ix2 ρ 0) : EReal) = tot S n) : newSum s xs0 xs1 ρ = tot S (n + 512) := by
  unfold newSum
  rw [take_max S n s xs0 ρ h0 hs, tot_step, h0, h1]
  simp only [hs]

theorem take_acc (x1 : Vec Ideal S512x320 .bf16) (v : ℕ → EReal) (d : Fin 256) (h2 : (xs2 (ix2 ρ d) : EReal) = wgt S v n)
    (hv : ∀ x : Fin 512, (x1 (ix2 x (⟨d.val, by omega⟩ : Fin 320)) : EReal) = v (n + x.val)) :
    newAcc s x1 xs0 xs2 ρ d = wgt S v (n + 512) := by
  unfold newAcc
  rw [take_max S n s xs0 ρ h0 hs, wgt_step, h0, h2]
  simp only [hs, hv]

end Take

/-- The scratch arrays hold the softmax of the block's rows over the first `n` keys. -/
def Holds (c : Dev nD) (u : Fin 64) (n : ℕ) (mx l : Vec Ideal S2048x1 .f32) (acc : Vec Ideal S2048x256 .f32) : Prop :=
  (∀ ρ : Fin 2048, (mx (ix2 ρ 0) : EReal) = top (rowS m c u ρ) n)
  ∧ (∀ ρ : Fin 2048, (l (ix2 ρ 0) : EReal) = tot (rowS m c u ρ) n)
  ∧ ∀ (ρ : Fin 2048) (d : Fin 256), (acc (ix2 ρ d) : EReal) = wgt (rowS m c u ρ) (vls m c (bat u) d) n

theorem holds_0 (c : Dev nD) (t : Fin cfg0.N) (h0 : t.val % 4 = 0) :
    Holds m c (blk t) (512 * (t.val % 4)) (k0_pay1 (F := Ideal)) (k0_pay2 (F := Ideal)) (k0_pay3 (F := Ideal)) := by
  rw [h0]
  exact ⟨fun ρ => max_0 ρ, fun ρ => sum_0 ρ, fun ρ d => acc_0 ρ d⟩

theorem holds_G (c : Dev nD) (t : Fin cfg0.N) (h1 : 4 * (t.val % 4) + 4 ≤ t.val / 4 % 16) (mx l : Vec Ideal S2048x1 .f32) (acc : Vec Ideal S2048x256 .f32)
    (hh : Holds m c (blk t) (512 * (t.val % 4)) mx l acc) :
    Holds m c (blk t) (512 * (t.val % 4) + 512) (stack (fun k => maxG (kB m c t) (heads k (qB m c t)) (band k mx)))
      (stack (fun k => sumG (kB m c t) (heads k (qB m c t)) (band k mx) (band k l)))
      (stack (fun k => accG (kB m c t) (heads k (qB m c t)) (band k mx) (band k acc))) := by
  have hk : 4 * (t.val % 4) ≤ t.val / 4 % 16 := by omega
  have hs : ∀ (ρ : Fin 2048) (x : Fin 512), raw (qB m c t) (kB m c t) ρ x = rowS m c (blk t) ρ (512 * (t.val % 4) + x.val) :=
    fun ρ x => raw_eq m c t ρ x hk (by have := x.isLt; omega)
  refine ⟨fun ρ => ?_, fun ρ => ?_, fun ρ d => ?_⟩
  · rw [max_G]
    exact take_max _ _ _ _ ρ (hh.1 ρ) (hs ρ)
  · rw [sum_G]
    exact take_sum _ _ _ _ _ ρ (hh.1 ρ) (hs ρ) (hh.2.1 ρ)
  · rw [acc_G]
    exact take_acc _ _ _ _ _ ρ (hh.1 ρ) (hs ρ) _ _ d (hh.2.2 ρ d) (fun x => vls_eq m c t d x hk)

theorem holds_M (c : Dev nD) (t : Fin cfg0.N) (hk : 4 * (t.val % 4) ≤ t.val / 4 % 16) (mx l : Vec Ideal S2048x1 .f32) (acc : Vec Ideal S2048x256 .f32)
    (hh : Holds m c (blk t) (512 * (t.val % 4)) mx l acc) :
    Holds m c (blk t) (512 * (t.val % 4) + 512) (stack (fun k => maxM (kB m c t) (heads k (qB m c t)) (band k mx) (qW t) (kW t)))
      (stack (fun k => sumM (kB m c t) (heads k (qB m c t)) (band k mx) (band k l) (qW t) (kW t)))
      (stack (fun k => accM (kB m c t) (heads k (qB m c t)) (band k mx) (band k acc) (qW t) (kW t))) := by
  have ha : t.val / 4 % 16 < 16 := Nat.mod_lt _ (by decide)
  have hb : t.val % 4 < 4 := Nat.mod_lt _ (by decide)
  have hs : ∀ (ρ : Fin 2048) (x : Fin 512), seen (qB m c t) (kB m c t) (t.val / 4 % 16) (t.val % 4) ρ x = rowS m c (blk t) ρ (512 * (t.val % 4) + x.val) :=
    fun ρ x => seen_eq m c t ρ x hk
  rw [qW_eq, kW_eq]
  refine ⟨fun ρ => ?_, fun ρ => ?_, fun ρ d => ?_⟩
  · rw [max_M _ _ _ _ _ _ ha hb]
    exact take_max _ _ _ _ ρ (hh.1 ρ) (hs ρ)
  · rw [sum_M _ _ _ _ _ _ _ ha hb]
    exact take_sum _ _ _ _ _ ρ (hh.1 ρ) (hs ρ) (hh.2.1 ρ)
  · rw [acc_M _ _ _ _ _ _ _ ha hb]
    exact take_acc _ _ _ _ _ ρ (hh.1 ρ) (hs ρ) _ _ d (hh.2.2 ρ d) (fun x => vls_eq m c t d x hk)

/-! ## Every step -/

/-- The keys taken in after step `n`. -/
def taken (n : ℕ) : ℕ := 512 * (min (n % 4) (n / 4 % 16 / 4) + 1)

/-- What the scratch arrays hold after step `n`. -/
def After (c : Dev nD) (n : ℕ) (hn : n < cfg0.N) : Prop :=
  Holds m c (blk ⟨n, hn⟩) (taken n) (outsAt0 m c n hn).2.1 (outsAt0 m c n hn).2.2.1 (outsAt0 m c n hn).2.2.2

theorem first_step (c : Dev nD) (t : Fin cfg0.N) (h0 : t.val % 4 = 0) : After m c t.val t.isLt := by
  have hz := holds_0 m c t h0
  unfold After
  rw [show taken t.val = 512 * (t.val % 4) + 512 by unfold taken; omega]
  by_cases h1 : 4 * (t.val % 4) + 4 ≤ t.val / 4 % 16
  · have h2 : ¬(4 * (t.val % 4) ≤ t.val / 4 % 16 ∧ t.val / 4 % 16 ≤ 4 * (t.val % 4) + 3) := by omega
    have h3 : ¬t.val % 4 = 3 := by omega
    rw [at_first m c t h0 h1 h2 h3]
    exact holds_G m c t h1 _ _ _ hz
  · have h2 : (4 * (t.val % 4) ≤ t.val / 4 % 16 ∧ t.val / 4 % 16 ≤ 4 * (t.val % 4) + 3) := by omega
    have h3 : ¬t.val % 4 = 3 := by omega
    rw [at_firstlast m c t h0 h1 h2 h3]
    exact holds_M m c t h2.1 _ _ _ hz

theorem later_step (c : Dev nD) (n : ℕ) (hn : n + 1 < cfg0.N) (h0 : ¬(n + 1) % 4 = 0)
    (ih : After m c n (Nat.lt_of_succ_lt hn)) : After m c (n + 1) hn := by
  have hN : n + 1 < 256 := lt_256 ⟨n + 1, hn⟩
  have eb : blk ⟨n, Nat.lt_of_succ_lt hn⟩ = blk ⟨n + 1, hn⟩ := Fin.ext (by show n / 4 = (n + 1) / 4; omega)
  have ed : n / 4 = (n + 1) / 4 := by omega
  have em : n % 4 + 1 = (n + 1) % 4 := by omega
  unfold After at ih ⊢
  rw [eb] at ih
  by_cases hk : 4 * ((n + 1) % 4) ≤ (n + 1) / 4 % 16
  · rw [show taken n = 512 * ((n + 1) % 4) by unfold taken; rw [ed]; omega] at ih
    rw [show taken (n + 1) = 512 * ((n + 1) % 4) + 512 by unfold taken; omega]
    by_cases h1 : 4 * ((n + 1) % 4) + 4 ≤ (n + 1) / 4 % 16
    · have h2 : ¬(4 * ((n + 1) % 4) ≤ (n + 1) / 4 % 16 ∧ (n + 1) / 4 % 16 ≤ 4 * ((n + 1) % 4) + 3) := by omega
      have h3 : ¬(n + 1) % 4 = 3 := by omega
      rw [show (outsAt0 m c (n + 1) hn).2 = _ from at_mid m c ⟨n + 1, hn⟩ h0 h1 h2 h3]
      exact holds_G m c ⟨n + 1, hn⟩ h1 _ _ _ ih
    · have h2 : (4 * ((n + 1) % 4) ≤ (n + 1) / 4 % 16 ∧ (n + 1) / 4 % 16 ≤ 4 * ((n + 1) % 4) + 3) := by omega
      by_cases h3 : (n + 1) % 4 = 3
      · rw [show (outsAt0 m c (n + 1) hn).2 = _ from at_end m c ⟨n + 1, hn⟩ h0 h1 h2 h3]
        exact holds_M m c ⟨n + 1, hn⟩ h2.1 _ _ _ ih
      · rw [show (outsAt0 m c (n + 1) hn).2 = _ from at_last m c ⟨n + 1, hn⟩ h0 h1 h2 h3]
        exact holds_M m c ⟨n + 1, hn⟩ h2.1 _ _ _ ih
  · have h1 : ¬4 * ((n + 1) % 4) + 4 ≤ (n + 1) / 4 % 16 := by omega
    have h2 : ¬(4 * ((n + 1) % 4) ≤ (n + 1) / 4 % 16 ∧ (n + 1) / 4 % 16 ≤ 4 * ((n + 1) % 4) + 3) := by omega
    rw [show taken n = taken (n + 1) by unfold taken; rw [ed]; omega] at ih
    have e : (outsAt0 m c (n + 1) hn).2 = (outsAt0 m c n (Nat.lt_of_succ_lt hn)).2 := by
      by_cases h3 : (n + 1) % 4 = 3
      · exact at_skipC m c ⟨n + 1, hn⟩ h0 h1 h2 h3
      · exact at_skipB m c ⟨n + 1, hn⟩ h0 h1 h2 h3
    rw [e]
    exact ih

theorem every_step (c : Dev nD) : ∀ (n : ℕ) (hn : n < cfg0.N), After m c n hn := by
  intro n
  induction n with
  | zero => intro hn; exact first_step m c ⟨0, hn⟩ rfl
  | succ n ih =>
    intro hn
    by_cases h0 : (n + 1) % 4 = 0
    · exact first_step m c ⟨n + 1, hn⟩ h0
    · exact later_step m c n hn h0 (ih (Nat.lt_of_succ_lt hn))

/-! ## The result -/

/-- The attention's result for one query, head and component. -/
def attn (c : Dev nD) (b : Fin 4) (p : Fin 2048) (h : Fin 16) (d : Fin 256) : EReal :=
  Ideal.div (wgt (scr m c b p h) (vls m c b d) 2048) (tot (scr m c b p h) 2048)

theorem written (c : Dev nD) (t : Fin cfg0.N) (h3 : t.val % 4 = 3) (h : Fin 16) (r : Fin 128) (d : Fin 256) :
    (outsAt0 m c t.val t.isLt).1 (ix3 h r d) = attn m c (bat (blk t)) (pos (blk t) r) h d := by
  have hr := r.isLt
  have hh := every_step m c t.val t.isLt
  unfold After at hh
  have er : qry (⟨128 * h.val + r.val, by omega⟩ : Fin 2048) = r := Fin.ext (by show (128 * h.val + r.val) % 128 = r.val; omega)
  have eh : hd (⟨128 * h.val + r.val, by omega⟩ : Fin 2048) = h := Fin.ext (by show (128 * h.val + r.val) / 128 = h.val; omega)
  have es : rowS m c (blk t) (⟨128 * h.val + r.val, by omega⟩ : Fin 2048) = scr m c (bat (blk t)) (pos (blk t) r) h := by
    unfold rowS; rw [er, eh]
  have hle : taken t.val ≤ 2048 := by unfold taken; omega
  have hbot : ∀ j, taken t.val ≤ j → scr m c (bat (blk t)) (pos (blk t) r) h j = ⊥ := fun j hj => by
    unfold scr
    refine dif_neg fun hp => ?_
    have hp' : j ≤ 128 * (t.val / 4 % 16) + r.val := hp
    unfold taken at hj
    omega
  refine (congrFun (at_out m c t h3) _).trans ((out_at _ _ h r d).trans ?_)
  unfold attn
  rw [hh.2.2, hh.2.1, es, ← wgt_tail hle hbot, ← tot_tail hle hbot]

/-- The result array. -/
theorem result_apply (c : Dev nD) (h : Fin 16) (R : Fin 8192) (d : Fin 256) :
    Cert.FlashIdeal.Value.G2 m c (ix3 h R d) = attn m c (⟨R.val / 2048, by omega⟩ : Fin 4) (⟨R.val % 2048, by omega⟩ : Fin 2048) h d := by
  have hh := h.isLt
  have hR := R.isLt
  have hd := d.isLt
  have e : Cert.FlashIdeal.Value.pt2Of (ix3 h R d) = 4 * (R.val / 128) + 3 := by
    show 4 * (64 * (h.val / 16 - 0) + 1 * (R.val / 128 - 0) + 1 * (d.val / 256 - 0)) + 3 = _
    omega
  have hlt : Cert.FlashIdeal.Value.pt2Of (ix3 h R d) < cfg0.N := by
    rw [e]
    exact Nat.lt_of_lt_of_eq (by omega) N_0.symm
  unfold Cert.FlashIdeal.Value.G2
  rw [dif_pos hlt, ← Cert.FlashIdeal.Value.outsAt0_sweep m c _ hlt]
  have el : Cert.FlashIdeal.Value.loc2Of (ix3 h R d) = ix3 h (⟨R.val % 128, by omega⟩ : Fin 128) d := by
    funext a
    fin_cases a
    · exact Fin.ext (by show h.val % 16 = h.val; omega)
    · rfl
    · exact Fin.ext (by show d.val % 256 = d.val; omega)
  rw [el]
  refine (written m c ⟨_, hlt⟩ (by show Cert.FlashIdeal.Value.pt2Of (ix3 h R d) % 4 = 3; rw [e]; omega) h _ d).trans
    (congrArg₂ (fun b p => attn m c b p h d) (Fin.ext ?_) (Fin.ext ?_))
  · show Cert.FlashIdeal.Value.pt2Of (ix3 h R d) / 4 / 16 = R.val / 2048
    rw [e]
    omega
  · show 128 * (Cert.FlashIdeal.Value.pt2Of (ix3 h R d) / 4 % 16) + R.val % 128 = R.val % 2048
    rw [e]
    omega

end Cert.FlashIdeal.Val

end
-- ==== Proof.FlashMeet.lean ====
/- The attention kernel and its reference meet: both are the weighted rows over the sum of the weights. -/
module

public import proofs.«01_k».proof.Proof.FlashValue
public import proofs.«01_k».proof.Proof.Gen.FlashReferenceIdeal.Run

@[expose] public section

set_option maxRecDepth 16384

noncomputable section

namespace Cert.FlashMeet

open Idealize.ShloMosaic Idealize.ShloMosaic.TcCoe Idealize.ShloMosaic.Tactic Idealize.SL.Sem
open Cert.FlashReferenceIdeal Cert.FlashReferenceIdeal.Gen

/-- The scores of one query against a batch's rows, minus infinity after the query's position, and a component of the rows. -/
def line (q : Vec Ideal S4x2048x16x320 .f32) (k : Vec Ideal S4x2048x320 .f32) (b : Fin 4) (p : Fin 2048) (h : Fin 16) : ℕ → EReal := fun j =>
  if hj : j ≤ p.val then
    (∑ f : Fin 320, (q (ix4 b p h f) : EReal) * (k (ix3 b (⟨j, Nat.lt_of_le_of_lt hj p.isLt⟩ : Fin 2048) f) : EReal)) * Ideal.ofBits .f32 0x3D93CD3A#32
  else ⊥

def comp (k : Vec Ideal S4x2048x320 .f32) (b : Fin 4) (d : Fin 256) : ℕ → EReal := fun j =>
  if hj : j < 2048 then (k (ix3 b (⟨j, hj⟩ : Fin 2048) (⟨d.val, by omega⟩ : Fin 320)) : EReal) else 0

/-- The reference's masked score. -/
def sel (q : Vec Ideal S4x2048x16x320 .f32) (k : Vec Ideal S4x2048x320 .f32) (b : Fin 4) (p : ℕ) (hp : p < 2048) (h : Fin 16) (x : Fin 2048) : EReal :=
  Scalar.select (IntOp.cmpi CmpIPredicate.sle (BitVec.ofNat 32 x.val) (BitVec.ofNat 32 p))
    ((∑ f : Fin 320, (k (ix3 b x f) : EReal) * (q (ix4 b (⟨p, hp⟩ : Fin 2048) h f) : EReal)) * Ideal.ofBits .f32 0x3D93CD3A#32)
    (id (constant (F := Ideal) S_ .f32 0xFF800000#32) ix0 : EReal)

/-- The reference's masked score is the same sequence's term. -/
theorem masked (q : Vec Ideal S4x2048x16x320 .f32) (k : Vec Ideal S4x2048x320 .f32) (b : Fin 4) (p : ℕ) (hp : p < 2048) (h : Fin 16) (x : Fin 2048) :
    sel q k b p hp h x = line q k b ⟨p, hp⟩ h x.val := by
  have hx := x.isLt
  have e : IntOp.cmpi CmpIPredicate.sle (BitVec.ofNat 32 x.val) (BitVec.ofNat 32 p) = BitVec.ofBool (decide (x.val ≤ p)) := by
    show BitVec.ofBool (BitVec.sle (BitVec.ofNat 32 x.val) (BitVec.ofNat 32 p)) = _
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (a := x.val) (by omega), Nat.mod_eq_of_lt (a := p) (by omega)]
    simp only [Nat.cast_le]
  unfold sel line
  rw [e]
  by_cases hc : x.val ≤ p
  · rw [dif_pos hc, decide_eq_true hc]
    refine congrArg (fun z => z * Ideal.ofBits .f32 0x3D93CD3A#32) (Finset.sum_congr rfl fun f _ => ?_)
    exact mul_comm _ _
  · rw [dif_neg hc, decide_eq_false hc]
    exact Cert.FlashIdeal.Val.bot_word

theorem fold_top (s : ℕ → EReal) : Finset.fold max ⊥ (fun x : Fin 2048 => s x.val) Finset.univ = Cert.Online.top s 2048 := by
  show Finset.univ.sup (fun x : Fin 2048 => s x.val) = (Finset.range 2048).sup s
  refine le_antisymm (Finset.sup_le fun x _ => Finset.le_sup (Finset.mem_range.mpr x.isLt)) (Finset.sup_le fun j hj => ?_)
  exact Finset.le_sup (f := fun x : Fin 2048 => s x.val) (Finset.mem_univ (⟨j, Finset.mem_range.mp hj⟩ : Fin 2048))

/-- The sums over the 2048 keys, written with their largest score. -/
theorem weights (s v : ℕ → EReal) (w : Fin 2048 → EReal) (hv : ∀ x, w x = v x.val) :
    Ideal.div (∑ x : Fin 2048, Ideal.exp (s x.val - Cert.Online.top s 2048) * w x) (∑ x : Fin 2048, Ideal.exp (s x.val - Cert.Online.top s 2048))
      = Ideal.div (Cert.Online.wgt s v 2048) (Cert.Online.tot s 2048) := by
  have e1 : Cert.Online.wgt s v 2048 = ∑ x : Fin 2048, Ideal.exp (s x.val - Cert.Online.top s 2048) * w x := by
    unfold Cert.Online.wgt
    rw [Finset.sum_range]
    exact Finset.sum_congr rfl fun x _ => by rw [hv]
  have e2 : Cert.Online.tot s 2048 = ∑ x : Fin 2048, Ideal.exp (s x.val - Cert.Online.top s 2048) := by
    unfold Cert.Online.tot
    rw [Finset.sum_range]
  rw [e1, e2]

/-- The reference's result at an index. -/
theorem reference_at (m' : (ℓ : Loc nD τ sig) → Buf (Elt Ideal) ℓ) (c : Dev nD)
    (q : Vec Ideal S4x2048x16x320 .f32) (h0 : m' ((c.tc : Thread nD τ).loc main_arg0) = q)
    (k : Vec Ideal S4x2048x320 .f32) (h1 : m' ((c.tc : Thread nD τ).loc main_arg1) = k) (h : Fin 16) (R : Fin 8192) (d : Fin 256)
    (hb : R.val / 2048 < 4) (hp : R.val % 2048 < 2048) :
    (Cert.FlashReferenceIdeal.Value.res_main_v24 m' c (ix3 h R d) : EReal)
      = Ideal.div (Cert.Online.wgt (line q k ⟨R.val / 2048, hb⟩ ⟨R.val % 2048, hp⟩ h) (comp k ⟨R.val / 2048, hb⟩ d) 2048)
          (Cert.Online.tot (line q k ⟨R.val / 2048, hb⟩ ⟨R.val % 2048, hp⟩ h) 2048) := by
  unfold Cert.FlashReferenceIdeal.Value.res_main_v24
  rw [h0, h1]
  refine Eq.trans ?_ (weights _ _ (fun x => (k (ix3 (⟨R.val / 2048, hb⟩ : Fin 4) x (⟨d.val, by omega⟩ : Fin 320)) : EReal)) ?_)
  · pointwise
    simp only [Cert.FlashIdeal.Val.bot_word]
    show Ideal.div (∑ x : Fin 2048, Ideal.exp (sel q k ⟨R.val / 2048, hb⟩ (R.val % 2048) hp h x
          - Finset.fold max ⊥ (fun y : Fin 2048 => sel q k ⟨R.val / 2048, hb⟩ (R.val % 2048) hp h y) Finset.univ)
          * (k (ix3 (⟨R.val / 2048, hb⟩ : Fin 4) x (⟨d.val, by omega⟩ : Fin 320)) : EReal))
        (∑ x : Fin 2048, Ideal.exp (sel q k ⟨R.val / 2048, hb⟩ (R.val % 2048) hp h x
          - Finset.fold max ⊥ (fun y : Fin 2048 => sel q k ⟨R.val / 2048, hb⟩ (R.val % 2048) hp h y) Finset.univ)) = _
    simp only [masked, fold_top]
  · intro x
    unfold comp
    rw [dif_pos x.isLt]

/-- From equal arguments the reference leaves the kernel's result, and its arguments as they were. -/
theorem run_eq (m : (ℓ : Loc Cert.FlashIdeal.nD Cert.FlashIdeal.τ Cert.FlashIdeal.sig) → Buf (Elt Ideal) ℓ)
    (m' : (ℓ : Loc nD τ sig) → Buf (Elt Ideal) ℓ) (g' : Dev nD → PrngReg)
    (h0 : ∀ c : Dev Cert.FlashReferenceIdeal.nD, m' ((c.tc : Thread nD τ).loc main_arg0) = Cert.FlashIdeal.Val.qA m c)
    (h1 : ∀ c : Dev Cert.FlashReferenceIdeal.nD, m' ((c.tc : Thread nD τ).loc main_arg1) = Cert.FlashIdeal.Val.rA m c) :
    θ_run defs (onTc (τ := τ) (main (F := Ideal))) ⟨m', fun _ => 0, g'⟩ fun r => ∀ c : Dev nD,
      r.2.mem ((c.tc : Thread nD τ).loc main_v24) = Cert.FlashIdeal.Value.G2 m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun r hr c => ⟨(hr c).1.trans ?_, (hr c).2⟩) (Cert.FlashReferenceIdeal.Value.run m' g')
  funext i
  obtain ⟨h, R, d, rfl⟩ : ∃ (h : Fin 16) (R : Fin 8192) (d : Fin 256), i = ix3 h R d := ⟨i 0, i 1, i 2, by funext a; fin_cases a <;> rfl⟩
  exact (reference_at m' c _ (h0 c) _ (h1 c) h R d (by omega) (by omega)).trans (Cert.FlashIdeal.Val.result_apply m c h R d).symm

end Cert.FlashMeet

end
-- ==== Proof.DsaInPieces.lean ====
/- What one step of the sparse layer's input projection writes: the product with a block of columns, taken in six tiles of 128
   columns, each rotated, kept or scaled by what the tile holds. -/
module

public import proofs.«01_k».proof.Proof.Gen.DsaInIdeal.Value
public import Idealize.ShloMosaic.Lib.Pointwise
public import Idealize.ShloMosaic.Lib.WritesUnit
public import Idealize.ShloMosaic.Lib.VecWindow
public import Idealize.ShloMosaic.Lib.Pipeline.ReadBack
public import Idealize.ShloMosaic.Lib.Pipeline.ValueKit

@[expose] public section

set_option maxRecDepth 16384

noncomputable section

namespace Cert.DsaInIdeal.Val

open Idealize.ShloMosaic Idealize.ShloMosaic.TcCoe Idealize.ShloMosaic.Tactic
open Idealize.ShloMosaic.Pipeline (Dat Cfg Window)
open Cert.DsaInIdeal.Gen

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

/-- What becomes of the tile numbered `n`: 41 holds the index weights and is scaled, 36 to 39 hold the values and stay, every
    other tile is rotated by the tables `c`, `sa` and `sb`. -/
def turn (n : BitVec 32) (x c sa sb : FVec F S512x128 .f32) : FVec F S512x128 .f32 :=
  select (cmpi .eq (broadcast S512x128 n) (broadcast S512x128 41#32)) (mulf x (broadcast S512x128 (Scalar.ofBits .f32 0x3CB504F3#32)))
    (select (andi (cmpi .sge (broadcast S512x128 n) (broadcast S512x128 36#32)) (cmpi .slt (broadcast S512x128 n) (broadcast S512x128 40#32))) x
      (addf (addf (mulf x c) (mulf (dynamicRotate 1 112#32 none x rotates_S512x128_d1) sa))
        (mulf (dynamicRotate 1 16#32 none x rotates_S512x128_d1) sb)))

/-- Tile `s` of a block of columns. -/
def tile (s : Fin 6) (h : FVec F S512x768 .f32) : FVec F S512x128 .f32 := fun y =>
  h (ix2 (y 0) ⟨128 * s.val + (y 1).val, by have h : (y 1).val < 128 := (y 1).isLt; have := s.isLt; omega⟩)

/-- Six tiles side by side. -/
def across (f : Fin 6 → FVec F S512x128 .f32) : Vec F S512x768 .f32 := fun y =>
  f ⟨(y 1).val / 128, Nat.div_lt_of_lt_mul (y 1).isLt⟩ (ix2 (y 0) ⟨(y 1).val % 128, Nat.mod_lt _ (by decide)⟩)

/-- The number of tile `s` at grid column `a`. -/
def number (a : BitVec 32) (s : Fin 6) : BitVec 32 := Scalar.addi (Scalar.muli a 6#32) (BitVec.ofNat 32 s.val)

/-- What a step writes, from the rows it holds and its blocks of the weights and of the tables. -/
def block (a : BitVec 32) (x : Vec F S512x2048 .bf16) (w : Vec F S2048x768 .bf16) (c sa sb : Vec F S512x128 .f32) : Vec F S512x768 .f32 :=
  across fun s => turn (number a s) (tile s (k0_pay4 x w)) c sa sb

theorem across_of (f : Fin 6 → FVec F S512x128 .f32) (y : S512x768.Idx) (s : Fin 6) (o : ℕ) (ho : o = 128 * s.val)
    (h : o ≤ (y (1 : Fin 2)).val ∧ (y (1 : Fin 2)).val < o + 128) :
    f s (ix2 (y 0) ⟨(y (1 : Fin 2)).val - o, by omega⟩) = across f y := by
  have hs : (⟨(y (1 : Fin 2)).val / 128, Nat.div_lt_of_lt_mul (y 1).isLt⟩ : Fin 6) = s := Fin.ext (by
    show (y (1 : Fin 2)).val / 128 = s.val
    omega)
  unfold across
  rw [hs]
  refine congrArg (f s) (congrArg (ix2 (y 0)) (Fin.ext ?_))
  show (y (1 : Fin 2)).val - o = (y (1 : Fin 2)).val % 128
  omega

/-- One store of a tile: its columns read it, the others what was there. -/
theorem read_tile {sp : Space} (v : View sig .tc sp S512x768 .f32) (b : v.ty.Contents (Elt F)) (o : ℕ)
    (inb) (p : FVec F S512x128 .f32) (L : List (View.Piece (Elt F) S512x768 .f32)) (y : S512x768.Idx) :
    v.read (Elt F) (v.writes (Elt F) b ((⟨Rect.unit (s := S512x768) ![0, o] S512x128.size inb, p⟩ : View.Piece (Elt F) S512x768 .f32) :: L)) y
      = if h : o ≤ (y (1 : Fin 2)).val ∧ (y (1 : Fin 2)).val < o + 128 then p (ix2 (y 0) ⟨(y (1 : Fin 2)).val - o, by omega⟩)
        else v.read (Elt F) (v.writes (Elt F) b L) y := by
  by_cases h : o ≤ (y (1 : Fin 2)).val ∧ (y (1 : Fin 2)).val < o + 128
  · rw [dif_pos h]
    refine View.read_writes_cons_unit_of_mem v b inb p L y (ix2 (y 0) ⟨(y (1 : Fin 2)).val - o, by omega⟩) rfl ?_
    refine Fin.forall_fin_two.mpr ⟨?_, ?_⟩
    · show (y 0).val = 0 + (y 0).val
      omega
    · show (y (1 : Fin 2)).val = o + ((y (1 : Fin 2)).val - o)
      omega
  · rw [dif_neg h]
    refine View.read_writes_cons_unit_of_not_mem v b inb p L y rfl (1 : Fin 2) ?_
    show (y (1 : Fin 2)).val < o ∨ o + 128 ≤ (y (1 : Fin 2)).val
    omega

/-- What six stores of tiles leave. -/
theorem read_across {sp : Space} (v : View sig .tc sp S512x768 .f32) (b : v.ty.Contents (Elt F))
    (f : Fin 6 → FVec F S512x128 .f32) (i5 i4 i3 i2 i1 i0) (p5 p4 p3 p2 p1 p0 : FVec F S512x128 .f32)
    (h5 : p5 = f 5) (h4 : p4 = f 4) (h3 : p3 = f 3) (h2 : p2 = f 2) (h1 : p1 = f 1) (h0 : p0 = f 0) :
    v.read (Elt F) (v.writes (Elt F) b
      [(⟨Rect.unit (s := S512x768) ![0, 640] S512x128.size i5, p5⟩ : View.Piece (Elt F) S512x768 .f32),
       (⟨Rect.unit (s := S512x768) ![0, 512] S512x128.size i4, p4⟩ : View.Piece (Elt F) S512x768 .f32),
       (⟨Rect.unit (s := S512x768) ![0, 384] S512x128.size i3, p3⟩ : View.Piece (Elt F) S512x768 .f32),
       (⟨Rect.unit (s := S512x768) ![0, 256] S512x128.size i2, p2⟩ : View.Piece (Elt F) S512x768 .f32),
       (⟨Rect.unit (s := S512x768) ![0, 128] S512x128.size i1, p1⟩ : View.Piece (Elt F) S512x768 .f32),
       (⟨Rect.unit (s := S512x768) ![0, 0] S512x128.size i0, p0⟩ : View.Piece (Elt F) S512x768 .f32)])
      = across f := by
  subst h5 h4 h3 h2 h1 h0
  funext y
  have hy : (y (1 : Fin 2)).val < 768 := (y 1).isLt
  rw [read_tile v b 640]
  split
  · rename_i h; exact across_of f y 5 640 rfl h
  rw [read_tile v b 512]
  split
  · rename_i h; exact across_of f y 4 512 rfl h
  rw [read_tile v b 384]
  split
  · rename_i h; exact across_of f y 3 384 rfl h
  rw [read_tile v b 256]
  split
  · rename_i h; exact across_of f y 2 256 rfl h
  rw [read_tile v b 128]
  split
  · rename_i h; exact across_of f y 1 128 rfl h
  rw [read_tile v b 0]
  split
  · rename_i h; exact across_of f y 0 0 rfl h
  · omega

/-- The tiles, cut out of the block. -/
theorem cut_tile (s : Fin 6) (o : ℕ) (ho : o = 128 * s.val) (h : FVec F S512x768 .f32) (g : S512x768.Slices ![0, o] S512x128) :
    extractStridedSlice S512x128 ![0, o] h g = tile s h := by
  funext y
  refine congrArg h (funext fun a => Fin.ext ?_)
  match a with
  | ⟨0, _⟩ => show 0 + (y (0 : Fin 2)).val = (y (0 : Fin 2)).val; omega
  | ⟨1, _⟩ => show o + (y (1 : Fin 2)).val = 128 * s.val + (y (1 : Fin 2)).val; omega

section Tiles

variable (a : BitVec 32) (h : FVec F S512x768 .f32) (c sa sb : FVec F S512x128 .f32)

theorem tile_0 (i : grid0.Coords) (x : Vec F S512x2048 .bf16) (w : Vec F S2048x768 .bf16) :
    k0_pay8 i x w c sa sb = turn (number (BitVec.ofNat 32 (i 1).val) 0) (tile 0 (k0_pay4 x w)) (k0_pay5 c) (k0_pay6 sa) (k0_pay7 sb) := by
  rw [← cut_tile 0 0 rfl (k0_pay4 x w) slices_S512x768_o0_0_S512x128]
  rfl

theorem tile_1 : k0_pay9 a h c sa sb = turn (number a 1) (tile 1 h) c sa sb := by
  rw [← cut_tile 1 128 rfl h slices_S512x768_o0_128_S512x128]
  rfl

theorem tile_2 : k0_pay14 (k0_pay10 a) (k0_pay11 h) (k0_pay12 h c sa sb) (k0_pay13 a) 41#32 = turn (number a 2) (tile 2 h) c sa sb := by
  rw [← cut_tile 2 256 rfl h slices_S512x768_o0_256_S512x128]
  rfl

theorem tile_3 : k0_pay15 a h c sa sb = turn (number a 3) (tile 3 h) c sa sb := by
  rw [← cut_tile 3 384 rfl h slices_S512x768_o0_384_S512x128]
  rfl

theorem tile_4 : k0_pay1 (k0_pay16 a) (k0_pay17 h) (k0_pay18 h c sa sb) = turn (number a 4) (tile 4 h) c sa sb := by
  rw [← cut_tile 4 512 rfl h slices_S512x768_o0_512_S512x128]
  rfl

theorem tile_5 : k0_pay2 a h c sa sb = turn (number a 5) (tile 5 h) c sa sb := by
  rw [← cut_tile 5 640 rfl h slices_S512x768_o0_640_S512x128]
  rfl

/-- The same from loads that read those arrays. -/
theorem tile_0_of (i : grid0.Coords) {x x' : Vec F S512x2048 .bf16} {w w' : Vec F S2048x768 .bf16} {c' sa' sb' : FVec F S512x128 .f32}
    (hx : x' = x) (hw : w' = w) (hc : c' = c) (ha : sa' = sa) (hb : sb' = sb) :
    k0_pay8 i x' w' c' sa' sb' = turn (number (BitVec.ofNat 32 (i 1).val) 0) (tile 0 (k0_pay4 x w)) c sa sb := by
  subst hx hw hc ha hb
  refine (tile_0 _ _ _ i _ _).trans ?_
  rw [show k0_pay5 c' = c' from shapeCast_self .., show k0_pay6 sa' = sa' from shapeCast_self .., show k0_pay7 sb' = sb' from shapeCast_self ..]

theorem table_c : k0_pay5 c = c := shapeCast_self ..
theorem table_sa : k0_pay6 sa = sa := shapeCast_self ..
theorem table_sb : k0_pay7 sb = sb := shapeCast_self ..

end Tiles

section Buffers

variable (c : Dev nD) (i : grid0.Coords)
  (arg2 : Memref sig .tc .vmem S512x2048 .f32) (harg2 : arg2.IsWhole)
  (arg3 : Memref sig .tc .vmem S2048x768 .bf16) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x768 .f32) (harg7 : arg7.IsWhole)
  (arg8 : Memref sig .tc .vmem S512x2048 .bf16) (harg8 : arg8.IsWhole)

/-- The first step of a block of rows keeps the rows, cast, in the scratch array. -/
theorem first_rows (hc0 : cond0_0 i)
    (x0 : Vec F S512x2048 .f32) (x1 : Vec F S2048x768 .bf16) (x2 x3 x4 : Vec F S512x128 .f32) :
    sout0_A_0 c i arg2 harg2 arg3 harg3 arg4 harg4 arg5 harg5 arg6 harg6 arg7 harg7 arg8 harg8 hc0 x0 x1 x2 x3 x4 = k0_pay3 x0 := by
  unfold sout0_A_0 kernelRun0_A
  dsimp only
  refine (View.read_writes_full ..).trans ?_
  have e1 := load_whole harg2 x0 inb_S512x2048_S512x2048_0_0
  exact congrArg (fun z => k0_pay3 z) e1

/-- The first step of a block of rows writes the tiles of the product of the cast rows with its block of columns. -/
theorem first_out (hc0 : cond0_0 i)
    (x0 : Vec F S512x2048 .f32) (x1 : Vec F S2048x768 .bf16) (x2 x3 x4 : Vec F S512x128 .f32) :
    out0_A_5 c i arg2 harg2 arg3 harg3 arg4 harg4 arg5 harg5 arg6 harg6 arg7 harg7 arg8 harg8 hc0 x0 x1 x2 x3 x4 = block (BitVec.ofNat 32 (i 1).val) (k0_pay3 x0) x1 x2 x3 x4 := by
  unfold out0_A_5 kernelRun0_A
  dsimp only
  have e2 := load_whole harg2 x0 inb_S512x2048_S512x2048_0_0
  have e3 := load_whole harg3 x1 inb_S2048x768_S2048x768_0_0
  have e4 := load_whole harg4 x2 inb_S512x128_S512x128_0_0
  have e5 := load_whole harg5 x3 inb_S512x128_S512x128_0_0
  have e6 := load_whole harg6 x4 inb_S512x128_S512x128_0_0
  have k : kernelRun0_A.sl.v3 c arg2 harg2 arg8 x0 = k0_pay3 x0 := by
    unfold kernelRun0_A.sl.v3
    exact (View.readCov_full ..).trans (congrArg (fun z => k0_pay3 z) e2)
  have h : kernelRun0_A.sl.r c arg2 harg2 arg3 harg3 arg8 x0 x1 = k0_pay4 (k0_pay3 x0) x1 := by
    unfold kernelRun0_A.sl.r
    rw [k]
    exact congrArg (fun z => k0_pay4 _ z) e3
  have tc : kernelRun0_A.sl.r_1 c arg4 harg4 x2 = x2 := by
    unfold kernelRun0_A.sl.r_1
    exact (congrArg (fun z => k0_pay5 z) e4).trans (table_c x2)
  have ta : kernelRun0_A.sl.r_2 c arg5 harg5 x3 = x3 := by
    unfold kernelRun0_A.sl.r_2
    exact (congrArg (fun z => k0_pay6 z) e5).trans (table_sa x3)
  have tb : kernelRun0_A.sl.r_3 c arg6 harg6 x4 = x4 := by
    unfold kernelRun0_A.sl.r_3
    exact (congrArg (fun z => k0_pay7 z) e6).trans (table_sb x4)
  refine read_across VO0_5 _ _ _ _ _ _ _ _ _ _ _ _ _ _ ?_ ?_ ?_ ?_ ?_ ?_
  · rw [h, tc, ta, tb]
    exact tile_5 ..
  · unfold kernelRun0_A.sl.r_9 kernelRun0_A.sl.r_10 kernelRun0_A.sl.r_11
    rw [h, tc, ta, tb]
    exact tile_4 ..
  · rw [h, tc, ta, tb]
    exact tile_3 ..
  · unfold kernelRun0_A.sl.r_5 kernelRun0_A.sl.r_6 kernelRun0_A.sl.r_7 kernelRun0_A.sl.r_8
    rw [h, tc, ta, tb]
    exact tile_2 ..
  · rw [h, tc, ta, tb]
    exact tile_1 ..
  · unfold kernelRun0_A.sl.r_4
    exact tile_0_of x2 x3 x4 i k e3 e4 e5 e6

/-- A later step writes the tiles of the product of the kept rows with its block of columns. -/
theorem later_out (hc0 : ¬cond0_0 i)
    (x0 : Vec F S512x2048 .f32) (x1 : Vec F S2048x768 .bf16) (x2 x3 x4 : Vec F S512x128 .f32) (xs0 : Vec F S512x2048 .bf16) :
    out0_B_5 c i arg2 harg2 arg3 harg3 arg4 harg4 arg5 harg5 arg6 harg6 arg7 harg7 arg8 harg8 hc0 x0 x1 x2 x3 x4 xs0 = block (BitVec.ofNat 32 (i 1).val) xs0 x1 x2 x3 x4 := by
  unfold out0_B_5 kernelRun0_B
  dsimp only
  have e3 := load_whole harg3 x1 inb_S2048x768_S2048x768_0_0
  have e4 := load_whole harg4 x2 inb_S512x128_S512x128_0_0
  have e5 := load_whole harg5 x3 inb_S512x128_S512x128_0_0
  have e6 := load_whole harg6 x4 inb_S512x128_S512x128_0_0
  have k := load_whole harg8 xs0 inb_S512x2048_S512x2048_0_0
  have h : kernelRun0_B.sl.r c arg3 harg3 arg8 harg8 x1 xs0 = k0_pay4 xs0 x1 := by
    unfold kernelRun0_B.sl.r
    exact (congrArg (fun z => k0_pay4 z _) k).trans (congrArg (fun z => k0_pay4 xs0 z) e3)
  have tc : kernelRun0_B.sl.r_1 c arg4 harg4 x2 = x2 := by
    unfold kernelRun0_B.sl.r_1
    exact (congrArg (fun z => k0_pay5 z) e4).trans (table_c x2)
  have ta : kernelRun0_B.sl.r_2 c arg5 harg5 x3 = x3 := by
    unfold kernelRun0_B.sl.r_2
    exact (congrArg (fun z => k0_pay6 z) e5).trans (table_sa x3)
  have tb : kernelRun0_B.sl.r_3 c arg6 harg6 x4 = x4 := by
    unfold kernelRun0_B.sl.r_3
    exact (congrArg (fun z => k0_pay7 z) e6).trans (table_sb x4)
  refine read_across VO0_5 _ _ _ _ _ _ _ _ _ _ _ _ _ _ ?_ ?_ ?_ ?_ ?_ ?_
  · rw [h, tc, ta, tb]
    exact tile_5 ..
  · unfold kernelRun0_B.sl.r_9 kernelRun0_B.sl.r_10 kernelRun0_B.sl.r_11
    rw [h, tc, ta, tb]
    exact tile_4 ..
  · rw [h, tc, ta, tb]
    exact tile_3 ..
  · unfold kernelRun0_B.sl.r_5 kernelRun0_B.sl.r_6 kernelRun0_B.sl.r_7 kernelRun0_B.sl.r_8
    rw [h, tc, ta, tb]
    exact tile_2 ..
  · rw [h, tc, ta, tb]
    exact tile_1 ..
  · unfold kernelRun0_B.sl.r_4
    exact tile_0_of x2 x3 x4 i k e3 e4 e5 e6

end Buffers

variable (m : (ℓ : Loc nD τ sig) → Buf (Elt F) ℓ)

theorem at_first_rows (c : Dev nD) (t : Fin cfg0.N) (h0 : t.val % 7 = 0) :
    (outsAt0 m c t.val t.isLt).2 = k0_pay3 (F := F) (iblk m c 0 t : Vec F S512x2048 .f32) := by
  have e := first_rows c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  rw [outsAt0_A m c t h0]
  dsimp only
  rw [e]

theorem at_first_out (c : Dev nD) (t : Fin cfg0.N) (h0 : t.val % 7 = 0) :
    (outsAt0 m c t.val t.isLt).1 = block (F := F) (BitVec.ofNat 32 ((grid0.coords t) 1).val) (k0_pay3 (F := F) (iblk m c 0 t : Vec F S512x2048 .f32)) (iblk m c 1 t : Vec F S2048x768 .bf16) (iblk m c 2 t) (iblk m c 3 t) (iblk m c 4 t) := by
  have e := first_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  rw [outsAt0_A m c t h0]
  dsimp only
  rw [e]

theorem at_later_rows (c : Dev nD) (t : Fin cfg0.N) (h0 : ¬t.val % 7 = 0) :
    (outsAt0 m c t.val t.isLt).2 = (outsAt0 m c (t.val - 1) (Nat.lt_of_le_of_lt (Nat.sub_le _ _) t.isLt)).2 := by
  rw [outsAt0_B m c t h0]
  rfl

theorem at_later_out (c : Dev nD) (t : Fin cfg0.N) (h0 : ¬t.val % 7 = 0) :
    (outsAt0 m c t.val t.isLt).1 = block (F := F) (BitVec.ofNat 32 ((grid0.coords t) 1).val) (outsAt0 m c (t.val - 1) (Nat.lt_of_le_of_lt (Nat.sub_le _ _) t.isLt)).2 (iblk m c 1 t : Vec F S2048x768 .bf16) (iblk m c 2 t) (iblk m c 3 t) (iblk m c 4 t) := by
  have e := later_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2
  rw [outsAt0_B m c t h0]
  dsimp only
  rw [e]

end Cert.DsaInIdeal.Val

end
-- ==== Proof.DsaInValue.lean ====
/- The sparse layer's input projection over the reals: the product, rotated, kept or scaled, tile by tile. -/
module

public import proofs.«01_k».proof.Proof.DsaInPieces
public import Idealize.ShloMosaic.Lib.IdealHost

@[expose] public section

set_option maxRecDepth 16384

noncomputable section

namespace Cert.DsaInIdeal.Val

open Idealize.ShloMosaic Idealize.ShloMosaic.TcCoe Idealize.ShloMosaic.Tactic
open Idealize.ShloMosaic.Pipeline (Dat Cfg Window)
open Cert.DsaInIdeal.Gen

/-! ## One step at an index -/

theorem rows_apply (x : Vec Ideal S512x2048 .f32) (r : Fin 512) (f : Fin 2048) : k0_pay3 x (ix2 r f) = x (ix2 r f) := by
  pointwise [k0_pay3]

theorem product_apply (a : Vec Ideal S512x2048 .bf16) (w : Vec Ideal S2048x768 .bf16) (r : Fin 512) (k : Fin 768) :
    k0_pay4 a w (ix2 r k) = ∑ f : Fin 2048, a (ix2 r f) * w (ix2 f k) := by
  pointwise [k0_pay4]

theorem turn_apply (n : BitVec 32) (x c sa sb : FVec Ideal S512x128 .f32) (r : Fin 512) (l : Fin 128) :
    turn n x c sa sb (ix2 r l) = Scalar.select (IntOp.cmpi CmpIPredicate.eq n 41#32) (x (ix2 r l) * Ideal.ofBits FTy.f32 0x3CB504F3#32)
      (Scalar.select (IntOp.andi (IntOp.cmpi CmpIPredicate.sge n 36#32) (IntOp.cmpi CmpIPredicate.slt n 40#32))
        (x (ix2 r l))
        (x (ix2 r l) * c (ix2 r l) + x (ix2 r ⟨(l.val + 16) % 128, Nat.mod_lt _ (by decide)⟩) * sa (ix2 r l) +
          x (ix2 r ⟨(l.val + 112) % 128, Nat.mod_lt _ (by decide)⟩) * sb (ix2 r l))) := by
  have h1 : l.val + 128 - 112 = l.val + 16 := by omega
  have h2 : l.val + 128 - 16 = l.val + 112 := by omega
  pointwise [turn]
  simp only [h1, h2]

/-- Which tiles are scaled, and which stay. -/
theorem number_w : ∀ (a : Fin 7) (s : Fin 6), IntOp.cmpi CmpIPredicate.eq (number (BitVec.ofNat 32 a.val) s) 41#32
    = if 6 * a.val + s.val = 41 then 1#1 else 0#1 := by decide

theorem number_v : ∀ (a : Fin 7) (s : Fin 6), IntOp.andi (IntOp.cmpi CmpIPredicate.sge (number (BitVec.ofNat 32 a.val) s) 36#32)
    (IntOp.cmpi CmpIPredicate.slt (number (BitVec.ofNat 32 a.val) s) 40#32)
    = if 36 ≤ 6 * a.val + s.val ∧ 6 * a.val + s.val < 40 then 1#1 else 0#1 := by decide

/-! ## The host's arrays -/

variable (m : (ℓ : Loc nD τ sig) → Buf (Elt Ideal) ℓ)

/-- The arguments: the rows, their positions, and the weights. -/
def xA (c : Dev nD) : Vec Ideal S8704x2048 .f32 := m ((c : Thread nD τ).loc main_arg0)
def pA (c : Dev nD) : Vec Ideal S8704 .i32 := m ((c : Thread nD τ).loc main_arg1)
def wA (c : Dev nD) : Vec Ideal S2048x5264 .f32 := m ((c : Thread nD τ).loc main_arg2)

/-- The angles, by row and frequency. -/
def angle (p : Vec Ideal S8704 .i32) : FVec Ideal S8704x16 .f32 :=
  mulf (broadcastInDim S8704x16 ![0, 1] bcast_S8704x1_S8704x16_0_1 (broadcastInDim S8704x1 ![0] bcast_S8704_S8704x1_0 (sitofp .f32 p : FVec Ideal S8704 .f32) : FVec Ideal S8704x1 .f32) : FVec Ideal S8704x16 .f32)
    (broadcastInDim S8704x16 ![0, 1] bcast_S1x16_S8704x16_0_1 (broadcastInDim S1x16 ![1] bcast_S16_S1x16_1
      (Host.powf (broadcastInDim S16 ![] bcast_S_S16 (constant S_ .f32 0x48F42400#32 : FVec Ideal S_ .f32) : FVec Ideal S16 .f32)
        (Host.divf (mulf (Host.negf (sitofp .f32 (iotaInDim S16 32 0) : FVec Ideal S16 .f32)) (broadcastInDim S16 ![] bcast_S_S16 (constant S_ .f32 0x40000000#32 : FVec Ideal S_ .f32)))
          (broadcastInDim S16 ![] bcast_S_S16 (constant S_ .f32 0x42000000#32 : FVec Ideal S_ .f32)))) : FVec Ideal S1x16 .f32) : FVec Ideal S8704x16 .f32)

/-- Their cosines and sines. -/
def cosA (p : Vec Ideal S8704 .i32) : FVec Ideal S8704x16 .f32 := Host.cos (angle p)
def sinA (p : Vec Ideal S8704 .i32) : FVec Ideal S8704x16 .f32 := Host.sin (angle p)

theorem host_c (c : Dev nD) : (V m c main_v25 : Vec Ideal S8704x128 .f32)
    = concatenate S8704x128 1 [⟨S8704x16, cosA (pA m c)⟩, ⟨S8704x16, cosA (pA m c)⟩,
        ⟨S8704x96, (broadcastInDim S8704x96 ![] bcast_S_S8704x96 (constant S_ .f32 0x3F800000#32 : FVec Ideal S_ .f32) : FVec Ideal S8704x96 .f32)⟩] concatenates_S8704x16_S8704x16_S8704x96_S8704x128_d1 := by
  unfold_abbrev_sides
  after_results
  rfl

theorem host_sa (c : Dev nD) : (V m c main_v28 : Vec Ideal S8704x128 .f32)
    = concatenate S8704x128 1 [⟨S8704x16, (Host.negf (sinA (pA m c)) : FVec Ideal S8704x16 .f32)⟩,
        ⟨S8704x112, (broadcastInDim S8704x112 ![] bcast_S_S8704x112 (constant S_ .f32 0x00000000#32 : FVec Ideal S_ .f32) : FVec Ideal S8704x112 .f32)⟩] concatenates_S8704x16_S8704x112_S8704x128_d1 := by
  unfold_abbrev_sides
  after_results
  rfl

theorem host_sb (c : Dev nD) : (V m c main_v31 : Vec Ideal S8704x128 .f32)
    = concatenate S8704x128 1 [⟨S8704x16, (broadcastInDim S8704x16 ![] bcast_S_S8704x16 (constant S_ .f32 0x00000000#32 : FVec Ideal S_ .f32) : FVec Ideal S8704x16 .f32)⟩, ⟨S8704x16, sinA (pA m c)⟩,
        ⟨S8704x96, (broadcastInDim S8704x96 ![] bcast_S_S8704x96 (constant S_ .f32 0x00000000#32 : FVec Ideal S_ .f32) : FVec Ideal S8704x96 .f32)⟩] concatenates_S8704x16_S8704x16_S8704x96_S8704x128_d1 := by
  unfold_abbrev_sides
  after_results
  rfl

/-- The tables, by row and lane. -/
def cT (C : FVec Ideal S8704x16 .f32) (R : Fin 8704) (l : Fin 128) : EReal :=
  if h : l.val < 16 then C (ix2 R ⟨l.val, h⟩) else if h : l.val - 16 < 16 then C (ix2 R ⟨l.val - 16, h⟩) else 1
def aT (Sn : FVec Ideal S8704x16 .f32) (R : Fin 8704) (l : Fin 128) : EReal :=
  if h : l.val < 16 then -Sn (ix2 R ⟨l.val, h⟩) else 0
def bT (Sn : FVec Ideal S8704x16 .f32) (R : Fin 8704) (l : Fin 128) : EReal :=
  if h : l.val < 16 then 0 else if h : l.val - 16 < 16 then Sn (ix2 R ⟨l.val - 16, h⟩) else 0

theorem c_apply (c : Dev nD) (R : Fin 8704) (l : Fin 128) : (V m c main_v25 : Vec Ideal S8704x128 .f32) (ix2 R l) = cT (cosA (pA m c)) R l := by
  refine (congrFun (host_c m c) (ix2 R l)).trans ?_
  unfold cT
  generalize cosA (pA m c) = C
  pointwise

theorem sa_apply (c : Dev nD) (R : Fin 8704) (l : Fin 128) : (V m c main_v28 : Vec Ideal S8704x128 .f32) (ix2 R l) = aT (sinA (pA m c)) R l := by
  refine (congrFun (host_sa m c) (ix2 R l)).trans ?_
  unfold aT
  generalize sinA (pA m c) = C
  pointwise

theorem sb_apply (c : Dev nD) (R : Fin 8704) (l : Fin 128) : (V m c main_v31 : Vec Ideal S8704x128 .f32) (ix2 R l) = bT (sinA (pA m c)) R l := by
  refine (congrFun (host_sb m c) (ix2 R l)).trans ?_
  unfold bT
  generalize sinA (pA m c) = C
  pointwise

theorem host_w (c : Dev nD) : (V m c main_v7 : Vec Ideal S2048x5376 .bf16)
    = (truncf .bf16 (concatenate S2048x5376 1 [⟨S2048x2048, (extractStridedSlice S2048x2048 ![0, 3072] (wA m c) slices_S2048x5264_S2048x2048_0_3072 : FVec Ideal S2048x2048 .f32)⟩,
        ⟨S2048x2048, (extractStridedSlice S2048x2048 ![0, 0] (wA m c) slices_S2048x5264_S2048x2048_0_0 : FVec Ideal S2048x2048 .f32)⟩,
        ⟨S2048x1024, (extractStridedSlice S2048x1024 ![0, 2048] (wA m c) slices_S2048x5264_S2048x1024_0_2048 : FVec Ideal S2048x1024 .f32)⟩,
        ⟨S2048x128, (extractStridedSlice S2048x128 ![0, 5120] (wA m c) slices_S2048x5264_S2048x128_0_5120 : FVec Ideal S2048x128 .f32)⟩,
        ⟨S2048x128, (pad S2048x128 ![0, 0] ![0, 112] ![0, 0] (extractStridedSlice S2048x16 ![0, 5248] (wA m c) slices_S2048x5264_S2048x16_0_5248 : FVec Ideal S2048x16 .f32)
          (sitofp .f32 (constantI S_ 32 0#32) : FVec Ideal S_ .f32) pads_S2048x16_S2048x128_000_01120 h_S_ : FVec Ideal S2048x128 .f32)⟩] concatenates_S2048x2048_S2048x2048_S2048x1024_S2048x128_S2048x128_S2048x5376_d1 : FVec Ideal S2048x5376 .f32) bitsLt_bf16_f32 : FVec Ideal S2048x5376 .bf16) := by
  show StableHlo.after (List.flatten [hostOps0, hostOps0_1, hostOps0_2]) (fun b => m (c, b)) (Proc.tc.devRef main_v7) = _
  simp only [List.flatten_cons, List.flatten_nil, List.append_nil, List.cons_append, List.nil_append]
  after_results_simp
  rfl

/-- The weights with their columns in the kernel's order: index queries, queries, keys and values, index keys, index weights,
    and zeros up to a whole tile. -/
def wRe (w : Vec Ideal S2048x5264 .f32) (f : Fin 2048) (k : Fin 5376) : EReal :=
  if h : k.val < 2048 then w (ix2 f ⟨k.val + 3072, by omega⟩) else if h : k.val < 5120 then w (ix2 f ⟨k.val - 2048, by omega⟩)
  else if h : k.val < 5264 then w (ix2 f ⟨k.val, h⟩) else 0

theorem int_zero : (FloatOps.sitofp FTy.f32 0#32 : Ideal .f32) = (0 : EReal) := by
  show (((0#32 : BitVec 32).toInt : ℝ) : EReal) = 0
  simp

theorem w_columns (c : Dev nD) (f : Fin 2048) (k : Fin 5376) : (V m c main_v7 : Vec Ideal S2048x5376 .bf16) (ix2 f k) = wRe (wA m c) f k := by
  refine (congrFun (host_w m c) (ix2 f k)).trans ?_
  have hk := k.isLt
  unfold wRe
  generalize wA m c = w
  pointwise
  repeat' split
  all_goals first
    | (exfalso; omega)
    | exact int_zero
    | exact congrArg w (congrArg (ix2 f) (Fin.ext (by dsimp only <;> omega)))

/-! ## The blocks a step is given -/

theorem index_0 : ∀ t : Fin cfg0.N, (cfg0.win 0).index t 0 = t.val / 7 ∧ (cfg0.win 0).index t 1 = 0 := by decide +kernel
theorem index_1 : ∀ t : Fin cfg0.N, (cfg0.win 1).index t 0 = 0 ∧ (cfg0.win 1).index t 1 = t.val % 7 := by decide +kernel
theorem index_2 : ∀ t : Fin cfg0.N, (cfg0.win 2).index t 0 = t.val / 7 ∧ (cfg0.win 2).index t 1 = 0 := by decide +kernel
theorem index_3 : ∀ t : Fin cfg0.N, (cfg0.win 3).index t 0 = t.val / 7 ∧ (cfg0.win 3).index t 1 = 0 := by decide +kernel
theorem index_4 : ∀ t : Fin cfg0.N, (cfg0.win 4).index t 0 = t.val / 7 ∧ (cfg0.win 4).index t 1 = 0 := by decide +kernel
theorem column : ∀ t : Fin cfg0.N, ((grid0.coords t) 1).val = t.val % 7 := by decide +kernel

/-- The row of the argument that row `r` of the block at step `n` is. -/
def row (n : ℕ) (h : n < cfg0.N) (r : Fin 512) : Fin 8704 :=
  ⟨512 * (n / 7) + r.val, by have := Nat.lt_of_lt_of_eq h N_0; have := r.isLt; omega⟩

theorem x_block (c : Dev nD) (t : Fin cfg0.N) (r : Fin 512) (f : Fin 2048) :
    (iblk m c 0 t : Vec Ideal S512x2048 .f32) (ix2 r f) = xA m c (ix2 (row t.val t.isLt r) f) := by
  refine (congrArg (V m c main_arg0 : Vec Ideal S8704x2048 .f32) (funext fun a => Fin.ext ?_)).trans (congrFun (V_main_arg0 m c) _)
  fin_cases a
  · refine ((cfg0.win 0).rect_emb_val t (ix2 r f) 0).trans ?_
    rw [(index_0 t).1]
    show t.val / 7 * 512 + r.val = 512 * (t.val / 7) + r.val
    omega
  · refine ((cfg0.win 0).rect_emb_val t (ix2 r f) 1).trans ?_
    rw [(index_0 t).2]
    show 0 * 2048 + f.val = f.val
    omega

theorem w_block (c : Dev nD) (t : Fin cfg0.N) (f : Fin 2048) (k : Fin 768) (K : Fin 5376) (hK : K.val = 768 * (t.val % 7) + k.val) :
    (iblk m c 1 t : Vec Ideal S2048x768 .bf16) (ix2 f k) = wRe (wA m c) f K := by
  refine (congrArg (V m c main_v7 : Vec Ideal S2048x5376 .bf16) (funext fun a => Fin.ext ?_)).trans (w_columns m c f K)
  fin_cases a
  · refine ((cfg0.win 1).rect_emb_val t (ix2 f k) 0).trans ?_
    rw [(index_1 t).1]
    show 0 * 2048 + f.val = f.val
    omega
  · refine ((cfg0.win 1).rect_emb_val t (ix2 f k) 1).trans ?_
    rw [(index_1 t).2]
    show t.val % 7 * 768 + k.val = K.val
    omega

theorem c_block (c : Dev nD) (t : Fin cfg0.N) (r : Fin 512) (l : Fin 128) :
    (iblk m c 2 t : Vec Ideal S512x128 .f32) (ix2 r l) = cT (cosA (pA m c)) (row t.val t.isLt r) l := by
  refine (congrArg (V m c main_v25 : Vec Ideal S8704x128 .f32) (funext fun a => Fin.ext ?_)).trans (c_apply m c (row t.val t.isLt r) l)
  fin_cases a
  · refine ((cfg0.win 2).rect_emb_val t (ix2 r l) 0).trans ?_
    rw [(index_2 t).1]
    show t.val / 7 * 512 + r.val = 512 * (t.val / 7) + r.val
    omega
  · refine ((cfg0.win 2).rect_emb_val t (ix2 r l) 1).trans ?_
    rw [(index_2 t).2]
    show 0 * 128 + l.val = l.val
    omega

theorem sa_block (c : Dev nD) (t : Fin cfg0.N) (r : Fin 512) (l : Fin 128) :
    (iblk m c 3 t : Vec Ideal S512x128 .f32) (ix2 r l) = aT (sinA (pA m c)) (row t.val t.isLt r) l := by
  refine (congrArg (V m c main_v28 : Vec Ideal S8704x128 .f32) (funext fun a => Fin.ext ?_)).trans (sa_apply m c (row t.val t.isLt r) l)
  fin_cases a
  · refine ((cfg0.win 3).rect_emb_val t (ix2 r l) 0).trans ?_
    rw [(index_3 t).1]
    show t.val / 7 * 512 + r.val = 512 * (t.val / 7) + r.val
    omega
  · refine ((cfg0.win 3).rect_emb_val t (ix2 r l) 1).trans ?_
    rw [(index_3 t).2]
    show 0 * 128 + l.val = l.val
    omega

theorem sb_block (c : Dev nD) (t : Fin cfg0.N) (r : Fin 512) (l : Fin 128) :
    (iblk m c 4 t : Vec Ideal S512x128 .f32) (ix2 r l) = bT (sinA (pA m c)) (row t.val t.isLt r) l := by
  refine (congrArg (V m c main_v31 : Vec Ideal S8704x128 .f32) (funext fun a => Fin.ext ?_)).trans (sb_apply m c (row t.val t.isLt r) l)
  fin_cases a
  · refine ((cfg0.win 4).rect_emb_val t (ix2 r l) 0).trans ?_
    rw [(index_4 t).1]
    show t.val / 7 * 512 + r.val = 512 * (t.val / 7) + r.val
    omega
  · refine ((cfg0.win 4).rect_emb_val t (ix2 r l) 1).trans ?_
    rw [(index_4 t).2]
    show 0 * 128 + l.val = l.val
    omega

/-! ## What the steps leave -/

theorem first (c : Dev nD) (t : Fin cfg0.N) (h0 : t.val % 7 = 0) (r : Fin 512) (f : Fin 2048) :
    (outsAt0 m c t.val t.isLt).2 (ix2 r f) = xA m c (ix2 (row t.val t.isLt r) f) :=
  (congrFun (at_first_rows m c t h0) _).trans ((rows_apply _ r f).trans (x_block m c t r f))

/-- After every step the scratch array holds the step's block of rows. -/
theorem held (c : Dev nD) : ∀ (n : ℕ) (hn : n < cfg0.N) (r : Fin 512) (f : Fin 2048),
    (outsAt0 m c n hn).2 (ix2 r f) = xA m c (ix2 (row n hn r) f) := by
  intro n
  induction n with
  | zero => intro hn r f; exact first m c ⟨0, hn⟩ rfl r f
  | succ n ih =>
    intro hn r f
    by_cases h0 : (n + 1) % 7 = 0
    · exact first m c ⟨n + 1, hn⟩ h0 r f
    · refine (congrFun (at_later_rows m c ⟨n + 1, hn⟩ h0) _).trans ((ih (Nat.lt_of_succ_lt hn) r f).trans
        (congrArg (fun z => xA m c (ix2 z f)) (Fin.ext ?_)))
      show 512 * (n / 7) + r.val = 512 * ((n + 1) / 7) + r.val
      omega

/-- The product at row `R` and lane `l` of tile `T`. -/
def product (x : Vec Ideal S8704x2048 .f32) (w : Vec Ideal S2048x5264 .f32) (R : Fin 8704) (T : Fin 42) (l : Fin 128) : EReal :=
  ∑ f : Fin 2048, x (ix2 R f) * wRe w f ⟨128 * T.val + l.val, by have := T.isLt; have := l.isLt; omega⟩

/-- The result there. -/
def tileAt (x : Vec Ideal S8704x2048 .f32) (C Sn : FVec Ideal S8704x16 .f32) (w : Vec Ideal S2048x5264 .f32) (R : Fin 8704) (T : Fin 42) (l : Fin 128) : EReal :=
  if T.val = 41 then product x w R T l * Ideal.ofBits FTy.f32 0x3CB504F3#32
  else if 36 ≤ T.val ∧ T.val < 40 then product x w R T l
  else product x w R T l * cT C R l + product x w R T ⟨(l.val + 16) % 128, Nat.mod_lt _ (by decide)⟩ * aT Sn R l
    + product x w R T ⟨(l.val + 112) % 128, Nat.mod_lt _ (by decide)⟩ * bT Sn R l

def outAt (c : Dev nD) (R : Fin 8704) (T : Fin 42) (l : Fin 128) : EReal :=
  tileAt (xA m c) (cosA (pA m c)) (sinA (pA m c)) (wA m c) R T l

theorem select_if (p : Prop) [Decidable p] (a b : EReal) : Scalar.select (if p then 1#1 else 0#1) a b = if p then a else b := by
  by_cases h : p
  · rw [if_pos h, if_pos h]
    rfl
  · rw [if_neg h, if_neg h]
    rfl

/-- The tile that column `k` of the block at step `n` lies in. -/
def tileOf (n : ℕ) (k : Fin 768) : Fin 42 := ⟨6 * (n % 7) + k.val / 128, by have := k.isLt; omega⟩
def lane (k : Fin 768) : Fin 128 := ⟨k.val % 128, Nat.mod_lt _ (by decide)⟩

/-- A step that holds its rows writes its part of the result. -/
theorem step_apply (c : Dev nD) (t : Fin cfg0.N) (X : Vec Ideal S512x2048 .bf16)
    (hX : ∀ (r : Fin 512) (f : Fin 2048), X (ix2 r f) = xA m c (ix2 (row t.val t.isLt r) f)) (r : Fin 512) (k : Fin 768) :
    block (F := Ideal) (BitVec.ofNat 32 ((grid0.coords t) 1).val) X (iblk m c 1 t : Vec Ideal S2048x768 .bf16) (iblk m c 2 t) (iblk m c 3 t) (iblk m c 4 t) (ix2 r k)
      = outAt m c (row t.val t.isLt r) (tileOf t.val k) (lane k) := by
  have hk := k.isLt
  have hp : ∀ l : Fin 128, tile ⟨k.val / 128, by omega⟩ (k0_pay4 (F := Ideal) X (iblk m c 1 t : Vec Ideal S2048x768 .bf16)) (ix2 r l)
      = product (xA m c) (wA m c) (row t.val t.isLt r) (tileOf t.val k) l := fun l => by
    refine (product_apply X (iblk m c 1 t : Vec Ideal S2048x768 .bf16) r ⟨128 * (k.val / 128) + l.val, by have := l.isLt; omega⟩).trans ?_
    unfold product
    refine Finset.sum_congr rfl fun f _ => ?_
    rw [hX]
    refine congrArg _ (w_block m c t f _ _ ?_)
    show 128 * (6 * (t.val % 7) + k.val / 128) + l.val = 768 * (t.val % 7) + (128 * (k.val / 128) + l.val)
    omega
  rw [column t]
  refine (turn_apply (number (BitVec.ofNat 32 (t.val % 7)) ⟨k.val / 128, by omega⟩) (tile ⟨k.val / 128, by omega⟩ (k0_pay4 (F := Ideal) X (iblk m c 1 t : Vec Ideal S2048x768 .bf16)))
    (iblk m c 2 t) (iblk m c 3 t) (iblk m c 4 t) r (lane k)).trans ?_
  rw [hp, hp, hp, c_block, sa_block, sb_block, number_w ⟨t.val % 7, Nat.mod_lt _ (by decide)⟩ ⟨k.val / 128, by omega⟩,
    number_v ⟨t.val % 7, Nat.mod_lt _ (by decide)⟩ ⟨k.val / 128, by omega⟩, select_if, select_if]
  rfl

/-- What every step writes. -/
theorem written (c : Dev nD) (t : Fin cfg0.N) (r : Fin 512) (k : Fin 768) :
    (outsAt0 m c t.val t.isLt).1 (ix2 r k) = outAt m c (row t.val t.isLt r) (tileOf t.val k) (lane k) := by
  by_cases h0 : t.val % 7 = 0
  · exact (congrFun (at_first_out m c t h0) _).trans (step_apply m c t _ (fun r f => (rows_apply _ r f).trans (x_block m c t r f)) r k)
  · refine (congrFun (at_later_out m c t h0) _).trans (step_apply m c t _ (fun r f => ?_) r k)
    rw [← at_later_rows m c t h0, held]

/-- The result array. -/
theorem result_apply (c : Dev nD) (R : Fin 8704) (k : Fin 5376) : Cert.DsaInIdeal.Value.G5 m c (ix2 R k)
    = outAt m c R ⟨k.val / 128, by have := k.isLt; omega⟩ ⟨k.val % 128, Nat.mod_lt _ (by decide)⟩ := by
  have hR := R.isLt
  have hk := k.isLt
  have e : Cert.DsaInIdeal.Value.pt5Of (ix2 R k) = 7 * (R.val / 512) + k.val / 768 := by
    show 7 * (R.val / 512 - 0) + 1 * (k.val / 768 - 0) = _
    omega
  have hlt : Cert.DsaInIdeal.Value.pt5Of (ix2 R k) < cfg0.N := by
    rw [e]
    exact Nat.lt_of_lt_of_eq (by omega) N_0.symm
  unfold Cert.DsaInIdeal.Value.G5
  rw [dif_pos hlt, ← Cert.DsaInIdeal.Value.outsAt0_sweep m c _ hlt]
  have el : Cert.DsaInIdeal.Value.loc5Of (ix2 R k) = ix2 (⟨R.val % 512, by omega⟩ : Fin 512) (⟨k.val % 768, by omega⟩ : Fin 768) := by
    funext a
    fin_cases a <;> rfl
  rw [el]
  refine (written m c ⟨_, hlt⟩ _ _).trans ?_
  have e0 : row (Cert.DsaInIdeal.Value.pt5Of (ix2 R k)) hlt (⟨R.val % 512, by omega⟩ : Fin 512) = R := Fin.ext (by
    show 512 * (Cert.DsaInIdeal.Value.pt5Of (ix2 R k) / 7) + R.val % 512 = R.val
    omega)
  have e1 : tileOf (Cert.DsaInIdeal.Value.pt5Of (ix2 R k)) (⟨k.val % 768, by omega⟩ : Fin 768) = ⟨k.val / 128, by omega⟩ := Fin.ext (by
    show 6 * (Cert.DsaInIdeal.Value.pt5Of (ix2 R k) % 7) + k.val % 768 / 128 = k.val / 128
    omega)
  have e2 : lane (⟨k.val % 768, by omega⟩ : Fin 768) = ⟨k.val % 128, Nat.mod_lt _ (by decide)⟩ := Fin.ext (by
    show k.val % 768 % 128 = k.val % 128
    omega)
  dsimp only
  rw [e0, e1, e2]

end Cert.DsaInIdeal.Val

end
-- ==== Proof.DsaInMeet.lean ====
/- The sparse layer's input projection and its reference meet: both are the product, rotated, kept or scaled by columns. -/
module

public import proofs.«01_k».proof.Proof.DsaInValue
public import proofs.«01_k».proof.Proof.Gen.DsaInReferenceIdeal.Run

@[expose] public section

set_option maxRecDepth 16384

noncomputable section

namespace Cert.DsaInMeet

open Idealize.ShloMosaic Idealize.ShloMosaic.TcCoe Idealize.ShloMosaic.Tactic Idealize.SL.Sem
open Cert.DsaInReferenceIdeal Cert.DsaInReferenceIdeal.Gen

/-- Lane `l` of a rotated head `X` at row `R`: the first 32 lanes are rotated in pairs 16 apart, the others stay. -/
def spin (X : Fin 128 → EReal) (C Sn : FVec Ideal S8704x16 .f32) (R : Fin 8704) (l : Fin 128) : EReal :=
  if h : l.val < 16 then X ⟨l.val, by omega⟩ * C (ix2 R ⟨l.val, h⟩) - X ⟨16 + l.val, by omega⟩ * Sn (ix2 R ⟨l.val, h⟩)
  else if h2 : l.val - 16 < 16 then
    X ⟨16 + (l.val - 16), by omega⟩ * C (ix2 R ⟨l.val - 16, h2⟩) + X ⟨l.val - 16, by omega⟩ * Sn (ix2 R ⟨l.val - 16, h2⟩)
  else X ⟨32 + (l.val - 16 - 16), by have := l.isLt; omega⟩

/-! ## The reference's rotation, of sixteen heads, of four, and of one -/

def rope16 (x : FVec Ideal S8704x16x128 .f32) (C Sn : FVec Ideal S8704x16 .f32) : FVec Ideal S8704x16x128 .f32 :=
  concatenate S8704x16x128 2
    [⟨S8704x16x16, (subf (mulf (extractStridedSlice S8704x16x16 ![0, 0, 0] x slices_S8704x16x128_S8704x16x16_0_0_0 : FVec Ideal S8704x16x16 .f32) (broadcastInDim S8704x16x16 ![0, 1, 2] bcast_S8704x1x16_S8704x16x16_0_1_2 (broadcastInDim S8704x1x16 ![0, 2] bcast_S8704x16_S8704x1x16_0_2 C : FVec Ideal S8704x1x16 .f32) : FVec Ideal S8704x16x16 .f32)) (mulf (extractStridedSlice S8704x16x16 ![0, 0, 16] x slices_S8704x16x128_S8704x16x16_0_0_16 : FVec Ideal S8704x16x16 .f32) (broadcastInDim S8704x16x16 ![0, 1, 2] bcast_S8704x1x16_S8704x16x16_0_1_2 (broadcastInDim S8704x1x16 ![0, 2] bcast_S8704x16_S8704x1x16_0_2 Sn : FVec Ideal S8704x1x16 .f32) : FVec Ideal S8704x16x16 .f32)) : FVec Ideal S8704x16x16 .f32)⟩,
     ⟨S8704x16x16, (addf (mulf (extractStridedSlice S8704x16x16 ![0, 0, 16] x slices_S8704x16x128_S8704x16x16_0_0_16 : FVec Ideal S8704x16x16 .f32) (broadcastInDim S8704x16x16 ![0, 1, 2] bcast_S8704x1x16_S8704x16x16_0_1_2 (broadcastInDim S8704x1x16 ![0, 2] bcast_S8704x16_S8704x1x16_0_2 C : FVec Ideal S8704x1x16 .f32) : FVec Ideal S8704x16x16 .f32)) (mulf (extractStridedSlice S8704x16x16 ![0, 0, 0] x slices_S8704x16x128_S8704x16x16_0_0_0 : FVec Ideal S8704x16x16 .f32) (broadcastInDim S8704x16x16 ![0, 1, 2] bcast_S8704x1x16_S8704x16x16_0_1_2 (broadcastInDim S8704x1x16 ![0, 2] bcast_S8704x16_S8704x1x16_0_2 Sn : FVec Ideal S8704x1x16 .f32) : FVec Ideal S8704x16x16 .f32)) : FVec Ideal S8704x16x16 .f32)⟩,
     ⟨S8704x16x96, (extractStridedSlice S8704x16x96 ![0, 0, 32] x slices_S8704x16x128_S8704x16x96_0_0_32 : FVec Ideal S8704x16x96 .f32)⟩] concatenates_S8704x16x16_S8704x16x16_S8704x16x96_S8704x16x128_d2

theorem rope16_apply (x : FVec Ideal S8704x16x128 .f32) (C Sn : FVec Ideal S8704x16 .f32) (R : Fin 8704) (h : Fin 16) (l : Fin 128) :
    rope16 x C Sn (ix3 R h l) = spin (fun l => x (ix3 R h l)) C Sn R l := by
  unfold spin
  pointwise [rope16]

def rope4 (x : FVec Ideal S8704x4x128 .f32) (C Sn : FVec Ideal S8704x16 .f32) : FVec Ideal S8704x4x128 .f32 :=
  concatenate S8704x4x128 2
    [⟨S8704x4x16, (subf (mulf (extractStridedSlice S8704x4x16 ![0, 0, 0] x slices_S8704x4x128_S8704x4x16_0_0_0 : FVec Ideal S8704x4x16 .f32) (broadcastInDim S8704x4x16 ![0, 1, 2] bcast_S8704x1x16_S8704x4x16_0_1_2 (broadcastInDim S8704x1x16 ![0, 2] bcast_S8704x16_S8704x1x16_0_2 C : FVec Ideal S8704x1x16 .f32) : FVec Ideal S8704x4x16 .f32)) (mulf (extractStridedSlice S8704x4x16 ![0, 0, 16] x slices_S8704x4x128_S8704x4x16_0_0_16 : FVec Ideal S8704x4x16 .f32) (broadcastInDim S8704x4x16 ![0, 1, 2] bcast_S8704x1x16_S8704x4x16_0_1_2 (broadcastInDim S8704x1x16 ![0, 2] bcast_S8704x16_S8704x1x16_0_2 Sn : FVec Ideal S8704x1x16 .f32) : FVec Ideal S8704x4x16 .f32)) : FVec Ideal S8704x4x16 .f32)⟩,
     ⟨S8704x4x16, (addf (mulf (extractStridedSlice S8704x4x16 ![0, 0, 16] x slices_S8704x4x128_S8704x4x16_0_0_16 : FVec Ideal S8704x4x16 .f32) (broadcastInDim S8704x4x16 ![0, 1, 2] bcast_S8704x1x16_S8704x4x16_0_1_2 (broadcastInDim S8704x1x16 ![0, 2] bcast_S8704x16_S8704x1x16_0_2 C : FVec Ideal S8704x1x16 .f32) : FVec Ideal S8704x4x16 .f32)) (mulf (extractStridedSlice S8704x4x16 ![0, 0, 0] x slices_S8704x4x128_S8704x4x16_0_0_0 : FVec Ideal S8704x4x16 .f32) (broadcastInDim S8704x4x16 ![0, 1, 2] bcast_S8704x1x16_S8704x4x16_0_1_2 (broadcastInDim S8704x1x16 ![0, 2] bcast_S8704x16_S8704x1x16_0_2 Sn : FVec Ideal S8704x1x16 .f32) : FVec Ideal S8704x4x16 .f32)) : FVec Ideal S8704x4x16 .f32)⟩,
     ⟨S8704x4x96, (extractStridedSlice S8704x4x96 ![0, 0, 32] x slices_S8704x4x128_S8704x4x96_0_0_32 : FVec Ideal S8704x4x96 .f32)⟩] concatenates_S8704x4x16_S8704x4x16_S8704x4x96_S8704x4x128_d2

theorem rope4_apply (x : FVec Ideal S8704x4x128 .f32) (C Sn : FVec Ideal S8704x16 .f32) (R : Fin 8704) (h : Fin 4) (l : Fin 128) :
    rope4 x C Sn (ix3 R h l) = spin (fun l => x (ix3 R h l)) C Sn R l := by
  unfold spin
  pointwise [rope4]

def rope1 (x : FVec Ideal S8704x1x128 .f32) (C Sn : FVec Ideal S8704x16 .f32) : FVec Ideal S8704x1x128 .f32 :=
  concatenate S8704x1x128 2
    [⟨S8704x1x16, (subf (mulf (extractStridedSlice S8704x1x16 ![0, 0, 0] x slices_S8704x1x128_S8704x1x16_0_0_0 : FVec Ideal S8704x1x16 .f32) (broadcastInDim S8704x1x16 ![0, 2] bcast_S8704x16_S8704x1x16_0_2 C : FVec Ideal S8704x1x16 .f32)) (mulf (extractStridedSlice S8704x1x16 ![0, 0, 16] x slices_S8704x1x128_S8704x1x16_0_0_16 : FVec Ideal S8704x1x16 .f32) (broadcastInDim S8704x1x16 ![0, 2] bcast_S8704x16_S8704x1x16_0_2 Sn : FVec Ideal S8704x1x16 .f32)) : FVec Ideal S8704x1x16 .f32)⟩,
     ⟨S8704x1x16, (addf (mulf (extractStridedSlice S8704x1x16 ![0, 0, 16] x slices_S8704x1x128_S8704x1x16_0_0_16 : FVec Ideal S8704x1x16 .f32) (broadcastInDim S8704x1x16 ![0, 2] bcast_S8704x16_S8704x1x16_0_2 C : FVec Ideal S8704x1x16 .f32)) (mulf (extractStridedSlice S8704x1x16 ![0, 0, 0] x slices_S8704x1x128_S8704x1x16_0_0_0 : FVec Ideal S8704x1x16 .f32) (broadcastInDim S8704x1x16 ![0, 2] bcast_S8704x16_S8704x1x16_0_2 Sn : FVec Ideal S8704x1x16 .f32)) : FVec Ideal S8704x1x16 .f32)⟩,
     ⟨S8704x1x96, (extractStridedSlice S8704x1x96 ![0, 0, 32] x slices_S8704x1x128_S8704x1x96_0_0_32 : FVec Ideal S8704x1x96 .f32)⟩] concatenates_S8704x1x16_S8704x1x16_S8704x1x96_S8704x1x128_d2

theorem rope1_apply (x : FVec Ideal S8704x1x128 .f32) (C Sn : FVec Ideal S8704x16 .f32) (R : Fin 8704) (h : Fin 1) (l : Fin 128) :
    rope1 x C Sn (ix3 R h l) = spin (fun l => x (ix3 R h l)) C Sn R l := by
  obtain rfl : h = 0 := Subsingleton.elim _ _
  unfold spin
  pointwise [rope1]

def heads16 (y : FVec Ideal S8704x2048 .f32) (C Sn : FVec Ideal S8704x16 .f32) : FVec Ideal S8704x2048 .f32 :=
  shapeCast S8704x2048 (rope16 (shapeCast S8704x16x128 y shapeCasts_S8704x2048_S8704x16x128) C Sn) shapeCasts_S8704x16x128_S8704x2048

theorem heads16_apply (y : FVec Ideal S8704x2048 .f32) (C Sn : FVec Ideal S8704x16 .f32) (R : Fin 8704) (j : Fin 2048) :
    heads16 y C Sn (ix2 R j) = spin (fun l => y (ix2 R ⟨128 * (j.val / 128) + l.val, by have := j.isLt; have := l.isLt; omega⟩)) C Sn R ⟨j.val % 128, Nat.mod_lt _ (by decide)⟩ := by
  have hj := j.isLt
  have e : ∀ z : FVec Ideal S8704x16x128 .f32, shapeCast S8704x2048 z shapeCasts_S8704x16x128_S8704x2048 (ix2 R j)
      = z (ix3 R ⟨j.val / 128, by omega⟩ ⟨j.val % 128, Nat.mod_lt _ (by decide)⟩) := fun z => by
    refine Eq.trans (b := _) ?_ rfl
    pointwise
  refine (e _).trans ((rope16_apply _ C Sn R _ _).trans (congrArg (fun X => spin X C Sn R _) (funext fun l => ?_)))
  have hl := l.isLt
  pointwise
  exact congrArg y (congrArg (ix2 R) (Fin.ext (by dsimp only <;> omega)))

def heads4 (y : FVec Ideal S8704x512 .f32) (C Sn : FVec Ideal S8704x16 .f32) : FVec Ideal S8704x512 .f32 :=
  shapeCast S8704x512 (rope4 (shapeCast S8704x4x128 y shapeCasts_S8704x512_S8704x4x128) C Sn) shapeCasts_S8704x4x128_S8704x512

theorem heads4_apply (y : FVec Ideal S8704x512 .f32) (C Sn : FVec Ideal S8704x16 .f32) (R : Fin 8704) (j : Fin 512) :
    heads4 y C Sn (ix2 R j) = spin (fun l => y (ix2 R ⟨128 * (j.val / 128) + l.val, by have := j.isLt; have := l.isLt; omega⟩)) C Sn R ⟨j.val % 128, Nat.mod_lt _ (by decide)⟩ := by
  have hj := j.isLt
  have e : ∀ z : FVec Ideal S8704x4x128 .f32, shapeCast S8704x512 z shapeCasts_S8704x4x128_S8704x512 (ix2 R j)
      = z (ix3 R ⟨j.val / 128, by omega⟩ ⟨j.val % 128, Nat.mod_lt _ (by decide)⟩) := fun z => by
    refine Eq.trans (b := _) ?_ rfl
    pointwise
  refine (e _).trans ((rope4_apply _ C Sn R _ _).trans (congrArg (fun X => spin X C Sn R _) (funext fun l => ?_)))
  have hl := l.isLt
  pointwise
  exact congrArg y (congrArg (ix2 R) (Fin.ext (by dsimp only <;> omega)))

def heads1 (y : FVec Ideal S8704x128 .f32) (C Sn : FVec Ideal S8704x16 .f32) : FVec Ideal S8704x128 .f32 :=
  shapeCast S8704x128 (rope1 (broadcastInDim S8704x1x128 ![0, 2] bcast_S8704x128_S8704x1x128_0_2 y) C Sn) shapeCasts_S8704x1x128_S8704x128

theorem heads1_apply (y : FVec Ideal S8704x128 .f32) (C Sn : FVec Ideal S8704x16 .f32) (R : Fin 8704) (j : Fin 128) :
    heads1 y C Sn (ix2 R j) = spin (fun l => y (ix2 R ⟨128 * (j.val / 128) + l.val, by have := j.isLt; have := l.isLt; omega⟩)) C Sn R ⟨j.val % 128, Nat.mod_lt _ (by decide)⟩ := by
  have hj := j.isLt
  have e : ∀ z : FVec Ideal S8704x1x128 .f32, shapeCast S8704x128 z shapeCasts_S8704x1x128_S8704x128 (ix2 R j)
      = z (ix3 R ⟨j.val / 128, by omega⟩ ⟨j.val % 128, Nat.mod_lt _ (by decide)⟩) := fun z => by
    refine Eq.trans (b := _) ?_ rfl
    pointwise
    exact congrArg z (congrArg₂ (ix3 R) (Subsingleton.elim _ _) (Fin.ext (by dsimp only <;> omega)))
  refine (e _).trans ((rope1_apply _ C Sn R _ _).trans (congrArg (fun X => spin X C Sn R _) (funext fun l => ?_)))
  have hl := l.isLt
  pointwise
  exact congrArg y (congrArg (ix2 R) (Fin.ext (by dsimp only <;> omega)))

/-- The reference after its product `H`, with the cosines and sines as given. -/
def parts (H : FVec Ideal S8704x5264 .f32) (C Sn : FVec Ideal S8704x16 .f32) : FVec Ideal S8704x5376 .f32 :=
  concatenate S8704x5376 1
    [⟨S8704x2048, heads16 (extractStridedSlice S8704x2048 ![0, 3072] H slices_S8704x5264_S8704x2048_0_3072) C Sn⟩,
     ⟨S8704x2048, heads16 (extractStridedSlice S8704x2048 ![0, 0] H slices_S8704x5264_S8704x2048_0_0) C Sn⟩,
     ⟨S8704x512, heads4 (extractStridedSlice S8704x512 ![0, 2048] H slices_S8704x5264_S8704x512_0_2048) C Sn⟩,
     ⟨S8704x512, (extractStridedSlice S8704x512 ![0, 2560] H slices_S8704x5264_S8704x512_0_2560 : FVec Ideal S8704x512 .f32)⟩,
     ⟨S8704x128, heads1 (extractStridedSlice S8704x128 ![0, 5120] H slices_S8704x5264_S8704x128_0_5120) C Sn⟩,
     ⟨S8704x16, (mulf (extractStridedSlice S8704x16 ![0, 5248] H slices_S8704x5264_S8704x16_0_5248 : FVec Ideal S8704x16 .f32)
        (broadcastInDim S8704x16 ![] bcast_S_S8704x16 (constant S_ .f32 0x3CB504F3#32 : FVec Ideal S_ .f32)) : FVec Ideal S8704x16 .f32)⟩,
     ⟨S8704x112, (broadcastInDim S8704x112 ![] bcast_S_S8704x112 (constant S_ .f32 0x00000000#32 : FVec Ideal S_ .f32) : FVec Ideal S8704x112 .f32)⟩]
    concatenates_S8704x2048_S8704x2048_S8704x512_S8704x512_S8704x128_S8704x16_S8704x112_S8704x5376_d1

theorem ref_parts (m' : (ℓ : Loc nD τ sig) → Buf (Elt Ideal) ℓ) (c : Dev nD) (x : Vec Ideal S8704x2048 .f32) (p : Vec Ideal S8704 .i32) (w : Vec Ideal S2048x5264 .f32)
    (hx : m' ((c.tc : Thread nD τ).loc main_arg0) = x) (hp : m' ((c.tc : Thread nD τ).loc main_arg1) = p) (hw : m' ((c.tc : Thread nD τ).loc main_arg2) = w) :
    (Cert.DsaInReferenceIdeal.Value.res_main_v142 m' c : Vec Ideal S8704x5376 .f32)
      = parts (Host.dotGeneral (φ₁ := .f32) (φ₂ := .f32) dot_S8704x2048_S2048x5264_S8704x5264_1_0_0_1_n_n none x w) (Cert.DsaInIdeal.Val.cosA p) (Cert.DsaInIdeal.Val.sinA p) := by
  unfold Cert.DsaInReferenceIdeal.Value.res_main_v142
  rw [hx, hp, hw]
  rfl

/-- One entry of the reference's result, by the column it lies in. -/
theorem parts_apply (H : FVec Ideal S8704x5264 .f32) (C Sn : FVec Ideal S8704x16 .f32) (R : Fin 8704) (k : Fin 5376) :
    parts H C Sn (ix2 R k)
      = if h : k.val < 2048 then heads16 (extractStridedSlice S8704x2048 ![0, 3072] H slices_S8704x5264_S8704x2048_0_3072) C Sn (ix2 R ⟨k.val, h⟩)
        else if h : k.val - 2048 < 2048 then heads16 (extractStridedSlice S8704x2048 ![0, 0] H slices_S8704x5264_S8704x2048_0_0) C Sn (ix2 R ⟨k.val - 2048, h⟩)
        else if h : k.val - 2048 - 2048 < 512 then
          heads4 (extractStridedSlice S8704x512 ![0, 2048] H slices_S8704x5264_S8704x512_0_2048) C Sn (ix2 R ⟨k.val - 2048 - 2048, h⟩)
        else if h : k.val - 2048 - 2048 - 512 < 512 then H (ix2 R ⟨2560 + (k.val - 2048 - 2048 - 512), by omega⟩)
        else if h : k.val - 2048 - 2048 - 512 - 512 < 128 then
          heads1 (extractStridedSlice S8704x128 ![0, 5120] H slices_S8704x5264_S8704x128_0_5120) C Sn (ix2 R ⟨k.val - 2048 - 2048 - 512 - 512, h⟩)
        else if h : k.val - 2048 - 2048 - 512 - 512 - 128 < 16 then
          H (ix2 R ⟨5248 + (k.val - 2048 - 2048 - 512 - 512 - 128), by omega⟩) * Ideal.ofBits FTy.f32 0x3CB504F3#32
        else (0 : EReal) := by
  unfold parts
  generalize heads16 (extractStridedSlice S8704x2048 ![0, 3072] H slices_S8704x5264_S8704x2048_0_3072) C Sn = a
  generalize heads16 (extractStridedSlice S8704x2048 ![0, 0] H slices_S8704x5264_S8704x2048_0_0) C Sn = b
  generalize heads4 (extractStridedSlice S8704x512 ![0, 2048] H slices_S8704x5264_S8704x512_0_2048) C Sn = d
  generalize heads1 (extractStridedSlice S8704x128 ![0, 5120] H slices_S8704x5264_S8704x128_0_5120) C Sn = e
  pointwise

/-! ## The kernel's tiles in the same words -/

open Cert.DsaInIdeal.Val (wRe product tileAt cT aT bT)

/-- Turning a row of 128 lanes with the kernel's three tables is the rotation. -/
theorem turn_spin (y : Fin 128 → EReal) (C Sn : FVec Ideal S8704x16 .f32) (R : Fin 8704) (l : Fin 128) :
    y l * cT C R l + y ⟨(l.val + 16) % 128, Nat.mod_lt _ (by decide)⟩ * aT Sn R l
      + y ⟨(l.val + 112) % 128, Nat.mod_lt _ (by decide)⟩ * bT Sn R l = spin y C Sn R l := by
  have hl := l.isLt
  unfold cT aT bT spin
  by_cases h : l.val < 16
  · rw [dif_pos h, dif_pos h, dif_pos h, dif_pos h, mul_zero, add_zero, mul_neg, sub_eq_add_neg]
    exact congrArg₂ (fun a b => y a * C (ix2 R ⟨l.val, h⟩) + -(y b * Sn (ix2 R ⟨l.val, h⟩))) rfl (Fin.ext (by dsimp only <;> omega))
  · rw [dif_neg h, dif_neg h, dif_neg h, dif_neg h, mul_zero, add_zero]
    by_cases h2 : l.val - 16 < 16
    · rw [dif_pos h2, dif_pos h2, dif_pos h2]
      exact congrArg₂ (fun a b => y a * C (ix2 R ⟨l.val - 16, h2⟩) + y b * Sn (ix2 R ⟨l.val - 16, h2⟩))
        (Fin.ext (by dsimp only <;> omega)) (Fin.ext (by dsimp only <;> omega))
    · rw [dif_neg h2, dif_neg h2, dif_neg h2, mul_zero, add_zero, mul_one]
      exact congrArg y (Fin.ext (by dsimp only <;> omega))

/-- A column of the kernel's product is the column of the reference's product that its weights were taken from. -/
theorem product_eq (x : Vec Ideal S8704x2048 .f32) (w : Vec Ideal S2048x5264 .f32) (R : Fin 8704) (T : Fin 42) (l : Fin 128) (q : Fin 5264)
    (hq : (128 * T.val + l.val < 2048 ∧ q.val = 128 * T.val + l.val + 3072)
      ∨ (2048 ≤ 128 * T.val + l.val ∧ 128 * T.val + l.val < 5120 ∧ q.val = 128 * T.val + l.val - 2048)
      ∨ (5120 ≤ 128 * T.val + l.val ∧ q.val = 128 * T.val + l.val)) :
    product x w R T l = (Host.dotGeneral (φ₁ := .f32) (φ₂ := .f32) dot_S8704x2048_S2048x5264_S8704x5264_1_0_0_1_n_n none x w : FVec Ideal S8704x5264 .f32) (ix2 R q) := by
  have hqlt := q.isLt
  refine Eq.trans (b := ∑ f : Fin 2048, x (ix2 R f) * w (ix2 f q)) (Finset.sum_congr rfl fun f _ => congrArg (x (ix2 R f) * ·) ?_) (Eq.symm ?_)
  · unfold wRe
    rcases hq with ⟨h, e⟩ | ⟨h, h2, e⟩ | ⟨h, e⟩
    · rw [dif_pos h]
      exact congrArg w (congrArg (ix2 f) (Fin.ext e.symm))
    · rw [dif_neg (by dsimp only <;> omega), dif_pos h2]
      exact congrArg w (congrArg (ix2 f) (Fin.ext e.symm))
    · rw [dif_neg (by dsimp only <;> omega), dif_neg (by dsimp only <;> omega), dif_pos (by dsimp only <;> omega)]
      exact congrArg w (congrArg (ix2 f) (Fin.ext e.symm))
  · pointwise

/-- The padding columns of the kernel's product are zero. -/
theorem product_pad (x : Vec Ideal S8704x2048 .f32) (w : Vec Ideal S2048x5264 .f32) (R : Fin 8704) (T : Fin 42) (l : Fin 128)
    (h : 5264 ≤ 128 * T.val + l.val) : product x w R T l = (0 : EReal) := by
  refine Finset.sum_eq_zero fun f _ => ?_
  unfold wRe
  rw [dif_neg (by dsimp only <;> omega), dif_neg (by dsimp only <;> omega), dif_neg (by dsimp only <;> omega), mul_zero]

theorem tileAt_spin (x : Vec Ideal S8704x2048 .f32) (C Sn : FVec Ideal S8704x16 .f32) (w : Vec Ideal S2048x5264 .f32) (R : Fin 8704) (T : Fin 42) (l : Fin 128)
    (h : T.val ≠ 41) (h2 : ¬(36 ≤ T.val ∧ T.val < 40)) : tileAt x C Sn w R T l = spin (product x w R T) C Sn R l := by
  unfold tileAt
  rw [if_neg h, if_neg h2]
  exact turn_spin (product x w R T) C Sn R l

theorem spin_congr {X Y : Fin 128 → EReal} (C Sn : FVec Ideal S8704x16 .f32) (R : Fin 8704) {l l' : Fin 128} (h : ∀ i, X i = Y i) (e : l.val = l'.val) :
    spin X C Sn R l = spin Y C Sn R l' := by
  obtain rfl := Fin.ext e
  rw [funext h]

theorem meet (x : Vec Ideal S8704x2048 .f32) (w : Vec Ideal S2048x5264 .f32) (C Sn : FVec Ideal S8704x16 .f32) (R : Fin 8704) (k : Fin 5376) :
    parts (Host.dotGeneral (φ₁ := .f32) (φ₂ := .f32) dot_S8704x2048_S2048x5264_S8704x5264_1_0_0_1_n_n none x w) C Sn (ix2 R k)
      = tileAt x C Sn w R ⟨k.val / 128, by have := k.isLt; omega⟩ ⟨k.val % 128, Nat.mod_lt _ (by decide)⟩ := by
  have hk := k.isLt
  have hP := product_eq x w R
  generalize (Host.dotGeneral (φ₁ := .f32) (φ₂ := .f32) dot_S8704x2048_S2048x5264_S8704x5264_1_0_0_1_n_n none x w : FVec Ideal S8704x5264 .f32) = H at hP ⊢
  rw [parts_apply]
  split_ifs with h0 h1 h2 h3 h4 h5
  · rw [heads16_apply, tileAt_spin x C Sn w R _ _ (by dsimp only <;> omega) (by dsimp only <;> omega)]
    refine spin_congr C Sn R (fun i => ?_) rfl
    have hi := i.isLt
    refine Eq.trans ?_ (hP _ i ⟨3072 + (128 * (k.val / 128) + i.val), by omega⟩ (by dsimp only <;> omega)).symm
    pointwise
  · rw [heads16_apply, tileAt_spin x C Sn w R _ _ (by dsimp only <;> omega) (by dsimp only <;> omega)]
    refine spin_congr C Sn R (fun i => ?_) (by dsimp only <;> omega)
    have hi := i.isLt
    refine Eq.trans ?_ (hP _ i ⟨128 * ((k.val - 2048) / 128) + i.val, by omega⟩ (by dsimp only <;> omega)).symm
    pointwise
  · rw [heads4_apply, tileAt_spin x C Sn w R _ _ (by dsimp only <;> omega) (by dsimp only <;> omega)]
    refine spin_congr C Sn R (fun i => ?_) (by dsimp only <;> omega)
    have hi := i.isLt
    refine Eq.trans ?_ (hP _ i ⟨2048 + (128 * ((k.val - 2048 - 2048) / 128) + i.val), by omega⟩ (by dsimp only <;> omega)).symm
    pointwise
  · unfold tileAt
    rw [if_neg (by dsimp only <;> omega), if_pos (by dsimp only <;> omega)]
    exact (hP _ _ _ (by dsimp only <;> omega)).symm
  · rw [heads1_apply, tileAt_spin x C Sn w R _ _ (by dsimp only <;> omega) (by dsimp only <;> omega)]
    refine spin_congr C Sn R (fun i => ?_) (by dsimp only <;> omega)
    have hi := i.isLt
    refine Eq.trans ?_ (hP _ i ⟨5120 + (128 * ((k.val - 2048 - 2048 - 512 - 512) / 128) + i.val), by omega⟩ (by dsimp only <;> omega)).symm
    pointwise
  · unfold tileAt
    rw [if_pos (by dsimp only <;> omega), hP _ _ ⟨5248 + (k.val - 2048 - 2048 - 512 - 512 - 128), by omega⟩ (by dsimp only <;> omega)]
  · unfold tileAt
    rw [if_pos (by dsimp only <;> omega), product_pad x w R _ _ (by dsimp only <;> omega), zero_mul]

/-- From equal arguments the reference leaves the kernel's result, and its arguments as they were. -/
theorem run_eq (m : (ℓ : Loc Cert.DsaInIdeal.nD Cert.DsaInIdeal.τ Cert.DsaInIdeal.sig) → Buf (Elt Ideal) ℓ)
    (m' : (ℓ : Loc nD τ sig) → Buf (Elt Ideal) ℓ) (g' : Dev nD → PrngReg)
    (h0 : ∀ c : Dev Cert.DsaInReferenceIdeal.nD, m' ((c.tc : Thread nD τ).loc main_arg0) = Cert.DsaInIdeal.Val.xA m c)
    (h1 : ∀ c : Dev Cert.DsaInReferenceIdeal.nD, m' ((c.tc : Thread nD τ).loc main_arg1) = Cert.DsaInIdeal.Val.pA m c)
    (h2 : ∀ c : Dev Cert.DsaInReferenceIdeal.nD, m' ((c.tc : Thread nD τ).loc main_arg2) = Cert.DsaInIdeal.Val.wA m c) :
    θ_run defs (onTc (τ := τ) (main (F := Ideal))) ⟨m', fun _ => 0, g'⟩ fun r => ∀ c : Dev nD,
      r.2.mem ((c.tc : Thread nD τ).loc main_v142) = Cert.DsaInIdeal.Value.G5 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun r hr c => ⟨(hr c).1.trans ?_, (hr c).2⟩) (Cert.DsaInReferenceIdeal.Value.run m' g')
  refine (ref_parts m' c _ _ _ (h0 c) (h1 c) (h2 c)).trans ?_
  funext i
  obtain ⟨R, k, rfl⟩ : ∃ (R : Fin 8704) (k : Fin 5376), i = ix2 R k := ⟨i 0, i 1, by funext a; fin_cases a <;> rfl⟩
  exact (meet _ _ _ _ R k).trans (Cert.DsaInIdeal.Val.result_apply m c R k).symm

end Cert.DsaInMeet

end
-- ==== Proof.MlaInValue.lean ====
/- The latent attention layer's input projection over the reals: the query latent and the key-value latent, each divided by its
   root mean square and scaled, and the shared key, rotated. -/
module

public import proofs.«01_k».proof.Proof.Gen.MlaInIdeal.Value
public import Idealize.ShloMosaic.Lib.Pointwise
public import Idealize.ShloMosaic.Lib.WritesUnit
public import Idealize.ShloMosaic.Lib.VecWindow
public import Idealize.ShloMosaic.Lib.Pipeline.ReadBack
public import Idealize.ShloMosaic.Lib.Pipeline.ValueKit
public import Idealize.ShloMosaic.Lib.IdealHost

@[expose] public section

set_option maxRecDepth 16384

noncomputable section

namespace Cert.MlaInIdeal.Val

open Idealize.ShloMosaic Idealize.ShloMosaic.TcCoe Idealize.ShloMosaic.Tactic
open Idealize.ShloMosaic.Pipeline (Dat Cfg Window)
open Cert.MlaInIdeal.Gen

/-! ## What a step stores -/

section Pieces

variable {F : FTy → Type} [FloatOps F]

/-- A load of a whole buffer reads what the buffer holds. -/
theorem load_whole {sh : Shape} {e : EltTy} {a : Memref sig .tc .vmem sh e} (h : a.IsWhole) (X : sh.Idx → Elt F e)
    {off : Fin sh.rank → ℕ} (inb : ∀ k, off k + sh.size k ≤ sh.size k) :
    View.readAt (Elt F) a.view (Rect.unit off sh.size inb).toLoadRect (h.unread X) = X :=
  (View.readAt_full a.view _ inb).trans (h.read_unread X)

/-- The key-value latent in the first 256 columns, the rotated key in the other 64. -/
def beside (p : FVec F S512x256 .f32) (q : FVec F S512x64 .f32) : Vec F S512x320 .f32 := fun y =>
  if h : (y (1 : Fin 2)).val < 256 then p (ix2 (y 0) ⟨(y (1 : Fin 2)).val, h⟩)
  else q (ix2 (y 0) ⟨(y (1 : Fin 2)).val - 256, by have h : (y (1 : Fin 2)).val < 320 := (y 1).isLt; omega⟩)

theorem read_beside {sp : Space} (v : View sig .tc sp S512x320 .f32) (b : v.ty.Contents (Elt F)) (i1 i0)
    (p : FVec F S512x256 .f32) (q : FVec F S512x64 .f32) :
    v.read (Elt F) (v.writes (Elt F) b
      [(⟨Rect.unit (s := S512x320) ![0, 256] S512x64.size i1, q⟩ : View.Piece (Elt F) S512x320 .f32),
       (⟨Rect.unit (s := S512x320) ![0, 0] S512x256.size i0, p⟩ : View.Piece (Elt F) S512x320 .f32)]) = beside p q := by
  funext y
  have hy : (y (1 : Fin 2)).val < 320 := (y 1).isLt
  unfold beside
  by_cases h : (y (1 : Fin 2)).val < 256
  · rw [dif_pos h]
    refine (View.read_writes_cons_unit_of_not_mem v b i1 q _ y rfl (1 : Fin 2) (Or.inl h)).trans ?_
    refine View.read_writes_cons_unit_of_mem v b i0 p [] y (ix2 (y 0) ⟨(y (1 : Fin 2)).val, h⟩) rfl ?_
    refine Fin.forall_fin_two.mpr ⟨?_, ?_⟩
    · show (y 0).val = 0 + (y 0).val
      omega
    · show (y (1 : Fin 2)).val = 0 + (y (1 : Fin 2)).val
      omega
  · rw [dif_neg h]
    refine View.read_writes_cons_unit_of_mem v b i1 q _ y (ix2 (y 0) ⟨(y (1 : Fin 2)).val - 256, by omega⟩) rfl ?_
    refine Fin.forall_fin_two.mpr ⟨?_, ?_⟩
    · show (y 0).val = 0 + (y 0).val
      omega
    · show (y (1 : Fin 2)).val = 256 + ((y (1 : Fin 2)).val - 256)
      omega

section Buffers

variable (c : Dev nD) (i : grid0.Coords)
  (arg1 : Memref sig .tc .vmem S512x2048 .f32) (harg1 : arg1.IsWhole)
  (arg2 : Memref sig .tc .vmem S2048x896 .bf16) (harg2 : arg2.IsWhole)
  (arg3 : Memref sig .tc .vmem S1x512 .f32) (harg3 : arg3.IsWhole)
  (arg4 : Memref sig .tc .vmem S1x256 .f32) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x512 .bf16) (harg8 : arg8.IsWhole)
  (arg9 : Memref sig .tc .vmem S512x320 .f32) (harg9 : arg9.IsWhole)

theorem out_q
    (x0 : Vec F S512x2048 .f32) (x1 : Vec F S2048x896 .bf16) (x2 : Vec F S1x512 .f32) (x3 : Vec F S1x256 .f32) (x4 x5 x6 : Vec F S512x128 .f32) :
    out0_A_7 c i arg1 harg1 arg2 harg2 arg3 harg3 arg4 harg4 arg5 harg5 arg6 harg6 arg7 harg7 arg8 harg8 arg9 harg9 x0 x1 x2 x3 x4 x5 x6 = k0_pay1 (k0_pay5 x0 x1 x2) := by
  have e0 := load_whole harg1 x0 inb_S512x2048_S512x2048_0_0
  have e1 := load_whole harg2 x1 inb_S2048x896_S2048x896_0_0
  have e2 := load_whole harg3 x2 inb_S1x512_S1x512_0_0
  unfold out0_A_7 kernelRun0_A
  dsimp only
  refine (View.read_writes_full ..).trans ?_
  exact congrArg k0_pay1 ((congrArg (fun z => k0_pay5 z _ _) e0).trans ((congrArg (fun z => k0_pay5 x0 z _) e1).trans (congrArg (fun z => k0_pay5 x0 x1 z) e2)))

theorem out_row
    (x0 : Vec F S512x2048 .f32) (x1 : Vec F S2048x896 .bf16) (x2 : Vec F S1x512 .f32) (x3 : Vec F S1x256 .f32) (x4 x5 x6 : Vec F S512x128 .f32) :
    out0_A_8 c i arg1 harg1 arg2 harg2 arg3 harg3 arg4 harg4 arg5 harg5 arg6 harg6 arg7 harg7 arg8 harg8 arg9 harg9 x0 x1 x2 x3 x4 x5 x6
      = beside (k0_pay6 x0 x1 x3) (k0_pay2 (k0_pay4 x0 x1) x4 x5 x6) := by
  have e0 := load_whole harg1 x0 inb_S512x2048_S512x2048_0_0
  have e1 := load_whole harg2 x1 inb_S2048x896_S2048x896_0_0
  have e3 := load_whole harg4 x3 inb_S1x256_S1x256_0_0
  have e4 := load_whole harg5 x4 inb_S512x128_S512x128_0_0
  have e5 := load_whole harg6 x5 inb_S512x128_S512x128_0_0
  have e6 := load_whole harg7 x6 inb_S512x128_S512x128_0_0
  unfold out0_A_8 kernelRun0_A
  dsimp only
  refine (read_beside VO0_8 _ _ _ _ _).trans ?_
  have a1 := (congrArg (fun z => k0_pay6 z _ _) e0).trans ((congrArg (fun z => k0_pay6 x0 z _) e1).trans (congrArg (fun z => k0_pay6 x0 x1 z) e3))
  have a2 := (congrArg (fun z => k0_pay4 z _) e0).trans (congrArg (fun z => k0_pay4 x0 z) e1)
  have a3 := (congrArg (fun z => k0_pay7 z) e4).trans (shapeCast_self x4 shapeCasts_S512x128_S512x128)
  have a4 := (congrArg (fun z => k0_pay8 z) e5).trans (shapeCast_self x5 shapeCasts_S512x128_S512x128)
  exact congrArg₂ beside a1 ((congrArg (fun z => k0_pay2 z _ _ _) a2).trans ((congrArg (fun z => k0_pay2 (k0_pay4 x0 x1) z _ _) a3).trans
    ((congrArg (fun z => k0_pay2 (k0_pay4 x0 x1) x4 z _) a4).trans (congrArg (fun z => k0_pay2 (k0_pay4 x0 x1) x4 x5 z) e6))))

end Buffers

end Pieces

/-! ## One step at an index -/

/-- An element of a row divided by the row's root mean square, scaled: `d` holds the row's length. -/
def normed {n : ℕ} (d : EReal) (v g : Fin n → EReal) (k : Fin n) : EReal :=
  v k * Ideal.rsqrt (Ideal.div (∑ j, v j * v j) d + Ideal.ofBits .f32 0x358637BD#32) * g k

theorem product_apply (x : Vec Ideal S512x2048 .f32) (w : Vec Ideal S2048x896 .bf16) (r : Fin 512) (k : Fin 896) :
    k0_pay3 x w (ix2 r k) = ∑ f : Fin 2048, x (ix2 r f) * w (ix2 f k) := by
  pointwise [k0_pay3]

theorem pay5_apply (x : Vec Ideal S512x2048 .f32) (w : Vec Ideal S2048x896 .bf16) (g : Vec Ideal S1x512 .f32) (r : Fin 512) (k : Fin 512) :
    k0_pay1 (k0_pay5 x w g) (ix2 r k) = normed (Ideal.ofBits .f32 0x44000000#32) (fun j : Fin 512 => k0_pay3 x w (ix2 r ⟨j.val, by omega⟩)) (fun j => g (ix2 0 j)) k := by
  unfold normed k0_pay1 k0_pay5
  generalize k0_pay3 x w = H
  pointwise

theorem pay6_apply (x : Vec Ideal S512x2048 .f32) (w : Vec Ideal S2048x896 .bf16) (g : Vec Ideal S1x256 .f32) (r : Fin 512) (k : Fin 256) :
    k0_pay6 x w g (ix2 r k) = normed (Ideal.ofBits .f32 0x43800000#32) (fun j : Fin 256 => k0_pay3 x w (ix2 r ⟨512 + j.val, by omega⟩)) (fun j => g (ix2 0 j)) k := by
  unfold normed k0_pay6
  generalize k0_pay3 x w = H
  pointwise

theorem pay4_apply (x : Vec Ideal S512x2048 .f32) (w : Vec Ideal S2048x896 .bf16) (r : Fin 512) (l : Fin 128) :
    k0_pay4 x w (ix2 r l) = k0_pay3 x w (ix2 r ⟨768 + l.val, by omega⟩) := by
  unfold k0_pay4
  generalize k0_pay3 x w = H
  pointwise

theorem pay2_apply (x c sa sb : FVec Ideal S512x128 .f32) (r : Fin 512) (l : Fin 64) :
    k0_pay2 x c sa sb (ix2 r l) = x (ix2 r ⟨l.val, by omega⟩) * c (ix2 r ⟨l.val, by omega⟩) + x (ix2 r ⟨(l.val + 32) % 128, Nat.mod_lt _ (by decide)⟩) * sa (ix2 r ⟨l.val, by omega⟩)
      + x (ix2 r ⟨(l.val + 96) % 128, Nat.mod_lt _ (by decide)⟩) * sb (ix2 r ⟨l.val, by omega⟩) := by
  have h1 : l.val + 128 - 96 = l.val + 32 := by omega
  have h2 : l.val + 128 - 32 = l.val + 96 := by omega
  pointwise [k0_pay2]
  simp only [h1, h2]

/-! ## The host's arrays -/

variable (m : (ℓ : Loc nD τ sig) → Buf (Elt Ideal) ℓ)

/-- The arguments: the rows, their positions, the weights and the two scales. -/
def xA (c : Dev nD) : Vec Ideal S8704x2048 .f32 := m ((c : Thread nD τ).loc main_arg0)
def pA (c : Dev nD) : Vec Ideal S8704 .i32 := m ((c : Thread nD τ).loc main_arg1)
def wA (c : Dev nD) : Vec Ideal S2048x832 .f32 := m ((c : Thread nD τ).loc main_arg2)
def gA (c : Dev nD) : Vec Ideal S512 .f32 := m ((c : Thread nD τ).loc main_arg3)
def kA (c : Dev nD) : Vec Ideal S256 .f32 := m ((c : Thread nD τ).loc main_arg4)

/-- The angles, by row and frequency. -/
def angle (p : Vec Ideal S8704 .i32) : FVec Ideal S8704x32 .f32 :=
  mulf (broadcastInDim S8704x32 ![0, 1] bcast_S8704x1_S8704x32_0_1 (broadcastInDim S8704x1 ![0] bcast_S8704_S8704x1_0 (sitofp .f32 p : FVec Ideal S8704 .f32) : FVec Ideal S8704x1 .f32) : FVec Ideal S8704x32 .f32)
    (broadcastInDim S8704x32 ![0, 1] bcast_S1x32_S8704x32_0_1 (broadcastInDim S1x32 ![1] bcast_S32_S1x32_1
      (Host.powf (broadcastInDim S32 ![] bcast_S_S32 (constant S_ .f32 0x48F42400#32 : FVec Ideal S_ .f32) : FVec Ideal S32 .f32)
        (Host.divf (mulf (Host.negf (sitofp .f32 (iotaInDim S32 32 0) : FVec Ideal S32 .f32)) (broadcastInDim S32 ![] bcast_S_S32 (constant S_ .f32 0x40000000#32 : FVec Ideal S_ .f32)))
          (broadcastInDim S32 ![] bcast_S_S32 (constant S_ .f32 0x42800000#32 : FVec Ideal S_ .f32)))) : FVec Ideal S1x32 .f32) : FVec Ideal S8704x32 .f32)

/-- Their cosines and sines. -/
def cosA (p : Vec Ideal S8704 .i32) : FVec Ideal S8704x32 .f32 := Host.cos (angle p)
def sinA (p : Vec Ideal S8704 .i32) : FVec Ideal S8704x32 .f32 := Host.sin (angle p)

theorem host_c (c : Dev nD) : (V m c main_v19 : Vec Ideal S8704x128 .f32)
    = concatenate S8704x128 1 [⟨S8704x32, cosA (pA m c)⟩, ⟨S8704x32, cosA (pA m c)⟩,
        ⟨S8704x64, (broadcastInDim S8704x64 ![] bcast_S_S8704x64 (constant S_ .f32 0x3F800000#32 : FVec Ideal S_ .f32) : FVec Ideal S8704x64 .f32)⟩] concatenates_S8704x32_S8704x32_S8704x64_S8704x128_d1 := by
  unfold_abbrev_sides
  after_results
  rfl

theorem host_sa (c : Dev nD) : (V m c main_v22 : Vec Ideal S8704x128 .f32)
    = concatenate S8704x128 1 [⟨S8704x32, (Host.negf (sinA (pA m c)) : FVec Ideal S8704x32 .f32)⟩,
        ⟨S8704x96, (broadcastInDim S8704x96 ![] bcast_S_S8704x96 (constant S_ .f32 0x00000000#32 : FVec Ideal S_ .f32) : FVec Ideal S8704x96 .f32)⟩] concatenates_S8704x32_S8704x96_S8704x128_d1 := by
  unfold_abbrev_sides
  after_results
  rfl

theorem host_sb (c : Dev nD) : (V m c main_v25 : Vec Ideal S8704x128 .f32)
    = concatenate S8704x128 1 [⟨S8704x32, (broadcastInDim S8704x32 ![] bcast_S_S8704x32 (constant S_ .f32 0x00000000#32 : FVec Ideal S_ .f32) : FVec Ideal S8704x32 .f32)⟩, ⟨S8704x32, sinA (pA m c)⟩,
        ⟨S8704x64, (broadcastInDim S8704x64 ![] bcast_S_S8704x64 (constant S_ .f32 0x00000000#32 : FVec Ideal S_ .f32) : FVec Ideal S8704x64 .f32)⟩] concatenates_S8704x32_S8704x32_S8704x64_S8704x128_d1 := by
  unfold_abbrev_sides
  after_results
  rfl

theorem host_gq (c : Dev nD) : (V m c main_v26 : Vec Ideal S1x512 .f32) = shapeCast S1x512 (gA m c) shapeCasts_S512_S1x512 := by
  show StableHlo.after (List.flatten [hostOps0, hostOps0_1, hostOps0_2]) (fun b => m (c, b)) (Proc.tc.devRef main_v26) = _
  simp only [List.flatten_cons, List.flatten_nil, List.append_nil, List.cons_append, List.nil_append]
  after_results_simp
  rfl

theorem host_gkv (c : Dev nD) : (V m c main_v27 : Vec Ideal S1x256 .f32) = shapeCast S1x256 (kA m c) shapeCasts_S256_S1x256 := by
  show StableHlo.after (List.flatten [hostOps0, hostOps0_1, hostOps0_2]) (fun b => m (c, b)) (Proc.tc.devRef main_v27) = _
  simp only [List.flatten_cons, List.flatten_nil, List.append_nil, List.cons_append, List.nil_append]
  after_results_simp
  rfl

theorem host_w (c : Dev nD) : (V m c main_v1 : Vec Ideal S2048x896 .bf16)
    = (truncf .bf16 (pad S2048x896 ![0, 0] ![0, 64] ![0, 0] (wA m c) (sitofp .f32 (constantI S_ 32 0#32) : FVec Ideal S_ .f32) pads_S2048x832_S2048x896_000_0640 h_S_ : FVec Ideal S2048x896 .f32) bitsLt_bf16_f32 : FVec Ideal S2048x896 .bf16) := by
  show StableHlo.after (List.flatten [hostOps0, hostOps0_1, hostOps0_2]) (fun b => m (c, b)) (Proc.tc.devRef main_v1) = _
  simp only [List.flatten_cons, List.flatten_nil, List.append_nil, List.cons_append, List.nil_append]
  after_results_simp
  rfl

/-- The tables, by row and lane, over the 64 lanes the rotation covers. -/
def cT (C : FVec Ideal S8704x32 .f32) (R : Fin 8704) (l : Fin 64) : EReal :=
  if h : l.val < 32 then C (ix2 R ⟨l.val, h⟩) else C (ix2 R ⟨l.val - 32, by omega⟩)
def aT (Sn : FVec Ideal S8704x32 .f32) (R : Fin 8704) (l : Fin 64) : EReal :=
  if h : l.val < 32 then -Sn (ix2 R ⟨l.val, h⟩) else 0
def bT (Sn : FVec Ideal S8704x32 .f32) (R : Fin 8704) (l : Fin 64) : EReal :=
  if h : l.val < 32 then 0 else Sn (ix2 R ⟨l.val - 32, by omega⟩)

theorem c_apply (c : Dev nD) (R : Fin 8704) (l : Fin 64) : (V m c main_v19 : Vec Ideal S8704x128 .f32) (ix2 R ⟨l.val, by omega⟩) = cT (cosA (pA m c)) R l := by
  refine (congrFun (host_c m c) (ix2 R ⟨l.val, by omega⟩)).trans ?_
  have hl := l.isLt
  unfold cT
  generalize cosA (pA m c) = C
  pointwise
  split_ifs <;> first | rfl | (exfalso; omega)

theorem sa_apply (c : Dev nD) (R : Fin 8704) (l : Fin 64) : (V m c main_v22 : Vec Ideal S8704x128 .f32) (ix2 R ⟨l.val, by omega⟩) = aT (sinA (pA m c)) R l := by
  refine (congrFun (host_sa m c) (ix2 R ⟨l.val, by omega⟩)).trans ?_
  unfold aT
  generalize sinA (pA m c) = C
  pointwise

theorem sb_apply (c : Dev nD) (R : Fin 8704) (l : Fin 64) : (V m c main_v25 : Vec Ideal S8704x128 .f32) (ix2 R ⟨l.val, by omega⟩) = bT (sinA (pA m c)) R l := by
  refine (congrFun (host_sb m c) (ix2 R ⟨l.val, by omega⟩)).trans ?_
  have hl := l.isLt
  unfold bT
  generalize sinA (pA m c) = C
  pointwise
  split_ifs <;> first | rfl | (exfalso; omega)

theorem gq_apply (c : Dev nD) (r : Fin 1) (k : Fin 512) : (V m c main_v26 : Vec Ideal S1x512 .f32) (ix2 r k) = gA m c (ix1 k) := by
  refine (congrFun (host_gq m c) (ix2 r k)).trans ?_
  obtain rfl : r = 0 := Subsingleton.elim _ _
  generalize gA m c = g
  pointwise

theorem gkv_apply (c : Dev nD) (r : Fin 1) (k : Fin 256) : (V m c main_v27 : Vec Ideal S1x256 .f32) (ix2 r k) = kA m c (ix1 k) := by
  refine (congrFun (host_gkv m c) (ix2 r k)).trans ?_
  obtain rfl : r = 0 := Subsingleton.elim _ _
  generalize kA m c = g
  pointwise

/-- The weights, with zeros up to a whole tile. -/
def wRe (w : Vec Ideal S2048x832 .f32) (f : Fin 2048) (k : Fin 896) : EReal :=
  if h : k.val < 832 then w (ix2 f ⟨k.val, h⟩) else 0

theorem int_zero : (FloatOps.sitofp FTy.f32 0#32 : Ideal .f32) = (0 : EReal) := by
  show (((0#32 : BitVec 32).toInt : ℝ) : EReal) = 0
  simp

theorem w_columns (c : Dev nD) (f : Fin 2048) (k : Fin 896) : (V m c main_v1 : Vec Ideal S2048x896 .bf16) (ix2 f k) = wRe (wA m c) f k := by
  refine (congrFun (host_w m c) (ix2 f k)).trans ?_
  have hk := k.isLt
  unfold wRe
  generalize wA m c = w
  pointwise
  repeat' split
  all_goals first
    | (exfalso; omega)
    | exact int_zero
    | exact congrArg w (congrArg (ix2 f) (Fin.ext (by dsimp only <;> omega)))

/-! ## The blocks a step is given -/

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = 0 ∧ (cfg0.win 2).index t 1 = 0 := by decide +kernel
theorem index_3 : ∀ t : Fin cfg0.N, (cfg0.win 3).index t 0 = 0 ∧ (cfg0.win 3).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = t.val ∧ (cfg0.win 8).index t 1 = 0 := by decide +kernel

/-- The row of the argument that row `r` of the block at step `n` is. -/
def row (n : ℕ) (h : n < cfg0.N) (r : Fin 512) : Fin 8704 :=
  ⟨512 * n + r.val, by have := Nat.lt_of_lt_of_eq h N_0; have := r.isLt; omega⟩

theorem x_block (c : Dev nD) (t : Fin cfg0.N) (r : Fin 512) (k : Fin 2048) :
    (iblk m c 0 t : Vec Ideal S512x2048 .f32) (ix2 r k) = xA m c (ix2 (row t.val t.isLt r) k) := by
  refine (congrArg (V m c main_arg0 : Vec Ideal S8704x2048 .f32) (funext fun a => Fin.ext ?_)).trans (congrFun (V_main_arg0 m c) _)
  fin_cases a
  · refine ((cfg0.win 0).rect_emb_val t (ix2 r k) 0).trans ?_
    rw [(index_0 t).1]
    show t.val * 512 + r.val = 512 * t.val + r.val
    omega
  · refine ((cfg0.win 0).rect_emb_val t (ix2 r k) 1).trans ?_
    rw [(index_0 t).2]
    show 0 * 2048 + k.val = k.val
    omega

theorem w_block (c : Dev nD) (t : Fin cfg0.N) (r : Fin 2048) (k : Fin 896) :
    (iblk m c 1 t : Vec Ideal S2048x896 .bf16) (ix2 r k) = wRe (wA m c) r k := by
  refine (congrArg (V m c main_v1 : Vec Ideal S2048x896 .bf16) (funext fun a => Fin.ext ?_)).trans (w_columns m c r k)
  fin_cases a
  · refine ((cfg0.win 1).rect_emb_val t (ix2 r k) 0).trans ?_
    rw [(index_1 t).1]
    show 0 * 2048 + r.val = r.val
    omega
  · refine ((cfg0.win 1).rect_emb_val t (ix2 r k) 1).trans ?_
    rw [(index_1 t).2]
    show 0 * 896 + k.val = k.val
    omega

theorem gq_block (c : Dev nD) (t : Fin cfg0.N) (r : Fin 1) (k : Fin 512) :
    (iblk m c 2 t : Vec Ideal S1x512 .f32) (ix2 r k) = gA m c (ix1 k) := by
  refine (congrArg (V m c main_v26 : Vec Ideal S1x512 .f32) (funext fun a => Fin.ext ?_)).trans (gq_apply m c r k)
  fin_cases a
  · refine ((cfg0.win 2).rect_emb_val t (ix2 r k) 0).trans ?_
    rw [(index_2 t).1]
    show 0 * 1 + r.val = r.val
    omega
  · refine ((cfg0.win 2).rect_emb_val t (ix2 r k) 1).trans ?_
    rw [(index_2 t).2]
    show 0 * 512 + k.val = k.val
    omega

theorem gkv_block (c : Dev nD) (t : Fin cfg0.N) (r : Fin 1) (k : Fin 256) :
    (iblk m c 3 t : Vec Ideal S1x256 .f32) (ix2 r k) = kA m c (ix1 k) := by
  refine (congrArg (V m c main_v27 : Vec Ideal S1x256 .f32) (funext fun a => Fin.ext ?_)).trans (gkv_apply m c r k)
  fin_cases a
  · refine ((cfg0.win 3).rect_emb_val t (ix2 r k) 0).trans ?_
    rw [(index_3 t).1]
    show 0 * 1 + r.val = r.val
    omega
  · refine ((cfg0.win 3).rect_emb_val t (ix2 r k) 1).trans ?_
    rw [(index_3 t).2]
    show 0 * 256 + k.val = k.val
    omega

theorem c_block (c : Dev nD) (t : Fin cfg0.N) (r : Fin 512) (l : Fin 64) :
    (iblk m c 4 t : Vec Ideal S512x128 .f32) (ix2 r ⟨l.val, by omega⟩) = cT (cosA (pA m c)) (row t.val t.isLt r) l := by
  refine (congrArg (V m c main_v19 : Vec Ideal S8704x128 .f32) (funext fun a => Fin.ext ?_)).trans (c_apply m c (row t.val t.isLt r) l)
  fin_cases a
  · refine ((cfg0.win 4).rect_emb_val t (ix2 r ⟨l.val, by omega⟩) 0).trans ?_
    rw [(index_4 t).1]
    show t.val * 512 + r.val = 512 * t.val + r.val
    omega
  · refine ((cfg0.win 4).rect_emb_val t (ix2 r ⟨l.val, by omega⟩) 1).trans ?_
    rw [(index_4 t).2]
    show 0 * 128 + l.val = l.val
    omega

theorem sa_block (c : Dev nD) (t : Fin cfg0.N) (r : Fin 512) (l : Fin 64) :
    (iblk m c 5 t : Vec Ideal S512x128 .f32) (ix2 r ⟨l.val, by omega⟩) = aT (sinA (pA m c)) (row t.val t.isLt r) l := by
  refine (congrArg (V m c main_v22 : Vec Ideal S8704x128 .f32) (funext fun a => Fin.ext ?_)).trans (sa_apply m c (row t.val t.isLt r) l)
  fin_cases a
  · refine ((cfg0.win 5).rect_emb_val t (ix2 r ⟨l.val, by omega⟩) 0).trans ?_
    rw [(index_5 t).1]
    show t.val * 512 + r.val = 512 * t.val + r.val
    omega
  · refine ((cfg0.win 5).rect_emb_val t (ix2 r ⟨l.val, by omega⟩) 1).trans ?_
    rw [(index_5 t).2]
    show 0 * 128 + l.val = l.val
    omega

theorem sb_block (c : Dev nD) (t : Fin cfg0.N) (r : Fin 512) (l : Fin 64) :
    (iblk m c 6 t : Vec Ideal S512x128 .f32) (ix2 r ⟨l.val, by omega⟩) = bT (sinA (pA m c)) (row t.val t.isLt r) l := by
  refine (congrArg (V m c main_v25 : Vec Ideal S8704x128 .f32) (funext fun a => Fin.ext ?_)).trans (sb_apply m c (row t.val t.isLt r) l)
  fin_cases a
  · refine ((cfg0.win 6).rect_emb_val t (ix2 r ⟨l.val, by omega⟩) 0).trans ?_
    rw [(index_6 t).1]
    show t.val * 512 + r.val = 512 * t.val + r.val
    omega
  · refine ((cfg0.win 6).rect_emb_val t (ix2 r ⟨l.val, by omega⟩) 1).trans ?_
    rw [(index_6 t).2]
    show 0 * 128 + l.val = l.val
    omega

/-! ## The results -/

/-- The product at row `R` and column `k`. -/
def product (x : Vec Ideal S8704x2048 .f32) (w : Vec Ideal S2048x832 .f32) (R : Fin 8704) (k : Fin 896) : EReal :=
  ∑ f : Fin 2048, x (ix2 R f) * wRe w f k

def qAt (x : Vec Ideal S8704x2048 .f32) (w : Vec Ideal S2048x832 .f32) (g : Vec Ideal S512 .f32) (R : Fin 8704) (k : Fin 512) : EReal :=
  normed (Ideal.ofBits .f32 0x44000000#32) (fun j : Fin 512 => product x w R ⟨j.val, by omega⟩) (fun j => g (ix1 j)) k

def kvAt (x : Vec Ideal S8704x2048 .f32) (w : Vec Ideal S2048x832 .f32) (g : Vec Ideal S256 .f32) (R : Fin 8704) (k : Fin 256) : EReal :=
  normed (Ideal.ofBits .f32 0x43800000#32) (fun j : Fin 256 => product x w R ⟨512 + j.val, by omega⟩) (fun j => g (ix1 j)) k

def keyAt (x : Vec Ideal S8704x2048 .f32) (w : Vec Ideal S2048x832 .f32) (C Sn : FVec Ideal S8704x32 .f32) (R : Fin 8704) (l : Fin 64) : EReal :=
  product x w R ⟨768 + l.val, by omega⟩ * cT C R l + product x w R ⟨768 + (l.val + 32) % 128, by omega⟩ * aT Sn R l
    + product x w R ⟨768 + (l.val + 96) % 128, by omega⟩ * bT Sn R l

def rowAt (x : Vec Ideal S8704x2048 .f32) (w : Vec Ideal S2048x832 .f32) (g : Vec Ideal S256 .f32) (C Sn : FVec Ideal S8704x32 .f32) (R : Fin 8704) (k : Fin 320) : EReal :=
  if h : k.val < 256 then kvAt x w g R ⟨k.val, h⟩ else keyAt x w C Sn R ⟨k.val - 256, by omega⟩

theorem step_product (c : Dev nD) (t : Fin cfg0.N) (r : Fin 512) (k : Fin 896) :
    k0_pay3 (F := Ideal) (iblk m c 0 t : Vec Ideal S512x2048 .f32) (iblk m c 1 t : Vec Ideal S2048x896 .bf16) (ix2 r k)
      = product (xA m c) (wA m c) (row t.val t.isLt r) k :=
  (product_apply _ _ r k).trans (Finset.sum_congr rfl fun f _ => congrArg₂ (· * ·) (x_block m c t r f) (w_block m c t f k))

theorem normed_congr {n : ℕ} (d : EReal) {v v' g g' : Fin n → EReal} (k : Fin n) (hv : ∀ j, v j = v' j) (hg : ∀ j, g j = g' j) :
    normed d v g k = normed d v' g' k := by
  rw [funext hv, funext hg]

section Steps

variable {F : FTy → Type} [FloatOps F] (m : (ℓ : Loc nD τ sig) → Buf (Elt F) ℓ)

theorem at_q (c : Dev nD) (t : Fin cfg0.N) :
    (outsAt0 m c t).1 = k0_pay1 (F := F) (k0_pay5 (iblk m c 0 t : Vec F S512x2048 .f32) (iblk m c 1 t : Vec F S2048x896 .bf16) (iblk m c 2 t : Vec F S1x512 .f32)) := by
  unfold outsAt0
  dsimp only
  exact out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)

theorem at_row (c : Dev nD) (t : Fin cfg0.N) :
    (outsAt0 m c t).2 = beside (F := F) (k0_pay6 (iblk m c 0 t : Vec F S512x2048 .f32) (iblk m c 1 t : Vec F S2048x896 .bf16) (iblk m c 3 t : Vec F S1x256 .f32))
      (k0_pay2 (k0_pay4 (iblk m c 0 t : Vec F S512x2048 .f32) (iblk m c 1 t : Vec F S2048x896 .bf16)) (iblk m c 4 t : Vec F S512x128 .f32) (iblk m c 5 t : Vec F S512x128 .f32) (iblk m c 6 t : Vec F S512x128 .f32)) := by
  unfold outsAt0
  dsimp only
  exact out_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)

end Steps

theorem written_q (c : Dev nD) (t : Fin cfg0.N) (r : Fin 512) (k : Fin 512) :
    (outsAt0 m c t).1 (ix2 r k) = qAt (xA m c) (wA m c) (gA m c) (row t.val t.isLt r) k := by
  refine (congrFun (at_q m c t) (ix2 r k)).trans ?_
  refine (pay5_apply (iblk m c 0 t : Vec Ideal S512x2048 .f32) (iblk m c 1 t : Vec Ideal S2048x896 .bf16) (iblk m c 2 t : Vec Ideal S1x512 .f32) r k).trans ?_
  exact normed_congr _ k (fun j => step_product m c t r _) (fun j => gq_block m c t 0 j)

theorem written_row (c : Dev nD) (t : Fin cfg0.N) (r : Fin 512) (k : Fin 320) :
    (outsAt0 m c t).2 (ix2 r k) = rowAt (xA m c) (wA m c) (kA m c) (cosA (pA m c)) (sinA (pA m c)) (row t.val t.isLt r) k := by
  refine (congrFun (at_row m c t) (ix2 r k)).trans ?_
  unfold beside rowAt
  by_cases h : k.val < 256
  · rw [dif_pos h]
    refine (dif_pos h).trans ((pay6_apply (iblk m c 0 t : Vec Ideal S512x2048 .f32) (iblk m c 1 t : Vec Ideal S2048x896 .bf16) (iblk m c 3 t : Vec Ideal S1x256 .f32) r ⟨k.val, h⟩).trans ?_)
    exact normed_congr _ _ (fun j => step_product m c t r _) (fun j => gkv_block m c t 0 j)
  · rw [dif_neg h]
    refine (dif_neg h).trans ((pay2_apply (k0_pay4 (iblk m c 0 t : Vec Ideal S512x2048 .f32) (iblk m c 1 t : Vec Ideal S2048x896 .bf16)) (iblk m c 4 t : Vec Ideal S512x128 .f32) (iblk m c 5 t : Vec Ideal S512x128 .f32) (iblk m c 6 t : Vec Ideal S512x128 .f32) r ⟨k.val - 256, by omega⟩).trans ?_)
    unfold keyAt
    rw [c_block, sa_block, sb_block, pay4_apply, pay4_apply, pay4_apply, step_product, step_product, step_product]

theorem flushes_q : ∀ t : Fin cfg0.N, (cfg0.win 7).flush t = true := by decide +kernel
theorem flushes_row : ∀ t : Fin cfg0.N, (cfg0.win 8).flush t = true := by decide +kernel

/-- The step that writes row `R`. -/
def stepOf (R : Fin 8704) : Fin cfg0.N := ⟨R.val / 512, Nat.lt_of_lt_of_eq (by have := R.isLt; omega) N_0.symm⟩

theorem row_stepOf (R : Fin 8704) : row (stepOf R).val (stepOf R).isLt ⟨R.val % 512, Nat.mod_lt _ (by decide)⟩ = R := Fin.ext (by
  show 512 * (R.val / 512) + R.val % 512 = R.val
  omega)

theorem result_q (c : Dev nD) (R : Fin 8704) (k : Fin 512) :
    ((dats m 0 c).arrAt 7 cfg0.N : Vec Ideal S8704x512 .bf16) (ix2 R k) = qAt (xA m c) (wA m c) (gA m c) R k := by
  have hb := (Cert.MlaInIdeal.Value.blocks7 m c (stepOf R) (flushes_q _)).trans (Cert.MlaInIdeal.Value.flushed7 m c (stepOf R))
  have hc := congrFun hb (ix2 (⟨R.val % 512, Nat.mod_lt _ (by decide)⟩ : Fin 512) k)
  have hw := written_q m c (stepOf R) ⟨R.val % 512, Nat.mod_lt _ (by decide)⟩ k
  rw [row_stepOf] at hw
  refine Eq.trans ?_ (hc.trans hw)
  refine congrArg ((dats m 0 c).arrAt 7 cfg0.N : Vec Ideal S8704x512 .bf16) (funext fun a => Fin.ext (Eq.symm ?_))
  fin_cases a
  · refine ((cfg0.win 7).rect_emb_val (stepOf R) (ix2 (⟨R.val % 512, Nat.mod_lt _ (by decide)⟩ : Fin 512) k) 0).trans ?_
    rw [(index_7 _).1]
    show R.val / 512 * 512 + R.val % 512 = R.val
    omega
  · refine ((cfg0.win 7).rect_emb_val (stepOf R) (ix2 (⟨R.val % 512, Nat.mod_lt _ (by decide)⟩ : Fin 512) k) 1).trans ?_
    rw [(index_7 _).2]
    show 0 * 512 + k.val = k.val
    omega

theorem result_row (c : Dev nD) (R : Fin 8704) (k : Fin 320) :
    ((dats m 0 c).arrAt 8 cfg0.N : Vec Ideal S8704x320 .f32) (ix2 R k) = rowAt (xA m c) (wA m c) (kA m c) (cosA (pA m c)) (sinA (pA m c)) R k := by
  have hb := (Cert.MlaInIdeal.Value.blocks8 m c (stepOf R) (flushes_row _)).trans (Cert.MlaInIdeal.Value.flushed8 m c (stepOf R))
  have hc := congrFun hb (ix2 (⟨R.val % 512, Nat.mod_lt _ (by decide)⟩ : Fin 512) k)
  have hw := written_row m c (stepOf R) ⟨R.val % 512, Nat.mod_lt _ (by decide)⟩ k
  rw [row_stepOf] at hw
  refine Eq.trans ?_ (hc.trans hw)
  refine congrArg ((dats m 0 c).arrAt 8 cfg0.N : Vec Ideal S8704x320 .f32) (funext fun a => Fin.ext (Eq.symm ?_))
  fin_cases a
  · refine ((cfg0.win 8).rect_emb_val (stepOf R) (ix2 (⟨R.val % 512, Nat.mod_lt _ (by decide)⟩ : Fin 512) k) 0).trans ?_
    rw [(index_8 _).1]
    show R.val / 512 * 512 + R.val % 512 = R.val
    omega
  · refine ((cfg0.win 8).rect_emb_val (stepOf R) (ix2 (⟨R.val % 512, Nat.mod_lt _ (by decide)⟩ : Fin 512) k) 1).trans ?_
    rw [(index_8 _).2]
    show 0 * 320 + k.val = k.val
    omega

end Cert.MlaInIdeal.Val

end
-- ==== Proof.MlaInMeet.lean ====
/- The latent attention layer's input projection and its reference meet: two normed latents and a rotated key. -/
module

public import proofs.«01_k».proof.Proof.MlaInValue
public import proofs.«01_k».proof.Proof.Gen.MlaInReferenceIdeal.Run

@[expose] public section

set_option maxRecDepth 16384

noncomputable section

namespace Cert.MlaInMeet

open Idealize.ShloMosaic Idealize.ShloMosaic.TcCoe Idealize.ShloMosaic.Tactic Idealize.SL.Sem
open Cert.MlaInReferenceIdeal Cert.MlaInReferenceIdeal.Gen
open Cert.MlaInIdeal.Val (normed)

/-! ## The reference, from its product -/

def refQ (H : FVec Ideal S8704x832 .f32) (g : FVec Ideal S512 .f32) : FVec Ideal S8704x512 .bf16 :=
  truncf .bf16 (mulf (mulf (extractStridedSlice S8704x512 ![0, 0] H slices_S8704x832_S8704x512_0_0 : FVec Ideal S8704x512 .f32)
      (broadcastInDim S8704x512 ![0, 1] bcast_S8704x1_S8704x512_0_1 (Host.rsqrt (addf (Host.divf (broadcastInDim S8704x1 ![0] bcast_S8704_S8704x1_0
        (Host.reduceAdd (mulf (extractStridedSlice S8704x512 ![0, 0] H slices_S8704x832_S8704x512_0_0 : FVec Ideal S8704x512 .f32) (extractStridedSlice S8704x512 ![0, 0] H slices_S8704x832_S8704x512_0_0 : FVec Ideal S8704x512 .f32)) (constant S_ .f32 0x00000000#32 : FVec Ideal S_ .f32) reducesTo_S8704x512_S8704_d1 h_S_ : FVec Ideal S8704 .f32) : FVec Ideal S8704x1 .f32)
          (broadcastInDim S8704x1 ![] bcast_S_S8704x1 (constant S_ .f32 0x44000000#32 : FVec Ideal S_ .f32)))
        (broadcastInDim S8704x1 ![] bcast_S_S8704x1 (constant S_ .f32 0x358637BD#32 : FVec Ideal S_ .f32))) : FVec Ideal S8704x1 .f32) : FVec Ideal S8704x512 .f32))
      (broadcastInDim S8704x512 ![0, 1] bcast_S1x512_S8704x512_0_1 (broadcastInDim S1x512 ![1] bcast_S512_S1x512_1 g : FVec Ideal S1x512 .f32) : FVec Ideal S8704x512 .f32) : FVec Ideal S8704x512 .f32) bitsLt_bf16_f32

def refKv (H : FVec Ideal S8704x832 .f32) (g : FVec Ideal S256 .f32) : FVec Ideal S8704x256 .f32 :=
  mulf (mulf (extractStridedSlice S8704x256 ![0, 512] H slices_S8704x832_S8704x256_0_512 : FVec Ideal S8704x256 .f32)
      (broadcastInDim S8704x256 ![0, 1] bcast_S8704x1_S8704x256_0_1 (Host.rsqrt (addf (Host.divf (broadcastInDim S8704x1 ![0] bcast_S8704_S8704x1_0
        (Host.reduceAdd (mulf (extractStridedSlice S8704x256 ![0, 512] H slices_S8704x832_S8704x256_0_512 : FVec Ideal S8704x256 .f32) (extractStridedSlice S8704x256 ![0, 512] H slices_S8704x832_S8704x256_0_512 : FVec Ideal S8704x256 .f32)) (constant S_ .f32 0x00000000#32 : FVec Ideal S_ .f32) reducesTo_S8704x256_S8704_d1 h_S_ : FVec Ideal S8704 .f32) : FVec Ideal S8704x1 .f32)
          (broadcastInDim S8704x1 ![] bcast_S_S8704x1 (constant S_ .f32 0x43800000#32 : FVec Ideal S_ .f32)))
        (broadcastInDim S8704x1 ![] bcast_S_S8704x1 (constant S_ .f32 0x358637BD#32 : FVec Ideal S_ .f32))) : FVec Ideal S8704x1 .f32) : FVec Ideal S8704x256 .f32))
      (broadcastInDim S8704x256 ![0, 1] bcast_S1x256_S8704x256_0_1 (broadcastInDim S1x256 ![1] bcast_S256_S1x256_1 g : FVec Ideal S1x256 .f32) : FVec Ideal S8704x256 .f32)

/-- The rotation of one head of 64 lanes, in pairs 32 apart. -/
def rope (x : FVec Ideal S8704x1x64 .f32) (C Sn : FVec Ideal S8704x32 .f32) : FVec Ideal S8704x1x64 .f32 :=
  concatenate S8704x1x64 2
    [⟨S8704x1x32, (subf (mulf (extractStridedSlice S8704x1x32 ![0, 0, 0] x slices_S8704x1x64_S8704x1x32_0_0_0 : FVec Ideal S8704x1x32 .f32) (broadcastInDim S8704x1x32 ![0, 2] bcast_S8704x32_S8704x1x32_0_2 C : FVec Ideal S8704x1x32 .f32)) (mulf (extractStridedSlice S8704x1x32 ![0, 0, 32] x slices_S8704x1x64_S8704x1x32_0_0_32 : FVec Ideal S8704x1x32 .f32) (broadcastInDim S8704x1x32 ![0, 2] bcast_S8704x32_S8704x1x32_0_2 Sn : FVec Ideal S8704x1x32 .f32)) : FVec Ideal S8704x1x32 .f32)⟩,
     ⟨S8704x1x32, (addf (mulf (extractStridedSlice S8704x1x32 ![0, 0, 32] x slices_S8704x1x64_S8704x1x32_0_0_32 : FVec Ideal S8704x1x32 .f32) (broadcastInDim S8704x1x32 ![0, 2] bcast_S8704x32_S8704x1x32_0_2 C : FVec Ideal S8704x1x32 .f32)) (mulf (extractStridedSlice S8704x1x32 ![0, 0, 0] x slices_S8704x1x64_S8704x1x32_0_0_0 : FVec Ideal S8704x1x32 .f32) (broadcastInDim S8704x1x32 ![0, 2] bcast_S8704x32_S8704x1x32_0_2 Sn : FVec Ideal S8704x1x32 .f32)) : FVec Ideal S8704x1x32 .f32)⟩,
     ⟨S8704x1x0, (extractStridedSlice S8704x1x0 ![0, 0, 64] x slices_S8704x1x64_S8704x1x0_0_0_64 : FVec Ideal S8704x1x0 .f32)⟩] concatenates_S8704x1x32_S8704x1x32_S8704x1x0_S8704x1x64_d2

def key (H : FVec Ideal S8704x832 .f32) (C Sn : FVec Ideal S8704x32 .f32) : FVec Ideal S8704x64 .f32 :=
  shapeCast S8704x64 (rope (broadcastInDim S8704x1x64 ![0, 2] bcast_S8704x64_S8704x1x64_0_2 (extractStridedSlice S8704x64 ![0, 768] H slices_S8704x832_S8704x64_0_768 : FVec Ideal S8704x64 .f32)) C Sn) shapeCasts_S8704x1x64_S8704x64

def refRow (H : FVec Ideal S8704x832 .f32) (g : FVec Ideal S256 .f32) (C Sn : FVec Ideal S8704x32 .f32) : FVec Ideal S8704x320 .f32 :=
  concatenate S8704x320 1 [⟨S8704x256, refKv H g⟩, ⟨S8704x64, key H C Sn⟩] concatenates_S8704x256_S8704x64_S8704x320_d1

theorem refQ_apply (H : FVec Ideal S8704x832 .f32) (g : FVec Ideal S512 .f32) (R : Fin 8704) (k : Fin 512) :
    refQ H g (ix2 R k) = normed (Ideal.ofBits .f32 0x44000000#32) (fun j : Fin 512 => H (ix2 R ⟨j.val, by omega⟩)) (fun j => g (ix1 j)) k := by
  unfold normed
  pointwise [refQ]

theorem refKv_apply (H : FVec Ideal S8704x832 .f32) (g : FVec Ideal S256 .f32) (R : Fin 8704) (k : Fin 256) :
    refKv H g (ix2 R k) = normed (Ideal.ofBits .f32 0x43800000#32) (fun j : Fin 256 => H (ix2 R ⟨512 + j.val, by omega⟩)) (fun j => g (ix1 j)) k := by
  unfold normed
  pointwise [refKv]

/-- Lane `l` of a rotated row of 64 lanes. -/
def spin (X : Fin 64 → EReal) (C Sn : FVec Ideal S8704x32 .f32) (R : Fin 8704) (l : Fin 64) : EReal :=
  if h : l.val < 32 then X ⟨l.val, by omega⟩ * C (ix2 R ⟨l.val, h⟩) - X ⟨32 + l.val, by omega⟩ * Sn (ix2 R ⟨l.val, h⟩)
  else X ⟨l.val, by omega⟩ * C (ix2 R ⟨l.val - 32, by omega⟩) + X ⟨l.val - 32, by omega⟩ * Sn (ix2 R ⟨l.val - 32, by omega⟩)

theorem rope_apply (x : FVec Ideal S8704x1x64 .f32) (C Sn : FVec Ideal S8704x32 .f32) (R : Fin 8704) (l : Fin 64) :
    rope x C Sn (ix3 R 0 l) = spin (fun l => x (ix3 R 0 l)) C Sn R l := by
  have hl := l.isLt
  unfold spin
  pointwise [rope]
  split_ifs with a b
  all_goals first
    | rfl
    | (exfalso; omega)
    | exact congrArg (fun z => x (ix3 R 0 z) * C (ix2 R ⟨l.val - 32, by omega⟩) + x (ix3 R 0 ⟨l.val - 32, by omega⟩) * Sn (ix2 R ⟨l.val - 32, by omega⟩))
        (Fin.ext (by dsimp only <;> omega) : (⟨32 + (l.val - 32), by omega⟩ : Fin 64) = l)

theorem key_apply (H : FVec Ideal S8704x832 .f32) (C Sn : FVec Ideal S8704x32 .f32) (R : Fin 8704) (l : Fin 64) :
    key H C Sn (ix2 R l) = spin (fun l => H (ix2 R ⟨768 + l.val, by omega⟩)) C Sn R l := by
  have e : ∀ z : FVec Ideal S8704x1x64 .f32, shapeCast S8704x64 z shapeCasts_S8704x1x64_S8704x64 (ix2 R l) = z (ix3 R 0 l) := fun z => by
    pointwise
  refine (e _).trans ((rope_apply _ C Sn R l).trans (congrArg (fun X => spin X C Sn R l) (funext fun j => ?_)))
  pointwise

theorem refRow_apply (H : FVec Ideal S8704x832 .f32) (g : FVec Ideal S256 .f32) (C Sn : FVec Ideal S8704x32 .f32) (R : Fin 8704) (k : Fin 320) :
    refRow H g C Sn (ix2 R k) = if h : k.val < 256 then refKv H g (ix2 R ⟨k.val, h⟩) else key H C Sn (ix2 R ⟨k.val - 256, by omega⟩) := by
  unfold refRow
  generalize refKv H g = a
  generalize key H C Sn = b
  pointwise

theorem ref_row (m : (ℓ : Loc nD τ sig) → Buf (Elt Ideal) ℓ) (c : Dev nD) (x : Vec Ideal S8704x2048 .f32) (p : Vec Ideal S8704 .i32) (w : Vec Ideal S2048x832 .f32) (g : Vec Ideal S256 .f32)
    (h0 : m ((c.tc : Thread nD τ).loc main_arg0) = x) (h1 : m ((c.tc : Thread nD τ).loc main_arg1) = p) (h2 : m ((c.tc : Thread nD τ).loc main_arg2) = w) (h4 : m ((c.tc : Thread nD τ).loc main_arg4) = g) :
    Cert.MlaInReferenceIdeal.Value.res_main_v61 m c = refRow (Host.dotGeneral (φ₁ := .f32) (φ₂ := .f32) dot_S8704x2048_S2048x832_S8704x832_1_0_0_1_n_n none x w) g (Cert.MlaInIdeal.Val.cosA p) (Cert.MlaInIdeal.Val.sinA p) := by
  unfold Cert.MlaInReferenceIdeal.Value.res_main_v61
  rw [h0, h1, h2, h4]
  rfl

/-! ## They meet -/

open Cert.MlaInIdeal.Val (product wRe qAt kvAt keyAt rowAt cT aT bT)

/-- Turning a row of lanes with the kernel's three tables is the rotation; the lanes past the 64th are multiplied by zeros. -/
theorem turn_spin (y : Fin 128 → EReal) (C Sn : FVec Ideal S8704x32 .f32) (R : Fin 8704) (l : Fin 64) :
    y ⟨l.val, by omega⟩ * cT C R l + y ⟨(l.val + 32) % 128, Nat.mod_lt _ (by decide)⟩ * aT Sn R l
      + y ⟨(l.val + 96) % 128, Nat.mod_lt _ (by decide)⟩ * bT Sn R l = spin (fun l => y ⟨l.val, by omega⟩) C Sn R l := by
  have hl := l.isLt
  unfold cT aT bT spin
  by_cases h : l.val < 32
  · rw [dif_pos h, dif_pos h, dif_pos h, dif_pos h, mul_zero, add_zero, mul_neg, sub_eq_add_neg]
    exact congrArg (fun b => y ⟨l.val, by omega⟩ * C (ix2 R ⟨l.val, h⟩) + -(y b * Sn (ix2 R ⟨l.val, h⟩))) (Fin.ext (by dsimp only <;> omega))
  · rw [dif_neg h, dif_neg h, dif_neg h, dif_neg h, mul_zero, add_zero]
    exact congrArg (fun b => y ⟨l.val, by omega⟩ * C (ix2 R ⟨l.val - 32, by omega⟩) + y b * Sn (ix2 R ⟨l.val - 32, by omega⟩)) (Fin.ext (by dsimp only <;> omega))

/-- A column of the kernel's product below the padding is the reference's. -/
theorem product_eq (x : Vec Ideal S8704x2048 .f32) (w : Vec Ideal S2048x832 .f32) (R : Fin 8704) (k : Fin 896) (h : k.val < 832) :
    (Host.dotGeneral (φ₁ := .f32) (φ₂ := .f32) dot_S8704x2048_S2048x832_S8704x832_1_0_0_1_n_n none x w : FVec Ideal S8704x832 .f32) (ix2 R ⟨k.val, h⟩) = product x w R k := by
  refine Eq.trans (b := ∑ f : Fin 2048, x (ix2 R f) * w (ix2 f ⟨k.val, h⟩)) ?_ (Finset.sum_congr rfl fun f _ => congrArg (x (ix2 R f) * ·) ?_)
  · pointwise
  · unfold wRe
    rw [dif_pos h]

theorem meet_q (x : Vec Ideal S8704x2048 .f32) (w : Vec Ideal S2048x832 .f32) (g : Vec Ideal S512 .f32) (R : Fin 8704) (k : Fin 512) :
    refQ (Host.dotGeneral (φ₁ := .f32) (φ₂ := .f32) dot_S8704x2048_S2048x832_S8704x832_1_0_0_1_n_n none x w) g (ix2 R k) = qAt x w g R k :=
  (refQ_apply _ g R k).trans (Cert.MlaInIdeal.Val.normed_congr _ k (fun j => product_eq x w R ⟨j.val, by omega⟩ (by dsimp only <;> omega)) (fun _ => rfl))

theorem meet_row (x : Vec Ideal S8704x2048 .f32) (w : Vec Ideal S2048x832 .f32) (g : Vec Ideal S256 .f32) (C Sn : FVec Ideal S8704x32 .f32) (R : Fin 8704) (k : Fin 320) :
    refRow (Host.dotGeneral (φ₁ := .f32) (φ₂ := .f32) dot_S8704x2048_S2048x832_S8704x832_1_0_0_1_n_n none x w) g C Sn (ix2 R k) = rowAt x w g C Sn R k := by
  have hk := k.isLt
  rw [refRow_apply]
  unfold rowAt
  by_cases h : k.val < 256
  · rw [dif_pos h, dif_pos h]
    exact (refKv_apply _ g R ⟨k.val, h⟩).trans (Cert.MlaInIdeal.Val.normed_congr _ _ (fun j => product_eq x w R ⟨512 + j.val, by omega⟩ (by dsimp only <;> omega)) (fun _ => rfl))
  · rw [dif_neg h, dif_neg h, key_apply]
    refine Eq.trans (congrArg (fun X => spin X C Sn R _) (funext fun l => ?_)) (turn_spin (fun l => product x w R ⟨768 + l.val, by omega⟩) C Sn R ⟨k.val - 256, by omega⟩).symm
    exact product_eq x w R ⟨768 + l.val, by omega⟩ (by dsimp only <;> omega)

/-- From equal arguments the reference leaves the kernel's results, and its arguments as they were. -/
theorem run_eq (m : (ℓ : Loc Cert.MlaInIdeal.nD Cert.MlaInIdeal.τ Cert.MlaInIdeal.sig) → Buf (Elt Ideal) ℓ)
    (m' : (ℓ : Loc nD τ sig) → Buf (Elt Ideal) ℓ) (g' : Dev nD → PrngReg)
    (h0 : ∀ c : Dev Cert.MlaInReferenceIdeal.nD, m' ((c.tc : Thread nD τ).loc main_arg0) = Cert.MlaInIdeal.Val.xA m c)
    (h1 : ∀ c : Dev Cert.MlaInReferenceIdeal.nD, m' ((c.tc : Thread nD τ).loc main_arg1) = Cert.MlaInIdeal.Val.pA m c)
    (h2 : ∀ c : Dev Cert.MlaInReferenceIdeal.nD, m' ((c.tc : Thread nD τ).loc main_arg2) = Cert.MlaInIdeal.Val.wA m c)
    (h3 : ∀ c : Dev Cert.MlaInReferenceIdeal.nD, m' ((c.tc : Thread nD τ).loc main_arg3) = Cert.MlaInIdeal.Val.gA m c)
    (h4 : ∀ c : Dev Cert.MlaInReferenceIdeal.nD, m' ((c.tc : Thread nD τ).loc main_arg4) = Cert.MlaInIdeal.Val.kA m c) :
    θ_run defs (onTc (τ := τ) (main (F := Ideal))) ⟨m', fun _ => 0, g'⟩ fun r => ∀ c : Dev nD,
      r.2.mem ((c.tc : Thread nD τ).loc main_v60) = (Cert.MlaInIdeal.Gen.dats m 0 c).arrAt 7 Cert.MlaInIdeal.cfg0.N
      ∧ r.2.mem ((c.tc : Thread nD τ).loc main_v61) = (Cert.MlaInIdeal.Gen.dats m 0 c).arrAt 8 Cert.MlaInIdeal.cfg0.N
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run defs _ _).mono (fun r hr c => ⟨(hr c).1.trans ?_, (hr c).2.1.trans ?_, (hr c).2.2⟩) (Cert.MlaInReferenceIdeal.Value.run m' g')
  · rw [h0 c, h2 c, h3 c]
    funext i
    obtain ⟨R, k, rfl⟩ : ∃ (R : Fin 8704) (k : Fin 512), i = ix2 R k := ⟨i 0, i 1, by funext a; fin_cases a <;> rfl⟩
    exact (meet_q _ _ _ R k).trans (Cert.MlaInIdeal.Val.result_q m c R k).symm
  · refine (ref_row m' c _ _ _ _ (h0 c) (h1 c) (h2 c) (h4 c)).trans ?_
    funext i
    obtain ⟨R, k, rfl⟩ : ∃ (R : Fin 8704) (k : Fin 320), i = ix2 R k := ⟨i 0, i 1, by funext a; fin_cases a <;> rfl⟩
    exact (meet_row _ _ _ _ _ R k).trans (Cert.MlaInIdeal.Val.result_row m c R k).symm

end Cert.MlaInMeet

end
-- ==== Proof.lean ====
module

public import proofs.«01_k».proof.Proof.Gen.Mlp
public import proofs.«01_k».proof.Proof.Gen.Mlp.Frame
public import proofs.«01_k».proof.Proof.Gen.MlpIdeal
public import proofs.«01_k».proof.Proof.Gen.MlpIdeal.Value
public import proofs.«01_k».proof.Proof.Gen.MlpReferenceIdeal.Run
public import proofs.«01_k».proof.Proof.Gen.GdnIn
public import proofs.«01_k».proof.Proof.Gen.GdnIn.Frame
public import proofs.«01_k».proof.Proof.Gen.GdnInIdeal
public import proofs.«01_k».proof.Proof.Gen.GdnInIdeal.Value
public import proofs.«01_k».proof.Proof.Gen.GdnInReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjReferenceIdeal.Run
public import proofs.«01_k».proof.Proof.Gen.GdnOut
public import proofs.«01_k».proof.Proof.Gen.GdnOut.Frame
public import proofs.«01_k».proof.Proof.Gen.GdnOutIdeal
public import proofs.«01_k».proof.Proof.Gen.GdnOutIdeal.Value
public import proofs.«01_k».proof.Proof.Gen.GdnOutReferenceIdeal.Run
public import proofs.«01_k».proof.Proof.Gen.Flash
public import proofs.«01_k».proof.Proof.Gen.Flash.Frame
public import proofs.«01_k».proof.Proof.Gen.FlashIdeal
public import proofs.«01_k».proof.Proof.Gen.FlashIdeal.Value
public import proofs.«01_k».proof.Proof.Gen.FlashReferenceIdeal.Run
public import proofs.«01_k».proof.Proof.Gen.DsaIn
public import proofs.«01_k».proof.Proof.Gen.DsaIn.Frame
public import proofs.«01_k».proof.Proof.Gen.DsaInIdeal
public import proofs.«01_k».proof.Proof.Gen.DsaInIdeal.Value
public import proofs.«01_k».proof.Proof.Gen.DsaInReferenceIdeal.Run
public import proofs.«01_k».proof.Proof.Gen.MlaIn
public import proofs.«01_k».proof.Proof.Gen.MlaIn.Frame
public import proofs.«01_k».proof.Proof.Gen.MlaInIdeal
public import proofs.«01_k».proof.Proof.Gen.MlaInIdeal.Value
public import proofs.«01_k».proof.Proof.Gen.MlaInReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Reference.Value
public import proofs.«01_k».proof.Proof.KFrame
public import proofs.«01_k».proof.Proof.Final
public import proofs.«01_k».proof.Proof.MlpMeet
public import proofs.«01_k».proof.Proof.GdnInMeet
public import proofs.«01_k».proof.Proof.ProjMeet
public import proofs.«01_k».proof.Proof.GdnOutMeet
public import proofs.«01_k».proof.Proof.FlashMeet
public import proofs.«01_k».proof.Proof.DsaInMeet
public import proofs.«01_k».proof.Proof.MlaInMeet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Reference.Gen.facts, Cert.Mlp.Gen.facts, Cert.MlpIdeal.Gen.facts,
  Cert.MlpReferenceIdeal.Gen.facts, Cert.GdnIn.Gen.facts, Cert.GdnInIdeal.Gen.facts, Cert.GdnInReferenceIdeal.Gen.facts,
  Cert.Proj.Gen.facts, Cert.ProjIdeal.Gen.facts, Cert.ProjReferenceIdeal.Gen.facts, Cert.GdnOut.Gen.facts,
  Cert.GdnOutIdeal.Gen.facts, Cert.GdnOutReferenceIdeal.Gen.facts, Cert.Flash.Gen.facts, Cert.FlashIdeal.Gen.facts,
  Cert.FlashReferenceIdeal.Gen.facts, Cert.DsaIn.Gen.facts, Cert.DsaInIdeal.Gen.facts, Cert.DsaInReferenceIdeal.Gen.facts,
  Cert.MlaIn.Gen.facts, Cert.MlaInIdeal.Gen.facts, Cert.MlaInReferenceIdeal.Gen.facts,
  fun m g _ => Cert.Kernel.Att.frame m g, fun m g _ => Cert.Reference.Gen.frame m g,
  fun m g _ => Cert.Mlp.Gen.frame m g, fun m g _ => Cert.MlpIdeal.Gen.frame m g,
  fun m g _ => (θ_run Cert.MlpReferenceIdeal.defs _ _).mono
    (fun r h => ⟨fun c => (h c).2, Idealize.ShloMosaic.sem_eq_zero_of_no_sems (by decide) r.2⟩)
    (Cert.MlpReferenceIdeal.Value.run (F := Ideal) m g),
  fun m g _ => Cert.GdnIn.Gen.frame m g, fun m g _ => Cert.GdnInIdeal.Gen.frame m g,
  fun m g _ => (θ_run Cert.GdnInReferenceIdeal.defs _ _).mono
    (fun r h => ⟨fun c => (h c).2, Idealize.ShloMosaic.sem_eq_zero_of_no_sems (by decide) r.2⟩)
    (Cert.GdnInReferenceIdeal.Value.run (F := Ideal) m g),
  fun m g _ => Cert.Proj.Gen.frame m g, fun m g _ => Cert.ProjIdeal.Gen.frame m g,
  fun m g _ => (θ_run Cert.ProjReferenceIdeal.defs _ _).mono
    (fun r h => ⟨fun c => (h c).2, Idealize.ShloMosaic.sem_eq_zero_of_no_sems (by decide) r.2⟩)
    (Cert.ProjReferenceIdeal.Value.run (F := Ideal) m g),
  fun m g _ => Cert.GdnOut.Gen.frame m g, fun m g _ => Cert.GdnOutIdeal.Gen.frame m g,
  fun m g _ => (θ_run Cert.GdnOutReferenceIdeal.defs _ _).mono
    (fun r h => ⟨fun c => (h c).2, Idealize.ShloMosaic.sem_eq_zero_of_no_sems (by decide) r.2⟩)
    (Cert.GdnOutReferenceIdeal.Value.run (F := Ideal) m g),
  fun m g _ => Cert.Flash.Gen.frame m g, fun m g _ => Cert.FlashIdeal.Gen.frame m g,
  fun m g _ => (θ_run Cert.FlashReferenceIdeal.defs _ _).mono
    (fun r h => ⟨fun c => (h c).2, Idealize.ShloMosaic.sem_eq_zero_of_no_sems (by decide) r.2⟩)
    (Cert.FlashReferenceIdeal.Value.run (F := Ideal) m g),
  fun m g _ => Cert.DsaIn.Gen.frame m g, fun m g _ => Cert.DsaInIdeal.Gen.frame m g,
  fun m g _ => (θ_run Cert.DsaInReferenceIdeal.defs _ _).mono
    (fun r h => ⟨fun c => (h c).2, Idealize.ShloMosaic.sem_eq_zero_of_no_sems (by decide) r.2⟩)
    (Cert.DsaInReferenceIdeal.Value.run (F := Ideal) m g),
  fun m g _ => Cert.MlaIn.Gen.frame m g, fun m g _ => Cert.MlaInIdeal.Gen.frame m g,
  fun m g _ => (θ_run Cert.MlaInReferenceIdeal.defs _ _).mono
    (fun r h => ⟨fun c => (h c).2.2, Idealize.ShloMosaic.sem_eq_zero_of_no_sems (by decide) r.2⟩)
    (Cert.MlaInReferenceIdeal.Value.run (F := Ideal) m g),
  fun m g m' g' _ h => ⟨Cert.Kernel.Att.result m, Cert.Kernel.Att.run_result m g,
    (θ_run Cert.Reference.defs _ _).mono (fun r hr c => ⟨(hr c).1.trans
      (Cert.Meet.result_eq m m' c (h c).1 (h c).2.1 (h c).2.2.1 (h c).2.2.2.1 (h c).2.2.2.2), (hr c).2⟩)
      (Cert.Reference.Att.run_result m' g')⟩,
  trivial,
  fun m g m' g' _ h => ⟨fun c => Cert.MlpIdeal.Value.G5 m c, Cert.MlpIdeal.Value.run m g,
    (θ_run Cert.MlpReferenceIdeal.defs _ _).mono (fun r hr c => ⟨(hr c).1.trans
      (Cert.MlpMeet.result_eq m m' c (h c).1 (h c).2.1 (h c).2.2.1 (h c).2.2.2.1 (h c).2.2.2.2), (hr c).2⟩)
      (Cert.MlpReferenceIdeal.Value.run m' g')⟩,
  trivial,
  fun m g m' g' _ h => ⟨fun c => Cert.GdnInIdeal.Value.G2 m c, Cert.GdnInIdeal.Value.run m g,
    Cert.GdnInMeet.run_eq m m' g' (fun c => (h c).1) (fun c => (h c).2)⟩,
  trivial,
  fun m g m' g' _ h => ⟨fun c => Cert.ProjIdeal.Value.G5 m c, Cert.ProjIdeal.Value.run m g,
    Cert.ProjMeet.run_eq m m' g' (fun c => (h c).1) (fun c => (h c).2.1) (fun c => (h c).2.2.1) (fun c => (h c).2.2.2.1) (fun c => (h c).2.2.2.2)⟩,
  trivial,
  fun m g m' g' _ h => ⟨fun c => Cert.GdnOutIdeal.Value.G5 m c, Cert.GdnOutIdeal.Value.run m g,
    Cert.GdnOutMeet.run_eq m m' g' (fun c => (h c).1) (fun c => (h c).2.1) (fun c => (h c).2.2.1) (fun c => (h c).2.2.2.1) (fun c => (h c).2.2.2.2)⟩,
  IdealRules.named_const.statement Cert.FlashIdeal.κ "mask" .f32 0xF149F2CA#32 ⊥ rfl,
  fun m g m' g' _ h => ⟨fun c => Cert.FlashIdeal.Value.G2 m c, Cert.FlashIdeal.Value.run m g,
    Cert.FlashMeet.run_eq m m' g' (fun c => (h c).1) (fun c => (h c).2)⟩,
  trivial,
  fun m g m' g' _ h => ⟨fun c => Cert.DsaInIdeal.Value.G5 m c, Cert.DsaInIdeal.Value.run m g,
    Cert.DsaInMeet.run_eq m m' g' (fun c => (h c).1) (fun c => (h c).2.1) (fun c => (h c).2.2)⟩,
  trivial,
  fun m g m' g' _ h => ⟨fun c => (Cert.MlaInIdeal.Gen.dats m 0 c).arrAt 7 Cert.MlaInIdeal.cfg0.N, fun c => (Cert.MlaInIdeal.Gen.dats m 0 c).arrAt 8 Cert.MlaInIdeal.cfg0.N,
    Cert.MlaInIdeal.Value.run_blocks m g,
    Cert.MlaInMeet.run_eq m m' g' (fun c => (h c).1) (fun c => (h c).2.1) (fun c => (h c).2.2.1) (fun c => (h c).2.2.2.1) (fun c => (h c).2.2.2.2)⟩⟩

end Cert.Proof

end
